-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_DRec (m : (ℓ : Loc Cert.DRec.nD Cert.DRec.τ Cert.DRec.sig) → Buf (Elt Bits) ℓ) : Prop :=
  True

def Pre_DRecIdeal (m : (ℓ : Loc Cert.DRecIdeal.nD Cert.DRecIdeal.τ Cert.DRecIdeal.sig) → Buf (Elt Ideal) ℓ) : Prop :=
  True

def Pre_DRecRefIdeal (m : (ℓ : Loc Cert.DRecRefIdeal.nD Cert.DRecRefIdeal.τ Cert.DRecRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_GPa (m : (ℓ : Loc Cert.GPa.nD Cert.GPa.τ Cert.GPa.sig) → Buf (Elt Bits) ℓ) : Prop :=
  True

def Pre_GPaIdeal (m : (ℓ : Loc Cert.GPaIdeal.nD Cert.GPaIdeal.τ Cert.GPaIdeal.sig) → Buf (Elt Ideal) ℓ) : Prop :=
  True

def Pre_GPaRefIdeal (m : (ℓ : Loc Cert.GPaRefIdeal.nD Cert.GPaRefIdeal.τ Cert.GPaRefIdeal.sig) → Buf (Elt Ideal) ℓ) : Prop :=
  True

def Pre_GPb (m : (ℓ : Loc Cert.GPb.nD Cert.GPb.τ Cert.GPb.sig) → Buf (Elt Bits) ℓ) : Prop :=
  True

def Pre_GPbIdeal (m : (ℓ : Loc Cert.GPbIdeal.nD Cert.GPbIdeal.τ Cert.GPbIdeal.sig) → Buf (Elt Ideal) ℓ) : Prop :=
  True

def Pre_GPbRefIdeal (m : (ℓ : Loc Cert.GPbRefIdeal.nD Cert.GPbRefIdeal.τ Cert.GPbRefIdeal.sig) → Buf (Elt Ideal) ℓ) : Prop :=
  True

def Pre_GOut (m : (ℓ : Loc Cert.GOut.nD Cert.GOut.τ Cert.GOut.sig) → Buf (Elt Bits) ℓ) : Prop :=
  True

def Pre_GOutIdeal (m : (ℓ : Loc Cert.GOutIdeal.nD Cert.GOutIdeal.τ Cert.GOutIdeal.sig) → Buf (Elt Ideal) ℓ) : Prop :=
  True

def Pre_GOutRefIdeal (m : (ℓ : Loc Cert.GOutRefIdeal.nD Cert.GOutRefIdeal.τ Cert.GOutRefIdeal.sig) → Buf (Elt Ideal) ℓ) : Prop :=
  True

def Pre_GDown (m : (ℓ : Loc Cert.GDown.nD Cert.GDown.τ Cert.GDown.sig) → Buf (Elt Bits) ℓ) : Prop :=
  True

def Pre_GDownIdeal (m : (ℓ : Loc Cert.GDownIdeal.nD Cert.GDownIdeal.τ Cert.GDownIdeal.sig) → Buf (Elt Ideal) ℓ) : Prop :=
  True

def Pre_GDownRefIdeal (m : (ℓ : Loc Cert.GDownRefIdeal.nD Cert.GDownRefIdeal.τ Cert.GDownRefIdeal.sig) → Buf (Elt Ideal) ℓ) : Prop :=
  True

def Pre_GGu (m : (ℓ : Loc Cert.GGu.nD Cert.GGu.τ Cert.GGu.sig) → Buf (Elt Bits) ℓ) : Prop :=
  True

def Pre_GGuIdeal (m : (ℓ : Loc Cert.GGuIdeal.nD Cert.GGuIdeal.τ Cert.GGuIdeal.sig) → Buf (Elt Ideal) ℓ) : Prop :=
  True

def Pre_GGuRefIdeal (m : (ℓ : Loc Cert.GGuRefIdeal.nD Cert.GGuRefIdeal.τ Cert.GGuRefIdeal.sig) → Buf (Elt Ideal) ℓ) : Prop :=
  True

def Pre_GInTop (m : (ℓ : Loc Cert.GInTop.nD Cert.GInTop.τ Cert.GInTop.sig) → Buf (Elt Bits) ℓ) : Prop :=
  True

def Pre_GInTopIdeal (m : (ℓ : Loc Cert.GInTopIdeal.nD Cert.GInTopIdeal.τ Cert.GInTopIdeal.sig) → Buf (Elt Ideal) ℓ) : Prop :=
  True

def Pre_GInTopRefIdeal (m : (ℓ : Loc Cert.GInTopRefIdeal.nD Cert.GInTopRefIdeal.τ Cert.GInTopRefIdeal.sig) → Buf (Elt Ideal) ℓ) : Prop :=
  True

def Pre_GInBot (m : (ℓ : Loc Cert.GInBot.nD Cert.GInBot.τ Cert.GInBot.sig) → Buf (Elt Bits) ℓ) : Prop :=
  True

def Pre_GInBotIdeal (m : (ℓ : Loc Cert.GInBotIdeal.nD Cert.GInBotIdeal.τ Cert.GInBotIdeal.sig) → Buf (Elt Ideal) ℓ) : Prop :=
  True

def Pre_GInBotRefIdeal (m : (ℓ : Loc Cert.GInBotRefIdeal.nD Cert.GInBotRefIdeal.τ Cert.GInBotRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_FfnGu (m : (ℓ : Loc Cert.FfnGu.nD Cert.FfnGu.τ Cert.FfnGu.sig) → Buf (Elt Bits) ℓ) : Prop :=
  True

def Pre_FfnGuIdeal (m : (ℓ : Loc Cert.FfnGuIdeal.nD Cert.FfnGuIdeal.τ Cert.FfnGuIdeal.sig) → Buf (Elt Ideal) ℓ) : Prop :=
  True

def Pre_FfnGuRefIdeal (m : (ℓ : Loc Cert.FfnGuRefIdeal.nD Cert.FfnGuRefIdeal.τ Cert.FfnGuRefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_ProjX (m : (ℓ : Loc Cert.ProjX.nD Cert.ProjX.τ Cert.ProjX.sig) → Buf (Elt Bits) ℓ) : Prop :=
  True

def Pre_ProjXIdeal (m : (ℓ : Loc Cert.ProjXIdeal.nD Cert.ProjXIdeal.τ Cert.ProjXIdeal.sig) → Buf (Elt Ideal) ℓ) : Prop :=
  True

def Pre_ProjXRefIdeal (m : (ℓ : Loc Cert.ProjXRefIdeal.nD Cert.ProjXRefIdeal.τ Cert.ProjXRefIdeal.sig) → Buf (Elt Ideal) ℓ) : Prop :=
  True

def Pre_ProjZ (m : (ℓ : Loc Cert.ProjZ.nD Cert.ProjZ.τ Cert.ProjZ.sig) → Buf (Elt Bits) ℓ) : Prop :=
  True

def Pre_ProjZIdeal (m : (ℓ : Loc Cert.ProjZIdeal.nD Cert.ProjZIdeal.τ Cert.ProjZIdeal.sig) → Buf (Elt Ideal) ℓ) : Prop :=
  True

def Pre_ProjZRefIdeal (m : (ℓ : Loc Cert.ProjZRefIdeal.nD Cert.ProjZRefIdeal.τ Cert.ProjZRefIdeal.sig) → Buf (Elt Ideal) ℓ) : Prop :=
  True

def Pre_ProjG (m : (ℓ : Loc Cert.ProjG.nD Cert.ProjG.τ Cert.ProjG.sig) → Buf (Elt Bits) ℓ) : Prop :=
  True

def Pre_ProjGIdeal (m : (ℓ : Loc Cert.ProjGIdeal.nD Cert.ProjGIdeal.τ Cert.ProjGIdeal.sig) → Buf (Elt Ideal) ℓ) : Prop :=
  True

def Pre_ProjGRefIdeal (m : (ℓ : Loc Cert.ProjGRefIdeal.nD Cert.ProjGRefIdeal.τ Cert.ProjGRefIdeal.sig) → Buf (Elt Ideal) ℓ) : Prop :=
  True

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_DH1RefIdeal (m : (ℓ : Loc Cert.DH1RefIdeal.nD Cert.DH1RefIdeal.τ Cert.DH1RefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamPa (m : (ℓ : Loc Cert.AdamPa.nD Cert.AdamPa.τ Cert.AdamPa.sig) → Buf (Elt Bits) ℓ) : Prop :=
  True

def Pre_AdamPaIdeal (m : (ℓ : Loc Cert.AdamPaIdeal.nD Cert.AdamPaIdeal.τ Cert.AdamPaIdeal.sig) → Buf (Elt Ideal) ℓ) : Prop :=
  True

def Pre_AdamPaRefIdeal (m : (ℓ : Loc Cert.AdamPaRefIdeal.nD Cert.AdamPaRefIdeal.τ Cert.AdamPaRefIdeal.sig) → Buf (Elt Ideal) ℓ) : Prop :=
  True

def Pre_AdamPb (m : (ℓ : Loc Cert.AdamPb.nD Cert.AdamPb.τ Cert.AdamPb.sig) → Buf (Elt Bits) ℓ) : Prop :=
  True

def Pre_AdamPbIdeal (m : (ℓ : Loc Cert.AdamPbIdeal.nD Cert.AdamPbIdeal.τ Cert.AdamPbIdeal.sig) → Buf (Elt Ideal) ℓ) : Prop :=
  True

def Pre_AdamPbRefIdeal (m : (ℓ : Loc Cert.AdamPbRefIdeal.nD Cert.AdamPbRefIdeal.τ Cert.AdamPbRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGu (m : (ℓ : Loc Cert.AdamGu.nD Cert.AdamGu.τ Cert.AdamGu.sig) → Buf (Elt Bits) ℓ) : Prop :=
  True

def Pre_AdamGuIdeal (m : (ℓ : Loc Cert.AdamGuIdeal.nD Cert.AdamGuIdeal.τ Cert.AdamGuIdeal.sig) → Buf (Elt Ideal) ℓ) : Prop :=
  True

def Pre_AdamGuRefIdeal (m : (ℓ : Loc Cert.AdamGuRefIdeal.nD Cert.AdamGuRefIdeal.τ Cert.AdamGuRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumAda (m : (ℓ : Loc Cert.SumAda.nD Cert.SumAda.τ Cert.SumAda.sig) → Buf (Elt Bits) ℓ) : Prop :=
  True

def Pre_SumAdaIdeal (m : (ℓ : Loc Cert.SumAdaIdeal.nD Cert.SumAdaIdeal.τ Cert.SumAdaIdeal.sig) → Buf (Elt Ideal) ℓ) : Prop :=
  True

def Pre_SumAdaRefIdeal (m : (ℓ : Loc Cert.SumAdaRefIdeal.nD Cert.SumAdaRefIdeal.τ Cert.SumAdaRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumPa (m : (ℓ : Loc Cert.SumPa.nD Cert.SumPa.τ Cert.SumPa.sig) → Buf (Elt Bits) ℓ) : Prop :=
  True

def Pre_SumPaIdeal (m : (ℓ : Loc Cert.SumPaIdeal.nD Cert.SumPaIdeal.τ Cert.SumPaIdeal.sig) → Buf (Elt Ideal) ℓ) : Prop :=
  True

def Pre_SumPaRefIdeal (m : (ℓ : Loc Cert.SumPaRefIdeal.nD Cert.SumPaRefIdeal.τ Cert.SumPaRefIdeal.sig) → Buf (Elt Ideal) ℓ) : Prop :=
  True

def Pre_SumPb (m : (ℓ : Loc Cert.SumPb.nD Cert.SumPb.τ Cert.SumPb.sig) → Buf (Elt Bits) ℓ) : Prop :=
  True

def Pre_SumPbIdeal (m : (ℓ : Loc Cert.SumPbIdeal.nD Cert.SumPbIdeal.τ Cert.SumPbIdeal.sig) → Buf (Elt Ideal) ℓ) : Prop :=
  True

def Pre_SumPbRefIdeal (m : (ℓ : Loc Cert.SumPbRefIdeal.nD Cert.SumPbRefIdeal.τ Cert.SumPbRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumGu (m : (ℓ : Loc Cert.SumGu.nD Cert.SumGu.τ Cert.SumGu.sig) → Buf (Elt Bits) ℓ) : Prop :=
  True

def Pre_SumGuIdeal (m : (ℓ : Loc Cert.SumGuIdeal.nD Cert.SumGuIdeal.τ Cert.SumGuIdeal.sig) → Buf (Elt Ideal) ℓ) : Prop :=
  True

def Pre_SumGuRefIdeal (m : (ℓ : Loc Cert.SumGuRefIdeal.nD Cert.SumGuRefIdeal.τ Cert.SumGuRefIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_SumDownRefIdeal (m : (ℓ : Loc Cert.SumDownRefIdeal.nD Cert.SumDownRefIdeal.τ Cert.SumDownRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_DRec [hDRec : Cert.DRec.Facts] : Prop :=
  ∀ (m : (ℓ : Loc Cert.DRec.nD Cert.DRec.τ Cert.DRec.sig) → Buf (Elt Bits) ℓ) (g : Dev Cert.DRec.nD → PrngReg), Pre_DRec m →
    θ_run (Cert.DRec.defs (F := Bits)) (onTc (τ := Cert.DRec.τ) (Cert.DRec.main (F := Bits))) ⟨m, fun _ => 0, g⟩ (fun r => (∀ c : Dev Cert.DRec.nD,
      r.2.mem ((c.tc : Thread Cert.DRec.nD Cert.DRec.τ).loc Cert.DRec.main_arg0) = m ((c.tc : Thread Cert.DRec.nD Cert.DRec.τ).loc Cert.DRec.main_arg0)
      ∧ r.2.mem ((c.tc : Thread Cert.DRec.nD Cert.DRec.τ).loc Cert.DRec.main_arg1) = m ((c.tc : Thread Cert.DRec.nD Cert.DRec.τ).loc Cert.DRec.main_arg1))
      ∧ r.2.sem = fun _ => 0)

def quiescent_DRecIdeal [hDRecIdeal : Cert.DRecIdeal.Facts] : Prop :=
  ∀ (m : (ℓ : Loc Cert.DRecIdeal.nD Cert.DRecIdeal.τ Cert.DRecIdeal.sig) → Buf (Elt Ideal) ℓ) (g : Dev Cert.DRecIdeal.nD → PrngReg), Pre_DRecIdeal m →
    θ_run (Cert.DRecIdeal.defs (F := Ideal)) (onTc (τ := Cert.DRecIdeal.τ) (Cert.DRecIdeal.main (F := Ideal))) ⟨m, fun _ => 0, g⟩ (fun r => (∀ c : Dev Cert.DRecIdeal.nD,
      r.2.mem ((c.tc : Thread Cert.DRecIdeal.nD Cert.DRecIdeal.τ).loc Cert.DRecIdeal.main_arg0) = m ((c.tc : Thread Cert.DRecIdeal.nD Cert.DRecIdeal.τ).loc Cert.DRecIdeal.main_arg0)
      ∧ r.2.mem ((c.tc : Thread Cert.DRecIdeal.nD Cert.DRecIdeal.τ).loc Cert.DRecIdeal.main_arg1) = m ((c.tc : Thread Cert.DRecIdeal.nD Cert.DRecIdeal.τ).loc Cert.DRecIdeal.main_arg1))
      ∧ r.2.sem = fun _ => 0)

def quiescent_DRecRefIdeal [hDRecRefIdeal : Cert.DRecRefIdeal.Facts] : Prop :=
  ∀ (m : (ℓ : Loc Cert.DRecRefIdeal.nD Cert.DRecRefIdeal.τ Cert.DRecRefIdeal.sig) → Buf (Elt Ideal) ℓ) (g : Dev Cert.DRecRefIdeal.nD → PrngReg), Pre_DRecRefIdeal m →
    θ_run (Cert.DRecRefIdeal.defs (F := Ideal)) (onTc (τ := Cert.DRecRefIdeal.τ) (Cert.DRecRefIdeal.main (F := Ideal))) ⟨m, fun _ => 0, g⟩ (fun r => (∀ c : Dev Cert.DRecRefIdeal.nD,
      r.2.mem ((c.tc : Thread Cert.DRecRefIdeal.nD Cert.DRecRefIdeal.τ).loc Cert.DRecRefIdeal.main_arg0) = m ((c.tc : Thread Cert.DRecRefIdeal.nD Cert.DRecRefIdeal.τ).loc Cert.DRecRefIdeal.main_arg0)
      ∧ r.2.mem ((c.tc : Thread Cert.DRecRefIdeal.nD Cert.DRecRefIdeal.τ).loc Cert.DRecRefIdeal.main_arg1) = m ((c.tc : Thread Cert.DRecRefIdeal.nD Cert.DRecRefIdeal.τ).loc Cert.DRecRefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_GPa [hGPa : Cert.GPa.Facts] : Prop :=
  ∀ (m : (ℓ : Loc Cert.GPa.nD Cert.GPa.τ Cert.GPa.sig) → Buf (Elt Bits) ℓ) (g : Dev Cert.GPa.nD → PrngReg), Pre_GPa m →
    θ_run (Cert.GPa.defs (F := Bits)) (onTc (τ := Cert.GPa.τ) (Cert.GPa.main (F := Bits))) ⟨m, fun _ => 0, g⟩ (fun r => (∀ c : Dev Cert.GPa.nD,
      r.2.mem ((c.tc : Thread Cert.GPa.nD Cert.GPa.τ).loc Cert.GPa.main_arg0) = m ((c.tc : Thread Cert.GPa.nD Cert.GPa.τ).loc Cert.GPa.main_arg0)
      ∧ r.2.mem ((c.tc : Thread Cert.GPa.nD Cert.GPa.τ).loc Cert.GPa.main_arg1) = m ((c.tc : Thread Cert.GPa.nD Cert.GPa.τ).loc Cert.GPa.main_arg1))
      ∧ r.2.sem = fun _ => 0)

def quiescent_GPaIdeal [hGPaIdeal : Cert.GPaIdeal.Facts] : Prop :=
  ∀ (m : (ℓ : Loc Cert.GPaIdeal.nD Cert.GPaIdeal.τ Cert.GPaIdeal.sig) → Buf (Elt Ideal) ℓ) (g : Dev Cert.GPaIdeal.nD → PrngReg), Pre_GPaIdeal m →
    θ_run (Cert.GPaIdeal.defs (F := Ideal)) (onTc (τ := Cert.GPaIdeal.τ) (Cert.GPaIdeal.main (F := Ideal))) ⟨m, fun _ => 0, g⟩ (fun r => (∀ c : Dev Cert.GPaIdeal.nD,
      r.2.mem ((c.tc : Thread Cert.GPaIdeal.nD Cert.GPaIdeal.τ).loc Cert.GPaIdeal.main_arg0) = m ((c.tc : Thread Cert.GPaIdeal.nD Cert.GPaIdeal.τ).loc Cert.GPaIdeal.main_arg0)
      ∧ r.2.mem ((c.tc : Thread Cert.GPaIdeal.nD Cert.GPaIdeal.τ).loc Cert.GPaIdeal.main_arg1) = m ((c.tc : Thread Cert.GPaIdeal.nD Cert.GPaIdeal.τ).loc Cert.GPaIdeal.main_arg1))
      ∧ r.2.sem = fun _ => 0)

def quiescent_GPaRefIdeal [hGPaRefIdeal : Cert.GPaRefIdeal.Facts] : Prop :=
  ∀ (m : (ℓ : Loc Cert.GPaRefIdeal.nD Cert.GPaRefIdeal.τ Cert.GPaRefIdeal.sig) → Buf (Elt Ideal) ℓ) (g : Dev Cert.GPaRefIdeal.nD → PrngReg), Pre_GPaRefIdeal m →
    θ_run (Cert.GPaRefIdeal.defs (F := Ideal)) (onTc (τ := Cert.GPaRefIdeal.τ) (Cert.GPaRefIdeal.main (F := Ideal))) ⟨m, fun _ => 0, g⟩ (fun r => (∀ c : Dev Cert.GPaRefIdeal.nD,
      r.2.mem ((c.tc : Thread Cert.GPaRefIdeal.nD Cert.GPaRefIdeal.τ).loc Cert.GPaRefIdeal.main_arg0) = m ((c.tc : Thread Cert.GPaRefIdeal.nD Cert.GPaRefIdeal.τ).loc Cert.GPaRefIdeal.main_arg0)
      ∧ r.2.mem ((c.tc : Thread Cert.GPaRefIdeal.nD Cert.GPaRefIdeal.τ).loc Cert.GPaRefIdeal.main_arg1) = m ((c.tc : Thread Cert.GPaRefIdeal.nD Cert.GPaRefIdeal.τ).loc Cert.GPaRefIdeal.main_arg1))
      ∧ r.2.sem = fun _ => 0)

def quiescent_GPb [hGPb : Cert.GPb.Facts] : Prop :=
  ∀ (m : (ℓ : Loc Cert.GPb.nD Cert.GPb.τ Cert.GPb.sig) → Buf (Elt Bits) ℓ) (g : Dev Cert.GPb.nD → PrngReg), Pre_GPb m →
    θ_run (Cert.GPb.defs (F := Bits)) (onTc (τ := Cert.GPb.τ) (Cert.GPb.main (F := Bits))) ⟨m, fun _ => 0, g⟩ (fun r => (∀ c : Dev Cert.GPb.nD,
      r.2.mem ((c.tc : Thread Cert.GPb.nD Cert.GPb.τ).loc Cert.GPb.main_arg0) = m ((c.tc : Thread Cert.GPb.nD Cert.GPb.τ).loc Cert.GPb.main_arg0)
      ∧ r.2.mem ((c.tc : Thread Cert.GPb.nD Cert.GPb.τ).loc Cert.GPb.main_arg1) = m ((c.tc : Thread Cert.GPb.nD Cert.GPb.τ).loc Cert.GPb.main_arg1))
      ∧ r.2.sem = fun _ => 0)

def quiescent_GPbIdeal [hGPbIdeal : Cert.GPbIdeal.Facts] : Prop :=
  ∀ (m : (ℓ : Loc Cert.GPbIdeal.nD Cert.GPbIdeal.τ Cert.GPbIdeal.sig) → Buf (Elt Ideal) ℓ) (g : Dev Cert.GPbIdeal.nD → PrngReg), Pre_GPbIdeal m →
    θ_run (Cert.GPbIdeal.defs (F := Ideal)) (onTc (τ := Cert.GPbIdeal.τ) (Cert.GPbIdeal.main (F := Ideal))) ⟨m, fun _ => 0, g⟩ (fun r => (∀ c : Dev Cert.GPbIdeal.nD,
      r.2.mem ((c.tc : Thread Cert.GPbIdeal.nD Cert.GPbIdeal.τ).loc Cert.GPbIdeal.main_arg0) = m ((c.tc : Thread Cert.GPbIdeal.nD Cert.GPbIdeal.τ).loc Cert.GPbIdeal.main_arg0)
      ∧ r.2.mem ((c.tc : Thread Cert.GPbIdeal.nD Cert.GPbIdeal.τ).loc Cert.GPbIdeal.main_arg1) = m ((c.tc : Thread Cert.GPbIdeal.nD Cert.GPbIdeal.τ).loc Cert.GPbIdeal.main_arg1))
      ∧ r.2.sem = fun _ => 0)

def quiescent_GPbRefIdeal [hGPbRefIdeal : Cert.GPbRefIdeal.Facts] : Prop :=
  ∀ (m : (ℓ : Loc Cert.GPbRefIdeal.nD Cert.GPbRefIdeal.τ Cert.GPbRefIdeal.sig) → Buf (Elt Ideal) ℓ) (g : Dev Cert.GPbRefIdeal.nD → PrngReg), Pre_GPbRefIdeal m →
    θ_run (Cert.GPbRefIdeal.defs (F := Ideal)) (onTc (τ := Cert.GPbRefIdeal.τ) (Cert.GPbRefIdeal.main (F := Ideal))) ⟨m, fun _ => 0, g⟩ (fun r => (∀ c : Dev Cert.GPbRefIdeal.nD,
      r.2.mem ((c.tc : Thread Cert.GPbRefIdeal.nD Cert.GPbRefIdeal.τ).loc Cert.GPbRefIdeal.main_arg0) = m ((c.tc : Thread Cert.GPbRefIdeal.nD Cert.GPbRefIdeal.τ).loc Cert.GPbRefIdeal.main_arg0)
      ∧ r.2.mem ((c.tc : Thread Cert.GPbRefIdeal.nD Cert.GPbRefIdeal.τ).loc Cert.GPbRefIdeal.main_arg1) = m ((c.tc : Thread Cert.GPbRefIdeal.nD Cert.GPbRefIdeal.τ).loc Cert.GPbRefIdeal.main_arg1))
      ∧ r.2.sem = fun _ => 0)

def quiescent_GOut [hGOut : Cert.GOut.Facts] : Prop :=
  ∀ (m : (ℓ : Loc Cert.GOut.nD Cert.GOut.τ Cert.GOut.sig) → Buf (Elt Bits) ℓ) (g : Dev Cert.GOut.nD → PrngReg), Pre_GOut m →
    θ_run (Cert.GOut.defs (F := Bits)) (onTc (τ := Cert.GOut.τ) (Cert.GOut.main (F := Bits))) ⟨m, fun _ => 0, g⟩ (fun r => (∀ c : Dev Cert.GOut.nD,
      r.2.mem ((c.tc : Thread Cert.GOut.nD Cert.GOut.τ).loc Cert.GOut.main_arg0) = m ((c.tc : Thread Cert.GOut.nD Cert.GOut.τ).loc Cert.GOut.main_arg0)
      ∧ r.2.mem ((c.tc : Thread Cert.GOut.nD Cert.GOut.τ).loc Cert.GOut.main_arg1) = m ((c.tc : Thread Cert.GOut.nD Cert.GOut.τ).loc Cert.GOut.main_arg1))
      ∧ r.2.sem = fun _ => 0)

def quiescent_GOutIdeal [hGOutIdeal : Cert.GOutIdeal.Facts] : Prop :=
  ∀ (m : (ℓ : Loc Cert.GOutIdeal.nD Cert.GOutIdeal.τ Cert.GOutIdeal.sig) → Buf (Elt Ideal) ℓ) (g : Dev Cert.GOutIdeal.nD → PrngReg), Pre_GOutIdeal m →
    θ_run (Cert.GOutIdeal.defs (F := Ideal)) (onTc (τ := Cert.GOutIdeal.τ) (Cert.GOutIdeal.main (F := Ideal))) ⟨m, fun _ => 0, g⟩ (fun r => (∀ c : Dev Cert.GOutIdeal.nD,
      r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
      ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1))
      ∧ r.2.sem = fun _ => 0)

def quiescent_GOutRefIdeal [hGOutRefIdeal : Cert.GOutRefIdeal.Facts] : Prop :=
  ∀ (m : (ℓ : Loc Cert.GOutRefIdeal.nD Cert.GOutRefIdeal.τ Cert.GOutRefIdeal.sig) → Buf (Elt Ideal) ℓ) (g : Dev Cert.GOutRefIdeal.nD → PrngReg), Pre_GOutRefIdeal m →
    θ_run (Cert.GOutRefIdeal.defs (F := Ideal)) (onTc (τ := Cert.GOutRefIdeal.τ) (Cert.GOutRefIdeal.main (F := Ideal))) ⟨m, fun _ => 0, g⟩ (fun r => (∀ c : Dev Cert.GOutRefIdeal.nD,
      r.2.mem ((c.tc : Thread Cert.GOutRefIdeal.nD Cert.GOutRefIdeal.τ).loc Cert.GOutRefIdeal.main_arg0) = m ((c.tc : Thread Cert.GOutRefIdeal.nD Cert.GOutRefIdeal.τ).loc Cert.GOutRefIdeal.main_arg0)
      ∧ r.2.mem ((c.tc : Thread Cert.GOutRefIdeal.nD Cert.GOutRefIdeal.τ).loc Cert.GOutRefIdeal.main_arg1) = m ((c.tc : Thread Cert.GOutRefIdeal.nD Cert.GOutRefIdeal.τ).loc Cert.GOutRefIdeal.main_arg1))
      ∧ r.2.sem = fun _ => 0)

def quiescent_GDown [hGDown : Cert.GDown.Facts] : Prop :=
  ∀ (m : (ℓ : Loc Cert.GDown.nD Cert.GDown.τ Cert.GDown.sig) → Buf (Elt Bits) ℓ) (g : Dev Cert.GDown.nD → PrngReg), Pre_GDown m →
    θ_run (Cert.GDown.defs (F := Bits)) (onTc (τ := Cert.GDown.τ) (Cert.GDown.main (F := Bits))) ⟨m, fun _ => 0, g⟩ (fun r => (∀ c : Dev Cert.GDown.nD,
      r.2.mem ((c.tc : Thread Cert.GDown.nD Cert.GDown.τ).loc Cert.GDown.main_arg0) = m ((c.tc : Thread Cert.GDown.nD Cert.GDown.τ).loc Cert.GDown.main_arg0)
      ∧ r.2.mem ((c.tc : Thread Cert.GDown.nD Cert.GDown.τ).loc Cert.GDown.main_arg1) = m ((c.tc : Thread Cert.GDown.nD Cert.GDown.τ).loc Cert.GDown.main_arg1))
      ∧ r.2.sem = fun _ => 0)

def quiescent_GDownIdeal [hGDownIdeal : Cert.GDownIdeal.Facts] : Prop :=
  ∀ (m : (ℓ : Loc Cert.GDownIdeal.nD Cert.GDownIdeal.τ Cert.GDownIdeal.sig) → Buf (Elt Ideal) ℓ) (g : Dev Cert.GDownIdeal.nD → PrngReg), Pre_GDownIdeal m →
    θ_run (Cert.GDownIdeal.defs (F := Ideal)) (onTc (τ := Cert.GDownIdeal.τ) (Cert.GDownIdeal.main (F := Ideal))) ⟨m, fun _ => 0, g⟩ (fun r => (∀ c : Dev Cert.GDownIdeal.nD,
      r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
      ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1))
      ∧ r.2.sem = fun _ => 0)

def quiescent_GDownRefIdeal [hGDownRefIdeal : Cert.GDownRefIdeal.Facts] : Prop :=
  ∀ (m : (ℓ : Loc Cert.GDownRefIdeal.nD Cert.GDownRefIdeal.τ Cert.GDownRefIdeal.sig) → Buf (Elt Ideal) ℓ) (g : Dev Cert.GDownRefIdeal.nD → PrngReg), Pre_GDownRefIdeal m →
    θ_run (Cert.GDownRefIdeal.defs (F := Ideal)) (onTc (τ := Cert.GDownRefIdeal.τ) (Cert.GDownRefIdeal.main (F := Ideal))) ⟨m, fun _ => 0, g⟩ (fun r => (∀ c : Dev Cert.GDownRefIdeal.nD,
      r.2.mem ((c.tc : Thread Cert.GDownRefIdeal.nD Cert.GDownRefIdeal.τ).loc Cert.GDownRefIdeal.main_arg0) = m ((c.tc : Thread Cert.GDownRefIdeal.nD Cert.GDownRefIdeal.τ).loc Cert.GDownRefIdeal.main_arg0)
      ∧ r.2.mem ((c.tc : Thread Cert.GDownRefIdeal.nD Cert.GDownRefIdeal.τ).loc Cert.GDownRefIdeal.main_arg1) = m ((c.tc : Thread Cert.GDownRefIdeal.nD Cert.GDownRefIdeal.τ).loc Cert.GDownRefIdeal.main_arg1))
      ∧ r.2.sem = fun _ => 0)

def quiescent_GGu [hGGu : Cert.GGu.Facts] : Prop :=
  ∀ (m : (ℓ : Loc Cert.GGu.nD Cert.GGu.τ Cert.GGu.sig) → Buf (Elt Bits) ℓ) (g : Dev Cert.GGu.nD → PrngReg), Pre_GGu m →
    θ_run (Cert.GGu.defs (F := Bits)) (onTc (τ := Cert.GGu.τ) (Cert.GGu.main (F := Bits))) ⟨m, fun _ => 0, g⟩ (fun r => (∀ c : Dev Cert.GGu.nD,
      r.2.mem ((c.tc : Thread Cert.GGu.nD Cert.GGu.τ).loc Cert.GGu.main_arg0) = m ((c.tc : Thread Cert.GGu.nD Cert.GGu.τ).loc Cert.GGu.main_arg0)
      ∧ r.2.mem ((c.tc : Thread Cert.GGu.nD Cert.GGu.τ).loc Cert.GGu.main_arg1) = m ((c.tc : Thread Cert.GGu.nD Cert.GGu.τ).loc Cert.GGu.main_arg1))
      ∧ r.2.sem = fun _ => 0)

def quiescent_GGuIdeal [hGGuIdeal : Cert.GGuIdeal.Facts] : Prop :=
  ∀ (m : (ℓ : Loc Cert.GGuIdeal.nD Cert.GGuIdeal.τ Cert.GGuIdeal.sig) → Buf (Elt Ideal) ℓ) (g : Dev Cert.GGuIdeal.nD → PrngReg), Pre_GGuIdeal m →
    θ_run (Cert.GGuIdeal.defs (F := Ideal)) (onTc (τ := Cert.GGuIdeal.τ) (Cert.GGuIdeal.main (F := Ideal))) ⟨m, fun _ => 0, g⟩ (fun r => (∀ c : Dev Cert.GGuIdeal.nD,
      r.2.mem ((c.tc : Thread Cert.GGuIdeal.nD Cert.GGuIdeal.τ).loc Cert.GGuIdeal.main_arg0) = m ((c.tc : Thread Cert.GGuIdeal.nD Cert.GGuIdeal.τ).loc Cert.GGuIdeal.main_arg0)
      ∧ r.2.mem ((c.tc : Thread Cert.GGuIdeal.nD Cert.GGuIdeal.τ).loc Cert.GGuIdeal.main_arg1) = m ((c.tc : Thread Cert.GGuIdeal.nD Cert.GGuIdeal.τ).loc Cert.GGuIdeal.main_arg1))
      ∧ r.2.sem = fun _ => 0)

def quiescent_GGuRefIdeal [hGGuRefIdeal : Cert.GGuRefIdeal.Facts] : Prop :=
  ∀ (m : (ℓ : Loc Cert.GGuRefIdeal.nD Cert.GGuRefIdeal.τ Cert.GGuRefIdeal.sig) → Buf (Elt Ideal) ℓ) (g : Dev Cert.GGuRefIdeal.nD → PrngReg), Pre_GGuRefIdeal m →
    θ_run (Cert.GGuRefIdeal.defs (F := Ideal)) (onTc (τ := Cert.GGuRefIdeal.τ) (Cert.GGuRefIdeal.main (F := Ideal))) ⟨m, fun _ => 0, g⟩ (fun r => (∀ c : Dev Cert.GGuRefIdeal.nD,
      r.2.mem ((c.tc : Thread Cert.GGuRefIdeal.nD Cert.GGuRefIdeal.τ).loc Cert.GGuRefIdeal.main_arg0) = m ((c.tc : Thread Cert.GGuRefIdeal.nD Cert.GGuRefIdeal.τ).loc Cert.GGuRefIdeal.main_arg0)
      ∧ r.2.mem ((c.tc : Thread Cert.GGuRefIdeal.nD Cert.GGuRefIdeal.τ).loc Cert.GGuRefIdeal.main_arg1) = m ((c.tc : Thread Cert.GGuRefIdeal.nD Cert.GGuRefIdeal.τ).loc Cert.GGuRefIdeal.main_arg1))
      ∧ r.2.sem = fun _ => 0)

def quiescent_GInTop [hGInTop : Cert.GInTop.Facts] : Prop :=
  ∀ (m : (ℓ : Loc Cert.GInTop.nD Cert.GInTop.τ Cert.GInTop.sig) → Buf (Elt Bits) ℓ) (g : Dev Cert.GInTop.nD → PrngReg), Pre_GInTop m →
    θ_run (Cert.GInTop.defs (F := Bits)) (onTc (τ := Cert.GInTop.τ) (Cert.GInTop.main (F := Bits))) ⟨m, fun _ => 0, g⟩ (fun r => (∀ c : Dev Cert.GInTop.nD,
      r.2.mem ((c.tc : Thread Cert.GInTop.nD Cert.GInTop.τ).loc Cert.GInTop.main_arg0) = m ((c.tc : Thread Cert.GInTop.nD Cert.GInTop.τ).loc Cert.GInTop.main_arg0)
      ∧ r.2.mem ((c.tc : Thread Cert.GInTop.nD Cert.GInTop.τ).loc Cert.GInTop.main_arg1) = m ((c.tc : Thread Cert.GInTop.nD Cert.GInTop.τ).loc Cert.GInTop.main_arg1))
      ∧ r.2.sem = fun _ => 0)

def quiescent_GInTopIdeal [hGInTopIdeal : Cert.GInTopIdeal.Facts] : Prop :=
  ∀ (m : (ℓ : Loc Cert.GInTopIdeal.nD Cert.GInTopIdeal.τ Cert.GInTopIdeal.sig) → Buf (Elt Ideal) ℓ) (g : Dev Cert.GInTopIdeal.nD → PrngReg), Pre_GInTopIdeal m →
    θ_run (Cert.GInTopIdeal.defs (F := Ideal)) (onTc (τ := Cert.GInTopIdeal.τ) (Cert.GInTopIdeal.main (F := Ideal))) ⟨m, fun _ => 0, g⟩ (fun r => (∀ c : Dev Cert.GInTopIdeal.nD,
      r.2.mem ((c.tc : Thread Cert.GInTopIdeal.nD Cert.GInTopIdeal.τ).loc Cert.GInTopIdeal.main_arg0) = m ((c.tc : Thread Cert.GInTopIdeal.nD Cert.GInTopIdeal.τ).loc Cert.GInTopIdeal.main_arg0)
      ∧ r.2.mem ((c.tc : Thread Cert.GInTopIdeal.nD Cert.GInTopIdeal.τ).loc Cert.GInTopIdeal.main_arg1) = m ((c.tc : Thread Cert.GInTopIdeal.nD Cert.GInTopIdeal.τ).loc Cert.GInTopIdeal.main_arg1))
      ∧ r.2.sem = fun _ => 0)

def quiescent_GInTopRefIdeal [hGInTopRefIdeal : Cert.GInTopRefIdeal.Facts] : Prop :=
  ∀ (m : (ℓ : Loc Cert.GInTopRefIdeal.nD Cert.GInTopRefIdeal.τ Cert.GInTopRefIdeal.sig) → Buf (Elt Ideal) ℓ) (g : Dev Cert.GInTopRefIdeal.nD → PrngReg), Pre_GInTopRefIdeal m →
    θ_run (Cert.GInTopRefIdeal.defs (F := Ideal)) (onTc (τ := Cert.GInTopRefIdeal.τ) (Cert.GInTopRefIdeal.main (F := Ideal))) ⟨m, fun _ => 0, g⟩ (fun r => (∀ c : Dev Cert.GInTopRefIdeal.nD,
      r.2.mem ((c.tc : Thread Cert.GInTopRefIdeal.nD Cert.GInTopRefIdeal.τ).loc Cert.GInTopRefIdeal.main_arg0) = m ((c.tc : Thread Cert.GInTopRefIdeal.nD Cert.GInTopRefIdeal.τ).loc Cert.GInTopRefIdeal.main_arg0)
      ∧ r.2.mem ((c.tc : Thread Cert.GInTopRefIdeal.nD Cert.GInTopRefIdeal.τ).loc Cert.GInTopRefIdeal.main_arg1) = m ((c.tc : Thread Cert.GInTopRefIdeal.nD Cert.GInTopRefIdeal.τ).loc Cert.GInTopRefIdeal.main_arg1))
      ∧ r.2.sem = fun _ => 0)

def quiescent_GInBot [hGInBot : Cert.GInBot.Facts] : Prop :=
  ∀ (m : (ℓ : Loc Cert.GInBot.nD Cert.GInBot.τ Cert.GInBot.sig) → Buf (Elt Bits) ℓ) (g : Dev Cert.GInBot.nD → PrngReg), Pre_GInBot m →
    θ_run (Cert.GInBot.defs (F := Bits)) (onTc (τ := Cert.GInBot.τ) (Cert.GInBot.main (F := Bits))) ⟨m, fun _ => 0, g⟩ (fun r => (∀ c : Dev Cert.GInBot.nD,
      r.2.mem ((c.tc : Thread Cert.GInBot.nD Cert.GInBot.τ).loc Cert.GInBot.main_arg0) = m ((c.tc : Thread Cert.GInBot.nD Cert.GInBot.τ).loc Cert.GInBot.main_arg0)
      ∧ r.2.mem ((c.tc : Thread Cert.GInBot.nD Cert.GInBot.τ).loc Cert.GInBot.main_arg1) = m ((c.tc : Thread Cert.GInBot.nD Cert.GInBot.τ).loc Cert.GInBot.main_arg1))
      ∧ r.2.sem = fun _ => 0)

def quiescent_GInBotIdeal [hGInBotIdeal : Cert.GInBotIdeal.Facts] : Prop :=
  ∀ (m : (ℓ : Loc Cert.GInBotIdeal.nD Cert.GInBotIdeal.τ Cert.GInBotIdeal.sig) → Buf (Elt Ideal) ℓ) (g : Dev Cert.GInBotIdeal.nD → PrngReg), Pre_GInBotIdeal m →
    θ_run (Cert.GInBotIdeal.defs (F := Ideal)) (onTc (τ := Cert.GInBotIdeal.τ) (Cert.GInBotIdeal.main (F := Ideal))) ⟨m, fun _ => 0, g⟩ (fun r => (∀ c : Dev Cert.GInBotIdeal.nD,
      r.2.mem ((c.tc : Thread Cert.GInBotIdeal.nD Cert.GInBotIdeal.τ).loc Cert.GInBotIdeal.main_arg0) = m ((c.tc : Thread Cert.GInBotIdeal.nD Cert.GInBotIdeal.τ).loc Cert.GInBotIdeal.main_arg0)
      ∧ r.2.mem ((c.tc : Thread Cert.GInBotIdeal.nD Cert.GInBotIdeal.τ).loc Cert.GInBotIdeal.main_arg1) = m ((c.tc : Thread Cert.GInBotIdeal.nD Cert.GInBotIdeal.τ).loc Cert.GInBotIdeal.main_arg1))
      ∧ r.2.sem = fun _ => 0)

def quiescent_GInBotRefIdeal [hGInBotRefIdeal : Cert.GInBotRefIdeal.Facts] : Prop :=
  ∀ (m : (ℓ : Loc Cert.GInBotRefIdeal.nD Cert.GInBotRefIdeal.τ Cert.GInBotRefIdeal.sig) → Buf (Elt Ideal) ℓ) (g : Dev Cert.GInBotRefIdeal.nD → PrngReg), Pre_GInBotRefIdeal m →
    θ_run (Cert.GInBotRefIdeal.defs (F := Ideal)) (onTc (τ := Cert.GInBotRefIdeal.τ) (Cert.GInBotRefIdeal.main (F := Ideal))) ⟨m, fun _ => 0, g⟩ (fun r => (∀ c : Dev Cert.GInBotRefIdeal.nD,
      r.2.mem ((c.tc : Thread Cert.GInBotRefIdeal.nD Cert.GInBotRefIdeal.τ).loc Cert.GInBotRefIdeal.main_arg0) = m ((c.tc : Thread Cert.GInBotRefIdeal.nD Cert.GInBotRefIdeal.τ).loc Cert.GInBotRefIdeal.main_arg0)
      ∧ r.2.mem ((c.tc : Thread Cert.GInBotRefIdeal.nD Cert.GInBotRefIdeal.τ).loc Cert.GInBotRefIdeal.main_arg1) = m ((c.tc : Thread Cert.GInBotRefIdeal.nD Cert.GInBotRefIdeal.τ).loc Cert.GInBotRefIdeal.main_arg1))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1))
      ∧ r.2.sem = fun _ => 0)

def quiescent_FfnGu [hFfnGu : Cert.FfnGu.Facts] : Prop :=
  ∀ (m : (ℓ : Loc Cert.FfnGu.nD Cert.FfnGu.τ Cert.FfnGu.sig) → Buf (Elt Bits) ℓ) (g : Dev Cert.FfnGu.nD → PrngReg), Pre_FfnGu m →
    θ_run (Cert.FfnGu.defs (F := Bits)) (onTc (τ := Cert.FfnGu.τ) (Cert.FfnGu.main (F := Bits))) ⟨m, fun _ => 0, g⟩ (fun r => (∀ c : Dev Cert.FfnGu.nD,
      r.2.mem ((c.tc : Thread Cert.FfnGu.nD Cert.FfnGu.τ).loc Cert.FfnGu.main_arg0) = m ((c.tc : Thread Cert.FfnGu.nD Cert.FfnGu.τ).loc Cert.FfnGu.main_arg0)
      ∧ r.2.mem ((c.tc : Thread Cert.FfnGu.nD Cert.FfnGu.τ).loc Cert.FfnGu.main_arg1) = m ((c.tc : Thread Cert.FfnGu.nD Cert.FfnGu.τ).loc Cert.FfnGu.main_arg1)
      ∧ r.2.mem ((c.tc : Thread Cert.FfnGu.nD Cert.FfnGu.τ).loc Cert.FfnGu.main_arg2) = m ((c.tc : Thread Cert.FfnGu.nD Cert.FfnGu.τ).loc Cert.FfnGu.main_arg2))
      ∧ r.2.sem = fun _ => 0)

def quiescent_FfnGuIdeal [hFfnGuIdeal : Cert.FfnGuIdeal.Facts] : Prop :=
  ∀ (m : (ℓ : Loc Cert.FfnGuIdeal.nD Cert.FfnGuIdeal.τ Cert.FfnGuIdeal.sig) → Buf (Elt Ideal) ℓ) (g : Dev Cert.FfnGuIdeal.nD → PrngReg), Pre_FfnGuIdeal m →
    θ_run (Cert.FfnGuIdeal.defs (F := Ideal)) (onTc (τ := Cert.FfnGuIdeal.τ) (Cert.FfnGuIdeal.main (F := Ideal))) ⟨m, fun _ => 0, g⟩ (fun r => (∀ c : Dev Cert.FfnGuIdeal.nD,
      r.2.mem ((c.tc : Thread Cert.FfnGuIdeal.nD Cert.FfnGuIdeal.τ).loc Cert.FfnGuIdeal.main_arg0) = m ((c.tc : Thread Cert.FfnGuIdeal.nD Cert.FfnGuIdeal.τ).loc Cert.FfnGuIdeal.main_arg0)
      ∧ r.2.mem ((c.tc : Thread Cert.FfnGuIdeal.nD Cert.FfnGuIdeal.τ).loc Cert.FfnGuIdeal.main_arg1) = m ((c.tc : Thread Cert.FfnGuIdeal.nD Cert.FfnGuIdeal.τ).loc Cert.FfnGuIdeal.main_arg1)
      ∧ r.2.mem ((c.tc : Thread Cert.FfnGuIdeal.nD Cert.FfnGuIdeal.τ).loc Cert.FfnGuIdeal.main_arg2) = m ((c.tc : Thread Cert.FfnGuIdeal.nD Cert.FfnGuIdeal.τ).loc Cert.FfnGuIdeal.main_arg2))
      ∧ r.2.sem = fun _ => 0)

def quiescent_FfnGuRefIdeal [hFfnGuRefIdeal : Cert.FfnGuRefIdeal.Facts] : Prop :=
  ∀ (m : (ℓ : Loc Cert.FfnGuRefIdeal.nD Cert.FfnGuRefIdeal.τ Cert.FfnGuRefIdeal.sig) → Buf (Elt Ideal) ℓ) (g : Dev Cert.FfnGuRefIdeal.nD → PrngReg), Pre_FfnGuRefIdeal m →
    θ_run (Cert.FfnGuRefIdeal.defs (F := Ideal)) (onTc (τ := Cert.FfnGuRefIdeal.τ) (Cert.FfnGuRefIdeal.main (F := Ideal))) ⟨m, fun _ => 0, g⟩ (fun r => (∀ c : Dev Cert.FfnGuRefIdeal.nD,
      r.2.mem ((c.tc : Thread Cert.FfnGuRefIdeal.nD Cert.FfnGuRefIdeal.τ).loc Cert.FfnGuRefIdeal.main_arg0) = m ((c.tc : Thread Cert.FfnGuRefIdeal.nD Cert.FfnGuRefIdeal.τ).loc Cert.FfnGuRefIdeal.main_arg0)
      ∧ r.2.mem ((c.tc : Thread Cert.FfnGuRefIdeal.nD Cert.FfnGuRefIdeal.τ).loc Cert.FfnGuRefIdeal.main_arg1) = m ((c.tc : Thread Cert.FfnGuRefIdeal.nD Cert.FfnGuRefIdeal.τ).loc Cert.FfnGuRefIdeal.main_arg1)
      ∧ r.2.mem ((c.tc : Thread Cert.FfnGuRefIdeal.nD Cert.FfnGuRefIdeal.τ).loc Cert.FfnGuRefIdeal.main_arg2) = m ((c.tc : Thread Cert.FfnGuRefIdeal.nD Cert.FfnGuRefIdeal.τ).loc Cert.FfnGuRefIdeal.main_arg2))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1))
      ∧ r.2.sem = fun _ => 0)

def quiescent_ProjX [hProjX : Cert.ProjX.Facts] : Prop :=
  ∀ (m : (ℓ : Loc Cert.ProjX.nD Cert.ProjX.τ Cert.ProjX.sig) → Buf (Elt Bits) ℓ) (g : Dev Cert.ProjX.nD → PrngReg), Pre_ProjX m →
    θ_run (Cert.ProjX.defs (F := Bits)) (onTc (τ := Cert.ProjX.τ) (Cert.ProjX.main (F := Bits))) ⟨m, fun _ => 0, g⟩ (fun r => (∀ c : Dev Cert.ProjX.nD,
      r.2.mem ((c.tc : Thread Cert.ProjX.nD Cert.ProjX.τ).loc Cert.ProjX.main_arg0) = m ((c.tc : Thread Cert.ProjX.nD Cert.ProjX.τ).loc Cert.ProjX.main_arg0)
      ∧ r.2.mem ((c.tc : Thread Cert.ProjX.nD Cert.ProjX.τ).loc Cert.ProjX.main_arg1) = m ((c.tc : Thread Cert.ProjX.nD Cert.ProjX.τ).loc Cert.ProjX.main_arg1))
      ∧ r.2.sem = fun _ => 0)

def quiescent_ProjXIdeal [hProjXIdeal : Cert.ProjXIdeal.Facts] : Prop :=
  ∀ (m : (ℓ : Loc Cert.ProjXIdeal.nD Cert.ProjXIdeal.τ Cert.ProjXIdeal.sig) → Buf (Elt Ideal) ℓ) (g : Dev Cert.ProjXIdeal.nD → PrngReg), Pre_ProjXIdeal m →
    θ_run (Cert.ProjXIdeal.defs (F := Ideal)) (onTc (τ := Cert.ProjXIdeal.τ) (Cert.ProjXIdeal.main (F := Ideal))) ⟨m, fun _ => 0, g⟩ (fun r => (∀ c : Dev Cert.ProjXIdeal.nD,
      r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
      ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1))
      ∧ r.2.sem = fun _ => 0)

def quiescent_ProjXRefIdeal [hProjXRefIdeal : Cert.ProjXRefIdeal.Facts] : Prop :=
  ∀ (m : (ℓ : Loc Cert.ProjXRefIdeal.nD Cert.ProjXRefIdeal.τ Cert.ProjXRefIdeal.sig) → Buf (Elt Ideal) ℓ) (g : Dev Cert.ProjXRefIdeal.nD → PrngReg), Pre_ProjXRefIdeal m →
    θ_run (Cert.ProjXRefIdeal.defs (F := Ideal)) (onTc (τ := Cert.ProjXRefIdeal.τ) (Cert.ProjXRefIdeal.main (F := Ideal))) ⟨m, fun _ => 0, g⟩ (fun r => (∀ c : Dev Cert.ProjXRefIdeal.nD,
      r.2.mem ((c.tc : Thread Cert.ProjXRefIdeal.nD Cert.ProjXRefIdeal.τ).loc Cert.ProjXRefIdeal.main_arg0) = m ((c.tc : Thread Cert.ProjXRefIdeal.nD Cert.ProjXRefIdeal.τ).loc Cert.ProjXRefIdeal.main_arg0)
      ∧ r.2.mem ((c.tc : Thread Cert.ProjXRefIdeal.nD Cert.ProjXRefIdeal.τ).loc Cert.ProjXRefIdeal.main_arg1) = m ((c.tc : Thread Cert.ProjXRefIdeal.nD Cert.ProjXRefIdeal.τ).loc Cert.ProjXRefIdeal.main_arg1))
      ∧ r.2.sem = fun _ => 0)

def quiescent_ProjZ [hProjZ : Cert.ProjZ.Facts] : Prop :=
  ∀ (m : (ℓ : Loc Cert.ProjZ.nD Cert.ProjZ.τ Cert.ProjZ.sig) → Buf (Elt Bits) ℓ) (g : Dev Cert.ProjZ.nD → PrngReg), Pre_ProjZ m →
    θ_run (Cert.ProjZ.defs (F := Bits)) (onTc (τ := Cert.ProjZ.τ) (Cert.ProjZ.main (F := Bits))) ⟨m, fun _ => 0, g⟩ (fun r => (∀ c : Dev Cert.ProjZ.nD,
      r.2.mem ((c.tc : Thread Cert.ProjZ.nD Cert.ProjZ.τ).loc Cert.ProjZ.main_arg0) = m ((c.tc : Thread Cert.ProjZ.nD Cert.ProjZ.τ).loc Cert.ProjZ.main_arg0)
      ∧ r.2.mem ((c.tc : Thread Cert.ProjZ.nD Cert.ProjZ.τ).loc Cert.ProjZ.main_arg1) = m ((c.tc : Thread Cert.ProjZ.nD Cert.ProjZ.τ).loc Cert.ProjZ.main_arg1))
      ∧ r.2.sem = fun _ => 0)

def quiescent_ProjZIdeal [hProjZIdeal : Cert.ProjZIdeal.Facts] : Prop :=
  ∀ (m : (ℓ : Loc Cert.ProjZIdeal.nD Cert.ProjZIdeal.τ Cert.ProjZIdeal.sig) → Buf (Elt Ideal) ℓ) (g : Dev Cert.ProjZIdeal.nD → PrngReg), Pre_ProjZIdeal m →
    θ_run (Cert.ProjZIdeal.defs (F := Ideal)) (onTc (τ := Cert.ProjZIdeal.τ) (Cert.ProjZIdeal.main (F := Ideal))) ⟨m, fun _ => 0, g⟩ (fun r => (∀ c : Dev Cert.ProjZIdeal.nD,
      r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
      ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ r.2.sem = fun _ => 0)

def quiescent_ProjZRefIdeal [hProjZRefIdeal : Cert.ProjZRefIdeal.Facts] : Prop :=
  ∀ (m : (ℓ : Loc Cert.ProjZRefIdeal.nD Cert.ProjZRefIdeal.τ Cert.ProjZRefIdeal.sig) → Buf (Elt Ideal) ℓ) (g : Dev Cert.ProjZRefIdeal.nD → PrngReg), Pre_ProjZRefIdeal m →
    θ_run (Cert.ProjZRefIdeal.defs (F := Ideal)) (onTc (τ := Cert.ProjZRefIdeal.τ) (Cert.ProjZRefIdeal.main (F := Ideal))) ⟨m, fun _ => 0, g⟩ (fun r => (∀ c : Dev Cert.ProjZRefIdeal.nD,
      r.2.mem ((c.tc : Thread Cert.ProjZRefIdeal.nD Cert.ProjZRefIdeal.τ).loc Cert.ProjZRefIdeal.main_arg0) = m ((c.tc : Thread Cert.ProjZRefIdeal.nD Cert.ProjZRefIdeal.τ).loc Cert.ProjZRefIdeal.main_arg0)
      ∧ r.2.mem ((c.tc : Thread Cert.ProjZRefIdeal.nD Cert.ProjZRefIdeal.τ).loc Cert.ProjZRefIdeal.main_arg1) = m ((c.tc : Thread Cert.ProjZRefIdeal.nD Cert.ProjZRefIdeal.τ).loc Cert.ProjZRefIdeal.main_arg1))
      ∧ r.2.sem = fun _ => 0)

def quiescent_ProjG [hProjG : Cert.ProjG.Facts] : Prop :=
  ∀ (m : (ℓ : Loc Cert.ProjG.nD Cert.ProjG.τ Cert.ProjG.sig) → Buf (Elt Bits) ℓ) (g : Dev Cert.ProjG.nD → PrngReg), Pre_ProjG m →
    θ_run (Cert.ProjG.defs (F := Bits)) (onTc (τ := Cert.ProjG.τ) (Cert.ProjG.main (F := Bits))) ⟨m, fun _ => 0, g⟩ (fun r => (∀ c : Dev Cert.ProjG.nD,
      r.2.mem ((c.tc : Thread Cert.ProjG.nD Cert.ProjG.τ).loc Cert.ProjG.main_arg0) = m ((c.tc : Thread Cert.ProjG.nD Cert.ProjG.τ).loc Cert.ProjG.main_arg0)
      ∧ r.2.mem ((c.tc : Thread Cert.ProjG.nD Cert.ProjG.τ).loc Cert.ProjG.main_arg1) = m ((c.tc : Thread Cert.ProjG.nD Cert.ProjG.τ).loc Cert.ProjG.main_arg1))
      ∧ r.2.sem = fun _ => 0)

def quiescent_ProjGIdeal [hProjGIdeal : Cert.ProjGIdeal.Facts] : Prop :=
  ∀ (m : (ℓ : Loc Cert.ProjGIdeal.nD Cert.ProjGIdeal.τ Cert.ProjGIdeal.sig) → Buf (Elt Ideal) ℓ) (g : Dev Cert.ProjGIdeal.nD → PrngReg), Pre_ProjGIdeal m →
    θ_run (Cert.ProjGIdeal.defs (F := Ideal)) (onTc (τ := Cert.ProjGIdeal.τ) (Cert.ProjGIdeal.main (F := Ideal))) ⟨m, fun _ => 0, g⟩ (fun r => (∀ c : Dev Cert.ProjGIdeal.nD,
      r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
      ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ r.2.sem = fun _ => 0)

def quiescent_ProjGRefIdeal [hProjGRefIdeal : Cert.ProjGRefIdeal.Facts] : Prop :=
  ∀ (m : (ℓ : Loc Cert.ProjGRefIdeal.nD Cert.ProjGRefIdeal.τ Cert.ProjGRefIdeal.sig) → Buf (Elt Ideal) ℓ) (g : Dev Cert.ProjGRefIdeal.nD → PrngReg), Pre_ProjGRefIdeal m →
    θ_run (Cert.ProjGRefIdeal.defs (F := Ideal)) (onTc (τ := Cert.ProjGRefIdeal.τ) (Cert.ProjGRefIdeal.main (F := Ideal))) ⟨m, fun _ => 0, g⟩ (fun r => (∀ c : Dev Cert.ProjGRefIdeal.nD,
      r.2.mem ((c.tc : Thread Cert.ProjGRefIdeal.nD Cert.ProjGRefIdeal.τ).loc Cert.ProjGRefIdeal.main_arg0) = m ((c.tc : Thread Cert.ProjGRefIdeal.nD Cert.ProjGRefIdeal.τ).loc Cert.ProjGRefIdeal.main_arg0)
      ∧ r.2.mem ((c.tc : Thread Cert.ProjGRefIdeal.nD Cert.ProjGRefIdeal.τ).loc Cert.ProjGRefIdeal.main_arg1) = m ((c.tc : Thread Cert.ProjGRefIdeal.nD Cert.ProjGRefIdeal.τ).loc Cert.ProjGRefIdeal.main_arg1))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1)
      ∧ r.2.mem ((c.tc : Thread Cert.DH1.nD Cert.DH1.τ).loc Cert.DH1.main_arg2) = m ((c.tc : Thread Cert.DH1.nD Cert.DH1.τ).loc Cert.DH1.main_arg2)
      ∧ r.2.mem ((c.tc : Thread Cert.DH1.nD Cert.DH1.τ).loc Cert.DH1.main_arg3) = m ((c.tc : Thread Cert.DH1.nD Cert.DH1.τ).loc Cert.DH1.main_arg3)
      ∧ r.2.mem ((c.tc : Thread Cert.DH1.nD Cert.DH1.τ).loc Cert.DH1.main_arg4) = m ((c.tc : Thread Cert.DH1.nD Cert.DH1.τ).loc Cert.DH1.main_arg4))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
      ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2)
      ∧ r.2.mem ((c.tc : Thread Cert.DH1Ideal.nD Cert.DH1Ideal.τ).loc Cert.DH1Ideal.main_arg3) = m ((c.tc : Thread Cert.DH1Ideal.nD Cert.DH1Ideal.τ).loc Cert.DH1Ideal.main_arg3)
      ∧ r.2.mem ((c.tc : Thread Cert.DH1Ideal.nD Cert.DH1Ideal.τ).loc Cert.DH1Ideal.main_arg4) = m ((c.tc : Thread Cert.DH1Ideal.nD Cert.DH1Ideal.τ).loc Cert.DH1Ideal.main_arg4))
      ∧ r.2.sem = fun _ => 0)

def quiescent_DH1RefIdeal [hDH1RefIdeal : Cert.DH1RefIdeal.Facts] : Prop :=
  ∀ (m : (ℓ : Loc Cert.DH1RefIdeal.nD Cert.DH1RefIdeal.τ Cert.DH1RefIdeal.sig) → Buf (Elt Ideal) ℓ) (g : Dev Cert.DH1RefIdeal.nD → PrngReg), Pre_DH1RefIdeal m →
    θ_run (Cert.DH1RefIdeal.defs (F := Ideal)) (onTc (τ := Cert.DH1RefIdeal.τ) (Cert.DH1RefIdeal.main (F := Ideal))) ⟨m, fun _ => 0, g⟩ (fun r => (∀ c : Dev Cert.DH1RefIdeal.nD,
      r.2.mem ((c.tc : Thread Cert.DH1RefIdeal.nD Cert.DH1RefIdeal.τ).loc Cert.DH1RefIdeal.main_arg0) = m ((c.tc : Thread Cert.DH1RefIdeal.nD Cert.DH1RefIdeal.τ).loc Cert.DH1RefIdeal.main_arg0)
      ∧ r.2.mem ((c.tc : Thread Cert.DH1RefIdeal.nD Cert.DH1RefIdeal.τ).loc Cert.DH1RefIdeal.main_arg1) = m ((c.tc : Thread Cert.DH1RefIdeal.nD Cert.DH1RefIdeal.τ).loc Cert.DH1RefIdeal.main_arg1)
      ∧ r.2.mem ((c.tc : Thread Cert.DH1RefIdeal.nD Cert.DH1RefIdeal.τ).loc Cert.DH1RefIdeal.main_arg2) = m ((c.tc : Thread Cert.DH1RefIdeal.nD Cert.DH1RefIdeal.τ).loc Cert.DH1RefIdeal.main_arg2)
      ∧ r.2.mem ((c.tc : Thread Cert.DH1RefIdeal.nD Cert.DH1RefIdeal.τ).loc Cert.DH1RefIdeal.main_arg3) = m ((c.tc : Thread Cert.DH1RefIdeal.nD Cert.DH1RefIdeal.τ).loc Cert.DH1RefIdeal.main_arg3)
      ∧ r.2.mem ((c.tc : Thread Cert.DH1RefIdeal.nD Cert.DH1RefIdeal.τ).loc Cert.DH1RefIdeal.main_arg4) = m ((c.tc : Thread Cert.DH1RefIdeal.nD Cert.DH1RefIdeal.τ).loc Cert.DH1RefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamPa [hAdamPa : Cert.AdamPa.Facts] : Prop :=
  ∀ (m : (ℓ : Loc Cert.AdamPa.nD Cert.AdamPa.τ Cert.AdamPa.sig) → Buf (Elt Bits) ℓ) (g : Dev Cert.AdamPa.nD → PrngReg), Pre_AdamPa m →
    θ_run (Cert.AdamPa.defs (F := Bits)) (onTc (τ := Cert.AdamPa.τ) (Cert.AdamPa.main (F := Bits))) ⟨m, fun _ => 0, g⟩ (fun r => (∀ c : Dev Cert.AdamPa.nD,
      r.2.mem ((c.tc : Thread Cert.AdamPa.nD Cert.AdamPa.τ).loc Cert.AdamPa.main_arg0) = m ((c.tc : Thread Cert.AdamPa.nD Cert.AdamPa.τ).loc Cert.AdamPa.main_arg0)
      ∧ r.2.mem ((c.tc : Thread Cert.AdamPa.nD Cert.AdamPa.τ).loc Cert.AdamPa.main_arg1) = m ((c.tc : Thread Cert.AdamPa.nD Cert.AdamPa.τ).loc Cert.AdamPa.main_arg1)
      ∧ r.2.mem ((c.tc : Thread Cert.AdamPa.nD Cert.AdamPa.τ).loc Cert.AdamPa.main_arg2) = m ((c.tc : Thread Cert.AdamPa.nD Cert.AdamPa.τ).loc Cert.AdamPa.main_arg2)
      ∧ r.2.mem ((c.tc : Thread Cert.AdamPa.nD Cert.AdamPa.τ).loc Cert.AdamPa.main_arg3) = m ((c.tc : Thread Cert.AdamPa.nD Cert.AdamPa.τ).loc Cert.AdamPa.main_arg3)
      ∧ r.2.mem ((c.tc : Thread Cert.AdamPa.nD Cert.AdamPa.τ).loc Cert.AdamPa.main_arg4) = m ((c.tc : Thread Cert.AdamPa.nD Cert.AdamPa.τ).loc Cert.AdamPa.main_arg4))
      ∧ r.2.sem = fun _ => 0)

def quiescent_AdamPaIdeal [hAdamPaIdeal : Cert.AdamPaIdeal.Facts] : Prop :=
  ∀ (m : (ℓ : Loc Cert.AdamPaIdeal.nD Cert.AdamPaIdeal.τ Cert.AdamPaIdeal.sig) → Buf (Elt Ideal) ℓ) (g : Dev Cert.AdamPaIdeal.nD → PrngReg), Pre_AdamPaIdeal m →
    θ_run (Cert.AdamPaIdeal.defs (F := Ideal)) (onTc (τ := Cert.AdamPaIdeal.τ) (Cert.AdamPaIdeal.main (F := Ideal))) ⟨m, fun _ => 0, g⟩ (fun r => (∀ c : Dev Cert.AdamPaIdeal.nD,
      r.2.mem ((c.tc : Thread Cert.AdamPaIdeal.nD Cert.AdamPaIdeal.τ).loc Cert.AdamPaIdeal.main_arg0) = m ((c.tc : Thread Cert.AdamPaIdeal.nD Cert.AdamPaIdeal.τ).loc Cert.AdamPaIdeal.main_arg0)
      ∧ r.2.mem ((c.tc : Thread Cert.AdamPaIdeal.nD Cert.AdamPaIdeal.τ).loc Cert.AdamPaIdeal.main_arg1) = m ((c.tc : Thread Cert.AdamPaIdeal.nD Cert.AdamPaIdeal.τ).loc Cert.AdamPaIdeal.main_arg1)
      ∧ r.2.mem ((c.tc : Thread Cert.AdamPaIdeal.nD Cert.AdamPaIdeal.τ).loc Cert.AdamPaIdeal.main_arg2) = m ((c.tc : Thread Cert.AdamPaIdeal.nD Cert.AdamPaIdeal.τ).loc Cert.AdamPaIdeal.main_arg2)
      ∧ r.2.mem ((c.tc : Thread Cert.AdamPaIdeal.nD Cert.AdamPaIdeal.τ).loc Cert.AdamPaIdeal.main_arg3) = m ((c.tc : Thread Cert.AdamPaIdeal.nD Cert.AdamPaIdeal.τ).loc Cert.AdamPaIdeal.main_arg3)
      ∧ r.2.mem ((c.tc : Thread Cert.AdamPaIdeal.nD Cert.AdamPaIdeal.τ).loc Cert.AdamPaIdeal.main_arg4) = m ((c.tc : Thread Cert.AdamPaIdeal.nD Cert.AdamPaIdeal.τ).loc Cert.AdamPaIdeal.main_arg4))
      ∧ r.2.sem = fun _ => 0)

def quiescent_AdamPaRefIdeal [hAdamPaRefIdeal : Cert.AdamPaRefIdeal.Facts] : Prop :=
  ∀ (m : (ℓ : Loc Cert.AdamPaRefIdeal.nD Cert.AdamPaRefIdeal.τ Cert.AdamPaRefIdeal.sig) → Buf (Elt Ideal) ℓ) (g : Dev Cert.AdamPaRefIdeal.nD → PrngReg), Pre_AdamPaRefIdeal m →
    θ_run (Cert.AdamPaRefIdeal.defs (F := Ideal)) (onTc (τ := Cert.AdamPaRefIdeal.τ) (Cert.AdamPaRefIdeal.main (F := Ideal))) ⟨m, fun _ => 0, g⟩ (fun r => (∀ c : Dev Cert.AdamPaRefIdeal.nD,
      r.2.mem ((c.tc : Thread Cert.AdamPaRefIdeal.nD Cert.AdamPaRefIdeal.τ).loc Cert.AdamPaRefIdeal.main_arg0) = m ((c.tc : Thread Cert.AdamPaRefIdeal.nD Cert.AdamPaRefIdeal.τ).loc Cert.AdamPaRefIdeal.main_arg0)
      ∧ r.2.mem ((c.tc : Thread Cert.AdamPaRefIdeal.nD Cert.AdamPaRefIdeal.τ).loc Cert.AdamPaRefIdeal.main_arg1) = m ((c.tc : Thread Cert.AdamPaRefIdeal.nD Cert.AdamPaRefIdeal.τ).loc Cert.AdamPaRefIdeal.main_arg1)
      ∧ r.2.mem ((c.tc : Thread Cert.AdamPaRefIdeal.nD Cert.AdamPaRefIdeal.τ).loc Cert.AdamPaRefIdeal.main_arg2) = m ((c.tc : Thread Cert.AdamPaRefIdeal.nD Cert.AdamPaRefIdeal.τ).loc Cert.AdamPaRefIdeal.main_arg2)
      ∧ r.2.mem ((c.tc : Thread Cert.AdamPaRefIdeal.nD Cert.AdamPaRefIdeal.τ).loc Cert.AdamPaRefIdeal.main_arg3) = m ((c.tc : Thread Cert.AdamPaRefIdeal.nD Cert.AdamPaRefIdeal.τ).loc Cert.AdamPaRefIdeal.main_arg3)
      ∧ r.2.mem ((c.tc : Thread Cert.AdamPaRefIdeal.nD Cert.AdamPaRefIdeal.τ).loc Cert.AdamPaRefIdeal.main_arg4) = m ((c.tc : Thread Cert.AdamPaRefIdeal.nD Cert.AdamPaRefIdeal.τ).loc Cert.AdamPaRefIdeal.main_arg4))
      ∧ r.2.sem = fun _ => 0)

def quiescent_AdamPb [hAdamPb : Cert.AdamPb.Facts] : Prop :=
  ∀ (m : (ℓ : Loc Cert.AdamPb.nD Cert.AdamPb.τ Cert.AdamPb.sig) → Buf (Elt Bits) ℓ) (g : Dev Cert.AdamPb.nD → PrngReg), Pre_AdamPb m →
    θ_run (Cert.AdamPb.defs (F := Bits)) (onTc (τ := Cert.AdamPb.τ) (Cert.AdamPb.main (F := Bits))) ⟨m, fun _ => 0, g⟩ (fun r => (∀ c : Dev Cert.AdamPb.nD,
      r.2.mem ((c.tc : Thread Cert.AdamPb.nD Cert.AdamPb.τ).loc Cert.AdamPb.main_arg0) = m ((c.tc : Thread Cert.AdamPb.nD Cert.AdamPb.τ).loc Cert.AdamPb.main_arg0)
      ∧ r.2.mem ((c.tc : Thread Cert.AdamPb.nD Cert.AdamPb.τ).loc Cert.AdamPb.main_arg1) = m ((c.tc : Thread Cert.AdamPb.nD Cert.AdamPb.τ).loc Cert.AdamPb.main_arg1)
      ∧ r.2.mem ((c.tc : Thread Cert.AdamPb.nD Cert.AdamPb.τ).loc Cert.AdamPb.main_arg2) = m ((c.tc : Thread Cert.AdamPb.nD Cert.AdamPb.τ).loc Cert.AdamPb.main_arg2)
      ∧ r.2.mem ((c.tc : Thread Cert.AdamPb.nD Cert.AdamPb.τ).loc Cert.AdamPb.main_arg3) = m ((c.tc : Thread Cert.AdamPb.nD Cert.AdamPb.τ).loc Cert.AdamPb.main_arg3)
      ∧ r.2.mem ((c.tc : Thread Cert.AdamPb.nD Cert.AdamPb.τ).loc Cert.AdamPb.main_arg4) = m ((c.tc : Thread Cert.AdamPb.nD Cert.AdamPb.τ).loc Cert.AdamPb.main_arg4))
      ∧ r.2.sem = fun _ => 0)

def quiescent_AdamPbIdeal [hAdamPbIdeal : Cert.AdamPbIdeal.Facts] : Prop :=
  ∀ (m : (ℓ : Loc Cert.AdamPbIdeal.nD Cert.AdamPbIdeal.τ Cert.AdamPbIdeal.sig) → Buf (Elt Ideal) ℓ) (g : Dev Cert.AdamPbIdeal.nD → PrngReg), Pre_AdamPbIdeal m →
    θ_run (Cert.AdamPbIdeal.defs (F := Ideal)) (onTc (τ := Cert.AdamPbIdeal.τ) (Cert.AdamPbIdeal.main (F := Ideal))) ⟨m, fun _ => 0, g⟩ (fun r => (∀ c : Dev Cert.AdamPbIdeal.nD,
      r.2.mem ((c.tc : Thread Cert.AdamPbIdeal.nD Cert.AdamPbIdeal.τ).loc Cert.AdamPbIdeal.main_arg0) = m ((c.tc : Thread Cert.AdamPbIdeal.nD Cert.AdamPbIdeal.τ).loc Cert.AdamPbIdeal.main_arg0)
      ∧ r.2.mem ((c.tc : Thread Cert.AdamPbIdeal.nD Cert.AdamPbIdeal.τ).loc Cert.AdamPbIdeal.main_arg1) = m ((c.tc : Thread Cert.AdamPbIdeal.nD Cert.AdamPbIdeal.τ).loc Cert.AdamPbIdeal.main_arg1)
      ∧ r.2.mem ((c.tc : Thread Cert.AdamPbIdeal.nD Cert.AdamPbIdeal.τ).loc Cert.AdamPbIdeal.main_arg2) = m ((c.tc : Thread Cert.AdamPbIdeal.nD Cert.AdamPbIdeal.τ).loc Cert.AdamPbIdeal.main_arg2)
      ∧ r.2.mem ((c.tc : Thread Cert.AdamPbIdeal.nD Cert.AdamPbIdeal.τ).loc Cert.AdamPbIdeal.main_arg3) = m ((c.tc : Thread Cert.AdamPbIdeal.nD Cert.AdamPbIdeal.τ).loc Cert.AdamPbIdeal.main_arg3)
      ∧ r.2.mem ((c.tc : Thread Cert.AdamPbIdeal.nD Cert.AdamPbIdeal.τ).loc Cert.AdamPbIdeal.main_arg4) = m ((c.tc : Thread Cert.AdamPbIdeal.nD Cert.AdamPbIdeal.τ).loc Cert.AdamPbIdeal.main_arg4))
      ∧ r.2.sem = fun _ => 0)

def quiescent_AdamPbRefIdeal [hAdamPbRefIdeal : Cert.AdamPbRefIdeal.Facts] : Prop :=
  ∀ (m : (ℓ : Loc Cert.AdamPbRefIdeal.nD Cert.AdamPbRefIdeal.τ Cert.AdamPbRefIdeal.sig) → Buf (Elt Ideal) ℓ) (g : Dev Cert.AdamPbRefIdeal.nD → PrngReg), Pre_AdamPbRefIdeal m →
    θ_run (Cert.AdamPbRefIdeal.defs (F := Ideal)) (onTc (τ := Cert.AdamPbRefIdeal.τ) (Cert.AdamPbRefIdeal.main (F := Ideal))) ⟨m, fun _ => 0, g⟩ (fun r => (∀ c : Dev Cert.AdamPbRefIdeal.nD,
      r.2.mem ((c.tc : Thread Cert.AdamPbRefIdeal.nD Cert.AdamPbRefIdeal.τ).loc Cert.AdamPbRefIdeal.main_arg0) = m ((c.tc : Thread Cert.AdamPbRefIdeal.nD Cert.AdamPbRefIdeal.τ).loc Cert.AdamPbRefIdeal.main_arg0)
      ∧ r.2.mem ((c.tc : Thread Cert.AdamPbRefIdeal.nD Cert.AdamPbRefIdeal.τ).loc Cert.AdamPbRefIdeal.main_arg1) = m ((c.tc : Thread Cert.AdamPbRefIdeal.nD Cert.AdamPbRefIdeal.τ).loc Cert.AdamPbRefIdeal.main_arg1)
      ∧ r.2.mem ((c.tc : Thread Cert.AdamPbRefIdeal.nD Cert.AdamPbRefIdeal.τ).loc Cert.AdamPbRefIdeal.main_arg2) = m ((c.tc : Thread Cert.AdamPbRefIdeal.nD Cert.AdamPbRefIdeal.τ).loc Cert.AdamPbRefIdeal.main_arg2)
      ∧ r.2.mem ((c.tc : Thread Cert.AdamPbRefIdeal.nD Cert.AdamPbRefIdeal.τ).loc Cert.AdamPbRefIdeal.main_arg3) = m ((c.tc : Thread Cert.AdamPbRefIdeal.nD Cert.AdamPbRefIdeal.τ).loc Cert.AdamPbRefIdeal.main_arg3)
      ∧ r.2.mem ((c.tc : Thread Cert.AdamPbRefIdeal.nD Cert.AdamPbRefIdeal.τ).loc Cert.AdamPbRefIdeal.main_arg4) = m ((c.tc : Thread Cert.AdamPbRefIdeal.nD Cert.AdamPbRefIdeal.τ).loc Cert.AdamPbRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamGu [hAdamGu : Cert.AdamGu.Facts] : Prop :=
  ∀ (m : (ℓ : Loc Cert.AdamGu.nD Cert.AdamGu.τ Cert.AdamGu.sig) → Buf (Elt Bits) ℓ) (g : Dev Cert.AdamGu.nD → PrngReg), Pre_AdamGu m →
    θ_run (Cert.AdamGu.defs (F := Bits)) (onTc (τ := Cert.AdamGu.τ) (Cert.AdamGu.main (F := Bits))) ⟨m, fun _ => 0, g⟩ (fun r => (∀ c : Dev Cert.AdamGu.nD,
      r.2.mem ((c.tc : Thread Cert.AdamGu.nD Cert.AdamGu.τ).loc Cert.AdamGu.main_arg0) = m ((c.tc : Thread Cert.AdamGu.nD Cert.AdamGu.τ).loc Cert.AdamGu.main_arg0)
      ∧ r.2.mem ((c.tc : Thread Cert.AdamGu.nD Cert.AdamGu.τ).loc Cert.AdamGu.main_arg1) = m ((c.tc : Thread Cert.AdamGu.nD Cert.AdamGu.τ).loc Cert.AdamGu.main_arg1)
      ∧ r.2.mem ((c.tc : Thread Cert.AdamGu.nD Cert.AdamGu.τ).loc Cert.AdamGu.main_arg2) = m ((c.tc : Thread Cert.AdamGu.nD Cert.AdamGu.τ).loc Cert.AdamGu.main_arg2)
      ∧ r.2.mem ((c.tc : Thread Cert.AdamGu.nD Cert.AdamGu.τ).loc Cert.AdamGu.main_arg3) = m ((c.tc : Thread Cert.AdamGu.nD Cert.AdamGu.τ).loc Cert.AdamGu.main_arg3)
      ∧ r.2.mem ((c.tc : Thread Cert.AdamGu.nD Cert.AdamGu.τ).loc Cert.AdamGu.main_arg4) = m ((c.tc : Thread Cert.AdamGu.nD Cert.AdamGu.τ).loc Cert.AdamGu.main_arg4))
      ∧ r.2.sem = fun _ => 0)

def quiescent_AdamGuIdeal [hAdamGuIdeal : Cert.AdamGuIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg), Pre_AdamGuIdeal m →
    θ_run (Cert.AdamGuIdeal.defs (F := Ideal)) (onTc (τ := Cert.AdamGuIdeal.τ) (Cert.AdamGuIdeal.main (F := Ideal))) ⟨m, fun _ => 0, g⟩ (fun r => (∀ c : Dev Cert.AdamGuIdeal.nD,
      r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
      ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
      ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
      ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3)
      ∧ r.2.mem ((c.tc : Thread Cert.AdamGuIdeal.nD Cert.AdamGuIdeal.τ).loc Cert.AdamGuIdeal.main_arg4) = m ((c.tc : Thread Cert.AdamGuIdeal.nD Cert.AdamGuIdeal.τ).loc Cert.AdamGuIdeal.main_arg4))
      ∧ r.2.sem = fun _ => 0)

def quiescent_AdamGuRefIdeal [hAdamGuRefIdeal : Cert.AdamGuRefIdeal.Facts] : Prop :=
  ∀ (m : (ℓ : Loc Cert.AdamGuRefIdeal.nD Cert.AdamGuRefIdeal.τ Cert.AdamGuRefIdeal.sig) → Buf (Elt Ideal) ℓ) (g : Dev Cert.AdamGuRefIdeal.nD → PrngReg), Pre_AdamGuRefIdeal m →
    θ_run (Cert.AdamGuRefIdeal.defs (F := Ideal)) (onTc (τ := Cert.AdamGuRefIdeal.τ) (Cert.AdamGuRefIdeal.main (F := Ideal))) ⟨m, fun _ => 0, g⟩ (fun r => (∀ c : Dev Cert.AdamGuRefIdeal.nD,
      r.2.mem ((c.tc : Thread Cert.AdamGuRefIdeal.nD Cert.AdamGuRefIdeal.τ).loc Cert.AdamGuRefIdeal.main_arg0) = m ((c.tc : Thread Cert.AdamGuRefIdeal.nD Cert.AdamGuRefIdeal.τ).loc Cert.AdamGuRefIdeal.main_arg0)
      ∧ r.2.mem ((c.tc : Thread Cert.AdamGuRefIdeal.nD Cert.AdamGuRefIdeal.τ).loc Cert.AdamGuRefIdeal.main_arg1) = m ((c.tc : Thread Cert.AdamGuRefIdeal.nD Cert.AdamGuRefIdeal.τ).loc Cert.AdamGuRefIdeal.main_arg1)
      ∧ r.2.mem ((c.tc : Thread Cert.AdamGuRefIdeal.nD Cert.AdamGuRefIdeal.τ).loc Cert.AdamGuRefIdeal.main_arg2) = m ((c.tc : Thread Cert.AdamGuRefIdeal.nD Cert.AdamGuRefIdeal.τ).loc Cert.AdamGuRefIdeal.main_arg2)
      ∧ r.2.mem ((c.tc : Thread Cert.AdamGuRefIdeal.nD Cert.AdamGuRefIdeal.τ).loc Cert.AdamGuRefIdeal.main_arg3) = m ((c.tc : Thread Cert.AdamGuRefIdeal.nD Cert.AdamGuRefIdeal.τ).loc Cert.AdamGuRefIdeal.main_arg3)
      ∧ r.2.mem ((c.tc : Thread Cert.AdamGuRefIdeal.nD Cert.AdamGuRefIdeal.τ).loc Cert.AdamGuRefIdeal.main_arg4) = m ((c.tc : Thread Cert.AdamGuRefIdeal.nD Cert.AdamGuRefIdeal.τ).loc Cert.AdamGuRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43)
      ∧ r.2.mem ((c.tc : Thread Cert.AdamSmall.nD Cert.AdamSmall.τ).loc Cert.AdamSmall.main_arg44) = m ((c.tc : Thread Cert.AdamSmall.nD Cert.AdamSmall.τ).loc Cert.AdamSmall.main_arg44)
      ∧ r.2.mem ((c.tc : Thread Cert.AdamSmall.nD Cert.AdamSmall.τ).loc Cert.AdamSmall.main_arg45) = m ((c.tc : Thread Cert.AdamSmall.nD Cert.AdamSmall.τ).loc Cert.AdamSmall.main_arg45)
      ∧ r.2.mem ((c.tc : Thread Cert.AdamSmall.nD Cert.AdamSmall.τ).loc Cert.AdamSmall.main_arg46) = m ((c.tc : Thread Cert.AdamSmall.nD Cert.AdamSmall.τ).loc Cert.AdamSmall.main_arg46)
      ∧ r.2.mem ((c.tc : Thread Cert.AdamSmall.nD Cert.AdamSmall.τ).loc Cert.AdamSmall.main_arg47) = m ((c.tc : Thread Cert.AdamSmall.nD Cert.AdamSmall.τ).loc Cert.AdamSmall.main_arg47)
      ∧ r.2.mem ((c.tc : Thread Cert.AdamSmall.nD Cert.AdamSmall.τ).loc Cert.AdamSmall.main_arg48) = m ((c.tc : Thread Cert.AdamSmall.nD Cert.AdamSmall.τ).loc Cert.AdamSmall.main_arg48)
      ∧ r.2.mem ((c.tc : Thread Cert.AdamSmall.nD Cert.AdamSmall.τ).loc Cert.AdamSmall.main_arg49) = m ((c.tc : Thread Cert.AdamSmall.nD Cert.AdamSmall.τ).loc Cert.AdamSmall.main_arg49)
      ∧ r.2.mem ((c.tc : Thread Cert.AdamSmall.nD Cert.AdamSmall.τ).loc Cert.AdamSmall.main_arg50) = m ((c.tc : Thread Cert.AdamSmall.nD Cert.AdamSmall.τ).loc Cert.AdamSmall.main_arg50)
      ∧ r.2.mem ((c.tc : Thread Cert.AdamSmall.nD Cert.AdamSmall.τ).loc Cert.AdamSmall.main_arg51) = m ((c.tc : Thread Cert.AdamSmall.nD Cert.AdamSmall.τ).loc Cert.AdamSmall.main_arg51)
      ∧ r.2.mem ((c.tc : Thread Cert.AdamSmall.nD Cert.AdamSmall.τ).loc Cert.AdamSmall.main_arg52) = m ((c.tc : Thread Cert.AdamSmall.nD Cert.AdamSmall.τ).loc Cert.AdamSmall.main_arg52)
      ∧ r.2.mem ((c.tc : Thread Cert.AdamSmall.nD Cert.AdamSmall.τ).loc Cert.AdamSmall.main_arg53) = m ((c.tc : Thread Cert.AdamSmall.nD Cert.AdamSmall.τ).loc Cert.AdamSmall.main_arg53)
      ∧ r.2.mem ((c.tc : Thread Cert.AdamSmall.nD Cert.AdamSmall.τ).loc Cert.AdamSmall.main_arg54) = m ((c.tc : Thread Cert.AdamSmall.nD Cert.AdamSmall.τ).loc Cert.AdamSmall.main_arg54)
      ∧ r.2.mem ((c.tc : Thread Cert.AdamSmall.nD Cert.AdamSmall.τ).loc Cert.AdamSmall.main_arg55) = m ((c.tc : Thread Cert.AdamSmall.nD Cert.AdamSmall.τ).loc Cert.AdamSmall.main_arg55)
      ∧ r.2.mem ((c.tc : Thread Cert.AdamSmall.nD Cert.AdamSmall.τ).loc Cert.AdamSmall.main_arg56) = m ((c.tc : Thread Cert.AdamSmall.nD Cert.AdamSmall.τ).loc Cert.AdamSmall.main_arg56)
      ∧ r.2.mem ((c.tc : Thread Cert.AdamSmall.nD Cert.AdamSmall.τ).loc Cert.AdamSmall.main_arg57) = m ((c.tc : Thread Cert.AdamSmall.nD Cert.AdamSmall.τ).loc Cert.AdamSmall.main_arg57)
      ∧ r.2.mem ((c.tc : Thread Cert.AdamSmall.nD Cert.AdamSmall.τ).loc Cert.AdamSmall.main_arg58) = m ((c.tc : Thread Cert.AdamSmall.nD Cert.AdamSmall.τ).loc Cert.AdamSmall.main_arg58)
      ∧ r.2.mem ((c.tc : Thread Cert.AdamSmall.nD Cert.AdamSmall.τ).loc Cert.AdamSmall.main_arg59) = m ((c.tc : Thread Cert.AdamSmall.nD Cert.AdamSmall.τ).loc Cert.AdamSmall.main_arg59)
      ∧ r.2.mem ((c.tc : Thread Cert.AdamSmall.nD Cert.AdamSmall.τ).loc Cert.AdamSmall.main_arg60) = m ((c.tc : Thread Cert.AdamSmall.nD Cert.AdamSmall.τ).loc Cert.AdamSmall.main_arg60)
      ∧ r.2.mem ((c.tc : Thread Cert.AdamSmall.nD Cert.AdamSmall.τ).loc Cert.AdamSmall.main_arg61) = m ((c.tc : Thread Cert.AdamSmall.nD Cert.AdamSmall.τ).loc Cert.AdamSmall.main_arg61)
      ∧ r.2.mem ((c.tc : Thread Cert.AdamSmall.nD Cert.AdamSmall.τ).loc Cert.AdamSmall.main_arg62) = m ((c.tc : Thread Cert.AdamSmall.nD Cert.AdamSmall.τ).loc Cert.AdamSmall.main_arg62)
      ∧ r.2.mem ((c.tc : Thread Cert.AdamSmall.nD Cert.AdamSmall.τ).loc Cert.AdamSmall.main_arg63) = m ((c.tc : Thread Cert.AdamSmall.nD Cert.AdamSmall.τ).loc Cert.AdamSmall.main_arg63)
      ∧ r.2.mem ((c.tc : Thread Cert.AdamSmall.nD Cert.AdamSmall.τ).loc Cert.AdamSmall.main_arg64) = m ((c.tc : Thread Cert.AdamSmall.nD Cert.AdamSmall.τ).loc Cert.AdamSmall.main_arg64)
      ∧ r.2.mem ((c.tc : Thread Cert.AdamSmall.nD Cert.AdamSmall.τ).loc Cert.AdamSmall.main_arg65) = m ((c.tc : Thread Cert.AdamSmall.nD Cert.AdamSmall.τ).loc Cert.AdamSmall.main_arg65)
      ∧ r.2.mem ((c.tc : Thread Cert.AdamSmall.nD Cert.AdamSmall.τ).loc Cert.AdamSmall.main_arg66) = m ((c.tc : Thread Cert.AdamSmall.nD Cert.AdamSmall.τ).loc Cert.AdamSmall.main_arg66)
      ∧ r.2.mem ((c.tc : Thread Cert.AdamSmall.nD Cert.AdamSmall.τ).loc Cert.AdamSmall.main_arg67) = m ((c.tc : Thread Cert.AdamSmall.nD Cert.AdamSmall.τ).loc Cert.AdamSmall.main_arg67)
      ∧ r.2.mem ((c.tc : Thread Cert.AdamSmall.nD Cert.AdamSmall.τ).loc Cert.AdamSmall.main_arg68) = m ((c.tc : Thread Cert.AdamSmall.nD Cert.AdamSmall.τ).loc Cert.AdamSmall.main_arg68)
      ∧ r.2.mem ((c.tc : Thread Cert.AdamSmall.nD Cert.AdamSmall.τ).loc Cert.AdamSmall.main_arg69) = m ((c.tc : Thread Cert.AdamSmall.nD Cert.AdamSmall.τ).loc Cert.AdamSmall.main_arg69)
      ∧ r.2.mem ((c.tc : Thread Cert.AdamSmall.nD Cert.AdamSmall.τ).loc Cert.AdamSmall.main_arg70) = m ((c.tc : Thread Cert.AdamSmall.nD Cert.AdamSmall.τ).loc Cert.AdamSmall.main_arg70)
      ∧ r.2.mem ((c.tc : Thread Cert.AdamSmall.nD Cert.AdamSmall.τ).loc Cert.AdamSmall.main_arg71) = m ((c.tc : Thread Cert.AdamSmall.nD Cert.AdamSmall.τ).loc Cert.AdamSmall.main_arg71))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
      ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
      ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
      ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
      ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
      ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
      ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
      ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
      ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51)
      ∧ r.2.mem ((c.tc : Thread Cert.AdamSmallIdeal.nD Cert.AdamSmallIdeal.τ).loc Cert.AdamSmallIdeal.main_arg52) = m ((c.tc : Thread Cert.AdamSmallIdeal.nD Cert.AdamSmallIdeal.τ).loc Cert.AdamSmallIdeal.main_arg52)
      ∧ r.2.mem ((c.tc : Thread Cert.AdamSmallIdeal.nD Cert.AdamSmallIdeal.τ).loc Cert.AdamSmallIdeal.main_arg53) = m ((c.tc : Thread Cert.AdamSmallIdeal.nD Cert.AdamSmallIdeal.τ).loc Cert.AdamSmallIdeal.main_arg53)
      ∧ r.2.mem ((c.tc : Thread Cert.AdamSmallIdeal.nD Cert.AdamSmallIdeal.τ).loc Cert.AdamSmallIdeal.main_arg54) = m ((c.tc : Thread Cert.AdamSmallIdeal.nD Cert.AdamSmallIdeal.τ).loc Cert.AdamSmallIdeal.main_arg54)
      ∧ r.2.mem ((c.tc : Thread Cert.AdamSmallIdeal.nD Cert.AdamSmallIdeal.τ).loc Cert.AdamSmallIdeal.main_arg55) = m ((c.tc : Thread Cert.AdamSmallIdeal.nD Cert.AdamSmallIdeal.τ).loc Cert.AdamSmallIdeal.main_arg55)
      ∧ r.2.mem ((c.tc : Thread Cert.AdamSmallIdeal.nD Cert.AdamSmallIdeal.τ).loc Cert.AdamSmallIdeal.main_arg56) = m ((c.tc : Thread Cert.AdamSmallIdeal.nD Cert.AdamSmallIdeal.τ).loc Cert.AdamSmallIdeal.main_arg56)
      ∧ r.2.mem ((c.tc : Thread Cert.AdamSmallIdeal.nD Cert.AdamSmallIdeal.τ).loc Cert.AdamSmallIdeal.main_arg57) = m ((c.tc : Thread Cert.AdamSmallIdeal.nD Cert.AdamSmallIdeal.τ).loc Cert.AdamSmallIdeal.main_arg57)
      ∧ r.2.mem ((c.tc : Thread Cert.AdamSmallIdeal.nD Cert.AdamSmallIdeal.τ).loc Cert.AdamSmallIdeal.main_arg58) = m ((c.tc : Thread Cert.AdamSmallIdeal.nD Cert.AdamSmallIdeal.τ).loc Cert.AdamSmallIdeal.main_arg58)
      ∧ r.2.mem ((c.tc : Thread Cert.AdamSmallIdeal.nD Cert.AdamSmallIdeal.τ).loc Cert.AdamSmallIdeal.main_arg59) = m ((c.tc : Thread Cert.AdamSmallIdeal.nD Cert.AdamSmallIdeal.τ).loc Cert.AdamSmallIdeal.main_arg59)
      ∧ r.2.mem ((c.tc : Thread Cert.AdamSmallIdeal.nD Cert.AdamSmallIdeal.τ).loc Cert.AdamSmallIdeal.main_arg60) = m ((c.tc : Thread Cert.AdamSmallIdeal.nD Cert.AdamSmallIdeal.τ).loc Cert.AdamSmallIdeal.main_arg60)
      ∧ r.2.mem ((c.tc : Thread Cert.AdamSmallIdeal.nD Cert.AdamSmallIdeal.τ).loc Cert.AdamSmallIdeal.main_arg61) = m ((c.tc : Thread Cert.AdamSmallIdeal.nD Cert.AdamSmallIdeal.τ).loc Cert.AdamSmallIdeal.main_arg61)
      ∧ r.2.mem ((c.tc : Thread Cert.AdamSmallIdeal.nD Cert.AdamSmallIdeal.τ).loc Cert.AdamSmallIdeal.main_arg62) = m ((c.tc : Thread Cert.AdamSmallIdeal.nD Cert.AdamSmallIdeal.τ).loc Cert.AdamSmallIdeal.main_arg62)
      ∧ r.2.mem ((c.tc : Thread Cert.AdamSmallIdeal.nD Cert.AdamSmallIdeal.τ).loc Cert.AdamSmallIdeal.main_arg63) = m ((c.tc : Thread Cert.AdamSmallIdeal.nD Cert.AdamSmallIdeal.τ).loc Cert.AdamSmallIdeal.main_arg63)
      ∧ r.2.mem ((c.tc : Thread Cert.AdamSmallIdeal.nD Cert.AdamSmallIdeal.τ).loc Cert.AdamSmallIdeal.main_arg64) = m ((c.tc : Thread Cert.AdamSmallIdeal.nD Cert.AdamSmallIdeal.τ).loc Cert.AdamSmallIdeal.main_arg64)
      ∧ r.2.mem ((c.tc : Thread Cert.AdamSmallIdeal.nD Cert.AdamSmallIdeal.τ).loc Cert.AdamSmallIdeal.main_arg65) = m ((c.tc : Thread Cert.AdamSmallIdeal.nD Cert.AdamSmallIdeal.τ).loc Cert.AdamSmallIdeal.main_arg65)
      ∧ r.2.mem ((c.tc : Thread Cert.AdamSmallIdeal.nD Cert.AdamSmallIdeal.τ).loc Cert.AdamSmallIdeal.main_arg66) = m ((c.tc : Thread Cert.AdamSmallIdeal.nD Cert.AdamSmallIdeal.τ).loc Cert.AdamSmallIdeal.main_arg66)
      ∧ r.2.mem ((c.tc : Thread Cert.AdamSmallIdeal.nD Cert.AdamSmallIdeal.τ).loc Cert.AdamSmallIdeal.main_arg67) = m ((c.tc : Thread Cert.AdamSmallIdeal.nD Cert.AdamSmallIdeal.τ).loc Cert.AdamSmallIdeal.main_arg67)
      ∧ r.2.mem ((c.tc : Thread Cert.AdamSmallIdeal.nD Cert.AdamSmallIdeal.τ).loc Cert.AdamSmallIdeal.main_arg68) = m ((c.tc : Thread Cert.AdamSmallIdeal.nD Cert.AdamSmallIdeal.τ).loc Cert.AdamSmallIdeal.main_arg68)
      ∧ r.2.mem ((c.tc : Thread Cert.AdamSmallIdeal.nD Cert.AdamSmallIdeal.τ).loc Cert.AdamSmallIdeal.main_arg69) = m ((c.tc : Thread Cert.AdamSmallIdeal.nD Cert.AdamSmallIdeal.τ).loc Cert.AdamSmallIdeal.main_arg69)
      ∧ r.2.mem ((c.tc : Thread Cert.AdamSmallIdeal.nD Cert.AdamSmallIdeal.τ).loc Cert.AdamSmallIdeal.main_arg70) = m ((c.tc : Thread Cert.AdamSmallIdeal.nD Cert.AdamSmallIdeal.τ).loc Cert.AdamSmallIdeal.main_arg70)
      ∧ r.2.mem ((c.tc : Thread Cert.AdamSmallIdeal.nD Cert.AdamSmallIdeal.τ).loc Cert.AdamSmallIdeal.main_arg71) = m ((c.tc : Thread Cert.AdamSmallIdeal.nD Cert.AdamSmallIdeal.τ).loc Cert.AdamSmallIdeal.main_arg71))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39)
      ∧ r.2.mem ((c.tc : Thread Cert.AdamSmallRefIdeal.nD Cert.AdamSmallRefIdeal.τ).loc Cert.AdamSmallRefIdeal.main_arg40) = m ((c.tc : Thread Cert.AdamSmallRefIdeal.nD Cert.AdamSmallRefIdeal.τ).loc Cert.AdamSmallRefIdeal.main_arg40)
      ∧ r.2.mem ((c.tc : Thread Cert.AdamSmallRefIdeal.nD Cert.AdamSmallRefIdeal.τ).loc Cert.AdamSmallRefIdeal.main_arg41) = m ((c.tc : Thread Cert.AdamSmallRefIdeal.nD Cert.AdamSmallRefIdeal.τ).loc Cert.AdamSmallRefIdeal.main_arg41)
      ∧ r.2.mem ((c.tc : Thread Cert.AdamSmallRefIdeal.nD Cert.AdamSmallRefIdeal.τ).loc Cert.AdamSmallRefIdeal.main_arg42) = m ((c.tc : Thread Cert.AdamSmallRefIdeal.nD Cert.AdamSmallRefIdeal.τ).loc Cert.AdamSmallRefIdeal.main_arg42)
      ∧ r.2.mem ((c.tc : Thread Cert.AdamSmallRefIdeal.nD Cert.AdamSmallRefIdeal.τ).loc Cert.AdamSmallRefIdeal.main_arg43) = m ((c.tc : Thread Cert.AdamSmallRefIdeal.nD Cert.AdamSmallRefIdeal.τ).loc Cert.AdamSmallRefIdeal.main_arg43)
      ∧ r.2.mem ((c.tc : Thread Cert.AdamSmallRefIdeal.nD Cert.AdamSmallRefIdeal.τ).loc Cert.AdamSmallRefIdeal.main_arg44) = m ((c.tc : Thread Cert.AdamSmallRefIdeal.nD Cert.AdamSmallRefIdeal.τ).loc Cert.AdamSmallRefIdeal.main_arg44)
      ∧ r.2.mem ((c.tc : Thread Cert.AdamSmallRefIdeal.nD Cert.AdamSmallRefIdeal.τ).loc Cert.AdamSmallRefIdeal.main_arg45) = m ((c.tc : Thread Cert.AdamSmallRefIdeal.nD Cert.AdamSmallRefIdeal.τ).loc Cert.AdamSmallRefIdeal.main_arg45)
      ∧ r.2.mem ((c.tc : Thread Cert.AdamSmallRefIdeal.nD Cert.AdamSmallRefIdeal.τ).loc Cert.AdamSmallRefIdeal.main_arg46) = m ((c.tc : Thread Cert.AdamSmallRefIdeal.nD Cert.AdamSmallRefIdeal.τ).loc Cert.AdamSmallRefIdeal.main_arg46)
      ∧ r.2.mem ((c.tc : Thread Cert.AdamSmallRefIdeal.nD Cert.AdamSmallRefIdeal.τ).loc Cert.AdamSmallRefIdeal.main_arg47) = m ((c.tc : Thread Cert.AdamSmallRefIdeal.nD Cert.AdamSmallRefIdeal.τ).loc Cert.AdamSmallRefIdeal.main_arg47)
      ∧ r.2.mem ((c.tc : Thread Cert.AdamSmallRefIdeal.nD Cert.AdamSmallRefIdeal.τ).loc Cert.AdamSmallRefIdeal.main_arg48) = m ((c.tc : Thread Cert.AdamSmallRefIdeal.nD Cert.AdamSmallRefIdeal.τ).loc Cert.AdamSmallRefIdeal.main_arg48)
      ∧ r.2.mem ((c.tc : Thread Cert.AdamSmallRefIdeal.nD Cert.AdamSmallRefIdeal.τ).loc Cert.AdamSmallRefIdeal.main_arg49) = m ((c.tc : Thread Cert.AdamSmallRefIdeal.nD Cert.AdamSmallRefIdeal.τ).loc Cert.AdamSmallRefIdeal.main_arg49)
      ∧ r.2.mem ((c.tc : Thread Cert.AdamSmallRefIdeal.nD Cert.AdamSmallRefIdeal.τ).loc Cert.AdamSmallRefIdeal.main_arg50) = m ((c.tc : Thread Cert.AdamSmallRefIdeal.nD Cert.AdamSmallRefIdeal.τ).loc Cert.AdamSmallRefIdeal.main_arg50)
      ∧ r.2.mem ((c.tc : Thread Cert.AdamSmallRefIdeal.nD Cert.AdamSmallRefIdeal.τ).loc Cert.AdamSmallRefIdeal.main_arg51) = m ((c.tc : Thread Cert.AdamSmallRefIdeal.nD Cert.AdamSmallRefIdeal.τ).loc Cert.AdamSmallRefIdeal.main_arg51)
      ∧ r.2.mem ((c.tc : Thread Cert.AdamSmallRefIdeal.nD Cert.AdamSmallRefIdeal.τ).loc Cert.AdamSmallRefIdeal.main_arg52) = m ((c.tc : Thread Cert.AdamSmallRefIdeal.nD Cert.AdamSmallRefIdeal.τ).loc Cert.AdamSmallRefIdeal.main_arg52)
      ∧ r.2.mem ((c.tc : Thread Cert.AdamSmallRefIdeal.nD Cert.AdamSmallRefIdeal.τ).loc Cert.AdamSmallRefIdeal.main_arg53) = m ((c.tc : Thread Cert.AdamSmallRefIdeal.nD Cert.AdamSmallRefIdeal.τ).loc Cert.AdamSmallRefIdeal.main_arg53)
      ∧ r.2.mem ((c.tc : Thread Cert.AdamSmallRefIdeal.nD Cert.AdamSmallRefIdeal.τ).loc Cert.AdamSmallRefIdeal.main_arg54) = m ((c.tc : Thread Cert.AdamSmallRefIdeal.nD Cert.AdamSmallRefIdeal.τ).loc Cert.AdamSmallRefIdeal.main_arg54)
      ∧ r.2.mem ((c.tc : Thread Cert.AdamSmallRefIdeal.nD Cert.AdamSmallRefIdeal.τ).loc Cert.AdamSmallRefIdeal.main_arg55) = m ((c.tc : Thread Cert.AdamSmallRefIdeal.nD Cert.AdamSmallRefIdeal.τ).loc Cert.AdamSmallRefIdeal.main_arg55)
      ∧ r.2.mem ((c.tc : Thread Cert.AdamSmallRefIdeal.nD Cert.AdamSmallRefIdeal.τ).loc Cert.AdamSmallRefIdeal.main_arg56) = m ((c.tc : Thread Cert.AdamSmallRefIdeal.nD Cert.AdamSmallRefIdeal.τ).loc Cert.AdamSmallRefIdeal.main_arg56)
      ∧ r.2.mem ((c.tc : Thread Cert.AdamSmallRefIdeal.nD Cert.AdamSmallRefIdeal.τ).loc Cert.AdamSmallRefIdeal.main_arg57) = m ((c.tc : Thread Cert.AdamSmallRefIdeal.nD Cert.AdamSmallRefIdeal.τ).loc Cert.AdamSmallRefIdeal.main_arg57)
      ∧ r.2.mem ((c.tc : Thread Cert.AdamSmallRefIdeal.nD Cert.AdamSmallRefIdeal.τ).loc Cert.AdamSmallRefIdeal.main_arg58) = m ((c.tc : Thread Cert.AdamSmallRefIdeal.nD Cert.AdamSmallRefIdeal.τ).loc Cert.AdamSmallRefIdeal.main_arg58)
      ∧ r.2.mem ((c.tc : Thread Cert.AdamSmallRefIdeal.nD Cert.AdamSmallRefIdeal.τ).loc Cert.AdamSmallRefIdeal.main_arg59) = m ((c.tc : Thread Cert.AdamSmallRefIdeal.nD Cert.AdamSmallRefIdeal.τ).loc Cert.AdamSmallRefIdeal.main_arg59)
      ∧ r.2.mem ((c.tc : Thread Cert.AdamSmallRefIdeal.nD Cert.AdamSmallRefIdeal.τ).loc Cert.AdamSmallRefIdeal.main_arg60) = m ((c.tc : Thread Cert.AdamSmallRefIdeal.nD Cert.AdamSmallRefIdeal.τ).loc Cert.AdamSmallRefIdeal.main_arg60)
      ∧ r.2.mem ((c.tc : Thread Cert.AdamSmallRefIdeal.nD Cert.AdamSmallRefIdeal.τ).loc Cert.AdamSmallRefIdeal.main_arg61) = m ((c.tc : Thread Cert.AdamSmallRefIdeal.nD Cert.AdamSmallRefIdeal.τ).loc Cert.AdamSmallRefIdeal.main_arg61)
      ∧ r.2.mem ((c.tc : Thread Cert.AdamSmallRefIdeal.nD Cert.AdamSmallRefIdeal.τ).loc Cert.AdamSmallRefIdeal.main_arg62) = m ((c.tc : Thread Cert.AdamSmallRefIdeal.nD Cert.AdamSmallRefIdeal.τ).loc Cert.AdamSmallRefIdeal.main_arg62)
      ∧ r.2.mem ((c.tc : Thread Cert.AdamSmallRefIdeal.nD Cert.AdamSmallRefIdeal.τ).loc Cert.AdamSmallRefIdeal.main_arg63) = m ((c.tc : Thread Cert.AdamSmallRefIdeal.nD Cert.AdamSmallRefIdeal.τ).loc Cert.AdamSmallRefIdeal.main_arg63)
      ∧ r.2.mem ((c.tc : Thread Cert.AdamSmallRefIdeal.nD Cert.AdamSmallRefIdeal.τ).loc Cert.AdamSmallRefIdeal.main_arg64) = m ((c.tc : Thread Cert.AdamSmallRefIdeal.nD Cert.AdamSmallRefIdeal.τ).loc Cert.AdamSmallRefIdeal.main_arg64)
      ∧ r.2.mem ((c.tc : Thread Cert.AdamSmallRefIdeal.nD Cert.AdamSmallRefIdeal.τ).loc Cert.AdamSmallRefIdeal.main_arg65) = m ((c.tc : Thread Cert.AdamSmallRefIdeal.nD Cert.AdamSmallRefIdeal.τ).loc Cert.AdamSmallRefIdeal.main_arg65)
      ∧ r.2.mem ((c.tc : Thread Cert.AdamSmallRefIdeal.nD Cert.AdamSmallRefIdeal.τ).loc Cert.AdamSmallRefIdeal.main_arg66) = m ((c.tc : Thread Cert.AdamSmallRefIdeal.nD Cert.AdamSmallRefIdeal.τ).loc Cert.AdamSmallRefIdeal.main_arg66)
      ∧ r.2.mem ((c.tc : Thread Cert.AdamSmallRefIdeal.nD Cert.AdamSmallRefIdeal.τ).loc Cert.AdamSmallRefIdeal.main_arg67) = m ((c.tc : Thread Cert.AdamSmallRefIdeal.nD Cert.AdamSmallRefIdeal.τ).loc Cert.AdamSmallRefIdeal.main_arg67)
      ∧ r.2.mem ((c.tc : Thread Cert.AdamSmallRefIdeal.nD Cert.AdamSmallRefIdeal.τ).loc Cert.AdamSmallRefIdeal.main_arg68) = m ((c.tc : Thread Cert.AdamSmallRefIdeal.nD Cert.AdamSmallRefIdeal.τ).loc Cert.AdamSmallRefIdeal.main_arg68)
      ∧ r.2.mem ((c.tc : Thread Cert.AdamSmallRefIdeal.nD Cert.AdamSmallRefIdeal.τ).loc Cert.AdamSmallRefIdeal.main_arg69) = m ((c.tc : Thread Cert.AdamSmallRefIdeal.nD Cert.AdamSmallRefIdeal.τ).loc Cert.AdamSmallRefIdeal.main_arg69)
      ∧ r.2.mem ((c.tc : Thread Cert.AdamSmallRefIdeal.nD Cert.AdamSmallRefIdeal.τ).loc Cert.AdamSmallRefIdeal.main_arg70) = m ((c.tc : Thread Cert.AdamSmallRefIdeal.nD Cert.AdamSmallRefIdeal.τ).loc Cert.AdamSmallRefIdeal.main_arg70)
      ∧ r.2.mem ((c.tc : Thread Cert.AdamSmallRefIdeal.nD Cert.AdamSmallRefIdeal.τ).loc Cert.AdamSmallRefIdeal.main_arg71) = m ((c.tc : Thread Cert.AdamSmallRefIdeal.nD Cert.AdamSmallRefIdeal.τ).loc Cert.AdamSmallRefIdeal.main_arg71))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_SumAda [hSumAda : Cert.SumAda.Facts] : Prop :=
  ∀ (m : (ℓ : Loc Cert.SumAda.nD Cert.SumAda.τ Cert.SumAda.sig) → Buf (Elt Bits) ℓ) (g : Dev Cert.SumAda.nD → PrngReg), Pre_SumAda m →
    θ_run (Cert.SumAda.defs (F := Bits)) (onTc (τ := Cert.SumAda.τ) (Cert.SumAda.main (F := Bits))) ⟨m, fun _ => 0, g⟩ (fun r => (∀ c : Dev Cert.SumAda.nD,
      r.2.mem ((c.tc : Thread Cert.SumAda.nD Cert.SumAda.τ).loc Cert.SumAda.main_arg0) = m ((c.tc : Thread Cert.SumAda.nD Cert.SumAda.τ).loc Cert.SumAda.main_arg0))
      ∧ r.2.sem = fun _ => 0)

def quiescent_SumAdaIdeal [hSumAdaIdeal : Cert.SumAdaIdeal.Facts] : Prop :=
  ∀ (m : (ℓ : Loc Cert.SumAdaIdeal.nD Cert.SumAdaIdeal.τ Cert.SumAdaIdeal.sig) → Buf (Elt Ideal) ℓ) (g : Dev Cert.SumAdaIdeal.nD → PrngReg), Pre_SumAdaIdeal m →
    θ_run (Cert.SumAdaIdeal.defs (F := Ideal)) (onTc (τ := Cert.SumAdaIdeal.τ) (Cert.SumAdaIdeal.main (F := Ideal))) ⟨m, fun _ => 0, g⟩ (fun r => (∀ c : Dev Cert.SumAdaIdeal.nD,
      r.2.mem ((c.tc : Thread Cert.SumAdaIdeal.nD Cert.SumAdaIdeal.τ).loc Cert.SumAdaIdeal.main_arg0) = m ((c.tc : Thread Cert.SumAdaIdeal.nD Cert.SumAdaIdeal.τ).loc Cert.SumAdaIdeal.main_arg0))
      ∧ r.2.sem = fun _ => 0)

def quiescent_SumAdaRefIdeal [hSumAdaRefIdeal : Cert.SumAdaRefIdeal.Facts] : Prop :=
  ∀ (m : (ℓ : Loc Cert.SumAdaRefIdeal.nD Cert.SumAdaRefIdeal.τ Cert.SumAdaRefIdeal.sig) → Buf (Elt Ideal) ℓ) (g : Dev Cert.SumAdaRefIdeal.nD → PrngReg), Pre_SumAdaRefIdeal m →
    θ_run (Cert.SumAdaRefIdeal.defs (F := Ideal)) (onTc (τ := Cert.SumAdaRefIdeal.τ) (Cert.SumAdaRefIdeal.main (F := Ideal))) ⟨m, fun _ => 0, g⟩ (fun r => (∀ c : Dev Cert.SumAdaRefIdeal.nD,
      r.2.mem ((c.tc : Thread Cert.SumAdaRefIdeal.nD Cert.SumAdaRefIdeal.τ).loc Cert.SumAdaRefIdeal.main_arg0) = m ((c.tc : Thread Cert.SumAdaRefIdeal.nD Cert.SumAdaRefIdeal.τ).loc Cert.SumAdaRefIdeal.main_arg0))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0)
      ∧ r.2.mem ((c.tc : Thread Cert.SumIn.nD Cert.SumIn.τ).loc Cert.SumIn.main_arg1) = m ((c.tc : Thread Cert.SumIn.nD Cert.SumIn.τ).loc Cert.SumIn.main_arg1))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
      ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0)
      ∧ r.2.mem ((c.tc : Thread Cert.SumInRefIdeal.nD Cert.SumInRefIdeal.τ).loc Cert.SumInRefIdeal.main_arg1) = m ((c.tc : Thread Cert.SumInRefIdeal.nD Cert.SumInRefIdeal.τ).loc Cert.SumInRefIdeal.main_arg1))
      ∧ r.2.sem = fun _ => 0)

def quiescent_SumPa [hSumPa : Cert.SumPa.Facts] : Prop :=
  ∀ (m : (ℓ : Loc Cert.SumPa.nD Cert.SumPa.τ Cert.SumPa.sig) → Buf (Elt Bits) ℓ) (g : Dev Cert.SumPa.nD → PrngReg), Pre_SumPa m →
    θ_run (Cert.SumPa.defs (F := Bits)) (onTc (τ := Cert.SumPa.τ) (Cert.SumPa.main (F := Bits))) ⟨m, fun _ => 0, g⟩ (fun r => (∀ c : Dev Cert.SumPa.nD,
      r.2.mem ((c.tc : Thread Cert.SumPa.nD Cert.SumPa.τ).loc Cert.SumPa.main_arg0) = m ((c.tc : Thread Cert.SumPa.nD Cert.SumPa.τ).loc Cert.SumPa.main_arg0)
      ∧ r.2.mem ((c.tc : Thread Cert.SumPa.nD Cert.SumPa.τ).loc Cert.SumPa.main_arg1) = m ((c.tc : Thread Cert.SumPa.nD Cert.SumPa.τ).loc Cert.SumPa.main_arg1))
      ∧ r.2.sem = fun _ => 0)

def quiescent_SumPaIdeal [hSumPaIdeal : Cert.SumPaIdeal.Facts] : Prop :=
  ∀ (m : (ℓ : Loc Cert.SumPaIdeal.nD Cert.SumPaIdeal.τ Cert.SumPaIdeal.sig) → Buf (Elt Ideal) ℓ) (g : Dev Cert.SumPaIdeal.nD → PrngReg), Pre_SumPaIdeal m →
    θ_run (Cert.SumPaIdeal.defs (F := Ideal)) (onTc (τ := Cert.SumPaIdeal.τ) (Cert.SumPaIdeal.main (F := Ideal))) ⟨m, fun _ => 0, g⟩ (fun r => (∀ c : Dev Cert.SumPaIdeal.nD,
      r.2.mem ((c.tc : Thread Cert.SumPaIdeal.nD Cert.SumPaIdeal.τ).loc Cert.SumPaIdeal.main_arg0) = m ((c.tc : Thread Cert.SumPaIdeal.nD Cert.SumPaIdeal.τ).loc Cert.SumPaIdeal.main_arg0)
      ∧ r.2.mem ((c.tc : Thread Cert.SumPaIdeal.nD Cert.SumPaIdeal.τ).loc Cert.SumPaIdeal.main_arg1) = m ((c.tc : Thread Cert.SumPaIdeal.nD Cert.SumPaIdeal.τ).loc Cert.SumPaIdeal.main_arg1))
      ∧ r.2.sem = fun _ => 0)

def quiescent_SumPaRefIdeal [hSumPaRefIdeal : Cert.SumPaRefIdeal.Facts] : Prop :=
  ∀ (m : (ℓ : Loc Cert.SumPaRefIdeal.nD Cert.SumPaRefIdeal.τ Cert.SumPaRefIdeal.sig) → Buf (Elt Ideal) ℓ) (g : Dev Cert.SumPaRefIdeal.nD → PrngReg), Pre_SumPaRefIdeal m →
    θ_run (Cert.SumPaRefIdeal.defs (F := Ideal)) (onTc (τ := Cert.SumPaRefIdeal.τ) (Cert.SumPaRefIdeal.main (F := Ideal))) ⟨m, fun _ => 0, g⟩ (fun r => (∀ c : Dev Cert.SumPaRefIdeal.nD,
      r.2.mem ((c.tc : Thread Cert.SumPaRefIdeal.nD Cert.SumPaRefIdeal.τ).loc Cert.SumPaRefIdeal.main_arg0) = m ((c.tc : Thread Cert.SumPaRefIdeal.nD Cert.SumPaRefIdeal.τ).loc Cert.SumPaRefIdeal.main_arg0)
      ∧ r.2.mem ((c.tc : Thread Cert.SumPaRefIdeal.nD Cert.SumPaRefIdeal.τ).loc Cert.SumPaRefIdeal.main_arg1) = m ((c.tc : Thread Cert.SumPaRefIdeal.nD Cert.SumPaRefIdeal.τ).loc Cert.SumPaRefIdeal.main_arg1))
      ∧ r.2.sem = fun _ => 0)

def quiescent_SumPb [hSumPb : Cert.SumPb.Facts] : Prop :=
  ∀ (m : (ℓ : Loc Cert.SumPb.nD Cert.SumPb.τ Cert.SumPb.sig) → Buf (Elt Bits) ℓ) (g : Dev Cert.SumPb.nD → PrngReg), Pre_SumPb m →
    θ_run (Cert.SumPb.defs (F := Bits)) (onTc (τ := Cert.SumPb.τ) (Cert.SumPb.main (F := Bits))) ⟨m, fun _ => 0, g⟩ (fun r => (∀ c : Dev Cert.SumPb.nD,
      r.2.mem ((c.tc : Thread Cert.SumPb.nD Cert.SumPb.τ).loc Cert.SumPb.main_arg0) = m ((c.tc : Thread Cert.SumPb.nD Cert.SumPb.τ).loc Cert.SumPb.main_arg0)
      ∧ r.2.mem ((c.tc : Thread Cert.SumPb.nD Cert.SumPb.τ).loc Cert.SumPb.main_arg1) = m ((c.tc : Thread Cert.SumPb.nD Cert.SumPb.τ).loc Cert.SumPb.main_arg1))
      ∧ r.2.sem = fun _ => 0)

def quiescent_SumPbIdeal [hSumPbIdeal : Cert.SumPbIdeal.Facts] : Prop :=
  ∀ (m : (ℓ : Loc Cert.SumPbIdeal.nD Cert.SumPbIdeal.τ Cert.SumPbIdeal.sig) → Buf (Elt Ideal) ℓ) (g : Dev Cert.SumPbIdeal.nD → PrngReg), Pre_SumPbIdeal m →
    θ_run (Cert.SumPbIdeal.defs (F := Ideal)) (onTc (τ := Cert.SumPbIdeal.τ) (Cert.SumPbIdeal.main (F := Ideal))) ⟨m, fun _ => 0, g⟩ (fun r => (∀ c : Dev Cert.SumPbIdeal.nD,
      r.2.mem ((c.tc : Thread Cert.SumPbIdeal.nD Cert.SumPbIdeal.τ).loc Cert.SumPbIdeal.main_arg0) = m ((c.tc : Thread Cert.SumPbIdeal.nD Cert.SumPbIdeal.τ).loc Cert.SumPbIdeal.main_arg0)
      ∧ r.2.mem ((c.tc : Thread Cert.SumPbIdeal.nD Cert.SumPbIdeal.τ).loc Cert.SumPbIdeal.main_arg1) = m ((c.tc : Thread Cert.SumPbIdeal.nD Cert.SumPbIdeal.τ).loc Cert.SumPbIdeal.main_arg1))
      ∧ r.2.sem = fun _ => 0)

def quiescent_SumPbRefIdeal [hSumPbRefIdeal : Cert.SumPbRefIdeal.Facts] : Prop :=
  ∀ (m : (ℓ : Loc Cert.SumPbRefIdeal.nD Cert.SumPbRefIdeal.τ Cert.SumPbRefIdeal.sig) → Buf (Elt Ideal) ℓ) (g : Dev Cert.SumPbRefIdeal.nD → PrngReg), Pre_SumPbRefIdeal m →
    θ_run (Cert.SumPbRefIdeal.defs (F := Ideal)) (onTc (τ := Cert.SumPbRefIdeal.τ) (Cert.SumPbRefIdeal.main (F := Ideal))) ⟨m, fun _ => 0, g⟩ (fun r => (∀ c : Dev Cert.SumPbRefIdeal.nD,
      r.2.mem ((c.tc : Thread Cert.SumPbRefIdeal.nD Cert.SumPbRefIdeal.τ).loc Cert.SumPbRefIdeal.main_arg0) = m ((c.tc : Thread Cert.SumPbRefIdeal.nD Cert.SumPbRefIdeal.τ).loc Cert.SumPbRefIdeal.main_arg0)
      ∧ r.2.mem ((c.tc : Thread Cert.SumPbRefIdeal.nD Cert.SumPbRefIdeal.τ).loc Cert.SumPbRefIdeal.main_arg1) = m ((c.tc : Thread Cert.SumPbRefIdeal.nD Cert.SumPbRefIdeal.τ).loc Cert.SumPbRefIdeal.main_arg1))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0)
      ∧ r.2.mem ((c.tc : Thread Cert.SumOut.nD Cert.SumOut.τ).loc Cert.SumOut.main_arg1) = m ((c.tc : Thread Cert.SumOut.nD Cert.SumOut.τ).loc Cert.SumOut.main_arg1))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
      ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0)
      ∧ r.2.mem ((c.tc : Thread Cert.SumOutRefIdeal.nD Cert.SumOutRefIdeal.τ).loc Cert.SumOutRefIdeal.main_arg1) = m ((c.tc : Thread Cert.SumOutRefIdeal.nD Cert.SumOutRefIdeal.τ).loc Cert.SumOutRefIdeal.main_arg1))
      ∧ r.2.sem = fun _ => 0)

def quiescent_SumGu [hSumGu : Cert.SumGu.Facts] : Prop :=
  ∀ (m : (ℓ : Loc Cert.SumGu.nD Cert.SumGu.τ Cert.SumGu.sig) → Buf (Elt Bits) ℓ) (g : Dev Cert.SumGu.nD → PrngReg), Pre_SumGu m →
    θ_run (Cert.SumGu.defs (F := Bits)) (onTc (τ := Cert.SumGu.τ) (Cert.SumGu.main (F := Bits))) ⟨m, fun _ => 0, g⟩ (fun r => (∀ c : Dev Cert.SumGu.nD,
      r.2.mem ((c.tc : Thread Cert.SumGu.nD Cert.SumGu.τ).loc Cert.SumGu.main_arg0) = m ((c.tc : Thread Cert.SumGu.nD Cert.SumGu.τ).loc Cert.SumGu.main_arg0)
      ∧ r.2.mem ((c.tc : Thread Cert.SumGu.nD Cert.SumGu.τ).loc Cert.SumGu.main_arg1) = m ((c.tc : Thread Cert.SumGu.nD Cert.SumGu.τ).loc Cert.SumGu.main_arg1))
      ∧ r.2.sem = fun _ => 0)

def quiescent_SumGuIdeal [hSumGuIdeal : Cert.SumGuIdeal.Facts] : Prop :=
  ∀ (m : (ℓ : Loc Cert.SumGuIdeal.nD Cert.SumGuIdeal.τ Cert.SumGuIdeal.sig) → Buf (Elt Ideal) ℓ) (g : Dev Cert.SumGuIdeal.nD → PrngReg), Pre_SumGuIdeal m →
    θ_run (Cert.SumGuIdeal.defs (F := Ideal)) (onTc (τ := Cert.SumGuIdeal.τ) (Cert.SumGuIdeal.main (F := Ideal))) ⟨m, fun _ => 0, g⟩ (fun r => (∀ c : Dev Cert.SumGuIdeal.nD,
      r.2.mem ((c.tc : Thread Cert.SumGuIdeal.nD Cert.SumGuIdeal.τ).loc Cert.SumGuIdeal.main_arg0) = m ((c.tc : Thread Cert.SumGuIdeal.nD Cert.SumGuIdeal.τ).loc Cert.SumGuIdeal.main_arg0)
      ∧ r.2.mem ((c.tc : Thread Cert.SumGuIdeal.nD Cert.SumGuIdeal.τ).loc Cert.SumGuIdeal.main_arg1) = m ((c.tc : Thread Cert.SumGuIdeal.nD Cert.SumGuIdeal.τ).loc Cert.SumGuIdeal.main_arg1))
      ∧ r.2.sem = fun _ => 0)

def quiescent_SumGuRefIdeal [hSumGuRefIdeal : Cert.SumGuRefIdeal.Facts] : Prop :=
  ∀ (m : (ℓ : Loc Cert.SumGuRefIdeal.nD Cert.SumGuRefIdeal.τ Cert.SumGuRefIdeal.sig) → Buf (Elt Ideal) ℓ) (g : Dev Cert.SumGuRefIdeal.nD → PrngReg), Pre_SumGuRefIdeal m →
    θ_run (Cert.SumGuRefIdeal.defs (F := Ideal)) (onTc (τ := Cert.SumGuRefIdeal.τ) (Cert.SumGuRefIdeal.main (F := Ideal))) ⟨m, fun _ => 0, g⟩ (fun r => (∀ c : Dev Cert.SumGuRefIdeal.nD,
      r.2.mem ((c.tc : Thread Cert.SumGuRefIdeal.nD Cert.SumGuRefIdeal.τ).loc Cert.SumGuRefIdeal.main_arg0) = m ((c.tc : Thread Cert.SumGuRefIdeal.nD Cert.SumGuRefIdeal.τ).loc Cert.SumGuRefIdeal.main_arg0)
      ∧ r.2.mem ((c.tc : Thread Cert.SumGuRefIdeal.nD Cert.SumGuRefIdeal.τ).loc Cert.SumGuRefIdeal.main_arg1) = m ((c.tc : Thread Cert.SumGuRefIdeal.nD Cert.SumGuRefIdeal.τ).loc Cert.SumGuRefIdeal.main_arg1))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0)
      ∧ r.2.mem ((c.tc : Thread Cert.SumDown.nD Cert.SumDown.τ).loc Cert.SumDown.main_arg1) = m ((c.tc : Thread Cert.SumDown.nD Cert.SumDown.τ).loc Cert.SumDown.main_arg1))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0)
      ∧ r.2.mem ((c.tc : Thread Cert.SumDownIdeal.nD Cert.SumDownIdeal.τ).loc Cert.SumDownIdeal.main_arg1) = m ((c.tc : Thread Cert.SumDownIdeal.nD Cert.SumDownIdeal.τ).loc Cert.SumDownIdeal.main_arg1))
      ∧ r.2.sem = fun _ => 0)

def quiescent_SumDownRefIdeal [hSumDownRefIdeal : Cert.SumDownRefIdeal.Facts] : Prop :=
  ∀ (m : (ℓ : Loc Cert.SumDownRefIdeal.nD Cert.SumDownRefIdeal.τ Cert.SumDownRefIdeal.sig) → Buf (Elt Ideal) ℓ) (g : Dev Cert.SumDownRefIdeal.nD → PrngReg), Pre_SumDownRefIdeal m →
    θ_run (Cert.SumDownRefIdeal.defs (F := Ideal)) (onTc (τ := Cert.SumDownRefIdeal.τ) (Cert.SumDownRefIdeal.main (F := Ideal))) ⟨m, fun _ => 0, g⟩ (fun r => (∀ c : Dev Cert.SumDownRefIdeal.nD,
      r.2.mem ((c.tc : Thread Cert.SumDownRefIdeal.nD Cert.SumDownRefIdeal.τ).loc Cert.SumDownRefIdeal.main_arg0) = m ((c.tc : Thread Cert.SumDownRefIdeal.nD Cert.SumDownRefIdeal.τ).loc Cert.SumDownRefIdeal.main_arg0)
      ∧ r.2.mem ((c.tc : Thread Cert.SumDownRefIdeal.nD Cert.SumDownRefIdeal.τ).loc Cert.SumDownRefIdeal.main_arg1) = m ((c.tc : Thread Cert.SumDownRefIdeal.nD Cert.SumDownRefIdeal.τ).loc Cert.SumDownRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_DRec_DRecIdeal : Prop :=
  True

def algebraic_DRecIdeal_DRecRefIdeal [hDRecIdeal : Cert.DRecIdeal.Facts] [hDRecRefIdeal : Cert.DRecRefIdeal.Facts] : Prop :=
  ∀ (m : (ℓ : Loc Cert.DRecIdeal.nD Cert.DRecIdeal.τ Cert.DRecIdeal.sig) → Buf (Elt Ideal) ℓ) (g : Dev Cert.DRecIdeal.nD → PrngReg)
    (m' : (ℓ : Loc Cert.DRecRefIdeal.nD Cert.DRecRefIdeal.τ Cert.DRecRefIdeal.sig) → Buf (Elt Ideal) ℓ) (g' : Dev Cert.DRecRefIdeal.nD → PrngReg), Pre_DRecIdeal m →
    (∀ c : Dev Cert.DRecIdeal.nD,
      m' ((c.tc : Thread Cert.DRecRefIdeal.nD Cert.DRecRefIdeal.τ).loc Cert.DRecRefIdeal.main_arg0) = m ((c.tc : Thread Cert.DRecIdeal.nD Cert.DRecIdeal.τ).loc Cert.DRecIdeal.main_arg0)
      ∧ m' ((c.tc : Thread Cert.DRecRefIdeal.nD Cert.DRecRefIdeal.τ).loc Cert.DRecRefIdeal.main_arg1) = m ((c.tc : Thread Cert.DRecIdeal.nD Cert.DRecIdeal.τ).loc Cert.DRecIdeal.main_arg1)) →
    ∃ (v0 : (c : Dev Cert.DRecIdeal.nD) → Buf (Elt Ideal) ((c.tc : Thread Cert.DRecIdeal.nD Cert.DRecIdeal.τ).loc Cert.DRecIdeal.main_v2)),
      θ_run (Cert.DRecIdeal.defs (F := Ideal)) (onTc (τ := Cert.DRecIdeal.τ) (Cert.DRecIdeal.main (F := Ideal))) ⟨m, fun _ => 0, g⟩ (fun r => ∀ c : Dev Cert.DRecIdeal.nD,
          r.2.mem ((c.tc : Thread Cert.DRecIdeal.nD Cert.DRecIdeal.τ).loc Cert.DRecIdeal.main_v2) = v0 c
          ∧ r.2.mem ((c.tc : Thread Cert.DRecIdeal.nD Cert.DRecIdeal.τ).loc Cert.DRecIdeal.main_arg0) = m ((c.tc : Thread Cert.DRecIdeal.nD Cert.DRecIdeal.τ).loc Cert.DRecIdeal.main_arg0)
          ∧ r.2.mem ((c.tc : Thread Cert.DRecIdeal.nD Cert.DRecIdeal.τ).loc Cert.DRecIdeal.main_arg1) = m ((c.tc : Thread Cert.DRecIdeal.nD Cert.DRecIdeal.τ).loc Cert.DRecIdeal.main_arg1))
      ∧ θ_run (Cert.DRecRefIdeal.defs (F := Ideal)) (onTc (τ := Cert.DRecRefIdeal.τ) (Cert.DRecRefIdeal.main (F := Ideal))) ⟨m', fun _ => 0, g'⟩ (fun r => ∀ c : Dev Cert.DRecRefIdeal.nD,
          r.2.mem ((c.tc : Thread Cert.DRecRefIdeal.nD Cert.DRecRefIdeal.τ).loc Cert.DRecRefIdeal.main_v3) = v0 c
          ∧ r.2.mem ((c.tc : Thread Cert.DRecRefIdeal.nD Cert.DRecRefIdeal.τ).loc Cert.DRecRefIdeal.main_arg0) = m' ((c.tc : Thread Cert.DRecRefIdeal.nD Cert.DRecRefIdeal.τ).loc Cert.DRecRefIdeal.main_arg0)
          ∧ r.2.mem ((c.tc : Thread Cert.DRecRefIdeal.nD Cert.DRecRefIdeal.τ).loc Cert.DRecRefIdeal.main_arg1) = m' ((c.tc : Thread Cert.DRecRefIdeal.nD Cert.DRecRefIdeal.τ).loc Cert.DRecRefIdeal.main_arg1))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v2)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v2) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v3) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_GPa_GPaIdeal : Prop :=
  True

def algebraic_GPaIdeal_GPaRefIdeal [hGPaIdeal : Cert.GPaIdeal.Facts] [hGPaRefIdeal : Cert.GPaRefIdeal.Facts] : Prop :=
  ∀ (m : (ℓ : Loc Cert.GPaIdeal.nD Cert.GPaIdeal.τ Cert.GPaIdeal.sig) → Buf (Elt Ideal) ℓ) (g : Dev Cert.GPaIdeal.nD → PrngReg)
    (m' : (ℓ : Loc Cert.GPaRefIdeal.nD Cert.GPaRefIdeal.τ Cert.GPaRefIdeal.sig) → Buf (Elt Ideal) ℓ) (g' : Dev Cert.GPaRefIdeal.nD → PrngReg), Pre_GPaIdeal m →
    (∀ c : Dev Cert.GPaIdeal.nD,
      m' ((c.tc : Thread Cert.GPaRefIdeal.nD Cert.GPaRefIdeal.τ).loc Cert.GPaRefIdeal.main_arg0) = m ((c.tc : Thread Cert.GPaIdeal.nD Cert.GPaIdeal.τ).loc Cert.GPaIdeal.main_arg0)
      ∧ m' ((c.tc : Thread Cert.GPaRefIdeal.nD Cert.GPaRefIdeal.τ).loc Cert.GPaRefIdeal.main_arg1) = m ((c.tc : Thread Cert.GPaIdeal.nD Cert.GPaIdeal.τ).loc Cert.GPaIdeal.main_arg1)) →
    ∃ (v0 : (c : Dev Cert.GPaIdeal.nD) → Buf (Elt Ideal) ((c.tc : Thread Cert.GPaIdeal.nD Cert.GPaIdeal.τ).loc Cert.GPaIdeal.main_v1)),
      θ_run (Cert.GPaIdeal.defs (F := Ideal)) (onTc (τ := Cert.GPaIdeal.τ) (Cert.GPaIdeal.main (F := Ideal))) ⟨m, fun _ => 0, g⟩ (fun r => ∀ c : Dev Cert.GPaIdeal.nD,
          r.2.mem ((c.tc : Thread Cert.GPaIdeal.nD Cert.GPaIdeal.τ).loc Cert.GPaIdeal.main_v1) = v0 c
          ∧ r.2.mem ((c.tc : Thread Cert.GPaIdeal.nD Cert.GPaIdeal.τ).loc Cert.GPaIdeal.main_arg0) = m ((c.tc : Thread Cert.GPaIdeal.nD Cert.GPaIdeal.τ).loc Cert.GPaIdeal.main_arg0)
          ∧ r.2.mem ((c.tc : Thread Cert.GPaIdeal.nD Cert.GPaIdeal.τ).loc Cert.GPaIdeal.main_arg1) = m ((c.tc : Thread Cert.GPaIdeal.nD Cert.GPaIdeal.τ).loc Cert.GPaIdeal.main_arg1))
      ∧ θ_run (Cert.GPaRefIdeal.defs (F := Ideal)) (onTc (τ := Cert.GPaRefIdeal.τ) (Cert.GPaRefIdeal.main (F := Ideal))) ⟨m', fun _ => 0, g'⟩ (fun r => ∀ c : Dev Cert.GPaRefIdeal.nD,
          r.2.mem ((c.tc : Thread Cert.GPaRefIdeal.nD Cert.GPaRefIdeal.τ).loc Cert.GPaRefIdeal.main_v5) = v0 c
          ∧ r.2.mem ((c.tc : Thread Cert.GPaRefIdeal.nD Cert.GPaRefIdeal.τ).loc Cert.GPaRefIdeal.main_arg0) = m' ((c.tc : Thread Cert.GPaRefIdeal.nD Cert.GPaRefIdeal.τ).loc Cert.GPaRefIdeal.main_arg0)
          ∧ r.2.mem ((c.tc : Thread Cert.GPaRefIdeal.nD Cert.GPaRefIdeal.τ).loc Cert.GPaRefIdeal.main_arg1) = m' ((c.tc : Thread Cert.GPaRefIdeal.nD Cert.GPaRefIdeal.τ).loc Cert.GPaRefIdeal.main_arg1))

def preserves_GPb_GPbIdeal : Prop :=
  True

def algebraic_GPbIdeal_GPbRefIdeal [hGPbIdeal : Cert.GPbIdeal.Facts] [hGPbRefIdeal : Cert.GPbRefIdeal.Facts] : Prop :=
  ∀ (m : (ℓ : Loc Cert.GPbIdeal.nD Cert.GPbIdeal.τ Cert.GPbIdeal.sig) → Buf (Elt Ideal) ℓ) (g : Dev Cert.GPbIdeal.nD → PrngReg)
    (m' : (ℓ : Loc Cert.GPbRefIdeal.nD Cert.GPbRefIdeal.τ Cert.GPbRefIdeal.sig) → Buf (Elt Ideal) ℓ) (g' : Dev Cert.GPbRefIdeal.nD → PrngReg), Pre_GPbIdeal m →
    (∀ c : Dev Cert.GPbIdeal.nD,
      m' ((c.tc : Thread Cert.GPbRefIdeal.nD Cert.GPbRefIdeal.τ).loc Cert.GPbRefIdeal.main_arg0) = m ((c.tc : Thread Cert.GPbIdeal.nD Cert.GPbIdeal.τ).loc Cert.GPbIdeal.main_arg0)
      ∧ m' ((c.tc : Thread Cert.GPbRefIdeal.nD Cert.GPbRefIdeal.τ).loc Cert.GPbRefIdeal.main_arg1) = m ((c.tc : Thread Cert.GPbIdeal.nD Cert.GPbIdeal.τ).loc Cert.GPbIdeal.main_arg1)) →
    ∃ (v0 : (c : Dev Cert.GPbIdeal.nD) → Buf (Elt Ideal) ((c.tc : Thread Cert.GPbIdeal.nD Cert.GPbIdeal.τ).loc Cert.GPbIdeal.main_v1)),
      θ_run (Cert.GPbIdeal.defs (F := Ideal)) (onTc (τ := Cert.GPbIdeal.τ) (Cert.GPbIdeal.main (F := Ideal))) ⟨m, fun _ => 0, g⟩ (fun r => ∀ c : Dev Cert.GPbIdeal.nD,
          r.2.mem ((c.tc : Thread Cert.GPbIdeal.nD Cert.GPbIdeal.τ).loc Cert.GPbIdeal.main_v1) = v0 c
          ∧ r.2.mem ((c.tc : Thread Cert.GPbIdeal.nD Cert.GPbIdeal.τ).loc Cert.GPbIdeal.main_arg0) = m ((c.tc : Thread Cert.GPbIdeal.nD Cert.GPbIdeal.τ).loc Cert.GPbIdeal.main_arg0)
          ∧ r.2.mem ((c.tc : Thread Cert.GPbIdeal.nD Cert.GPbIdeal.τ).loc Cert.GPbIdeal.main_arg1) = m ((c.tc : Thread Cert.GPbIdeal.nD Cert.GPbIdeal.τ).loc Cert.GPbIdeal.main_arg1))
      ∧ θ_run (Cert.GPbRefIdeal.defs (F := Ideal)) (onTc (τ := Cert.GPbRefIdeal.τ) (Cert.GPbRefIdeal.main (F := Ideal))) ⟨m', fun _ => 0, g'⟩ (fun r => ∀ c : Dev Cert.GPbRefIdeal.nD,
          r.2.mem ((c.tc : Thread Cert.GPbRefIdeal.nD Cert.GPbRefIdeal.τ).loc Cert.GPbRefIdeal.main_v5) = v0 c
          ∧ r.2.mem ((c.tc : Thread Cert.GPbRefIdeal.nD Cert.GPbRefIdeal.τ).loc Cert.GPbRefIdeal.main_arg0) = m' ((c.tc : Thread Cert.GPbRefIdeal.nD Cert.GPbRefIdeal.τ).loc Cert.GPbRefIdeal.main_arg0)
          ∧ r.2.mem ((c.tc : Thread Cert.GPbRefIdeal.nD Cert.GPbRefIdeal.τ).loc Cert.GPbRefIdeal.main_arg1) = m' ((c.tc : Thread Cert.GPbRefIdeal.nD Cert.GPbRefIdeal.τ).loc Cert.GPbRefIdeal.main_arg1))

def preserves_GOut_GOutIdeal : Prop :=
  True

def algebraic_GOutIdeal_GOutRefIdeal [hGOutIdeal : Cert.GOutIdeal.Facts] [hGOutRefIdeal : Cert.GOutRefIdeal.Facts] : Prop :=
  ∀ (m : (ℓ : Loc Cert.GOutIdeal.nD Cert.GOutIdeal.τ Cert.GOutIdeal.sig) → Buf (Elt Ideal) ℓ) (g : Dev Cert.GOutIdeal.nD → PrngReg)
    (m' : (ℓ : Loc Cert.GOutRefIdeal.nD Cert.GOutRefIdeal.τ Cert.GOutRefIdeal.sig) → Buf (Elt Ideal) ℓ) (g' : Dev Cert.GOutRefIdeal.nD → PrngReg), Pre_GOutIdeal m →
    (∀ c : Dev Cert.GOutIdeal.nD,
      m' ((c.tc : Thread Cert.GOutRefIdeal.nD Cert.GOutRefIdeal.τ).loc Cert.GOutRefIdeal.main_arg0) = m ((c.tc : Thread Cert.GOutIdeal.nD Cert.GOutIdeal.τ).loc Cert.GOutIdeal.main_arg0)
      ∧ m' ((c.tc : Thread Cert.GOutRefIdeal.nD Cert.GOutRefIdeal.τ).loc Cert.GOutRefIdeal.main_arg1) = m ((c.tc : Thread Cert.GOutIdeal.nD Cert.GOutIdeal.τ).loc Cert.GOutIdeal.main_arg1)) →
    ∃ (v0 : (c : Dev Cert.GOutIdeal.nD) → Buf (Elt Ideal) ((c.tc : Thread Cert.GOutIdeal.nD Cert.GOutIdeal.τ).loc Cert.GOutIdeal.main_v1)),
      θ_run (Cert.GOutIdeal.defs (F := Ideal)) (onTc (τ := Cert.GOutIdeal.τ) (Cert.GOutIdeal.main (F := Ideal))) ⟨m, fun _ => 0, g⟩ (fun r => ∀ c : Dev Cert.GOutIdeal.nD,
          r.2.mem ((c.tc : Thread Cert.GOutIdeal.nD Cert.GOutIdeal.τ).loc Cert.GOutIdeal.main_v1) = v0 c
          ∧ r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
          ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1))
      ∧ θ_run (Cert.GOutRefIdeal.defs (F := Ideal)) (onTc (τ := Cert.GOutRefIdeal.τ) (Cert.GOutRefIdeal.main (F := Ideal))) ⟨m', fun _ => 0, g'⟩ (fun r => ∀ c : Dev Cert.GOutRefIdeal.nD,
          r.2.mem ((c.tc : Thread Cert.GOutRefIdeal.nD Cert.GOutRefIdeal.τ).loc Cert.GOutRefIdeal.main_v5) = v0 c
          ∧ r.2.mem ((c.tc : Thread Cert.GOutRefIdeal.nD Cert.GOutRefIdeal.τ).loc Cert.GOutRefIdeal.main_arg0) = m' ((c.tc : Thread Cert.GOutRefIdeal.nD Cert.GOutRefIdeal.τ).loc Cert.GOutRefIdeal.main_arg0)
          ∧ r.2.mem ((c.tc : Thread Cert.GOutRefIdeal.nD Cert.GOutRefIdeal.τ).loc Cert.GOutRefIdeal.main_arg1) = m' ((c.tc : Thread Cert.GOutRefIdeal.nD Cert.GOutRefIdeal.τ).loc Cert.GOutRefIdeal.main_arg1))

def preserves_GDown_GDownIdeal : Prop :=
  True

def algebraic_GDownIdeal_GDownRefIdeal [hGDownIdeal : Cert.GDownIdeal.Facts] [hGDownRefIdeal : Cert.GDownRefIdeal.Facts] : Prop :=
  ∀ (m : (ℓ : Loc Cert.GDownIdeal.nD Cert.GDownIdeal.τ Cert.GDownIdeal.sig) → Buf (Elt Ideal) ℓ) (g : Dev Cert.GDownIdeal.nD → PrngReg)
    (m' : (ℓ : Loc Cert.GDownRefIdeal.nD Cert.GDownRefIdeal.τ Cert.GDownRefIdeal.sig) → Buf (Elt Ideal) ℓ) (g' : Dev Cert.GDownRefIdeal.nD → PrngReg), Pre_GDownIdeal m →
    (∀ c : Dev Cert.GDownIdeal.nD,
      m' ((c.tc : Thread Cert.GDownRefIdeal.nD Cert.GDownRefIdeal.τ).loc Cert.GDownRefIdeal.main_arg0) = m ((c.tc : Thread Cert.GDownIdeal.nD Cert.GDownIdeal.τ).loc Cert.GDownIdeal.main_arg0)
      ∧ m' ((c.tc : Thread Cert.GDownRefIdeal.nD Cert.GDownRefIdeal.τ).loc Cert.GDownRefIdeal.main_arg1) = m ((c.tc : Thread Cert.GDownIdeal.nD Cert.GDownIdeal.τ).loc Cert.GDownIdeal.main_arg1)) →
    ∃ (v0 : (c : Dev Cert.GDownIdeal.nD) → Buf (Elt Ideal) ((c.tc : Thread Cert.GDownIdeal.nD Cert.GDownIdeal.τ).loc Cert.GDownIdeal.main_v1)),
      θ_run (Cert.GDownIdeal.defs (F := Ideal)) (onTc (τ := Cert.GDownIdeal.τ) (Cert.GDownIdeal.main (F := Ideal))) ⟨m, fun _ => 0, g⟩ (fun r => ∀ c : Dev Cert.GDownIdeal.nD,
          r.2.mem ((c.tc : Thread Cert.GDownIdeal.nD Cert.GDownIdeal.τ).loc Cert.GDownIdeal.main_v1) = v0 c
          ∧ r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
          ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1))
      ∧ θ_run (Cert.GDownRefIdeal.defs (F := Ideal)) (onTc (τ := Cert.GDownRefIdeal.τ) (Cert.GDownRefIdeal.main (F := Ideal))) ⟨m', fun _ => 0, g'⟩ (fun r => ∀ c : Dev Cert.GDownRefIdeal.nD,
          r.2.mem ((c.tc : Thread Cert.GDownRefIdeal.nD Cert.GDownRefIdeal.τ).loc Cert.GDownRefIdeal.main_v5) = v0 c
          ∧ r.2.mem ((c.tc : Thread Cert.GDownRefIdeal.nD Cert.GDownRefIdeal.τ).loc Cert.GDownRefIdeal.main_arg0) = m' ((c.tc : Thread Cert.GDownRefIdeal.nD Cert.GDownRefIdeal.τ).loc Cert.GDownRefIdeal.main_arg0)
          ∧ r.2.mem ((c.tc : Thread Cert.GDownRefIdeal.nD Cert.GDownRefIdeal.τ).loc Cert.GDownRefIdeal.main_arg1) = m' ((c.tc : Thread Cert.GDownRefIdeal.nD Cert.GDownRefIdeal.τ).loc Cert.GDownRefIdeal.main_arg1))

def preserves_GGu_GGuIdeal : Prop :=
  True

def algebraic_GGuIdeal_GGuRefIdeal [hGGuIdeal : Cert.GGuIdeal.Facts] [hGGuRefIdeal : Cert.GGuRefIdeal.Facts] : Prop :=
  ∀ (m : (ℓ : Loc Cert.GGuIdeal.nD Cert.GGuIdeal.τ Cert.GGuIdeal.sig) → Buf (Elt Ideal) ℓ) (g : Dev Cert.GGuIdeal.nD → PrngReg)
    (m' : (ℓ : Loc Cert.GGuRefIdeal.nD Cert.GGuRefIdeal.τ Cert.GGuRefIdeal.sig) → Buf (Elt Ideal) ℓ) (g' : Dev Cert.GGuRefIdeal.nD → PrngReg), Pre_GGuIdeal m →
    (∀ c : Dev Cert.GGuIdeal.nD,
      m' ((c.tc : Thread Cert.GGuRefIdeal.nD Cert.GGuRefIdeal.τ).loc Cert.GGuRefIdeal.main_arg0) = m ((c.tc : Thread Cert.GGuIdeal.nD Cert.GGuIdeal.τ).loc Cert.GGuIdeal.main_arg0)
      ∧ m' ((c.tc : Thread Cert.GGuRefIdeal.nD Cert.GGuRefIdeal.τ).loc Cert.GGuRefIdeal.main_arg1) = m ((c.tc : Thread Cert.GGuIdeal.nD Cert.GGuIdeal.τ).loc Cert.GGuIdeal.main_arg1)) →
    ∃ (v0 : (c : Dev Cert.GGuIdeal.nD) → Buf (Elt Ideal) ((c.tc : Thread Cert.GGuIdeal.nD Cert.GGuIdeal.τ).loc Cert.GGuIdeal.main_v1)),
      θ_run (Cert.GGuIdeal.defs (F := Ideal)) (onTc (τ := Cert.GGuIdeal.τ) (Cert.GGuIdeal.main (F := Ideal))) ⟨m, fun _ => 0, g⟩ (fun r => ∀ c : Dev Cert.GGuIdeal.nD,
          r.2.mem ((c.tc : Thread Cert.GGuIdeal.nD Cert.GGuIdeal.τ).loc Cert.GGuIdeal.main_v1) = v0 c
          ∧ r.2.mem ((c.tc : Thread Cert.GGuIdeal.nD Cert.GGuIdeal.τ).loc Cert.GGuIdeal.main_arg0) = m ((c.tc : Thread Cert.GGuIdeal.nD Cert.GGuIdeal.τ).loc Cert.GGuIdeal.main_arg0)
          ∧ r.2.mem ((c.tc : Thread Cert.GGuIdeal.nD Cert.GGuIdeal.τ).loc Cert.GGuIdeal.main_arg1) = m ((c.tc : Thread Cert.GGuIdeal.nD Cert.GGuIdeal.τ).loc Cert.GGuIdeal.main_arg1))
      ∧ θ_run (Cert.GGuRefIdeal.defs (F := Ideal)) (onTc (τ := Cert.GGuRefIdeal.τ) (Cert.GGuRefIdeal.main (F := Ideal))) ⟨m', fun _ => 0, g'⟩ (fun r => ∀ c : Dev Cert.GGuRefIdeal.nD,
          r.2.mem ((c.tc : Thread Cert.GGuRefIdeal.nD Cert.GGuRefIdeal.τ).loc Cert.GGuRefIdeal.main_v5) = v0 c
          ∧ r.2.mem ((c.tc : Thread Cert.GGuRefIdeal.nD Cert.GGuRefIdeal.τ).loc Cert.GGuRefIdeal.main_arg0) = m' ((c.tc : Thread Cert.GGuRefIdeal.nD Cert.GGuRefIdeal.τ).loc Cert.GGuRefIdeal.main_arg0)
          ∧ r.2.mem ((c.tc : Thread Cert.GGuRefIdeal.nD Cert.GGuRefIdeal.τ).loc Cert.GGuRefIdeal.main_arg1) = m' ((c.tc : Thread Cert.GGuRefIdeal.nD Cert.GGuRefIdeal.τ).loc Cert.GGuRefIdeal.main_arg1))

def preserves_GInTop_GInTopIdeal : Prop :=
  True

def algebraic_GInTopIdeal_GInTopRefIdeal [hGInTopIdeal : Cert.GInTopIdeal.Facts] [hGInTopRefIdeal : Cert.GInTopRefIdeal.Facts] : Prop :=
  ∀ (m : (ℓ : Loc Cert.GInTopIdeal.nD Cert.GInTopIdeal.τ Cert.GInTopIdeal.sig) → Buf (Elt Ideal) ℓ) (g : Dev Cert.GInTopIdeal.nD → PrngReg)
    (m' : (ℓ : Loc Cert.GInTopRefIdeal.nD Cert.GInTopRefIdeal.τ Cert.GInTopRefIdeal.sig) → Buf (Elt Ideal) ℓ) (g' : Dev Cert.GInTopRefIdeal.nD → PrngReg), Pre_GInTopIdeal m →
    (∀ c : Dev Cert.GInTopIdeal.nD,
      m' ((c.tc : Thread Cert.GInTopRefIdeal.nD Cert.GInTopRefIdeal.τ).loc Cert.GInTopRefIdeal.main_arg0) = m ((c.tc : Thread Cert.GInTopIdeal.nD Cert.GInTopIdeal.τ).loc Cert.GInTopIdeal.main_arg0)
      ∧ m' ((c.tc : Thread Cert.GInTopRefIdeal.nD Cert.GInTopRefIdeal.τ).loc Cert.GInTopRefIdeal.main_arg1) = m ((c.tc : Thread Cert.GInTopIdeal.nD Cert.GInTopIdeal.τ).loc Cert.GInTopIdeal.main_arg1)) →
    ∃ (v0 : (c : Dev Cert.GInTopIdeal.nD) → Buf (Elt Ideal) ((c.tc : Thread Cert.GInTopIdeal.nD Cert.GInTopIdeal.τ).loc Cert.GInTopIdeal.main_v2)),
      θ_run (Cert.GInTopIdeal.defs (F := Ideal)) (onTc (τ := Cert.GInTopIdeal.τ) (Cert.GInTopIdeal.main (F := Ideal))) ⟨m, fun _ => 0, g⟩ (fun r => ∀ c : Dev Cert.GInTopIdeal.nD,
          r.2.mem ((c.tc : Thread Cert.GInTopIdeal.nD Cert.GInTopIdeal.τ).loc Cert.GInTopIdeal.main_v2) = v0 c
          ∧ r.2.mem ((c.tc : Thread Cert.GInTopIdeal.nD Cert.GInTopIdeal.τ).loc Cert.GInTopIdeal.main_arg0) = m ((c.tc : Thread Cert.GInTopIdeal.nD Cert.GInTopIdeal.τ).loc Cert.GInTopIdeal.main_arg0)
          ∧ r.2.mem ((c.tc : Thread Cert.GInTopIdeal.nD Cert.GInTopIdeal.τ).loc Cert.GInTopIdeal.main_arg1) = m ((c.tc : Thread Cert.GInTopIdeal.nD Cert.GInTopIdeal.τ).loc Cert.GInTopIdeal.main_arg1))
      ∧ θ_run (Cert.GInTopRefIdeal.defs (F := Ideal)) (onTc (τ := Cert.GInTopRefIdeal.τ) (Cert.GInTopRefIdeal.main (F := Ideal))) ⟨m', fun _ => 0, g'⟩ (fun r => ∀ c : Dev Cert.GInTopRefIdeal.nD,
          r.2.mem ((c.tc : Thread Cert.GInTopRefIdeal.nD Cert.GInTopRefIdeal.τ).loc Cert.GInTopRefIdeal.main_v6) = v0 c
          ∧ r.2.mem ((c.tc : Thread Cert.GInTopRefIdeal.nD Cert.GInTopRefIdeal.τ).loc Cert.GInTopRefIdeal.main_arg0) = m' ((c.tc : Thread Cert.GInTopRefIdeal.nD Cert.GInTopRefIdeal.τ).loc Cert.GInTopRefIdeal.main_arg0)
          ∧ r.2.mem ((c.tc : Thread Cert.GInTopRefIdeal.nD Cert.GInTopRefIdeal.τ).loc Cert.GInTopRefIdeal.main_arg1) = m' ((c.tc : Thread Cert.GInTopRefIdeal.nD Cert.GInTopRefIdeal.τ).loc Cert.GInTopRefIdeal.main_arg1))

def preserves_GInBot_GInBotIdeal : Prop :=
  True

def algebraic_GInBotIdeal_GInBotRefIdeal [hGInBotIdeal : Cert.GInBotIdeal.Facts] [hGInBotRefIdeal : Cert.GInBotRefIdeal.Facts] : Prop :=
  ∀ (m : (ℓ : Loc Cert.GInBotIdeal.nD Cert.GInBotIdeal.τ Cert.GInBotIdeal.sig) → Buf (Elt Ideal) ℓ) (g : Dev Cert.GInBotIdeal.nD → PrngReg)
    (m' : (ℓ : Loc Cert.GInBotRefIdeal.nD Cert.GInBotRefIdeal.τ Cert.GInBotRefIdeal.sig) → Buf (Elt Ideal) ℓ) (g' : Dev Cert.GInBotRefIdeal.nD → PrngReg), Pre_GInBotIdeal m →
    (∀ c : Dev Cert.GInBotIdeal.nD,
      m' ((c.tc : Thread Cert.GInBotRefIdeal.nD Cert.GInBotRefIdeal.τ).loc Cert.GInBotRefIdeal.main_arg0) = m ((c.tc : Thread Cert.GInBotIdeal.nD Cert.GInBotIdeal.τ).loc Cert.GInBotIdeal.main_arg0)
      ∧ m' ((c.tc : Thread Cert.GInBotRefIdeal.nD Cert.GInBotRefIdeal.τ).loc Cert.GInBotRefIdeal.main_arg1) = m ((c.tc : Thread Cert.GInBotIdeal.nD Cert.GInBotIdeal.τ).loc Cert.GInBotIdeal.main_arg1)) →
    ∃ (v0 : (c : Dev Cert.GInBotIdeal.nD) → Buf (Elt Ideal) ((c.tc : Thread Cert.GInBotIdeal.nD Cert.GInBotIdeal.τ).loc Cert.GInBotIdeal.main_v2)),
      θ_run (Cert.GInBotIdeal.defs (F := Ideal)) (onTc (τ := Cert.GInBotIdeal.τ) (Cert.GInBotIdeal.main (F := Ideal))) ⟨m, fun _ => 0, g⟩ (fun r => ∀ c : Dev Cert.GInBotIdeal.nD,
          r.2.mem ((c.tc : Thread Cert.GInBotIdeal.nD Cert.GInBotIdeal.τ).loc Cert.GInBotIdeal.main_v2) = v0 c
          ∧ r.2.mem ((c.tc : Thread Cert.GInBotIdeal.nD Cert.GInBotIdeal.τ).loc Cert.GInBotIdeal.main_arg0) = m ((c.tc : Thread Cert.GInBotIdeal.nD Cert.GInBotIdeal.τ).loc Cert.GInBotIdeal.main_arg0)
          ∧ r.2.mem ((c.tc : Thread Cert.GInBotIdeal.nD Cert.GInBotIdeal.τ).loc Cert.GInBotIdeal.main_arg1) = m ((c.tc : Thread Cert.GInBotIdeal.nD Cert.GInBotIdeal.τ).loc Cert.GInBotIdeal.main_arg1))
      ∧ θ_run (Cert.GInBotRefIdeal.defs (F := Ideal)) (onTc (τ := Cert.GInBotRefIdeal.τ) (Cert.GInBotRefIdeal.main (F := Ideal))) ⟨m', fun _ => 0, g'⟩ (fun r => ∀ c : Dev Cert.GInBotRefIdeal.nD,
          r.2.mem ((c.tc : Thread Cert.GInBotRefIdeal.nD Cert.GInBotRefIdeal.τ).loc Cert.GInBotRefIdeal.main_v6) = v0 c
          ∧ r.2.mem ((c.tc : Thread Cert.GInBotRefIdeal.nD Cert.GInBotRefIdeal.τ).loc Cert.GInBotRefIdeal.main_arg0) = m' ((c.tc : Thread Cert.GInBotRefIdeal.nD Cert.GInBotRefIdeal.τ).loc Cert.GInBotRefIdeal.main_arg0)
          ∧ r.2.mem ((c.tc : Thread Cert.GInBotRefIdeal.nD Cert.GInBotRefIdeal.τ).loc Cert.GInBotRefIdeal.main_arg1) = m' ((c.tc : Thread Cert.GInBotRefIdeal.nD Cert.GInBotRefIdeal.τ).loc Cert.GInBotRefIdeal.main_arg1))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v1)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v1) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v1) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v1)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v1) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v1) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1))

def preserves_FfnGu_FfnGuIdeal : Prop :=
  True

def algebraic_FfnGuIdeal_FfnGuRefIdeal [hFfnGuIdeal : Cert.FfnGuIdeal.Facts] [hFfnGuRefIdeal : Cert.FfnGuRefIdeal.Facts] : Prop :=
  ∀ (m : (ℓ : Loc Cert.FfnGuIdeal.nD Cert.FfnGuIdeal.τ Cert.FfnGuIdeal.sig) → Buf (Elt Ideal) ℓ) (g : Dev Cert.FfnGuIdeal.nD → PrngReg)
    (m' : (ℓ : Loc Cert.FfnGuRefIdeal.nD Cert.FfnGuRefIdeal.τ Cert.FfnGuRefIdeal.sig) → Buf (Elt Ideal) ℓ) (g' : Dev Cert.FfnGuRefIdeal.nD → PrngReg), Pre_FfnGuIdeal m →
    (∀ c : Dev Cert.FfnGuIdeal.nD,
      m' ((c.tc : Thread Cert.FfnGuRefIdeal.nD Cert.FfnGuRefIdeal.τ).loc Cert.FfnGuRefIdeal.main_arg0) = m ((c.tc : Thread Cert.FfnGuIdeal.nD Cert.FfnGuIdeal.τ).loc Cert.FfnGuIdeal.main_arg0)
      ∧ m' ((c.tc : Thread Cert.FfnGuRefIdeal.nD Cert.FfnGuRefIdeal.τ).loc Cert.FfnGuRefIdeal.main_arg1) = m ((c.tc : Thread Cert.FfnGuIdeal.nD Cert.FfnGuIdeal.τ).loc Cert.FfnGuIdeal.main_arg1)
      ∧ m' ((c.tc : Thread Cert.FfnGuRefIdeal.nD Cert.FfnGuRefIdeal.τ).loc Cert.FfnGuRefIdeal.main_arg2) = m ((c.tc : Thread Cert.FfnGuIdeal.nD Cert.FfnGuIdeal.τ).loc Cert.FfnGuIdeal.main_arg2)) →
    ∃ (v0 : (c : Dev Cert.FfnGuIdeal.nD) → Buf (Elt Ideal) ((c.tc : Thread Cert.FfnGuIdeal.nD Cert.FfnGuIdeal.τ).loc Cert.FfnGuIdeal.main_v2)),
      θ_run (Cert.FfnGuIdeal.defs (F := Ideal)) (onTc (τ := Cert.FfnGuIdeal.τ) (Cert.FfnGuIdeal.main (F := Ideal))) ⟨m, fun _ => 0, g⟩ (fun r => ∀ c : Dev Cert.FfnGuIdeal.nD,
          r.2.mem ((c.tc : Thread Cert.FfnGuIdeal.nD Cert.FfnGuIdeal.τ).loc Cert.FfnGuIdeal.main_v2) = v0 c
          ∧ r.2.mem ((c.tc : Thread Cert.FfnGuIdeal.nD Cert.FfnGuIdeal.τ).loc Cert.FfnGuIdeal.main_arg0) = m ((c.tc : Thread Cert.FfnGuIdeal.nD Cert.FfnGuIdeal.τ).loc Cert.FfnGuIdeal.main_arg0)
          ∧ r.2.mem ((c.tc : Thread Cert.FfnGuIdeal.nD Cert.FfnGuIdeal.τ).loc Cert.FfnGuIdeal.main_arg1) = m ((c.tc : Thread Cert.FfnGuIdeal.nD Cert.FfnGuIdeal.τ).loc Cert.FfnGuIdeal.main_arg1)
          ∧ r.2.mem ((c.tc : Thread Cert.FfnGuIdeal.nD Cert.FfnGuIdeal.τ).loc Cert.FfnGuIdeal.main_arg2) = m ((c.tc : Thread Cert.FfnGuIdeal.nD Cert.FfnGuIdeal.τ).loc Cert.FfnGuIdeal.main_arg2))
      ∧ θ_run (Cert.FfnGuRefIdeal.defs (F := Ideal)) (onTc (τ := Cert.FfnGuRefIdeal.τ) (Cert.FfnGuRefIdeal.main (F := Ideal))) ⟨m', fun _ => 0, g'⟩ (fun r => ∀ c : Dev Cert.FfnGuRefIdeal.nD,
          r.2.mem ((c.tc : Thread Cert.FfnGuRefIdeal.nD Cert.FfnGuRefIdeal.τ).loc Cert.FfnGuRefIdeal.main_v4) = v0 c
          ∧ r.2.mem ((c.tc : Thread Cert.FfnGuRefIdeal.nD Cert.FfnGuRefIdeal.τ).loc Cert.FfnGuRefIdeal.main_arg0) = m' ((c.tc : Thread Cert.FfnGuRefIdeal.nD Cert.FfnGuRefIdeal.τ).loc Cert.FfnGuRefIdeal.main_arg0)
          ∧ r.2.mem ((c.tc : Thread Cert.FfnGuRefIdeal.nD Cert.FfnGuRefIdeal.τ).loc Cert.FfnGuRefIdeal.main_arg1) = m' ((c.tc : Thread Cert.FfnGuRefIdeal.nD Cert.FfnGuRefIdeal.τ).loc Cert.FfnGuRefIdeal.main_arg1)
          ∧ r.2.mem ((c.tc : Thread Cert.FfnGuRefIdeal.nD Cert.FfnGuRefIdeal.τ).loc Cert.FfnGuRefIdeal.main_arg2) = m' ((c.tc : Thread Cert.FfnGuRefIdeal.nD Cert.FfnGuRefIdeal.τ).loc Cert.FfnGuRefIdeal.main_arg2))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)) →
    ∃ (v0 : (c : Dev Cert.ProjQkvIdeal.nD) → Buf (Elt Ideal) ((c.tc : Thread Cert.ProjQkvIdeal.nD Cert.ProjQkvIdeal.τ).loc Cert.ProjQkvIdeal.main_v9)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v9) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v2) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1))

def preserves_ProjX_ProjXIdeal : Prop :=
  True

def algebraic_ProjXIdeal_ProjXRefIdeal [hProjXIdeal : Cert.ProjXIdeal.Facts] [hProjXRefIdeal : Cert.ProjXRefIdeal.Facts] : Prop :=
  ∀ (m : (ℓ : Loc Cert.ProjXIdeal.nD Cert.ProjXIdeal.τ Cert.ProjXIdeal.sig) → Buf (Elt Ideal) ℓ) (g : Dev Cert.ProjXIdeal.nD → PrngReg)
    (m' : (ℓ : Loc Cert.ProjXRefIdeal.nD Cert.ProjXRefIdeal.τ Cert.ProjXRefIdeal.sig) → Buf (Elt Ideal) ℓ) (g' : Dev Cert.ProjXRefIdeal.nD → PrngReg), Pre_ProjXIdeal m →
    (∀ c : Dev Cert.ProjXIdeal.nD,
      m' ((c.tc : Thread Cert.ProjXRefIdeal.nD Cert.ProjXRefIdeal.τ).loc Cert.ProjXRefIdeal.main_arg0) = m ((c.tc : Thread Cert.ProjXIdeal.nD Cert.ProjXIdeal.τ).loc Cert.ProjXIdeal.main_arg0)
      ∧ m' ((c.tc : Thread Cert.ProjXRefIdeal.nD Cert.ProjXRefIdeal.τ).loc Cert.ProjXRefIdeal.main_arg1) = m ((c.tc : Thread Cert.ProjXIdeal.nD Cert.ProjXIdeal.τ).loc Cert.ProjXIdeal.main_arg1)) →
    ∃ (v0 : (c : Dev Cert.ProjXIdeal.nD) → Buf (Elt Ideal) ((c.tc : Thread Cert.ProjXIdeal.nD Cert.ProjXIdeal.τ).loc Cert.ProjXIdeal.main_v9)),
      θ_run (Cert.ProjXIdeal.defs (F := Ideal)) (onTc (τ := Cert.ProjXIdeal.τ) (Cert.ProjXIdeal.main (F := Ideal))) ⟨m, fun _ => 0, g⟩ (fun r => ∀ c : Dev Cert.ProjXIdeal.nD,
          r.2.mem ((c.tc : Thread Cert.ProjXIdeal.nD Cert.ProjXIdeal.τ).loc Cert.ProjXIdeal.main_v9) = v0 c
          ∧ r.2.mem ((c.tc : Thread Cert.ProjXIdeal.nD Cert.ProjXIdeal.τ).loc Cert.ProjXIdeal.main_arg0) = m ((c.tc : Thread Cert.ProjXIdeal.nD Cert.ProjXIdeal.τ).loc Cert.ProjXIdeal.main_arg0)
          ∧ r.2.mem ((c.tc : Thread Cert.ProjXIdeal.nD Cert.ProjXIdeal.τ).loc Cert.ProjXIdeal.main_arg1) = m ((c.tc : Thread Cert.ProjXIdeal.nD Cert.ProjXIdeal.τ).loc Cert.ProjXIdeal.main_arg1))
      ∧ θ_run (Cert.ProjXRefIdeal.defs (F := Ideal)) (onTc (τ := Cert.ProjXRefIdeal.τ) (Cert.ProjXRefIdeal.main (F := Ideal))) ⟨m', fun _ => 0, g'⟩ (fun r => ∀ c : Dev Cert.ProjXRefIdeal.nD,
          r.2.mem ((c.tc : Thread Cert.ProjXRefIdeal.nD Cert.ProjXRefIdeal.τ).loc Cert.ProjXRefIdeal.main_v2) = v0 c
          ∧ r.2.mem ((c.tc : Thread Cert.ProjXRefIdeal.nD Cert.ProjXRefIdeal.τ).loc Cert.ProjXRefIdeal.main_arg0) = m' ((c.tc : Thread Cert.ProjXRefIdeal.nD Cert.ProjXRefIdeal.τ).loc Cert.ProjXRefIdeal.main_arg0)
          ∧ r.2.mem ((c.tc : Thread Cert.ProjXRefIdeal.nD Cert.ProjXRefIdeal.τ).loc Cert.ProjXRefIdeal.main_arg1) = m' ((c.tc : Thread Cert.ProjXRefIdeal.nD Cert.ProjXRefIdeal.τ).loc Cert.ProjXRefIdeal.main_arg1))

def preserves_ProjZ_ProjZIdeal : Prop :=
  True

def algebraic_ProjZIdeal_ProjZRefIdeal [hProjZIdeal : Cert.ProjZIdeal.Facts] [hProjZRefIdeal : Cert.ProjZRefIdeal.Facts] : Prop :=
  ∀ (m : (ℓ : Loc Cert.ProjZIdeal.nD Cert.ProjZIdeal.τ Cert.ProjZIdeal.sig) → Buf (Elt Ideal) ℓ) (g : Dev Cert.ProjZIdeal.nD → PrngReg)
    (m' : (ℓ : Loc Cert.ProjZRefIdeal.nD Cert.ProjZRefIdeal.τ Cert.ProjZRefIdeal.sig) → Buf (Elt Ideal) ℓ) (g' : Dev Cert.ProjZRefIdeal.nD → PrngReg), Pre_ProjZIdeal m →
    (∀ c : Dev Cert.ProjZIdeal.nD,
      m' ((c.tc : Thread Cert.ProjZRefIdeal.nD Cert.ProjZRefIdeal.τ).loc Cert.ProjZRefIdeal.main_arg0) = m ((c.tc : Thread Cert.ProjZIdeal.nD Cert.ProjZIdeal.τ).loc Cert.ProjZIdeal.main_arg0)
      ∧ m' ((c.tc : Thread Cert.ProjZRefIdeal.nD Cert.ProjZRefIdeal.τ).loc Cert.ProjZRefIdeal.main_arg1) = m ((c.tc : Thread Cert.ProjZIdeal.nD Cert.ProjZIdeal.τ).loc Cert.ProjZIdeal.main_arg1)) →
    ∃ (v0 : (c : Dev Cert.ProjZIdeal.nD) → Buf (Elt Ideal) ((c.tc : Thread Cert.ProjZIdeal.nD Cert.ProjZIdeal.τ).loc Cert.ProjZIdeal.main_v9)),
      θ_run (Cert.ProjZIdeal.defs (F := Ideal)) (onTc (τ := Cert.ProjZIdeal.τ) (Cert.ProjZIdeal.main (F := Ideal))) ⟨m, fun _ => 0, g⟩ (fun r => ∀ c : Dev Cert.ProjZIdeal.nD,
          r.2.mem ((c.tc : Thread Cert.ProjZIdeal.nD Cert.ProjZIdeal.τ).loc Cert.ProjZIdeal.main_v9) = v0 c
          ∧ r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
          ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ θ_run (Cert.ProjZRefIdeal.defs (F := Ideal)) (onTc (τ := Cert.ProjZRefIdeal.τ) (Cert.ProjZRefIdeal.main (F := Ideal))) ⟨m', fun _ => 0, g'⟩ (fun r => ∀ c : Dev Cert.ProjZRefIdeal.nD,
          r.2.mem ((c.tc : Thread Cert.ProjZRefIdeal.nD Cert.ProjZRefIdeal.τ).loc Cert.ProjZRefIdeal.main_v2) = v0 c
          ∧ r.2.mem ((c.tc : Thread Cert.ProjZRefIdeal.nD Cert.ProjZRefIdeal.τ).loc Cert.ProjZRefIdeal.main_arg0) = m' ((c.tc : Thread Cert.ProjZRefIdeal.nD Cert.ProjZRefIdeal.τ).loc Cert.ProjZRefIdeal.main_arg0)
          ∧ r.2.mem ((c.tc : Thread Cert.ProjZRefIdeal.nD Cert.ProjZRefIdeal.τ).loc Cert.ProjZRefIdeal.main_arg1) = m' ((c.tc : Thread Cert.ProjZRefIdeal.nD Cert.ProjZRefIdeal.τ).loc Cert.ProjZRefIdeal.main_arg1))

def preserves_ProjG_ProjGIdeal : Prop :=
  True

def algebraic_ProjGIdeal_ProjGRefIdeal [hProjGIdeal : Cert.ProjGIdeal.Facts] [hProjGRefIdeal : Cert.ProjGRefIdeal.Facts] : Prop :=
  ∀ (m : (ℓ : Loc Cert.ProjGIdeal.nD Cert.ProjGIdeal.τ Cert.ProjGIdeal.sig) → Buf (Elt Ideal) ℓ) (g : Dev Cert.ProjGIdeal.nD → PrngReg)
    (m' : (ℓ : Loc Cert.ProjGRefIdeal.nD Cert.ProjGRefIdeal.τ Cert.ProjGRefIdeal.sig) → Buf (Elt Ideal) ℓ) (g' : Dev Cert.ProjGRefIdeal.nD → PrngReg), Pre_ProjGIdeal m →
    (∀ c : Dev Cert.ProjGIdeal.nD,
      m' ((c.tc : Thread Cert.ProjGRefIdeal.nD Cert.ProjGRefIdeal.τ).loc Cert.ProjGRefIdeal.main_arg0) = m ((c.tc : Thread Cert.ProjGIdeal.nD Cert.ProjGIdeal.τ).loc Cert.ProjGIdeal.main_arg0)
      ∧ m' ((c.tc : Thread Cert.ProjGRefIdeal.nD Cert.ProjGRefIdeal.τ).loc Cert.ProjGRefIdeal.main_arg1) = m ((c.tc : Thread Cert.ProjGIdeal.nD Cert.ProjGIdeal.τ).loc Cert.ProjGIdeal.main_arg1)) →
    ∃ (v0 : (c : Dev Cert.ProjGIdeal.nD) → Buf (Elt Ideal) ((c.tc : Thread Cert.ProjGIdeal.nD Cert.ProjGIdeal.τ).loc Cert.ProjGIdeal.main_v9)),
      θ_run (Cert.ProjGIdeal.defs (F := Ideal)) (onTc (τ := Cert.ProjGIdeal.τ) (Cert.ProjGIdeal.main (F := Ideal))) ⟨m, fun _ => 0, g⟩ (fun r => ∀ c : Dev Cert.ProjGIdeal.nD,
          r.2.mem ((c.tc : Thread Cert.ProjGIdeal.nD Cert.ProjGIdeal.τ).loc Cert.ProjGIdeal.main_v9) = v0 c
          ∧ r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
          ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ θ_run (Cert.ProjGRefIdeal.defs (F := Ideal)) (onTc (τ := Cert.ProjGRefIdeal.τ) (Cert.ProjGRefIdeal.main (F := Ideal))) ⟨m', fun _ => 0, g'⟩ (fun r => ∀ c : Dev Cert.ProjGRefIdeal.nD,
          r.2.mem ((c.tc : Thread Cert.ProjGRefIdeal.nD Cert.ProjGRefIdeal.τ).loc Cert.ProjGRefIdeal.main_v2) = v0 c
          ∧ r.2.mem ((c.tc : Thread Cert.ProjGRefIdeal.nD Cert.ProjGRefIdeal.τ).loc Cert.ProjGRefIdeal.main_arg0) = m' ((c.tc : Thread Cert.ProjGRefIdeal.nD Cert.ProjGRefIdeal.τ).loc Cert.ProjGRefIdeal.main_arg0)
          ∧ r.2.mem ((c.tc : Thread Cert.ProjGRefIdeal.nD Cert.ProjGRefIdeal.τ).loc Cert.ProjGRefIdeal.main_arg1) = m' ((c.tc : Thread Cert.ProjGRefIdeal.nD Cert.ProjGRefIdeal.τ).loc Cert.ProjGRefIdeal.main_arg1))

def preserves_DH1_DH1Ideal : Prop :=
  True

def algebraic_DH1Ideal_DH1RefIdeal [hDH1Ideal : Cert.DH1Ideal.Facts] [hDH1RefIdeal : Cert.DH1RefIdeal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.DH1RefIdeal.nD Cert.DH1RefIdeal.τ Cert.DH1RefIdeal.sig) → Buf (Elt Ideal) ℓ) (g' : Dev Cert.DH1RefIdeal.nD → PrngReg), Pre_DH1Ideal m →
    (∀ c : Dev Cert.DH1Ideal.nD,
      m' ((c.tc : Thread Cert.DH1RefIdeal.nD Cert.DH1RefIdeal.τ).loc Cert.DH1RefIdeal.main_arg0) = m ((c.tc : Thread Cert.DH1Ideal.nD Cert.DH1Ideal.τ).loc Cert.DH1Ideal.main_arg0)
      ∧ m' ((c.tc : Thread Cert.DH1RefIdeal.nD Cert.DH1RefIdeal.τ).loc Cert.DH1RefIdeal.main_arg1) = m ((c.tc : Thread Cert.DH1Ideal.nD Cert.DH1Ideal.τ).loc Cert.DH1Ideal.main_arg1)
      ∧ m' ((c.tc : Thread Cert.DH1RefIdeal.nD Cert.DH1RefIdeal.τ).loc Cert.DH1RefIdeal.main_arg2) = m ((c.tc : Thread Cert.DH1Ideal.nD Cert.DH1Ideal.τ).loc Cert.DH1Ideal.main_arg2)
      ∧ m' ((c.tc : Thread Cert.DH1RefIdeal.nD Cert.DH1RefIdeal.τ).loc Cert.DH1RefIdeal.main_arg3) = m ((c.tc : Thread Cert.DH1Ideal.nD Cert.DH1Ideal.τ).loc Cert.DH1Ideal.main_arg3)
      ∧ m' ((c.tc : Thread Cert.DH1RefIdeal.nD Cert.DH1RefIdeal.τ).loc Cert.DH1RefIdeal.main_arg4) = m ((c.tc : Thread Cert.DH1Ideal.nD Cert.DH1Ideal.τ).loc Cert.DH1Ideal.main_arg4)) →
    ∃ (v0 : (c : Dev Cert.DH1Ideal.nD) → Buf (Elt Ideal) ((c.tc : Thread Cert.DH1Ideal.nD Cert.DH1Ideal.τ).loc Cert.DH1Ideal.main_v17_0)) (v1 : (c : Dev Cert.DH1Ideal.nD) → Buf (Elt Ideal) ((c.tc : Thread Cert.DH1Ideal.nD Cert.DH1Ideal.τ).loc Cert.DH1Ideal.main_v17_1)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v17_0) = v0 c
          ∧ r.2.mem ((c.tc : Thread Cert.DH1Ideal.nD Cert.DH1Ideal.τ).loc Cert.DH1Ideal.main_v17_1) = v1 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
          ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2)
          ∧ r.2.mem ((c.tc : Thread Cert.DH1Ideal.nD Cert.DH1Ideal.τ).loc Cert.DH1Ideal.main_arg3) = m ((c.tc : Thread Cert.DH1Ideal.nD Cert.DH1Ideal.τ).loc Cert.DH1Ideal.main_arg3)
          ∧ r.2.mem ((c.tc : Thread Cert.DH1Ideal.nD Cert.DH1Ideal.τ).loc Cert.DH1Ideal.main_arg4) = m ((c.tc : Thread Cert.DH1Ideal.nD Cert.DH1Ideal.τ).loc Cert.DH1Ideal.main_arg4))
      ∧ θ_run (Cert.DH1RefIdeal.defs (F := Ideal)) (onTc (τ := Cert.DH1RefIdeal.τ) (Cert.DH1RefIdeal.main (F := Ideal))) ⟨m', fun _ => 0, g'⟩ (fun r => ∀ c : Dev Cert.DH1RefIdeal.nD,
          r.2.mem ((c.tc : Thread Cert.DH1RefIdeal.nD Cert.DH1RefIdeal.τ).loc Cert.DH1RefIdeal.main_v18) = v0 c
          ∧ r.2.mem ((c.tc : Thread Cert.DH1RefIdeal.nD Cert.DH1RefIdeal.τ).loc Cert.DH1RefIdeal.main_v20) = v1 c
          ∧ r.2.mem ((c.tc : Thread Cert.DH1RefIdeal.nD Cert.DH1RefIdeal.τ).loc Cert.DH1RefIdeal.main_arg0) = m' ((c.tc : Thread Cert.DH1RefIdeal.nD Cert.DH1RefIdeal.τ).loc Cert.DH1RefIdeal.main_arg0)
          ∧ r.2.mem ((c.tc : Thread Cert.DH1RefIdeal.nD Cert.DH1RefIdeal.τ).loc Cert.DH1RefIdeal.main_arg1) = m' ((c.tc : Thread Cert.DH1RefIdeal.nD Cert.DH1RefIdeal.τ).loc Cert.DH1RefIdeal.main_arg1)
          ∧ r.2.mem ((c.tc : Thread Cert.DH1RefIdeal.nD Cert.DH1RefIdeal.τ).loc Cert.DH1RefIdeal.main_arg2) = m' ((c.tc : Thread Cert.DH1RefIdeal.nD Cert.DH1RefIdeal.τ).loc Cert.DH1RefIdeal.main_arg2)
          ∧ r.2.mem ((c.tc : Thread Cert.DH1RefIdeal.nD Cert.DH1RefIdeal.τ).loc Cert.DH1RefIdeal.main_arg3) = m' ((c.tc : Thread Cert.DH1RefIdeal.nD Cert.DH1RefIdeal.τ).loc Cert.DH1RefIdeal.main_arg3)
          ∧ r.2.mem ((c.tc : Thread Cert.DH1RefIdeal.nD Cert.DH1RefIdeal.τ).loc Cert.DH1RefIdeal.main_arg4) = m' ((c.tc : Thread Cert.DH1RefIdeal.nD Cert.DH1RefIdeal.τ).loc Cert.DH1RefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v0) = v0 c
          ∧ r.2.mem ((c.tc : Thread Cert.AdamInRefIdeal.nD Cert.AdamInRefIdeal.τ).loc Cert.AdamInRefIdeal.main_v24) = v1 c
          ∧ r.2.mem ((c.tc : Thread Cert.AdamInRefIdeal.nD Cert.AdamInRefIdeal.τ).loc Cert.AdamInRefIdeal.main_v5) = v2 c
          ∧ r.2.mem ((c.tc : Thread Cert.AdamInRefIdeal.nD Cert.AdamInRefIdeal.τ).loc Cert.AdamInRefIdeal.main_v11) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamPa_AdamPaIdeal : Prop :=
  True

def algebraic_AdamPaIdeal_AdamPaRefIdeal [hAdamPaIdeal : Cert.AdamPaIdeal.Facts] [hAdamPaRefIdeal : Cert.AdamPaRefIdeal.Facts] : Prop :=
  ∀ (m : (ℓ : Loc Cert.AdamPaIdeal.nD Cert.AdamPaIdeal.τ Cert.AdamPaIdeal.sig) → Buf (Elt Ideal) ℓ) (g : Dev Cert.AdamPaIdeal.nD → PrngReg)
    (m' : (ℓ : Loc Cert.AdamPaRefIdeal.nD Cert.AdamPaRefIdeal.τ Cert.AdamPaRefIdeal.sig) → Buf (Elt Ideal) ℓ) (g' : Dev Cert.AdamPaRefIdeal.nD → PrngReg), Pre_AdamPaIdeal m →
    (∀ c : Dev Cert.AdamPaIdeal.nD,
      m' ((c.tc : Thread Cert.AdamPaRefIdeal.nD Cert.AdamPaRefIdeal.τ).loc Cert.AdamPaRefIdeal.main_arg0) = m ((c.tc : Thread Cert.AdamPaIdeal.nD Cert.AdamPaIdeal.τ).loc Cert.AdamPaIdeal.main_arg0)
      ∧ m' ((c.tc : Thread Cert.AdamPaRefIdeal.nD Cert.AdamPaRefIdeal.τ).loc Cert.AdamPaRefIdeal.main_arg1) = m ((c.tc : Thread Cert.AdamPaIdeal.nD Cert.AdamPaIdeal.τ).loc Cert.AdamPaIdeal.main_arg1)
      ∧ m' ((c.tc : Thread Cert.AdamPaRefIdeal.nD Cert.AdamPaRefIdeal.τ).loc Cert.AdamPaRefIdeal.main_arg2) = m ((c.tc : Thread Cert.AdamPaIdeal.nD Cert.AdamPaIdeal.τ).loc Cert.AdamPaIdeal.main_arg2)
      ∧ m' ((c.tc : Thread Cert.AdamPaRefIdeal.nD Cert.AdamPaRefIdeal.τ).loc Cert.AdamPaRefIdeal.main_arg3) = m ((c.tc : Thread Cert.AdamPaIdeal.nD Cert.AdamPaIdeal.τ).loc Cert.AdamPaIdeal.main_arg3)
      ∧ m' ((c.tc : Thread Cert.AdamPaRefIdeal.nD Cert.AdamPaRefIdeal.τ).loc Cert.AdamPaRefIdeal.main_arg4) = m ((c.tc : Thread Cert.AdamPaIdeal.nD Cert.AdamPaIdeal.τ).loc Cert.AdamPaIdeal.main_arg4)) →
    ∃ (v0 : (c : Dev Cert.AdamPaIdeal.nD) → Buf (Elt Ideal) ((c.tc : Thread Cert.AdamPaIdeal.nD Cert.AdamPaIdeal.τ).loc Cert.AdamPaIdeal.main_v0_0)) (v1 : (c : Dev Cert.AdamPaIdeal.nD) → Buf (Elt Ideal) ((c.tc : Thread Cert.AdamPaIdeal.nD Cert.AdamPaIdeal.τ).loc Cert.AdamPaIdeal.main_v0_1)) (v2 : (c : Dev Cert.AdamPaIdeal.nD) → Buf (Elt Ideal) ((c.tc : Thread Cert.AdamPaIdeal.nD Cert.AdamPaIdeal.τ).loc Cert.AdamPaIdeal.main_v0_2)) (v3 : (c : Dev Cert.AdamPaIdeal.nD) → Buf (Elt Ideal) ((c.tc : Thread Cert.AdamPaIdeal.nD Cert.AdamPaIdeal.τ).loc Cert.AdamPaIdeal.main_v0_3)),
      θ_run (Cert.AdamPaIdeal.defs (F := Ideal)) (onTc (τ := Cert.AdamPaIdeal.τ) (Cert.AdamPaIdeal.main (F := Ideal))) ⟨m, fun _ => 0, g⟩ (fun r => ∀ c : Dev Cert.AdamPaIdeal.nD,
          r.2.mem ((c.tc : Thread Cert.AdamPaIdeal.nD Cert.AdamPaIdeal.τ).loc Cert.AdamPaIdeal.main_v0_0) = v0 c
          ∧ r.2.mem ((c.tc : Thread Cert.AdamPaIdeal.nD Cert.AdamPaIdeal.τ).loc Cert.AdamPaIdeal.main_v0_1) = v1 c
          ∧ r.2.mem ((c.tc : Thread Cert.AdamPaIdeal.nD Cert.AdamPaIdeal.τ).loc Cert.AdamPaIdeal.main_v0_2) = v2 c
          ∧ r.2.mem ((c.tc : Thread Cert.AdamPaIdeal.nD Cert.AdamPaIdeal.τ).loc Cert.AdamPaIdeal.main_v0_3) = v3 c
          ∧ r.2.mem ((c.tc : Thread Cert.AdamPaIdeal.nD Cert.AdamPaIdeal.τ).loc Cert.AdamPaIdeal.main_arg0) = m ((c.tc : Thread Cert.AdamPaIdeal.nD Cert.AdamPaIdeal.τ).loc Cert.AdamPaIdeal.main_arg0)
          ∧ r.2.mem ((c.tc : Thread Cert.AdamPaIdeal.nD Cert.AdamPaIdeal.τ).loc Cert.AdamPaIdeal.main_arg1) = m ((c.tc : Thread Cert.AdamPaIdeal.nD Cert.AdamPaIdeal.τ).loc Cert.AdamPaIdeal.main_arg1)
          ∧ r.2.mem ((c.tc : Thread Cert.AdamPaIdeal.nD Cert.AdamPaIdeal.τ).loc Cert.AdamPaIdeal.main_arg2) = m ((c.tc : Thread Cert.AdamPaIdeal.nD Cert.AdamPaIdeal.τ).loc Cert.AdamPaIdeal.main_arg2)
          ∧ r.2.mem ((c.tc : Thread Cert.AdamPaIdeal.nD Cert.AdamPaIdeal.τ).loc Cert.AdamPaIdeal.main_arg3) = m ((c.tc : Thread Cert.AdamPaIdeal.nD Cert.AdamPaIdeal.τ).loc Cert.AdamPaIdeal.main_arg3)
          ∧ r.2.mem ((c.tc : Thread Cert.AdamPaIdeal.nD Cert.AdamPaIdeal.τ).loc Cert.AdamPaIdeal.main_arg4) = m ((c.tc : Thread Cert.AdamPaIdeal.nD Cert.AdamPaIdeal.τ).loc Cert.AdamPaIdeal.main_arg4))
      ∧ θ_run (Cert.AdamPaRefIdeal.defs (F := Ideal)) (onTc (τ := Cert.AdamPaRefIdeal.τ) (Cert.AdamPaRefIdeal.main (F := Ideal))) ⟨m', fun _ => 0, g'⟩ (fun r => ∀ c : Dev Cert.AdamPaRefIdeal.nD,
          r.2.mem ((c.tc : Thread Cert.AdamPaRefIdeal.nD Cert.AdamPaRefIdeal.τ).loc Cert.AdamPaRefIdeal.main_v0) = v0 c
          ∧ r.2.mem ((c.tc : Thread Cert.AdamPaRefIdeal.nD Cert.AdamPaRefIdeal.τ).loc Cert.AdamPaRefIdeal.main_v24) = v1 c
          ∧ r.2.mem ((c.tc : Thread Cert.AdamPaRefIdeal.nD Cert.AdamPaRefIdeal.τ).loc Cert.AdamPaRefIdeal.main_v5) = v2 c
          ∧ r.2.mem ((c.tc : Thread Cert.AdamPaRefIdeal.nD Cert.AdamPaRefIdeal.τ).loc Cert.AdamPaRefIdeal.main_v11) = v3 c
          ∧ r.2.mem ((c.tc : Thread Cert.AdamPaRefIdeal.nD Cert.AdamPaRefIdeal.τ).loc Cert.AdamPaRefIdeal.main_arg0) = m' ((c.tc : Thread Cert.AdamPaRefIdeal.nD Cert.AdamPaRefIdeal.τ).loc Cert.AdamPaRefIdeal.main_arg0)
          ∧ r.2.mem ((c.tc : Thread Cert.AdamPaRefIdeal.nD Cert.AdamPaRefIdeal.τ).loc Cert.AdamPaRefIdeal.main_arg1) = m' ((c.tc : Thread Cert.AdamPaRefIdeal.nD Cert.AdamPaRefIdeal.τ).loc Cert.AdamPaRefIdeal.main_arg1)
          ∧ r.2.mem ((c.tc : Thread Cert.AdamPaRefIdeal.nD Cert.AdamPaRefIdeal.τ).loc Cert.AdamPaRefIdeal.main_arg2) = m' ((c.tc : Thread Cert.AdamPaRefIdeal.nD Cert.AdamPaRefIdeal.τ).loc Cert.AdamPaRefIdeal.main_arg2)
          ∧ r.2.mem ((c.tc : Thread Cert.AdamPaRefIdeal.nD Cert.AdamPaRefIdeal.τ).loc Cert.AdamPaRefIdeal.main_arg3) = m' ((c.tc : Thread Cert.AdamPaRefIdeal.nD Cert.AdamPaRefIdeal.τ).loc Cert.AdamPaRefIdeal.main_arg3)
          ∧ r.2.mem ((c.tc : Thread Cert.AdamPaRefIdeal.nD Cert.AdamPaRefIdeal.τ).loc Cert.AdamPaRefIdeal.main_arg4) = m' ((c.tc : Thread Cert.AdamPaRefIdeal.nD Cert.AdamPaRefIdeal.τ).loc Cert.AdamPaRefIdeal.main_arg4))

def preserves_AdamPb_AdamPbIdeal : Prop :=
  True

def algebraic_AdamPbIdeal_AdamPbRefIdeal [hAdamPbIdeal : Cert.AdamPbIdeal.Facts] [hAdamPbRefIdeal : Cert.AdamPbRefIdeal.Facts] : Prop :=
  ∀ (m : (ℓ : Loc Cert.AdamPbIdeal.nD Cert.AdamPbIdeal.τ Cert.AdamPbIdeal.sig) → Buf (Elt Ideal) ℓ) (g : Dev Cert.AdamPbIdeal.nD → PrngReg)
    (m' : (ℓ : Loc Cert.AdamPbRefIdeal.nD Cert.AdamPbRefIdeal.τ Cert.AdamPbRefIdeal.sig) → Buf (Elt Ideal) ℓ) (g' : Dev Cert.AdamPbRefIdeal.nD → PrngReg), Pre_AdamPbIdeal m →
    (∀ c : Dev Cert.AdamPbIdeal.nD,
      m' ((c.tc : Thread Cert.AdamPbRefIdeal.nD Cert.AdamPbRefIdeal.τ).loc Cert.AdamPbRefIdeal.main_arg0) = m ((c.tc : Thread Cert.AdamPbIdeal.nD Cert.AdamPbIdeal.τ).loc Cert.AdamPbIdeal.main_arg0)
      ∧ m' ((c.tc : Thread Cert.AdamPbRefIdeal.nD Cert.AdamPbRefIdeal.τ).loc Cert.AdamPbRefIdeal.main_arg1) = m ((c.tc : Thread Cert.AdamPbIdeal.nD Cert.AdamPbIdeal.τ).loc Cert.AdamPbIdeal.main_arg1)
      ∧ m' ((c.tc : Thread Cert.AdamPbRefIdeal.nD Cert.AdamPbRefIdeal.τ).loc Cert.AdamPbRefIdeal.main_arg2) = m ((c.tc : Thread Cert.AdamPbIdeal.nD Cert.AdamPbIdeal.τ).loc Cert.AdamPbIdeal.main_arg2)
      ∧ m' ((c.tc : Thread Cert.AdamPbRefIdeal.nD Cert.AdamPbRefIdeal.τ).loc Cert.AdamPbRefIdeal.main_arg3) = m ((c.tc : Thread Cert.AdamPbIdeal.nD Cert.AdamPbIdeal.τ).loc Cert.AdamPbIdeal.main_arg3)
      ∧ m' ((c.tc : Thread Cert.AdamPbRefIdeal.nD Cert.AdamPbRefIdeal.τ).loc Cert.AdamPbRefIdeal.main_arg4) = m ((c.tc : Thread Cert.AdamPbIdeal.nD Cert.AdamPbIdeal.τ).loc Cert.AdamPbIdeal.main_arg4)) →
    ∃ (v0 : (c : Dev Cert.AdamPbIdeal.nD) → Buf (Elt Ideal) ((c.tc : Thread Cert.AdamPbIdeal.nD Cert.AdamPbIdeal.τ).loc Cert.AdamPbIdeal.main_v0_0)) (v1 : (c : Dev Cert.AdamPbIdeal.nD) → Buf (Elt Ideal) ((c.tc : Thread Cert.AdamPbIdeal.nD Cert.AdamPbIdeal.τ).loc Cert.AdamPbIdeal.main_v0_1)) (v2 : (c : Dev Cert.AdamPbIdeal.nD) → Buf (Elt Ideal) ((c.tc : Thread Cert.AdamPbIdeal.nD Cert.AdamPbIdeal.τ).loc Cert.AdamPbIdeal.main_v0_2)) (v3 : (c : Dev Cert.AdamPbIdeal.nD) → Buf (Elt Ideal) ((c.tc : Thread Cert.AdamPbIdeal.nD Cert.AdamPbIdeal.τ).loc Cert.AdamPbIdeal.main_v0_3)),
      θ_run (Cert.AdamPbIdeal.defs (F := Ideal)) (onTc (τ := Cert.AdamPbIdeal.τ) (Cert.AdamPbIdeal.main (F := Ideal))) ⟨m, fun _ => 0, g⟩ (fun r => ∀ c : Dev Cert.AdamPbIdeal.nD,
          r.2.mem ((c.tc : Thread Cert.AdamPbIdeal.nD Cert.AdamPbIdeal.τ).loc Cert.AdamPbIdeal.main_v0_0) = v0 c
          ∧ r.2.mem ((c.tc : Thread Cert.AdamPbIdeal.nD Cert.AdamPbIdeal.τ).loc Cert.AdamPbIdeal.main_v0_1) = v1 c
          ∧ r.2.mem ((c.tc : Thread Cert.AdamPbIdeal.nD Cert.AdamPbIdeal.τ).loc Cert.AdamPbIdeal.main_v0_2) = v2 c
          ∧ r.2.mem ((c.tc : Thread Cert.AdamPbIdeal.nD Cert.AdamPbIdeal.τ).loc Cert.AdamPbIdeal.main_v0_3) = v3 c
          ∧ r.2.mem ((c.tc : Thread Cert.AdamPbIdeal.nD Cert.AdamPbIdeal.τ).loc Cert.AdamPbIdeal.main_arg0) = m ((c.tc : Thread Cert.AdamPbIdeal.nD Cert.AdamPbIdeal.τ).loc Cert.AdamPbIdeal.main_arg0)
          ∧ r.2.mem ((c.tc : Thread Cert.AdamPbIdeal.nD Cert.AdamPbIdeal.τ).loc Cert.AdamPbIdeal.main_arg1) = m ((c.tc : Thread Cert.AdamPbIdeal.nD Cert.AdamPbIdeal.τ).loc Cert.AdamPbIdeal.main_arg1)
          ∧ r.2.mem ((c.tc : Thread Cert.AdamPbIdeal.nD Cert.AdamPbIdeal.τ).loc Cert.AdamPbIdeal.main_arg2) = m ((c.tc : Thread Cert.AdamPbIdeal.nD Cert.AdamPbIdeal.τ).loc Cert.AdamPbIdeal.main_arg2)
          ∧ r.2.mem ((c.tc : Thread Cert.AdamPbIdeal.nD Cert.AdamPbIdeal.τ).loc Cert.AdamPbIdeal.main_arg3) = m ((c.tc : Thread Cert.AdamPbIdeal.nD Cert.AdamPbIdeal.τ).loc Cert.AdamPbIdeal.main_arg3)
          ∧ r.2.mem ((c.tc : Thread Cert.AdamPbIdeal.nD Cert.AdamPbIdeal.τ).loc Cert.AdamPbIdeal.main_arg4) = m ((c.tc : Thread Cert.AdamPbIdeal.nD Cert.AdamPbIdeal.τ).loc Cert.AdamPbIdeal.main_arg4))
      ∧ θ_run (Cert.AdamPbRefIdeal.defs (F := Ideal)) (onTc (τ := Cert.AdamPbRefIdeal.τ) (Cert.AdamPbRefIdeal.main (F := Ideal))) ⟨m', fun _ => 0, g'⟩ (fun r => ∀ c : Dev Cert.AdamPbRefIdeal.nD,
          r.2.mem ((c.tc : Thread Cert.AdamPbRefIdeal.nD Cert.AdamPbRefIdeal.τ).loc Cert.AdamPbRefIdeal.main_v0) = v0 c
          ∧ r.2.mem ((c.tc : Thread Cert.AdamPbRefIdeal.nD Cert.AdamPbRefIdeal.τ).loc Cert.AdamPbRefIdeal.main_v24) = v1 c
          ∧ r.2.mem ((c.tc : Thread Cert.AdamPbRefIdeal.nD Cert.AdamPbRefIdeal.τ).loc Cert.AdamPbRefIdeal.main_v5) = v2 c
          ∧ r.2.mem ((c.tc : Thread Cert.AdamPbRefIdeal.nD Cert.AdamPbRefIdeal.τ).loc Cert.AdamPbRefIdeal.main_v11) = v3 c
          ∧ r.2.mem ((c.tc : Thread Cert.AdamPbRefIdeal.nD Cert.AdamPbRefIdeal.τ).loc Cert.AdamPbRefIdeal.main_arg0) = m' ((c.tc : Thread Cert.AdamPbRefIdeal.nD Cert.AdamPbRefIdeal.τ).loc Cert.AdamPbRefIdeal.main_arg0)
          ∧ r.2.mem ((c.tc : Thread Cert.AdamPbRefIdeal.nD Cert.AdamPbRefIdeal.τ).loc Cert.AdamPbRefIdeal.main_arg1) = m' ((c.tc : Thread Cert.AdamPbRefIdeal.nD Cert.AdamPbRefIdeal.τ).loc Cert.AdamPbRefIdeal.main_arg1)
          ∧ r.2.mem ((c.tc : Thread Cert.AdamPbRefIdeal.nD Cert.AdamPbRefIdeal.τ).loc Cert.AdamPbRefIdeal.main_arg2) = m' ((c.tc : Thread Cert.AdamPbRefIdeal.nD Cert.AdamPbRefIdeal.τ).loc Cert.AdamPbRefIdeal.main_arg2)
          ∧ r.2.mem ((c.tc : Thread Cert.AdamPbRefIdeal.nD Cert.AdamPbRefIdeal.τ).loc Cert.AdamPbRefIdeal.main_arg3) = m' ((c.tc : Thread Cert.AdamPbRefIdeal.nD Cert.AdamPbRefIdeal.τ).loc Cert.AdamPbRefIdeal.main_arg3)
          ∧ r.2.mem ((c.tc : Thread Cert.AdamPbRefIdeal.nD Cert.AdamPbRefIdeal.τ).loc Cert.AdamPbRefIdeal.main_arg4) = m' ((c.tc : Thread Cert.AdamPbRefIdeal.nD Cert.AdamPbRefIdeal.τ).loc Cert.AdamPbRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v24) = v1 c
          ∧ r.2.mem ((c.tc : Thread Cert.AdamOutRefIdeal.nD Cert.AdamOutRefIdeal.τ).loc Cert.AdamOutRefIdeal.main_v5) = v2 c
          ∧ r.2.mem ((c.tc : Thread Cert.AdamOutRefIdeal.nD Cert.AdamOutRefIdeal.τ).loc Cert.AdamOutRefIdeal.main_v11) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamGu_AdamGuIdeal : Prop :=
  True

def algebraic_AdamGuIdeal_AdamGuRefIdeal [hAdamGuIdeal : Cert.AdamGuIdeal.Facts] [hAdamGuRefIdeal : Cert.AdamGuRefIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg)
    (m' : (ℓ : Loc Cert.AdamGuRefIdeal.nD Cert.AdamGuRefIdeal.τ Cert.AdamGuRefIdeal.sig) → Buf (Elt Ideal) ℓ) (g' : Dev Cert.AdamGuRefIdeal.nD → PrngReg), Pre_AdamGuIdeal m →
    (∀ c : Dev Cert.AdamGuIdeal.nD,
      m' ((c.tc : Thread Cert.AdamGuRefIdeal.nD Cert.AdamGuRefIdeal.τ).loc Cert.AdamGuRefIdeal.main_arg0) = m ((c.tc : Thread Cert.AdamGuIdeal.nD Cert.AdamGuIdeal.τ).loc Cert.AdamGuIdeal.main_arg0)
      ∧ m' ((c.tc : Thread Cert.AdamGuRefIdeal.nD Cert.AdamGuRefIdeal.τ).loc Cert.AdamGuRefIdeal.main_arg1) = m ((c.tc : Thread Cert.AdamGuIdeal.nD Cert.AdamGuIdeal.τ).loc Cert.AdamGuIdeal.main_arg1)
      ∧ m' ((c.tc : Thread Cert.AdamGuRefIdeal.nD Cert.AdamGuRefIdeal.τ).loc Cert.AdamGuRefIdeal.main_arg2) = m ((c.tc : Thread Cert.AdamGuIdeal.nD Cert.AdamGuIdeal.τ).loc Cert.AdamGuIdeal.main_arg2)
      ∧ m' ((c.tc : Thread Cert.AdamGuRefIdeal.nD Cert.AdamGuRefIdeal.τ).loc Cert.AdamGuRefIdeal.main_arg3) = m ((c.tc : Thread Cert.AdamGuIdeal.nD Cert.AdamGuIdeal.τ).loc Cert.AdamGuIdeal.main_arg3)
      ∧ m' ((c.tc : Thread Cert.AdamGuRefIdeal.nD Cert.AdamGuRefIdeal.τ).loc Cert.AdamGuRefIdeal.main_arg4) = m ((c.tc : Thread Cert.AdamGuIdeal.nD Cert.AdamGuIdeal.τ).loc Cert.AdamGuIdeal.main_arg4)) →
    ∃ (v0 : (c : Dev Cert.AdamGuIdeal.nD) → Buf (Elt Ideal) ((c.tc : Thread Cert.AdamGuIdeal.nD Cert.AdamGuIdeal.τ).loc Cert.AdamGuIdeal.main_v0_0)) (v1 : (c : Dev Cert.AdamGuIdeal.nD) → Buf (Elt Ideal) ((c.tc : Thread Cert.AdamGuIdeal.nD Cert.AdamGuIdeal.τ).loc Cert.AdamGuIdeal.main_v0_1)) (v2 : (c : Dev Cert.AdamGuIdeal.nD) → Buf (Elt Ideal) ((c.tc : Thread Cert.AdamGuIdeal.nD Cert.AdamGuIdeal.τ).loc Cert.AdamGuIdeal.main_v0_2)) (v3 : (c : Dev Cert.AdamGuIdeal.nD) → Buf (Elt Ideal) ((c.tc : Thread Cert.AdamGuIdeal.nD Cert.AdamGuIdeal.τ).loc Cert.AdamGuIdeal.main_v0_3)),
      θ_run (Cert.AdamGuIdeal.defs (F := Ideal)) (onTc (τ := Cert.AdamGuIdeal.τ) (Cert.AdamGuIdeal.main (F := Ideal))) ⟨m, fun _ => 0, g⟩ (fun r => ∀ c : Dev Cert.AdamGuIdeal.nD,
          r.2.mem ((c.tc : Thread Cert.AdamGuIdeal.nD Cert.AdamGuIdeal.τ).loc Cert.AdamGuIdeal.main_v0_0) = v0 c
          ∧ r.2.mem ((c.tc : Thread Cert.AdamGuIdeal.nD Cert.AdamGuIdeal.τ).loc Cert.AdamGuIdeal.main_v0_1) = v1 c
          ∧ r.2.mem ((c.tc : Thread Cert.AdamGuIdeal.nD Cert.AdamGuIdeal.τ).loc Cert.AdamGuIdeal.main_v0_2) = v2 c
          ∧ r.2.mem ((c.tc : Thread Cert.AdamGuIdeal.nD Cert.AdamGuIdeal.τ).loc Cert.AdamGuIdeal.main_v0_3) = v3 c
          ∧ r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
          ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
          ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
          ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3)
          ∧ r.2.mem ((c.tc : Thread Cert.AdamGuIdeal.nD Cert.AdamGuIdeal.τ).loc Cert.AdamGuIdeal.main_arg4) = m ((c.tc : Thread Cert.AdamGuIdeal.nD Cert.AdamGuIdeal.τ).loc Cert.AdamGuIdeal.main_arg4))
      ∧ θ_run (Cert.AdamGuRefIdeal.defs (F := Ideal)) (onTc (τ := Cert.AdamGuRefIdeal.τ) (Cert.AdamGuRefIdeal.main (F := Ideal))) ⟨m', fun _ => 0, g'⟩ (fun r => ∀ c : Dev Cert.AdamGuRefIdeal.nD,
          r.2.mem ((c.tc : Thread Cert.AdamGuRefIdeal.nD Cert.AdamGuRefIdeal.τ).loc Cert.AdamGuRefIdeal.main_v0) = v0 c
          ∧ r.2.mem ((c.tc : Thread Cert.AdamGuRefIdeal.nD Cert.AdamGuRefIdeal.τ).loc Cert.AdamGuRefIdeal.main_v24) = v1 c
          ∧ r.2.mem ((c.tc : Thread Cert.AdamGuRefIdeal.nD Cert.AdamGuRefIdeal.τ).loc Cert.AdamGuRefIdeal.main_v5) = v2 c
          ∧ r.2.mem ((c.tc : Thread Cert.AdamGuRefIdeal.nD Cert.AdamGuRefIdeal.τ).loc Cert.AdamGuRefIdeal.main_v11) = v3 c
          ∧ r.2.mem ((c.tc : Thread Cert.AdamGuRefIdeal.nD Cert.AdamGuRefIdeal.τ).loc Cert.AdamGuRefIdeal.main_arg0) = m' ((c.tc : Thread Cert.AdamGuRefIdeal.nD Cert.AdamGuRefIdeal.τ).loc Cert.AdamGuRefIdeal.main_arg0)
          ∧ r.2.mem ((c.tc : Thread Cert.AdamGuRefIdeal.nD Cert.AdamGuRefIdeal.τ).loc Cert.AdamGuRefIdeal.main_arg1) = m' ((c.tc : Thread Cert.AdamGuRefIdeal.nD Cert.AdamGuRefIdeal.τ).loc Cert.AdamGuRefIdeal.main_arg1)
          ∧ r.2.mem ((c.tc : Thread Cert.AdamGuRefIdeal.nD Cert.AdamGuRefIdeal.τ).loc Cert.AdamGuRefIdeal.main_arg2) = m' ((c.tc : Thread Cert.AdamGuRefIdeal.nD Cert.AdamGuRefIdeal.τ).loc Cert.AdamGuRefIdeal.main_arg2)
          ∧ r.2.mem ((c.tc : Thread Cert.AdamGuRefIdeal.nD Cert.AdamGuRefIdeal.τ).loc Cert.AdamGuRefIdeal.main_arg3) = m' ((c.tc : Thread Cert.AdamGuRefIdeal.nD Cert.AdamGuRefIdeal.τ).loc Cert.AdamGuRefIdeal.main_arg3)
          ∧ r.2.mem ((c.tc : Thread Cert.AdamGuRefIdeal.nD Cert.AdamGuRefIdeal.τ).loc Cert.AdamGuRefIdeal.main_arg4) = m' ((c.tc : Thread Cert.AdamGuRefIdeal.nD Cert.AdamGuRefIdeal.τ).loc Cert.AdamGuRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v0) = v0 c
          ∧ r.2.mem ((c.tc : Thread Cert.AdamDownRefIdeal.nD Cert.AdamDownRefIdeal.τ).loc Cert.AdamDownRefIdeal.main_v24) = v1 c
          ∧ r.2.mem ((c.tc : Thread Cert.AdamDownRefIdeal.nD Cert.AdamDownRefIdeal.τ).loc Cert.AdamDownRefIdeal.main_v5) = v2 c
          ∧ r.2.mem ((c.tc : Thread Cert.AdamDownRefIdeal.nD Cert.AdamDownRefIdeal.τ).loc Cert.AdamDownRefIdeal.main_v11) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_arg0) = v0 c
          ∧ r.2.mem ((c.tc : Thread Cert.AdamAdaRefIdeal.nD Cert.AdamAdaRefIdeal.τ).loc Cert.AdamAdaRefIdeal.main_v23) = v1 c
          ∧ r.2.mem ((c.tc : Thread Cert.AdamAdaRefIdeal.nD Cert.AdamAdaRefIdeal.τ).loc Cert.AdamAdaRefIdeal.main_v4) = v2 c
          ∧ r.2.mem ((c.tc : Thread Cert.AdamAdaRefIdeal.nD Cert.AdamAdaRefIdeal.τ).loc Cert.AdamAdaRefIdeal.main_v10) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)
      ∧ m' ((c.tc : Thread Cert.AdamSmallRefIdeal.nD Cert.AdamSmallRefIdeal.τ).loc Cert.AdamSmallRefIdeal.main_arg40) = m ((c.tc : Thread Cert.AdamSmallIdeal.nD Cert.AdamSmallIdeal.τ).loc Cert.AdamSmallIdeal.main_arg40)
      ∧ m' ((c.tc : Thread Cert.AdamSmallRefIdeal.nD Cert.AdamSmallRefIdeal.τ).loc Cert.AdamSmallRefIdeal.main_arg41) = m ((c.tc : Thread Cert.AdamSmallIdeal.nD Cert.AdamSmallIdeal.τ).loc Cert.AdamSmallIdeal.main_arg41)
      ∧ m' ((c.tc : Thread Cert.AdamSmallRefIdeal.nD Cert.AdamSmallRefIdeal.τ).loc Cert.AdamSmallRefIdeal.main_arg42) = m ((c.tc : Thread Cert.AdamSmallIdeal.nD Cert.AdamSmallIdeal.τ).loc Cert.AdamSmallIdeal.main_arg42)
      ∧ m' ((c.tc : Thread Cert.AdamSmallRefIdeal.nD Cert.AdamSmallRefIdeal.τ).loc Cert.AdamSmallRefIdeal.main_arg43) = m ((c.tc : Thread Cert.AdamSmallIdeal.nD Cert.AdamSmallIdeal.τ).loc Cert.AdamSmallIdeal.main_arg43)
      ∧ m' ((c.tc : Thread Cert.AdamSmallRefIdeal.nD Cert.AdamSmallRefIdeal.τ).loc Cert.AdamSmallRefIdeal.main_arg44) = m ((c.tc : Thread Cert.AdamSmallIdeal.nD Cert.AdamSmallIdeal.τ).loc Cert.AdamSmallIdeal.main_arg44)
      ∧ m' ((c.tc : Thread Cert.AdamSmallRefIdeal.nD Cert.AdamSmallRefIdeal.τ).loc Cert.AdamSmallRefIdeal.main_arg45) = m ((c.tc : Thread Cert.AdamSmallIdeal.nD Cert.AdamSmallIdeal.τ).loc Cert.AdamSmallIdeal.main_arg45)
      ∧ m' ((c.tc : Thread Cert.AdamSmallRefIdeal.nD Cert.AdamSmallRefIdeal.τ).loc Cert.AdamSmallRefIdeal.main_arg46) = m ((c.tc : Thread Cert.AdamSmallIdeal.nD Cert.AdamSmallIdeal.τ).loc Cert.AdamSmallIdeal.main_arg46)
      ∧ m' ((c.tc : Thread Cert.AdamSmallRefIdeal.nD Cert.AdamSmallRefIdeal.τ).loc Cert.AdamSmallRefIdeal.main_arg47) = m ((c.tc : Thread Cert.AdamSmallIdeal.nD Cert.AdamSmallIdeal.τ).loc Cert.AdamSmallIdeal.main_arg47)
      ∧ m' ((c.tc : Thread Cert.AdamSmallRefIdeal.nD Cert.AdamSmallRefIdeal.τ).loc Cert.AdamSmallRefIdeal.main_arg48) = m ((c.tc : Thread Cert.AdamSmallIdeal.nD Cert.AdamSmallIdeal.τ).loc Cert.AdamSmallIdeal.main_arg48)
      ∧ m' ((c.tc : Thread Cert.AdamSmallRefIdeal.nD Cert.AdamSmallRefIdeal.τ).loc Cert.AdamSmallRefIdeal.main_arg49) = m ((c.tc : Thread Cert.AdamSmallIdeal.nD Cert.AdamSmallIdeal.τ).loc Cert.AdamSmallIdeal.main_arg49)
      ∧ m' ((c.tc : Thread Cert.AdamSmallRefIdeal.nD Cert.AdamSmallRefIdeal.τ).loc Cert.AdamSmallRefIdeal.main_arg50) = m ((c.tc : Thread Cert.AdamSmallIdeal.nD Cert.AdamSmallIdeal.τ).loc Cert.AdamSmallIdeal.main_arg50)
      ∧ m' ((c.tc : Thread Cert.AdamSmallRefIdeal.nD Cert.AdamSmallRefIdeal.τ).loc Cert.AdamSmallRefIdeal.main_arg51) = m ((c.tc : Thread Cert.AdamSmallIdeal.nD Cert.AdamSmallIdeal.τ).loc Cert.AdamSmallIdeal.main_arg51)
      ∧ m' ((c.tc : Thread Cert.AdamSmallRefIdeal.nD Cert.AdamSmallRefIdeal.τ).loc Cert.AdamSmallRefIdeal.main_arg52) = m ((c.tc : Thread Cert.AdamSmallIdeal.nD Cert.AdamSmallIdeal.τ).loc Cert.AdamSmallIdeal.main_arg52)
      ∧ m' ((c.tc : Thread Cert.AdamSmallRefIdeal.nD Cert.AdamSmallRefIdeal.τ).loc Cert.AdamSmallRefIdeal.main_arg53) = m ((c.tc : Thread Cert.AdamSmallIdeal.nD Cert.AdamSmallIdeal.τ).loc Cert.AdamSmallIdeal.main_arg53)
      ∧ m' ((c.tc : Thread Cert.AdamSmallRefIdeal.nD Cert.AdamSmallRefIdeal.τ).loc Cert.AdamSmallRefIdeal.main_arg54) = m ((c.tc : Thread Cert.AdamSmallIdeal.nD Cert.AdamSmallIdeal.τ).loc Cert.AdamSmallIdeal.main_arg54)
      ∧ m' ((c.tc : Thread Cert.AdamSmallRefIdeal.nD Cert.AdamSmallRefIdeal.τ).loc Cert.AdamSmallRefIdeal.main_arg55) = m ((c.tc : Thread Cert.AdamSmallIdeal.nD Cert.AdamSmallIdeal.τ).loc Cert.AdamSmallIdeal.main_arg55)
      ∧ m' ((c.tc : Thread Cert.AdamSmallRefIdeal.nD Cert.AdamSmallRefIdeal.τ).loc Cert.AdamSmallRefIdeal.main_arg56) = m ((c.tc : Thread Cert.AdamSmallIdeal.nD Cert.AdamSmallIdeal.τ).loc Cert.AdamSmallIdeal.main_arg56)
      ∧ m' ((c.tc : Thread Cert.AdamSmallRefIdeal.nD Cert.AdamSmallRefIdeal.τ).loc Cert.AdamSmallRefIdeal.main_arg57) = m ((c.tc : Thread Cert.AdamSmallIdeal.nD Cert.AdamSmallIdeal.τ).loc Cert.AdamSmallIdeal.main_arg57)
      ∧ m' ((c.tc : Thread Cert.AdamSmallRefIdeal.nD Cert.AdamSmallRefIdeal.τ).loc Cert.AdamSmallRefIdeal.main_arg58) = m ((c.tc : Thread Cert.AdamSmallIdeal.nD Cert.AdamSmallIdeal.τ).loc Cert.AdamSmallIdeal.main_arg58)
      ∧ m' ((c.tc : Thread Cert.AdamSmallRefIdeal.nD Cert.AdamSmallRefIdeal.τ).loc Cert.AdamSmallRefIdeal.main_arg59) = m ((c.tc : Thread Cert.AdamSmallIdeal.nD Cert.AdamSmallIdeal.τ).loc Cert.AdamSmallIdeal.main_arg59)
      ∧ m' ((c.tc : Thread Cert.AdamSmallRefIdeal.nD Cert.AdamSmallRefIdeal.τ).loc Cert.AdamSmallRefIdeal.main_arg60) = m ((c.tc : Thread Cert.AdamSmallIdeal.nD Cert.AdamSmallIdeal.τ).loc Cert.AdamSmallIdeal.main_arg60)
      ∧ m' ((c.tc : Thread Cert.AdamSmallRefIdeal.nD Cert.AdamSmallRefIdeal.τ).loc Cert.AdamSmallRefIdeal.main_arg61) = m ((c.tc : Thread Cert.AdamSmallIdeal.nD Cert.AdamSmallIdeal.τ).loc Cert.AdamSmallIdeal.main_arg61)
      ∧ m' ((c.tc : Thread Cert.AdamSmallRefIdeal.nD Cert.AdamSmallRefIdeal.τ).loc Cert.AdamSmallRefIdeal.main_arg62) = m ((c.tc : Thread Cert.AdamSmallIdeal.nD Cert.AdamSmallIdeal.τ).loc Cert.AdamSmallIdeal.main_arg62)
      ∧ m' ((c.tc : Thread Cert.AdamSmallRefIdeal.nD Cert.AdamSmallRefIdeal.τ).loc Cert.AdamSmallRefIdeal.main_arg63) = m ((c.tc : Thread Cert.AdamSmallIdeal.nD Cert.AdamSmallIdeal.τ).loc Cert.AdamSmallIdeal.main_arg63)
      ∧ m' ((c.tc : Thread Cert.AdamSmallRefIdeal.nD Cert.AdamSmallRefIdeal.τ).loc Cert.AdamSmallRefIdeal.main_arg64) = m ((c.tc : Thread Cert.AdamSmallIdeal.nD Cert.AdamSmallIdeal.τ).loc Cert.AdamSmallIdeal.main_arg64)
      ∧ m' ((c.tc : Thread Cert.AdamSmallRefIdeal.nD Cert.AdamSmallRefIdeal.τ).loc Cert.AdamSmallRefIdeal.main_arg65) = m ((c.tc : Thread Cert.AdamSmallIdeal.nD Cert.AdamSmallIdeal.τ).loc Cert.AdamSmallIdeal.main_arg65)
      ∧ m' ((c.tc : Thread Cert.AdamSmallRefIdeal.nD Cert.AdamSmallRefIdeal.τ).loc Cert.AdamSmallRefIdeal.main_arg66) = m ((c.tc : Thread Cert.AdamSmallIdeal.nD Cert.AdamSmallIdeal.τ).loc Cert.AdamSmallIdeal.main_arg66)
      ∧ m' ((c.tc : Thread Cert.AdamSmallRefIdeal.nD Cert.AdamSmallRefIdeal.τ).loc Cert.AdamSmallRefIdeal.main_arg67) = m ((c.tc : Thread Cert.AdamSmallIdeal.nD Cert.AdamSmallIdeal.τ).loc Cert.AdamSmallIdeal.main_arg67)
      ∧ m' ((c.tc : Thread Cert.AdamSmallRefIdeal.nD Cert.AdamSmallRefIdeal.τ).loc Cert.AdamSmallRefIdeal.main_arg68) = m ((c.tc : Thread Cert.AdamSmallIdeal.nD Cert.AdamSmallIdeal.τ).loc Cert.AdamSmallIdeal.main_arg68)
      ∧ m' ((c.tc : Thread Cert.AdamSmallRefIdeal.nD Cert.AdamSmallRefIdeal.τ).loc Cert.AdamSmallRefIdeal.main_arg69) = m ((c.tc : Thread Cert.AdamSmallIdeal.nD Cert.AdamSmallIdeal.τ).loc Cert.AdamSmallIdeal.main_arg69)
      ∧ m' ((c.tc : Thread Cert.AdamSmallRefIdeal.nD Cert.AdamSmallRefIdeal.τ).loc Cert.AdamSmallRefIdeal.main_arg70) = m ((c.tc : Thread Cert.AdamSmallIdeal.nD Cert.AdamSmallIdeal.τ).loc Cert.AdamSmallIdeal.main_arg70)
      ∧ m' ((c.tc : Thread Cert.AdamSmallRefIdeal.nD Cert.AdamSmallRefIdeal.τ).loc Cert.AdamSmallRefIdeal.main_arg71) = m ((c.tc : Thread Cert.AdamSmallIdeal.nD Cert.AdamSmallIdeal.τ).loc Cert.AdamSmallIdeal.main_arg71)) →
    ∃ (v0 : (c : Dev Cert.AdamSmallIdeal.nD) → Buf (Elt Ideal) ((c.tc : Thread Cert.AdamSmallIdeal.nD Cert.AdamSmallIdeal.τ).loc Cert.AdamSmallIdeal.main_v180_0)) (v1 : (c : Dev Cert.AdamSmallIdeal.nD) → Buf (Elt Ideal) ((c.tc : Thread Cert.AdamSmallIdeal.nD Cert.AdamSmallIdeal.τ).loc Cert.AdamSmallIdeal.main_v180_1)) (v2 : (c : Dev Cert.AdamSmallIdeal.nD) → Buf (Elt Ideal) ((c.tc : Thread Cert.AdamSmallIdeal.nD Cert.AdamSmallIdeal.τ).loc Cert.AdamSmallIdeal.main_v180_2)) (v3 : (c : Dev Cert.AdamSmallIdeal.nD) → Buf (Elt Ideal) ((c.tc : Thread Cert.AdamSmallIdeal.nD Cert.AdamSmallIdeal.τ).loc Cert.AdamSmallIdeal.main_v180_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v180_0) = v0 c
          ∧ r.2.mem ((c.tc : Thread Cert.AdamSmallIdeal.nD Cert.AdamSmallIdeal.τ).loc Cert.AdamSmallIdeal.main_v180_1) = v1 c
          ∧ r.2.mem ((c.tc : Thread Cert.AdamSmallIdeal.nD Cert.AdamSmallIdeal.τ).loc Cert.AdamSmallIdeal.main_v180_2) = v2 c
          ∧ r.2.mem ((c.tc : Thread Cert.AdamSmallIdeal.nD Cert.AdamSmallIdeal.τ).loc Cert.AdamSmallIdeal.main_v180_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
          ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
          ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
          ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
          ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
          ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
          ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
          ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
          ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51)
          ∧ r.2.mem ((c.tc : Thread Cert.AdamSmallIdeal.nD Cert.AdamSmallIdeal.τ).loc Cert.AdamSmallIdeal.main_arg52) = m ((c.tc : Thread Cert.AdamSmallIdeal.nD Cert.AdamSmallIdeal.τ).loc Cert.AdamSmallIdeal.main_arg52)
          ∧ r.2.mem ((c.tc : Thread Cert.AdamSmallIdeal.nD Cert.AdamSmallIdeal.τ).loc Cert.AdamSmallIdeal.main_arg53) = m ((c.tc : Thread Cert.AdamSmallIdeal.nD Cert.AdamSmallIdeal.τ).loc Cert.AdamSmallIdeal.main_arg53)
          ∧ r.2.mem ((c.tc : Thread Cert.AdamSmallIdeal.nD Cert.AdamSmallIdeal.τ).loc Cert.AdamSmallIdeal.main_arg54) = m ((c.tc : Thread Cert.AdamSmallIdeal.nD Cert.AdamSmallIdeal.τ).loc Cert.AdamSmallIdeal.main_arg54)
          ∧ r.2.mem ((c.tc : Thread Cert.AdamSmallIdeal.nD Cert.AdamSmallIdeal.τ).loc Cert.AdamSmallIdeal.main_arg55) = m ((c.tc : Thread Cert.AdamSmallIdeal.nD Cert.AdamSmallIdeal.τ).loc Cert.AdamSmallIdeal.main_arg55)
          ∧ r.2.mem ((c.tc : Thread Cert.AdamSmallIdeal.nD Cert.AdamSmallIdeal.τ).loc Cert.AdamSmallIdeal.main_arg56) = m ((c.tc : Thread Cert.AdamSmallIdeal.nD Cert.AdamSmallIdeal.τ).loc Cert.AdamSmallIdeal.main_arg56)
          ∧ r.2.mem ((c.tc : Thread Cert.AdamSmallIdeal.nD Cert.AdamSmallIdeal.τ).loc Cert.AdamSmallIdeal.main_arg57) = m ((c.tc : Thread Cert.AdamSmallIdeal.nD Cert.AdamSmallIdeal.τ).loc Cert.AdamSmallIdeal.main_arg57)
          ∧ r.2.mem ((c.tc : Thread Cert.AdamSmallIdeal.nD Cert.AdamSmallIdeal.τ).loc Cert.AdamSmallIdeal.main_arg58) = m ((c.tc : Thread Cert.AdamSmallIdeal.nD Cert.AdamSmallIdeal.τ).loc Cert.AdamSmallIdeal.main_arg58)
          ∧ r.2.mem ((c.tc : Thread Cert.AdamSmallIdeal.nD Cert.AdamSmallIdeal.τ).loc Cert.AdamSmallIdeal.main_arg59) = m ((c.tc : Thread Cert.AdamSmallIdeal.nD Cert.AdamSmallIdeal.τ).loc Cert.AdamSmallIdeal.main_arg59)
          ∧ r.2.mem ((c.tc : Thread Cert.AdamSmallIdeal.nD Cert.AdamSmallIdeal.τ).loc Cert.AdamSmallIdeal.main_arg60) = m ((c.tc : Thread Cert.AdamSmallIdeal.nD Cert.AdamSmallIdeal.τ).loc Cert.AdamSmallIdeal.main_arg60)
          ∧ r.2.mem ((c.tc : Thread Cert.AdamSmallIdeal.nD Cert.AdamSmallIdeal.τ).loc Cert.AdamSmallIdeal.main_arg61) = m ((c.tc : Thread Cert.AdamSmallIdeal.nD Cert.AdamSmallIdeal.τ).loc Cert.AdamSmallIdeal.main_arg61)
          ∧ r.2.mem ((c.tc : Thread Cert.AdamSmallIdeal.nD Cert.AdamSmallIdeal.τ).loc Cert.AdamSmallIdeal.main_arg62) = m ((c.tc : Thread Cert.AdamSmallIdeal.nD Cert.AdamSmallIdeal.τ).loc Cert.AdamSmallIdeal.main_arg62)
          ∧ r.2.mem ((c.tc : Thread Cert.AdamSmallIdeal.nD Cert.AdamSmallIdeal.τ).loc Cert.AdamSmallIdeal.main_arg63) = m ((c.tc : Thread Cert.AdamSmallIdeal.nD Cert.AdamSmallIdeal.τ).loc Cert.AdamSmallIdeal.main_arg63)
          ∧ r.2.mem ((c.tc : Thread Cert.AdamSmallIdeal.nD Cert.AdamSmallIdeal.τ).loc Cert.AdamSmallIdeal.main_arg64) = m ((c.tc : Thread Cert.AdamSmallIdeal.nD Cert.AdamSmallIdeal.τ).loc Cert.AdamSmallIdeal.main_arg64)
          ∧ r.2.mem ((c.tc : Thread Cert.AdamSmallIdeal.nD Cert.AdamSmallIdeal.τ).loc Cert.AdamSmallIdeal.main_arg65) = m ((c.tc : Thread Cert.AdamSmallIdeal.nD Cert.AdamSmallIdeal.τ).loc Cert.AdamSmallIdeal.main_arg65)
          ∧ r.2.mem ((c.tc : Thread Cert.AdamSmallIdeal.nD Cert.AdamSmallIdeal.τ).loc Cert.AdamSmallIdeal.main_arg66) = m ((c.tc : Thread Cert.AdamSmallIdeal.nD Cert.AdamSmallIdeal.τ).loc Cert.AdamSmallIdeal.main_arg66)
          ∧ r.2.mem ((c.tc : Thread Cert.AdamSmallIdeal.nD Cert.AdamSmallIdeal.τ).loc Cert.AdamSmallIdeal.main_arg67) = m ((c.tc : Thread Cert.AdamSmallIdeal.nD Cert.AdamSmallIdeal.τ).loc Cert.AdamSmallIdeal.main_arg67)
          ∧ r.2.mem ((c.tc : Thread Cert.AdamSmallIdeal.nD Cert.AdamSmallIdeal.τ).loc Cert.AdamSmallIdeal.main_arg68) = m ((c.tc : Thread Cert.AdamSmallIdeal.nD Cert.AdamSmallIdeal.τ).loc Cert.AdamSmallIdeal.main_arg68)
          ∧ r.2.mem ((c.tc : Thread Cert.AdamSmallIdeal.nD Cert.AdamSmallIdeal.τ).loc Cert.AdamSmallIdeal.main_arg69) = m ((c.tc : Thread Cert.AdamSmallIdeal.nD Cert.AdamSmallIdeal.τ).loc Cert.AdamSmallIdeal.main_arg69)
          ∧ r.2.mem ((c.tc : Thread Cert.AdamSmallIdeal.nD Cert.AdamSmallIdeal.τ).loc Cert.AdamSmallIdeal.main_arg70) = m ((c.tc : Thread Cert.AdamSmallIdeal.nD Cert.AdamSmallIdeal.τ).loc Cert.AdamSmallIdeal.main_arg70)
          ∧ r.2.mem ((c.tc : Thread Cert.AdamSmallIdeal.nD Cert.AdamSmallIdeal.τ).loc Cert.AdamSmallIdeal.main_arg71) = m ((c.tc : Thread Cert.AdamSmallIdeal.nD Cert.AdamSmallIdeal.τ).loc Cert.AdamSmallIdeal.main_arg71))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v476) = v0 c
          ∧ r.2.mem ((c.tc : Thread Cert.AdamSmallRefIdeal.nD Cert.AdamSmallRefIdeal.τ).loc Cert.AdamSmallRefIdeal.main_v521) = v1 c
          ∧ r.2.mem ((c.tc : Thread Cert.AdamSmallRefIdeal.nD Cert.AdamSmallRefIdeal.τ).loc Cert.AdamSmallRefIdeal.main_v566) = v2 c
          ∧ r.2.mem ((c.tc : Thread Cert.AdamSmallRefIdeal.nD Cert.AdamSmallRefIdeal.τ).loc Cert.AdamSmallRefIdeal.main_v611) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39)
          ∧ r.2.mem ((c.tc : Thread Cert.AdamSmallRefIdeal.nD Cert.AdamSmallRefIdeal.τ).loc Cert.AdamSmallRefIdeal.main_arg40) = m' ((c.tc : Thread Cert.AdamSmallRefIdeal.nD Cert.AdamSmallRefIdeal.τ).loc Cert.AdamSmallRefIdeal.main_arg40)
          ∧ r.2.mem ((c.tc : Thread Cert.AdamSmallRefIdeal.nD Cert.AdamSmallRefIdeal.τ).loc Cert.AdamSmallRefIdeal.main_arg41) = m' ((c.tc : Thread Cert.AdamSmallRefIdeal.nD Cert.AdamSmallRefIdeal.τ).loc Cert.AdamSmallRefIdeal.main_arg41)
          ∧ r.2.mem ((c.tc : Thread Cert.AdamSmallRefIdeal.nD Cert.AdamSmallRefIdeal.τ).loc Cert.AdamSmallRefIdeal.main_arg42) = m' ((c.tc : Thread Cert.AdamSmallRefIdeal.nD Cert.AdamSmallRefIdeal.τ).loc Cert.AdamSmallRefIdeal.main_arg42)
          ∧ r.2.mem ((c.tc : Thread Cert.AdamSmallRefIdeal.nD Cert.AdamSmallRefIdeal.τ).loc Cert.AdamSmallRefIdeal.main_arg43) = m' ((c.tc : Thread Cert.AdamSmallRefIdeal.nD Cert.AdamSmallRefIdeal.τ).loc Cert.AdamSmallRefIdeal.main_arg43)
          ∧ r.2.mem ((c.tc : Thread Cert.AdamSmallRefIdeal.nD Cert.AdamSmallRefIdeal.τ).loc Cert.AdamSmallRefIdeal.main_arg44) = m' ((c.tc : Thread Cert.AdamSmallRefIdeal.nD Cert.AdamSmallRefIdeal.τ).loc Cert.AdamSmallRefIdeal.main_arg44)
          ∧ r.2.mem ((c.tc : Thread Cert.AdamSmallRefIdeal.nD Cert.AdamSmallRefIdeal.τ).loc Cert.AdamSmallRefIdeal.main_arg45) = m' ((c.tc : Thread Cert.AdamSmallRefIdeal.nD Cert.AdamSmallRefIdeal.τ).loc Cert.AdamSmallRefIdeal.main_arg45)
          ∧ r.2.mem ((c.tc : Thread Cert.AdamSmallRefIdeal.nD Cert.AdamSmallRefIdeal.τ).loc Cert.AdamSmallRefIdeal.main_arg46) = m' ((c.tc : Thread Cert.AdamSmallRefIdeal.nD Cert.AdamSmallRefIdeal.τ).loc Cert.AdamSmallRefIdeal.main_arg46)
          ∧ r.2.mem ((c.tc : Thread Cert.AdamSmallRefIdeal.nD Cert.AdamSmallRefIdeal.τ).loc Cert.AdamSmallRefIdeal.main_arg47) = m' ((c.tc : Thread Cert.AdamSmallRefIdeal.nD Cert.AdamSmallRefIdeal.τ).loc Cert.AdamSmallRefIdeal.main_arg47)
          ∧ r.2.mem ((c.tc : Thread Cert.AdamSmallRefIdeal.nD Cert.AdamSmallRefIdeal.τ).loc Cert.AdamSmallRefIdeal.main_arg48) = m' ((c.tc : Thread Cert.AdamSmallRefIdeal.nD Cert.AdamSmallRefIdeal.τ).loc Cert.AdamSmallRefIdeal.main_arg48)
          ∧ r.2.mem ((c.tc : Thread Cert.AdamSmallRefIdeal.nD Cert.AdamSmallRefIdeal.τ).loc Cert.AdamSmallRefIdeal.main_arg49) = m' ((c.tc : Thread Cert.AdamSmallRefIdeal.nD Cert.AdamSmallRefIdeal.τ).loc Cert.AdamSmallRefIdeal.main_arg49)
          ∧ r.2.mem ((c.tc : Thread Cert.AdamSmallRefIdeal.nD Cert.AdamSmallRefIdeal.τ).loc Cert.AdamSmallRefIdeal.main_arg50) = m' ((c.tc : Thread Cert.AdamSmallRefIdeal.nD Cert.AdamSmallRefIdeal.τ).loc Cert.AdamSmallRefIdeal.main_arg50)
          ∧ r.2.mem ((c.tc : Thread Cert.AdamSmallRefIdeal.nD Cert.AdamSmallRefIdeal.τ).loc Cert.AdamSmallRefIdeal.main_arg51) = m' ((c.tc : Thread Cert.AdamSmallRefIdeal.nD Cert.AdamSmallRefIdeal.τ).loc Cert.AdamSmallRefIdeal.main_arg51)
          ∧ r.2.mem ((c.tc : Thread Cert.AdamSmallRefIdeal.nD Cert.AdamSmallRefIdeal.τ).loc Cert.AdamSmallRefIdeal.main_arg52) = m' ((c.tc : Thread Cert.AdamSmallRefIdeal.nD Cert.AdamSmallRefIdeal.τ).loc Cert.AdamSmallRefIdeal.main_arg52)
          ∧ r.2.mem ((c.tc : Thread Cert.AdamSmallRefIdeal.nD Cert.AdamSmallRefIdeal.τ).loc Cert.AdamSmallRefIdeal.main_arg53) = m' ((c.tc : Thread Cert.AdamSmallRefIdeal.nD Cert.AdamSmallRefIdeal.τ).loc Cert.AdamSmallRefIdeal.main_arg53)
          ∧ r.2.mem ((c.tc : Thread Cert.AdamSmallRefIdeal.nD Cert.AdamSmallRefIdeal.τ).loc Cert.AdamSmallRefIdeal.main_arg54) = m' ((c.tc : Thread Cert.AdamSmallRefIdeal.nD Cert.AdamSmallRefIdeal.τ).loc Cert.AdamSmallRefIdeal.main_arg54)
          ∧ r.2.mem ((c.tc : Thread Cert.AdamSmallRefIdeal.nD Cert.AdamSmallRefIdeal.τ).loc Cert.AdamSmallRefIdeal.main_arg55) = m' ((c.tc : Thread Cert.AdamSmallRefIdeal.nD Cert.AdamSmallRefIdeal.τ).loc Cert.AdamSmallRefIdeal.main_arg55)
          ∧ r.2.mem ((c.tc : Thread Cert.AdamSmallRefIdeal.nD Cert.AdamSmallRefIdeal.τ).loc Cert.AdamSmallRefIdeal.main_arg56) = m' ((c.tc : Thread Cert.AdamSmallRefIdeal.nD Cert.AdamSmallRefIdeal.τ).loc Cert.AdamSmallRefIdeal.main_arg56)
          ∧ r.2.mem ((c.tc : Thread Cert.AdamSmallRefIdeal.nD Cert.AdamSmallRefIdeal.τ).loc Cert.AdamSmallRefIdeal.main_arg57) = m' ((c.tc : Thread Cert.AdamSmallRefIdeal.nD Cert.AdamSmallRefIdeal.τ).loc Cert.AdamSmallRefIdeal.main_arg57)
          ∧ r.2.mem ((c.tc : Thread Cert.AdamSmallRefIdeal.nD Cert.AdamSmallRefIdeal.τ).loc Cert.AdamSmallRefIdeal.main_arg58) = m' ((c.tc : Thread Cert.AdamSmallRefIdeal.nD Cert.AdamSmallRefIdeal.τ).loc Cert.AdamSmallRefIdeal.main_arg58)
          ∧ r.2.mem ((c.tc : Thread Cert.AdamSmallRefIdeal.nD Cert.AdamSmallRefIdeal.τ).loc Cert.AdamSmallRefIdeal.main_arg59) = m' ((c.tc : Thread Cert.AdamSmallRefIdeal.nD Cert.AdamSmallRefIdeal.τ).loc Cert.AdamSmallRefIdeal.main_arg59)
          ∧ r.2.mem ((c.tc : Thread Cert.AdamSmallRefIdeal.nD Cert.AdamSmallRefIdeal.τ).loc Cert.AdamSmallRefIdeal.main_arg60) = m' ((c.tc : Thread Cert.AdamSmallRefIdeal.nD Cert.AdamSmallRefIdeal.τ).loc Cert.AdamSmallRefIdeal.main_arg60)
          ∧ r.2.mem ((c.tc : Thread Cert.AdamSmallRefIdeal.nD Cert.AdamSmallRefIdeal.τ).loc Cert.AdamSmallRefIdeal.main_arg61) = m' ((c.tc : Thread Cert.AdamSmallRefIdeal.nD Cert.AdamSmallRefIdeal.τ).loc Cert.AdamSmallRefIdeal.main_arg61)
          ∧ r.2.mem ((c.tc : Thread Cert.AdamSmallRefIdeal.nD Cert.AdamSmallRefIdeal.τ).loc Cert.AdamSmallRefIdeal.main_arg62) = m' ((c.tc : Thread Cert.AdamSmallRefIdeal.nD Cert.AdamSmallRefIdeal.τ).loc Cert.AdamSmallRefIdeal.main_arg62)
          ∧ r.2.mem ((c.tc : Thread Cert.AdamSmallRefIdeal.nD Cert.AdamSmallRefIdeal.τ).loc Cert.AdamSmallRefIdeal.main_arg63) = m' ((c.tc : Thread Cert.AdamSmallRefIdeal.nD Cert.AdamSmallRefIdeal.τ).loc Cert.AdamSmallRefIdeal.main_arg63)
          ∧ r.2.mem ((c.tc : Thread Cert.AdamSmallRefIdeal.nD Cert.AdamSmallRefIdeal.τ).loc Cert.AdamSmallRefIdeal.main_arg64) = m' ((c.tc : Thread Cert.AdamSmallRefIdeal.nD Cert.AdamSmallRefIdeal.τ).loc Cert.AdamSmallRefIdeal.main_arg64)
          ∧ r.2.mem ((c.tc : Thread Cert.AdamSmallRefIdeal.nD Cert.AdamSmallRefIdeal.τ).loc Cert.AdamSmallRefIdeal.main_arg65) = m' ((c.tc : Thread Cert.AdamSmallRefIdeal.nD Cert.AdamSmallRefIdeal.τ).loc Cert.AdamSmallRefIdeal.main_arg65)
          ∧ r.2.mem ((c.tc : Thread Cert.AdamSmallRefIdeal.nD Cert.AdamSmallRefIdeal.τ).loc Cert.AdamSmallRefIdeal.main_arg66) = m' ((c.tc : Thread Cert.AdamSmallRefIdeal.nD Cert.AdamSmallRefIdeal.τ).loc Cert.AdamSmallRefIdeal.main_arg66)
          ∧ r.2.mem ((c.tc : Thread Cert.AdamSmallRefIdeal.nD Cert.AdamSmallRefIdeal.τ).loc Cert.AdamSmallRefIdeal.main_arg67) = m' ((c.tc : Thread Cert.AdamSmallRefIdeal.nD Cert.AdamSmallRefIdeal.τ).loc Cert.AdamSmallRefIdeal.main_arg67)
          ∧ r.2.mem ((c.tc : Thread Cert.AdamSmallRefIdeal.nD Cert.AdamSmallRefIdeal.τ).loc Cert.AdamSmallRefIdeal.main_arg68) = m' ((c.tc : Thread Cert.AdamSmallRefIdeal.nD Cert.AdamSmallRefIdeal.τ).loc Cert.AdamSmallRefIdeal.main_arg68)
          ∧ r.2.mem ((c.tc : Thread Cert.AdamSmallRefIdeal.nD Cert.AdamSmallRefIdeal.τ).loc Cert.AdamSmallRefIdeal.main_arg69) = m' ((c.tc : Thread Cert.AdamSmallRefIdeal.nD Cert.AdamSmallRefIdeal.τ).loc Cert.AdamSmallRefIdeal.main_arg69)
          ∧ r.2.mem ((c.tc : Thread Cert.AdamSmallRefIdeal.nD Cert.AdamSmallRefIdeal.τ).loc Cert.AdamSmallRefIdeal.main_arg70) = m' ((c.tc : Thread Cert.AdamSmallRefIdeal.nD Cert.AdamSmallRefIdeal.τ).loc Cert.AdamSmallRefIdeal.main_arg70)
          ∧ r.2.mem ((c.tc : Thread Cert.AdamSmallRefIdeal.nD Cert.AdamSmallRefIdeal.τ).loc Cert.AdamSmallRefIdeal.main_arg71) = m' ((c.tc : Thread Cert.AdamSmallRefIdeal.nD Cert.AdamSmallRefIdeal.τ).loc Cert.AdamSmallRefIdeal.main_arg71))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_SumAda_SumAdaIdeal : Prop :=
  True

def algebraic_SumAdaIdeal_SumAdaRefIdeal [hSumAdaIdeal : Cert.SumAdaIdeal.Facts] [hSumAdaRefIdeal : Cert.SumAdaRefIdeal.Facts] : Prop :=
  ∀ (m : (ℓ : Loc Cert.SumAdaIdeal.nD Cert.SumAdaIdeal.τ Cert.SumAdaIdeal.sig) → Buf (Elt Ideal) ℓ) (g : Dev Cert.SumAdaIdeal.nD → PrngReg)
    (m' : (ℓ : Loc Cert.SumAdaRefIdeal.nD Cert.SumAdaRefIdeal.τ Cert.SumAdaRefIdeal.sig) → Buf (Elt Ideal) ℓ) (g' : Dev Cert.SumAdaRefIdeal.nD → PrngReg), Pre_SumAdaIdeal m →
    (∀ c : Dev Cert.SumAdaIdeal.nD,
      m' ((c.tc : Thread Cert.SumAdaRefIdeal.nD Cert.SumAdaRefIdeal.τ).loc Cert.SumAdaRefIdeal.main_arg0) = m ((c.tc : Thread Cert.SumAdaIdeal.nD Cert.SumAdaIdeal.τ).loc Cert.SumAdaIdeal.main_arg0)) →
    ∃ (v0 : (c : Dev Cert.SumAdaIdeal.nD) → Buf (Elt Ideal) ((c.tc : Thread Cert.SumAdaIdeal.nD Cert.SumAdaIdeal.τ).loc Cert.SumAdaIdeal.main_v0)),
      θ_run (Cert.SumAdaIdeal.defs (F := Ideal)) (onTc (τ := Cert.SumAdaIdeal.τ) (Cert.SumAdaIdeal.main (F := Ideal))) ⟨m, fun _ => 0, g⟩ (fun r => ∀ c : Dev Cert.SumAdaIdeal.nD,
          r.2.mem ((c.tc : Thread Cert.SumAdaIdeal.nD Cert.SumAdaIdeal.τ).loc Cert.SumAdaIdeal.main_v0) = v0 c
          ∧ r.2.mem ((c.tc : Thread Cert.SumAdaIdeal.nD Cert.SumAdaIdeal.τ).loc Cert.SumAdaIdeal.main_arg0) = m ((c.tc : Thread Cert.SumAdaIdeal.nD Cert.SumAdaIdeal.τ).loc Cert.SumAdaIdeal.main_arg0))
      ∧ θ_run (Cert.SumAdaRefIdeal.defs (F := Ideal)) (onTc (τ := Cert.SumAdaRefIdeal.τ) (Cert.SumAdaRefIdeal.main (F := Ideal))) ⟨m', fun _ => 0, g'⟩ (fun r => ∀ c : Dev Cert.SumAdaRefIdeal.nD,
          r.2.mem ((c.tc : Thread Cert.SumAdaRefIdeal.nD Cert.SumAdaRefIdeal.τ).loc Cert.SumAdaRefIdeal.main_v0) = v0 c
          ∧ r.2.mem ((c.tc : Thread Cert.SumAdaRefIdeal.nD Cert.SumAdaRefIdeal.τ).loc Cert.SumAdaRefIdeal.main_arg0) = m' ((c.tc : Thread Cert.SumAdaRefIdeal.nD Cert.SumAdaRefIdeal.τ).loc Cert.SumAdaRefIdeal.main_arg0))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)
      ∧ m' ((c.tc : Thread Cert.SumInRefIdeal.nD Cert.SumInRefIdeal.τ).loc Cert.SumInRefIdeal.main_arg1) = m ((c.tc : Thread Cert.SumInIdeal.nD Cert.SumInIdeal.τ).loc Cert.SumInIdeal.main_arg1)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
          ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v2) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0)
          ∧ r.2.mem ((c.tc : Thread Cert.SumInRefIdeal.nD Cert.SumInRefIdeal.τ).loc Cert.SumInRefIdeal.main_arg1) = m' ((c.tc : Thread Cert.SumInRefIdeal.nD Cert.SumInRefIdeal.τ).loc Cert.SumInRefIdeal.main_arg1))

def preserves_SumPa_SumPaIdeal : Prop :=
  True

def algebraic_SumPaIdeal_SumPaRefIdeal [hSumPaIdeal : Cert.SumPaIdeal.Facts] [hSumPaRefIdeal : Cert.SumPaRefIdeal.Facts] : Prop :=
  ∀ (m : (ℓ : Loc Cert.SumPaIdeal.nD Cert.SumPaIdeal.τ Cert.SumPaIdeal.sig) → Buf (Elt Ideal) ℓ) (g : Dev Cert.SumPaIdeal.nD → PrngReg)
    (m' : (ℓ : Loc Cert.SumPaRefIdeal.nD Cert.SumPaRefIdeal.τ Cert.SumPaRefIdeal.sig) → Buf (Elt Ideal) ℓ) (g' : Dev Cert.SumPaRefIdeal.nD → PrngReg), Pre_SumPaIdeal m →
    (∀ c : Dev Cert.SumPaIdeal.nD,
      m' ((c.tc : Thread Cert.SumPaRefIdeal.nD Cert.SumPaRefIdeal.τ).loc Cert.SumPaRefIdeal.main_arg0) = m ((c.tc : Thread Cert.SumPaIdeal.nD Cert.SumPaIdeal.τ).loc Cert.SumPaIdeal.main_arg0)
      ∧ m' ((c.tc : Thread Cert.SumPaRefIdeal.nD Cert.SumPaRefIdeal.τ).loc Cert.SumPaRefIdeal.main_arg1) = m ((c.tc : Thread Cert.SumPaIdeal.nD Cert.SumPaIdeal.τ).loc Cert.SumPaIdeal.main_arg1)) →
    ∃ (v0 : (c : Dev Cert.SumPaIdeal.nD) → Buf (Elt Ideal) ((c.tc : Thread Cert.SumPaIdeal.nD Cert.SumPaIdeal.τ).loc Cert.SumPaIdeal.main_v0)),
      θ_run (Cert.SumPaIdeal.defs (F := Ideal)) (onTc (τ := Cert.SumPaIdeal.τ) (Cert.SumPaIdeal.main (F := Ideal))) ⟨m, fun _ => 0, g⟩ (fun r => ∀ c : Dev Cert.SumPaIdeal.nD,
          r.2.mem ((c.tc : Thread Cert.SumPaIdeal.nD Cert.SumPaIdeal.τ).loc Cert.SumPaIdeal.main_v0) = v0 c
          ∧ r.2.mem ((c.tc : Thread Cert.SumPaIdeal.nD Cert.SumPaIdeal.τ).loc Cert.SumPaIdeal.main_arg0) = m ((c.tc : Thread Cert.SumPaIdeal.nD Cert.SumPaIdeal.τ).loc Cert.SumPaIdeal.main_arg0)
          ∧ r.2.mem ((c.tc : Thread Cert.SumPaIdeal.nD Cert.SumPaIdeal.τ).loc Cert.SumPaIdeal.main_arg1) = m ((c.tc : Thread Cert.SumPaIdeal.nD Cert.SumPaIdeal.τ).loc Cert.SumPaIdeal.main_arg1))
      ∧ θ_run (Cert.SumPaRefIdeal.defs (F := Ideal)) (onTc (τ := Cert.SumPaRefIdeal.τ) (Cert.SumPaRefIdeal.main (F := Ideal))) ⟨m', fun _ => 0, g'⟩ (fun r => ∀ c : Dev Cert.SumPaRefIdeal.nD,
          r.2.mem ((c.tc : Thread Cert.SumPaRefIdeal.nD Cert.SumPaRefIdeal.τ).loc Cert.SumPaRefIdeal.main_v2) = v0 c
          ∧ r.2.mem ((c.tc : Thread Cert.SumPaRefIdeal.nD Cert.SumPaRefIdeal.τ).loc Cert.SumPaRefIdeal.main_arg0) = m' ((c.tc : Thread Cert.SumPaRefIdeal.nD Cert.SumPaRefIdeal.τ).loc Cert.SumPaRefIdeal.main_arg0)
          ∧ r.2.mem ((c.tc : Thread Cert.SumPaRefIdeal.nD Cert.SumPaRefIdeal.τ).loc Cert.SumPaRefIdeal.main_arg1) = m' ((c.tc : Thread Cert.SumPaRefIdeal.nD Cert.SumPaRefIdeal.τ).loc Cert.SumPaRefIdeal.main_arg1))

def preserves_SumPb_SumPbIdeal : Prop :=
  True

def algebraic_SumPbIdeal_SumPbRefIdeal [hSumPbIdeal : Cert.SumPbIdeal.Facts] [hSumPbRefIdeal : Cert.SumPbRefIdeal.Facts] : Prop :=
  ∀ (m : (ℓ : Loc Cert.SumPbIdeal.nD Cert.SumPbIdeal.τ Cert.SumPbIdeal.sig) → Buf (Elt Ideal) ℓ) (g : Dev Cert.SumPbIdeal.nD → PrngReg)
    (m' : (ℓ : Loc Cert.SumPbRefIdeal.nD Cert.SumPbRefIdeal.τ Cert.SumPbRefIdeal.sig) → Buf (Elt Ideal) ℓ) (g' : Dev Cert.SumPbRefIdeal.nD → PrngReg), Pre_SumPbIdeal m →
    (∀ c : Dev Cert.SumPbIdeal.nD,
      m' ((c.tc : Thread Cert.SumPbRefIdeal.nD Cert.SumPbRefIdeal.τ).loc Cert.SumPbRefIdeal.main_arg0) = m ((c.tc : Thread Cert.SumPbIdeal.nD Cert.SumPbIdeal.τ).loc Cert.SumPbIdeal.main_arg0)
      ∧ m' ((c.tc : Thread Cert.SumPbRefIdeal.nD Cert.SumPbRefIdeal.τ).loc Cert.SumPbRefIdeal.main_arg1) = m ((c.tc : Thread Cert.SumPbIdeal.nD Cert.SumPbIdeal.τ).loc Cert.SumPbIdeal.main_arg1)) →
    ∃ (v0 : (c : Dev Cert.SumPbIdeal.nD) → Buf (Elt Ideal) ((c.tc : Thread Cert.SumPbIdeal.nD Cert.SumPbIdeal.τ).loc Cert.SumPbIdeal.main_v0)),
      θ_run (Cert.SumPbIdeal.defs (F := Ideal)) (onTc (τ := Cert.SumPbIdeal.τ) (Cert.SumPbIdeal.main (F := Ideal))) ⟨m, fun _ => 0, g⟩ (fun r => ∀ c : Dev Cert.SumPbIdeal.nD,
          r.2.mem ((c.tc : Thread Cert.SumPbIdeal.nD Cert.SumPbIdeal.τ).loc Cert.SumPbIdeal.main_v0) = v0 c
          ∧ r.2.mem ((c.tc : Thread Cert.SumPbIdeal.nD Cert.SumPbIdeal.τ).loc Cert.SumPbIdeal.main_arg0) = m ((c.tc : Thread Cert.SumPbIdeal.nD Cert.SumPbIdeal.τ).loc Cert.SumPbIdeal.main_arg0)
          ∧ r.2.mem ((c.tc : Thread Cert.SumPbIdeal.nD Cert.SumPbIdeal.τ).loc Cert.SumPbIdeal.main_arg1) = m ((c.tc : Thread Cert.SumPbIdeal.nD Cert.SumPbIdeal.τ).loc Cert.SumPbIdeal.main_arg1))
      ∧ θ_run (Cert.SumPbRefIdeal.defs (F := Ideal)) (onTc (τ := Cert.SumPbRefIdeal.τ) (Cert.SumPbRefIdeal.main (F := Ideal))) ⟨m', fun _ => 0, g'⟩ (fun r => ∀ c : Dev Cert.SumPbRefIdeal.nD,
          r.2.mem ((c.tc : Thread Cert.SumPbRefIdeal.nD Cert.SumPbRefIdeal.τ).loc Cert.SumPbRefIdeal.main_v2) = v0 c
          ∧ r.2.mem ((c.tc : Thread Cert.SumPbRefIdeal.nD Cert.SumPbRefIdeal.τ).loc Cert.SumPbRefIdeal.main_arg0) = m' ((c.tc : Thread Cert.SumPbRefIdeal.nD Cert.SumPbRefIdeal.τ).loc Cert.SumPbRefIdeal.main_arg0)
          ∧ r.2.mem ((c.tc : Thread Cert.SumPbRefIdeal.nD Cert.SumPbRefIdeal.τ).loc Cert.SumPbRefIdeal.main_arg1) = m' ((c.tc : Thread Cert.SumPbRefIdeal.nD Cert.SumPbRefIdeal.τ).loc Cert.SumPbRefIdeal.main_arg1))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)
      ∧ m' ((c.tc : Thread Cert.SumOutRefIdeal.nD Cert.SumOutRefIdeal.τ).loc Cert.SumOutRefIdeal.main_arg1) = m ((c.tc : Thread Cert.SumOutIdeal.nD Cert.SumOutIdeal.τ).loc Cert.SumOutIdeal.main_arg1)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
          ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v2) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0)
          ∧ r.2.mem ((c.tc : Thread Cert.SumOutRefIdeal.nD Cert.SumOutRefIdeal.τ).loc Cert.SumOutRefIdeal.main_arg1) = m' ((c.tc : Thread Cert.SumOutRefIdeal.nD Cert.SumOutRefIdeal.τ).loc Cert.SumOutRefIdeal.main_arg1))

def preserves_SumGu_SumGuIdeal : Prop :=
  True

def algebraic_SumGuIdeal_SumGuRefIdeal [hSumGuIdeal : Cert.SumGuIdeal.Facts] [hSumGuRefIdeal : Cert.SumGuRefIdeal.Facts] : Prop :=
  ∀ (m : (ℓ : Loc Cert.SumGuIdeal.nD Cert.SumGuIdeal.τ Cert.SumGuIdeal.sig) → Buf (Elt Ideal) ℓ) (g : Dev Cert.SumGuIdeal.nD → PrngReg)
    (m' : (ℓ : Loc Cert.SumGuRefIdeal.nD Cert.SumGuRefIdeal.τ Cert.SumGuRefIdeal.sig) → Buf (Elt Ideal) ℓ) (g' : Dev Cert.SumGuRefIdeal.nD → PrngReg), Pre_SumGuIdeal m →
    (∀ c : Dev Cert.SumGuIdeal.nD,
      m' ((c.tc : Thread Cert.SumGuRefIdeal.nD Cert.SumGuRefIdeal.τ).loc Cert.SumGuRefIdeal.main_arg0) = m ((c.tc : Thread Cert.SumGuIdeal.nD Cert.SumGuIdeal.τ).loc Cert.SumGuIdeal.main_arg0)
      ∧ m' ((c.tc : Thread Cert.SumGuRefIdeal.nD Cert.SumGuRefIdeal.τ).loc Cert.SumGuRefIdeal.main_arg1) = m ((c.tc : Thread Cert.SumGuIdeal.nD Cert.SumGuIdeal.τ).loc Cert.SumGuIdeal.main_arg1)) →
    ∃ (v0 : (c : Dev Cert.SumGuIdeal.nD) → Buf (Elt Ideal) ((c.tc : Thread Cert.SumGuIdeal.nD Cert.SumGuIdeal.τ).loc Cert.SumGuIdeal.main_v0)),
      θ_run (Cert.SumGuIdeal.defs (F := Ideal)) (onTc (τ := Cert.SumGuIdeal.τ) (Cert.SumGuIdeal.main (F := Ideal))) ⟨m, fun _ => 0, g⟩ (fun r => ∀ c : Dev Cert.SumGuIdeal.nD,
          r.2.mem ((c.tc : Thread Cert.SumGuIdeal.nD Cert.SumGuIdeal.τ).loc Cert.SumGuIdeal.main_v0) = v0 c
          ∧ r.2.mem ((c.tc : Thread Cert.SumGuIdeal.nD Cert.SumGuIdeal.τ).loc Cert.SumGuIdeal.main_arg0) = m ((c.tc : Thread Cert.SumGuIdeal.nD Cert.SumGuIdeal.τ).loc Cert.SumGuIdeal.main_arg0)
          ∧ r.2.mem ((c.tc : Thread Cert.SumGuIdeal.nD Cert.SumGuIdeal.τ).loc Cert.SumGuIdeal.main_arg1) = m ((c.tc : Thread Cert.SumGuIdeal.nD Cert.SumGuIdeal.τ).loc Cert.SumGuIdeal.main_arg1))
      ∧ θ_run (Cert.SumGuRefIdeal.defs (F := Ideal)) (onTc (τ := Cert.SumGuRefIdeal.τ) (Cert.SumGuRefIdeal.main (F := Ideal))) ⟨m', fun _ => 0, g'⟩ (fun r => ∀ c : Dev Cert.SumGuRefIdeal.nD,
          r.2.mem ((c.tc : Thread Cert.SumGuRefIdeal.nD Cert.SumGuRefIdeal.τ).loc Cert.SumGuRefIdeal.main_v2) = v0 c
          ∧ r.2.mem ((c.tc : Thread Cert.SumGuRefIdeal.nD Cert.SumGuRefIdeal.τ).loc Cert.SumGuRefIdeal.main_arg0) = m' ((c.tc : Thread Cert.SumGuRefIdeal.nD Cert.SumGuRefIdeal.τ).loc Cert.SumGuRefIdeal.main_arg0)
          ∧ r.2.mem ((c.tc : Thread Cert.SumGuRefIdeal.nD Cert.SumGuRefIdeal.τ).loc Cert.SumGuRefIdeal.main_arg1) = m' ((c.tc : Thread Cert.SumGuRefIdeal.nD Cert.SumGuRefIdeal.τ).loc Cert.SumGuRefIdeal.main_arg1))

def preserves_SumDown_SumDownIdeal : Prop :=
  True

def algebraic_SumDownIdeal_SumDownRefIdeal [hSumDownIdeal : Cert.SumDownIdeal.Facts] [hSumDownRefIdeal : Cert.SumDownRefIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownRefIdeal.nD Cert.SumDownRefIdeal.τ Cert.SumDownRefIdeal.sig) → Buf (Elt Ideal) ℓ) (g' : Dev Cert.SumDownRefIdeal.nD → PrngReg), Pre_SumDownIdeal m →
    (∀ c : Dev Cert.SumDownIdeal.nD,
      m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0)
      ∧ m' ((c.tc : Thread Cert.SumDownRefIdeal.nD Cert.SumDownRefIdeal.τ).loc Cert.SumDownRefIdeal.main_arg1) = m ((c.tc : Thread Cert.SumDownIdeal.nD Cert.SumDownIdeal.τ).loc Cert.SumDownIdeal.main_arg1)) →
    ∃ (v0 : (c : Dev Cert.SumDownIdeal.nD) → Buf (Elt Ideal) ((c.tc : Thread Cert.SumDownIdeal.nD Cert.SumDownIdeal.τ).loc Cert.SumDownIdeal.main_v0)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v0) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0)
          ∧ r.2.mem ((c.tc : Thread Cert.SumDownIdeal.nD Cert.SumDownIdeal.τ).loc Cert.SumDownIdeal.main_arg1) = m ((c.tc : Thread Cert.SumDownIdeal.nD Cert.SumDownIdeal.τ).loc Cert.SumDownIdeal.main_arg1))
      ∧ θ_run (Cert.SumDownRefIdeal.defs (F := Ideal)) (onTc (τ := Cert.SumDownRefIdeal.τ) (Cert.SumDownRefIdeal.main (F := Ideal))) ⟨m', fun _ => 0, g'⟩ (fun r => ∀ c : Dev Cert.SumDownRefIdeal.nD,
          r.2.mem ((c.tc : Thread Cert.SumDownRefIdeal.nD Cert.SumDownRefIdeal.τ).loc Cert.SumDownRefIdeal.main_v2) = v0 c
          ∧ r.2.mem ((c.tc : Thread Cert.SumDownRefIdeal.nD Cert.SumDownRefIdeal.τ).loc Cert.SumDownRefIdeal.main_arg0) = m' ((c.tc : Thread Cert.SumDownRefIdeal.nD Cert.SumDownRefIdeal.τ).loc Cert.SumDownRefIdeal.main_arg0)
          ∧ r.2.mem ((c.tc : Thread Cert.SumDownRefIdeal.nD Cert.SumDownRefIdeal.τ).loc Cert.SumDownRefIdeal.main_arg1) = m' ((c.tc : Thread Cert.SumDownRefIdeal.nD Cert.SumDownRefIdeal.τ).loc Cert.SumDownRefIdeal.main_arg1))

def Claim : Prop :=
  ∃ (hKernel : Cert.Kernel.Facts) (hKernelIdeal : Cert.KernelIdeal.Facts) (hReferenceIdeal : Cert.ReferenceIdeal.Facts) (hDRec : Cert.DRec.Facts) (hDRecIdeal : Cert.DRecIdeal.Facts) (hDRecRefIdeal : Cert.DRecRefIdeal.Facts) (hDAct : Cert.DAct.Facts) (hDActIdeal : Cert.DActIdeal.Facts) (hDActRefIdeal : Cert.DActRefIdeal.Facts) (hGPa : Cert.GPa.Facts) (hGPaIdeal : Cert.GPaIdeal.Facts) (hGPaRefIdeal : Cert.GPaRefIdeal.Facts) (hGPb : Cert.GPb.Facts) (hGPbIdeal : Cert.GPbIdeal.Facts) (hGPbRefIdeal : Cert.GPbRefIdeal.Facts) (hGOut : Cert.GOut.Facts) (hGOutIdeal : Cert.GOutIdeal.Facts) (hGOutRefIdeal : Cert.GOutRefIdeal.Facts) (hGDown : Cert.GDown.Facts) (hGDownIdeal : Cert.GDownIdeal.Facts) (hGDownRefIdeal : Cert.GDownRefIdeal.Facts) (hGGu : Cert.GGu.Facts) (hGGuIdeal : Cert.GGuIdeal.Facts) (hGGuRefIdeal : Cert.GGuRefIdeal.Facts) (hGInTop : Cert.GInTop.Facts) (hGInTopIdeal : Cert.GInTopIdeal.Facts) (hGInTopRefIdeal : Cert.GInTopRefIdeal.Facts) (hGInBot : Cert.GInBot.Facts) (hGInBotIdeal : Cert.GInBotIdeal.Facts) (hGInBotRefIdeal : Cert.GInBotRefIdeal.Facts) (hProjA : Cert.ProjA.Facts) (hProjAIdeal : Cert.ProjAIdeal.Facts) (hProjARefIdeal : Cert.ProjARefIdeal.Facts) (hProjB : Cert.ProjB.Facts) (hProjBIdeal : Cert.ProjBIdeal.Facts) (hProjBRefIdeal : Cert.ProjBRefIdeal.Facts) (hFfnGu : Cert.FfnGu.Facts) (hFfnGuIdeal : Cert.FfnGuIdeal.Facts) (hFfnGuRefIdeal : Cert.FfnGuRefIdeal.Facts) (hProjQkv : Cert.ProjQkv.Facts) (hProjQkvIdeal : Cert.ProjQkvIdeal.Facts) (hProjQkvRefIdeal : Cert.ProjQkvRefIdeal.Facts) (hProjX : Cert.ProjX.Facts) (hProjXIdeal : Cert.ProjXIdeal.Facts) (hProjXRefIdeal : Cert.ProjXRefIdeal.Facts) (hProjZ : Cert.ProjZ.Facts) (hProjZIdeal : Cert.ProjZIdeal.Facts) (hProjZRefIdeal : Cert.ProjZRefIdeal.Facts) (hProjG : Cert.ProjG.Facts) (hProjGIdeal : Cert.ProjGIdeal.Facts) (hProjGRefIdeal : Cert.ProjGRefIdeal.Facts) (hDH1 : Cert.DH1.Facts) (hDH1Ideal : Cert.DH1Ideal.Facts) (hDH1RefIdeal : Cert.DH1RefIdeal.Facts) (hAdamIn : Cert.AdamIn.Facts) (hAdamInIdeal : Cert.AdamInIdeal.Facts) (hAdamInRefIdeal : Cert.AdamInRefIdeal.Facts) (hAdamPa : Cert.AdamPa.Facts) (hAdamPaIdeal : Cert.AdamPaIdeal.Facts) (hAdamPaRefIdeal : Cert.AdamPaRefIdeal.Facts) (hAdamPb : Cert.AdamPb.Facts) (hAdamPbIdeal : Cert.AdamPbIdeal.Facts) (hAdamPbRefIdeal : Cert.AdamPbRefIdeal.Facts) (hAdamOut : Cert.AdamOut.Facts) (hAdamOutIdeal : Cert.AdamOutIdeal.Facts) (hAdamOutRefIdeal : Cert.AdamOutRefIdeal.Facts) (hAdamGu : Cert.AdamGu.Facts) (hAdamGuIdeal : Cert.AdamGuIdeal.Facts) (hAdamGuRefIdeal : Cert.AdamGuRefIdeal.Facts) (hAdamDown : Cert.AdamDown.Facts) (hAdamDownIdeal : Cert.AdamDownIdeal.Facts) (hAdamDownRefIdeal : Cert.AdamDownRefIdeal.Facts) (hAdamAda : Cert.AdamAda.Facts) (hAdamAdaIdeal : Cert.AdamAdaIdeal.Facts) (hAdamAdaRefIdeal : Cert.AdamAdaRefIdeal.Facts) (hAdamSmall : Cert.AdamSmall.Facts) (hAdamSmallIdeal : Cert.AdamSmallIdeal.Facts) (hAdamSmallRefIdeal : Cert.AdamSmallRefIdeal.Facts) (hSumSmall : Cert.SumSmall.Facts) (hSumSmallIdeal : Cert.SumSmallIdeal.Facts) (hSumSmallRefIdeal : Cert.SumSmallRefIdeal.Facts) (hSumAda : Cert.SumAda.Facts) (hSumAdaIdeal : Cert.SumAdaIdeal.Facts) (hSumAdaRefIdeal : Cert.SumAdaRefIdeal.Facts) (hSumIn : Cert.SumIn.Facts) (hSumInIdeal : Cert.SumInIdeal.Facts) (hSumInRefIdeal : Cert.SumInRefIdeal.Facts) (hSumPa : Cert.SumPa.Facts) (hSumPaIdeal : Cert.SumPaIdeal.Facts) (hSumPaRefIdeal : Cert.SumPaRefIdeal.Facts) (hSumPb : Cert.SumPb.Facts) (hSumPbIdeal : Cert.SumPbIdeal.Facts) (hSumPbRefIdeal : Cert.SumPbRefIdeal.Facts) (hSumOut : Cert.SumOut.Facts) (hSumOutIdeal : Cert.SumOutIdeal.Facts) (hSumOutRefIdeal : Cert.SumOutRefIdeal.Facts) (hSumGu : Cert.SumGu.Facts) (hSumGuIdeal : Cert.SumGuIdeal.Facts) (hSumGuRefIdeal : Cert.SumGuRefIdeal.Facts) (hSumDown : Cert.SumDown.Facts) (hSumDownIdeal : Cert.SumDownIdeal.Facts) (hSumDownRefIdeal : Cert.SumDownRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DRec (hDRec := hDRec)
    ∧ quiescent_DRecIdeal (hDRecIdeal := hDRecIdeal)
    ∧ quiescent_DRecRefIdeal (hDRecRefIdeal := hDRecRefIdeal)
    ∧ quiescent_DAct (hDAct := hDAct)
    ∧ quiescent_DActIdeal (hDActIdeal := hDActIdeal)
    ∧ quiescent_DActRefIdeal (hDActRefIdeal := hDActRefIdeal)
    ∧ quiescent_GPa (hGPa := hGPa)
    ∧ quiescent_GPaIdeal (hGPaIdeal := hGPaIdeal)
    ∧ quiescent_GPaRefIdeal (hGPaRefIdeal := hGPaRefIdeal)
    ∧ quiescent_GPb (hGPb := hGPb)
    ∧ quiescent_GPbIdeal (hGPbIdeal := hGPbIdeal)
    ∧ quiescent_GPbRefIdeal (hGPbRefIdeal := hGPbRefIdeal)
    ∧ quiescent_GOut (hGOut := hGOut)
    ∧ quiescent_GOutIdeal (hGOutIdeal := hGOutIdeal)
    ∧ quiescent_GOutRefIdeal (hGOutRefIdeal := hGOutRefIdeal)
    ∧ quiescent_GDown (hGDown := hGDown)
    ∧ quiescent_GDownIdeal (hGDownIdeal := hGDownIdeal)
    ∧ quiescent_GDownRefIdeal (hGDownRefIdeal := hGDownRefIdeal)
    ∧ quiescent_GGu (hGGu := hGGu)
    ∧ quiescent_GGuIdeal (hGGuIdeal := hGGuIdeal)
    ∧ quiescent_GGuRefIdeal (hGGuRefIdeal := hGGuRefIdeal)
    ∧ quiescent_GInTop (hGInTop := hGInTop)
    ∧ quiescent_GInTopIdeal (hGInTopIdeal := hGInTopIdeal)
    ∧ quiescent_GInTopRefIdeal (hGInTopRefIdeal := hGInTopRefIdeal)
    ∧ quiescent_GInBot (hGInBot := hGInBot)
    ∧ quiescent_GInBotIdeal (hGInBotIdeal := hGInBotIdeal)
    ∧ quiescent_GInBotRefIdeal (hGInBotRefIdeal := hGInBotRefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_FfnGu (hFfnGu := hFfnGu)
    ∧ quiescent_FfnGuIdeal (hFfnGuIdeal := hFfnGuIdeal)
    ∧ quiescent_FfnGuRefIdeal (hFfnGuRefIdeal := hFfnGuRefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_ProjX (hProjX := hProjX)
    ∧ quiescent_ProjXIdeal (hProjXIdeal := hProjXIdeal)
    ∧ quiescent_ProjXRefIdeal (hProjXRefIdeal := hProjXRefIdeal)
    ∧ quiescent_ProjZ (hProjZ := hProjZ)
    ∧ quiescent_ProjZIdeal (hProjZIdeal := hProjZIdeal)
    ∧ quiescent_ProjZRefIdeal (hProjZRefIdeal := hProjZRefIdeal)
    ∧ quiescent_ProjG (hProjG := hProjG)
    ∧ quiescent_ProjGIdeal (hProjGIdeal := hProjGIdeal)
    ∧ quiescent_ProjGRefIdeal (hProjGRefIdeal := hProjGRefIdeal)
    ∧ quiescent_DH1 (hDH1 := hDH1)
    ∧ quiescent_DH1Ideal (hDH1Ideal := hDH1Ideal)
    ∧ quiescent_DH1RefIdeal (hDH1RefIdeal := hDH1RefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamPa (hAdamPa := hAdamPa)
    ∧ quiescent_AdamPaIdeal (hAdamPaIdeal := hAdamPaIdeal)
    ∧ quiescent_AdamPaRefIdeal (hAdamPaRefIdeal := hAdamPaRefIdeal)
    ∧ quiescent_AdamPb (hAdamPb := hAdamPb)
    ∧ quiescent_AdamPbIdeal (hAdamPbIdeal := hAdamPbIdeal)
    ∧ quiescent_AdamPbRefIdeal (hAdamPbRefIdeal := hAdamPbRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGu (hAdamGu := hAdamGu)
    ∧ quiescent_AdamGuIdeal (hAdamGuIdeal := hAdamGuIdeal)
    ∧ quiescent_AdamGuRefIdeal (hAdamGuRefIdeal := hAdamGuRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumAda (hSumAda := hSumAda)
    ∧ quiescent_SumAdaIdeal (hSumAdaIdeal := hSumAdaIdeal)
    ∧ quiescent_SumAdaRefIdeal (hSumAdaRefIdeal := hSumAdaRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumPa (hSumPa := hSumPa)
    ∧ quiescent_SumPaIdeal (hSumPaIdeal := hSumPaIdeal)
    ∧ quiescent_SumPaRefIdeal (hSumPaRefIdeal := hSumPaRefIdeal)
    ∧ quiescent_SumPb (hSumPb := hSumPb)
    ∧ quiescent_SumPbIdeal (hSumPbIdeal := hSumPbIdeal)
    ∧ quiescent_SumPbRefIdeal (hSumPbRefIdeal := hSumPbRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumGu (hSumGu := hSumGu)
    ∧ quiescent_SumGuIdeal (hSumGuIdeal := hSumGuIdeal)
    ∧ quiescent_SumGuRefIdeal (hSumGuRefIdeal := hSumGuRefIdeal)
    ∧ quiescent_SumDown (hSumDown := hSumDown)
    ∧ quiescent_SumDownIdeal (hSumDownIdeal := hSumDownIdeal)
    ∧ quiescent_SumDownRefIdeal (hSumDownRefIdeal := hSumDownRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DRec_DRecIdeal
    ∧ algebraic_DRecIdeal_DRecRefIdeal (hDRecIdeal := hDRecIdeal) (hDRecRefIdeal := hDRecRefIdeal)
    ∧ preserves_DAct_DActIdeal
    ∧ algebraic_DActIdeal_DActRefIdeal (hDActIdeal := hDActIdeal) (hDActRefIdeal := hDActRefIdeal)
    ∧ preserves_GPa_GPaIdeal
    ∧ algebraic_GPaIdeal_GPaRefIdeal (hGPaIdeal := hGPaIdeal) (hGPaRefIdeal := hGPaRefIdeal)
    ∧ preserves_GPb_GPbIdeal
    ∧ algebraic_GPbIdeal_GPbRefIdeal (hGPbIdeal := hGPbIdeal) (hGPbRefIdeal := hGPbRefIdeal)
    ∧ preserves_GOut_GOutIdeal
    ∧ algebraic_GOutIdeal_GOutRefIdeal (hGOutIdeal := hGOutIdeal) (hGOutRefIdeal := hGOutRefIdeal)
    ∧ preserves_GDown_GDownIdeal
    ∧ algebraic_GDownIdeal_GDownRefIdeal (hGDownIdeal := hGDownIdeal) (hGDownRefIdeal := hGDownRefIdeal)
    ∧ preserves_GGu_GGuIdeal
    ∧ algebraic_GGuIdeal_GGuRefIdeal (hGGuIdeal := hGGuIdeal) (hGGuRefIdeal := hGGuRefIdeal)
    ∧ preserves_GInTop_GInTopIdeal
    ∧ algebraic_GInTopIdeal_GInTopRefIdeal (hGInTopIdeal := hGInTopIdeal) (hGInTopRefIdeal := hGInTopRefIdeal)
    ∧ preserves_GInBot_GInBotIdeal
    ∧ algebraic_GInBotIdeal_GInBotRefIdeal (hGInBotIdeal := hGInBotIdeal) (hGInBotRefIdeal := hGInBotRefIdeal)
    ∧ preserves_ProjA_ProjAIdeal
    ∧ algebraic_ProjAIdeal_ProjARefIdeal (hProjAIdeal := hProjAIdeal) (hProjARefIdeal := hProjARefIdeal)
    ∧ preserves_ProjB_ProjBIdeal
    ∧ algebraic_ProjBIdeal_ProjBRefIdeal (hProjBIdeal := hProjBIdeal) (hProjBRefIdeal := hProjBRefIdeal)
    ∧ preserves_FfnGu_FfnGuIdeal
    ∧ algebraic_FfnGuIdeal_FfnGuRefIdeal (hFfnGuIdeal := hFfnGuIdeal) (hFfnGuRefIdeal := hFfnGuRefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_ProjX_ProjXIdeal
    ∧ algebraic_ProjXIdeal_ProjXRefIdeal (hProjXIdeal := hProjXIdeal) (hProjXRefIdeal := hProjXRefIdeal)
    ∧ preserves_ProjZ_ProjZIdeal
    ∧ algebraic_ProjZIdeal_ProjZRefIdeal (hProjZIdeal := hProjZIdeal) (hProjZRefIdeal := hProjZRefIdeal)
    ∧ preserves_ProjG_ProjGIdeal
    ∧ algebraic_ProjGIdeal_ProjGRefIdeal (hProjGIdeal := hProjGIdeal) (hProjGRefIdeal := hProjGRefIdeal)
    ∧ preserves_DH1_DH1Ideal
    ∧ algebraic_DH1Ideal_DH1RefIdeal (hDH1Ideal := hDH1Ideal) (hDH1RefIdeal := hDH1RefIdeal)
    ∧ preserves_AdamIn_AdamInIdeal
    ∧ algebraic_AdamInIdeal_AdamInRefIdeal (hAdamInIdeal := hAdamInIdeal) (hAdamInRefIdeal := hAdamInRefIdeal)
    ∧ preserves_AdamPa_AdamPaIdeal
    ∧ algebraic_AdamPaIdeal_AdamPaRefIdeal (hAdamPaIdeal := hAdamPaIdeal) (hAdamPaRefIdeal := hAdamPaRefIdeal)
    ∧ preserves_AdamPb_AdamPbIdeal
    ∧ algebraic_AdamPbIdeal_AdamPbRefIdeal (hAdamPbIdeal := hAdamPbIdeal) (hAdamPbRefIdeal := hAdamPbRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGu_AdamGuIdeal
    ∧ algebraic_AdamGuIdeal_AdamGuRefIdeal (hAdamGuIdeal := hAdamGuIdeal) (hAdamGuRefIdeal := hAdamGuRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumSmall_SumSmallIdeal
    ∧ algebraic_SumSmallIdeal_SumSmallRefIdeal (hSumSmallIdeal := hSumSmallIdeal) (hSumSmallRefIdeal := hSumSmallRefIdeal)
    ∧ preserves_SumAda_SumAdaIdeal
    ∧ algebraic_SumAdaIdeal_SumAdaRefIdeal (hSumAdaIdeal := hSumAdaIdeal) (hSumAdaRefIdeal := hSumAdaRefIdeal)
    ∧ preserves_SumIn_SumInIdeal
    ∧ algebraic_SumInIdeal_SumInRefIdeal (hSumInIdeal := hSumInIdeal) (hSumInRefIdeal := hSumInRefIdeal)
    ∧ preserves_SumPa_SumPaIdeal
    ∧ algebraic_SumPaIdeal_SumPaRefIdeal (hSumPaIdeal := hSumPaIdeal) (hSumPaRefIdeal := hSumPaRefIdeal)
    ∧ preserves_SumPb_SumPbIdeal
    ∧ algebraic_SumPbIdeal_SumPbRefIdeal (hSumPbIdeal := hSumPbIdeal) (hSumPbRefIdeal := hSumPbRefIdeal)
    ∧ preserves_SumOut_SumOutIdeal
    ∧ algebraic_SumOutIdeal_SumOutRefIdeal (hSumOutIdeal := hSumOutIdeal) (hSumOutRefIdeal := hSumOutRefIdeal)
    ∧ preserves_SumGu_SumGuIdeal
    ∧ algebraic_SumGuIdeal_SumGuRefIdeal (hSumGuIdeal := hSumGuIdeal) (hSumGuRefIdeal := hSumGuRefIdeal)
    ∧ preserves_SumDown_SumDownIdeal
    ∧ algebraic_SumDownIdeal_SumDownRefIdeal (hSumDownIdeal := hSumDownIdeal) (hSumDownRefIdeal := hSumDownRefIdeal)
-- ==== Pre_finite.lean ====
abbrev S128x16x64x64 : Shape := ⟨4, ![128, 16, 64, 64]⟩
abbrev S8192x2048 : Shape := ⟨2, ![8192, 2048]⟩
abbrev S128x16 : Shape := ⟨2, ![128, 16]⟩
abbrev S128x16x128x128 : Shape := ⟨4, ![128, 16, 128, 128]⟩
abbrev S_ : Shape := ⟨0, ![]⟩

class Facts : Prop where
  bcast_S_S128x16x64x64 : S_.BroadcastsInDim S128x16x64x64 (![] : Fin 0 → Fin S128x16x64x64.rank)
  reducesTo_S128x16x64x64_S_d0_1_2_3 : S128x16x64x64.ReducesTo [0, 1, 2, 3] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S128x16 : S_.BroadcastsInDim S128x16 (![] : Fin 0 → Fin S128x16.rank)
  reducesTo_S128x16_S_d0_1 : S128x16.ReducesTo [0, 1] S_
  bcast_S_S128x16x128x128 : S_.BroadcastsInDim S128x16x128x128 (![] : Fin 0 → Fin S128x16x128x128.rank)
  reducesTo_S128x16x128x128_S_d0_1_2_3 : S128x16x128x128.ReducesTo [0, 1, 2, 3] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S8192x2048 .f32) (main_arg5 : FVec F S128x16 .f32) (main_arg6 : FVec F S128x16x128x128 .f32) (main_arg7 : FVec F S8192x2048 .f32) (main_v3 : IVec S_ 1) (main_v7 : IVec S_ 1) (main_v11 : IVec S_ 1) (main_v15 : IVec S_ 1) : IVec S_ 1 :=
  let main_v16 : FVec F S8192x2048 .f32 := Host.absf main_arg4
  let main_cst_6 : FVec F S_ .f32 := constant S_ .f32 0x7F7FFFFF#32
  let main_v17 : FVec F S8192x2048 .f32 := broadcastInDim S8192x2048 ![] bcast_S_S8192x2048 main_cst_6
  let main_v18 : IVec S8192x2048 1 := cmpf .ole main_v16 main_v17
  let main_c_7 : IVec S_ 1 := constantI S_ 1 1#1
  let main_v19 : IVec S_ 1 := (fun x v => Host.reduce IntOp.andi x v reducesTo_S8192x2048_S_d0_1 h_S_) main_v18 main_c_7
  let main_v20 : FVec F S128x16 .f32 := Host.absf main_arg5
  let main_cst_8 : FVec F S_ .f32 := constant S_ .f32 0x7F7FFFFF#32
  let main_v21 : FVec F S128x16 .f32 := broadcastInDim S128x16 ![] bcast_S_S128x16 main_cst_8
  let main_v22 : IVec S128x16 1 := cmpf .ole main_v20 main_v21
  let main_c_9 : IVec S_ 1 := constantI S_ 1 1#1
  let main_v23 : IVec S_ 1 := (fun x v => Host.reduce IntOp.andi x v reducesTo_S128x16_S_d0_1 h_S_) main_v22 main_c_9
  let main_v24 : FVec F S128x16x128x128 .f32 := Host.absf main_arg6
  let main_cst_10 : FVec F S_ .f32 := constant S_ .f32 0x7F7FFFFF#32
  let main_v25 : FVec F S128x16x128x128 .f32 := broadcastInDim S128x16x128x128 ![] bcast_S_S128x16x128x128 main_cst_10
  let main_v26 : IVec S128x16x128x128 1 := cmpf .ole main_v24 main_v25
  let main_c_11 : IVec S_ 1 := constantI S_ 1 1#1
  let main_v27 : IVec S_ 1 := (fun x v => Host.reduce IntOp.andi x v reducesTo_S128x16x128x128_S_d0_1_2_3 h_S_) main_v26 main_c_11
  let main_v28 : FVec F S8192x2048 .f32 := Host.absf main_arg7
  let main_cst_12 : FVec F S_ .f32 := constant S_ .f32 0x7F7FFFFF#32
  let main_v29 : FVec F S8192x2048 .f32 := broadcastInDim S8192x2048 ![] bcast_S_S8192x2048 main_cst_12
  let main_v30 : IVec S8192x2048 1 := cmpf .ole main_v28 main_v29
  let main_c_13 : IVec S_ 1 := constantI S_ 1 1#1
  let main_v31 : IVec S_ 1 := (fun x v => Host.reduce IntOp.andi x v reducesTo_S8192x2048_S_d0_1 h_S_) main_v30 main_c_13
  fn_part2 (F := F) main_v3 main_v7 main_v11 main_v15 main_v19 main_v23 main_v27 main_v31

def fn {F : FTy → Type} [FloatOps F] (main_arg0 : FVec F S128x16x64x64 .f32) (main_arg1 : FVec F S8192x2048 .f32) (main_arg2 : FVec F S8192x2048 .f32) (main_arg3 : FVec F S8192x2048 .f32) (main_arg4 : FVec F S8192x2048 .f32) (main_arg5 : FVec F S128x16 .f32) (main_arg6 : FVec F S128x16x128x128 .f32) (main_arg7 : FVec F S8192x2048 .f32) : IVec S_ 1 :=
  let main_v0 : FVec F S128x16x64x64 .f32 := Host.absf main_arg0
  let main_cst : FVec F S_ .f32 := constant S_ .f32 0x7F7FFFFF#32
  let main_v1 : FVec F S128x16x64x64 .f32 := broadcastInDim S128x16x64x64 ![] bcast_S_S128x16x64x64 main_cst
  let main_v2 : IVec S128x16x64x64 1 := cmpf .ole main_v0 main_v1
  let main_c : IVec S_ 1 := constantI S_ 1 1#1
  let main_v3 : IVec S_ 1 := (fun x v => Host.reduce IntOp.andi x v reducesTo_S128x16x64x64_S_d0_1_2_3 h_S_) main_v2 main_c
  let main_v4 : FVec F S8192x2048 .f32 := Host.absf main_arg1
  let main_cst_0 : FVec F S_ .f32 := constant S_ .f32 0x7F7FFFFF#32
  let main_v5 : FVec F S8192x2048 .f32 := broadcastInDim S8192x2048 ![] bcast_S_S8192x2048 main_cst_0
  let main_v6 : IVec S8192x2048 1 := cmpf .ole main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : FVec F S8192x2048 .f32 := Host.absf main_arg2
  let main_cst_2 : FVec F S_ .f32 := constant S_ .f32 0x7F7FFFFF#32
  let main_v9 : FVec F S8192x2048 .f32 := broadcastInDim S8192x2048 ![] bcast_S_S8192x2048 main_cst_2
  let main_v10 : IVec S8192x2048 1 := cmpf .ole main_v8 main_v9
  let main_c_3 : IVec S_ 1 := constantI S_ 1 1#1
  let main_v11 : IVec S_ 1 := (fun x v => Host.reduce IntOp.andi x v reducesTo_S8192x2048_S_d0_1 h_S_) main_v10 main_c_3
  let main_v12 : FVec F S8192x2048 .f32 := Host.absf main_arg3
  let main_cst_4 : FVec F S_ .f32 := constant S_ .f32 0x7F7FFFFF#32
  let main_v13 : FVec F S8192x2048 .f32 := broadcastInDim S8192x2048 ![] bcast_S_S8192x2048 main_cst_4
  let main_v14 : IVec S8192x2048 1 := cmpf .ole main_v12 main_v13
  let main_c_5 : IVec S_ 1 := constantI S_ 1 1#1
  let main_v15 : IVec S_ 1 := (fun x v => Host.reduce IntOp.andi x v reducesTo_S8192x2048_S_d0_1 h_S_) main_v14 main_c_5
  fn_part1 (F := F) main_arg4 main_arg5 main_arg6 main_arg7 main_v3 main_v7 main_v11 main_v15
-- ==== Kernel.lean ====
abbrev S128x16x64x64 : Shape := ⟨4, ![128, 16, 64, 64]⟩
abbrev S8192x2048 : Shape := ⟨2, ![8192, 2048]⟩
abbrev S128x16 : Shape := ⟨2, ![128, 16]⟩
abbrev S128x16x128x128 : Shape := ⟨4, ![128, 16, 128, 128]⟩
abbrev S64x16x64x64 : Shape := ⟨4, ![64, 16, 64, 64]⟩
abbrev S_ : Shape := ⟨0, ![]⟩
abbrev S64x16x64x128 : Shape := ⟨4, ![64, 16, 64, 128]⟩
abbrev S64x16x128x128 : Shape := ⟨4, ![64, 16, 128, 128]⟩
abbrev S64x128x16x128 : Shape := ⟨4, ![64, 128, 16, 128]⟩
abbrev S64x2x8x2 : Shape := ⟨4, ![64, 2, 8, 2]⟩
abbrev S64x8x2x2 : Shape := ⟨4, ![64, 8, 2, 2]⟩
abbrev S64x8x4x1 : Shape := ⟨4, ![64, 8, 4, 1]⟩
abbrev S64x8x4x128 : Shape := ⟨4, ![64, 8, 4, 128]⟩
abbrev S64x8x8x128 : Shape := ⟨4, ![64, 8, 8, 128]⟩
abbrev S128x64x16x128 : Shape := ⟨4, ![128, 64, 16, 128]⟩
abbrev S128x16x128x64 : Shape := ⟨4, ![128, 16, 128, 64]⟩
abbrev S16x128x128x128 : Shape := ⟨4, ![16, 128, 128, 128]⟩
abbrev S16x16384x128 : Shape := ⟨3, ![16, 16384, 128]⟩
abbrev S128x2048 : Shape := ⟨2, ![128, 2048]⟩
abbrev S16x256x128 : Shape := ⟨3, ![16, 256, 128]⟩
abbrev S1x8x8x128 : Shape := ⟨4, ![1, 8, 8, 128]⟩
abbrev S16x128x128 : Shape := ⟨3, ![16, 128, 128]⟩
abbrev S1x1x1x128 : Shape := ⟨4, ![1, 1, 1, 128]⟩
abbrev S1x128 : Shape := ⟨2, ![1, 128]⟩
abbrev S1x128x128 : Shape := ⟨3, ![1, 128, 128]⟩
abbrev S128x128 : Shape := ⟨2, ![128, 128]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 37
  | .vmem => 23
  | .smem => 0
  | _ => 0

abbrev bufTy : (tb : Table) → Fin (tcTables nBuf tb) → BufTy
  | .hbm, ⟨0, _⟩ => ⟨S128x16x64x64, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S128x16, .f32⟩
  | .hbm, ⟨6, _⟩ => ⟨S128x16x128x128, .f32⟩
  | .hbm, ⟨7, _⟩ => ⟨S8192x2048, .f32⟩
  | .hbm, ⟨8, _⟩ => ⟨S64x16x64x64, .f32⟩
  | .hbm, ⟨9, _⟩ => ⟨S_, .i32⟩
  | .hbm, ⟨10, _⟩ => ⟨S_, .f32⟩
  | .hbm, ⟨11, _⟩ => ⟨S64x16x64x128, .f32⟩
  | .hbm, ⟨12, _⟩ => ⟨S64x16x64x64, .f32⟩
  | .hbm, ⟨13, _⟩ => ⟨S_, .i32⟩
  | .hbm, ⟨14, _⟩ => ⟨S_, .f32⟩
  | .hbm, ⟨15, _⟩ => ⟨S64x16x64x128, .f32⟩
  | .hbm, ⟨16, _⟩ => ⟨S64x16x128x128, .f32⟩
  | .hbm, ⟨17, _⟩ => ⟨S64x128x16x128, .f32⟩
  | .hbm, ⟨18, _⟩ => ⟨S8192x2048, .f32⟩
  | .hbm, ⟨19, _⟩ => ⟨S64x2x8x2, .f32⟩
  | .hbm, ⟨20, _⟩ => ⟨S64x8x2x2, .f32⟩
  | .hbm, ⟨21, _⟩ => ⟨S64x8x4x1, .f32⟩
  | .hbm, ⟨22, _⟩ => ⟨S64x8x4x128, .f32⟩
  | .hbm, ⟨23, _⟩ => ⟨S_, .i32⟩
  | .hbm, ⟨24, _⟩ => ⟨S_, .f32⟩
  | .hbm, ⟨25, _⟩ => ⟨S64x8x8x128, .f32⟩
  | .hbm, ⟨26, _⟩ => ⟨S128x64x16x128, .f32⟩
  | .hbm, ⟨27, _⟩ => ⟨S128x64x16x128, .f32⟩
  | .hbm, ⟨28, _⟩ => ⟨S128x16x128x64, .f32⟩
  | .hbm, ⟨29, _⟩ => ⟨S128x64x16x128, .f32⟩
  | .hbm, ⟨30, _⟩ => ⟨S128x64x16x128, .f32⟩
  | .hbm, ⟨31, _⟩ => ⟨S16x128x128x128, .f32⟩
  | .hbm, ⟨32, _⟩ => ⟨S16x16384x128, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S64x8x8x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S16x256x128, .f32⟩
  | .local _ .vmem, ⟨13, _⟩ => ⟨S16x256x128, .f32⟩
  | .local _ .vmem, ⟨14, _⟩ => ⟨S1x8x8x128, .f32⟩
  | .local _ .vmem, ⟨15, _⟩ => ⟨S1x8x8x128, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S1x8x8x128, .f32⟩
  | .local _ .vmem, ⟨21, _⟩ => ⟨S1x8x8x128, .f32⟩
  | .local _ .vmem, ⟨22, _⟩ => ⟨S16x128x128, .f32⟩
  | _, _ => ⟨S128x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_call2_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S128x16x64x64 : Shape := ⟨4, ![128, 16, 64, 64]⟩
abbrev S8192x2048 : Shape := ⟨2, ![8192, 2048]⟩
abbrev S128x16 : Shape := ⟨2, ![128, 16]⟩
abbrev S128x16x128x128 : Shape := ⟨4, ![128, 16, 128, 128]⟩
abbrev S_ : Shape := ⟨0, ![]⟩
abbrev S16x128x128 : Shape := ⟨3, ![16, 128, 128]⟩
abbrev S128x64x16x128 : Shape := ⟨4, ![128, 64, 16, 128]⟩
abbrev S128x16x64x128 : Shape := ⟨4, ![128, 16, 64, 128]⟩
abbrev S1x16x64x64 : Shape := ⟨4, ![1, 16, 64, 64]⟩
abbrev S16x64x64 : Shape := ⟨3, ![16, 64, 64]⟩
abbrev S1x16x64x128 : Shape := ⟨4, ![1, 16, 64, 128]⟩
abbrev S16x64x128 : Shape := ⟨3, ![16, 64, 128]⟩
abbrev S1x16 : Shape := ⟨2, ![1, 16]⟩
abbrev S16 : Shape := ⟨1, ![16]⟩
abbrev S1x16x128x128 : Shape := ⟨4, ![1, 16, 128, 128]⟩
abbrev S16x1x1 : Shape := ⟨3, ![16, 1, 1]⟩
abbrev S16x128x64 : Shape := ⟨3, ![16, 128, 64]⟩
abbrev S64x2x8x2 : Shape := ⟨4, ![64, 2, 8, 2]⟩
abbrev S64x8x2x2 : Shape := ⟨4, ![64, 8, 2, 2]⟩
abbrev S64x8x4x1 : Shape := ⟨4, ![64, 8, 4, 1]⟩
abbrev S64x8x4x128 : Shape := ⟨4, ![64, 8, 4, 128]⟩
abbrev S64x8x8x128 : Shape := ⟨4, ![64, 8, 8, 128]⟩

abbrev nBuf : Space → Nat
  | .hbm => 142
  | .vmem => 0
  | .smem => 0
  | _ => 0

abbrev hbmTy0_0 (i : Nat) : BufTy := match i % 128 with
  | 0 => ⟨S128x16x64x64, .f32⟩
  | 1 => ⟨S8192x2048, .f32⟩
  | 2 => ⟨S8192x2048, .f32⟩
  | 3 => ⟨S8192x2048, .f32⟩
  | 4 => ⟨S8192x2048, .f32⟩
  | 5 => ⟨S128x16, .f32⟩
  | 6 => ⟨S128x16x128x128, .f32⟩
  | 7 => ⟨S8192x2048, .f32⟩
  | 8 => ⟨S_, .f32⟩
  | 9 => ⟨S16x128x128, .f32⟩
  | 10 => ⟨S128x64x16x128, .f32⟩
  | 11 => ⟨S128x16x64x128, .f32⟩
  | 12 => ⟨S128x64x16x128, .f32⟩
  | 13 => ⟨S128x16x64x128, .f32⟩
  | 14 => ⟨S128x64x16x128, .f32⟩
  | 15 => ⟨S128x16x64x128, .f32⟩
  | 16 => ⟨S128x64x16x128, .f32⟩
  | 17 => ⟨S128x16x64x128, .f32⟩
  | 18 => ⟨S128x64x16x128, .f32⟩
  | 19 => ⟨S128x16x64x128, .f32⟩
  | 20 => ⟨S_, .f32⟩
  | 21 => ⟨S128x16x64x128, .f32⟩
  | 22 => ⟨S_, .f32⟩
  | 23 => ⟨S128x16x64x128, .f32⟩
  | 24 => ⟨S_, .f32⟩
  | 25 => ⟨S128x16, .f32⟩
  | 26 => ⟨S_, .i32⟩
  | 27 => ⟨S128x16x64x64, .f32⟩
  | 28 => ⟨S128x16x64x128, .f32⟩
  | 29 => ⟨S128x16x64x128, .f32⟩
  | 30 => ⟨S128x16x64x128, .f32⟩
  | 31 => ⟨S128x16x64x128, .f32⟩
  | 32 => ⟨S128x16, .f32⟩
  | 33 => ⟨S128x16x128x128, .f32⟩
  | 34 => ⟨S128x16x64x128, .f32⟩
  | 35 => ⟨S_, .i32⟩
  | 36 => ⟨S16x128x128, .f32⟩
  | 37 => ⟨S128x16x64x128, .f32⟩
  | 38 => ⟨S128x16x64x128, .f32⟩
  | 39 => ⟨S128x16, .f32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S1x16x64x64, .f32⟩
  | 50 => ⟨S16x64x64, .f32⟩
  | 51 => ⟨S_, .i32⟩
  | 52 => ⟨S_, .i32⟩
  | 53 => ⟨S_, .i32⟩
  | 54 => ⟨S1x16x64x128, .f32⟩
  | 55 => ⟨S16x64x128, .f32⟩
  | 56 => ⟨S_, .i32⟩
  | 57 => ⟨S_, .i32⟩
  | 58 => ⟨S_, .i32⟩
  | 59 => ⟨S1x16x64x128, .f32⟩
  | 60 => ⟨S16x64x128, .f32⟩
  | 61 => ⟨S_, .i32⟩
  | 62 => ⟨S_, .i32⟩
  | 63 => ⟨S_, .i32⟩
  | 64 => ⟨S1x16x64x128, .f32⟩
  | 65 => ⟨S16x64x128, .f32⟩
  | 66 => ⟨S_, .i32⟩
  | 67 => ⟨S_, .i32⟩
  | 68 => ⟨S_, .i32⟩
  | 69 => ⟨S1x16x64x128, .f32⟩
  | 70 => ⟨S16x64x128, .f32⟩
  | 71 => ⟨S_, .i32⟩
  | 72 => ⟨S1x16, .f32⟩
  | 73 => ⟨S16, .f32⟩
  | 74 => ⟨S_, .i32⟩
  | 75 => ⟨S_, .i32⟩
  | 76 => ⟨S_, .i32⟩
  | 77 => ⟨S1x16x128x128, .f32⟩
  | 78 => ⟨S16x128x128, .f32⟩
  | 79 => ⟨S_, .i32⟩
  | 80 => ⟨S_, .i32⟩
  | 81 => ⟨S_, .i32⟩
  | 82 => ⟨S1x16x64x128, .f32⟩
  | 83 => ⟨S16x64x128, .f32⟩
  | 84 => ⟨S16x64x128, .f32⟩
  | 85 => ⟨S16x64x128, .f32⟩
  | 86 => ⟨S16x64x128, .f32⟩
  | 87 => ⟨S16x64x128, .f32⟩
  | 88 => ⟨S16x64x128, .f32⟩
  | 89 => ⟨S16x1x1, .f32⟩
  | 90 => ⟨S16x128x128, .f32⟩
  | 91 => ⟨S16x128x128, .f32⟩
  | 92 => ⟨S16x128x128, .f32⟩
  | 93 => ⟨S16x128x128, .f32⟩
  | 94 => ⟨S16x128x64, .f32⟩
  | 95 => ⟨S16x64x128, .f32⟩
  | 96 => ⟨S16x128x64, .f32⟩
  | 97 => ⟨S16x64x128, .f32⟩
  | 98 => ⟨S16x128x128, .f32⟩
  | 99 => ⟨S16x128x128, .f32⟩
  | 100 => ⟨S16x128x128, .f32⟩
  | 101 => ⟨S_, .f32⟩
  | 102 => ⟨S16, .f32⟩
  | 103 => ⟨S16x1x1, .f32⟩
  | 104 => ⟨S_, .f32⟩
  | 105 => ⟨S16, .f32⟩
  | 106 => ⟨S16x128x64, .f32⟩
  | 107 => ⟨S16x64x128, .f32⟩
  | 108 => ⟨S16x64x128, .f32⟩
  | 109 => ⟨S16x128x128, .f32⟩
  | 110 => ⟨S16x128x128, .f32⟩
  | 111 => ⟨S16x128x128, .f32⟩
  | 112 => ⟨S16x64x128, .f32⟩
  | 113 => ⟨S16x128x128, .f32⟩
  | 114 => ⟨S16x128x128, .f32⟩
  | 115 => ⟨S16x128x128, .f32⟩
  | 116 => ⟨S1x16x64x128, .f32⟩
  | 117 => ⟨S_, .i32⟩
  | 118 => ⟨S_, .i32⟩
  | 119 => ⟨S_, .i32⟩
  | 120 => ⟨S128x16x64x128, .f32⟩
  | 121 => ⟨S1x16x64x128, .f32⟩
  | 122 => ⟨S_, .i32⟩
  | 123 => ⟨S_, .i32⟩
  | 124 => ⟨S_, .i32⟩
  | 125 => ⟨S128x16x64x128, .f32⟩
  | 126 => ⟨S1x16, .f32⟩
  | 127 => ⟨S_, .i32⟩
  | _ => ⟨S128x16x64x64, .f32⟩

abbrev hbmTy0_1 (i : Nat) : BufTy := match i % 128 with
  | 0 => ⟨S128x16, .f32⟩
  | 1 => ⟨S_, .i32⟩
  | 2 => ⟨S_, .i32⟩
  | 3 => ⟨S64x2x8x2, .f32⟩
  | 4 => ⟨S64x8x2x2, .f32⟩
  | 5 => ⟨S64x8x4x1, .f32⟩
  | 6 => ⟨S64x8x4x128, .f32⟩
  | 7 => ⟨S_, .i32⟩
  | 8 => ⟨S_, .f32⟩
  | 9 => ⟨S64x8x8x128, .f32⟩
  | 10 => ⟨S128x64x16x128, .f32⟩
  | 11 => ⟨S8192x2048, .f32⟩
  | 12 => ⟨S128x64x16x128, .f32⟩
  | 13 => ⟨S8192x2048, .f32⟩
  | _ => ⟨S128x16x64x64, .f32⟩

abbrev hbmTy (i : Nat) : BufTy := match i / 128 with
  | 0 => hbmTy0_0 i
  | 1 => hbmTy0_1 i
  | _ => ⟨S128x16x64x64, .f32⟩

abbrev bufTy : (tb : Table) → Fin (tcTables nBuf tb) → BufTy
  | .hbm, ⟨i, _⟩ => hbmTy i
  | _, _ => ⟨S128x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_c : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v14_3 : Ref sig .tc := ⟨.hbm, 30, rfl⟩
abbrev main_v14_4 : Ref sig .tc := ⟨.hbm, 31, rfl⟩
abbrev main_v14_5 : Ref sig .tc := ⟨.hbm, 32, rfl⟩
abbrev main_v14_6 : Ref sig .tc := ⟨.hbm, 33, rfl⟩
abbrev main_v14_7 : Ref sig .tc := ⟨.hbm, 34, rfl⟩
abbrev main_v14_8 : Ref sig .tc := ⟨.hbm, 35, rfl⟩
abbrev main_v14_9 : Ref sig .tc := ⟨.hbm, 36, rfl⟩
abbrev main_v14_10 : Ref sig .tc := ⟨.hbm, 37, rfl⟩
abbrev main_v14_11 : Ref sig .tc := ⟨.hbm, 38, rfl⟩
abbrev main_v14_12 : Ref sig .tc := ⟨.hbm, 39, rfl⟩
abbrev main_while0c_c_16 : Ref sig .tc := ⟨.hbm, 40, rfl⟩
abbrev main_while0c_v24 : Ref sig .tc := ⟨.hbm, 41, rfl⟩
abbrev main_while0b_c_16 : Ref sig .tc := ⟨.hbm, 42, rfl⟩
abbrev main_while0b_v24 : Ref sig .tc := ⟨.hbm, 43, rfl⟩
abbrev main_while0b_c_17 : Ref sig .tc := ⟨.hbm, 44, rfl⟩
abbrev main_while0b_v25 : Ref sig .tc := ⟨.hbm, 45, rfl⟩
abbrev main_while0b_call0_c : Ref sig .tc := ⟨.hbm, 46, rfl⟩
abbrev main_while0b_call0_c_0 : Ref sig .tc := ⟨.hbm, 47, rfl⟩
abbrev main_while0b_call0_c_1 : Ref sig .tc := ⟨.hbm, 48, rfl⟩
abbrev main_while0b_call0_v0 : Ref sig .tc := ⟨.hbm, 49, rfl⟩
abbrev main_while0b_v26 : Ref sig .tc := ⟨.hbm, 50, rfl⟩
abbrev main_while0b_call1_c : Ref sig .tc := ⟨.hbm, 51, rfl⟩
abbrev main_while0b_call1_c_0 : Ref sig .tc := ⟨.hbm, 52, rfl⟩
abbrev main_while0b_call1_c_1 : Ref sig .tc := ⟨.hbm, 53, rfl⟩
abbrev main_while0b_call1_v0 : Ref sig .tc := ⟨.hbm, 54, rfl⟩
abbrev main_while0b_v27 : Ref sig .tc := ⟨.hbm, 55, rfl⟩
abbrev main_while0b_call2_c : Ref sig .tc := ⟨.hbm, 56, rfl⟩
abbrev main_while0b_call2_c_0 : Ref sig .tc := ⟨.hbm, 57, rfl⟩
abbrev main_while0b_call2_c_1 : Ref sig .tc := ⟨.hbm, 58, rfl⟩
abbrev main_while0b_call2_v0 : Ref sig .tc := ⟨.hbm, 59, rfl⟩
abbrev main_while0b_v28 : Ref sig .tc := ⟨.hbm, 60, rfl⟩
abbrev main_while0b_call3_c : Ref sig .tc := ⟨.hbm, 61, rfl⟩
abbrev main_while0b_call3_c_0 : Ref sig .tc := ⟨.hbm, 62, rfl⟩
abbrev main_while0b_call3_c_1 : Ref sig .tc := ⟨.hbm, 63, rfl⟩
abbrev main_while0b_call3_v0 : Ref sig .tc := ⟨.hbm, 64, rfl⟩
abbrev main_while0b_v29 : Ref sig .tc := ⟨.hbm, 65, rfl⟩
abbrev main_while0b_call4_c : Ref sig .tc := ⟨.hbm, 66, rfl⟩
abbrev main_while0b_call4_c_0 : Ref sig .tc := ⟨.hbm, 67, rfl⟩
abbrev main_while0b_call4_c_1 : Ref sig .tc := ⟨.hbm, 68, rfl⟩
abbrev main_while0b_call4_v0 : Ref sig .tc := ⟨.hbm, 69, rfl⟩
abbrev main_while0b_v30 : Ref sig .tc := ⟨.hbm, 70, rfl⟩
abbrev main_while0b_call5_c : Ref sig .tc := ⟨.hbm, 71, rfl⟩
abbrev main_while0b_call5_v0 : Ref sig .tc := ⟨.hbm, 72, rfl⟩
abbrev main_while0b_v31 : Ref sig .tc := ⟨.hbm, 73, rfl⟩
abbrev main_while0b_call6_c : Ref sig .tc := ⟨.hbm, 74, rfl⟩
abbrev main_while0b_call6_c_0 : Ref sig .tc := ⟨.hbm, 75, rfl⟩
abbrev main_while0b_call6_c_1 : Ref sig .tc := ⟨.hbm, 76, rfl⟩
abbrev main_while0b_call6_v0 : Ref sig .tc := ⟨.hbm, 77, rfl⟩
abbrev main_while0b_v32 : Ref sig .tc := ⟨.hbm, 78, rfl⟩
abbrev main_while0b_call7_c : Ref sig .tc := ⟨.hbm, 79, rfl⟩
abbrev main_while0b_call7_c_0 : Ref sig .tc := ⟨.hbm, 80, rfl⟩
abbrev main_while0b_call7_c_1 : Ref sig .tc := ⟨.hbm, 81, rfl⟩
abbrev main_while0b_call7_v0 : Ref sig .tc := ⟨.hbm, 82, rfl⟩
abbrev main_while0b_v33 : Ref sig .tc := ⟨.hbm, 83, rfl⟩
abbrev main_while0b_v34 : Ref sig .tc := ⟨.hbm, 84, rfl⟩
abbrev main_while0b_v35 : Ref sig .tc := ⟨.hbm, 85, rfl⟩
abbrev main_while0b_v36 : Ref sig .tc := ⟨.hbm, 86, rfl⟩
abbrev main_while0b_v37 : Ref sig .tc := ⟨.hbm, 87, rfl⟩
abbrev main_while0b_v38 : Ref sig .tc := ⟨.hbm, 88, rfl⟩
abbrev main_while0b_v39 : Ref sig .tc := ⟨.hbm, 89, rfl⟩
abbrev main_while0b_v40 : Ref sig .tc := ⟨.hbm, 90, rfl⟩
abbrev main_while0b_v41 : Ref sig .tc := ⟨.hbm, 91, rfl⟩
abbrev main_while0b_v42 : Ref sig .tc := ⟨.hbm, 92, rfl⟩
abbrev main_while0b_v43 : Ref sig .tc := ⟨.hbm, 93, rfl⟩
abbrev main_while0b_v44 : Ref sig .tc := ⟨.hbm, 94, rfl⟩
abbrev main_while0b_v45 : Ref sig .tc := ⟨.hbm, 95, rfl⟩
abbrev main_while0b_v46 : Ref sig .tc := ⟨.hbm, 96, rfl⟩
abbrev main_while0b_v47 : Ref sig .tc := ⟨.hbm, 97, rfl⟩
abbrev main_while0b_v48 : Ref sig .tc := ⟨.hbm, 98, rfl⟩
abbrev main_while0b_v49 : Ref sig .tc := ⟨.hbm, 99, rfl⟩
abbrev main_while0b_v50 : Ref sig .tc := ⟨.hbm, 100, rfl⟩
abbrev main_while0b_cst_18 : Ref sig .tc := ⟨.hbm, 101, rfl⟩
abbrev main_while0b_v51 : Ref sig .tc := ⟨.hbm, 102, rfl⟩
abbrev main_while0b_v52 : Ref sig .tc := ⟨.hbm, 103, rfl⟩
abbrev main_while0b_cst_19 : Ref sig .tc := ⟨.hbm, 104, rfl⟩
abbrev main_while0b_v53 : Ref sig .tc := ⟨.hbm, 105, rfl⟩
abbrev main_while0b_v54 : Ref sig .tc := ⟨.hbm, 106, rfl⟩
abbrev main_while0b_v55 : Ref sig .tc := ⟨.hbm, 107, rfl⟩
abbrev main_while0b_v56 : Ref sig .tc := ⟨.hbm, 108, rfl⟩
abbrev main_while0b_v57 : Ref sig .tc := ⟨.hbm, 109, rfl⟩
abbrev main_while0b_v58 : Ref sig .tc := ⟨.hbm, 110, rfl⟩
abbrev main_while0b_v59 : Ref sig .tc := ⟨.hbm, 111, rfl⟩
abbrev main_while0b_v60 : Ref sig .tc := ⟨.hbm, 112, rfl⟩
abbrev main_while0b_v61 : Ref sig .tc := ⟨.hbm, 113, rfl⟩
abbrev main_while0b_v62 : Ref sig .tc := ⟨.hbm, 114, rfl⟩
abbrev main_while0b_v63 : Ref sig .tc := ⟨.hbm, 115, rfl⟩
abbrev main_while0b_call8_v0 : Ref sig .tc := ⟨.hbm, 116, rfl⟩
abbrev main_while0b_call8_c : Ref sig .tc := ⟨.hbm, 117, rfl⟩
abbrev main_while0b_call8_c_0 : Ref sig .tc := ⟨.hbm, 118, rfl⟩
abbrev main_while0b_call8_c_1 : Ref sig .tc := ⟨.hbm, 119, rfl⟩
abbrev main_while0b_v64 : Ref sig .tc := ⟨.hbm, 120, rfl⟩
abbrev main_while0b_call9_v0 : Ref sig .tc := ⟨.hbm, 121, rfl⟩
abbrev main_while0b_call9_c : Ref sig .tc := ⟨.hbm, 122, rfl⟩
abbrev main_while0b_call9_c_0 : Ref sig .tc := ⟨.hbm, 123, rfl⟩
abbrev main_while0b_call9_c_1 : Ref sig .tc := ⟨.hbm, 124, rfl⟩
abbrev main_while0b_v65 : Ref sig .tc := ⟨.hbm, 125, rfl⟩
abbrev main_while0b_call10_v0 : Ref sig .tc := ⟨.hbm, 126, rfl⟩
abbrev main_while0b_call10_c : Ref sig .tc := ⟨.hbm, 127, rfl⟩
abbrev main_while0b_v66 : Ref sig .tc := ⟨.hbm, 128, rfl⟩
abbrev main_while0b_c_20 : Ref sig .tc := ⟨.hbm, 129, rfl⟩
abbrev main_while0b_v67 : Ref sig .tc := ⟨.hbm, 130, rfl⟩
abbrev main_v15 : Ref sig .tc := ⟨.hbm, 131, rfl⟩
abbrev main_v16 : Ref sig .tc := ⟨.hbm, 132, rfl⟩
abbrev main_v17 : Ref sig .tc := ⟨.hbm, 133, rfl⟩
abbrev main_v18 : Ref sig .tc := ⟨.hbm, 134, rfl⟩
abbrev main_c_3 : Ref sig .tc := ⟨.hbm, 135, rfl⟩
abbrev main_call11_v0 : Ref sig .tc := ⟨.hbm, 136, rfl⟩
abbrev main_v19 : Ref sig .tc := ⟨.hbm, 137, rfl⟩
abbrev main_v20 : Ref sig .tc := ⟨.hbm, 138, rfl⟩
abbrev main_v21 : Ref sig .tc := ⟨.hbm, 139, rfl⟩
abbrev main_v22 : Ref sig .tc := ⟨.hbm, 140, rfl⟩
abbrev main_v23 : Ref sig .tc := ⟨.hbm, 141, rfl⟩

abbrev nD : Nat := 1
abbrev τ : Topo := Topo.v7x

variable {F : FTy → Type} [FloatOps F]

abbrev main_while0_count : Scf.Loop 32 := ⟨0#32, 128#32, 1#32⟩
-- ==== DRec.lean ====
abbrev S8192x1024 : Shape := ⟨2, ![8192, 1024]⟩
abbrev S1280x1024 : Shape := ⟨2, ![1280, 1024]⟩
abbrev S1024x1280 : Shape := ⟨2, ![1024, 1280]⟩
abbrev S8192x1280 : Shape := ⟨2, ![8192, 1280]⟩
abbrev S512x1024 : Shape := ⟨2, ![512, 1024]⟩
abbrev S512x1280 : Shape := ⟨2, ![512, 1280]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1280x1024, .f32⟩
  | .hbm, ⟨2, _⟩ => ⟨S1280x1024, .bf16⟩
  | .hbm, ⟨3, _⟩ => ⟨S1024x1280, .bf16⟩
  | .hbm, ⟨4, _⟩ => ⟨S8192x1280, .f32⟩
  | .local _ .vmem, ⟨0, _⟩ => ⟨S512x1024, .bf16⟩
  | .local _ .vmem, ⟨1, _⟩ => ⟨S512x1024, .bf16⟩
  | .local _ .vmem, ⟨2, _⟩ => ⟨S1024x1280, .bf16⟩
  | .local _ .vmem, ⟨3, _⟩ => ⟨S512x1280, .f32⟩
  | .local _ .vmem, ⟨4, _⟩ => ⟨S512x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DRecRefIdeal.lean ====
abbrev S8192x1024 : Shape := ⟨2, ![8192, 1024]⟩
abbrev S1280x1024 : Shape := ⟨2, ![1280, 1024]⟩
abbrev S_ : Shape := ⟨0, ![]⟩
abbrev S8192x1280 : Shape := ⟨2, ![8192, 1280]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1280x1024, .f32⟩
  | .hbm, ⟨2, _⟩ => ⟨S_, .f32⟩
  | .hbm, ⟨3, _⟩ => ⟨S8192x1280, .f32⟩
  | .hbm, ⟨4, _⟩ => ⟨S8192x1024, .f32⟩
  | .hbm, ⟨5, _⟩ => ⟨S8192x1024, .f32⟩
  | .hbm, ⟨6, _⟩ => ⟨S8192x1280, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DAct.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .f32⟩
  | .hbm, ⟨2, _⟩ => ⟨S2816x1024, .bf16⟩
  | .hbm, ⟨3, _⟩ => ⟨S1024x2816, .bf16⟩
  | .hbm, ⟨4, _⟩ => ⟨S8192x2816, .f32⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .f32⟩
  | .local _ .vmem, ⟨5, _⟩ => ⟨S512x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .f32⟩
  | .hbm, ⟨2, _⟩ => ⟨S_, .f32⟩
  | .hbm, ⟨3, _⟩ => ⟨S8192x2816, .f32⟩
  | .hbm, ⟨4, _⟩ => ⟨S8192x1024, .f32⟩
  | .hbm, ⟨5, _⟩ => ⟨S8192x1024, .f32⟩
  | .hbm, ⟨6, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GPa.lean ====
abbrev S8192x1280 : Shape := ⟨2, ![8192, 1280]⟩
abbrev S8192x1024 : Shape := ⟨2, ![8192, 1024]⟩
abbrev S1280x8192 : Shape := ⟨2, ![1280, 8192]⟩
abbrev S1280x1024 : Shape := ⟨2, ![1280, 1024]⟩
abbrev S256x4096 : Shape := ⟨2, ![256, 4096]⟩
abbrev S4096x1024 : Shape := ⟨2, ![4096, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .bf16⟩
  | .hbm, ⟨2, _⟩ => ⟨S1280x8192, .bf16⟩
  | .hbm, ⟨3, _⟩ => ⟨S1280x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GPaRefIdeal.lean ====
abbrev S8192x1280 : Shape := ⟨2, ![8192, 1280]⟩
abbrev S8192x1024 : Shape := ⟨2, ![8192, 1024]⟩
abbrev S_ : Shape := ⟨0, ![]⟩
abbrev S1280x1024 : Shape := ⟨2, ![1280, 1024]⟩
abbrev S1024x1280 : Shape := ⟨2, ![1024, 1280]⟩

abbrev nBuf : Space → Nat
  | .hbm => 9
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .bf16⟩
  | .hbm, ⟨2, _⟩ => ⟨S_, .f32⟩
  | .hbm, ⟨3, _⟩ => ⟨S1280x1024, .f32⟩
  | .hbm, ⟨4, _⟩ => ⟨S8192x1280, .f32⟩
  | .hbm, ⟨5, _⟩ => ⟨S8192x1024, .f32⟩
  | .hbm, ⟨6, _⟩ => ⟨S8192x1024, .f32⟩
  | .hbm, ⟨7, _⟩ => ⟨S1024x1280, .f32⟩
  | .hbm, ⟨8, _⟩ => ⟨S1280x1024, .f32⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GPb.lean ====
abbrev S8192x2048 : Shape := ⟨2, ![8192, 2048]⟩
abbrev S8192x1024 : Shape := ⟨2, ![8192, 1024]⟩
abbrev S2048x8192 : Shape := ⟨2, ![2048, 8192]⟩
abbrev S2048x1024 : Shape := ⟨2, ![2048, 1024]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x8192, .bf16⟩
  | .hbm, ⟨3, _⟩ => ⟨S2048x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GPbRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GOut.lean ====
abbrev S8192x1024 : Shape := ⟨2, ![8192, 1024]⟩
abbrev S1024x8192 : Shape := ⟨2, ![1024, 8192]⟩
abbrev S1024x1024 : Shape := ⟨2, ![1024, 1024]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x8192, .bf16⟩
  | .hbm, ⟨3, _⟩ => ⟨S1024x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GOutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GDown.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩
abbrev S256x4096 : Shape := ⟨2, ![256, 4096]⟩
abbrev S4096x1024 : Shape := ⟨2, ![4096, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x8192, .bf16⟩
  | .hbm, ⟨3, _⟩ => ⟨S2816x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GGu.lean ====
abbrev S8192x1024 : Shape := ⟨2, ![8192, 1024]⟩
abbrev S8192x5632 : Shape := ⟨2, ![8192, 5632]⟩
abbrev S1024x8192 : Shape := ⟨2, ![1024, 8192]⟩
abbrev S1024x5632 : Shape := ⟨2, ![1024, 5632]⟩
abbrev S512x2048 : Shape := ⟨2, ![512, 2048]⟩
abbrev S2048x1408 : Shape := ⟨2, ![2048, 1408]⟩
abbrev S512x1408 : Shape := ⟨2, ![512, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x8192, .bf16⟩
  | .hbm, ⟨3, _⟩ => ⟨S1024x5632, .f32⟩
  | .local _ .vmem, ⟨0, _⟩ => ⟨S512x2048, .bf16⟩
  | .local _ .vmem, ⟨1, _⟩ => ⟨S512x2048, .bf16⟩
  | .local _ .vmem, ⟨2, _⟩ => ⟨S2048x1408, .bf16⟩
  | .local _ .vmem, ⟨3, _⟩ => ⟨S2048x1408, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GGuRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GInTop.lean ====
abbrev S8192x1024 : Shape := ⟨2, ![8192, 1024]⟩
abbrev S8192x10880 : Shape := ⟨2, ![8192, 10880]⟩
abbrev S1024x8192 : Shape := ⟨2, ![1024, 8192]⟩
abbrev S512x8192 : Shape := ⟨2, ![512, 8192]⟩
abbrev S512x10880 : Shape := ⟨2, ![512, 10880]⟩
abbrev S512x4096 : Shape := ⟨2, ![512, 4096]⟩
abbrev S4096x640 : Shape := ⟨2, ![4096, 640]⟩
abbrev S512x640 : Shape := ⟨2, ![512, 640]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x10880, .bf16⟩
  | .hbm, ⟨2, _⟩ => ⟨S1024x8192, .bf16⟩
  | .hbm, ⟨3, _⟩ => ⟨S512x8192, .bf16⟩
  | .hbm, ⟨4, _⟩ => ⟨S512x10880, .f32⟩
  | .local _ .vmem, ⟨0, _⟩ => ⟨S512x4096, .bf16⟩
  | .local _ .vmem, ⟨1, _⟩ => ⟨S512x4096, .bf16⟩
  | .local _ .vmem, ⟨2, _⟩ => ⟨S4096x640, .bf16⟩
  | .local _ .vmem, ⟨3, _⟩ => ⟨S4096x640, .bf16⟩
  | .local _ .vmem, ⟨4, _⟩ => ⟨S512x640, .f32⟩
  | .local _ .vmem, ⟨5, _⟩ => ⟨S512x640, .f32⟩
  | .local _ .vmem, ⟨6, _⟩ => ⟨S512x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 17, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GInTopRefIdeal.lean ====
abbrev S8192x1024 : Shape := ⟨2, ![8192, 1024]⟩
abbrev S8192x10880 : Shape := ⟨2, ![8192, 10880]⟩
abbrev S_ : Shape := ⟨0, ![]⟩
abbrev S1024x10880 : Shape := ⟨2, ![1024, 10880]⟩
abbrev S10880x1024 : Shape := ⟨2, ![10880, 1024]⟩
abbrev S512x10880 : Shape := ⟨2, ![512, 10880]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x10880, .bf16⟩
  | .hbm, ⟨2, _⟩ => ⟨S_, .f32⟩
  | .hbm, ⟨3, _⟩ => ⟨S1024x10880, .f32⟩
  | .hbm, ⟨4, _⟩ => ⟨S8192x1024, .f32⟩
  | .hbm, ⟨5, _⟩ => ⟨S8192x10880, .f32⟩
  | .hbm, ⟨6, _⟩ => ⟨S8192x10880, .f32⟩
  | .hbm, ⟨7, _⟩ => ⟨S10880x1024, .f32⟩
  | .hbm, ⟨8, _⟩ => ⟨S1024x10880, .f32⟩
  | .hbm, ⟨9, _⟩ => ⟨S512x10880, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GInBot.lean ====
abbrev S8192x1024 : Shape := ⟨2, ![8192, 1024]⟩
abbrev S8192x10880 : Shape := ⟨2, ![8192, 10880]⟩
abbrev S1024x8192 : Shape := ⟨2, ![1024, 8192]⟩
abbrev S512x8192 : Shape := ⟨2, ![512, 8192]⟩
abbrev S512x10880 : Shape := ⟨2, ![512, 10880]⟩
abbrev S512x4096 : Shape := ⟨2, ![512, 4096]⟩
abbrev S4096x640 : Shape := ⟨2, ![4096, 640]⟩
abbrev S512x640 : Shape := ⟨2, ![512, 640]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x10880, .bf16⟩
  | .hbm, ⟨2, _⟩ => ⟨S1024x8192, .bf16⟩
  | .hbm, ⟨3, _⟩ => ⟨S512x8192, .bf16⟩
  | .hbm, ⟨4, _⟩ => ⟨S512x10880, .f32⟩
  | .local _ .vmem, ⟨0, _⟩ => ⟨S512x4096, .bf16⟩
  | .local _ .vmem, ⟨1, _⟩ => ⟨S512x4096, .bf16⟩
  | .local _ .vmem, ⟨2, _⟩ => ⟨S4096x640, .bf16⟩
  | .local _ .vmem, ⟨3, _⟩ => ⟨S4096x640, .bf16⟩
  | .local _ .vmem, ⟨4, _⟩ => ⟨S512x640, .f32⟩
  | .local _ .vmem, ⟨5, _⟩ => ⟨S512x640, .f32⟩
  | .local _ .vmem, ⟨6, _⟩ => ⟨S512x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 17, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GInBotRefIdeal.lean ====
abbrev S8192x1024 : Shape := ⟨2, ![8192, 1024]⟩
abbrev S8192x10880 : Shape := ⟨2, ![8192, 10880]⟩
abbrev S_ : Shape := ⟨0, ![]⟩
abbrev S1024x10880 : Shape := ⟨2, ![1024, 10880]⟩
abbrev S10880x1024 : Shape := ⟨2, ![10880, 1024]⟩
abbrev S512x10880 : Shape := ⟨2, ![512, 10880]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x10880, .bf16⟩
  | .hbm, ⟨2, _⟩ => ⟨S_, .f32⟩
  | .hbm, ⟨3, _⟩ => ⟨S1024x10880, .f32⟩
  | .hbm, ⟨4, _⟩ => ⟨S8192x1024, .f32⟩
  | .hbm, ⟨5, _⟩ => ⟨S8192x10880, .f32⟩
  | .hbm, ⟨6, _⟩ => ⟨S8192x10880, .f32⟩
  | .hbm, ⟨7, _⟩ => ⟨S10880x1024, .f32⟩
  | .hbm, ⟨8, _⟩ => ⟨S1024x10880, .f32⟩
  | .hbm, ⟨9, _⟩ => ⟨S512x10880, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjA.lean ====
abbrev S8192x1280 : Shape := ⟨2, ![8192, 1280]⟩
abbrev S1280x1024 : Shape := ⟨2, ![1280, 1024]⟩
abbrev S8192x1024 : Shape := ⟨2, ![8192, 1024]⟩
abbrev S512x1280 : Shape := ⟨2, ![512, 1280]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1280, .bf16⟩
  | .hbm, ⟨1, _⟩ => ⟨S1280x1024, .f32⟩
  | .hbm, ⟨2, _⟩ => ⟨S1280x1024, .bf16⟩
  | .hbm, ⟨3, _⟩ => ⟨S8192x1024, .f32⟩
  | .local _ .vmem, ⟨0, _⟩ => ⟨S512x1280, .bf16⟩
  | .local _ .vmem, ⟨1, _⟩ => ⟨S512x1280, .bf16⟩
  | .local _ .vmem, ⟨2, _⟩ => ⟨S1280x1024, .bf16⟩
  | .local _ .vmem, ⟨3, _⟩ => ⟨S512x1024, .f32⟩
  | .local _ .vmem, ⟨4, _⟩ => ⟨S512x1024, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjARefIdeal.lean ====
abbrev S8192x1280 : Shape := ⟨2, ![8192, 1280]⟩
abbrev S1280x1024 : Shape := ⟨2, ![1280, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S1280x1024, .f32⟩
  | .hbm, ⟨2, _⟩ => ⟨S8192x1280, .f32⟩
  | .hbm, ⟨3, _⟩ => ⟨S8192x1024, .f32⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjB.lean ====
abbrev S8192x2048 : Shape := ⟨2, ![8192, 2048]⟩
abbrev S2048x1024 : Shape := ⟨2, ![2048, 1024]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .f32⟩
  | .hbm, ⟨2, _⟩ => ⟨S2048x1024, .bf16⟩
  | .hbm, ⟨3, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .f32⟩
  | .hbm, ⟨2, _⟩ => ⟨S8192x2048, .f32⟩
  | .hbm, ⟨3, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FfnGu.lean ====
abbrev S8192x1024 : Shape := ⟨2, ![8192, 1024]⟩
abbrev S1024x2816 : Shape := ⟨2, ![1024, 2816]⟩
abbrev S1024x5632 : Shape := ⟨2, ![1024, 5632]⟩
abbrev S8192x5632 : Shape := ⟨2, ![8192, 5632]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .f32⟩
  | .hbm, ⟨2, _⟩ => ⟨S1024x2816, .f32⟩
  | .hbm, ⟨3, _⟩ => ⟨S1024x5632, .f32⟩
  | .hbm, ⟨4, _⟩ => ⟨S1024x5632, .bf16⟩
  | .hbm, ⟨5, _⟩ => ⟨S8192x5632, .f32⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .f32⟩
  | .local _ .vmem, ⟨5, _⟩ => ⟨S512x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnGuRefIdeal.lean ====
abbrev S8192x1024 : Shape := ⟨2, ![8192, 1024]⟩
abbrev S1024x2816 : Shape := ⟨2, ![1024, 2816]⟩
abbrev S8192x2816 : Shape := ⟨2, ![8192, 2816]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .f32⟩
  | .hbm, ⟨2, _⟩ => ⟨S1024x2816, .f32⟩
  | .hbm, ⟨3, _⟩ => ⟨S8192x1024, .f32⟩
  | .hbm, ⟨4, _⟩ => ⟨S8192x2816, .f32⟩
  | .hbm, ⟨5, _⟩ => ⟨S8192x1024, .f32⟩
  | .hbm, ⟨6, _⟩ => ⟨S8192x2816, .f32⟩
  | .hbm, ⟨7, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjQkv.lean ====
abbrev S8192x1024 : Shape := ⟨2, ![8192, 1024]⟩
abbrev S1024x10784 : Shape := ⟨2, ![1024, 10784]⟩
abbrev S1024x4096 : Shape := ⟨2, ![1024, 4096]⟩
abbrev S1024x2048 : Shape := ⟨2, ![1024, 2048]⟩
abbrev S1024x2560 : Shape := ⟨2, ![1024, 2560]⟩
abbrev S1024x32 : Shape := ⟨2, ![1024, 32]⟩
abbrev S_ : Shape := ⟨0, ![]⟩
abbrev S1024x96 : Shape := ⟨2, ![1024, 96]⟩
abbrev S1024x10880 : Shape := ⟨2, ![1024, 10880]⟩
abbrev S8192x4096 : Shape := ⟨2, ![8192, 4096]⟩
abbrev S512x1024 : Shape := ⟨2, ![512, 1024]⟩
abbrev S1024x1024 : Shape := ⟨2, ![1024, 1024]⟩

abbrev nBuf : Space → Nat
  | .hbm => 13
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x10784, .f32⟩
  | .hbm, ⟨2, _⟩ => ⟨S1024x10784, .bf16⟩
  | .hbm, ⟨3, _⟩ => ⟨S1024x4096, .bf16⟩
  | .hbm, ⟨4, _⟩ => ⟨S1024x2048, .bf16⟩
  | .hbm, ⟨5, _⟩ => ⟨S1024x2048, .bf16⟩
  | .hbm, ⟨6, _⟩ => ⟨S1024x2560, .bf16⟩
  | .hbm, ⟨7, _⟩ => ⟨S1024x32, .bf16⟩
  | .hbm, ⟨8, _⟩ => ⟨S_, .bf16⟩
  | .hbm, ⟨9, _⟩ => ⟨S1024x96, .bf16⟩
  | .hbm, ⟨10, _⟩ => ⟨S1024x10880, .bf16⟩
  | .hbm, ⟨11, _⟩ => ⟨S1024x4096, .bf16⟩
  | .hbm, ⟨12, _⟩ => ⟨S8192x4096, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjQkvRefIdeal.lean ====
abbrev S8192x1024 : Shape := ⟨2, ![8192, 1024]⟩
abbrev S1024x10784 : Shape := ⟨2, ![1024, 10784]⟩
abbrev S8192x10784 : Shape := ⟨2, ![8192, 10784]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x10784, .f32⟩
  | .hbm, ⟨2, _⟩ => ⟨S8192x1024, .f32⟩
  | .hbm, ⟨3, _⟩ => ⟨S8192x10784, .f32⟩
  | .hbm, ⟨4, _⟩ => ⟨S8192x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjX.lean ====
abbrev S8192x1024 : Shape := ⟨2, ![8192, 1024]⟩
abbrev S1024x10784 : Shape := ⟨2, ![1024, 10784]⟩
abbrev S1024x4096 : Shape := ⟨2, ![1024, 4096]⟩
abbrev S1024x2048 : Shape := ⟨2, ![1024, 2048]⟩
abbrev S1024x2560 : Shape := ⟨2, ![1024, 2560]⟩
abbrev S1024x32 : Shape := ⟨2, ![1024, 32]⟩
abbrev S_ : Shape := ⟨0, ![]⟩
abbrev S1024x96 : Shape := ⟨2, ![1024, 96]⟩
abbrev S1024x10880 : Shape := ⟨2, ![1024, 10880]⟩
abbrev S8192x2560 : Shape := ⟨2, ![8192, 2560]⟩
abbrev S512x1024 : Shape := ⟨2, ![512, 1024]⟩
abbrev S1024x1280 : Shape := ⟨2, ![1024, 1280]⟩
abbrev S512x1280 : Shape := ⟨2, ![512, 1280]⟩

abbrev nBuf : Space → Nat
  | .hbm => 13
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x10784, .f32⟩
  | .hbm, ⟨2, _⟩ => ⟨S1024x10784, .bf16⟩
  | .hbm, ⟨3, _⟩ => ⟨S1024x4096, .bf16⟩
  | .hbm, ⟨4, _⟩ => ⟨S1024x2048, .bf16⟩
  | .hbm, ⟨5, _⟩ => ⟨S1024x2048, .bf16⟩
  | .hbm, ⟨6, _⟩ => ⟨S1024x2560, .bf16⟩
  | .hbm, ⟨7, _⟩ => ⟨S1024x32, .bf16⟩
  | .hbm, ⟨8, _⟩ => ⟨S_, .bf16⟩
  | .hbm, ⟨9, _⟩ => ⟨S1024x96, .bf16⟩
  | .hbm, ⟨10, _⟩ => ⟨S1024x10880, .bf16⟩
  | .hbm, ⟨11, _⟩ => ⟨S1024x2560, .bf16⟩
  | .hbm, ⟨12, _⟩ => ⟨S8192x2560, .f32⟩
  | .local _ .vmem, ⟨0, _⟩ => ⟨S512x1024, .bf16⟩
  | .local _ .vmem, ⟨1, _⟩ => ⟨S512x1024, .bf16⟩
  | .local _ .vmem, ⟨2, _⟩ => ⟨S1024x1280, .bf16⟩
  | .local _ .vmem, ⟨3, _⟩ => ⟨S1024x1280, .bf16⟩
  | .local _ .vmem, ⟨4, _⟩ => ⟨S512x1280, .f32⟩
  | .local _ .vmem, ⟨5, _⟩ => ⟨S512x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjXRefIdeal.lean ====
abbrev S8192x1024 : Shape := ⟨2, ![8192, 1024]⟩
abbrev S1024x10784 : Shape := ⟨2, ![1024, 10784]⟩
abbrev S8192x10784 : Shape := ⟨2, ![8192, 10784]⟩
abbrev S8192x2560 : Shape := ⟨2, ![8192, 2560]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x10784, .f32⟩
  | .hbm, ⟨2, _⟩ => ⟨S8192x1024, .f32⟩
  | .hbm, ⟨3, _⟩ => ⟨S8192x10784, .f32⟩
  | .hbm, ⟨4, _⟩ => ⟨S8192x2560, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjZ.lean ====
abbrev S8192x1024 : Shape := ⟨2, ![8192, 1024]⟩
abbrev S1024x10784 : Shape := ⟨2, ![1024, 10784]⟩
abbrev S1024x4096 : Shape := ⟨2, ![1024, 4096]⟩
abbrev S1024x2048 : Shape := ⟨2, ![1024, 2048]⟩
abbrev S1024x2560 : Shape := ⟨2, ![1024, 2560]⟩
abbrev S1024x32 : Shape := ⟨2, ![1024, 32]⟩
abbrev S_ : Shape := ⟨0, ![]⟩
abbrev S1024x96 : Shape := ⟨2, ![1024, 96]⟩
abbrev S1024x10880 : Shape := ⟨2, ![1024, 10880]⟩
abbrev S8192x2048 : Shape := ⟨2, ![8192, 2048]⟩
abbrev S512x1024 : Shape := ⟨2, ![512, 1024]⟩
abbrev S1024x1024 : Shape := ⟨2, ![1024, 1024]⟩

abbrev nBuf : Space → Nat
  | .hbm => 13
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x10784, .f32⟩
  | .hbm, ⟨2, _⟩ => ⟨S1024x10784, .bf16⟩
  | .hbm, ⟨3, _⟩ => ⟨S1024x4096, .bf16⟩
  | .hbm, ⟨4, _⟩ => ⟨S1024x2048, .bf16⟩
  | .hbm, ⟨5, _⟩ => ⟨S1024x2048, .bf16⟩
  | .hbm, ⟨6, _⟩ => ⟨S1024x2560, .bf16⟩
  | .hbm, ⟨7, _⟩ => ⟨S1024x32, .bf16⟩
  | .hbm, ⟨8, _⟩ => ⟨S_, .bf16⟩
  | .hbm, ⟨9, _⟩ => ⟨S1024x96, .bf16⟩
  | .hbm, ⟨10, _⟩ => ⟨S1024x10880, .bf16⟩
  | .hbm, ⟨11, _⟩ => ⟨S1024x2048, .bf16⟩
  | .hbm, ⟨12, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjZRefIdeal.lean ====
abbrev S8192x1024 : Shape := ⟨2, ![8192, 1024]⟩
abbrev S1024x10784 : Shape := ⟨2, ![1024, 10784]⟩
abbrev S8192x10784 : Shape := ⟨2, ![8192, 10784]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x10784, .f32⟩
  | .hbm, ⟨2, _⟩ => ⟨S8192x1024, .f32⟩
  | .hbm, ⟨3, _⟩ => ⟨S8192x10784, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjG.lean ====
abbrev S8192x1024 : Shape := ⟨2, ![8192, 1024]⟩
abbrev S1024x10784 : Shape := ⟨2, ![1024, 10784]⟩
abbrev S1024x4096 : Shape := ⟨2, ![1024, 4096]⟩
abbrev S1024x2048 : Shape := ⟨2, ![1024, 2048]⟩
abbrev S1024x2560 : Shape := ⟨2, ![1024, 2560]⟩
abbrev S1024x32 : Shape := ⟨2, ![1024, 32]⟩
abbrev S_ : Shape := ⟨0, ![]⟩
abbrev S1024x96 : Shape := ⟨2, ![1024, 96]⟩
abbrev S1024x10880 : Shape := ⟨2, ![1024, 10880]⟩
abbrev S8192x2048 : Shape := ⟨2, ![8192, 2048]⟩
abbrev S512x1024 : Shape := ⟨2, ![512, 1024]⟩
abbrev S1024x1024 : Shape := ⟨2, ![1024, 1024]⟩

abbrev nBuf : Space → Nat
  | .hbm => 13
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x10784, .f32⟩
  | .hbm, ⟨2, _⟩ => ⟨S1024x10784, .bf16⟩
  | .hbm, ⟨3, _⟩ => ⟨S1024x4096, .bf16⟩
  | .hbm, ⟨4, _⟩ => ⟨S1024x2048, .bf16⟩
  | .hbm, ⟨5, _⟩ => ⟨S1024x2048, .bf16⟩
  | .hbm, ⟨6, _⟩ => ⟨S1024x2560, .bf16⟩
  | .hbm, ⟨7, _⟩ => ⟨S1024x32, .bf16⟩
  | .hbm, ⟨8, _⟩ => ⟨S_, .bf16⟩
  | .hbm, ⟨9, _⟩ => ⟨S1024x96, .bf16⟩
  | .hbm, ⟨10, _⟩ => ⟨S1024x10880, .bf16⟩
  | .hbm, ⟨11, _⟩ => ⟨S1024x2048, .bf16⟩
  | .hbm, ⟨12, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGRefIdeal.lean ====
abbrev S8192x1024 : Shape := ⟨2, ![8192, 1024]⟩
abbrev S1024x10784 : Shape := ⟨2, ![1024, 10784]⟩
abbrev S8192x10784 : Shape := ⟨2, ![8192, 10784]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x10784, .f32⟩
  | .hbm, ⟨2, _⟩ => ⟨S8192x1024, .f32⟩
  | .hbm, ⟨3, _⟩ => ⟨S8192x10784, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DH1.lean ====
abbrev S8192x10784 : Shape := ⟨2, ![8192, 10784]⟩
abbrev S1024x10784 : Shape := ⟨2, ![1024, 10784]⟩
abbrev S8192x1024 : Shape := ⟨2, ![8192, 1024]⟩
abbrev S6x1024 : Shape := ⟨2, ![6, 1024]⟩
abbrev S8192x4096 : Shape := ⟨2, ![8192, 4096]⟩
abbrev S8192x2048 : Shape := ⟨2, ![8192, 2048]⟩
abbrev S8192x2560 : Shape := ⟨2, ![8192, 2560]⟩
abbrev S8192x32 : Shape := ⟨2, ![8192, 32]⟩
abbrev S_ : Shape := ⟨0, ![]⟩
abbrev S8192x96 : Shape := ⟨2, ![8192, 96]⟩
abbrev S8192x10880 : Shape := ⟨2, ![8192, 10880]⟩
abbrev S1024x4096 : Shape := ⟨2, ![1024, 4096]⟩
abbrev S1024x2048 : Shape := ⟨2, ![1024, 2048]⟩
abbrev S1024x2560 : Shape := ⟨2, ![1024, 2560]⟩
abbrev S1024x32 : Shape := ⟨2, ![1024, 32]⟩
abbrev S1024x96 : Shape := ⟨2, ![1024, 96]⟩
abbrev S1024x10880 : Shape := ⟨2, ![1024, 10880]⟩
abbrev S10880x1024 : Shape := ⟨2, ![10880, 1024]⟩
abbrev S8x1024 : Shape := ⟨2, ![8, 1024]⟩
abbrev S512x2176 : Shape := ⟨2, ![512, 2176]⟩
abbrev S2176x1024 : Shape := ⟨2, ![2176, 1024]⟩
abbrev S512x1024 : Shape := ⟨2, ![512, 1024]⟩
abbrev S1x1024 : Shape := ⟨2, ![1, 1024]⟩
abbrev S1024 : Shape := ⟨1, ![1024]⟩

abbrev nBuf : Space → Nat
  | .hbm => 28
  | .vmem => 13
  | .smem => 0
  | _ => 0

abbrev bufTy : (tb : Table) → Fin (tcTables nBuf tb) → BufTy
  | .hbm, ⟨0, _⟩ => ⟨S8192x10784, .bf16⟩
  | .hbm, ⟨1, _⟩ => ⟨S1024x10784, .f32⟩
  | .hbm, ⟨2, _⟩ => ⟨S8192x1024, .f32⟩
  | .hbm, ⟨3, _⟩ => ⟨S8192x1024, .f32⟩
  | .hbm, ⟨4, _⟩ => ⟨S6x1024, .f32⟩
  | .hbm, ⟨5, _⟩ => ⟨S8192x4096, .bf16⟩
  | .hbm, ⟨6, _⟩ => ⟨S8192x2048, .bf16⟩
  | .hbm, ⟨7, _⟩ => ⟨S8192x2048, .bf16⟩
  | .hbm, ⟨8, _⟩ => ⟨S8192x2560, .bf16⟩
  | .hbm, ⟨9, _⟩ => ⟨S8192x32, .bf16⟩
  | .hbm, ⟨10, _⟩ => ⟨S_, .bf16⟩
  | .hbm, ⟨11, _⟩ => ⟨S8192x96, .bf16⟩
  | .hbm, ⟨12, _⟩ => ⟨S8192x10880, .bf16⟩
  | .hbm, ⟨13, _⟩ => ⟨S1024x10784, .bf16⟩
  | .hbm, ⟨14, _⟩ => ⟨S1024x4096, .bf16⟩
  | .hbm, ⟨15, _⟩ => ⟨S1024x2048, .bf16⟩
  | .hbm, ⟨16, _⟩ => ⟨S1024x2048, .bf16⟩
  | .hbm, ⟨17, _⟩ => ⟨S1024x2560, .bf16⟩
  | .hbm, ⟨18, _⟩ => ⟨S1024x32, .bf16⟩
  | .hbm, ⟨19, _⟩ => ⟨S_, .bf16⟩
  | .hbm, ⟨20, _⟩ => ⟨S1024x96, .bf16⟩
  | .hbm, ⟨21, _⟩ => ⟨S1024x10880, .bf16⟩
  | .hbm, ⟨22, _⟩ => ⟨S10880x1024, .bf16⟩
  | .hbm, ⟨23, _⟩ => ⟨S_, .i32⟩
  | .hbm, ⟨24, _⟩ => ⟨S_, .f32⟩
  | .hbm, ⟨25, _⟩ => ⟨S8x1024, .f32⟩
  | .hbm, ⟨26, _⟩ => ⟨S8192x1024, .f32⟩
  | .hbm, ⟨27, _⟩ => ⟨S8x1024, .f32⟩
  | .local _ .vmem, ⟨0, _⟩ => ⟨S512x2176, .bf16⟩
  | .local _ .vmem, ⟨1, _⟩ => ⟨S512x2176, .bf16⟩
  | .local _ .vmem, ⟨2, _⟩ => ⟨S2176x1024, .bf16⟩
  | .local _ .vmem, ⟨3, _⟩ => ⟨S2176x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S512x1024, .f32⟩
  | _, _ => ⟨S8192x10784, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 5], ![false, false]⟩

def k0_cond3 (i : grid0.Coords) : BitVec 1 :=
  let arg1 : BitVec 32 := BitVec.ofNat 32 (i 1).val
  let c4_i32 : BitVec 32 := 4#32
  let v18 : BitVec 1 := Scalar.cmpi .eq arg1 c4_i32
  let v19 : BitVec 32 := Scalar.extui v18
  let c0_i32_11 : BitVec 32 := 0#32
  let v20 : BitVec 1 := Scalar.cmpi .ne v19 c0_i32_11
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DH1RefIdeal.lean ====
abbrev S8192x10784 : Shape := ⟨2, ![8192, 10784]⟩
abbrev S1024x10784 : Shape := ⟨2, ![1024, 10784]⟩
abbrev S8192x1024 : Shape := ⟨2, ![8192, 1024]⟩
abbrev S6x1024 : Shape := ⟨2, ![6, 1024]⟩
abbrev S1x1024 : Shape := ⟨2, ![1, 1024]⟩
abbrev S_ : Shape := ⟨0, ![]⟩
abbrev S1024 : Shape := ⟨1, ![1024]⟩
abbrev S2x1024 : Shape := ⟨2, ![2, 1024]⟩
abbrev S8x1024 : Shape := ⟨2, ![8, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8192x10784, .bf16⟩
  | .hbm, ⟨1, _⟩ => ⟨S1024x10784, .f32⟩
  | .hbm, ⟨2, _⟩ => ⟨S8192x1024, .f32⟩
  | .hbm, ⟨3, _⟩ => ⟨S8192x1024, .f32⟩
  | .hbm, ⟨4, _⟩ => ⟨S6x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x10784, .f32⟩
  | .hbm, ⟨15, _⟩ => ⟨S8192x10784, .f32⟩
  | .hbm, ⟨16, _⟩ => ⟨S8192x1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S8192x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S2x1024, .f32⟩
  | .hbm, ⟨28, _⟩ => ⟨S_, .i32⟩
  | .hbm, ⟨29, _⟩ => ⟨S_, .f32⟩
  | .hbm, ⟨30, _⟩ => ⟨S8x1024, .f32⟩
  | _, _ => ⟨S8192x10784, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_call0_v0 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== AdamIn.lean ====
abbrev S1024x2696 : Shape := ⟨2, ![1024, 2696]⟩
abbrev S64x2696 : Shape := ⟨2, ![64, 2696]⟩

abbrev nBuf : Space → Nat
  | .hbm => 9
  | .vmem => 18
  | .smem => 0
  | _ => 0

abbrev bufTy : (tb : Table) → Fin (tcTables nBuf tb) → BufTy
  | .hbm, ⟨0, _⟩ => ⟨S1024x2696, .f32⟩
  | .hbm, ⟨1, _⟩ => ⟨S1024x2696, .f32⟩
  | .hbm, ⟨2, _⟩ => ⟨S1024x2696, .f32⟩
  | .hbm, ⟨3, _⟩ => ⟨S1024x2696, .f32⟩
  | .hbm, ⟨4, _⟩ => ⟨S1024x2696, .f32⟩
  | .hbm, ⟨5, _⟩ => ⟨S1024x2696, .f32⟩
  | .hbm, ⟨6, _⟩ => ⟨S1024x2696, .f32⟩
  | .hbm, ⟨7, _⟩ => ⟨S1024x2696, .f32⟩
  | .hbm, ⟨8, _⟩ => ⟨S1024x2696, .f32⟩
  | .local _ .vmem, ⟨0, _⟩ => ⟨S64x2696, .f32⟩
  | .local _ .vmem, ⟨1, _⟩ => ⟨S64x2696, .f32⟩
  | .local _ .vmem, ⟨2, _⟩ => ⟨S64x2696, .f32⟩
  | .local _ .vmem, ⟨3, _⟩ => ⟨S64x2696, .f32⟩
  | .local _ .vmem, ⟨4, _⟩ => ⟨S64x2696, .f32⟩
  | .local _ .vmem, ⟨5, _⟩ => ⟨S64x2696, .f32⟩
  | .local _ .vmem, ⟨6, _⟩ => ⟨S64x2696, .f32⟩
  | .local _ .vmem, ⟨7, _⟩ => ⟨S64x2696, .f32⟩
  | .local _ .vmem, ⟨8, _⟩ => ⟨S64x2696, .f32⟩
  | .local _ .vmem, ⟨9, _⟩ => ⟨S64x2696, .f32⟩
  | .local _ .vmem, ⟨10, _⟩ => ⟨S64x2696, .f32⟩
  | .local _ .vmem, ⟨11, _⟩ => ⟨S64x2696, .f32⟩
  | .local _ .vmem, ⟨12, _⟩ => ⟨S64x2696, .f32⟩
  | .local _ .vmem, ⟨13, _⟩ => ⟨S64x2696, .f32⟩
  | .local _ .vmem, ⟨14, _⟩ => ⟨S64x2696, .f32⟩
  | .local _ .vmem, ⟨15, _⟩ => ⟨S64x2696, .f32⟩
  | .local _ .vmem, ⟨16, _⟩ => ⟨S64x2696, .f32⟩
  | .local _ .vmem, ⟨17, _⟩ => ⟨S64x2696, .f32⟩
  | _, _ => ⟨S1024x2696, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2696 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2696 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2696 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2696 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2696 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2696 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2696 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2696 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2696 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInIdeal.lean ====
abbrev S1024x2696 : Shape := ⟨2, ![1024, 2696]⟩
abbrev S64x2696 : Shape := ⟨2, ![64, 2696]⟩

abbrev nBuf : Space → Nat
  | .hbm => 9
  | .vmem => 18
  | .smem => 0
  | _ => 0

abbrev bufTy : (tb : Table) → Fin (tcTables nBuf tb) → BufTy
  | .hbm, ⟨0, _⟩ => ⟨S1024x2696, .f32⟩
  | .hbm, ⟨1, _⟩ => ⟨S1024x2696, .f32⟩
  | .hbm, ⟨2, _⟩ => ⟨S1024x2696, .f32⟩
  | .hbm, ⟨3, _⟩ => ⟨S1024x2696, .f32⟩
  | .hbm, ⟨4, _⟩ => ⟨S1024x2696, .f32⟩
  | .hbm, ⟨5, _⟩ => ⟨S1024x2696, .f32⟩
  | .hbm, ⟨6, _⟩ => ⟨S1024x2696, .f32⟩
  | .hbm, ⟨7, _⟩ => ⟨S1024x2696, .f32⟩
  | .hbm, ⟨8, _⟩ => ⟨S1024x2696, .f32⟩
  | .local _ .vmem, ⟨0, _⟩ => ⟨S64x2696, .f32⟩
  | .local _ .vmem, ⟨1, _⟩ => ⟨S64x2696, .f32⟩
  | .local _ .vmem, ⟨2, _⟩ => ⟨S64x2696, .f32⟩
  | .local _ .vmem, ⟨3, _⟩ => ⟨S64x2696, .f32⟩
  | .local _ .vmem, ⟨4, _⟩ => ⟨S64x2696, .f32⟩
  | .local _ .vmem, ⟨5, _⟩ => ⟨S64x2696, .f32⟩
  | .local _ .vmem, ⟨6, _⟩ => ⟨S64x2696, .f32⟩
  | .local _ .vmem, ⟨7, _⟩ => ⟨S64x2696, .f32⟩
  | .local _ .vmem, ⟨8, _⟩ => ⟨S64x2696, .f32⟩
  | .local _ .vmem, ⟨9, _⟩ => ⟨S64x2696, .f32⟩
  | .local _ .vmem, ⟨10, _⟩ => ⟨S64x2696, .f32⟩
  | .local _ .vmem, ⟨11, _⟩ => ⟨S64x2696, .f32⟩
  | .local _ .vmem, ⟨12, _⟩ => ⟨S64x2696, .f32⟩
  | .local _ .vmem, ⟨13, _⟩ => ⟨S64x2696, .f32⟩
  | .local _ .vmem, ⟨14, _⟩ => ⟨S64x2696, .f32⟩
  | .local _ .vmem, ⟨15, _⟩ => ⟨S64x2696, .f32⟩
  | .local _ .vmem, ⟨16, _⟩ => ⟨S64x2696, .f32⟩
  | .local _ .vmem, ⟨17, _⟩ => ⟨S64x2696, .f32⟩
  | _, _ => ⟨S1024x2696, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2696 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2696 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2696 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2696 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2696 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2696 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2696 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2696 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2696 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S1024x2696 : Shape := ⟨2, ![1024, 2696]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x2696, .f32⟩
  | .hbm, ⟨1, _⟩ => ⟨S1024x2696, .f32⟩
  | .hbm, ⟨2, _⟩ => ⟨S1024x2696, .f32⟩
  | .hbm, ⟨3, _⟩ => ⟨S1024x2696, .f32⟩
  | .hbm, ⟨4, _⟩ => ⟨S1024x2696, .f32⟩
  | .hbm, ⟨5, _⟩ => ⟨S1024x2696, .f32⟩
  | .hbm, ⟨6, _⟩ => ⟨S_, .f32⟩
  | .hbm, ⟨7, _⟩ => ⟨S1024x2696, .f32⟩
  | .hbm, ⟨8, _⟩ => ⟨S1024x2696, .f32⟩
  | .hbm, ⟨9, _⟩ => ⟨S_, .f32⟩
  | .hbm, ⟨10, _⟩ => ⟨S1024x2696, .f32⟩
  | .hbm, ⟨11, _⟩ => ⟨S1024x2696, .f32⟩
  | .hbm, ⟨12, _⟩ => ⟨S1024x2696, .f32⟩
  | .hbm, ⟨13, _⟩ => ⟨S_, .f32⟩
  | .hbm, ⟨14, _⟩ => ⟨S1024x2696, .f32⟩
  | .hbm, ⟨15, _⟩ => ⟨S1024x2696, .f32⟩
  | .hbm, ⟨16, _⟩ => ⟨S1024x2696, .f32⟩
  | .hbm, ⟨17, _⟩ => ⟨S_, .f32⟩
  | .hbm, ⟨18, _⟩ => ⟨S1024x2696, .f32⟩
  | .hbm, ⟨19, _⟩ => ⟨S1024x2696, .f32⟩
  | .hbm, ⟨20, _⟩ => ⟨S1024x2696, .f32⟩
  | .hbm, ⟨21, _⟩ => ⟨S_, .f32⟩
  | .hbm, ⟨22, _⟩ => ⟨S1024x2696, .f32⟩
  | .hbm, ⟨23, _⟩ => ⟨S1024x2696, .f32⟩
  | .hbm, ⟨24, _⟩ => ⟨S_, .f32⟩
  | .hbm, ⟨25, _⟩ => ⟨S1024x2696, .f32⟩
  | .hbm, ⟨26, _⟩ => ⟨S1024x2696, .f32⟩
  | .hbm, ⟨27, _⟩ => ⟨S1024x2696, .f32⟩
  | .hbm, ⟨28, _⟩ => ⟨S_, .f32⟩
  | .hbm, ⟨29, _⟩ => ⟨S1024x2696, .f32⟩
  | .hbm, ⟨30, _⟩ => ⟨S1024x2696, .f32⟩
  | .hbm, ⟨31, _⟩ => ⟨S1024x2696, .f32⟩
  | .hbm, ⟨32, _⟩ => ⟨S_, .f32⟩
  | .hbm, ⟨33, _⟩ => ⟨S1024x2696, .f32⟩
  | .hbm, ⟨34, _⟩ => ⟨S1024x2696, .f32⟩
  | .hbm, ⟨35, _⟩ => ⟨S1024x2696, .f32⟩
  | .hbm, ⟨36, _⟩ => ⟨S_, .f32⟩
  | .hbm, ⟨37, _⟩ => ⟨S1024x2696, .f32⟩
  | .hbm, ⟨38, _⟩ => ⟨S1024x2696, .f32⟩
  | _, _ => ⟨S1024x2696, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamPa.lean ====
abbrev S320x1024 : Shape := ⟨2, ![320, 1024]⟩
abbrev S64x1024 : Shape := ⟨2, ![64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S320x1024, .f32⟩
  | .hbm, ⟨5, _⟩ => ⟨S320x1024, .f32⟩
  | .hbm, ⟨6, _⟩ => ⟨S320x1024, .f32⟩
  | .hbm, ⟨7, _⟩ => ⟨S320x1024, .f32⟩
  | .hbm, ⟨8, _⟩ => ⟨S320x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamPaIdeal.lean ====
abbrev S320x1024 : Shape := ⟨2, ![320, 1024]⟩
abbrev S64x1024 : Shape := ⟨2, ![64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S320x1024, .f32⟩
  | .hbm, ⟨5, _⟩ => ⟨S320x1024, .f32⟩
  | .hbm, ⟨6, _⟩ => ⟨S320x1024, .f32⟩
  | .hbm, ⟨7, _⟩ => ⟨S320x1024, .f32⟩
  | .hbm, ⟨8, _⟩ => ⟨S320x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamPaRefIdeal.lean ====
abbrev S320x1024 : Shape := ⟨2, ![320, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S320x1024, .f32⟩
  | .hbm, ⟨5, _⟩ => ⟨S320x1024, .f32⟩
  | .hbm, ⟨6, _⟩ => ⟨S_, .f32⟩
  | .hbm, ⟨7, _⟩ => ⟨S320x1024, .f32⟩
  | .hbm, ⟨8, _⟩ => ⟨S320x1024, .f32⟩
  | .hbm, ⟨9, _⟩ => ⟨S_, .f32⟩
  | .hbm, ⟨10, _⟩ => ⟨S320x1024, .f32⟩
  | .hbm, ⟨11, _⟩ => ⟨S320x1024, .f32⟩
  | .hbm, ⟨12, _⟩ => ⟨S320x1024, .f32⟩
  | .hbm, ⟨13, _⟩ => ⟨S_, .f32⟩
  | .hbm, ⟨14, _⟩ => ⟨S320x1024, .f32⟩
  | .hbm, ⟨15, _⟩ => ⟨S320x1024, .f32⟩
  | .hbm, ⟨16, _⟩ => ⟨S320x1024, .f32⟩
  | .hbm, ⟨17, _⟩ => ⟨S_, .f32⟩
  | .hbm, ⟨18, _⟩ => ⟨S320x1024, .f32⟩
  | .hbm, ⟨19, _⟩ => ⟨S320x1024, .f32⟩
  | .hbm, ⟨20, _⟩ => ⟨S320x1024, .f32⟩
  | .hbm, ⟨21, _⟩ => ⟨S_, .f32⟩
  | .hbm, ⟨22, _⟩ => ⟨S320x1024, .f32⟩
  | .hbm, ⟨23, _⟩ => ⟨S320x1024, .f32⟩
  | .hbm, ⟨24, _⟩ => ⟨S_, .f32⟩
  | .hbm, ⟨25, _⟩ => ⟨S320x1024, .f32⟩
  | .hbm, ⟨26, _⟩ => ⟨S320x1024, .f32⟩
  | .hbm, ⟨27, _⟩ => ⟨S320x1024, .f32⟩
  | .hbm, ⟨28, _⟩ => ⟨S_, .f32⟩
  | .hbm, ⟨29, _⟩ => ⟨S320x1024, .f32⟩
  | .hbm, ⟨30, _⟩ => ⟨S320x1024, .f32⟩
  | .hbm, ⟨31, _⟩ => ⟨S320x1024, .f32⟩
  | .hbm, ⟨32, _⟩ => ⟨S_, .f32⟩
  | .hbm, ⟨33, _⟩ => ⟨S320x1024, .f32⟩
  | .hbm, ⟨34, _⟩ => ⟨S320x1024, .f32⟩
  | .hbm, ⟨35, _⟩ => ⟨S320x1024, .f32⟩
  | .hbm, ⟨36, _⟩ => ⟨S_, .f32⟩
  | .hbm, ⟨37, _⟩ => ⟨S320x1024, .f32⟩
  | .hbm, ⟨38, _⟩ => ⟨S320x1024, .f32⟩
  | _, _ => ⟨S320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamPb.lean ====
abbrev S512x1024 : Shape := ⟨2, ![512, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamPbIdeal.lean ====
abbrev S512x1024 : Shape := ⟨2, ![512, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamPbRefIdeal.lean ====
abbrev S512x1024 : Shape := ⟨2, ![512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutIdeal.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamGu.lean ====
abbrev S1024x704 : Shape := ⟨2, ![1024, 704]⟩
abbrev S256x704 : Shape := ⟨2, ![256, 704]⟩

abbrev nBuf : Space → Nat
  | .hbm => 9
  | .vmem => 18
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .hbm, ⟨8, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamGuIdeal.lean ====
abbrev S1024x704 : Shape := ⟨2, ![1024, 704]⟩
abbrev S256x704 : Shape := ⟨2, ![256, 704]⟩

abbrev nBuf : Space → Nat
  | .hbm => 9
  | .vmem => 18
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .hbm, ⟨8, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamGuRefIdeal.lean ====
abbrev S1024x704 : Shape := ⟨2, ![1024, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S_, .f32⟩
  | .hbm, ⟨7, _⟩ => ⟨S1024x704, .f32⟩
  | .hbm, ⟨8, _⟩ => ⟨S1024x704, .f32⟩
  | .hbm, ⟨9, _⟩ => ⟨S_, .f32⟩
  | .hbm, ⟨10, _⟩ => ⟨S1024x704, .f32⟩
  | .hbm, ⟨11, _⟩ => ⟨S1024x704, .f32⟩
  | .hbm, ⟨12, _⟩ => ⟨S1024x704, .f32⟩
  | .hbm, ⟨13, _⟩ => ⟨S_, .f32⟩
  | .hbm, ⟨14, _⟩ => ⟨S1024x704, .f32⟩
  | .hbm, ⟨15, _⟩ => ⟨S1024x704, .f32⟩
  | .hbm, ⟨16, _⟩ => ⟨S1024x704, .f32⟩
  | .hbm, ⟨17, _⟩ => ⟨S_, .f32⟩
  | .hbm, ⟨18, _⟩ => ⟨S1024x704, .f32⟩
  | .hbm, ⟨19, _⟩ => ⟨S1024x704, .f32⟩
  | .hbm, ⟨20, _⟩ => ⟨S1024x704, .f32⟩
  | .hbm, ⟨21, _⟩ => ⟨S_, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S1024x704, .f32⟩
  | .hbm, ⟨32, _⟩ => ⟨S_, .f32⟩
  | .hbm, ⟨33, _⟩ => ⟨S1024x704, .f32⟩
  | .hbm, ⟨34, _⟩ => ⟨S1024x704, .f32⟩
  | .hbm, ⟨35, _⟩ => ⟨S1024x704, .f32⟩
  | .hbm, ⟨36, _⟩ => ⟨S_, .f32⟩
  | .hbm, ⟨37, _⟩ => ⟨S1024x704, .f32⟩
  | .hbm, ⟨38, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamDown.lean ====
abbrev S704x1024 : Shape := ⟨2, ![704, 1024]⟩
abbrev S64x1024 : Shape := ⟨2, ![64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownRefIdeal.lean ====
abbrev S704x1024 : Shape := ⟨2, ![704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S_, .f32⟩
  | .hbm, ⟨7, _⟩ => ⟨S704x1024, .f32⟩
  | .hbm, ⟨8, _⟩ => ⟨S704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamAda.lean ====
abbrev S1024x1536 : Shape := ⟨2, ![1024, 1536]⟩
abbrev S128x1536 : Shape := ⟨2, ![128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaRefIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S4x320 : Shape := ⟨2, ![4, 320]⟩
abbrev S4x1024 : Shape := ⟨2, ![4, 1024]⟩
abbrev S3x704 : Shape := ⟨2, ![3, 704]⟩
abbrev S6144 : Shape := ⟨1, ![6144]⟩
abbrev S1280 : Shape := ⟨1, ![1280]⟩
abbrev S16x80x80 : Shape := ⟨3, ![16, 80, 80]⟩
abbrev S16 : Shape := ⟨1, ![16]⟩
abbrev S128 : Shape := ⟨1, ![128]⟩
abbrev S1024 : Shape := ⟨1, ![1024]⟩
abbrev S2816 : Shape := ⟨1, ![2816]⟩
abbrev S_ : Shape := ⟨0, ![]⟩
abbrev S2048 : Shape := ⟨1, ![2048]⟩
abbrev S16x128 : Shape := ⟨2, ![16, 128]⟩
abbrev S4096 : Shape := ⟨1, ![4096]⟩
abbrev S32x128 : Shape := ⟨2, ![32, 128]⟩
abbrev S2112 : Shape := ⟨1, ![2112]⟩
abbrev S3072 : Shape := ⟨1, ![3072]⟩
abbrev S24x128 : Shape := ⟨2, ![24, 128]⟩
abbrev S48x128 : Shape := ⟨2, ![48, 128]⟩
abbrev S102400 : Shape := ⟨1, ![102400]⟩
abbrev S800x128 : Shape := ⟨2, ![800, 128]⟩
abbrev S8x128 : Shape := ⟨2, ![8, 128]⟩
abbrev S56x128 : Shape := ⟨2, ![56, 128]⟩
abbrev S1848x128 : Shape := ⟨2, ![1848, 128]⟩
abbrev S72x128 : Shape := ⟨2, ![72, 128]⟩
abbrev S1920x128 : Shape := ⟨2, ![1920, 128]⟩
abbrev S128x128 : Shape := ⟨2, ![128, 128]⟩

abbrev nBuf : Space → Nat
  | .hbm => 404
  | .vmem => 16
  | .smem => 0
  | _ => 0

abbrev hbmTy0_0 (i : Nat) : BufTy := match i % 128 with
  | 0 => ⟨S4x320, .f32⟩
  | 1 => ⟨S4x1024, .f32⟩
  | 2 => ⟨S3x704, .f32⟩
  | 3 => ⟨S6144, .f32⟩
  | 4 => ⟨S1280, .f32⟩
  | 5 => ⟨S16x80x80, .f32⟩
  | 6 => ⟨S1280, .f32⟩
  | 7 => ⟨S16x80x80, .f32⟩
  | 8 => ⟨S1280, .f32⟩
  | 9 => ⟨S1280, .f32⟩
  | 10 => ⟨S16, .f32⟩
  | 11 => ⟨S16, .f32⟩
  | 12 => ⟨S128, .f32⟩
  | 13 => ⟨S1024, .f32⟩
  | 14 => ⟨S1024, .f32⟩
  | 15 => ⟨S2816, .f32⟩
  | 16 => ⟨S1024, .f32⟩
  | 17 => ⟨S1024, .f32⟩
  | 18 => ⟨S4x320, .f32⟩
  | 19 => ⟨S4x1024, .f32⟩
  | 20 => ⟨S3x704, .f32⟩
  | 21 => ⟨S6144, .f32⟩
  | 22 => ⟨S1280, .f32⟩
  | 23 => ⟨S16x80x80, .f32⟩
  | 24 => ⟨S1280, .f32⟩
  | 25 => ⟨S16x80x80, .f32⟩
  | 26 => ⟨S1280, .f32⟩
  | 27 => ⟨S1280, .f32⟩
  | 28 => ⟨S16, .f32⟩
  | 29 => ⟨S16, .f32⟩
  | 30 => ⟨S128, .f32⟩
  | 31 => ⟨S1024, .f32⟩
  | 32 => ⟨S1024, .f32⟩
  | 33 => ⟨S2816, .f32⟩
  | 34 => ⟨S1024, .f32⟩
  | 35 => ⟨S1024, .f32⟩
  | 36 => ⟨S4x320, .f32⟩
  | 37 => ⟨S4x1024, .f32⟩
  | 38 => ⟨S3x704, .f32⟩
  | 39 => ⟨S6144, .f32⟩
  | 40 => ⟨S1280, .f32⟩
  | 41 => ⟨S16x80x80, .f32⟩
  | 42 => ⟨S1280, .f32⟩
  | 43 => ⟨S16x80x80, .f32⟩
  | 44 => ⟨S1280, .f32⟩
  | 45 => ⟨S1280, .f32⟩
  | 46 => ⟨S16, .f32⟩
  | 47 => ⟨S16, .f32⟩
  | 48 => ⟨S128, .f32⟩
  | 49 => ⟨S1024, .f32⟩
  | 50 => ⟨S1024, .f32⟩
  | 51 => ⟨S2816, .f32⟩
  | 52 => ⟨S1024, .f32⟩
  | 53 => ⟨S1024, .f32⟩
  | 54 => ⟨S4x320, .f32⟩
  | 55 => ⟨S4x1024, .f32⟩
  | 56 => ⟨S3x704, .f32⟩
  | 57 => ⟨S6144, .f32⟩
  | 58 => ⟨S1280, .f32⟩
  | 59 => ⟨S16x80x80, .f32⟩
  | 60 => ⟨S1280, .f32⟩
  | 61 => ⟨S16x80x80, .f32⟩
  | 62 => ⟨S1280, .f32⟩
  | 63 => ⟨S1280, .f32⟩
  | 64 => ⟨S16, .f32⟩
  | 65 => ⟨S16, .f32⟩
  | 66 => ⟨S128, .f32⟩
  | 67 => ⟨S1024, .f32⟩
  | 68 => ⟨S1024, .f32⟩
  | 69 => ⟨S2816, .f32⟩
  | 70 => ⟨S1024, .f32⟩
  | 71 => ⟨S1024, .f32⟩
  | 72 => ⟨S1280, .f32⟩
  | 73 => ⟨S_, .i32⟩
  | 74 => ⟨S_, .f32⟩
  | 75 => ⟨S2048, .f32⟩
  | 76 => ⟨S16x128, .f32⟩
  | 77 => ⟨S4096, .f32⟩
  | 78 => ⟨S_, .i32⟩
  | 79 => ⟨S_, .f32⟩
  | 80 => ⟨S4096, .f32⟩
  | 81 => ⟨S32x128, .f32⟩
  | 82 => ⟨S2112, .f32⟩
  | 83 => ⟨S_, .i32⟩
  | 84 => ⟨S_, .f32⟩
  | 85 => ⟨S3072, .f32⟩
  | 86 => ⟨S24x128, .f32⟩
  | 87 => ⟨S_, .i32⟩
  | 88 => ⟨S_, .f32⟩
  | 89 => ⟨S6144, .f32⟩
  | 90 => ⟨S48x128, .f32⟩
  | 91 => ⟨S_, .i32⟩
  | 92 => ⟨S_, .f32⟩
  | 93 => ⟨S2048, .f32⟩
  | 94 => ⟨S16x128, .f32⟩
  | 95 => ⟨S102400, .f32⟩
  | 96 => ⟨S_, .i32⟩
  | 97 => ⟨S_, .f32⟩
  | 98 => ⟨S102400, .f32⟩
  | 99 => ⟨S800x128, .f32⟩
  | 100 => ⟨S_, .i32⟩
  | 101 => ⟨S_, .f32⟩
  | 102 => ⟨S2048, .f32⟩
  | 103 => ⟨S16x128, .f32⟩
  | 104 => ⟨S102400, .f32⟩
  | 105 => ⟨S_, .i32⟩
  | 106 => ⟨S_, .f32⟩
  | 107 => ⟨S102400, .f32⟩
  | 108 => ⟨S800x128, .f32⟩
  | 109 => ⟨S_, .i32⟩
  | 110 => ⟨S_, .f32⟩
  | 111 => ⟨S2048, .f32⟩
  | 112 => ⟨S16x128, .f32⟩
  | 113 => ⟨S_, .i32⟩
  | 114 => ⟨S_, .f32⟩
  | 115 => ⟨S2048, .f32⟩
  | 116 => ⟨S16x128, .f32⟩
  | 117 => ⟨S_, .i32⟩
  | 118 => ⟨S_, .f32⟩
  | 119 => ⟨S1024, .f32⟩
  | 120 => ⟨S8x128, .f32⟩
  | 121 => ⟨S_, .i32⟩
  | 122 => ⟨S_, .f32⟩
  | 123 => ⟨S1024, .f32⟩
  | 124 => ⟨S8x128, .f32⟩
  | 125 => ⟨S_, .i32⟩
  | 126 => ⟨S_, .f32⟩
  | 127 => ⟨S1024, .f32⟩
  | _ => ⟨S4x320, .f32⟩

abbrev hbmTy0_1 (i : Nat) : BufTy := match i % 128 with
  | 0 => ⟨S8x128, .f32⟩
  | 1 => ⟨S_, .i32⟩
  | 2 => ⟨S_, .f32⟩
  | 3 => ⟨S1024, .f32⟩
  | 4 => ⟨S8x128, .f32⟩
  | 5 => ⟨S_, .i32⟩
  | 6 => ⟨S_, .f32⟩
  | 7 => ⟨S1024, .f32⟩
  | 8 => ⟨S8x128, .f32⟩
  | 9 => ⟨S_, .i32⟩
  | 10 => ⟨S_, .f32⟩
  | 11 => ⟨S3072, .f32⟩
  | 12 => ⟨S24x128, .f32⟩
  | 13 => ⟨S_, .i32⟩
  | 14 => ⟨S_, .f32⟩
  | 15 => ⟨S1024, .f32⟩
  | 16 => ⟨S8x128, .f32⟩
  | 17 => ⟨S_, .i32⟩
  | 18 => ⟨S_, .f32⟩
  | 19 => ⟨S1024, .f32⟩
  | 20 => ⟨S8x128, .f32⟩
  | 21 => ⟨S_, .f32⟩
  | 22 => ⟨S56x128, .f32⟩
  | 23 => ⟨S1848x128, .f32⟩
  | 24 => ⟨S72x128, .f32⟩
  | 25 => ⟨S1920x128, .f32⟩
  | 26 => ⟨S1280, .f32⟩
  | 27 => ⟨S_, .i32⟩
  | 28 => ⟨S_, .f32⟩
  | 29 => ⟨S2048, .f32⟩
  | 30 => ⟨S16x128, .f32⟩
  | 31 => ⟨S4096, .f32⟩
  | 32 => ⟨S_, .i32⟩
  | 33 => ⟨S_, .f32⟩
  | 34 => ⟨S4096, .f32⟩
  | 35 => ⟨S32x128, .f32⟩
  | 36 => ⟨S2112, .f32⟩
  | 37 => ⟨S_, .i32⟩
  | 38 => ⟨S_, .f32⟩
  | 39 => ⟨S3072, .f32⟩
  | 40 => ⟨S24x128, .f32⟩
  | 41 => ⟨S_, .i32⟩
  | 42 => ⟨S_, .f32⟩
  | 43 => ⟨S6144, .f32⟩
  | 44 => ⟨S48x128, .f32⟩
  | 45 => ⟨S_, .i32⟩
  | 46 => ⟨S_, .f32⟩
  | 47 => ⟨S2048, .f32⟩
  | 48 => ⟨S16x128, .f32⟩
  | 49 => ⟨S102400, .f32⟩
  | 50 => ⟨S_, .i32⟩
  | 51 => ⟨S_, .f32⟩
  | 52 => ⟨S102400, .f32⟩
  | 53 => ⟨S800x128, .f32⟩
  | 54 => ⟨S_, .i32⟩
  | 55 => ⟨S_, .f32⟩
  | 56 => ⟨S2048, .f32⟩
  | 57 => ⟨S16x128, .f32⟩
  | 58 => ⟨S102400, .f32⟩
  | 59 => ⟨S_, .i32⟩
  | 60 => ⟨S_, .f32⟩
  | 61 => ⟨S102400, .f32⟩
  | 62 => ⟨S800x128, .f32⟩
  | 63 => ⟨S_, .i32⟩
  | 64 => ⟨S_, .f32⟩
  | 65 => ⟨S2048, .f32⟩
  | 66 => ⟨S16x128, .f32⟩
  | 67 => ⟨S_, .i32⟩
  | 68 => ⟨S_, .f32⟩
  | 69 => ⟨S2048, .f32⟩
  | 70 => ⟨S16x128, .f32⟩
  | 71 => ⟨S_, .i32⟩
  | 72 => ⟨S_, .f32⟩
  | 73 => ⟨S1024, .f32⟩
  | 74 => ⟨S8x128, .f32⟩
  | 75 => ⟨S_, .i32⟩
  | 76 => ⟨S_, .f32⟩
  | 77 => ⟨S1024, .f32⟩
  | 78 => ⟨S8x128, .f32⟩
  | 79 => ⟨S_, .i32⟩
  | 80 => ⟨S_, .f32⟩
  | 81 => ⟨S1024, .f32⟩
  | 82 => ⟨S8x128, .f32⟩
  | 83 => ⟨S_, .i32⟩
  | 84 => ⟨S_, .f32⟩
  | 85 => ⟨S1024, .f32⟩
  | 86 => ⟨S8x128, .f32⟩
  | 87 => ⟨S_, .i32⟩
  | 88 => ⟨S_, .f32⟩
  | 89 => ⟨S1024, .f32⟩
  | 90 => ⟨S8x128, .f32⟩
  | 91 => ⟨S_, .i32⟩
  | 92 => ⟨S_, .f32⟩
  | 93 => ⟨S3072, .f32⟩
  | 94 => ⟨S24x128, .f32⟩
  | 95 => ⟨S_, .i32⟩
  | 96 => ⟨S_, .f32⟩
  | 97 => ⟨S1024, .f32⟩
  | 98 => ⟨S8x128, .f32⟩
  | 99 => ⟨S_, .i32⟩
  | 100 => ⟨S_, .f32⟩
  | 101 => ⟨S1024, .f32⟩
  | 102 => ⟨S8x128, .f32⟩
  | 103 => ⟨S_, .f32⟩
  | 104 => ⟨S56x128, .f32⟩
  | 105 => ⟨S1848x128, .f32⟩
  | 106 => ⟨S72x128, .f32⟩
  | 107 => ⟨S1920x128, .f32⟩
  | 108 => ⟨S1280, .f32⟩
  | 109 => ⟨S_, .i32⟩
  | 110 => ⟨S_, .f32⟩
  | 111 => ⟨S2048, .f32⟩
  | 112 => ⟨S16x128, .f32⟩
  | 113 => ⟨S4096, .f32⟩
  | 114 => ⟨S_, .i32⟩
  | 115 => ⟨S_, .f32⟩
  | 116 => ⟨S4096, .f32⟩
  | 117 => ⟨S32x128, .f32⟩
  | 118 => ⟨S2112, .f32⟩
  | 119 => ⟨S_, .i32⟩
  | 120 => ⟨S_, .f32⟩
  | 121 => ⟨S3072, .f32⟩
  | 122 => ⟨S24x128, .f32⟩
  | 123 => ⟨S_, .i32⟩
  | 124 => ⟨S_, .f32⟩
  | 125 => ⟨S6144, .f32⟩
  | 126 => ⟨S48x128, .f32⟩
  | 127 => ⟨S_, .i32⟩
  | _ => ⟨S4x320, .f32⟩

abbrev hbmTy0_2 (i : Nat) : BufTy := match i % 128 with
  | 0 => ⟨S_, .f32⟩
  | 1 => ⟨S2048, .f32⟩
  | 2 => ⟨S16x128, .f32⟩
  | 3 => ⟨S102400, .f32⟩
  | 4 => ⟨S_, .i32⟩
  | 5 => ⟨S_, .f32⟩
  | 6 => ⟨S102400, .f32⟩
  | 7 => ⟨S800x128, .f32⟩
  | 8 => ⟨S_, .i32⟩
  | 9 => ⟨S_, .f32⟩
  | 10 => ⟨S2048, .f32⟩
  | 11 => ⟨S16x128, .f32⟩
  | 12 => ⟨S102400, .f32⟩
  | 13 => ⟨S_, .i32⟩
  | 14 => ⟨S_, .f32⟩
  | 15 => ⟨S102400, .f32⟩
  | 16 => ⟨S800x128, .f32⟩
  | 17 => ⟨S_, .i32⟩
  | 18 => ⟨S_, .f32⟩
  | 19 => ⟨S2048, .f32⟩
  | 20 => ⟨S16x128, .f32⟩
  | 21 => ⟨S_, .i32⟩
  | 22 => ⟨S_, .f32⟩
  | 23 => ⟨S2048, .f32⟩
  | 24 => ⟨S16x128, .f32⟩
  | 25 => ⟨S_, .i32⟩
  | 26 => ⟨S_, .f32⟩
  | 27 => ⟨S1024, .f32⟩
  | 28 => ⟨S8x128, .f32⟩
  | 29 => ⟨S_, .i32⟩
  | 30 => ⟨S_, .f32⟩
  | 31 => ⟨S1024, .f32⟩
  | 32 => ⟨S8x128, .f32⟩
  | 33 => ⟨S_, .i32⟩
  | 34 => ⟨S_, .f32⟩
  | 35 => ⟨S1024, .f32⟩
  | 36 => ⟨S8x128, .f32⟩
  | 37 => ⟨S_, .i32⟩
  | 38 => ⟨S_, .f32⟩
  | 39 => ⟨S1024, .f32⟩
  | 40 => ⟨S8x128, .f32⟩
  | 41 => ⟨S_, .i32⟩
  | 42 => ⟨S_, .f32⟩
  | 43 => ⟨S1024, .f32⟩
  | 44 => ⟨S8x128, .f32⟩
  | 45 => ⟨S_, .i32⟩
  | 46 => ⟨S_, .f32⟩
  | 47 => ⟨S3072, .f32⟩
  | 48 => ⟨S24x128, .f32⟩
  | 49 => ⟨S_, .i32⟩
  | 50 => ⟨S_, .f32⟩
  | 51 => ⟨S1024, .f32⟩
  | 52 => ⟨S8x128, .f32⟩
  | 53 => ⟨S_, .i32⟩
  | 54 => ⟨S_, .f32⟩
  | 55 => ⟨S1024, .f32⟩
  | 56 => ⟨S8x128, .f32⟩
  | 57 => ⟨S_, .f32⟩
  | 58 => ⟨S56x128, .f32⟩
  | 59 => ⟨S1848x128, .f32⟩
  | 60 => ⟨S72x128, .f32⟩
  | 61 => ⟨S1920x128, .f32⟩
  | 62 => ⟨S1280, .f32⟩
  | 63 => ⟨S_, .i32⟩
  | 64 => ⟨S_, .f32⟩
  | 65 => ⟨S2048, .f32⟩
  | 66 => ⟨S16x128, .f32⟩
  | 67 => ⟨S4096, .f32⟩
  | 68 => ⟨S_, .i32⟩
  | 69 => ⟨S_, .f32⟩
  | 70 => ⟨S4096, .f32⟩
  | 71 => ⟨S32x128, .f32⟩
  | 72 => ⟨S2112, .f32⟩
  | 73 => ⟨S_, .i32⟩
  | 74 => ⟨S_, .f32⟩
  | 75 => ⟨S3072, .f32⟩
  | 76 => ⟨S24x128, .f32⟩
  | 77 => ⟨S_, .i32⟩
  | 78 => ⟨S_, .f32⟩
  | 79 => ⟨S6144, .f32⟩
  | 80 => ⟨S48x128, .f32⟩
  | 81 => ⟨S_, .i32⟩
  | 82 => ⟨S_, .f32⟩
  | 83 => ⟨S2048, .f32⟩
  | 84 => ⟨S16x128, .f32⟩
  | 85 => ⟨S102400, .f32⟩
  | 86 => ⟨S_, .i32⟩
  | 87 => ⟨S_, .f32⟩
  | 88 => ⟨S102400, .f32⟩
  | 89 => ⟨S800x128, .f32⟩
  | 90 => ⟨S_, .i32⟩
  | 91 => ⟨S_, .f32⟩
  | 92 => ⟨S2048, .f32⟩
  | 93 => ⟨S16x128, .f32⟩
  | 94 => ⟨S102400, .f32⟩
  | 95 => ⟨S_, .i32⟩
  | 96 => ⟨S_, .f32⟩
  | 97 => ⟨S102400, .f32⟩
  | 98 => ⟨S800x128, .f32⟩
  | 99 => ⟨S_, .i32⟩
  | 100 => ⟨S_, .f32⟩
  | 101 => ⟨S2048, .f32⟩
  | 102 => ⟨S16x128, .f32⟩
  | 103 => ⟨S_, .i32⟩
  | 104 => ⟨S_, .f32⟩
  | 105 => ⟨S2048, .f32⟩
  | 106 => ⟨S16x128, .f32⟩
  | 107 => ⟨S_, .i32⟩
  | 108 => ⟨S_, .f32⟩
  | 109 => ⟨S1024, .f32⟩
  | 110 => ⟨S8x128, .f32⟩
  | 111 => ⟨S_, .i32⟩
  | 112 => ⟨S_, .f32⟩
  | 113 => ⟨S1024, .f32⟩
  | 114 => ⟨S8x128, .f32⟩
  | 115 => ⟨S_, .i32⟩
  | 116 => ⟨S_, .f32⟩
  | 117 => ⟨S1024, .f32⟩
  | 118 => ⟨S8x128, .f32⟩
  | 119 => ⟨S_, .i32⟩
  | 120 => ⟨S_, .f32⟩
  | 121 => ⟨S1024, .f32⟩
  | 122 => ⟨S8x128, .f32⟩
  | 123 => ⟨S_, .i32⟩
  | 124 => ⟨S_, .f32⟩
  | 125 => ⟨S1024, .f32⟩
  | 126 => ⟨S8x128, .f32⟩
  | 127 => ⟨S_, .i32⟩
  | _ => ⟨S4x320, .f32⟩

abbrev hbmTy0_3 (i : Nat) : BufTy := match i % 128 with
  | 0 => ⟨S_, .f32⟩
  | 1 => ⟨S3072, .f32⟩
  | 2 => ⟨S24x128, .f32⟩
  | 3 => ⟨S_, .i32⟩
  | 4 => ⟨S_, .f32⟩
  | 5 => ⟨S1024, .f32⟩
  | 6 => ⟨S8x128, .f32⟩
  | 7 => ⟨S_, .i32⟩
  | 8 => ⟨S_, .f32⟩
  | 9 => ⟨S1024, .f32⟩
  | 10 => ⟨S8x128, .f32⟩
  | 11 => ⟨S_, .f32⟩
  | 12 => ⟨S56x128, .f32⟩
  | 13 => ⟨S1848x128, .f32⟩
  | 14 => ⟨S72x128, .f32⟩
  | 15 => ⟨S1920x128, .f32⟩
  | 16 => ⟨S1920x128, .f32⟩
  | 17 => ⟨S1920x128, .f32⟩
  | 18 => ⟨S1920x128, .f32⟩
  | 19 => ⟨S1920x128, .f32⟩
  | _ => ⟨S4x320, .f32⟩

abbrev hbmTy (i : Nat) : BufTy := match i / 128 with
  | 0 => hbmTy0_0 i
  | 1 => hbmTy0_1 i
  | 2 => hbmTy0_2 i
  | 3 => hbmTy0_3 i
  | _ => ⟨S4x320, .f32⟩

abbrev bufTy : (tb : Table) → Fin (tcTables nBuf tb) → BufTy
  | .hbm, ⟨i, _⟩ => hbmTy i
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S4x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_v0 : Ref sig .tc := ⟨.hbm, 72, rfl⟩
abbrev main_c : Ref sig .tc := ⟨.hbm, 73, rfl⟩
abbrev main_call0_v0 : Ref sig .tc := ⟨.hbm, 74, rfl⟩
abbrev main_v1 : Ref sig .tc := ⟨.hbm, 75, rfl⟩
abbrev main_v2 : Ref sig .tc := ⟨.hbm, 76, rfl⟩
abbrev main_v3 : Ref sig .tc := ⟨.hbm, 77, rfl⟩
abbrev main_c_0 : Ref sig .tc := ⟨.hbm, 78, rfl⟩
abbrev main_call1_v0 : Ref sig .tc := ⟨.hbm, 79, rfl⟩
abbrev main_v4 : Ref sig .tc := ⟨.hbm, 80, rfl⟩
abbrev main_v5 : Ref sig .tc := ⟨.hbm, 81, rfl⟩
abbrev main_v6 : Ref sig .tc := ⟨.hbm, 82, rfl⟩
abbrev main_c_1 : Ref sig .tc := ⟨.hbm, 83, rfl⟩
abbrev main_call2_v0 : Ref sig .tc := ⟨.hbm, 84, rfl⟩
abbrev main_v7 : Ref sig .tc := ⟨.hbm, 85, rfl⟩
abbrev main_v8 : Ref sig .tc := ⟨.hbm, 86, rfl⟩
abbrev main_c_2 : Ref sig .tc := ⟨.hbm, 87, rfl⟩
abbrev main_call3_v0 : Ref sig .tc := ⟨.hbm, 88, rfl⟩
abbrev main_v9 : Ref sig .tc := ⟨.hbm, 89, rfl⟩
abbrev main_v10 : Ref sig .tc := ⟨.hbm, 90, rfl⟩
abbrev main_c_3 : Ref sig .tc := ⟨.hbm, 91, rfl⟩
abbrev main_call4_v0 : Ref sig .tc := ⟨.hbm, 92, rfl⟩
abbrev main_v11 : Ref sig .tc := ⟨.hbm, 93, rfl⟩
abbrev main_v12 : Ref sig .tc := ⟨.hbm, 94, rfl⟩
abbrev main_v13 : Ref sig .tc := ⟨.hbm, 95, rfl⟩
abbrev main_c_4 : Ref sig .tc := ⟨.hbm, 96, rfl⟩
abbrev main_call5_v0 : Ref sig .tc := ⟨.hbm, 97, rfl⟩
abbrev main_v14 : Ref sig .tc := ⟨.hbm, 98, rfl⟩
abbrev main_v15 : Ref sig .tc := ⟨.hbm, 99, rfl⟩
abbrev main_c_5 : Ref sig .tc := ⟨.hbm, 100, rfl⟩
abbrev main_call6_v0 : Ref sig .tc := ⟨.hbm, 101, rfl⟩
abbrev main_v16 : Ref sig .tc := ⟨.hbm, 102, rfl⟩
abbrev main_v17 : Ref sig .tc := ⟨.hbm, 103, rfl⟩
abbrev main_v18 : Ref sig .tc := ⟨.hbm, 104, rfl⟩
abbrev main_c_6 : Ref sig .tc := ⟨.hbm, 105, rfl⟩
abbrev main_call7_v0 : Ref sig .tc := ⟨.hbm, 106, rfl⟩
abbrev main_v19 : Ref sig .tc := ⟨.hbm, 107, rfl⟩
abbrev main_v20 : Ref sig .tc := ⟨.hbm, 108, rfl⟩
abbrev main_c_7 : Ref sig .tc := ⟨.hbm, 109, rfl⟩
abbrev main_call8_v0 : Ref sig .tc := ⟨.hbm, 110, rfl⟩
abbrev main_v21 : Ref sig .tc := ⟨.hbm, 111, rfl⟩
abbrev main_v22 : Ref sig .tc := ⟨.hbm, 112, rfl⟩
abbrev main_c_8 : Ref sig .tc := ⟨.hbm, 113, rfl⟩
abbrev main_call9_v0 : Ref sig .tc := ⟨.hbm, 114, rfl⟩
abbrev main_v23 : Ref sig .tc := ⟨.hbm, 115, rfl⟩
abbrev main_v24 : Ref sig .tc := ⟨.hbm, 116, rfl⟩
abbrev main_c_9 : Ref sig .tc := ⟨.hbm, 117, rfl⟩
abbrev main_call10_v0 : Ref sig .tc := ⟨.hbm, 118, rfl⟩
abbrev main_v25 : Ref sig .tc := ⟨.hbm, 119, rfl⟩
abbrev main_v26 : Ref sig .tc := ⟨.hbm, 120, rfl⟩
abbrev main_c_10 : Ref sig .tc := ⟨.hbm, 121, rfl⟩
abbrev main_call11_v0 : Ref sig .tc := ⟨.hbm, 122, rfl⟩
abbrev main_v27 : Ref sig .tc := ⟨.hbm, 123, rfl⟩
abbrev main_v28 : Ref sig .tc := ⟨.hbm, 124, rfl⟩
abbrev main_c_11 : Ref sig .tc := ⟨.hbm, 125, rfl⟩
abbrev main_call12_v0 : Ref sig .tc := ⟨.hbm, 126, rfl⟩
abbrev main_v29 : Ref sig .tc := ⟨.hbm, 127, rfl⟩
abbrev main_v30 : Ref sig .tc := ⟨.hbm, 128, rfl⟩
abbrev main_c_12 : Ref sig .tc := ⟨.hbm, 129, rfl⟩
abbrev main_call13_v0 : Ref sig .tc := ⟨.hbm, 130, rfl⟩
abbrev main_v31 : Ref sig .tc := ⟨.hbm, 131, rfl⟩
abbrev main_v32 : Ref sig .tc := ⟨.hbm, 132, rfl⟩
abbrev main_c_13 : Ref sig .tc := ⟨.hbm, 133, rfl⟩
abbrev main_call14_v0 : Ref sig .tc := ⟨.hbm, 134, rfl⟩
abbrev main_v33 : Ref sig .tc := ⟨.hbm, 135, rfl⟩
abbrev main_v34 : Ref sig .tc := ⟨.hbm, 136, rfl⟩
abbrev main_c_14 : Ref sig .tc := ⟨.hbm, 137, rfl⟩
abbrev main_call15_v0 : Ref sig .tc := ⟨.hbm, 138, rfl⟩
abbrev main_v35 : Ref sig .tc := ⟨.hbm, 139, rfl⟩
abbrev main_v36 : Ref sig .tc := ⟨.hbm, 140, rfl⟩
abbrev main_c_15 : Ref sig .tc := ⟨.hbm, 141, rfl⟩
abbrev main_call16_v0 : Ref sig .tc := ⟨.hbm, 142, rfl⟩
abbrev main_v37 : Ref sig .tc := ⟨.hbm, 143, rfl⟩
abbrev main_v38 : Ref sig .tc := ⟨.hbm, 144, rfl⟩
abbrev main_c_16 : Ref sig .tc := ⟨.hbm, 145, rfl⟩
abbrev main_call17_v0 : Ref sig .tc := ⟨.hbm, 146, rfl⟩
abbrev main_v39 : Ref sig .tc := ⟨.hbm, 147, rfl⟩
abbrev main_v40 : Ref sig .tc := ⟨.hbm, 148, rfl⟩
abbrev main_cst : Ref sig .tc := ⟨.hbm, 149, rfl⟩
abbrev main_v41 : Ref sig .tc := ⟨.hbm, 150, rfl⟩
abbrev main_v42 : Ref sig .tc := ⟨.hbm, 151, rfl⟩
abbrev main_v43 : Ref sig .tc := ⟨.hbm, 152, rfl⟩
abbrev main_v44 : Ref sig .tc := ⟨.hbm, 153, rfl⟩
abbrev main_v45 : Ref sig .tc := ⟨.hbm, 154, rfl⟩
abbrev main_c_17 : Ref sig .tc := ⟨.hbm, 155, rfl⟩
abbrev main_call18_v0 : Ref sig .tc := ⟨.hbm, 156, rfl⟩
abbrev main_v46 : Ref sig .tc := ⟨.hbm, 157, rfl⟩
abbrev main_v47 : Ref sig .tc := ⟨.hbm, 158, rfl⟩
abbrev main_v48 : Ref sig .tc := ⟨.hbm, 159, rfl⟩
abbrev main_c_18 : Ref sig .tc := ⟨.hbm, 160, rfl⟩
abbrev main_call19_v0 : Ref sig .tc := ⟨.hbm, 161, rfl⟩
abbrev main_v49 : Ref sig .tc := ⟨.hbm, 162, rfl⟩
abbrev main_v50 : Ref sig .tc := ⟨.hbm, 163, rfl⟩
abbrev main_v51 : Ref sig .tc := ⟨.hbm, 164, rfl⟩
abbrev main_c_19 : Ref sig .tc := ⟨.hbm, 165, rfl⟩
abbrev main_call20_v0 : Ref sig .tc := ⟨.hbm, 166, rfl⟩
abbrev main_v52 : Ref sig .tc := ⟨.hbm, 167, rfl⟩
abbrev main_v53 : Ref sig .tc := ⟨.hbm, 168, rfl⟩
abbrev main_c_20 : Ref sig .tc := ⟨.hbm, 169, rfl⟩
abbrev main_call21_v0 : Ref sig .tc := ⟨.hbm, 170, rfl⟩
abbrev main_v54 : Ref sig .tc := ⟨.hbm, 171, rfl⟩
abbrev main_v55 : Ref sig .tc := ⟨.hbm, 172, rfl⟩
abbrev main_c_21 : Ref sig .tc := ⟨.hbm, 173, rfl⟩
abbrev main_call22_v0 : Ref sig .tc := ⟨.hbm, 174, rfl⟩
abbrev main_v56 : Ref sig .tc := ⟨.hbm, 175, rfl⟩
abbrev main_v57 : Ref sig .tc := ⟨.hbm, 176, rfl⟩
abbrev main_v58 : Ref sig .tc := ⟨.hbm, 177, rfl⟩
abbrev main_c_22 : Ref sig .tc := ⟨.hbm, 178, rfl⟩
abbrev main_call23_v0 : Ref sig .tc := ⟨.hbm, 179, rfl⟩
abbrev main_v59 : Ref sig .tc := ⟨.hbm, 180, rfl⟩
abbrev main_v60 : Ref sig .tc := ⟨.hbm, 181, rfl⟩
abbrev main_c_23 : Ref sig .tc := ⟨.hbm, 182, rfl⟩
abbrev main_call24_v0 : Ref sig .tc := ⟨.hbm, 183, rfl⟩
abbrev main_v61 : Ref sig .tc := ⟨.hbm, 184, rfl⟩
abbrev main_v62 : Ref sig .tc := ⟨.hbm, 185, rfl⟩
abbrev main_v63 : Ref sig .tc := ⟨.hbm, 186, rfl⟩
abbrev main_c_24 : Ref sig .tc := ⟨.hbm, 187, rfl⟩
abbrev main_call25_v0 : Ref sig .tc := ⟨.hbm, 188, rfl⟩
abbrev main_v64 : Ref sig .tc := ⟨.hbm, 189, rfl⟩
abbrev main_v65 : Ref sig .tc := ⟨.hbm, 190, rfl⟩
abbrev main_c_25 : Ref sig .tc := ⟨.hbm, 191, rfl⟩
abbrev main_call26_v0 : Ref sig .tc := ⟨.hbm, 192, rfl⟩
abbrev main_v66 : Ref sig .tc := ⟨.hbm, 193, rfl⟩
abbrev main_v67 : Ref sig .tc := ⟨.hbm, 194, rfl⟩
abbrev main_c_26 : Ref sig .tc := ⟨.hbm, 195, rfl⟩
abbrev main_call27_v0 : Ref sig .tc := ⟨.hbm, 196, rfl⟩
abbrev main_v68 : Ref sig .tc := ⟨.hbm, 197, rfl⟩
abbrev main_v69 : Ref sig .tc := ⟨.hbm, 198, rfl⟩
abbrev main_c_27 : Ref sig .tc := ⟨.hbm, 199, rfl⟩
abbrev main_call28_v0 : Ref sig .tc := ⟨.hbm, 200, rfl⟩
abbrev main_v70 : Ref sig .tc := ⟨.hbm, 201, rfl⟩
abbrev main_v71 : Ref sig .tc := ⟨.hbm, 202, rfl⟩
abbrev main_c_28 : Ref sig .tc := ⟨.hbm, 203, rfl⟩
abbrev main_call29_v0 : Ref sig .tc := ⟨.hbm, 204, rfl⟩
abbrev main_v72 : Ref sig .tc := ⟨.hbm, 205, rfl⟩
abbrev main_v73 : Ref sig .tc := ⟨.hbm, 206, rfl⟩
abbrev main_c_29 : Ref sig .tc := ⟨.hbm, 207, rfl⟩
abbrev main_call30_v0 : Ref sig .tc := ⟨.hbm, 208, rfl⟩
abbrev main_v74 : Ref sig .tc := ⟨.hbm, 209, rfl⟩
abbrev main_v75 : Ref sig .tc := ⟨.hbm, 210, rfl⟩
abbrev main_c_30 : Ref sig .tc := ⟨.hbm, 211, rfl⟩
abbrev main_call31_v0 : Ref sig .tc := ⟨.hbm, 212, rfl⟩
abbrev main_v76 : Ref sig .tc := ⟨.hbm, 213, rfl⟩
abbrev main_v77 : Ref sig .tc := ⟨.hbm, 214, rfl⟩
abbrev main_c_31 : Ref sig .tc := ⟨.hbm, 215, rfl⟩
abbrev main_call32_v0 : Ref sig .tc := ⟨.hbm, 216, rfl⟩
abbrev main_v78 : Ref sig .tc := ⟨.hbm, 217, rfl⟩
abbrev main_v79 : Ref sig .tc := ⟨.hbm, 218, rfl⟩
abbrev main_c_32 : Ref sig .tc := ⟨.hbm, 219, rfl⟩
abbrev main_call33_v0 : Ref sig .tc := ⟨.hbm, 220, rfl⟩
abbrev main_v80 : Ref sig .tc := ⟨.hbm, 221, rfl⟩
abbrev main_v81 : Ref sig .tc := ⟨.hbm, 222, rfl⟩
abbrev main_c_33 : Ref sig .tc := ⟨.hbm, 223, rfl⟩
abbrev main_call34_v0 : Ref sig .tc := ⟨.hbm, 224, rfl⟩
abbrev main_v82 : Ref sig .tc := ⟨.hbm, 225, rfl⟩
abbrev main_v83 : Ref sig .tc := ⟨.hbm, 226, rfl⟩
abbrev main_c_34 : Ref sig .tc := ⟨.hbm, 227, rfl⟩
abbrev main_call35_v0 : Ref sig .tc := ⟨.hbm, 228, rfl⟩
abbrev main_v84 : Ref sig .tc := ⟨.hbm, 229, rfl⟩
abbrev main_v85 : Ref sig .tc := ⟨.hbm, 230, rfl⟩
abbrev main_cst_35 : Ref sig .tc := ⟨.hbm, 231, rfl⟩
abbrev main_v86 : Ref sig .tc := ⟨.hbm, 232, rfl⟩
abbrev main_v87 : Ref sig .tc := ⟨.hbm, 233, rfl⟩
abbrev main_v88 : Ref sig .tc := ⟨.hbm, 234, rfl⟩
abbrev main_v89 : Ref sig .tc := ⟨.hbm, 235, rfl⟩
abbrev main_v90 : Ref sig .tc := ⟨.hbm, 236, rfl⟩
abbrev main_c_36 : Ref sig .tc := ⟨.hbm, 237, rfl⟩
abbrev main_call36_v0 : Ref sig .tc := ⟨.hbm, 238, rfl⟩
abbrev main_v91 : Ref sig .tc := ⟨.hbm, 239, rfl⟩
abbrev main_v92 : Ref sig .tc := ⟨.hbm, 240, rfl⟩
abbrev main_v93 : Ref sig .tc := ⟨.hbm, 241, rfl⟩
abbrev main_c_37 : Ref sig .tc := ⟨.hbm, 242, rfl⟩
abbrev main_call37_v0 : Ref sig .tc := ⟨.hbm, 243, rfl⟩
abbrev main_v94 : Ref sig .tc := ⟨.hbm, 244, rfl⟩
abbrev main_v95 : Ref sig .tc := ⟨.hbm, 245, rfl⟩
abbrev main_v96 : Ref sig .tc := ⟨.hbm, 246, rfl⟩
abbrev main_c_38 : Ref sig .tc := ⟨.hbm, 247, rfl⟩
abbrev main_call38_v0 : Ref sig .tc := ⟨.hbm, 248, rfl⟩
abbrev main_v97 : Ref sig .tc := ⟨.hbm, 249, rfl⟩
abbrev main_v98 : Ref sig .tc := ⟨.hbm, 250, rfl⟩
abbrev main_c_39 : Ref sig .tc := ⟨.hbm, 251, rfl⟩
abbrev main_call39_v0 : Ref sig .tc := ⟨.hbm, 252, rfl⟩
abbrev main_v99 : Ref sig .tc := ⟨.hbm, 253, rfl⟩
abbrev main_v100 : Ref sig .tc := ⟨.hbm, 254, rfl⟩
abbrev main_c_40 : Ref sig .tc := ⟨.hbm, 255, rfl⟩
abbrev main_call40_v0 : Ref sig .tc := ⟨.hbm, 256, rfl⟩
abbrev main_v101 : Ref sig .tc := ⟨.hbm, 257, rfl⟩
abbrev main_v102 : Ref sig .tc := ⟨.hbm, 258, rfl⟩
abbrev main_v103 : Ref sig .tc := ⟨.hbm, 259, rfl⟩
abbrev main_c_41 : Ref sig .tc := ⟨.hbm, 260, rfl⟩
abbrev main_call41_v0 : Ref sig .tc := ⟨.hbm, 261, rfl⟩
abbrev main_v104 : Ref sig .tc := ⟨.hbm, 262, rfl⟩
abbrev main_v105 : Ref sig .tc := ⟨.hbm, 263, rfl⟩
abbrev main_c_42 : Ref sig .tc := ⟨.hbm, 264, rfl⟩
abbrev main_call42_v0 : Ref sig .tc := ⟨.hbm, 265, rfl⟩
abbrev main_v106 : Ref sig .tc := ⟨.hbm, 266, rfl⟩
abbrev main_v107 : Ref sig .tc := ⟨.hbm, 267, rfl⟩
abbrev main_v108 : Ref sig .tc := ⟨.hbm, 268, rfl⟩
abbrev main_c_43 : Ref sig .tc := ⟨.hbm, 269, rfl⟩
abbrev main_call43_v0 : Ref sig .tc := ⟨.hbm, 270, rfl⟩
abbrev main_v109 : Ref sig .tc := ⟨.hbm, 271, rfl⟩
abbrev main_v110 : Ref sig .tc := ⟨.hbm, 272, rfl⟩
abbrev main_c_44 : Ref sig .tc := ⟨.hbm, 273, rfl⟩
abbrev main_call44_v0 : Ref sig .tc := ⟨.hbm, 274, rfl⟩
abbrev main_v111 : Ref sig .tc := ⟨.hbm, 275, rfl⟩
abbrev main_v112 : Ref sig .tc := ⟨.hbm, 276, rfl⟩
abbrev main_c_45 : Ref sig .tc := ⟨.hbm, 277, rfl⟩
abbrev main_call45_v0 : Ref sig .tc := ⟨.hbm, 278, rfl⟩
abbrev main_v113 : Ref sig .tc := ⟨.hbm, 279, rfl⟩
abbrev main_v114 : Ref sig .tc := ⟨.hbm, 280, rfl⟩
abbrev main_c_46 : Ref sig .tc := ⟨.hbm, 281, rfl⟩
abbrev main_call46_v0 : Ref sig .tc := ⟨.hbm, 282, rfl⟩
abbrev main_v115 : Ref sig .tc := ⟨.hbm, 283, rfl⟩
abbrev main_v116 : Ref sig .tc := ⟨.hbm, 284, rfl⟩
abbrev main_c_47 : Ref sig .tc := ⟨.hbm, 285, rfl⟩
abbrev main_call47_v0 : Ref sig .tc := ⟨.hbm, 286, rfl⟩
abbrev main_v117 : Ref sig .tc := ⟨.hbm, 287, rfl⟩
abbrev main_v118 : Ref sig .tc := ⟨.hbm, 288, rfl⟩
abbrev main_c_48 : Ref sig .tc := ⟨.hbm, 289, rfl⟩
abbrev main_call48_v0 : Ref sig .tc := ⟨.hbm, 290, rfl⟩
abbrev main_v119 : Ref sig .tc := ⟨.hbm, 291, rfl⟩
abbrev main_v120 : Ref sig .tc := ⟨.hbm, 292, rfl⟩
abbrev main_c_49 : Ref sig .tc := ⟨.hbm, 293, rfl⟩
abbrev main_call49_v0 : Ref sig .tc := ⟨.hbm, 294, rfl⟩
abbrev main_v121 : Ref sig .tc := ⟨.hbm, 295, rfl⟩
abbrev main_v122 : Ref sig .tc := ⟨.hbm, 296, rfl⟩
abbrev main_c_50 : Ref sig .tc := ⟨.hbm, 297, rfl⟩
abbrev main_call50_v0 : Ref sig .tc := ⟨.hbm, 298, rfl⟩
abbrev main_v123 : Ref sig .tc := ⟨.hbm, 299, rfl⟩
abbrev main_v124 : Ref sig .tc := ⟨.hbm, 300, rfl⟩
abbrev main_c_51 : Ref sig .tc := ⟨.hbm, 301, rfl⟩
abbrev main_call51_v0 : Ref sig .tc := ⟨.hbm, 302, rfl⟩
abbrev main_v125 : Ref sig .tc := ⟨.hbm, 303, rfl⟩
abbrev main_v126 : Ref sig .tc := ⟨.hbm, 304, rfl⟩
abbrev main_c_52 : Ref sig .tc := ⟨.hbm, 305, rfl⟩
abbrev main_call52_v0 : Ref sig .tc := ⟨.hbm, 306, rfl⟩
abbrev main_v127 : Ref sig .tc := ⟨.hbm, 307, rfl⟩
abbrev main_v128 : Ref sig .tc := ⟨.hbm, 308, rfl⟩
abbrev main_c_53 : Ref sig .tc := ⟨.hbm, 309, rfl⟩
abbrev main_call53_v0 : Ref sig .tc := ⟨.hbm, 310, rfl⟩
abbrev main_v129 : Ref sig .tc := ⟨.hbm, 311, rfl⟩
abbrev main_v130 : Ref sig .tc := ⟨.hbm, 312, rfl⟩
abbrev main_cst_54 : Ref sig .tc := ⟨.hbm, 313, rfl⟩
abbrev main_v131 : Ref sig .tc := ⟨.hbm, 314, rfl⟩
abbrev main_v132 : Ref sig .tc := ⟨.hbm, 315, rfl⟩
abbrev main_v133 : Ref sig .tc := ⟨.hbm, 316, rfl⟩
abbrev main_v134 : Ref sig .tc := ⟨.hbm, 317, rfl⟩
abbrev main_v135 : Ref sig .tc := ⟨.hbm, 318, rfl⟩
abbrev main_c_55 : Ref sig .tc := ⟨.hbm, 319, rfl⟩
abbrev main_call54_v0 : Ref sig .tc := ⟨.hbm, 320, rfl⟩
abbrev main_v136 : Ref sig .tc := ⟨.hbm, 321, rfl⟩
abbrev main_v137 : Ref sig .tc := ⟨.hbm, 322, rfl⟩
abbrev main_v138 : Ref sig .tc := ⟨.hbm, 323, rfl⟩
abbrev main_c_56 : Ref sig .tc := ⟨.hbm, 324, rfl⟩
abbrev main_call55_v0 : Ref sig .tc := ⟨.hbm, 325, rfl⟩
abbrev main_v139 : Ref sig .tc := ⟨.hbm, 326, rfl⟩
abbrev main_v140 : Ref sig .tc := ⟨.hbm, 327, rfl⟩
abbrev main_v141 : Ref sig .tc := ⟨.hbm, 328, rfl⟩
abbrev main_c_57 : Ref sig .tc := ⟨.hbm, 329, rfl⟩
abbrev main_call56_v0 : Ref sig .tc := ⟨.hbm, 330, rfl⟩
abbrev main_v142 : Ref sig .tc := ⟨.hbm, 331, rfl⟩
abbrev main_v143 : Ref sig .tc := ⟨.hbm, 332, rfl⟩
abbrev main_c_58 : Ref sig .tc := ⟨.hbm, 333, rfl⟩
abbrev main_call57_v0 : Ref sig .tc := ⟨.hbm, 334, rfl⟩
abbrev main_v144 : Ref sig .tc := ⟨.hbm, 335, rfl⟩
abbrev main_v145 : Ref sig .tc := ⟨.hbm, 336, rfl⟩
abbrev main_c_59 : Ref sig .tc := ⟨.hbm, 337, rfl⟩
abbrev main_call58_v0 : Ref sig .tc := ⟨.hbm, 338, rfl⟩
abbrev main_v146 : Ref sig .tc := ⟨.hbm, 339, rfl⟩
abbrev main_v147 : Ref sig .tc := ⟨.hbm, 340, rfl⟩
abbrev main_v148 : Ref sig .tc := ⟨.hbm, 341, rfl⟩
abbrev main_c_60 : Ref sig .tc := ⟨.hbm, 342, rfl⟩
abbrev main_call59_v0 : Ref sig .tc := ⟨.hbm, 343, rfl⟩
abbrev main_v149 : Ref sig .tc := ⟨.hbm, 344, rfl⟩
abbrev main_v150 : Ref sig .tc := ⟨.hbm, 345, rfl⟩
abbrev main_c_61 : Ref sig .tc := ⟨.hbm, 346, rfl⟩
abbrev main_call60_v0 : Ref sig .tc := ⟨.hbm, 347, rfl⟩
abbrev main_v151 : Ref sig .tc := ⟨.hbm, 348, rfl⟩
abbrev main_v152 : Ref sig .tc := ⟨.hbm, 349, rfl⟩
abbrev main_v153 : Ref sig .tc := ⟨.hbm, 350, rfl⟩
abbrev main_c_62 : Ref sig .tc := ⟨.hbm, 351, rfl⟩
abbrev main_call61_v0 : Ref sig .tc := ⟨.hbm, 352, rfl⟩
abbrev main_v154 : Ref sig .tc := ⟨.hbm, 353, rfl⟩
abbrev main_v155 : Ref sig .tc := ⟨.hbm, 354, rfl⟩
abbrev main_c_63 : Ref sig .tc := ⟨.hbm, 355, rfl⟩
abbrev main_call62_v0 : Ref sig .tc := ⟨.hbm, 356, rfl⟩
abbrev main_v156 : Ref sig .tc := ⟨.hbm, 357, rfl⟩
abbrev main_v157 : Ref sig .tc := ⟨.hbm, 358, rfl⟩
abbrev main_c_64 : Ref sig .tc := ⟨.hbm, 359, rfl⟩
abbrev main_call63_v0 : Ref sig .tc := ⟨.hbm, 360, rfl⟩
abbrev main_v158 : Ref sig .tc := ⟨.hbm, 361, rfl⟩
abbrev main_v159 : Ref sig .tc := ⟨.hbm, 362, rfl⟩
abbrev main_c_65 : Ref sig .tc := ⟨.hbm, 363, rfl⟩
abbrev main_call64_v0 : Ref sig .tc := ⟨.hbm, 364, rfl⟩
abbrev main_v160 : Ref sig .tc := ⟨.hbm, 365, rfl⟩
abbrev main_v161 : Ref sig .tc := ⟨.hbm, 366, rfl⟩
abbrev main_c_66 : Ref sig .tc := ⟨.hbm, 367, rfl⟩
abbrev main_call65_v0 : Ref sig .tc := ⟨.hbm, 368, rfl⟩
abbrev main_v162 : Ref sig .tc := ⟨.hbm, 369, rfl⟩
abbrev main_v163 : Ref sig .tc := ⟨.hbm, 370, rfl⟩
abbrev main_c_67 : Ref sig .tc := ⟨.hbm, 371, rfl⟩
abbrev main_call66_v0 : Ref sig .tc := ⟨.hbm, 372, rfl⟩
abbrev main_v164 : Ref sig .tc := ⟨.hbm, 373, rfl⟩
abbrev main_v165 : Ref sig .tc := ⟨.hbm, 374, rfl⟩
abbrev main_c_68 : Ref sig .tc := ⟨.hbm, 375, rfl⟩
abbrev main_call67_v0 : Ref sig .tc := ⟨.hbm, 376, rfl⟩
abbrev main_v166 : Ref sig .tc := ⟨.hbm, 377, rfl⟩
abbrev main_v167 : Ref sig .tc := ⟨.hbm, 378, rfl⟩
abbrev main_c_69 : Ref sig .tc := ⟨.hbm, 379, rfl⟩
abbrev main_call68_v0 : Ref sig .tc := ⟨.hbm, 380, rfl⟩
abbrev main_v168 : Ref sig .tc := ⟨.hbm, 381, rfl⟩
abbrev main_v169 : Ref sig .tc := ⟨.hbm, 382, rfl⟩
abbrev main_c_70 : Ref sig .tc := ⟨.hbm, 383, rfl⟩
abbrev main_call69_v0 : Ref sig .tc := ⟨.hbm, 384, rfl⟩
abbrev main_v170 : Ref sig .tc := ⟨.hbm, 385, rfl⟩
abbrev main_v171 : Ref sig .tc := ⟨.hbm, 386, rfl⟩
abbrev main_c_71 : Ref sig .tc := ⟨.hbm, 387, rfl⟩
abbrev main_call70_v0 : Ref sig .tc := ⟨.hbm, 388, rfl⟩
abbrev main_v172 : Ref sig .tc := ⟨.hbm, 389, rfl⟩
abbrev main_v173 : Ref sig .tc := ⟨.hbm, 390, rfl⟩
abbrev main_c_72 : Ref sig .tc := ⟨.hbm, 391, rfl⟩
abbrev main_call71_v0 : Ref sig .tc := ⟨.hbm, 392, rfl⟩
abbrev main_v174 : Ref sig .tc := ⟨.hbm, 393, rfl⟩
abbrev main_v175 : Ref sig .tc := ⟨.hbm, 394, rfl⟩
abbrev main_cst_73 : Ref sig .tc := ⟨.hbm, 395, rfl⟩
abbrev main_v176 : Ref sig .tc := ⟨.hbm, 396, rfl⟩
abbrev main_v177 : Ref sig .tc := ⟨.hbm, 397, rfl⟩
abbrev main_v178 : Ref sig .tc := ⟨.hbm, 398, rfl⟩
abbrev main_v179 : Ref sig .tc := ⟨.hbm, 399, rfl⟩
abbrev main_v180_0 : Ref sig .tc := ⟨.hbm, 400, rfl⟩
abbrev main_v180_1 : Ref sig .tc := ⟨.hbm, 401, rfl⟩
abbrev main_v180_2 : Ref sig .tc := ⟨.hbm, 402, rfl⟩
abbrev main_v180_3 : Ref sig .tc := ⟨.hbm, 403, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallRefIdeal.lean ====
abbrev S4x320 : Shape := ⟨2, ![4, 320]⟩
abbrev S4x1024 : Shape := ⟨2, ![4, 1024]⟩
abbrev S3x704 : Shape := ⟨2, ![3, 704]⟩
abbrev S6144 : Shape := ⟨1, ![6144]⟩
abbrev S1280 : Shape := ⟨1, ![1280]⟩
abbrev S16x80x80 : Shape := ⟨3, ![16, 80, 80]⟩
abbrev S16 : Shape := ⟨1, ![16]⟩
abbrev S128 : Shape := ⟨1, ![128]⟩
abbrev S1024 : Shape := ⟨1, ![1024]⟩
abbrev S2816 : Shape := ⟨1, ![2816]⟩
abbrev S_ : Shape := ⟨0, ![]⟩
abbrev S4096 : Shape := ⟨1, ![4096]⟩
abbrev S2112 : Shape := ⟨1, ![2112]⟩
abbrev S102400 : Shape := ⟨1, ![102400]⟩
abbrev S2048 : Shape := ⟨1, ![2048]⟩
abbrev S16x128 : Shape := ⟨2, ![16, 128]⟩
abbrev S32x128 : Shape := ⟨2, ![32, 128]⟩
abbrev S3072 : Shape := ⟨1, ![3072]⟩
abbrev S24x128 : Shape := ⟨2, ![24, 128]⟩
abbrev S48x128 : Shape := ⟨2, ![48, 128]⟩
abbrev S800x128 : Shape := ⟨2, ![800, 128]⟩
abbrev S8x128 : Shape := ⟨2, ![8, 128]⟩
abbrev S56x128 : Shape := ⟨2, ![56, 128]⟩
abbrev S1848x128 : Shape := ⟨2, ![1848, 128]⟩
abbrev S72x128 : Shape := ⟨2, ![72, 128]⟩
abbrev S1920x128 : Shape := ⟨2, ![1920, 128]⟩

abbrev nBuf : Space → Nat
  | .hbm => 994
  | .vmem => 0
  | .smem => 0
  | _ => 0

abbrev hbmTy0_0 (i : Nat) : BufTy := match i % 128 with
  | 0 => ⟨S4x320, .f32⟩
  | 1 => ⟨S4x1024, .f32⟩
  | 2 => ⟨S3x704, .f32⟩
  | 3 => ⟨S6144, .f32⟩
  | 4 => ⟨S1280, .f32⟩
  | 5 => ⟨S16x80x80, .f32⟩
  | 6 => ⟨S1280, .f32⟩
  | 7 => ⟨S16x80x80, .f32⟩
  | 8 => ⟨S1280, .f32⟩
  | 9 => ⟨S1280, .f32⟩
  | 10 => ⟨S16, .f32⟩
  | 11 => ⟨S16, .f32⟩
  | 12 => ⟨S128, .f32⟩
  | 13 => ⟨S1024, .f32⟩
  | 14 => ⟨S1024, .f32⟩
  | 15 => ⟨S2816, .f32⟩
  | 16 => ⟨S1024, .f32⟩
  | 17 => ⟨S1024, .f32⟩
  | 18 => ⟨S4x320, .f32⟩
  | 19 => ⟨S4x1024, .f32⟩
  | 20 => ⟨S3x704, .f32⟩
  | 21 => ⟨S6144, .f32⟩
  | 22 => ⟨S1280, .f32⟩
  | 23 => ⟨S16x80x80, .f32⟩
  | 24 => ⟨S1280, .f32⟩
  | 25 => ⟨S16x80x80, .f32⟩
  | 26 => ⟨S1280, .f32⟩
  | 27 => ⟨S1280, .f32⟩
  | 28 => ⟨S16, .f32⟩
  | 29 => ⟨S16, .f32⟩
  | 30 => ⟨S128, .f32⟩
  | 31 => ⟨S1024, .f32⟩
  | 32 => ⟨S1024, .f32⟩
  | 33 => ⟨S2816, .f32⟩
  | 34 => ⟨S1024, .f32⟩
  | 35 => ⟨S1024, .f32⟩
  | 36 => ⟨S4x320, .f32⟩
  | 37 => ⟨S4x1024, .f32⟩
  | 38 => ⟨S3x704, .f32⟩
  | 39 => ⟨S6144, .f32⟩
  | 40 => ⟨S1280, .f32⟩
  | 41 => ⟨S16x80x80, .f32⟩
  | 42 => ⟨S1280, .f32⟩
  | 43 => ⟨S16x80x80, .f32⟩
  | 44 => ⟨S1280, .f32⟩
  | 45 => ⟨S1280, .f32⟩
  | 46 => ⟨S16, .f32⟩
  | 47 => ⟨S16, .f32⟩
  | 48 => ⟨S128, .f32⟩
  | 49 => ⟨S1024, .f32⟩
  | 50 => ⟨S1024, .f32⟩
  | 51 => ⟨S2816, .f32⟩
  | 52 => ⟨S1024, .f32⟩
  | 53 => ⟨S1024, .f32⟩
  | 54 => ⟨S4x320, .f32⟩
  | 55 => ⟨S4x1024, .f32⟩
  | 56 => ⟨S3x704, .f32⟩
  | 57 => ⟨S6144, .f32⟩
  | 58 => ⟨S1280, .f32⟩
  | 59 => ⟨S16x80x80, .f32⟩
  | 60 => ⟨S1280, .f32⟩
  | 61 => ⟨S16x80x80, .f32⟩
  | 62 => ⟨S1280, .f32⟩
  | 63 => ⟨S1280, .f32⟩
  | 64 => ⟨S16, .f32⟩
  | 65 => ⟨S16, .f32⟩
  | 66 => ⟨S128, .f32⟩
  | 67 => ⟨S1024, .f32⟩
  | 68 => ⟨S1024, .f32⟩
  | 69 => ⟨S2816, .f32⟩
  | 70 => ⟨S1024, .f32⟩
  | 71 => ⟨S1024, .f32⟩
  | 72 => ⟨S_, .f32⟩
  | 73 => ⟨S4x320, .f32⟩
  | 74 => ⟨S4x320, .f32⟩
  | 75 => ⟨S_, .f32⟩
  | 76 => ⟨S4x320, .f32⟩
  | 77 => ⟨S4x320, .f32⟩
  | 78 => ⟨S4x320, .f32⟩
  | 79 => ⟨S_, .f32⟩
  | 80 => ⟨S4x320, .f32⟩
  | 81 => ⟨S4x320, .f32⟩
  | 82 => ⟨S4x320, .f32⟩
  | 83 => ⟨S_, .f32⟩
  | 84 => ⟨S4x320, .f32⟩
  | 85 => ⟨S4x320, .f32⟩
  | 86 => ⟨S4x320, .f32⟩
  | 87 => ⟨S_, .f32⟩
  | 88 => ⟨S4x320, .f32⟩
  | 89 => ⟨S4x320, .f32⟩
  | 90 => ⟨S_, .f32⟩
  | 91 => ⟨S4x320, .f32⟩
  | 92 => ⟨S4x320, .f32⟩
  | 93 => ⟨S4x320, .f32⟩
  | 94 => ⟨S_, .f32⟩
  | 95 => ⟨S4x320, .f32⟩
  | 96 => ⟨S4x320, .f32⟩
  | 97 => ⟨S4x320, .f32⟩
  | 98 => ⟨S_, .f32⟩
  | 99 => ⟨S4x320, .f32⟩
  | 100 => ⟨S4x320, .f32⟩
  | 101 => ⟨S4x320, .f32⟩
  | 102 => ⟨S_, .f32⟩
  | 103 => ⟨S4x320, .f32⟩
  | 104 => ⟨S4x320, .f32⟩
  | 105 => ⟨S_, .f32⟩
  | 106 => ⟨S4x1024, .f32⟩
  | 107 => ⟨S4x1024, .f32⟩
  | 108 => ⟨S_, .f32⟩
  | 109 => ⟨S4x1024, .f32⟩
  | 110 => ⟨S4x1024, .f32⟩
  | 111 => ⟨S4x1024, .f32⟩
  | 112 => ⟨S_, .f32⟩
  | 113 => ⟨S4x1024, .f32⟩
  | 114 => ⟨S4x1024, .f32⟩
  | 115 => ⟨S4x1024, .f32⟩
  | 116 => ⟨S_, .f32⟩
  | 117 => ⟨S4x1024, .f32⟩
  | 118 => ⟨S4x1024, .f32⟩
  | 119 => ⟨S4x1024, .f32⟩
  | 120 => ⟨S_, .f32⟩
  | 121 => ⟨S4x1024, .f32⟩
  | 122 => ⟨S4x1024, .f32⟩
  | 123 => ⟨S_, .f32⟩
  | 124 => ⟨S4x1024, .f32⟩
  | 125 => ⟨S4x1024, .f32⟩
  | 126 => ⟨S4x1024, .f32⟩
  | 127 => ⟨S_, .f32⟩
  | _ => ⟨S4x320, .f32⟩

abbrev hbmTy0_1 (i : Nat) : BufTy := match i % 128 with
  | 0 => ⟨S4x1024, .f32⟩
  | 1 => ⟨S4x1024, .f32⟩
  | 2 => ⟨S4x1024, .f32⟩
  | 3 => ⟨S_, .f32⟩
  | 4 => ⟨S4x1024, .f32⟩
  | 5 => ⟨S4x1024, .f32⟩
  | 6 => ⟨S4x1024, .f32⟩
  | 7 => ⟨S_, .f32⟩
  | 8 => ⟨S4x1024, .f32⟩
  | 9 => ⟨S4x1024, .f32⟩
  | 10 => ⟨S_, .f32⟩
  | 11 => ⟨S3x704, .f32⟩
  | 12 => ⟨S3x704, .f32⟩
  | 13 => ⟨S_, .f32⟩
  | 14 => ⟨S3x704, .f32⟩
  | 15 => ⟨S3x704, .f32⟩
  | 16 => ⟨S3x704, .f32⟩
  | 17 => ⟨S_, .f32⟩
  | 18 => ⟨S3x704, .f32⟩
  | 19 => ⟨S3x704, .f32⟩
  | 20 => ⟨S3x704, .f32⟩
  | 21 => ⟨S_, .f32⟩
  | 22 => ⟨S3x704, .f32⟩
  | 23 => ⟨S3x704, .f32⟩
  | 24 => ⟨S3x704, .f32⟩
  | 25 => ⟨S_, .f32⟩
  | 26 => ⟨S3x704, .f32⟩
  | 27 => ⟨S3x704, .f32⟩
  | 28 => ⟨S_, .f32⟩
  | 29 => ⟨S3x704, .f32⟩
  | 30 => ⟨S3x704, .f32⟩
  | 31 => ⟨S3x704, .f32⟩
  | 32 => ⟨S_, .f32⟩
  | 33 => ⟨S3x704, .f32⟩
  | 34 => ⟨S3x704, .f32⟩
  | 35 => ⟨S3x704, .f32⟩
  | 36 => ⟨S_, .f32⟩
  | 37 => ⟨S3x704, .f32⟩
  | 38 => ⟨S3x704, .f32⟩
  | 39 => ⟨S3x704, .f32⟩
  | 40 => ⟨S_, .f32⟩
  | 41 => ⟨S3x704, .f32⟩
  | 42 => ⟨S3x704, .f32⟩
  | 43 => ⟨S_, .f32⟩
  | 44 => ⟨S6144, .f32⟩
  | 45 => ⟨S6144, .f32⟩
  | 46 => ⟨S_, .f32⟩
  | 47 => ⟨S6144, .f32⟩
  | 48 => ⟨S6144, .f32⟩
  | 49 => ⟨S6144, .f32⟩
  | 50 => ⟨S_, .f32⟩
  | 51 => ⟨S6144, .f32⟩
  | 52 => ⟨S6144, .f32⟩
  | 53 => ⟨S6144, .f32⟩
  | 54 => ⟨S_, .f32⟩
  | 55 => ⟨S6144, .f32⟩
  | 56 => ⟨S6144, .f32⟩
  | 57 => ⟨S6144, .f32⟩
  | 58 => ⟨S_, .f32⟩
  | 59 => ⟨S6144, .f32⟩
  | 60 => ⟨S6144, .f32⟩
  | 61 => ⟨S_, .f32⟩
  | 62 => ⟨S6144, .f32⟩
  | 63 => ⟨S6144, .f32⟩
  | 64 => ⟨S6144, .f32⟩
  | 65 => ⟨S_, .f32⟩
  | 66 => ⟨S6144, .f32⟩
  | 67 => ⟨S6144, .f32⟩
  | 68 => ⟨S6144, .f32⟩
  | 69 => ⟨S_, .f32⟩
  | 70 => ⟨S6144, .f32⟩
  | 71 => ⟨S6144, .f32⟩
  | 72 => ⟨S6144, .f32⟩
  | 73 => ⟨S_, .f32⟩
  | 74 => ⟨S6144, .f32⟩
  | 75 => ⟨S6144, .f32⟩
  | 76 => ⟨S_, .f32⟩
  | 77 => ⟨S1280, .f32⟩
  | 78 => ⟨S1280, .f32⟩
  | 79 => ⟨S_, .f32⟩
  | 80 => ⟨S1280, .f32⟩
  | 81 => ⟨S1280, .f32⟩
  | 82 => ⟨S1280, .f32⟩
  | 83 => ⟨S_, .f32⟩
  | 84 => ⟨S1280, .f32⟩
  | 85 => ⟨S1280, .f32⟩
  | 86 => ⟨S1280, .f32⟩
  | 87 => ⟨S_, .f32⟩
  | 88 => ⟨S1280, .f32⟩
  | 89 => ⟨S1280, .f32⟩
  | 90 => ⟨S1280, .f32⟩
  | 91 => ⟨S_, .f32⟩
  | 92 => ⟨S1280, .f32⟩
  | 93 => ⟨S1280, .f32⟩
  | 94 => ⟨S_, .f32⟩
  | 95 => ⟨S1280, .f32⟩
  | 96 => ⟨S1280, .f32⟩
  | 97 => ⟨S1280, .f32⟩
  | 98 => ⟨S_, .f32⟩
  | 99 => ⟨S1280, .f32⟩
  | 100 => ⟨S1280, .f32⟩
  | 101 => ⟨S1280, .f32⟩
  | 102 => ⟨S_, .f32⟩
  | 103 => ⟨S1280, .f32⟩
  | 104 => ⟨S1280, .f32⟩
  | 105 => ⟨S1280, .f32⟩
  | 106 => ⟨S_, .f32⟩
  | 107 => ⟨S1280, .f32⟩
  | 108 => ⟨S1280, .f32⟩
  | 109 => ⟨S_, .f32⟩
  | 110 => ⟨S16x80x80, .f32⟩
  | 111 => ⟨S16x80x80, .f32⟩
  | 112 => ⟨S_, .f32⟩
  | 113 => ⟨S16x80x80, .f32⟩
  | 114 => ⟨S16x80x80, .f32⟩
  | 115 => ⟨S16x80x80, .f32⟩
  | 116 => ⟨S_, .f32⟩
  | 117 => ⟨S16x80x80, .f32⟩
  | 118 => ⟨S16x80x80, .f32⟩
  | 119 => ⟨S16x80x80, .f32⟩
  | 120 => ⟨S_, .f32⟩
  | 121 => ⟨S16x80x80, .f32⟩
  | 122 => ⟨S16x80x80, .f32⟩
  | 123 => ⟨S16x80x80, .f32⟩
  | 124 => ⟨S_, .f32⟩
  | 125 => ⟨S16x80x80, .f32⟩
  | 126 => ⟨S16x80x80, .f32⟩
  | 127 => ⟨S_, .f32⟩
  | _ => ⟨S4x320, .f32⟩

abbrev hbmTy0_2 (i : Nat) : BufTy := match i % 128 with
  | 0 => ⟨S16x80x80, .f32⟩
  | 1 => ⟨S16x80x80, .f32⟩
  | 2 => ⟨S16x80x80, .f32⟩
  | 3 => ⟨S_, .f32⟩
  | 4 => ⟨S16x80x80, .f32⟩
  | 5 => ⟨S16x80x80, .f32⟩
  | 6 => ⟨S16x80x80, .f32⟩
  | 7 => ⟨S_, .f32⟩
  | 8 => ⟨S16x80x80, .f32⟩
  | 9 => ⟨S16x80x80, .f32⟩
  | 10 => ⟨S16x80x80, .f32⟩
  | 11 => ⟨S_, .f32⟩
  | 12 => ⟨S16x80x80, .f32⟩
  | 13 => ⟨S16x80x80, .f32⟩
  | 14 => ⟨S_, .f32⟩
  | 15 => ⟨S1280, .f32⟩
  | 16 => ⟨S1280, .f32⟩
  | 17 => ⟨S_, .f32⟩
  | 18 => ⟨S1280, .f32⟩
  | 19 => ⟨S1280, .f32⟩
  | 20 => ⟨S1280, .f32⟩
  | 21 => ⟨S_, .f32⟩
  | 22 => ⟨S1280, .f32⟩
  | 23 => ⟨S1280, .f32⟩
  | 24 => ⟨S1280, .f32⟩
  | 25 => ⟨S_, .f32⟩
  | 26 => ⟨S1280, .f32⟩
  | 27 => ⟨S1280, .f32⟩
  | 28 => ⟨S1280, .f32⟩
  | 29 => ⟨S_, .f32⟩
  | 30 => ⟨S1280, .f32⟩
  | 31 => ⟨S1280, .f32⟩
  | 32 => ⟨S_, .f32⟩
  | 33 => ⟨S1280, .f32⟩
  | 34 => ⟨S1280, .f32⟩
  | 35 => ⟨S1280, .f32⟩
  | 36 => ⟨S_, .f32⟩
  | 37 => ⟨S1280, .f32⟩
  | 38 => ⟨S1280, .f32⟩
  | 39 => ⟨S1280, .f32⟩
  | 40 => ⟨S_, .f32⟩
  | 41 => ⟨S1280, .f32⟩
  | 42 => ⟨S1280, .f32⟩
  | 43 => ⟨S1280, .f32⟩
  | 44 => ⟨S_, .f32⟩
  | 45 => ⟨S1280, .f32⟩
  | 46 => ⟨S1280, .f32⟩
  | 47 => ⟨S_, .f32⟩
  | 48 => ⟨S16x80x80, .f32⟩
  | 49 => ⟨S16x80x80, .f32⟩
  | 50 => ⟨S_, .f32⟩
  | 51 => ⟨S16x80x80, .f32⟩
  | 52 => ⟨S16x80x80, .f32⟩
  | 53 => ⟨S16x80x80, .f32⟩
  | 54 => ⟨S_, .f32⟩
  | 55 => ⟨S16x80x80, .f32⟩
  | 56 => ⟨S16x80x80, .f32⟩
  | 57 => ⟨S16x80x80, .f32⟩
  | 58 => ⟨S_, .f32⟩
  | 59 => ⟨S16x80x80, .f32⟩
  | 60 => ⟨S16x80x80, .f32⟩
  | 61 => ⟨S16x80x80, .f32⟩
  | 62 => ⟨S_, .f32⟩
  | 63 => ⟨S16x80x80, .f32⟩
  | 64 => ⟨S16x80x80, .f32⟩
  | 65 => ⟨S_, .f32⟩
  | 66 => ⟨S16x80x80, .f32⟩
  | 67 => ⟨S16x80x80, .f32⟩
  | 68 => ⟨S16x80x80, .f32⟩
  | 69 => ⟨S_, .f32⟩
  | 70 => ⟨S16x80x80, .f32⟩
  | 71 => ⟨S16x80x80, .f32⟩
  | 72 => ⟨S16x80x80, .f32⟩
  | 73 => ⟨S_, .f32⟩
  | 74 => ⟨S16x80x80, .f32⟩
  | 75 => ⟨S16x80x80, .f32⟩
  | 76 => ⟨S16x80x80, .f32⟩
  | 77 => ⟨S_, .f32⟩
  | 78 => ⟨S16x80x80, .f32⟩
  | 79 => ⟨S16x80x80, .f32⟩
  | 80 => ⟨S_, .f32⟩
  | 81 => ⟨S1280, .f32⟩
  | 82 => ⟨S1280, .f32⟩
  | 83 => ⟨S_, .f32⟩
  | 84 => ⟨S1280, .f32⟩
  | 85 => ⟨S1280, .f32⟩
  | 86 => ⟨S1280, .f32⟩
  | 87 => ⟨S_, .f32⟩
  | 88 => ⟨S1280, .f32⟩
  | 89 => ⟨S1280, .f32⟩
  | 90 => ⟨S1280, .f32⟩
  | 91 => ⟨S_, .f32⟩
  | 92 => ⟨S1280, .f32⟩
  | 93 => ⟨S1280, .f32⟩
  | 94 => ⟨S1280, .f32⟩
  | 95 => ⟨S_, .f32⟩
  | 96 => ⟨S1280, .f32⟩
  | 97 => ⟨S1280, .f32⟩
  | 98 => ⟨S_, .f32⟩
  | 99 => ⟨S1280, .f32⟩
  | 100 => ⟨S1280, .f32⟩
  | 101 => ⟨S1280, .f32⟩
  | 102 => ⟨S_, .f32⟩
  | 103 => ⟨S1280, .f32⟩
  | 104 => ⟨S1280, .f32⟩
  | 105 => ⟨S1280, .f32⟩
  | 106 => ⟨S_, .f32⟩
  | 107 => ⟨S1280, .f32⟩
  | 108 => ⟨S1280, .f32⟩
  | 109 => ⟨S1280, .f32⟩
  | 110 => ⟨S_, .f32⟩
  | 111 => ⟨S1280, .f32⟩
  | 112 => ⟨S1280, .f32⟩
  | 113 => ⟨S_, .f32⟩
  | 114 => ⟨S1280, .f32⟩
  | 115 => ⟨S1280, .f32⟩
  | 116 => ⟨S_, .f32⟩
  | 117 => ⟨S1280, .f32⟩
  | 118 => ⟨S1280, .f32⟩
  | 119 => ⟨S1280, .f32⟩
  | 120 => ⟨S_, .f32⟩
  | 121 => ⟨S1280, .f32⟩
  | 122 => ⟨S1280, .f32⟩
  | 123 => ⟨S1280, .f32⟩
  | 124 => ⟨S_, .f32⟩
  | 125 => ⟨S1280, .f32⟩
  | 126 => ⟨S1280, .f32⟩
  | 127 => ⟨S1280, .f32⟩
  | _ => ⟨S4x320, .f32⟩

abbrev hbmTy0_3 (i : Nat) : BufTy := match i % 128 with
  | 0 => ⟨S_, .f32⟩
  | 1 => ⟨S1280, .f32⟩
  | 2 => ⟨S1280, .f32⟩
  | 3 => ⟨S_, .f32⟩
  | 4 => ⟨S1280, .f32⟩
  | 5 => ⟨S1280, .f32⟩
  | 6 => ⟨S1280, .f32⟩
  | 7 => ⟨S_, .f32⟩
  | 8 => ⟨S1280, .f32⟩
  | 9 => ⟨S1280, .f32⟩
  | 10 => ⟨S1280, .f32⟩
  | 11 => ⟨S_, .f32⟩
  | 12 => ⟨S1280, .f32⟩
  | 13 => ⟨S1280, .f32⟩
  | 14 => ⟨S1280, .f32⟩
  | 15 => ⟨S_, .f32⟩
  | 16 => ⟨S1280, .f32⟩
  | 17 => ⟨S1280, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S16, .f32⟩
  | 25 => ⟨S_, .f32⟩
  | 26 => ⟨S16, .f32⟩
  | 27 => ⟨S16, .f32⟩
  | 28 => ⟨S16, .f32⟩
  | 29 => ⟨S_, .f32⟩
  | 30 => ⟨S16, .f32⟩
  | 31 => ⟨S16, .f32⟩
  | 32 => ⟨S16, .f32⟩
  | 33 => ⟨S_, .f32⟩
  | 34 => ⟨S16, .f32⟩
  | 35 => ⟨S16, .f32⟩
  | 36 => ⟨S_, .f32⟩
  | 37 => ⟨S16, .f32⟩
  | 38 => ⟨S16, .f32⟩
  | 39 => ⟨S16, .f32⟩
  | 40 => ⟨S_, .f32⟩
  | 41 => ⟨S16, .f32⟩
  | 42 => ⟨S16, .f32⟩
  | 43 => ⟨S16, .f32⟩
  | 44 => ⟨S_, .f32⟩
  | 45 => ⟨S16, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S16, .f32⟩
  | 58 => ⟨S_, .f32⟩
  | 59 => ⟨S16, .f32⟩
  | 60 => ⟨S16, .f32⟩
  | 61 => ⟨S16, .f32⟩
  | 62 => ⟨S_, .f32⟩
  | 63 => ⟨S16, .f32⟩
  | 64 => ⟨S16, .f32⟩
  | 65 => ⟨S16, .f32⟩
  | 66 => ⟨S_, .f32⟩
  | 67 => ⟨S16, .f32⟩
  | 68 => ⟨S16, .f32⟩
  | 69 => ⟨S_, .f32⟩
  | 70 => ⟨S16, .f32⟩
  | 71 => ⟨S16, .f32⟩
  | 72 => ⟨S16, .f32⟩
  | 73 => ⟨S_, .f32⟩
  | 74 => ⟨S16, .f32⟩
  | 75 => ⟨S16, .f32⟩
  | 76 => ⟨S16, .f32⟩
  | 77 => ⟨S_, .f32⟩
  | 78 => ⟨S16, .f32⟩
  | 79 => ⟨S16, .f32⟩
  | 80 => ⟨S16, .f32⟩
  | 81 => ⟨S_, .f32⟩
  | 82 => ⟨S16, .f32⟩
  | 83 => ⟨S16, .f32⟩
  | 84 => ⟨S_, .f32⟩
  | 85 => ⟨S128, .f32⟩
  | 86 => ⟨S128, .f32⟩
  | 87 => ⟨S_, .f32⟩
  | 88 => ⟨S128, .f32⟩
  | 89 => ⟨S128, .f32⟩
  | 90 => ⟨S128, .f32⟩
  | 91 => ⟨S_, .f32⟩
  | 92 => ⟨S128, .f32⟩
  | 93 => ⟨S128, .f32⟩
  | 94 => ⟨S128, .f32⟩
  | 95 => ⟨S_, .f32⟩
  | 96 => ⟨S128, .f32⟩
  | 97 => ⟨S128, .f32⟩
  | 98 => ⟨S128, .f32⟩
  | 99 => ⟨S_, .f32⟩
  | 100 => ⟨S128, .f32⟩
  | 101 => ⟨S128, .f32⟩
  | 102 => ⟨S_, .f32⟩
  | 103 => ⟨S128, .f32⟩
  | 104 => ⟨S128, .f32⟩
  | 105 => ⟨S128, .f32⟩
  | 106 => ⟨S_, .f32⟩
  | 107 => ⟨S128, .f32⟩
  | 108 => ⟨S128, .f32⟩
  | 109 => ⟨S128, .f32⟩
  | 110 => ⟨S_, .f32⟩
  | 111 => ⟨S128, .f32⟩
  | 112 => ⟨S128, .f32⟩
  | 113 => ⟨S128, .f32⟩
  | 114 => ⟨S_, .f32⟩
  | 115 => ⟨S128, .f32⟩
  | 116 => ⟨S128, .f32⟩
  | 117 => ⟨S_, .f32⟩
  | 118 => ⟨S1024, .f32⟩
  | 119 => ⟨S1024, .f32⟩
  | 120 => ⟨S_, .f32⟩
  | 121 => ⟨S1024, .f32⟩
  | 122 => ⟨S1024, .f32⟩
  | 123 => ⟨S1024, .f32⟩
  | 124 => ⟨S_, .f32⟩
  | 125 => ⟨S1024, .f32⟩
  | 126 => ⟨S1024, .f32⟩
  | 127 => ⟨S1024, .f32⟩
  | _ => ⟨S4x320, .f32⟩

abbrev hbmTy0_4 (i : Nat) : BufTy := match i % 128 with
  | 0 => ⟨S_, .f32⟩
  | 1 => ⟨S1024, .f32⟩
  | 2 => ⟨S1024, .f32⟩
  | 3 => ⟨S1024, .f32⟩
  | 4 => ⟨S_, .f32⟩
  | 5 => ⟨S1024, .f32⟩
  | 6 => ⟨S1024, .f32⟩
  | 7 => ⟨S_, .f32⟩
  | 8 => ⟨S1024, .f32⟩
  | 9 => ⟨S1024, .f32⟩
  | 10 => ⟨S1024, .f32⟩
  | 11 => ⟨S_, .f32⟩
  | 12 => ⟨S1024, .f32⟩
  | 13 => ⟨S1024, .f32⟩
  | 14 => ⟨S1024, .f32⟩
  | 15 => ⟨S_, .f32⟩
  | 16 => ⟨S1024, .f32⟩
  | 17 => ⟨S1024, .f32⟩
  | 18 => ⟨S1024, .f32⟩
  | 19 => ⟨S_, .f32⟩
  | 20 => ⟨S1024, .f32⟩
  | 21 => ⟨S1024, .f32⟩
  | 22 => ⟨S_, .f32⟩
  | 23 => ⟨S1024, .f32⟩
  | 24 => ⟨S1024, .f32⟩
  | 25 => ⟨S_, .f32⟩
  | 26 => ⟨S1024, .f32⟩
  | 27 => ⟨S1024, .f32⟩
  | 28 => ⟨S1024, .f32⟩
  | 29 => ⟨S_, .f32⟩
  | 30 => ⟨S1024, .f32⟩
  | 31 => ⟨S1024, .f32⟩
  | 32 => ⟨S1024, .f32⟩
  | 33 => ⟨S_, .f32⟩
  | 34 => ⟨S1024, .f32⟩
  | 35 => ⟨S1024, .f32⟩
  | 36 => ⟨S1024, .f32⟩
  | 37 => ⟨S_, .f32⟩
  | 38 => ⟨S1024, .f32⟩
  | 39 => ⟨S1024, .f32⟩
  | 40 => ⟨S_, .f32⟩
  | 41 => ⟨S1024, .f32⟩
  | 42 => ⟨S1024, .f32⟩
  | 43 => ⟨S1024, .f32⟩
  | 44 => ⟨S_, .f32⟩
  | 45 => ⟨S1024, .f32⟩
  | 46 => ⟨S1024, .f32⟩
  | 47 => ⟨S1024, .f32⟩
  | 48 => ⟨S_, .f32⟩
  | 49 => ⟨S1024, .f32⟩
  | 50 => ⟨S1024, .f32⟩
  | 51 => ⟨S1024, .f32⟩
  | 52 => ⟨S_, .f32⟩
  | 53 => ⟨S1024, .f32⟩
  | 54 => ⟨S1024, .f32⟩
  | 55 => ⟨S_, .f32⟩
  | 56 => ⟨S2816, .f32⟩
  | 57 => ⟨S2816, .f32⟩
  | 58 => ⟨S_, .f32⟩
  | 59 => ⟨S2816, .f32⟩
  | 60 => ⟨S2816, .f32⟩
  | 61 => ⟨S2816, .f32⟩
  | 62 => ⟨S_, .f32⟩
  | 63 => ⟨S2816, .f32⟩
  | 64 => ⟨S2816, .f32⟩
  | 65 => ⟨S2816, .f32⟩
  | 66 => ⟨S_, .f32⟩
  | 67 => ⟨S2816, .f32⟩
  | 68 => ⟨S2816, .f32⟩
  | 69 => ⟨S2816, .f32⟩
  | 70 => ⟨S_, .f32⟩
  | 71 => ⟨S2816, .f32⟩
  | 72 => ⟨S2816, .f32⟩
  | 73 => ⟨S_, .f32⟩
  | 74 => ⟨S2816, .f32⟩
  | 75 => ⟨S2816, .f32⟩
  | 76 => ⟨S2816, .f32⟩
  | 77 => ⟨S_, .f32⟩
  | 78 => ⟨S2816, .f32⟩
  | 79 => ⟨S2816, .f32⟩
  | 80 => ⟨S2816, .f32⟩
  | 81 => ⟨S_, .f32⟩
  | 82 => ⟨S2816, .f32⟩
  | 83 => ⟨S2816, .f32⟩
  | 84 => ⟨S2816, .f32⟩
  | 85 => ⟨S_, .f32⟩
  | 86 => ⟨S2816, .f32⟩
  | 87 => ⟨S2816, .f32⟩
  | 88 => ⟨S_, .f32⟩
  | 89 => ⟨S1024, .f32⟩
  | 90 => ⟨S1024, .f32⟩
  | 91 => ⟨S_, .f32⟩
  | 92 => ⟨S1024, .f32⟩
  | 93 => ⟨S1024, .f32⟩
  | 94 => ⟨S1024, .f32⟩
  | 95 => ⟨S_, .f32⟩
  | 96 => ⟨S1024, .f32⟩
  | 97 => ⟨S1024, .f32⟩
  | 98 => ⟨S1024, .f32⟩
  | 99 => ⟨S_, .f32⟩
  | 100 => ⟨S1024, .f32⟩
  | 101 => ⟨S1024, .f32⟩
  | 102 => ⟨S1024, .f32⟩
  | 103 => ⟨S_, .f32⟩
  | 104 => ⟨S1024, .f32⟩
  | 105 => ⟨S1024, .f32⟩
  | 106 => ⟨S_, .f32⟩
  | 107 => ⟨S1024, .f32⟩
  | 108 => ⟨S1024, .f32⟩
  | 109 => ⟨S1024, .f32⟩
  | 110 => ⟨S_, .f32⟩
  | 111 => ⟨S1024, .f32⟩
  | 112 => ⟨S1024, .f32⟩
  | 113 => ⟨S1024, .f32⟩
  | 114 => ⟨S_, .f32⟩
  | 115 => ⟨S1024, .f32⟩
  | 116 => ⟨S1024, .f32⟩
  | 117 => ⟨S1024, .f32⟩
  | 118 => ⟨S_, .f32⟩
  | 119 => ⟨S1024, .f32⟩
  | 120 => ⟨S1024, .f32⟩
  | 121 => ⟨S_, .f32⟩
  | 122 => ⟨S1024, .f32⟩
  | 123 => ⟨S1024, .f32⟩
  | 124 => ⟨S_, .f32⟩
  | 125 => ⟨S1024, .f32⟩
  | 126 => ⟨S1024, .f32⟩
  | 127 => ⟨S1024, .f32⟩
  | _ => ⟨S4x320, .f32⟩

abbrev hbmTy0_5 (i : Nat) : BufTy := match i % 128 with
  | 0 => ⟨S_, .f32⟩
  | 1 => ⟨S1024, .f32⟩
  | 2 => ⟨S1024, .f32⟩
  | 3 => ⟨S1024, .f32⟩
  | 4 => ⟨S_, .f32⟩
  | 5 => ⟨S1024, .f32⟩
  | 6 => ⟨S1024, .f32⟩
  | 7 => ⟨S1024, .f32⟩
  | 8 => ⟨S_, .f32⟩
  | 9 => ⟨S1024, .f32⟩
  | 10 => ⟨S1024, .f32⟩
  | 11 => ⟨S_, .f32⟩
  | 12 => ⟨S1024, .f32⟩
  | 13 => ⟨S1024, .f32⟩
  | 14 => ⟨S1024, .f32⟩
  | 15 => ⟨S_, .f32⟩
  | 16 => ⟨S1024, .f32⟩
  | 17 => ⟨S1024, .f32⟩
  | 18 => ⟨S1024, .f32⟩
  | 19 => ⟨S_, .f32⟩
  | 20 => ⟨S1024, .f32⟩
  | 21 => ⟨S1024, .f32⟩
  | 22 => ⟨S1024, .f32⟩
  | 23 => ⟨S_, .f32⟩
  | 24 => ⟨S1024, .f32⟩
  | 25 => ⟨S1024, .f32⟩
  | 26 => ⟨S1280, .f32⟩
  | 27 => ⟨S4096, .f32⟩
  | 28 => ⟨S2112, .f32⟩
  | 29 => ⟨S102400, .f32⟩
  | 30 => ⟨S102400, .f32⟩
  | 31 => ⟨S_, .i32⟩
  | 32 => ⟨S_, .f32⟩
  | 33 => ⟨S2048, .f32⟩
  | 34 => ⟨S16x128, .f32⟩
  | 35 => ⟨S_, .i32⟩
  | 36 => ⟨S_, .f32⟩
  | 37 => ⟨S4096, .f32⟩
  | 38 => ⟨S32x128, .f32⟩
  | 39 => ⟨S_, .i32⟩
  | 40 => ⟨S_, .f32⟩
  | 41 => ⟨S3072, .f32⟩
  | 42 => ⟨S24x128, .f32⟩
  | 43 => ⟨S_, .i32⟩
  | 44 => ⟨S_, .f32⟩
  | 45 => ⟨S6144, .f32⟩
  | 46 => ⟨S48x128, .f32⟩
  | 47 => ⟨S_, .i32⟩
  | 48 => ⟨S_, .f32⟩
  | 49 => ⟨S2048, .f32⟩
  | 50 => ⟨S16x128, .f32⟩
  | 51 => ⟨S_, .i32⟩
  | 52 => ⟨S_, .f32⟩
  | 53 => ⟨S102400, .f32⟩
  | 54 => ⟨S800x128, .f32⟩
  | 55 => ⟨S_, .i32⟩
  | 56 => ⟨S_, .f32⟩
  | 57 => ⟨S2048, .f32⟩
  | 58 => ⟨S16x128, .f32⟩
  | 59 => ⟨S_, .i32⟩
  | 60 => ⟨S_, .f32⟩
  | 61 => ⟨S102400, .f32⟩
  | 62 => ⟨S800x128, .f32⟩
  | 63 => ⟨S_, .i32⟩
  | 64 => ⟨S_, .f32⟩
  | 65 => ⟨S2048, .f32⟩
  | 66 => ⟨S16x128, .f32⟩
  | 67 => ⟨S_, .i32⟩
  | 68 => ⟨S_, .f32⟩
  | 69 => ⟨S2048, .f32⟩
  | 70 => ⟨S16x128, .f32⟩
  | 71 => ⟨S_, .i32⟩
  | 72 => ⟨S_, .f32⟩
  | 73 => ⟨S1024, .f32⟩
  | 74 => ⟨S8x128, .f32⟩
  | 75 => ⟨S_, .i32⟩
  | 76 => ⟨S_, .f32⟩
  | 77 => ⟨S1024, .f32⟩
  | 78 => ⟨S8x128, .f32⟩
  | 79 => ⟨S_, .i32⟩
  | 80 => ⟨S_, .f32⟩
  | 81 => ⟨S1024, .f32⟩
  | 82 => ⟨S8x128, .f32⟩
  | 83 => ⟨S_, .i32⟩
  | 84 => ⟨S_, .f32⟩
  | 85 => ⟨S1024, .f32⟩
  | 86 => ⟨S8x128, .f32⟩
  | 87 => ⟨S_, .i32⟩
  | 88 => ⟨S_, .f32⟩
  | 89 => ⟨S1024, .f32⟩
  | 90 => ⟨S8x128, .f32⟩
  | 91 => ⟨S_, .i32⟩
  | 92 => ⟨S_, .f32⟩
  | 93 => ⟨S3072, .f32⟩
  | 94 => ⟨S24x128, .f32⟩
  | 95 => ⟨S_, .i32⟩
  | 96 => ⟨S_, .f32⟩
  | 97 => ⟨S1024, .f32⟩
  | 98 => ⟨S8x128, .f32⟩
  | 99 => ⟨S_, .i32⟩
  | 100 => ⟨S_, .f32⟩
  | 101 => ⟨S1024, .f32⟩
  | 102 => ⟨S8x128, .f32⟩
  | 103 => ⟨S_, .f32⟩
  | 104 => ⟨S56x128, .f32⟩
  | 105 => ⟨S1848x128, .f32⟩
  | 106 => ⟨S72x128, .f32⟩
  | 107 => ⟨S1920x128, .f32⟩
  | 108 => ⟨S1280, .f32⟩
  | 109 => ⟨S4096, .f32⟩
  | 110 => ⟨S2112, .f32⟩
  | 111 => ⟨S102400, .f32⟩
  | 112 => ⟨S102400, .f32⟩
  | 113 => ⟨S_, .i32⟩
  | 114 => ⟨S_, .f32⟩
  | 115 => ⟨S2048, .f32⟩
  | 116 => ⟨S16x128, .f32⟩
  | 117 => ⟨S_, .i32⟩
  | 118 => ⟨S_, .f32⟩
  | 119 => ⟨S4096, .f32⟩
  | 120 => ⟨S32x128, .f32⟩
  | 121 => ⟨S_, .i32⟩
  | 122 => ⟨S_, .f32⟩
  | 123 => ⟨S3072, .f32⟩
  | 124 => ⟨S24x128, .f32⟩
  | 125 => ⟨S_, .i32⟩
  | 126 => ⟨S_, .f32⟩
  | 127 => ⟨S6144, .f32⟩
  | _ => ⟨S4x320, .f32⟩

abbrev hbmTy0_6 (i : Nat) : BufTy := match i % 128 with
  | 0 => ⟨S48x128, .f32⟩
  | 1 => ⟨S_, .i32⟩
  | 2 => ⟨S_, .f32⟩
  | 3 => ⟨S2048, .f32⟩
  | 4 => ⟨S16x128, .f32⟩
  | 5 => ⟨S_, .i32⟩
  | 6 => ⟨S_, .f32⟩
  | 7 => ⟨S102400, .f32⟩
  | 8 => ⟨S800x128, .f32⟩
  | 9 => ⟨S_, .i32⟩
  | 10 => ⟨S_, .f32⟩
  | 11 => ⟨S2048, .f32⟩
  | 12 => ⟨S16x128, .f32⟩
  | 13 => ⟨S_, .i32⟩
  | 14 => ⟨S_, .f32⟩
  | 15 => ⟨S102400, .f32⟩
  | 16 => ⟨S800x128, .f32⟩
  | 17 => ⟨S_, .i32⟩
  | 18 => ⟨S_, .f32⟩
  | 19 => ⟨S2048, .f32⟩
  | 20 => ⟨S16x128, .f32⟩
  | 21 => ⟨S_, .i32⟩
  | 22 => ⟨S_, .f32⟩
  | 23 => ⟨S2048, .f32⟩
  | 24 => ⟨S16x128, .f32⟩
  | 25 => ⟨S_, .i32⟩
  | 26 => ⟨S_, .f32⟩
  | 27 => ⟨S1024, .f32⟩
  | 28 => ⟨S8x128, .f32⟩
  | 29 => ⟨S_, .i32⟩
  | 30 => ⟨S_, .f32⟩
  | 31 => ⟨S1024, .f32⟩
  | 32 => ⟨S8x128, .f32⟩
  | 33 => ⟨S_, .i32⟩
  | 34 => ⟨S_, .f32⟩
  | 35 => ⟨S1024, .f32⟩
  | 36 => ⟨S8x128, .f32⟩
  | 37 => ⟨S_, .i32⟩
  | 38 => ⟨S_, .f32⟩
  | 39 => ⟨S1024, .f32⟩
  | 40 => ⟨S8x128, .f32⟩
  | 41 => ⟨S_, .i32⟩
  | 42 => ⟨S_, .f32⟩
  | 43 => ⟨S1024, .f32⟩
  | 44 => ⟨S8x128, .f32⟩
  | 45 => ⟨S_, .i32⟩
  | 46 => ⟨S_, .f32⟩
  | 47 => ⟨S3072, .f32⟩
  | 48 => ⟨S24x128, .f32⟩
  | 49 => ⟨S_, .i32⟩
  | 50 => ⟨S_, .f32⟩
  | 51 => ⟨S1024, .f32⟩
  | 52 => ⟨S8x128, .f32⟩
  | 53 => ⟨S_, .i32⟩
  | 54 => ⟨S_, .f32⟩
  | 55 => ⟨S1024, .f32⟩
  | 56 => ⟨S8x128, .f32⟩
  | 57 => ⟨S_, .f32⟩
  | 58 => ⟨S56x128, .f32⟩
  | 59 => ⟨S1848x128, .f32⟩
  | 60 => ⟨S72x128, .f32⟩
  | 61 => ⟨S1920x128, .f32⟩
  | 62 => ⟨S1280, .f32⟩
  | 63 => ⟨S4096, .f32⟩
  | 64 => ⟨S2112, .f32⟩
  | 65 => ⟨S102400, .f32⟩
  | 66 => ⟨S102400, .f32⟩
  | 67 => ⟨S_, .i32⟩
  | 68 => ⟨S_, .f32⟩
  | 69 => ⟨S2048, .f32⟩
  | 70 => ⟨S16x128, .f32⟩
  | 71 => ⟨S_, .i32⟩
  | 72 => ⟨S_, .f32⟩
  | 73 => ⟨S4096, .f32⟩
  | 74 => ⟨S32x128, .f32⟩
  | 75 => ⟨S_, .i32⟩
  | 76 => ⟨S_, .f32⟩
  | 77 => ⟨S3072, .f32⟩
  | 78 => ⟨S24x128, .f32⟩
  | 79 => ⟨S_, .i32⟩
  | 80 => ⟨S_, .f32⟩
  | 81 => ⟨S6144, .f32⟩
  | 82 => ⟨S48x128, .f32⟩
  | 83 => ⟨S_, .i32⟩
  | 84 => ⟨S_, .f32⟩
  | 85 => ⟨S2048, .f32⟩
  | 86 => ⟨S16x128, .f32⟩
  | 87 => ⟨S_, .i32⟩
  | 88 => ⟨S_, .f32⟩
  | 89 => ⟨S102400, .f32⟩
  | 90 => ⟨S800x128, .f32⟩
  | 91 => ⟨S_, .i32⟩
  | 92 => ⟨S_, .f32⟩
  | 93 => ⟨S2048, .f32⟩
  | 94 => ⟨S16x128, .f32⟩
  | 95 => ⟨S_, .i32⟩
  | 96 => ⟨S_, .f32⟩
  | 97 => ⟨S102400, .f32⟩
  | 98 => ⟨S800x128, .f32⟩
  | 99 => ⟨S_, .i32⟩
  | 100 => ⟨S_, .f32⟩
  | 101 => ⟨S2048, .f32⟩
  | 102 => ⟨S16x128, .f32⟩
  | 103 => ⟨S_, .i32⟩
  | 104 => ⟨S_, .f32⟩
  | 105 => ⟨S2048, .f32⟩
  | 106 => ⟨S16x128, .f32⟩
  | 107 => ⟨S_, .i32⟩
  | 108 => ⟨S_, .f32⟩
  | 109 => ⟨S1024, .f32⟩
  | 110 => ⟨S8x128, .f32⟩
  | 111 => ⟨S_, .i32⟩
  | 112 => ⟨S_, .f32⟩
  | 113 => ⟨S1024, .f32⟩
  | 114 => ⟨S8x128, .f32⟩
  | 115 => ⟨S_, .i32⟩
  | 116 => ⟨S_, .f32⟩
  | 117 => ⟨S1024, .f32⟩
  | 118 => ⟨S8x128, .f32⟩
  | 119 => ⟨S_, .i32⟩
  | 120 => ⟨S_, .f32⟩
  | 121 => ⟨S1024, .f32⟩
  | 122 => ⟨S8x128, .f32⟩
  | 123 => ⟨S_, .i32⟩
  | 124 => ⟨S_, .f32⟩
  | 125 => ⟨S1024, .f32⟩
  | 126 => ⟨S8x128, .f32⟩
  | 127 => ⟨S_, .i32⟩
  | _ => ⟨S4x320, .f32⟩

abbrev hbmTy0_7 (i : Nat) : BufTy := match i % 128 with
  | 0 => ⟨S_, .f32⟩
  | 1 => ⟨S3072, .f32⟩
  | 2 => ⟨S24x128, .f32⟩
  | 3 => ⟨S_, .i32⟩
  | 4 => ⟨S_, .f32⟩
  | 5 => ⟨S1024, .f32⟩
  | 6 => ⟨S8x128, .f32⟩
  | 7 => ⟨S_, .i32⟩
  | 8 => ⟨S_, .f32⟩
  | 9 => ⟨S1024, .f32⟩
  | 10 => ⟨S8x128, .f32⟩
  | 11 => ⟨S_, .f32⟩
  | 12 => ⟨S56x128, .f32⟩
  | 13 => ⟨S1848x128, .f32⟩
  | 14 => ⟨S72x128, .f32⟩
  | 15 => ⟨S1920x128, .f32⟩
  | 16 => ⟨S1280, .f32⟩
  | 17 => ⟨S4096, .f32⟩
  | 18 => ⟨S2112, .f32⟩
  | 19 => ⟨S102400, .f32⟩
  | 20 => ⟨S102400, .f32⟩
  | 21 => ⟨S_, .i32⟩
  | 22 => ⟨S_, .f32⟩
  | 23 => ⟨S2048, .f32⟩
  | 24 => ⟨S16x128, .f32⟩
  | 25 => ⟨S_, .i32⟩
  | 26 => ⟨S_, .f32⟩
  | 27 => ⟨S4096, .f32⟩
  | 28 => ⟨S32x128, .f32⟩
  | 29 => ⟨S_, .i32⟩
  | 30 => ⟨S_, .f32⟩
  | 31 => ⟨S3072, .f32⟩
  | 32 => ⟨S24x128, .f32⟩
  | 33 => ⟨S_, .i32⟩
  | 34 => ⟨S_, .f32⟩
  | 35 => ⟨S6144, .f32⟩
  | 36 => ⟨S48x128, .f32⟩
  | 37 => ⟨S_, .i32⟩
  | 38 => ⟨S_, .f32⟩
  | 39 => ⟨S2048, .f32⟩
  | 40 => ⟨S16x128, .f32⟩
  | 41 => ⟨S_, .i32⟩
  | 42 => ⟨S_, .f32⟩
  | 43 => ⟨S102400, .f32⟩
  | 44 => ⟨S800x128, .f32⟩
  | 45 => ⟨S_, .i32⟩
  | 46 => ⟨S_, .f32⟩
  | 47 => ⟨S2048, .f32⟩
  | 48 => ⟨S16x128, .f32⟩
  | 49 => ⟨S_, .i32⟩
  | 50 => ⟨S_, .f32⟩
  | 51 => ⟨S102400, .f32⟩
  | 52 => ⟨S800x128, .f32⟩
  | 53 => ⟨S_, .i32⟩
  | 54 => ⟨S_, .f32⟩
  | 55 => ⟨S2048, .f32⟩
  | 56 => ⟨S16x128, .f32⟩
  | 57 => ⟨S_, .i32⟩
  | 58 => ⟨S_, .f32⟩
  | 59 => ⟨S2048, .f32⟩
  | 60 => ⟨S16x128, .f32⟩
  | 61 => ⟨S_, .i32⟩
  | 62 => ⟨S_, .f32⟩
  | 63 => ⟨S1024, .f32⟩
  | 64 => ⟨S8x128, .f32⟩
  | 65 => ⟨S_, .i32⟩
  | 66 => ⟨S_, .f32⟩
  | 67 => ⟨S1024, .f32⟩
  | 68 => ⟨S8x128, .f32⟩
  | 69 => ⟨S_, .i32⟩
  | 70 => ⟨S_, .f32⟩
  | 71 => ⟨S1024, .f32⟩
  | 72 => ⟨S8x128, .f32⟩
  | 73 => ⟨S_, .i32⟩
  | 74 => ⟨S_, .f32⟩
  | 75 => ⟨S1024, .f32⟩
  | 76 => ⟨S8x128, .f32⟩
  | 77 => ⟨S_, .i32⟩
  | 78 => ⟨S_, .f32⟩
  | 79 => ⟨S1024, .f32⟩
  | 80 => ⟨S8x128, .f32⟩
  | 81 => ⟨S_, .i32⟩
  | 82 => ⟨S_, .f32⟩
  | 83 => ⟨S3072, .f32⟩
  | 84 => ⟨S24x128, .f32⟩
  | 85 => ⟨S_, .i32⟩
  | 86 => ⟨S_, .f32⟩
  | 87 => ⟨S1024, .f32⟩
  | 88 => ⟨S8x128, .f32⟩
  | 89 => ⟨S_, .i32⟩
  | 90 => ⟨S_, .f32⟩
  | 91 => ⟨S1024, .f32⟩
  | 92 => ⟨S8x128, .f32⟩
  | 93 => ⟨S_, .f32⟩
  | 94 => ⟨S56x128, .f32⟩
  | 95 => ⟨S1848x128, .f32⟩
  | 96 => ⟨S72x128, .f32⟩
  | 97 => ⟨S1920x128, .f32⟩
  | _ => ⟨S4x320, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4x320, .f32⟩

abbrev bufTy : (tb : Table) → Fin (tcTables nBuf tb) → BufTy
  | .hbm, ⟨i, _⟩ => hbmTy i
  | _, _ => ⟨S4x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_cst : Ref sig .tc := ⟨.hbm, 72, rfl⟩
abbrev main_v0 : Ref sig .tc := ⟨.hbm, 73, rfl⟩
abbrev main_v1 : Ref sig .tc := ⟨.hbm, 74, rfl⟩
abbrev main_cst_0 : Ref sig .tc := ⟨.hbm, 75, rfl⟩
abbrev main_v2 : Ref sig .tc := ⟨.hbm, 76, rfl⟩
abbrev main_v3 : Ref sig .tc := ⟨.hbm, 77, rfl⟩
abbrev main_v4 : Ref sig .tc := ⟨.hbm, 78, rfl⟩
abbrev main_cst_1 : Ref sig .tc := ⟨.hbm, 79, rfl⟩
abbrev main_v5 : Ref sig .tc := ⟨.hbm, 80, rfl⟩
abbrev main_v6 : Ref sig .tc := ⟨.hbm, 81, rfl⟩
abbrev main_v7 : Ref sig .tc := ⟨.hbm, 82, rfl⟩
abbrev main_cst_2 : Ref sig .tc := ⟨.hbm, 83, rfl⟩
abbrev main_v8 : Ref sig .tc := ⟨.hbm, 84, rfl⟩
abbrev main_v9 : Ref sig .tc := ⟨.hbm, 85, rfl⟩
abbrev main_v10 : Ref sig .tc := ⟨.hbm, 86, rfl⟩
abbrev main_cst_3 : Ref sig .tc := ⟨.hbm, 87, rfl⟩
abbrev main_v11 : Ref sig .tc := ⟨.hbm, 88, rfl⟩
abbrev main_v12 : Ref sig .tc := ⟨.hbm, 89, rfl⟩
abbrev main_cst_4 : Ref sig .tc := ⟨.hbm, 90, rfl⟩
abbrev main_v13 : Ref sig .tc := ⟨.hbm, 91, rfl⟩
abbrev main_v14 : Ref sig .tc := ⟨.hbm, 92, rfl⟩
abbrev main_v15 : Ref sig .tc := ⟨.hbm, 93, rfl⟩
abbrev main_cst_5 : Ref sig .tc := ⟨.hbm, 94, rfl⟩
abbrev main_v16 : Ref sig .tc := ⟨.hbm, 95, rfl⟩
abbrev main_v17 : Ref sig .tc := ⟨.hbm, 96, rfl⟩
abbrev main_v18 : Ref sig .tc := ⟨.hbm, 97, rfl⟩
abbrev main_cst_6 : Ref sig .tc := ⟨.hbm, 98, rfl⟩
abbrev main_v19 : Ref sig .tc := ⟨.hbm, 99, rfl⟩
abbrev main_v20 : Ref sig .tc := ⟨.hbm, 100, rfl⟩
abbrev main_v21 : Ref sig .tc := ⟨.hbm, 101, rfl⟩
abbrev main_cst_7 : Ref sig .tc := ⟨.hbm, 102, rfl⟩
abbrev main_v22 : Ref sig .tc := ⟨.hbm, 103, rfl⟩
abbrev main_v23 : Ref sig .tc := ⟨.hbm, 104, rfl⟩
abbrev main_cst_8 : Ref sig .tc := ⟨.hbm, 105, rfl⟩
abbrev main_v24 : Ref sig .tc := ⟨.hbm, 106, rfl⟩
abbrev main_v25 : Ref sig .tc := ⟨.hbm, 107, rfl⟩
abbrev main_cst_9 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_cst_10 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_cst_11 : Ref sig .tc := ⟨.hbm, 116, rfl⟩
abbrev main_v32 : Ref sig .tc := ⟨.hbm, 117, rfl⟩
abbrev main_v33 : Ref sig .tc := ⟨.hbm, 118, rfl⟩
abbrev main_v34 : Ref sig .tc := ⟨.hbm, 119, rfl⟩
abbrev main_cst_12 : Ref sig .tc := ⟨.hbm, 120, rfl⟩
abbrev main_v35 : Ref sig .tc := ⟨.hbm, 121, rfl⟩
abbrev main_v36 : Ref sig .tc := ⟨.hbm, 122, rfl⟩
abbrev main_cst_13 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_cst_14 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_cst_15 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_cst_16 : Ref sig .tc := ⟨.hbm, 135, rfl⟩
abbrev main_v46 : Ref sig .tc := ⟨.hbm, 136, rfl⟩
abbrev main_v47 : Ref sig .tc := ⟨.hbm, 137, rfl⟩
abbrev main_cst_17 : Ref sig .tc := ⟨.hbm, 138, rfl⟩
abbrev main_v48 : Ref sig .tc := ⟨.hbm, 139, rfl⟩
abbrev main_v49 : Ref sig .tc := ⟨.hbm, 140, rfl⟩
abbrev main_cst_18 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_cst_19 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_cst_20 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_cst_21 : Ref sig .tc := ⟨.hbm, 153, rfl⟩
abbrev main_v59 : Ref sig .tc := ⟨.hbm, 154, rfl⟩
abbrev main_v60 : Ref sig .tc := ⟨.hbm, 155, rfl⟩
abbrev main_cst_22 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_cst_23 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_cst_24 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_cst_25 : Ref sig .tc := ⟨.hbm, 168, rfl⟩
abbrev main_v70 : Ref sig .tc := ⟨.hbm, 169, rfl⟩
abbrev main_v71 : Ref sig .tc := ⟨.hbm, 170, rfl⟩
abbrev main_cst_26 : Ref sig .tc := ⟨.hbm, 171, rfl⟩
abbrev main_v72 : Ref sig .tc := ⟨.hbm, 172, rfl⟩
abbrev main_v73 : Ref sig .tc := ⟨.hbm, 173, rfl⟩
abbrev main_cst_27 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_cst_28 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_cst_29 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_cst_30 : Ref sig .tc := ⟨.hbm, 186, rfl⟩
abbrev main_v83 : Ref sig .tc := ⟨.hbm, 187, rfl⟩
abbrev main_v84 : Ref sig .tc := ⟨.hbm, 188, rfl⟩
abbrev main_cst_31 : Ref sig .tc := ⟨.hbm, 189, rfl⟩
abbrev main_v85 : Ref sig .tc := ⟨.hbm, 190, rfl⟩
abbrev main_v86 : Ref sig .tc := ⟨.hbm, 191, rfl⟩
abbrev main_v87 : Ref sig .tc := ⟨.hbm, 192, rfl⟩
abbrev main_cst_32 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_cst_33 : Ref sig .tc := ⟨.hbm, 197, rfl⟩
abbrev main_v91 : Ref sig .tc := ⟨.hbm, 198, rfl⟩
abbrev main_v92 : Ref sig .tc := ⟨.hbm, 199, rfl⟩
abbrev main_v93 : Ref sig .tc := ⟨.hbm, 200, rfl⟩
abbrev main_cst_34 : Ref sig .tc := ⟨.hbm, 201, rfl⟩
abbrev main_v94 : Ref sig .tc := ⟨.hbm, 202, rfl⟩
abbrev main_v95 : Ref sig .tc := ⟨.hbm, 203, rfl⟩
abbrev main_cst_35 : Ref sig .tc := ⟨.hbm, 204, rfl⟩
abbrev main_v96 : Ref sig .tc := ⟨.hbm, 205, rfl⟩
abbrev main_v97 : Ref sig .tc := ⟨.hbm, 206, rfl⟩
abbrev main_cst_36 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_cst_37 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_cst_38 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_cst_39 : Ref sig .tc := ⟨.hbm, 219, rfl⟩
abbrev main_v107 : Ref sig .tc := ⟨.hbm, 220, rfl⟩
abbrev main_v108 : Ref sig .tc := ⟨.hbm, 221, rfl⟩
abbrev main_cst_40 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩
abbrev main_cst_41 : Ref sig .tc := ⟨.hbm, 226, rfl⟩
abbrev main_v112 : Ref sig .tc := ⟨.hbm, 227, rfl⟩
abbrev main_v113 : Ref sig .tc := ⟨.hbm, 228, rfl⟩
abbrev main_v114 : Ref sig .tc := ⟨.hbm, 229, rfl⟩
abbrev main_cst_42 : Ref sig .tc := ⟨.hbm, 230, rfl⟩
abbrev main_v115 : Ref sig .tc := ⟨.hbm, 231, rfl⟩
abbrev main_v116 : Ref sig .tc := ⟨.hbm, 232, rfl⟩
abbrev main_v117 : Ref sig .tc := ⟨.hbm, 233, rfl⟩
abbrev main_cst_43 : Ref sig .tc := ⟨.hbm, 234, rfl⟩
abbrev main_v118 : Ref sig .tc := ⟨.hbm, 235, rfl⟩
abbrev main_v119 : Ref sig .tc := ⟨.hbm, 236, rfl⟩
abbrev main_cst_44 : Ref sig .tc := ⟨.hbm, 237, rfl⟩
abbrev main_v120 : Ref sig .tc := ⟨.hbm, 238, rfl⟩
abbrev main_v121 : Ref sig .tc := ⟨.hbm, 239, rfl⟩
abbrev main_cst_45 : Ref sig .tc := ⟨.hbm, 240, rfl⟩
abbrev main_v122 : Ref sig .tc := ⟨.hbm, 241, rfl⟩
abbrev main_v123 : Ref sig .tc := ⟨.hbm, 242, rfl⟩
abbrev main_v124 : Ref sig .tc := ⟨.hbm, 243, rfl⟩
abbrev main_cst_46 : Ref sig .tc := ⟨.hbm, 244, rfl⟩
abbrev main_v125 : Ref sig .tc := ⟨.hbm, 245, rfl⟩
abbrev main_v126 : Ref sig .tc := ⟨.hbm, 246, rfl⟩
abbrev main_v127 : Ref sig .tc := ⟨.hbm, 247, rfl⟩
abbrev main_cst_47 : Ref sig .tc := ⟨.hbm, 248, rfl⟩
abbrev main_v128 : Ref sig .tc := ⟨.hbm, 249, rfl⟩
abbrev main_v129 : Ref sig .tc := ⟨.hbm, 250, rfl⟩
abbrev main_v130 : Ref sig .tc := ⟨.hbm, 251, rfl⟩
abbrev main_cst_48 : Ref sig .tc := ⟨.hbm, 252, rfl⟩
abbrev main_v131 : Ref sig .tc := ⟨.hbm, 253, rfl⟩
abbrev main_v132 : Ref sig .tc := ⟨.hbm, 254, rfl⟩
abbrev main_cst_49 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_cst_50 : Ref sig .tc := ⟨.hbm, 259, rfl⟩
abbrev main_v136 : Ref sig .tc := ⟨.hbm, 260, rfl⟩
abbrev main_v137 : Ref sig .tc := ⟨.hbm, 261, rfl⟩
abbrev main_v138 : Ref sig .tc := ⟨.hbm, 262, rfl⟩
abbrev main_cst_51 : Ref sig .tc := ⟨.hbm, 263, rfl⟩
abbrev main_v139 : Ref sig .tc := ⟨.hbm, 264, rfl⟩
abbrev main_v140 : Ref sig .tc := ⟨.hbm, 265, rfl⟩
abbrev main_v141 : Ref sig .tc := ⟨.hbm, 266, rfl⟩
abbrev main_cst_52 : Ref sig .tc := ⟨.hbm, 267, rfl⟩
abbrev main_v142 : Ref sig .tc := ⟨.hbm, 268, rfl⟩
abbrev main_v143 : Ref sig .tc := ⟨.hbm, 269, rfl⟩
abbrev main_cst_53 : Ref sig .tc := ⟨.hbm, 270, rfl⟩
abbrev main_v144 : Ref sig .tc := ⟨.hbm, 271, rfl⟩
abbrev main_v145 : Ref sig .tc := ⟨.hbm, 272, rfl⟩
abbrev main_cst_54 : Ref sig .tc := ⟨.hbm, 273, rfl⟩
abbrev main_v146 : Ref sig .tc := ⟨.hbm, 274, rfl⟩
abbrev main_v147 : Ref sig .tc := ⟨.hbm, 275, rfl⟩
abbrev main_v148 : Ref sig .tc := ⟨.hbm, 276, rfl⟩
abbrev main_cst_55 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_cst_56 : Ref sig .tc := ⟨.hbm, 281, rfl⟩
abbrev main_v152 : Ref sig .tc := ⟨.hbm, 282, rfl⟩
abbrev main_v153 : Ref sig .tc := ⟨.hbm, 283, rfl⟩
abbrev main_v154 : Ref sig .tc := ⟨.hbm, 284, rfl⟩
abbrev main_cst_57 : Ref sig .tc := ⟨.hbm, 285, rfl⟩
abbrev main_v155 : Ref sig .tc := ⟨.hbm, 286, rfl⟩
abbrev main_v156 : Ref sig .tc := ⟨.hbm, 287, rfl⟩
abbrev main_cst_58 : Ref sig .tc := ⟨.hbm, 288, rfl⟩
abbrev main_v157 : Ref sig .tc := ⟨.hbm, 289, rfl⟩
abbrev main_v158 : Ref sig .tc := ⟨.hbm, 290, rfl⟩
abbrev main_v159 : Ref sig .tc := ⟨.hbm, 291, rfl⟩
abbrev main_cst_59 : Ref sig .tc := ⟨.hbm, 292, rfl⟩
abbrev main_v160 : Ref sig .tc := ⟨.hbm, 293, rfl⟩
abbrev main_v161 : Ref sig .tc := ⟨.hbm, 294, rfl⟩
abbrev main_v162 : Ref sig .tc := ⟨.hbm, 295, rfl⟩
abbrev main_cst_60 : Ref sig .tc := ⟨.hbm, 296, rfl⟩
abbrev main_v163 : Ref sig .tc := ⟨.hbm, 297, rfl⟩
abbrev main_v164 : Ref sig .tc := ⟨.hbm, 298, rfl⟩
abbrev main_v165 : Ref sig .tc := ⟨.hbm, 299, rfl⟩
abbrev main_cst_61 : Ref sig .tc := ⟨.hbm, 300, rfl⟩
abbrev main_v166 : Ref sig .tc := ⟨.hbm, 301, rfl⟩
abbrev main_v167 : Ref sig .tc := ⟨.hbm, 302, rfl⟩
abbrev main_cst_62 : Ref sig .tc := ⟨.hbm, 303, rfl⟩
abbrev main_v168 : Ref sig .tc := ⟨.hbm, 304, rfl⟩
abbrev main_v169 : Ref sig .tc := ⟨.hbm, 305, rfl⟩
abbrev main_cst_63 : Ref sig .tc := ⟨.hbm, 306, rfl⟩
abbrev main_v170 : Ref sig .tc := ⟨.hbm, 307, rfl⟩
abbrev main_v171 : Ref sig .tc := ⟨.hbm, 308, rfl⟩
abbrev main_v172 : Ref sig .tc := ⟨.hbm, 309, rfl⟩
abbrev main_cst_64 : Ref sig .tc := ⟨.hbm, 310, rfl⟩
abbrev main_v173 : Ref sig .tc := ⟨.hbm, 311, rfl⟩
abbrev main_v174 : Ref sig .tc := ⟨.hbm, 312, rfl⟩
abbrev main_v175 : Ref sig .tc := ⟨.hbm, 313, rfl⟩
abbrev main_cst_65 : Ref sig .tc := ⟨.hbm, 314, rfl⟩
abbrev main_v176 : Ref sig .tc := ⟨.hbm, 315, rfl⟩
abbrev main_v177 : Ref sig .tc := ⟨.hbm, 316, rfl⟩
abbrev main_v178 : Ref sig .tc := ⟨.hbm, 317, rfl⟩
abbrev main_cst_66 : Ref sig .tc := ⟨.hbm, 318, rfl⟩
abbrev main_v179 : Ref sig .tc := ⟨.hbm, 319, rfl⟩
abbrev main_v180 : Ref sig .tc := ⟨.hbm, 320, rfl⟩
abbrev main_cst_67 : Ref sig .tc := ⟨.hbm, 321, rfl⟩
abbrev main_v181 : Ref sig .tc := ⟨.hbm, 322, rfl⟩
abbrev main_v182 : Ref sig .tc := ⟨.hbm, 323, rfl⟩
abbrev main_v183 : Ref sig .tc := ⟨.hbm, 324, rfl⟩
abbrev main_cst_68 : Ref sig .tc := ⟨.hbm, 325, rfl⟩
abbrev main_v184 : Ref sig .tc := ⟨.hbm, 326, rfl⟩
abbrev main_v185 : Ref sig .tc := ⟨.hbm, 327, rfl⟩
abbrev main_v186 : Ref sig .tc := ⟨.hbm, 328, rfl⟩
abbrev main_cst_69 : Ref sig .tc := ⟨.hbm, 329, rfl⟩
abbrev main_v187 : Ref sig .tc := ⟨.hbm, 330, rfl⟩
abbrev main_v188 : Ref sig .tc := ⟨.hbm, 331, rfl⟩
abbrev main_v189 : Ref sig .tc := ⟨.hbm, 332, rfl⟩
abbrev main_cst_70 : Ref sig .tc := ⟨.hbm, 333, rfl⟩
abbrev main_v190 : Ref sig .tc := ⟨.hbm, 334, rfl⟩
abbrev main_v191 : Ref sig .tc := ⟨.hbm, 335, rfl⟩
abbrev main_cst_71 : Ref sig .tc := ⟨.hbm, 336, rfl⟩
abbrev main_v192 : Ref sig .tc := ⟨.hbm, 337, rfl⟩
abbrev main_v193 : Ref sig .tc := ⟨.hbm, 338, rfl⟩
abbrev main_cst_72 : Ref sig .tc := ⟨.hbm, 339, rfl⟩
abbrev main_v194 : Ref sig .tc := ⟨.hbm, 340, rfl⟩
abbrev main_v195 : Ref sig .tc := ⟨.hbm, 341, rfl⟩
abbrev main_v196 : Ref sig .tc := ⟨.hbm, 342, rfl⟩
abbrev main_cst_73 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_cst_74 : Ref sig .tc := ⟨.hbm, 347, rfl⟩
abbrev main_v200 : Ref sig .tc := ⟨.hbm, 348, rfl⟩
abbrev main_v201 : Ref sig .tc := ⟨.hbm, 349, rfl⟩
abbrev main_v202 : Ref sig .tc := ⟨.hbm, 350, rfl⟩
abbrev main_cst_75 : Ref sig .tc := ⟨.hbm, 351, rfl⟩
abbrev main_v203 : Ref sig .tc := ⟨.hbm, 352, rfl⟩
abbrev main_v204 : Ref sig .tc := ⟨.hbm, 353, rfl⟩
abbrev main_cst_76 : Ref sig .tc := ⟨.hbm, 354, rfl⟩
abbrev main_v205 : Ref sig .tc := ⟨.hbm, 355, rfl⟩
abbrev main_v206 : Ref sig .tc := ⟨.hbm, 356, rfl⟩
abbrev main_v207 : Ref sig .tc := ⟨.hbm, 357, rfl⟩
abbrev main_cst_77 : Ref sig .tc := ⟨.hbm, 358, rfl⟩
abbrev main_v208 : Ref sig .tc := ⟨.hbm, 359, rfl⟩
abbrev main_v209 : Ref sig .tc := ⟨.hbm, 360, rfl⟩
abbrev main_v210 : Ref sig .tc := ⟨.hbm, 361, rfl⟩
abbrev main_cst_78 : Ref sig .tc := ⟨.hbm, 362, rfl⟩
abbrev main_v211 : Ref sig .tc := ⟨.hbm, 363, rfl⟩
abbrev main_v212 : Ref sig .tc := ⟨.hbm, 364, rfl⟩
abbrev main_v213 : Ref sig .tc := ⟨.hbm, 365, rfl⟩
abbrev main_cst_79 : Ref sig .tc := ⟨.hbm, 366, rfl⟩
abbrev main_v214 : Ref sig .tc := ⟨.hbm, 367, rfl⟩
abbrev main_v215 : Ref sig .tc := ⟨.hbm, 368, rfl⟩
abbrev main_cst_80 : Ref sig .tc := ⟨.hbm, 369, rfl⟩
abbrev main_v216 : Ref sig .tc := ⟨.hbm, 370, rfl⟩
abbrev main_v217 : Ref sig .tc := ⟨.hbm, 371, rfl⟩
abbrev main_cst_81 : Ref sig .tc := ⟨.hbm, 372, rfl⟩
abbrev main_v218 : Ref sig .tc := ⟨.hbm, 373, rfl⟩
abbrev main_v219 : Ref sig .tc := ⟨.hbm, 374, rfl⟩
abbrev main_v220 : Ref sig .tc := ⟨.hbm, 375, rfl⟩
abbrev main_cst_82 : Ref sig .tc := ⟨.hbm, 376, rfl⟩
abbrev main_v221 : Ref sig .tc := ⟨.hbm, 377, rfl⟩
abbrev main_v222 : Ref sig .tc := ⟨.hbm, 378, rfl⟩
abbrev main_v223 : Ref sig .tc := ⟨.hbm, 379, rfl⟩
abbrev main_cst_83 : Ref sig .tc := ⟨.hbm, 380, rfl⟩
abbrev main_v224 : Ref sig .tc := ⟨.hbm, 381, rfl⟩
abbrev main_v225 : Ref sig .tc := ⟨.hbm, 382, rfl⟩
abbrev main_v226 : Ref sig .tc := ⟨.hbm, 383, rfl⟩
abbrev main_cst_84 : Ref sig .tc := ⟨.hbm, 384, rfl⟩
abbrev main_v227 : Ref sig .tc := ⟨.hbm, 385, rfl⟩
abbrev main_v228 : Ref sig .tc := ⟨.hbm, 386, rfl⟩
abbrev main_cst_85 : Ref sig .tc := ⟨.hbm, 387, rfl⟩
abbrev main_v229 : Ref sig .tc := ⟨.hbm, 388, rfl⟩
abbrev main_v230 : Ref sig .tc := ⟨.hbm, 389, rfl⟩
abbrev main_v231 : Ref sig .tc := ⟨.hbm, 390, rfl⟩
abbrev main_cst_86 : Ref sig .tc := ⟨.hbm, 391, rfl⟩
abbrev main_v232 : Ref sig .tc := ⟨.hbm, 392, rfl⟩
abbrev main_v233 : Ref sig .tc := ⟨.hbm, 393, rfl⟩
abbrev main_v234 : Ref sig .tc := ⟨.hbm, 394, rfl⟩
abbrev main_cst_87 : Ref sig .tc := ⟨.hbm, 395, rfl⟩
abbrev main_v235 : Ref sig .tc := ⟨.hbm, 396, rfl⟩
abbrev main_v236 : Ref sig .tc := ⟨.hbm, 397, rfl⟩
abbrev main_v237 : Ref sig .tc := ⟨.hbm, 398, rfl⟩
abbrev main_cst_88 : Ref sig .tc := ⟨.hbm, 399, rfl⟩
abbrev main_v238 : Ref sig .tc := ⟨.hbm, 400, rfl⟩
abbrev main_v239 : Ref sig .tc := ⟨.hbm, 401, rfl⟩
abbrev main_cst_89 : Ref sig .tc := ⟨.hbm, 402, rfl⟩
abbrev main_v240 : Ref sig .tc := ⟨.hbm, 403, rfl⟩
abbrev main_v241 : Ref sig .tc := ⟨.hbm, 404, rfl⟩
abbrev main_cst_90 : Ref sig .tc := ⟨.hbm, 405, rfl⟩
abbrev main_v242 : Ref sig .tc := ⟨.hbm, 406, rfl⟩
abbrev main_v243 : Ref sig .tc := ⟨.hbm, 407, rfl⟩
abbrev main_v244 : Ref sig .tc := ⟨.hbm, 408, rfl⟩
abbrev main_cst_91 : Ref sig .tc := ⟨.hbm, 409, rfl⟩
abbrev main_v245 : Ref sig .tc := ⟨.hbm, 410, rfl⟩
abbrev main_v246 : Ref sig .tc := ⟨.hbm, 411, rfl⟩
abbrev main_v247 : Ref sig .tc := ⟨.hbm, 412, rfl⟩
abbrev main_cst_92 : Ref sig .tc := ⟨.hbm, 413, rfl⟩
abbrev main_v248 : Ref sig .tc := ⟨.hbm, 414, rfl⟩
abbrev main_v249 : Ref sig .tc := ⟨.hbm, 415, rfl⟩
abbrev main_v250 : Ref sig .tc := ⟨.hbm, 416, rfl⟩
abbrev main_cst_93 : Ref sig .tc := ⟨.hbm, 417, rfl⟩
abbrev main_v251 : Ref sig .tc := ⟨.hbm, 418, rfl⟩
abbrev main_v252 : Ref sig .tc := ⟨.hbm, 419, rfl⟩
abbrev main_cst_94 : Ref sig .tc := ⟨.hbm, 420, rfl⟩
abbrev main_v253 : Ref sig .tc := ⟨.hbm, 421, rfl⟩
abbrev main_v254 : Ref sig .tc := ⟨.hbm, 422, rfl⟩
abbrev main_v255 : Ref sig .tc := ⟨.hbm, 423, rfl⟩
abbrev main_cst_95 : Ref sig .tc := ⟨.hbm, 424, rfl⟩
abbrev main_v256 : Ref sig .tc := ⟨.hbm, 425, rfl⟩
abbrev main_v257 : Ref sig .tc := ⟨.hbm, 426, rfl⟩
abbrev main_v258 : Ref sig .tc := ⟨.hbm, 427, rfl⟩
abbrev main_cst_96 : Ref sig .tc := ⟨.hbm, 428, rfl⟩
abbrev main_v259 : Ref sig .tc := ⟨.hbm, 429, rfl⟩
abbrev main_v260 : Ref sig .tc := ⟨.hbm, 430, rfl⟩
abbrev main_v261 : Ref sig .tc := ⟨.hbm, 431, rfl⟩
abbrev main_cst_97 : Ref sig .tc := ⟨.hbm, 432, rfl⟩
abbrev main_v262 : Ref sig .tc := ⟨.hbm, 433, rfl⟩
abbrev main_v263 : Ref sig .tc := ⟨.hbm, 434, rfl⟩
abbrev main_cst_98 : Ref sig .tc := ⟨.hbm, 435, rfl⟩
abbrev main_v264 : Ref sig .tc := ⟨.hbm, 436, rfl⟩
abbrev main_v265 : Ref sig .tc := ⟨.hbm, 437, rfl⟩
abbrev main_cst_99 : Ref sig .tc := ⟨.hbm, 438, rfl⟩
abbrev main_v266 : Ref sig .tc := ⟨.hbm, 439, rfl⟩
abbrev main_v267 : Ref sig .tc := ⟨.hbm, 440, rfl⟩
abbrev main_v268 : Ref sig .tc := ⟨.hbm, 441, rfl⟩
abbrev main_cst_100 : Ref sig .tc := ⟨.hbm, 442, rfl⟩
abbrev main_v269 : Ref sig .tc := ⟨.hbm, 443, rfl⟩
abbrev main_v270 : Ref sig .tc := ⟨.hbm, 444, rfl⟩
abbrev main_v271 : Ref sig .tc := ⟨.hbm, 445, rfl⟩
abbrev main_cst_101 : Ref sig .tc := ⟨.hbm, 446, rfl⟩
abbrev main_v272 : Ref sig .tc := ⟨.hbm, 447, rfl⟩
abbrev main_v273 : Ref sig .tc := ⟨.hbm, 448, rfl⟩
abbrev main_v274 : Ref sig .tc := ⟨.hbm, 449, rfl⟩
abbrev main_cst_102 : Ref sig .tc := ⟨.hbm, 450, rfl⟩
abbrev main_v275 : Ref sig .tc := ⟨.hbm, 451, rfl⟩
abbrev main_v276 : Ref sig .tc := ⟨.hbm, 452, rfl⟩
abbrev main_cst_103 : Ref sig .tc := ⟨.hbm, 453, rfl⟩
abbrev main_v277 : Ref sig .tc := ⟨.hbm, 454, rfl⟩
abbrev main_v278 : Ref sig .tc := ⟨.hbm, 455, rfl⟩
abbrev main_v279 : Ref sig .tc := ⟨.hbm, 456, rfl⟩
abbrev main_cst_104 : Ref sig .tc := ⟨.hbm, 457, rfl⟩
abbrev main_v280 : Ref sig .tc := ⟨.hbm, 458, rfl⟩
abbrev main_v281 : Ref sig .tc := ⟨.hbm, 459, rfl⟩
abbrev main_v282 : Ref sig .tc := ⟨.hbm, 460, rfl⟩
abbrev main_cst_105 : Ref sig .tc := ⟨.hbm, 461, rfl⟩
abbrev main_v283 : Ref sig .tc := ⟨.hbm, 462, rfl⟩
abbrev main_v284 : Ref sig .tc := ⟨.hbm, 463, rfl⟩
abbrev main_v285 : Ref sig .tc := ⟨.hbm, 464, rfl⟩
abbrev main_cst_106 : Ref sig .tc := ⟨.hbm, 465, rfl⟩
abbrev main_v286 : Ref sig .tc := ⟨.hbm, 466, rfl⟩
abbrev main_v287 : Ref sig .tc := ⟨.hbm, 467, rfl⟩
abbrev main_cst_107 : Ref sig .tc := ⟨.hbm, 468, rfl⟩
abbrev main_v288 : Ref sig .tc := ⟨.hbm, 469, rfl⟩
abbrev main_v289 : Ref sig .tc := ⟨.hbm, 470, rfl⟩
abbrev main_cst_108 : Ref sig .tc := ⟨.hbm, 471, rfl⟩
abbrev main_v290 : Ref sig .tc := ⟨.hbm, 472, rfl⟩
abbrev main_v291 : Ref sig .tc := ⟨.hbm, 473, rfl⟩
abbrev main_v292 : Ref sig .tc := ⟨.hbm, 474, rfl⟩
abbrev main_cst_109 : Ref sig .tc := ⟨.hbm, 475, rfl⟩
abbrev main_v293 : Ref sig .tc := ⟨.hbm, 476, rfl⟩
abbrev main_v294 : Ref sig .tc := ⟨.hbm, 477, rfl⟩
abbrev main_v295 : Ref sig .tc := ⟨.hbm, 478, rfl⟩
abbrev main_cst_110 : Ref sig .tc := ⟨.hbm, 479, rfl⟩
abbrev main_v296 : Ref sig .tc := ⟨.hbm, 480, rfl⟩
abbrev main_v297 : Ref sig .tc := ⟨.hbm, 481, rfl⟩
abbrev main_v298 : Ref sig .tc := ⟨.hbm, 482, rfl⟩
abbrev main_cst_111 : Ref sig .tc := ⟨.hbm, 483, rfl⟩
abbrev main_v299 : Ref sig .tc := ⟨.hbm, 484, rfl⟩
abbrev main_v300 : Ref sig .tc := ⟨.hbm, 485, rfl⟩
abbrev main_cst_112 : Ref sig .tc := ⟨.hbm, 486, rfl⟩
abbrev main_v301 : Ref sig .tc := ⟨.hbm, 487, rfl⟩
abbrev main_v302 : Ref sig .tc := ⟨.hbm, 488, rfl⟩
abbrev main_v303 : Ref sig .tc := ⟨.hbm, 489, rfl⟩
abbrev main_cst_113 : Ref sig .tc := ⟨.hbm, 490, rfl⟩
abbrev main_v304 : Ref sig .tc := ⟨.hbm, 491, rfl⟩
abbrev main_v305 : Ref sig .tc := ⟨.hbm, 492, rfl⟩
abbrev main_v306 : Ref sig .tc := ⟨.hbm, 493, rfl⟩
abbrev main_cst_114 : Ref sig .tc := ⟨.hbm, 494, rfl⟩
abbrev main_v307 : Ref sig .tc := ⟨.hbm, 495, rfl⟩
abbrev main_v308 : Ref sig .tc := ⟨.hbm, 496, rfl⟩
abbrev main_v309 : Ref sig .tc := ⟨.hbm, 497, rfl⟩
abbrev main_cst_115 : Ref sig .tc := ⟨.hbm, 498, rfl⟩
abbrev main_v310 : Ref sig .tc := ⟨.hbm, 499, rfl⟩
abbrev main_v311 : Ref sig .tc := ⟨.hbm, 500, rfl⟩
abbrev main_cst_116 : Ref sig .tc := ⟨.hbm, 501, rfl⟩
abbrev main_v312 : Ref sig .tc := ⟨.hbm, 502, rfl⟩
abbrev main_v313 : Ref sig .tc := ⟨.hbm, 503, rfl⟩
abbrev main_cst_117 : Ref sig .tc := ⟨.hbm, 504, rfl⟩
abbrev main_v314 : Ref sig .tc := ⟨.hbm, 505, rfl⟩
abbrev main_v315 : Ref sig .tc := ⟨.hbm, 506, rfl⟩
abbrev main_v316 : Ref sig .tc := ⟨.hbm, 507, rfl⟩
abbrev main_cst_118 : Ref sig .tc := ⟨.hbm, 508, rfl⟩
abbrev main_v317 : Ref sig .tc := ⟨.hbm, 509, rfl⟩
abbrev main_v318 : Ref sig .tc := ⟨.hbm, 510, rfl⟩
abbrev main_v319 : Ref sig .tc := ⟨.hbm, 511, rfl⟩
abbrev main_cst_119 : Ref sig .tc := ⟨.hbm, 512, rfl⟩
abbrev main_v320 : Ref sig .tc := ⟨.hbm, 513, rfl⟩
abbrev main_v321 : Ref sig .tc := ⟨.hbm, 514, rfl⟩
abbrev main_v322 : Ref sig .tc := ⟨.hbm, 515, rfl⟩
abbrev main_cst_120 : Ref sig .tc := ⟨.hbm, 516, rfl⟩
abbrev main_v323 : Ref sig .tc := ⟨.hbm, 517, rfl⟩
abbrev main_v324 : Ref sig .tc := ⟨.hbm, 518, rfl⟩
abbrev main_cst_121 : Ref sig .tc := ⟨.hbm, 519, rfl⟩
abbrev main_v325 : Ref sig .tc := ⟨.hbm, 520, rfl⟩
abbrev main_v326 : Ref sig .tc := ⟨.hbm, 521, rfl⟩
abbrev main_v327 : Ref sig .tc := ⟨.hbm, 522, rfl⟩
abbrev main_cst_122 : Ref sig .tc := ⟨.hbm, 523, rfl⟩
abbrev main_v328 : Ref sig .tc := ⟨.hbm, 524, rfl⟩
abbrev main_v329 : Ref sig .tc := ⟨.hbm, 525, rfl⟩
abbrev main_v330 : Ref sig .tc := ⟨.hbm, 526, rfl⟩
abbrev main_cst_123 : Ref sig .tc := ⟨.hbm, 527, rfl⟩
abbrev main_v331 : Ref sig .tc := ⟨.hbm, 528, rfl⟩
abbrev main_v332 : Ref sig .tc := ⟨.hbm, 529, rfl⟩
abbrev main_v333 : Ref sig .tc := ⟨.hbm, 530, rfl⟩
abbrev main_cst_124 : Ref sig .tc := ⟨.hbm, 531, rfl⟩
abbrev main_v334 : Ref sig .tc := ⟨.hbm, 532, rfl⟩
abbrev main_v335 : Ref sig .tc := ⟨.hbm, 533, rfl⟩
abbrev main_cst_125 : Ref sig .tc := ⟨.hbm, 534, rfl⟩
abbrev main_v336 : Ref sig .tc := ⟨.hbm, 535, rfl⟩
abbrev main_v337 : Ref sig .tc := ⟨.hbm, 536, rfl⟩
abbrev main_cst_126 : Ref sig .tc := ⟨.hbm, 537, rfl⟩
abbrev main_v338 : Ref sig .tc := ⟨.hbm, 538, rfl⟩
abbrev main_v339 : Ref sig .tc := ⟨.hbm, 539, rfl⟩
abbrev main_v340 : Ref sig .tc := ⟨.hbm, 540, rfl⟩
abbrev main_cst_127 : Ref sig .tc := ⟨.hbm, 541, rfl⟩
abbrev main_v341 : Ref sig .tc := ⟨.hbm, 542, rfl⟩
abbrev main_v342 : Ref sig .tc := ⟨.hbm, 543, rfl⟩
abbrev main_v343 : Ref sig .tc := ⟨.hbm, 544, rfl⟩
abbrev main_cst_128 : Ref sig .tc := ⟨.hbm, 545, rfl⟩
abbrev main_v344 : Ref sig .tc := ⟨.hbm, 546, rfl⟩
abbrev main_v345 : Ref sig .tc := ⟨.hbm, 547, rfl⟩
abbrev main_v346 : Ref sig .tc := ⟨.hbm, 548, rfl⟩
abbrev main_cst_129 : Ref sig .tc := ⟨.hbm, 549, rfl⟩
abbrev main_v347 : Ref sig .tc := ⟨.hbm, 550, rfl⟩
abbrev main_v348 : Ref sig .tc := ⟨.hbm, 551, rfl⟩
abbrev main_cst_130 : Ref sig .tc := ⟨.hbm, 552, rfl⟩
abbrev main_v349 : Ref sig .tc := ⟨.hbm, 553, rfl⟩
abbrev main_v350 : Ref sig .tc := ⟨.hbm, 554, rfl⟩
abbrev main_v351 : Ref sig .tc := ⟨.hbm, 555, rfl⟩
abbrev main_cst_131 : Ref sig .tc := ⟨.hbm, 556, rfl⟩
abbrev main_v352 : Ref sig .tc := ⟨.hbm, 557, rfl⟩
abbrev main_v353 : Ref sig .tc := ⟨.hbm, 558, rfl⟩
abbrev main_v354 : Ref sig .tc := ⟨.hbm, 559, rfl⟩
abbrev main_cst_132 : Ref sig .tc := ⟨.hbm, 560, rfl⟩
abbrev main_v355 : Ref sig .tc := ⟨.hbm, 561, rfl⟩
abbrev main_v356 : Ref sig .tc := ⟨.hbm, 562, rfl⟩
abbrev main_v357 : Ref sig .tc := ⟨.hbm, 563, rfl⟩
abbrev main_cst_133 : Ref sig .tc := ⟨.hbm, 564, rfl⟩
abbrev main_v358 : Ref sig .tc := ⟨.hbm, 565, rfl⟩
abbrev main_v359 : Ref sig .tc := ⟨.hbm, 566, rfl⟩
abbrev main_cst_134 : Ref sig .tc := ⟨.hbm, 567, rfl⟩
abbrev main_v360 : Ref sig .tc := ⟨.hbm, 568, rfl⟩
abbrev main_v361 : Ref sig .tc := ⟨.hbm, 569, rfl⟩
abbrev main_cst_135 : Ref sig .tc := ⟨.hbm, 570, rfl⟩
abbrev main_v362 : Ref sig .tc := ⟨.hbm, 571, rfl⟩
abbrev main_v363 : Ref sig .tc := ⟨.hbm, 572, rfl⟩
abbrev main_v364 : Ref sig .tc := ⟨.hbm, 573, rfl⟩
abbrev main_cst_136 : Ref sig .tc := ⟨.hbm, 574, rfl⟩
abbrev main_v365 : Ref sig .tc := ⟨.hbm, 575, rfl⟩
abbrev main_v366 : Ref sig .tc := ⟨.hbm, 576, rfl⟩
abbrev main_v367 : Ref sig .tc := ⟨.hbm, 577, rfl⟩
abbrev main_cst_137 : Ref sig .tc := ⟨.hbm, 578, rfl⟩
abbrev main_v368 : Ref sig .tc := ⟨.hbm, 579, rfl⟩
abbrev main_v369 : Ref sig .tc := ⟨.hbm, 580, rfl⟩
abbrev main_v370 : Ref sig .tc := ⟨.hbm, 581, rfl⟩
abbrev main_cst_138 : Ref sig .tc := ⟨.hbm, 582, rfl⟩
abbrev main_v371 : Ref sig .tc := ⟨.hbm, 583, rfl⟩
abbrev main_v372 : Ref sig .tc := ⟨.hbm, 584, rfl⟩
abbrev main_cst_139 : Ref sig .tc := ⟨.hbm, 585, rfl⟩
abbrev main_v373 : Ref sig .tc := ⟨.hbm, 586, rfl⟩
abbrev main_v374 : Ref sig .tc := ⟨.hbm, 587, rfl⟩
abbrev main_v375 : Ref sig .tc := ⟨.hbm, 588, rfl⟩
abbrev main_cst_140 : Ref sig .tc := ⟨.hbm, 589, rfl⟩
abbrev main_v376 : Ref sig .tc := ⟨.hbm, 590, rfl⟩
abbrev main_v377 : Ref sig .tc := ⟨.hbm, 591, rfl⟩
abbrev main_v378 : Ref sig .tc := ⟨.hbm, 592, rfl⟩
abbrev main_cst_141 : Ref sig .tc := ⟨.hbm, 593, rfl⟩
abbrev main_v379 : Ref sig .tc := ⟨.hbm, 594, rfl⟩
abbrev main_v380 : Ref sig .tc := ⟨.hbm, 595, rfl⟩
abbrev main_v381 : Ref sig .tc := ⟨.hbm, 596, rfl⟩
abbrev main_cst_142 : Ref sig .tc := ⟨.hbm, 597, rfl⟩
abbrev main_v382 : Ref sig .tc := ⟨.hbm, 598, rfl⟩
abbrev main_v383 : Ref sig .tc := ⟨.hbm, 599, rfl⟩
abbrev main_cst_143 : Ref sig .tc := ⟨.hbm, 600, rfl⟩
abbrev main_v384 : Ref sig .tc := ⟨.hbm, 601, rfl⟩
abbrev main_v385 : Ref sig .tc := ⟨.hbm, 602, rfl⟩
abbrev main_cst_144 : Ref sig .tc := ⟨.hbm, 603, rfl⟩
abbrev main_v386 : Ref sig .tc := ⟨.hbm, 604, rfl⟩
abbrev main_v387 : Ref sig .tc := ⟨.hbm, 605, rfl⟩
abbrev main_v388 : Ref sig .tc := ⟨.hbm, 606, rfl⟩
abbrev main_cst_145 : Ref sig .tc := ⟨.hbm, 607, rfl⟩
abbrev main_v389 : Ref sig .tc := ⟨.hbm, 608, rfl⟩
abbrev main_v390 : Ref sig .tc := ⟨.hbm, 609, rfl⟩
abbrev main_v391 : Ref sig .tc := ⟨.hbm, 610, rfl⟩
abbrev main_cst_146 : Ref sig .tc := ⟨.hbm, 611, rfl⟩
abbrev main_v392 : Ref sig .tc := ⟨.hbm, 612, rfl⟩
abbrev main_v393 : Ref sig .tc := ⟨.hbm, 613, rfl⟩
abbrev main_v394 : Ref sig .tc := ⟨.hbm, 614, rfl⟩
abbrev main_cst_147 : Ref sig .tc := ⟨.hbm, 615, rfl⟩
abbrev main_v395 : Ref sig .tc := ⟨.hbm, 616, rfl⟩
abbrev main_v396 : Ref sig .tc := ⟨.hbm, 617, rfl⟩
abbrev main_cst_148 : Ref sig .tc := ⟨.hbm, 618, rfl⟩
abbrev main_v397 : Ref sig .tc := ⟨.hbm, 619, rfl⟩
abbrev main_v398 : Ref sig .tc := ⟨.hbm, 620, rfl⟩
abbrev main_v399 : Ref sig .tc := ⟨.hbm, 621, rfl⟩
abbrev main_cst_149 : Ref sig .tc := ⟨.hbm, 622, rfl⟩
abbrev main_v400 : Ref sig .tc := ⟨.hbm, 623, rfl⟩
abbrev main_v401 : Ref sig .tc := ⟨.hbm, 624, rfl⟩
abbrev main_v402 : Ref sig .tc := ⟨.hbm, 625, rfl⟩
abbrev main_cst_150 : Ref sig .tc := ⟨.hbm, 626, rfl⟩
abbrev main_v403 : Ref sig .tc := ⟨.hbm, 627, rfl⟩
abbrev main_v404 : Ref sig .tc := ⟨.hbm, 628, rfl⟩
abbrev main_v405 : Ref sig .tc := ⟨.hbm, 629, rfl⟩
abbrev main_cst_151 : Ref sig .tc := ⟨.hbm, 630, rfl⟩
abbrev main_v406 : Ref sig .tc := ⟨.hbm, 631, rfl⟩
abbrev main_v407 : Ref sig .tc := ⟨.hbm, 632, rfl⟩
abbrev main_cst_152 : Ref sig .tc := ⟨.hbm, 633, rfl⟩
abbrev main_v408 : Ref sig .tc := ⟨.hbm, 634, rfl⟩
abbrev main_v409 : Ref sig .tc := ⟨.hbm, 635, rfl⟩
abbrev main_cst_153 : Ref sig .tc := ⟨.hbm, 636, rfl⟩
abbrev main_v410 : Ref sig .tc := ⟨.hbm, 637, rfl⟩
abbrev main_v411 : Ref sig .tc := ⟨.hbm, 638, rfl⟩
abbrev main_v412 : Ref sig .tc := ⟨.hbm, 639, rfl⟩
abbrev main_cst_154 : Ref sig .tc := ⟨.hbm, 640, rfl⟩
abbrev main_v413 : Ref sig .tc := ⟨.hbm, 641, rfl⟩
abbrev main_v414 : Ref sig .tc := ⟨.hbm, 642, rfl⟩
abbrev main_v415 : Ref sig .tc := ⟨.hbm, 643, rfl⟩
abbrev main_cst_155 : Ref sig .tc := ⟨.hbm, 644, rfl⟩
abbrev main_v416 : Ref sig .tc := ⟨.hbm, 645, rfl⟩
abbrev main_v417 : Ref sig .tc := ⟨.hbm, 646, rfl⟩
abbrev main_v418 : Ref sig .tc := ⟨.hbm, 647, rfl⟩
abbrev main_cst_156 : Ref sig .tc := ⟨.hbm, 648, rfl⟩
abbrev main_v419 : Ref sig .tc := ⟨.hbm, 649, rfl⟩
abbrev main_v420 : Ref sig .tc := ⟨.hbm, 650, rfl⟩
abbrev main_cst_157 : Ref sig .tc := ⟨.hbm, 651, rfl⟩
abbrev main_v421 : Ref sig .tc := ⟨.hbm, 652, rfl⟩
abbrev main_v422 : Ref sig .tc := ⟨.hbm, 653, rfl⟩
abbrev main_v423 : Ref sig .tc := ⟨.hbm, 654, rfl⟩
abbrev main_cst_158 : Ref sig .tc := ⟨.hbm, 655, rfl⟩
abbrev main_v424 : Ref sig .tc := ⟨.hbm, 656, rfl⟩
abbrev main_v425 : Ref sig .tc := ⟨.hbm, 657, rfl⟩
abbrev main_v426 : Ref sig .tc := ⟨.hbm, 658, rfl⟩
abbrev main_cst_159 : Ref sig .tc := ⟨.hbm, 659, rfl⟩
abbrev main_v427 : Ref sig .tc := ⟨.hbm, 660, rfl⟩
abbrev main_v428 : Ref sig .tc := ⟨.hbm, 661, rfl⟩
abbrev main_v429 : Ref sig .tc := ⟨.hbm, 662, rfl⟩
abbrev main_cst_160 : Ref sig .tc := ⟨.hbm, 663, rfl⟩
abbrev main_v430 : Ref sig .tc := ⟨.hbm, 664, rfl⟩
abbrev main_v431 : Ref sig .tc := ⟨.hbm, 665, rfl⟩
abbrev main_v432 : Ref sig .tc := ⟨.hbm, 666, rfl⟩
abbrev main_v433 : Ref sig .tc := ⟨.hbm, 667, rfl⟩
abbrev main_v434 : Ref sig .tc := ⟨.hbm, 668, rfl⟩
abbrev main_v435 : Ref sig .tc := ⟨.hbm, 669, rfl⟩
abbrev main_v436 : Ref sig .tc := ⟨.hbm, 670, rfl⟩
abbrev main_c : Ref sig .tc := ⟨.hbm, 671, rfl⟩
abbrev main_call0_v0 : Ref sig .tc := ⟨.hbm, 672, rfl⟩
abbrev main_v437 : Ref sig .tc := ⟨.hbm, 673, rfl⟩
abbrev main_v438 : Ref sig .tc := ⟨.hbm, 674, rfl⟩
abbrev main_c_161 : Ref sig .tc := ⟨.hbm, 675, rfl⟩
abbrev main_call1_v0 : Ref sig .tc := ⟨.hbm, 676, rfl⟩
abbrev main_v439 : Ref sig .tc := ⟨.hbm, 677, rfl⟩
abbrev main_v440 : Ref sig .tc := ⟨.hbm, 678, rfl⟩
abbrev main_c_162 : Ref sig .tc := ⟨.hbm, 679, rfl⟩
abbrev main_call2_v0 : Ref sig .tc := ⟨.hbm, 680, rfl⟩
abbrev main_v441 : Ref sig .tc := ⟨.hbm, 681, rfl⟩
abbrev main_v442 : Ref sig .tc := ⟨.hbm, 682, rfl⟩
abbrev main_c_163 : Ref sig .tc := ⟨.hbm, 683, rfl⟩
abbrev main_call3_v0 : Ref sig .tc := ⟨.hbm, 684, rfl⟩
abbrev main_v443 : Ref sig .tc := ⟨.hbm, 685, rfl⟩
abbrev main_v444 : Ref sig .tc := ⟨.hbm, 686, rfl⟩
abbrev main_c_164 : Ref sig .tc := ⟨.hbm, 687, rfl⟩
abbrev main_call4_v0 : Ref sig .tc := ⟨.hbm, 688, rfl⟩
abbrev main_v445 : Ref sig .tc := ⟨.hbm, 689, rfl⟩
abbrev main_v446 : Ref sig .tc := ⟨.hbm, 690, rfl⟩
abbrev main_c_165 : Ref sig .tc := ⟨.hbm, 691, rfl⟩
abbrev main_call5_v0 : Ref sig .tc := ⟨.hbm, 692, rfl⟩
abbrev main_v447 : Ref sig .tc := ⟨.hbm, 693, rfl⟩
abbrev main_v448 : Ref sig .tc := ⟨.hbm, 694, rfl⟩
abbrev main_c_166 : Ref sig .tc := ⟨.hbm, 695, rfl⟩
abbrev main_call6_v0 : Ref sig .tc := ⟨.hbm, 696, rfl⟩
abbrev main_v449 : Ref sig .tc := ⟨.hbm, 697, rfl⟩
abbrev main_v450 : Ref sig .tc := ⟨.hbm, 698, rfl⟩
abbrev main_c_167 : Ref sig .tc := ⟨.hbm, 699, rfl⟩
abbrev main_call7_v0 : Ref sig .tc := ⟨.hbm, 700, rfl⟩
abbrev main_v451 : Ref sig .tc := ⟨.hbm, 701, rfl⟩
abbrev main_v452 : Ref sig .tc := ⟨.hbm, 702, rfl⟩
abbrev main_c_168 : Ref sig .tc := ⟨.hbm, 703, rfl⟩
abbrev main_call8_v0 : Ref sig .tc := ⟨.hbm, 704, rfl⟩
abbrev main_v453 : Ref sig .tc := ⟨.hbm, 705, rfl⟩
abbrev main_v454 : Ref sig .tc := ⟨.hbm, 706, rfl⟩
abbrev main_c_169 : Ref sig .tc := ⟨.hbm, 707, rfl⟩
abbrev main_call9_v0 : Ref sig .tc := ⟨.hbm, 708, rfl⟩
abbrev main_v455 : Ref sig .tc := ⟨.hbm, 709, rfl⟩
abbrev main_v456 : Ref sig .tc := ⟨.hbm, 710, rfl⟩
abbrev main_c_170 : Ref sig .tc := ⟨.hbm, 711, rfl⟩
abbrev main_call10_v0 : Ref sig .tc := ⟨.hbm, 712, rfl⟩
abbrev main_v457 : Ref sig .tc := ⟨.hbm, 713, rfl⟩
abbrev main_v458 : Ref sig .tc := ⟨.hbm, 714, rfl⟩
abbrev main_c_171 : Ref sig .tc := ⟨.hbm, 715, rfl⟩
abbrev main_call11_v0 : Ref sig .tc := ⟨.hbm, 716, rfl⟩
abbrev main_v459 : Ref sig .tc := ⟨.hbm, 717, rfl⟩
abbrev main_v460 : Ref sig .tc := ⟨.hbm, 718, rfl⟩
abbrev main_c_172 : Ref sig .tc := ⟨.hbm, 719, rfl⟩
abbrev main_call12_v0 : Ref sig .tc := ⟨.hbm, 720, rfl⟩
abbrev main_v461 : Ref sig .tc := ⟨.hbm, 721, rfl⟩
abbrev main_v462 : Ref sig .tc := ⟨.hbm, 722, rfl⟩
abbrev main_c_173 : Ref sig .tc := ⟨.hbm, 723, rfl⟩
abbrev main_call13_v0 : Ref sig .tc := ⟨.hbm, 724, rfl⟩
abbrev main_v463 : Ref sig .tc := ⟨.hbm, 725, rfl⟩
abbrev main_v464 : Ref sig .tc := ⟨.hbm, 726, rfl⟩
abbrev main_c_174 : Ref sig .tc := ⟨.hbm, 727, rfl⟩
abbrev main_call14_v0 : Ref sig .tc := ⟨.hbm, 728, rfl⟩
abbrev main_v465 : Ref sig .tc := ⟨.hbm, 729, rfl⟩
abbrev main_v466 : Ref sig .tc := ⟨.hbm, 730, rfl⟩
abbrev main_c_175 : Ref sig .tc := ⟨.hbm, 731, rfl⟩
abbrev main_call15_v0 : Ref sig .tc := ⟨.hbm, 732, rfl⟩
abbrev main_v467 : Ref sig .tc := ⟨.hbm, 733, rfl⟩
abbrev main_v468 : Ref sig .tc := ⟨.hbm, 734, rfl⟩
abbrev main_c_176 : Ref sig .tc := ⟨.hbm, 735, rfl⟩
abbrev main_call16_v0 : Ref sig .tc := ⟨.hbm, 736, rfl⟩
abbrev main_v469 : Ref sig .tc := ⟨.hbm, 737, rfl⟩
abbrev main_v470 : Ref sig .tc := ⟨.hbm, 738, rfl⟩
abbrev main_c_177 : Ref sig .tc := ⟨.hbm, 739, rfl⟩
abbrev main_call17_v0 : Ref sig .tc := ⟨.hbm, 740, rfl⟩
abbrev main_v471 : Ref sig .tc := ⟨.hbm, 741, rfl⟩
abbrev main_v472 : Ref sig .tc := ⟨.hbm, 742, rfl⟩
abbrev main_cst_178 : Ref sig .tc := ⟨.hbm, 743, rfl⟩
abbrev main_v473 : Ref sig .tc := ⟨.hbm, 744, rfl⟩
abbrev main_v474 : Ref sig .tc := ⟨.hbm, 745, rfl⟩
abbrev main_v475 : Ref sig .tc := ⟨.hbm, 746, rfl⟩
abbrev main_v476 : Ref sig .tc := ⟨.hbm, 747, rfl⟩
abbrev main_v477 : Ref sig .tc := ⟨.hbm, 748, rfl⟩
abbrev main_v478 : Ref sig .tc := ⟨.hbm, 749, rfl⟩
abbrev main_v479 : Ref sig .tc := ⟨.hbm, 750, rfl⟩
abbrev main_v480 : Ref sig .tc := ⟨.hbm, 751, rfl⟩
abbrev main_v481 : Ref sig .tc := ⟨.hbm, 752, rfl⟩
abbrev main_c_179 : Ref sig .tc := ⟨.hbm, 753, rfl⟩
abbrev main_call18_v0 : Ref sig .tc := ⟨.hbm, 754, rfl⟩
abbrev main_v482 : Ref sig .tc := ⟨.hbm, 755, rfl⟩
abbrev main_v483 : Ref sig .tc := ⟨.hbm, 756, rfl⟩
abbrev main_c_180 : Ref sig .tc := ⟨.hbm, 757, rfl⟩
abbrev main_call19_v0 : Ref sig .tc := ⟨.hbm, 758, rfl⟩
abbrev main_v484 : Ref sig .tc := ⟨.hbm, 759, rfl⟩
abbrev main_v485 : Ref sig .tc := ⟨.hbm, 760, rfl⟩
abbrev main_c_181 : Ref sig .tc := ⟨.hbm, 761, rfl⟩
abbrev main_call20_v0 : Ref sig .tc := ⟨.hbm, 762, rfl⟩
abbrev main_v486 : Ref sig .tc := ⟨.hbm, 763, rfl⟩
abbrev main_v487 : Ref sig .tc := ⟨.hbm, 764, rfl⟩
abbrev main_c_182 : Ref sig .tc := ⟨.hbm, 765, rfl⟩
abbrev main_call21_v0 : Ref sig .tc := ⟨.hbm, 766, rfl⟩
abbrev main_v488 : Ref sig .tc := ⟨.hbm, 767, rfl⟩
abbrev main_v489 : Ref sig .tc := ⟨.hbm, 768, rfl⟩
abbrev main_c_183 : Ref sig .tc := ⟨.hbm, 769, rfl⟩
abbrev main_call22_v0 : Ref sig .tc := ⟨.hbm, 770, rfl⟩
abbrev main_v490 : Ref sig .tc := ⟨.hbm, 771, rfl⟩
abbrev main_v491 : Ref sig .tc := ⟨.hbm, 772, rfl⟩
abbrev main_c_184 : Ref sig .tc := ⟨.hbm, 773, rfl⟩
abbrev main_call23_v0 : Ref sig .tc := ⟨.hbm, 774, rfl⟩
abbrev main_v492 : Ref sig .tc := ⟨.hbm, 775, rfl⟩
abbrev main_v493 : Ref sig .tc := ⟨.hbm, 776, rfl⟩
abbrev main_c_185 : Ref sig .tc := ⟨.hbm, 777, rfl⟩
abbrev main_call24_v0 : Ref sig .tc := ⟨.hbm, 778, rfl⟩
abbrev main_v494 : Ref sig .tc := ⟨.hbm, 779, rfl⟩
abbrev main_v495 : Ref sig .tc := ⟨.hbm, 780, rfl⟩
abbrev main_c_186 : Ref sig .tc := ⟨.hbm, 781, rfl⟩
abbrev main_call25_v0 : Ref sig .tc := ⟨.hbm, 782, rfl⟩
abbrev main_v496 : Ref sig .tc := ⟨.hbm, 783, rfl⟩
abbrev main_v497 : Ref sig .tc := ⟨.hbm, 784, rfl⟩
abbrev main_c_187 : Ref sig .tc := ⟨.hbm, 785, rfl⟩
abbrev main_call26_v0 : Ref sig .tc := ⟨.hbm, 786, rfl⟩
abbrev main_v498 : Ref sig .tc := ⟨.hbm, 787, rfl⟩
abbrev main_v499 : Ref sig .tc := ⟨.hbm, 788, rfl⟩
abbrev main_c_188 : Ref sig .tc := ⟨.hbm, 789, rfl⟩
abbrev main_call27_v0 : Ref sig .tc := ⟨.hbm, 790, rfl⟩
abbrev main_v500 : Ref sig .tc := ⟨.hbm, 791, rfl⟩
abbrev main_v501 : Ref sig .tc := ⟨.hbm, 792, rfl⟩
abbrev main_c_189 : Ref sig .tc := ⟨.hbm, 793, rfl⟩
abbrev main_call28_v0 : Ref sig .tc := ⟨.hbm, 794, rfl⟩
abbrev main_v502 : Ref sig .tc := ⟨.hbm, 795, rfl⟩
abbrev main_v503 : Ref sig .tc := ⟨.hbm, 796, rfl⟩
abbrev main_c_190 : Ref sig .tc := ⟨.hbm, 797, rfl⟩
abbrev main_call29_v0 : Ref sig .tc := ⟨.hbm, 798, rfl⟩
abbrev main_v504 : Ref sig .tc := ⟨.hbm, 799, rfl⟩
abbrev main_v505 : Ref sig .tc := ⟨.hbm, 800, rfl⟩
abbrev main_c_191 : Ref sig .tc := ⟨.hbm, 801, rfl⟩
abbrev main_call30_v0 : Ref sig .tc := ⟨.hbm, 802, rfl⟩
abbrev main_v506 : Ref sig .tc := ⟨.hbm, 803, rfl⟩
abbrev main_v507 : Ref sig .tc := ⟨.hbm, 804, rfl⟩
abbrev main_c_192 : Ref sig .tc := ⟨.hbm, 805, rfl⟩
abbrev main_call31_v0 : Ref sig .tc := ⟨.hbm, 806, rfl⟩
abbrev main_v508 : Ref sig .tc := ⟨.hbm, 807, rfl⟩
abbrev main_v509 : Ref sig .tc := ⟨.hbm, 808, rfl⟩
abbrev main_c_193 : Ref sig .tc := ⟨.hbm, 809, rfl⟩
abbrev main_call32_v0 : Ref sig .tc := ⟨.hbm, 810, rfl⟩
abbrev main_v510 : Ref sig .tc := ⟨.hbm, 811, rfl⟩
abbrev main_v511 : Ref sig .tc := ⟨.hbm, 812, rfl⟩
abbrev main_c_194 : Ref sig .tc := ⟨.hbm, 813, rfl⟩
abbrev main_call33_v0 : Ref sig .tc := ⟨.hbm, 814, rfl⟩
abbrev main_v512 : Ref sig .tc := ⟨.hbm, 815, rfl⟩
abbrev main_v513 : Ref sig .tc := ⟨.hbm, 816, rfl⟩
abbrev main_c_195 : Ref sig .tc := ⟨.hbm, 817, rfl⟩
abbrev main_call34_v0 : Ref sig .tc := ⟨.hbm, 818, rfl⟩
abbrev main_v514 : Ref sig .tc := ⟨.hbm, 819, rfl⟩
abbrev main_v515 : Ref sig .tc := ⟨.hbm, 820, rfl⟩
abbrev main_c_196 : Ref sig .tc := ⟨.hbm, 821, rfl⟩
abbrev main_call35_v0 : Ref sig .tc := ⟨.hbm, 822, rfl⟩
abbrev main_v516 : Ref sig .tc := ⟨.hbm, 823, rfl⟩
abbrev main_v517 : Ref sig .tc := ⟨.hbm, 824, rfl⟩
abbrev main_cst_197 : Ref sig .tc := ⟨.hbm, 825, rfl⟩
abbrev main_v518 : Ref sig .tc := ⟨.hbm, 826, rfl⟩
abbrev main_v519 : Ref sig .tc := ⟨.hbm, 827, rfl⟩
abbrev main_v520 : Ref sig .tc := ⟨.hbm, 828, rfl⟩
abbrev main_v521 : Ref sig .tc := ⟨.hbm, 829, rfl⟩
abbrev main_v522 : Ref sig .tc := ⟨.hbm, 830, rfl⟩
abbrev main_v523 : Ref sig .tc := ⟨.hbm, 831, rfl⟩
abbrev main_v524 : Ref sig .tc := ⟨.hbm, 832, rfl⟩
abbrev main_v525 : Ref sig .tc := ⟨.hbm, 833, rfl⟩
abbrev main_v526 : Ref sig .tc := ⟨.hbm, 834, rfl⟩
abbrev main_c_198 : Ref sig .tc := ⟨.hbm, 835, rfl⟩
abbrev main_call36_v0 : Ref sig .tc := ⟨.hbm, 836, rfl⟩
abbrev main_v527 : Ref sig .tc := ⟨.hbm, 837, rfl⟩
abbrev main_v528 : Ref sig .tc := ⟨.hbm, 838, rfl⟩
abbrev main_c_199 : Ref sig .tc := ⟨.hbm, 839, rfl⟩
abbrev main_call37_v0 : Ref sig .tc := ⟨.hbm, 840, rfl⟩
abbrev main_v529 : Ref sig .tc := ⟨.hbm, 841, rfl⟩
abbrev main_v530 : Ref sig .tc := ⟨.hbm, 842, rfl⟩
abbrev main_c_200 : Ref sig .tc := ⟨.hbm, 843, rfl⟩
abbrev main_call38_v0 : Ref sig .tc := ⟨.hbm, 844, rfl⟩
abbrev main_v531 : Ref sig .tc := ⟨.hbm, 845, rfl⟩
abbrev main_v532 : Ref sig .tc := ⟨.hbm, 846, rfl⟩
abbrev main_c_201 : Ref sig .tc := ⟨.hbm, 847, rfl⟩
abbrev main_call39_v0 : Ref sig .tc := ⟨.hbm, 848, rfl⟩
abbrev main_v533 : Ref sig .tc := ⟨.hbm, 849, rfl⟩
abbrev main_v534 : Ref sig .tc := ⟨.hbm, 850, rfl⟩
abbrev main_c_202 : Ref sig .tc := ⟨.hbm, 851, rfl⟩
abbrev main_call40_v0 : Ref sig .tc := ⟨.hbm, 852, rfl⟩
abbrev main_v535 : Ref sig .tc := ⟨.hbm, 853, rfl⟩
abbrev main_v536 : Ref sig .tc := ⟨.hbm, 854, rfl⟩
abbrev main_c_203 : Ref sig .tc := ⟨.hbm, 855, rfl⟩
abbrev main_call41_v0 : Ref sig .tc := ⟨.hbm, 856, rfl⟩
abbrev main_v537 : Ref sig .tc := ⟨.hbm, 857, rfl⟩
abbrev main_v538 : Ref sig .tc := ⟨.hbm, 858, rfl⟩
abbrev main_c_204 : Ref sig .tc := ⟨.hbm, 859, rfl⟩
abbrev main_call42_v0 : Ref sig .tc := ⟨.hbm, 860, rfl⟩
abbrev main_v539 : Ref sig .tc := ⟨.hbm, 861, rfl⟩
abbrev main_v540 : Ref sig .tc := ⟨.hbm, 862, rfl⟩
abbrev main_c_205 : Ref sig .tc := ⟨.hbm, 863, rfl⟩
abbrev main_call43_v0 : Ref sig .tc := ⟨.hbm, 864, rfl⟩
abbrev main_v541 : Ref sig .tc := ⟨.hbm, 865, rfl⟩
abbrev main_v542 : Ref sig .tc := ⟨.hbm, 866, rfl⟩
abbrev main_c_206 : Ref sig .tc := ⟨.hbm, 867, rfl⟩
abbrev main_call44_v0 : Ref sig .tc := ⟨.hbm, 868, rfl⟩
abbrev main_v543 : Ref sig .tc := ⟨.hbm, 869, rfl⟩
abbrev main_v544 : Ref sig .tc := ⟨.hbm, 870, rfl⟩
abbrev main_c_207 : Ref sig .tc := ⟨.hbm, 871, rfl⟩
abbrev main_call45_v0 : Ref sig .tc := ⟨.hbm, 872, rfl⟩
abbrev main_v545 : Ref sig .tc := ⟨.hbm, 873, rfl⟩
abbrev main_v546 : Ref sig .tc := ⟨.hbm, 874, rfl⟩
abbrev main_c_208 : Ref sig .tc := ⟨.hbm, 875, rfl⟩
abbrev main_call46_v0 : Ref sig .tc := ⟨.hbm, 876, rfl⟩
abbrev main_v547 : Ref sig .tc := ⟨.hbm, 877, rfl⟩
abbrev main_v548 : Ref sig .tc := ⟨.hbm, 878, rfl⟩
abbrev main_c_209 : Ref sig .tc := ⟨.hbm, 879, rfl⟩
abbrev main_call47_v0 : Ref sig .tc := ⟨.hbm, 880, rfl⟩
abbrev main_v549 : Ref sig .tc := ⟨.hbm, 881, rfl⟩
abbrev main_v550 : Ref sig .tc := ⟨.hbm, 882, rfl⟩
abbrev main_c_210 : Ref sig .tc := ⟨.hbm, 883, rfl⟩
abbrev main_call48_v0 : Ref sig .tc := ⟨.hbm, 884, rfl⟩
abbrev main_v551 : Ref sig .tc := ⟨.hbm, 885, rfl⟩
abbrev main_v552 : Ref sig .tc := ⟨.hbm, 886, rfl⟩
abbrev main_c_211 : Ref sig .tc := ⟨.hbm, 887, rfl⟩
abbrev main_call49_v0 : Ref sig .tc := ⟨.hbm, 888, rfl⟩
abbrev main_v553 : Ref sig .tc := ⟨.hbm, 889, rfl⟩
abbrev main_v554 : Ref sig .tc := ⟨.hbm, 890, rfl⟩
abbrev main_c_212 : Ref sig .tc := ⟨.hbm, 891, rfl⟩
abbrev main_call50_v0 : Ref sig .tc := ⟨.hbm, 892, rfl⟩
abbrev main_v555 : Ref sig .tc := ⟨.hbm, 893, rfl⟩
abbrev main_v556 : Ref sig .tc := ⟨.hbm, 894, rfl⟩
abbrev main_c_213 : Ref sig .tc := ⟨.hbm, 895, rfl⟩
abbrev main_call51_v0 : Ref sig .tc := ⟨.hbm, 896, rfl⟩
abbrev main_v557 : Ref sig .tc := ⟨.hbm, 897, rfl⟩
abbrev main_v558 : Ref sig .tc := ⟨.hbm, 898, rfl⟩
abbrev main_c_214 : Ref sig .tc := ⟨.hbm, 899, rfl⟩
abbrev main_call52_v0 : Ref sig .tc := ⟨.hbm, 900, rfl⟩
abbrev main_v559 : Ref sig .tc := ⟨.hbm, 901, rfl⟩
abbrev main_v560 : Ref sig .tc := ⟨.hbm, 902, rfl⟩
abbrev main_c_215 : Ref sig .tc := ⟨.hbm, 903, rfl⟩
abbrev main_call53_v0 : Ref sig .tc := ⟨.hbm, 904, rfl⟩
abbrev main_v561 : Ref sig .tc := ⟨.hbm, 905, rfl⟩
abbrev main_v562 : Ref sig .tc := ⟨.hbm, 906, rfl⟩
abbrev main_cst_216 : Ref sig .tc := ⟨.hbm, 907, rfl⟩
abbrev main_v563 : Ref sig .tc := ⟨.hbm, 908, rfl⟩
abbrev main_v564 : Ref sig .tc := ⟨.hbm, 909, rfl⟩
abbrev main_v565 : Ref sig .tc := ⟨.hbm, 910, rfl⟩
abbrev main_v566 : Ref sig .tc := ⟨.hbm, 911, rfl⟩
abbrev main_v567 : Ref sig .tc := ⟨.hbm, 912, rfl⟩
abbrev main_v568 : Ref sig .tc := ⟨.hbm, 913, rfl⟩
abbrev main_v569 : Ref sig .tc := ⟨.hbm, 914, rfl⟩
abbrev main_v570 : Ref sig .tc := ⟨.hbm, 915, rfl⟩
abbrev main_v571 : Ref sig .tc := ⟨.hbm, 916, rfl⟩
abbrev main_c_217 : Ref sig .tc := ⟨.hbm, 917, rfl⟩
abbrev main_call54_v0 : Ref sig .tc := ⟨.hbm, 918, rfl⟩
abbrev main_v572 : Ref sig .tc := ⟨.hbm, 919, rfl⟩
abbrev main_v573 : Ref sig .tc := ⟨.hbm, 920, rfl⟩
abbrev main_c_218 : Ref sig .tc := ⟨.hbm, 921, rfl⟩
abbrev main_call55_v0 : Ref sig .tc := ⟨.hbm, 922, rfl⟩
abbrev main_v574 : Ref sig .tc := ⟨.hbm, 923, rfl⟩
abbrev main_v575 : Ref sig .tc := ⟨.hbm, 924, rfl⟩
abbrev main_c_219 : Ref sig .tc := ⟨.hbm, 925, rfl⟩
abbrev main_call56_v0 : Ref sig .tc := ⟨.hbm, 926, rfl⟩
abbrev main_v576 : Ref sig .tc := ⟨.hbm, 927, rfl⟩
abbrev main_v577 : Ref sig .tc := ⟨.hbm, 928, rfl⟩
abbrev main_c_220 : Ref sig .tc := ⟨.hbm, 929, rfl⟩
abbrev main_call57_v0 : Ref sig .tc := ⟨.hbm, 930, rfl⟩
abbrev main_v578 : Ref sig .tc := ⟨.hbm, 931, rfl⟩
abbrev main_v579 : Ref sig .tc := ⟨.hbm, 932, rfl⟩
abbrev main_c_221 : Ref sig .tc := ⟨.hbm, 933, rfl⟩
abbrev main_call58_v0 : Ref sig .tc := ⟨.hbm, 934, rfl⟩
abbrev main_v580 : Ref sig .tc := ⟨.hbm, 935, rfl⟩
abbrev main_v581 : Ref sig .tc := ⟨.hbm, 936, rfl⟩
abbrev main_c_222 : Ref sig .tc := ⟨.hbm, 937, rfl⟩
abbrev main_call59_v0 : Ref sig .tc := ⟨.hbm, 938, rfl⟩
abbrev main_v582 : Ref sig .tc := ⟨.hbm, 939, rfl⟩
abbrev main_v583 : Ref sig .tc := ⟨.hbm, 940, rfl⟩
abbrev main_c_223 : Ref sig .tc := ⟨.hbm, 941, rfl⟩
abbrev main_call60_v0 : Ref sig .tc := ⟨.hbm, 942, rfl⟩
abbrev main_v584 : Ref sig .tc := ⟨.hbm, 943, rfl⟩
abbrev main_v585 : Ref sig .tc := ⟨.hbm, 944, rfl⟩
abbrev main_c_224 : Ref sig .tc := ⟨.hbm, 945, rfl⟩
abbrev main_call61_v0 : Ref sig .tc := ⟨.hbm, 946, rfl⟩
abbrev main_v586 : Ref sig .tc := ⟨.hbm, 947, rfl⟩
abbrev main_v587 : Ref sig .tc := ⟨.hbm, 948, rfl⟩
abbrev main_c_225 : Ref sig .tc := ⟨.hbm, 949, rfl⟩
abbrev main_call62_v0 : Ref sig .tc := ⟨.hbm, 950, rfl⟩
abbrev main_v588 : Ref sig .tc := ⟨.hbm, 951, rfl⟩
abbrev main_v589 : Ref sig .tc := ⟨.hbm, 952, rfl⟩
abbrev main_c_226 : Ref sig .tc := ⟨.hbm, 953, rfl⟩
abbrev main_call63_v0 : Ref sig .tc := ⟨.hbm, 954, rfl⟩
abbrev main_v590 : Ref sig .tc := ⟨.hbm, 955, rfl⟩
abbrev main_v591 : Ref sig .tc := ⟨.hbm, 956, rfl⟩
abbrev main_c_227 : Ref sig .tc := ⟨.hbm, 957, rfl⟩
abbrev main_call64_v0 : Ref sig .tc := ⟨.hbm, 958, rfl⟩
abbrev main_v592 : Ref sig .tc := ⟨.hbm, 959, rfl⟩
abbrev main_v593 : Ref sig .tc := ⟨.hbm, 960, rfl⟩
abbrev main_c_228 : Ref sig .tc := ⟨.hbm, 961, rfl⟩
abbrev main_call65_v0 : Ref sig .tc := ⟨.hbm, 962, rfl⟩
abbrev main_v594 : Ref sig .tc := ⟨.hbm, 963, rfl⟩
abbrev main_v595 : Ref sig .tc := ⟨.hbm, 964, rfl⟩
abbrev main_c_229 : Ref sig .tc := ⟨.hbm, 965, rfl⟩
abbrev main_call66_v0 : Ref sig .tc := ⟨.hbm, 966, rfl⟩
abbrev main_v596 : Ref sig .tc := ⟨.hbm, 967, rfl⟩
abbrev main_v597 : Ref sig .tc := ⟨.hbm, 968, rfl⟩
abbrev main_c_230 : Ref sig .tc := ⟨.hbm, 969, rfl⟩
abbrev main_call67_v0 : Ref sig .tc := ⟨.hbm, 970, rfl⟩
abbrev main_v598 : Ref sig .tc := ⟨.hbm, 971, rfl⟩
abbrev main_v599 : Ref sig .tc := ⟨.hbm, 972, rfl⟩
abbrev main_c_231 : Ref sig .tc := ⟨.hbm, 973, rfl⟩
abbrev main_call68_v0 : Ref sig .tc := ⟨.hbm, 974, rfl⟩
abbrev main_v600 : Ref sig .tc := ⟨.hbm, 975, rfl⟩
abbrev main_v601 : Ref sig .tc := ⟨.hbm, 976, rfl⟩
abbrev main_c_232 : Ref sig .tc := ⟨.hbm, 977, rfl⟩
abbrev main_call69_v0 : Ref sig .tc := ⟨.hbm, 978, rfl⟩
abbrev main_v602 : Ref sig .tc := ⟨.hbm, 979, rfl⟩
abbrev main_v603 : Ref sig .tc := ⟨.hbm, 980, rfl⟩
abbrev main_c_233 : Ref sig .tc := ⟨.hbm, 981, rfl⟩
abbrev main_call70_v0 : Ref sig .tc := ⟨.hbm, 982, rfl⟩
abbrev main_v604 : Ref sig .tc := ⟨.hbm, 983, rfl⟩
abbrev main_v605 : Ref sig .tc := ⟨.hbm, 984, rfl⟩
abbrev main_c_234 : Ref sig .tc := ⟨.hbm, 985, rfl⟩
abbrev main_call71_v0 : Ref sig .tc := ⟨.hbm, 986, rfl⟩
abbrev main_v606 : Ref sig .tc := ⟨.hbm, 987, rfl⟩
abbrev main_v607 : Ref sig .tc := ⟨.hbm, 988, rfl⟩
abbrev main_cst_235 : Ref sig .tc := ⟨.hbm, 989, rfl⟩
abbrev main_v608 : Ref sig .tc := ⟨.hbm, 990, rfl⟩
abbrev main_v609 : Ref sig .tc := ⟨.hbm, 991, rfl⟩
abbrev main_v610 : Ref sig .tc := ⟨.hbm, 992, rfl⟩
abbrev main_v611 : Ref sig .tc := ⟨.hbm, 993, rfl⟩

abbrev nD : Nat := 1
abbrev τ : Topo := Topo.v7x

variable {F : FTy → Type} [FloatOps F]
-- ==== SumSmall.lean ====
abbrev S8x2048x128 : Shape := ⟨3, ![8, 2048, 128]⟩
abbrev S2048x128 : Shape := ⟨2, ![2048, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2048x128, .f32⟩
  | .hbm, ⟨1, _⟩ => ⟨S2048x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallIdeal.lean ====
abbrev S8x2048x128 : Shape := ⟨3, ![8, 2048, 128]⟩
abbrev S2048x128 : Shape := ⟨2, ![2048, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2048x128, .f32⟩
  | .hbm, ⟨1, _⟩ => ⟨S2048x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallRefIdeal.lean ====
abbrev S8x2048x128 : Shape := ⟨3, ![8, 2048, 128]⟩
abbrev S_ : Shape := ⟨0, ![]⟩
abbrev S2048x128 : Shape := ⟨2, ![2048, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S_, .f32⟩
  | .hbm, ⟨2, _⟩ => ⟨S2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumAda.lean ====
abbrev S8x48x128 : Shape := ⟨3, ![8, 48, 128]⟩
abbrev S48x128 : Shape := ⟨2, ![48, 128]⟩
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x48x128, .f32⟩
  | .hbm, ⟨1, _⟩ => ⟨S48x128, .f32⟩
  | .local _ .vmem, ⟨0, _⟩ => ⟨S8x16x128, .f32⟩
  | .local _ .vmem, ⟨1, _⟩ => ⟨S8x16x128, .f32⟩
  | .local _ .vmem, ⟨2, _⟩ => ⟨S16x128, .f32⟩
  | .local _ .vmem, ⟨3, _⟩ => ⟨S16x128, .f32⟩
  | _, _ => ⟨S8x48x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumAdaRefIdeal.lean ====
abbrev S8x48x128 : Shape := ⟨3, ![8, 48, 128]⟩
abbrev S_ : Shape := ⟨0, ![]⟩
abbrev S48x128 : Shape := ⟨2, ![48, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x48x128, .f32⟩
  | .hbm, ⟨1, _⟩ => ⟨S_, .f32⟩
  | .hbm, ⟨2, _⟩ => ⟨S48x128, .f32⟩
  | _, _ => ⟨S8x48x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumIn.lean ====
abbrev S1024x2696 : Shape := ⟨2, ![1024, 2696]⟩
abbrev S3x1024x2696 : Shape := ⟨3, ![3, 1024, 2696]⟩
abbrev S256x2696 : Shape := ⟨2, ![256, 2696]⟩
abbrev S3x256x2696 : Shape := ⟨3, ![3, 256, 2696]⟩
abbrev S1x256x2696 : Shape := ⟨3, ![1, 256, 2696]⟩

abbrev nBuf : Space → Nat
  | .hbm => 3
  | .vmem => 6
  | .smem => 0
  | _ => 0

abbrev bufTy : (tb : Table) → Fin (tcTables nBuf tb) → BufTy
  | .hbm, ⟨0, _⟩ => ⟨S1024x2696, .f32⟩
  | .hbm, ⟨1, _⟩ => ⟨S3x1024x2696, .bf16⟩
  | .hbm, ⟨2, _⟩ => ⟨S1024x2696, .f32⟩
  | .local _ .vmem, ⟨0, _⟩ => ⟨S256x2696, .f32⟩
  | .local _ .vmem, ⟨1, _⟩ => ⟨S256x2696, .f32⟩
  | .local _ .vmem, ⟨2, _⟩ => ⟨S3x256x2696, .bf16⟩
  | .local _ .vmem, ⟨3, _⟩ => ⟨S3x256x2696, .bf16⟩
  | .local _ .vmem, ⟨4, _⟩ => ⟨S256x2696, .f32⟩
  | .local _ .vmem, ⟨5, _⟩ => ⟨S256x2696, .f32⟩
  | _, _ => ⟨S1024x2696, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2696 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x2696 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2696 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumInIdeal.lean ====
abbrev S1024x2696 : Shape := ⟨2, ![1024, 2696]⟩
abbrev S3x1024x2696 : Shape := ⟨3, ![3, 1024, 2696]⟩
abbrev S256x2696 : Shape := ⟨2, ![256, 2696]⟩
abbrev S3x256x2696 : Shape := ⟨3, ![3, 256, 2696]⟩
abbrev S1x256x2696 : Shape := ⟨3, ![1, 256, 2696]⟩

abbrev nBuf : Space → Nat
  | .hbm => 3
  | .vmem => 6
  | .smem => 0
  | _ => 0

abbrev bufTy : (tb : Table) → Fin (tcTables nBuf tb) → BufTy
  | .hbm, ⟨0, _⟩ => ⟨S1024x2696, .f32⟩
  | .hbm, ⟨1, _⟩ => ⟨S3x1024x2696, .bf16⟩
  | .hbm, ⟨2, _⟩ => ⟨S1024x2696, .f32⟩
  | .local _ .vmem, ⟨0, _⟩ => ⟨S256x2696, .f32⟩
  | .local _ .vmem, ⟨1, _⟩ => ⟨S256x2696, .f32⟩
  | .local _ .vmem, ⟨2, _⟩ => ⟨S3x256x2696, .bf16⟩
  | .local _ .vmem, ⟨3, _⟩ => ⟨S3x256x2696, .bf16⟩
  | .local _ .vmem, ⟨4, _⟩ => ⟨S256x2696, .f32⟩
  | .local _ .vmem, ⟨5, _⟩ => ⟨S256x2696, .f32⟩
  | _, _ => ⟨S1024x2696, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2696 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x2696 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2696 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumInRefIdeal.lean ====
abbrev S1024x2696 : Shape := ⟨2, ![1024, 2696]⟩
abbrev S3x1024x2696 : Shape := ⟨3, ![3, 1024, 2696]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x2696, .f32⟩
  | .hbm, ⟨1, _⟩ => ⟨S3x1024x2696, .bf16⟩
  | .hbm, ⟨2, _⟩ => ⟨S3x1024x2696, .f32⟩
  | .hbm, ⟨3, _⟩ => ⟨S_, .f32⟩
  | .hbm, ⟨4, _⟩ => ⟨S1024x2696, .f32⟩
  | .hbm, ⟨5, _⟩ => ⟨S1024x2696, .f32⟩
  | _, _ => ⟨S1024x2696, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SumPa.lean ====
abbrev S320x1024 : Shape := ⟨2, ![320, 1024]⟩
abbrev S3x320x1024 : Shape := ⟨3, ![3, 320, 1024]⟩
abbrev S64x1024 : Shape := ⟨2, ![64, 1024]⟩
abbrev S3x64x1024 : Shape := ⟨3, ![3, 64, 1024]⟩
abbrev S1x64x1024 : Shape := ⟨3, ![1, 64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S320x1024, .f32⟩
  | .hbm, ⟨1, _⟩ => ⟨S3x320x1024, .bf16⟩
  | .hbm, ⟨2, _⟩ => ⟨S320x1024, .f32⟩
  | .local _ .vmem, ⟨0, _⟩ => ⟨S64x1024, .f32⟩
  | .local _ .vmem, ⟨1, _⟩ => ⟨S64x1024, .f32⟩
  | .local _ .vmem, ⟨2, _⟩ => ⟨S3x64x1024, .bf16⟩
  | .local _ .vmem, ⟨3, _⟩ => ⟨S3x64x1024, .bf16⟩
  | .local _ .vmem, ⟨4, _⟩ => ⟨S64x1024, .f32⟩
  | .local _ .vmem, ⟨5, _⟩ => ⟨S64x1024, .f32⟩
  | _, _ => ⟨S320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumPaIdeal.lean ====
abbrev S320x1024 : Shape := ⟨2, ![320, 1024]⟩
abbrev S3x320x1024 : Shape := ⟨3, ![3, 320, 1024]⟩
abbrev S64x1024 : Shape := ⟨2, ![64, 1024]⟩
abbrev S3x64x1024 : Shape := ⟨3, ![3, 64, 1024]⟩
abbrev S1x64x1024 : Shape := ⟨3, ![1, 64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S320x1024, .f32⟩
  | .hbm, ⟨1, _⟩ => ⟨S3x320x1024, .bf16⟩
  | .hbm, ⟨2, _⟩ => ⟨S320x1024, .f32⟩
  | .local _ .vmem, ⟨0, _⟩ => ⟨S64x1024, .f32⟩
  | .local _ .vmem, ⟨1, _⟩ => ⟨S64x1024, .f32⟩
  | .local _ .vmem, ⟨2, _⟩ => ⟨S3x64x1024, .bf16⟩
  | .local _ .vmem, ⟨3, _⟩ => ⟨S3x64x1024, .bf16⟩
  | .local _ .vmem, ⟨4, _⟩ => ⟨S64x1024, .f32⟩
  | .local _ .vmem, ⟨5, _⟩ => ⟨S64x1024, .f32⟩
  | _, _ => ⟨S320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumPaRefIdeal.lean ====
abbrev S320x1024 : Shape := ⟨2, ![320, 1024]⟩
abbrev S3x320x1024 : Shape := ⟨3, ![3, 320, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S320x1024, .f32⟩
  | .hbm, ⟨1, _⟩ => ⟨S3x320x1024, .bf16⟩
  | .hbm, ⟨2, _⟩ => ⟨S3x320x1024, .f32⟩
  | .hbm, ⟨3, _⟩ => ⟨S_, .f32⟩
  | .hbm, ⟨4, _⟩ => ⟨S320x1024, .f32⟩
  | .hbm, ⟨5, _⟩ => ⟨S320x1024, .f32⟩
  | _, _ => ⟨S320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SumPb.lean ====
abbrev S512x1024 : Shape := ⟨2, ![512, 1024]⟩
abbrev S3x512x1024 : Shape := ⟨3, ![3, 512, 1024]⟩
abbrev S1x512x1024 : Shape := ⟨3, ![1, 512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S3x512x1024, .bf16⟩
  | .hbm, ⟨2, _⟩ => ⟨S512x1024, .f32⟩
  | .local _ .vmem, ⟨0, _⟩ => ⟨S512x1024, .f32⟩
  | .local _ .vmem, ⟨1, _⟩ => ⟨S3x512x1024, .bf16⟩
  | .local _ .vmem, ⟨2, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumPbIdeal.lean ====
abbrev S512x1024 : Shape := ⟨2, ![512, 1024]⟩
abbrev S3x512x1024 : Shape := ⟨3, ![3, 512, 1024]⟩
abbrev S1x512x1024 : Shape := ⟨3, ![1, 512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S3x512x1024, .bf16⟩
  | .hbm, ⟨2, _⟩ => ⟨S512x1024, .f32⟩
  | .local _ .vmem, ⟨0, _⟩ => ⟨S512x1024, .f32⟩
  | .local _ .vmem, ⟨1, _⟩ => ⟨S3x512x1024, .bf16⟩
  | .local _ .vmem, ⟨2, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumPbRefIdeal.lean ====
abbrev S512x1024 : Shape := ⟨2, ![512, 1024]⟩
abbrev S3x512x1024 : Shape := ⟨3, ![3, 512, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S3x512x1024, .bf16⟩
  | .hbm, ⟨2, _⟩ => ⟨S3x512x1024, .f32⟩
  | .hbm, ⟨3, _⟩ => ⟨S_, .f32⟩
  | .hbm, ⟨4, _⟩ => ⟨S512x1024, .f32⟩
  | .hbm, ⟨5, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SumOut.lean ====
abbrev S256x1024 : Shape := ⟨2, ![256, 1024]⟩
abbrev S3x256x1024 : Shape := ⟨3, ![3, 256, 1024]⟩
abbrev S1x256x1024 : Shape := ⟨3, ![1, 256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S3x256x1024, .bf16⟩
  | .hbm, ⟨2, _⟩ => ⟨S256x1024, .f32⟩
  | .local _ .vmem, ⟨0, _⟩ => ⟨S256x1024, .f32⟩
  | .local _ .vmem, ⟨1, _⟩ => ⟨S3x256x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumOutIdeal.lean ====
abbrev S256x1024 : Shape := ⟨2, ![256, 1024]⟩
abbrev S3x256x1024 : Shape := ⟨3, ![3, 256, 1024]⟩
abbrev S1x256x1024 : Shape := ⟨3, ![1, 256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S3x256x1024, .bf16⟩
  | .hbm, ⟨2, _⟩ => ⟨S256x1024, .f32⟩
  | .local _ .vmem, ⟨0, _⟩ => ⟨S256x1024, .f32⟩
  | .local _ .vmem, ⟨1, _⟩ => ⟨S3x256x1024, .bf16⟩
  | .local _ .vmem, ⟨2, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumOutRefIdeal.lean ====
abbrev S256x1024 : Shape := ⟨2, ![256, 1024]⟩
abbrev S3x256x1024 : Shape := ⟨3, ![3, 256, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S3x256x1024, .bf16⟩
  | .hbm, ⟨2, _⟩ => ⟨S3x256x1024, .f32⟩
  | .hbm, ⟨3, _⟩ => ⟨S_, .f32⟩
  | .hbm, ⟨4, _⟩ => ⟨S256x1024, .f32⟩
  | .hbm, ⟨5, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SumGu.lean ====
abbrev S1024x704 : Shape := ⟨2, ![1024, 704]⟩
abbrev S3x1024x704 : Shape := ⟨3, ![3, 1024, 704]⟩
abbrev S512x704 : Shape := ⟨2, ![512, 704]⟩
abbrev S3x512x704 : Shape := ⟨3, ![3, 512, 704]⟩
abbrev S1x512x704 : Shape := ⟨3, ![1, 512, 704]⟩

abbrev nBuf : Space → Nat
  | .hbm => 3
  | .vmem => 6
  | .smem => 0
  | _ => 0

abbrev bufTy : (tb : Table) → Fin (tcTables nBuf tb) → BufTy
  | .hbm, ⟨0, _⟩ => ⟨S1024x704, .f32⟩
  | .hbm, ⟨1, _⟩ => ⟨S3x1024x704, .bf16⟩
  | .hbm, ⟨2, _⟩ => ⟨S1024x704, .f32⟩
  | .local _ .vmem, ⟨0, _⟩ => ⟨S512x704, .f32⟩
  | .local _ .vmem, ⟨1, _⟩ => ⟨S512x704, .f32⟩
  | .local _ .vmem, ⟨2, _⟩ => ⟨S3x512x704, .bf16⟩
  | .local _ .vmem, ⟨3, _⟩ => ⟨S3x512x704, .bf16⟩
  | .local _ .vmem, ⟨4, _⟩ => ⟨S512x704, .f32⟩
  | .local _ .vmem, ⟨5, _⟩ => ⟨S512x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumGuIdeal.lean ====
abbrev S1024x704 : Shape := ⟨2, ![1024, 704]⟩
abbrev S3x1024x704 : Shape := ⟨3, ![3, 1024, 704]⟩
abbrev S512x704 : Shape := ⟨2, ![512, 704]⟩
abbrev S3x512x704 : Shape := ⟨3, ![3, 512, 704]⟩
abbrev S1x512x704 : Shape := ⟨3, ![1, 512, 704]⟩

abbrev nBuf : Space → Nat
  | .hbm => 3
  | .vmem => 6
  | .smem => 0
  | _ => 0

abbrev bufTy : (tb : Table) → Fin (tcTables nBuf tb) → BufTy
  | .hbm, ⟨0, _⟩ => ⟨S1024x704, .f32⟩
  | .hbm, ⟨1, _⟩ => ⟨S3x1024x704, .bf16⟩
  | .hbm, ⟨2, _⟩ => ⟨S1024x704, .f32⟩
  | .local _ .vmem, ⟨0, _⟩ => ⟨S512x704, .f32⟩
  | .local _ .vmem, ⟨1, _⟩ => ⟨S512x704, .f32⟩
  | .local _ .vmem, ⟨2, _⟩ => ⟨S3x512x704, .bf16⟩
  | .local _ .vmem, ⟨3, _⟩ => ⟨S3x512x704, .bf16⟩
  | .local _ .vmem, ⟨4, _⟩ => ⟨S512x704, .f32⟩
  | .local _ .vmem, ⟨5, _⟩ => ⟨S512x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumGuRefIdeal.lean ====
abbrev S1024x704 : Shape := ⟨2, ![1024, 704]⟩
abbrev S3x1024x704 : Shape := ⟨3, ![3, 1024, 704]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S3x1024x704, .bf16⟩
  | .hbm, ⟨2, _⟩ => ⟨S3x1024x704, .f32⟩
  | .hbm, ⟨3, _⟩ => ⟨S_, .f32⟩
  | .hbm, ⟨4, _⟩ => ⟨S1024x704, .f32⟩
  | .hbm, ⟨5, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SumDown.lean ====
abbrev S704x1024 : Shape := ⟨2, ![704, 1024]⟩
abbrev S3x704x1024 : Shape := ⟨3, ![3, 704, 1024]⟩
abbrev S64x1024 : Shape := ⟨2, ![64, 1024]⟩
abbrev S3x64x1024 : Shape := ⟨3, ![3, 64, 1024]⟩
abbrev S1x64x1024 : Shape := ⟨3, ![1, 64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S704x1024, .f32⟩
  | .hbm, ⟨1, _⟩ => ⟨S3x704x1024, .bf16⟩
  | .hbm, ⟨2, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S3x64x1024, .bf16⟩
  | .local _ .vmem, ⟨3, _⟩ => ⟨S3x64x1024, .bf16⟩
  | .local _ .vmem, ⟨4, _⟩ => ⟨S64x1024, .f32⟩
  | .local _ .vmem, ⟨5, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumDownRefIdeal.lean ====
abbrev S704x1024 : Shape := ⟨2, ![704, 1024]⟩
abbrev S3x704x1024 : Shape := ⟨3, ![3, 704, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S3x704x1024, .bf16⟩
  | .hbm, ⟨2, _⟩ => ⟨S3x704x1024, .f32⟩
  | .hbm, ⟨3, _⟩ => ⟨S_, .f32⟩
  | .hbm, ⟨4, _⟩ => ⟨S704x1024, .f32⟩
  | .hbm, ⟨5, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Tiles.lean ====
/-
  The operations of the kernel's body on one head's tiles, each as the function of indices it is at `Ideal`: the four products
  (`tn`, `tnW`, `mm`, `nt`), the reads of a tile out of a block at natural-number offsets (`at2`, `at3`, `at4`), and the layout
  changes between them.
-/
module

public import proofs.«01_k».proof.Proof.Gen.KernelIdeal.Value
public import Idealize.ShloMosaic.Lib.Pointwise
public import Idealize.ShloMosaic.Lib.Tactic
public import Idealize.ShloMosaic.Lib.Pipeline.ReadBack
public import Idealize.ShloMosaic.Lib.Pipeline.ValueKit

@[expose] public section

set_option maxRecDepth 16384

noncomputable section

open Idealize.ShloMosaic Idealize.ShloMosaic.TcCoe Cert.KernelIdeal Cert.KernelIdeal.Gen
open scoped BigOperators

namespace Cert.Proof.Tile

/-! ## Reads at natural-number coordinates (zero outside the array) -/

def at2 {a b : ℕ} (x : (⟨2, ![a, b]⟩ : Shape).Idx → EReal) (i j : ℕ) : EReal :=
  if h : i < a ∧ j < b then x (ix2 ⟨i, h.1⟩ ⟨j, h.2⟩) else 0

def at3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

def at4 {a b c d : ℕ} (x : (⟨4, ![a, b, c, d]⟩ : Shape).Idx → EReal) (i j k l : ℕ) : EReal :=
  if h : i < a ∧ j < b ∧ k < c ∧ l < d then x (ix4 ⟨i, h.1⟩ ⟨j, h.2.1⟩ ⟨k, h.2.2.1⟩ ⟨l, h.2.2.2⟩) else 0

theorem at2_eq {a b : ℕ} (x : (⟨2, ![a, b]⟩ : Shape).Idx → EReal) {i j : ℕ} (hi : i < a) (hj : j < b) :
    at2 x i j = x (ix2 ⟨i, hi⟩ ⟨j, hj⟩) := dif_pos ⟨hi, hj⟩

theorem at3_eq {a b c : ℕ} (x : (⟨3, ![a, b, c]⟩ : Shape).Idx → EReal) {i j k : ℕ} (hi : i < a) (hj : j < b) (hk : k < c) :
    at3 x i j k = x (ix3 ⟨i, hi⟩ ⟨j, hj⟩ ⟨k, hk⟩) := dif_pos ⟨hi, hj, hk⟩

theorem at4_eq {a b c d : ℕ} (x : (⟨4, ![a, b, c, d]⟩ : Shape).Idx → EReal) {i j k l : ℕ} (hi : i < a) (hj : j < b) (hk : k < c)
    (hl : l < d) : at4 x i j k l = x (ix4 ⟨i, hi⟩ ⟨j, hj⟩ ⟨k, hk⟩ ⟨l, hl⟩) := dif_pos ⟨hi, hj, hk, hl⟩

/-! ## Tiles -/

/-- 64 rows and 128 lanes of a block, from row `o` and lane `l`. -/
def half (x : S128x2048.Idx → EReal) (o l : ℕ) : S64x128.Idx → EReal := fun j => at2 x (o + (j 0).val) (l + (j 1).val)
/-- All 128 rows and 128 lanes of a block, from lane `l`. -/
def full (x : S128x2048.Idx → EReal) (l : ℕ) : S128x128.Idx → EReal := fun j => at2 x (j 0).val (l + (j 1).val)
/-- Head `h`'s square of the carried state gradient. -/
def sq (x : S16x128x128.Idx → EReal) (h : ℕ) : S128x128.Idx → EReal := fun j => at3 x h (j 0).val (j 1).val
/-- Head `h`'s saved state, rows from `o`. -/
def sv (x : S16x256x128.Idx → EReal) (h o : ℕ) : S128x128.Idx → EReal := fun j => at3 x h (o + (j 0).val) (j 1).val
/-- A decay's lane row, the same in every row. -/
def lanes (x : S1x8x8x128.Idx → EReal) (a r : ℕ) : S128x128.Idx → EReal := fun j => at4 x 0 a r (j 1).val
/-- 64 rows of a square from row `o`. -/
def cut (x : S128x128.Idx → EReal) (o : ℕ) : S64x128.Idx → EReal := fun j => at2 x (o + (j 0).val) (j 1).val

/-! ## Products -/

def tn (a b : S64x128.Idx → EReal) : S128x128.Idx → EReal := fun j => ∑ c : Fin 64, a (ix2 c (j 0)) * b (ix2 c (j 1))
def tnW (a b : S128x128.Idx → EReal) : S128x128.Idx → EReal := fun j => ∑ c : Fin 128, a (ix2 c (j 0)) * b (ix2 c (j 1))
def mm (a : S64x128.Idx → EReal) (b : S128x128.Idx → EReal) : S64x128.Idx → EReal :=
  fun j => ∑ k : Fin 128, a (ix2 (j 0) k) * b (ix2 k (j 1))
def nt (a : S64x128.Idx → EReal) (b : S128x128.Idx → EReal) : S64x128.Idx → EReal :=
  fun j => ∑ k : Fin 128, a (ix2 (j 0) k) * b (ix2 (j 1) k)
/-- The sum of all elements. -/
def tot (a : S128x128.Idx → EReal) : EReal := ∑ k : Fin 128, ∑ e : Fin 128, a (ix2 k e)

theorem tn_eq (a b : FVec Ideal S64x128 .f32) :
    matmul (F := Ideal) dot_S64x128_S64x128_S128x128_0_0_1_1_n_n none (truncf .bf16 a bitsLt_bf16_f32) (truncf .bf16 b bitsLt_bf16_f32)
      (constant S128x128 .f32 0#32) = tn a b := by
  funext j; unfold tn; pointwise

theorem tnW_eq (a b : FVec Ideal S128x128 .f32) :
    matmul (F := Ideal) dot_S128x128_S128x128_S128x128_0_0_1_1_n_n none (truncf .bf16 a bitsLt_bf16_f32) (truncf .bf16 b bitsLt_bf16_f32)
      (constant S128x128 .f32 0#32) = tnW a b := by
  funext j; unfold tnW; pointwise

theorem mm_eq (a : FVec Ideal S64x128 .f32) (b : FVec Ideal S128x128 .f32) :
    matmul (F := Ideal) dot_S64x128_S128x128_S64x128_1_0_0_1_n_n none (truncf .bf16 a bitsLt_bf16_f32) (truncf .bf16 b bitsLt_bf16_f32)
      (constant S64x128 .f32 0#32) = mm a b := by
  funext j; unfold mm; pointwise

theorem nt_eq (a : FVec Ideal S64x128 .f32) (b : FVec Ideal S128x128 .f32) :
    matmul (F := Ideal) dot_S64x128_S128x128_S64x128_1_1_0_0_n_n none (truncf .bf16 a bitsLt_bf16_f32) (truncf .bf16 b bitsLt_bf16_f32)
      (constant S64x128 .f32 0#32) = nt a b := by
  funext j; unfold nt; pointwise

/-! ## Loads -/

theorem ld_half (x : S128x2048.Idx → EReal) (o l : ℕ) (inb) :
    View.ld (Val := Elt Ideal) (e' := .f32) x (Rect.unit (s := S128x2048) ![o, l] ![64, 128] inb) = half x o l := by
  funext j
  have h0 := inb 0
  have h1 := inb 1
  have h0' : o + 64 ≤ 128 := h0
  have h1' : l + 128 ≤ 2048 := h1
  have j0 : (j 0).val < 64 := (j 0).isLt
  have j1 : (j 1).val < 128 := (j 1).isLt
  unfold half
  rw [at2_eq x (by omega) (by omega)]
  pointwise

theorem ld_full (x : S128x2048.Idx → EReal) (l : ℕ) (inb) :
    View.ld (Val := Elt Ideal) (e' := .f32) x (Rect.unit (s := S128x2048) ![0, l] ![128, 128] inb) = full x l := by
  funext j
  have h1' : l + 128 ≤ 2048 := inb 1
  have j0 : (j 0).val < 128 := (j 0).isLt
  have j1 : (j 1).val < 128 := (j 1).isLt
  unfold full
  rw [at2_eq x (by omega) (by omega)]
  pointwise

/-- Dropping the leading unit axis. -/
theorem drop_unit (z : S1x128x128.Idx → EReal) :
    shapeCast S128x128 z shapeCasts_S1x128x128_S128x128 = fun j => z (ix3 0 (j 0) (j 1)) := by
  funext j; pointwise

/-- Adding it. -/
theorem add_unit (z : S128x128.Idx → EReal) (h) :
    shapeCast S1x128x128 z h = fun j => z (ix2 (j 1) (j 2)) := by
  funext j; pointwise

theorem ld_3 {n m : ℕ} (x : (⟨3, ![n, m, 128]⟩ : Shape).Idx → EReal) (h o : ℕ) (inb) :
    View.ld (Val := Elt Ideal) (e' := .f32) x (Rect.unit (s := ⟨3, ![n, m, 128]⟩) ![h, o, 0] ![1, 128, 128] inb)
      = fun j => at3 x (h + (j 0).val) (o + (j 1).val) (j 2).val := by
  funext j
  have h1' : h + 1 ≤ n := inb 0
  have h2' : o + 128 ≤ m := inb 1
  have j0 : (j 0).val < 1 := (j 0).isLt
  have j1 : (j 1).val < 128 := (j 1).isLt
  have j2 : (j 2).val < 128 := (j 2).isLt
  rw [at3_eq x (by omega) (by omega) (by omega)]
  show x _ = x _
  congr 1
  funext a
  fin_cases a
  · exact Fin.ext (by simp [ix3])
  · exact Fin.ext (by simp [ix3])
  · exact Fin.ext (by simp [ix3])

theorem ld_sq (x : S16x128x128.Idx → EReal) (h : ℕ) (inb) :
    shapeCast (s := S1x128x128) (α := Ideal .f32) S128x128 (View.ld (Val := Elt Ideal) (e' := .f32) x (Rect.unit (s := S16x128x128) ![h, 0, 0] ![1, 128, 128] inb))
      shapeCasts_S1x128x128_S128x128 = sq x h := by
  rw [ld_3 x h 0 inb]
  exact (drop_unit _).trans (funext fun j => by
    show at3 x (h + 0) (0 + (j 0).val) (j 1).val = at3 x h (j 0).val (j 1).val
    rw [Nat.add_zero, Nat.zero_add])

theorem ld_sv (x : S16x256x128.Idx → EReal) (h o : ℕ) (inb) :
    shapeCast (s := S1x128x128) (α := Ideal .f32) S128x128 (View.ld (Val := Elt Ideal) (e' := .f32) x (Rect.unit (s := S16x256x128) ![h, o, 0] ![1, 128, 128] inb))
      shapeCasts_S1x128x128_S128x128 = sv x h o := by
  rw [ld_3 x h o inb]
  exact (drop_unit _).trans (funext fun j => by
    show at3 x (h + 0) (o + (j 0).val) (j 1).val = at3 x h (o + (j 0).val) (j 1).val
    rw [Nat.add_zero])

theorem ld_lanes (x : S1x8x8x128.Idx → EReal) (a r : ℕ) (inb) (hc hb) :
    broadcastTo (α := Ideal .f32) S128x128 (shapeCast (s := S1x1x1x128) (α := Ideal .f32) S1x128 (View.ld (Val := Elt Ideal) (e' := .f32) x
      (Rect.unit (s := S1x8x8x128) ![0, a, r, 0] ![1, 1, 1, 128] inb)) hc) hb = lanes x a r := by
  funext j
  have h1' : a + 1 ≤ 8 := inb 1
  have h2' : r + 1 ≤ 8 := inb 2
  have j1 : (j 1).val < 128 := (j 1).isLt
  unfold lanes
  rw [at4_eq x (by omega) (by omega) (by omega) (by omega)]
  pointwise

theorem cut_0 (x : S128x128.Idx → EReal) (h) : extractStridedSlice S64x128 ![0, 0] x h = cut x 0 := by
  funext j
  have j0 : (j 0).val < 64 := (j 0).isLt
  have j1 : (j 1).val < 128 := (j 1).isLt
  unfold cut
  rw [at2_eq x (by omega) (by omega)]
  pointwise

theorem cut_64 (x : S128x128.Idx → EReal) (h) : extractStridedSlice S64x128 ![64, 0] x h = cut x 64 := by
  funext j
  have j0 : (j 0).val < 64 := (j 0).isLt
  have j1 : (j 1).val < 128 := (j 1).isLt
  unfold cut
  rw [at2_eq x (by omega) (by omega)]
  pointwise

/-- The two-stage sum of a square, in every lane of a row. -/
theorem tot_eq (a : FVec Ideal S128x128 .f32) (p₁ p₂ p₃ p₄ h₁ h₂ h₃ h₄ h₅ h₆) :
    shapeCast S1x1x1x128 (broadcastTo S1x128 (shapeCast S1x1 (multiReduction (F := Ideal) .add [0] S1
      (shapeCast S128x1 (multiReduction (F := Ideal) .add [1] S128 a 0#32 h₁ p₁ p₂) h₂) 0#32 h₃ p₃ p₄) h₄) h₅) h₆ = fun _ => tot a := by
  funext j; unfold tot; pointwise

/-- The zero the scratch starts from. -/
def zero3 : S16x128x128.Idx → EReal := fun _ => 0

theorem zero3_eq : broadcast S16x128x128 (FloatOps.ofBits (F := Ideal) .f32 0#32) = zero3 := by
  funext j; unfold zero3; pointwise

/-! ## Elementwise operations -/

def add {σ : Shape} (a b : σ.Idx → EReal) : σ.Idx → EReal := fun j => a j + b j
def sub {σ : Shape} (a b : σ.Idx → EReal) : σ.Idx → EReal := fun j => a j - b j
def mul {σ : Shape} (a b : σ.Idx → EReal) : σ.Idx → EReal := fun j => a j * b j

theorem add_eq {σ : Shape} (a b : FVec Ideal σ .f32) : addf a b = add a b := rfl
theorem sub_eq {σ : Shape} (a b : FVec Ideal σ .f32) : subf a b = sub a b := rfl
theorem mul_eq {σ : Shape} (a b : FVec Ideal σ .f32) : mulf a b = mul a b := rfl

/-! ## One block of two chunks -/

/-- The arrays' blocks of one point, and the state gradient it starts from. -/
structure Blk where
  d : S128x2048.Idx → EReal
  q : S128x2048.Idx → EReal
  k : S128x2048.Idx → EReal
  p : S128x2048.Idx → EReal
  w : S128x2048.Idx → EReal
  v : S128x2048.Idx → EReal
  s : S16x256x128.Idx → EReal
  g : S1x8x8x128.Idx → EReal
  z : S16x128x128.Idx → EReal

namespace Blk
variable (X : Blk) (h : ℕ)

/-- `pᵀ do` of head `h`, both chunks. -/
def pdo : S128x128.Idx → EReal := tnW (full X.p (128 * h)) (full X.d (128 * h))
/-- The later chunk's gradient of `v_new`. -/
def dvB : S64x128.Idx → EReal := add (cut (X.pdo h) 64) (mm (half X.k 64 (128 * h)) (sq X.z h))
/-- The state gradient between the two chunks. -/
def ds1 : S128x128.Idx → EReal :=
  sub (add (mul (lanes X.g (h / 2) (2 * (h % 2) + 1)) (sq X.z h)) (tn (half X.q 64 (128 * h)) (half X.d 64 (128 * h))))
    (tn (half X.w 64 (128 * h)) (X.dvB h))
/-- The earlier chunk's gradient of `v_new`. -/
def dvA : S64x128.Idx → EReal := add (cut (X.pdo h) 0) (mm (half X.k 0 (128 * h)) (X.ds1 h))
/-- The state gradient before both. -/
def ds0 : S128x128.Idx → EReal :=
  sub (add (mul (lanes X.g (h / 2) (2 * (h % 2))) (X.ds1 h)) (tn (half X.q 0 (128 * h)) (half X.d 0 (128 * h))))
    (tn (half X.w 0 (128 * h)) (X.dvA h))
def dkA : S64x128.Idx → EReal := nt (half X.v 0 (128 * h)) (X.ds1 h)
def dkB : S64x128.Idx → EReal := nt (half X.v 64 (128 * h)) (sq X.z h)
def dgA : EReal := tot (mul (X.ds1 h) (sv X.s h 0))
def dgB : EReal := tot (mul (sq X.z h) (sv X.s h 128))

end Blk

/-! ## The blocks the pieces make -/

/-- Two halves of rows of every head: `A` above `B`. -/
def rows2 (A B : ℕ → S64x128.Idx → EReal) : S128x2048.Idx → EReal := fun y =>
  if (y 0).val < 64 then at2 (A ((y 1).val / 128)) (y 0).val ((y 1).val % 128)
  else at2 (B ((y 1).val / 128)) ((y 0).val - 64) ((y 1).val % 128)

theorem rows2_lo (A B : ℕ → S64x128.Idx → EReal) (l : ℕ) (inb) (hl : l % 128 = 0)
    (x : (Rect.unit (s := S128x2048) ![0, l] ![64, 128] inb).shape.Idx) :
    rows2 A B ((Rect.unit (s := S128x2048) ![0, l] ![64, 128] inb).emb x) = A (l / 128) x := by
  have x0 : (x 0).val < 64 := (x 0).isLt
  have x1 : (x 1).val < 128 := (x 1).isLt
  have e0 : (((Rect.unit (s := S128x2048) ![0, l] ![64, 128] inb).emb x) 0).val = (x 0).val := by
    show 0 + 1 * (x 0).val = _; omega
  have e1 : (((Rect.unit (s := S128x2048) ![0, l] ![64, 128] inb).emb x) 1).val = l + (x 1).val := by
    show l + 1 * (x 1).val = _; omega
  unfold rows2
  rw [e0, e1, if_pos x0, show (l + (x 1).val) / 128 = l / 128 by omega, show (l + (x 1).val) % 128 = (x 1).val by omega,
    at2_eq _ x0 x1]
  exact congrArg _ (eq_ix2 x).symm

theorem rows2_hi (A B : ℕ → S64x128.Idx → EReal) (l : ℕ) (inb) (hl : l % 128 = 0)
    (x : (Rect.unit (s := S128x2048) ![64, l] ![64, 128] inb).shape.Idx) :
    rows2 A B ((Rect.unit (s := S128x2048) ![64, l] ![64, 128] inb).emb x) = B (l / 128) x := by
  have x0 : (x 0).val < 64 := (x 0).isLt
  have x1 : (x 1).val < 128 := (x 1).isLt
  have e0 : (((Rect.unit (s := S128x2048) ![64, l] ![64, 128] inb).emb x) 0).val = 64 + (x 0).val := by
    show 64 + 1 * (x 0).val = _; omega
  have e1 : (((Rect.unit (s := S128x2048) ![64, l] ![64, 128] inb).emb x) 1).val = l + (x 1).val := by
    show l + 1 * (x 1).val = _; omega
  unfold rows2
  rw [e0, e1, if_neg (by omega), show (l + (x 1).val) / 128 = l / 128 by omega,
    show (l + (x 1).val) % 128 = (x 1).val by omega, show 64 + (x 0).val - 64 = (x 0).val by omega, at2_eq _ x0 x1]
  exact congrArg _ (eq_ix2 x).symm

/-- The decays' gradients: head `2 a + r / 2`'s two chunks at rows `r` even and odd, and zero from row 4. -/
def gam4 (A B : ℕ → EReal) : S1x8x8x128.Idx → EReal := fun y =>
  if (y 2).val < 4 then (if (y 2).val % 2 = 0 then A (2 * (y 1).val + (y 2).val / 2) else B (2 * (y 1).val + (y 2).val / 2)) else 0

theorem gam4_at (A B : ℕ → EReal) (a r : ℕ) (inb) (hr : r < 4)
    (x : (Rect.unit (s := S1x8x8x128) ![0, a, r, 0] ![1, 1, 1, 128] inb).shape.Idx) :
    gam4 A B ((Rect.unit (s := S1x8x8x128) ![0, a, r, 0] ![1, 1, 1, 128] inb).emb x)
      = if r % 2 = 0 then A (2 * a + r / 2) else B (2 * a + r / 2) := by
  have x1 : (x 1).val < 1 := (x 1).isLt
  have x2 : (x 2).val < 1 := (x 2).isLt
  have e1 : (((Rect.unit (s := S1x8x8x128) ![0, a, r, 0] ![1, 1, 1, 128] inb).emb x) 1).val = a := by
    show a + 1 * (x 1).val = _; omega
  have e2 : (((Rect.unit (s := S1x8x8x128) ![0, a, r, 0] ![1, 1, 1, 128] inb).emb x) 2).val = r := by
    show r + 1 * (x 2).val = _; omega
  unfold gam4
  rw [e1, e2, if_pos hr]

/-- The state gradient of every head. -/
def heads (A : ℕ → S128x128.Idx → EReal) : S16x128x128.Idx → EReal := fun y => A (y 0).val (ix2 (y 1) (y 2))

theorem heads_at (A : ℕ → S128x128.Idx → EReal) (h : ℕ) (inb)
    (x : (Rect.unit (s := S16x128x128) ![h, 0, 0] ![1, 128, 128] inb).shape.Idx) :
    heads A ((Rect.unit (s := S16x128x128) ![h, 0, 0] ![1, 128, 128] inb).emb x) = A h (ix2 (x 1) (x 2)) := by
  have x0 : (x 0).val < 1 := (x 0).isLt
  have e0 : (((Rect.unit (s := S16x128x128) ![h, 0, 0] ![1, 128, 128] inb).emb x) 0).val = h := by
    show h + 1 * (x 0).val = _; omega
  have e1 : (((Rect.unit (s := S16x128x128) ![h, 0, 0] ![1, 128, 128] inb).emb x) 1) = x 1 := by
    apply Fin.ext; show 0 + 1 * (x 1).val = _; omega
  have e2 : (((Rect.unit (s := S16x128x128) ![h, 0, 0] ![1, 128, 128] inb).emb x) 2) = x 2 := by
    apply Fin.ext; show 0 + 1 * (x 2).val = _; omega
  unfold heads
  rw [e0, e1, e2]

/-! ## Pieces stored over an earlier fill, one at a time -/

theorem canon_step {s : Shape} (G : s.Idx → EReal) (p : View.Piece (Elt Ideal) s .f32) (L : List (View.Piece (Elt Ideal) s .f32)) (y)
    (hp : ∀ x, p.2 x = G (p.1.emb x)) (hL : y ∉ p.1.set → View.canon L y = G y) : View.canon (p :: L) y = G y := by
  by_cases hy : y ∈ p.1.set
  · obtain ⟨x, rfl⟩ : ∃ x, p.1.emb x = y := p.1.exists_idx_of_mem hy
    exact (View.canon_cons_emb _ _ _ _).trans (hp x)
  · exact (View.canon_cons_of_not_mem _ _ hy).trans (hL hy)

theorem canon_row (G : S1x8x8x128.Idx → EReal) (a r : ℕ) (inb) (w) (L : List (View.Piece (Elt Ideal) S1x8x8x128 .f32)) (y)
    (hp : ∀ x, w x = G ((Rect.unit (s := S1x8x8x128) ![0, a, r, 0] ![1, 1, 1, 128] inb).emb x))
    (hL : ¬((y 1).val = a ∧ (y 2).val = r) → View.canon L y = G y) :
    View.canon ((⟨Rect.unit (s := S1x8x8x128) ![0, a, r, 0] ![1, 1, 1, 128] inb, w⟩ : View.Piece (Elt Ideal) S1x8x8x128 .f32) :: L) y = G y := by
  refine canon_step G _ L y hp fun hy => hL fun e => hy ?_
  refine (Rect.mem_set_unit (inb := inb)).2 ?_
  have y0 : (y 0).val < 1 := (y 0).isLt
  have y3 : (y 3).val < 128 := (y 3).isLt
  intro i
  fin_cases i
  · show 0 ≤ (y 0).val ∧ (y 0).val < 0 + 1; omega
  · show a ≤ (y 1).val ∧ (y 1).val < a + 1; omega
  · show r ≤ (y 2).val ∧ (y 2).val < r + 1; omega
  · show 0 ≤ (y 3).val ∧ (y 3).val < 0 + 128; omega

theorem canon_head (G : S16x128x128.Idx → EReal) (h : ℕ) (inb) (w) (L : List (View.Piece (Elt Ideal) S16x128x128 .f32)) (y)
    (hp : ∀ x, w x = G ((Rect.unit (s := S16x128x128) ![h, 0, 0] ![1, 128, 128] inb).emb x))
    (hL : (y 0).val ≠ h → View.canon L y = G y) :
    View.canon ((⟨Rect.unit (s := S16x128x128) ![h, 0, 0] ![1, 128, 128] inb, w⟩ : View.Piece (Elt Ideal) S16x128x128 .f32) :: L) y = G y := by
  refine canon_step G _ L y hp fun hy => hL fun e => hy ?_
  refine (Rect.mem_set_unit (inb := inb)).2 ?_
  have y1 : (y 1).val < 128 := (y 1).isLt
  have y2 : (y 2).val < 128 := (y 2).isLt
  intro i
  fin_cases i
  · show h ≤ (y 0).val ∧ (y 0).val < h + 1; omega
  · show 0 ≤ (y 1).val ∧ (y 1).val < 0 + 128; omega
  · show 0 ≤ (y 2).val ∧ (y 2).val < 0 + 128; omega

/-- Every row below the fourth met: what is left is the fill. -/
theorem rows_met (a r : ℕ) (ha : a < 8) (h : ∀ b < 8, ∀ q < 4, ¬(a = b ∧ r = q)) : 4 ≤ r := by
  by_contra hr
  exact h a ha r (by omega) ⟨rfl, rfl⟩

theorem fill_gam (A B : ℕ → EReal) (inb) (y : S1x8x8x128.Idx) (hy : 4 ≤ (y 2).val) :
    View.canon [(⟨Rect.unit (s := S1x8x8x128) ![0, 0, 0, 0] ![1, 8, 8, 128] inb,
        broadcast S1x8x8x128 (FloatOps.ofBits (F := Ideal) .f32 0#32)⟩ : View.Piece (Elt Ideal) S1x8x8x128 .f32)] y
      = gam4 A B y := by
  have e : View.canon [(⟨Rect.unit (s := S1x8x8x128) ![0, 0, 0, 0] ![1, 8, 8, 128] inb,
      broadcast S1x8x8x128 (FloatOps.ofBits (F := Ideal) .f32 0#32)⟩ : View.Piece (Elt Ideal) S1x8x8x128 .f32)]
      = broadcast S1x8x8x128 (FloatOps.ofBits (F := Ideal) .f32 0#32) :=
    View.canon_cons_unit_lit (Val := Elt Ideal) (e := .f32) inb _ [] (by decide)
  rw [e]
  unfold gam4
  rw [if_neg (by omega)]
  pointwise

theorem readCov_one {sig' : RefSig} {κ : Kind} {sp : Space} (v : View sig' κ sp S16x128x128 .f32) (n : ℕ) (inb inb')
    (Z : (Rect.unit (s := S16x128x128) ![0, 0, 0] ![16, 128, 128] inb).shape.Idx → Elt Ideal .f32) :
    v.readCov (Val := Elt Ideal) [(⟨Rect.unit (s := S16x128x128) ![0, 0, 0] ![16, 128, 128] inb, Z⟩ : View.Piece (Elt Ideal) S16x128x128 .f32)]
      (Rect.unit (s := S16x128x128) ![n, 0, 0] ![1, 128, 128] inb').toLoadRect
      = View.ld (Val := Elt Ideal) (S := S16x128x128) (e' := .f32) Z (Rect.unit (s := S16x128x128) ![n, 0, 0] ![1, 128, 128] inb') :=
  View.readCov_fill v _ _ _ _ (by decide)

end Cert.Proof.Tile

end
-- ==== Proof.Spec.lean ====
/-
  The recurrence's gradient over chunks of 64 rows, head by head, on the extended reals: what both programs compute.
-/
module

public import proofs.«01_k».proof.Proof.Tiles

@[expose] public section

set_option maxRecDepth 16384

noncomputable section

open Idealize.ShloMosaic Idealize.ShloMosaic.TcCoe Cert.KernelIdeal Cert.Proof.Tile
open scoped BigOperators

namespace Cert.Proof.Tile

/-- An element is the read at its coordinates. -/
theorem at2_of {a b : ℕ} (x : (⟨2, ![a, b]⟩ : Shape).Idx → EReal) (i : Fin a) (j : Fin b) : x (ix2 i j) = at2 x i.val j.val :=
  (at2_eq x i.isLt j.isLt).symm
theorem at3_of {a b c : ℕ} (x : (⟨3, ![a, b, c]⟩ : Shape).Idx → EReal) (i : Fin a) (j : Fin b) (k : Fin c) :
    x (ix3 i j k) = at3 x i.val j.val k.val := (at3_eq x i.isLt j.isLt k.isLt).symm
theorem at4_of {a b c d : ℕ} (x : (⟨4, ![a, b, c, d]⟩ : Shape).Idx → EReal) (i : Fin a) (j : Fin b) (k : Fin c) (l : Fin d) :
    x (ix4 i j k l) = at4 x i.val j.val k.val l.val := (at4_eq x i.isLt j.isLt k.isLt l.isLt).symm

end Cert.Proof.Tile

namespace Cert.Proof

/-- The arguments: scores `qk`, decayed queries `q` and keys `k`, values `u`, `w`, chunk decays `g`, the state before each
    chunk `s`, and the output's cotangent `d`. -/
structure Arr where
  qk : S128x16x64x64.Idx → EReal
  q : S8192x2048.Idx → EReal
  k : S8192x2048.Idx → EReal
  u : S8192x2048.Idx → EReal
  w : S8192x2048.Idx → EReal
  g : S128x16.Idx → EReal
  s : S128x16x128x128.Idx → EReal
  d : S8192x2048.Idx → EReal

/-- Head `h` of chunk `n`. -/
def hd (x : S8192x2048.Idx → EReal) (n h : ℕ) : S64x128.Idx → EReal :=
  fun j => at2 x (64 * n + (j 0).val) (128 * h + (j 1).val)

namespace Arr
variable (A : Arr) (n h : ℕ) (D : S128x128.Idx → EReal)

/-- The scores' transpose on the cotangent. -/
def qkd : S64x128.Idx → EReal := fun j => ∑ i : Fin 64, at4 A.qk n h i.val (j 0).val * hd A.d n h (ix2 i (j 1))
/-- The gradient of `v_new`, the state's gradient after the chunk being `D`. -/
def dv : S64x128.Idx → EReal := add (A.qkd n h) (mm (hd A.k n h) D)
/-- The state's gradient before the chunk. -/
def nx : S128x128.Idx → EReal :=
  sub (add (mul (fun _ => at2 A.g n h) D) (tn (hd A.q n h) (hd A.d n h))) (tn (hd A.w n h) (A.dv n h D))
/-- `v_new`. -/
def vn : S64x128.Idx → EReal := fun j =>
  at2 A.u (64 * n + (j 0).val) (128 * h + (j 1).val)
    - ∑ x : Fin 128, at4 A.s n h x.val (j 1).val * at2 A.w (64 * n + (j 0).val) (128 * h + x.val)
/-- The keys' gradient. -/
def dk : S64x128.Idx → EReal := nt (A.vn n h) D
/-- The state before the chunk. -/
def st : S128x128.Idx → EReal := fun j => at4 A.s n h (j 0).val (j 1).val
/-- The decay's gradient. -/
def dg : EReal := tot (mul D (A.st n h))

/-- The state's gradient after chunk `127 - j`: the last `j` chunks gone back through. -/
def St : ℕ → ℕ → S128x128.Idx → EReal
  | 0, _ => fun _ => 0
  | j + 1, h => A.nx (127 - j) h (St j h)

/-- The gradient of the values, rows by lanes. -/
def du : S8192x2048.Idx → EReal := fun i =>
  at2 (A.dv ((i 0).val / 64) ((i 1).val / 128) (A.St (127 - (i 0).val / 64) ((i 1).val / 128))) ((i 0).val % 64) ((i 1).val % 128)
/-- The keys' gradient, rows by lanes. -/
def dkk : S8192x2048.Idx → EReal := fun i =>
  at2 (A.dk ((i 0).val / 64) ((i 1).val / 128) (A.St (127 - (i 0).val / 64) ((i 1).val / 128))) ((i 0).val % 64) ((i 1).val % 128)
/-- The decays' gradient, in the layout of the decays' rows. -/
def dgg : S64x8x8x128.Idx → EReal := fun i =>
  if (i 2).val < 4 then
    A.dg (2 * (i 0).val + (i 2).val % 2) (2 * (i 1).val + (i 2).val / 2)
      (A.St (127 - (2 * (i 0).val + (i 2).val % 2)) (2 * (i 1).val + (i 2).val / 2))
  else 0

end Arr

end Cert.Proof

end
-- ==== Proof.Host.lean ====
/-
  What the kernel's host code hands to the launch, element by element: the block-diagonal scores, the decays' rows, `v_new` and
  the states, each a read of the arguments.
-/
module

public import proofs.«01_k».proof.Proof.Spec
public import Idealize.ShloMosaic.Lib.Claim
public import Idealize.ShloMosaic.Lib.StableHlo.ReadAt

@[expose] public section

set_option maxRecDepth 16384

noncomputable section

open Idealize.ShloMosaic Idealize.ShloMosaic.TcCoe Cert.KernelIdeal Cert.KernelIdeal.Gen Cert.Proof.Tile

namespace Cert.Proof.Host
variable (m : (ℓ : Loc nD τ sig) → Buf (Elt Ideal) ℓ) (c : Dev nD)

/-- The arguments of a device. -/
def arr : Arr where
  qk := m ((c : Thread nD τ).loc main_arg0)
  q := m ((c : Thread nD τ).loc main_arg1)
  k := m ((c : Thread nD τ).loc main_arg2)
  u := m ((c : Thread nD τ).loc main_arg3)
  w := m ((c : Thread nD τ).loc main_arg4)
  g := m ((c : Thread nD τ).loc main_arg5)
  s := m ((c : Thread nD τ).loc main_arg6)
  d := m ((c : Thread nD τ).loc main_arg7)

/-- The pad's value, converted from the zero word. -/
theorem word_zero : FloatOps.sitofp (F := Ideal) FTy.f32 0#32 = (0 : EReal) := by
  show ((((0#32 : BitVec 32).toInt : ℝ)) : EReal) = 0
  simp

theorem states_at (j : S16x16384x128.Idx) : (V m c main_v18 : S16x16384x128.Idx → EReal) j
    = at4 (arr m c).s ((j 1).val / 128) (j 0).val ((j 1).val % 128) (j 2).val := by
  unfold V
  after_reads_at
  exact at4_of (arr m c).s _ _ _ _

theorem scores_at (j : S8192x2048.Idx) : (V m c main_v6 : S8192x2048.Idx → EReal) j
    = if (j 0).val % 128 < 64 then
        (if (j 1).val % 128 < 64 then at4 (arr m c).qk (2 * ((j 0).val / 128)) ((j 1).val / 128) ((j 0).val % 128) ((j 1).val % 128) else 0)
      else (if 64 ≤ (j 1).val % 128 then
        at4 (arr m c).qk (2 * ((j 0).val / 128) + 1) ((j 1).val / 128) ((j 0).val % 128 - 64) ((j 1).val % 128 - 64) else 0) := by
  unfold V
  after_reads_at
  have b0 : (j 0).val < 8192 := (j 0).isLt
  have b1 : (j 1).val < 2048 := (j 1).isLt
  by_cases h0 : (j 0).val % 128 < 64
  · refine (dif_pos h0).trans ((?_ : _ = _).trans (if_pos h0).symm)
    after_reads_at
    by_cases h1 : (j 1).val % 128 < 64
    · have hc : ((j 0).val / 128 < 64 ∧ (j 1).val / 128 < 16 ∧ (j 0).val % 128 < 64 ∧ (j 1).val % 128 < 64) := by omega
      refine (dif_pos hc).trans ((?_ : _ = _).trans (if_pos h1).symm)
      exact at4_of (arr m c).qk _ _ _ _
    · have hc : ¬((j 0).val / 128 < 64 ∧ (j 1).val / 128 < 16 ∧ (j 0).val % 128 < 64 ∧ (j 1).val % 128 < 64) := by omega
      exact (dif_neg hc).trans (word_zero.trans (if_neg h1).symm)
  · refine (dif_neg h0).trans ((?_ : _ = _).trans (if_neg h0).symm)
    after_reads_at
    by_cases h1 : 64 ≤ (j 1).val % 128
    · have hc : ((j 0).val / 128 < 64 ∧ (j 1).val / 128 < 16 ∧ (j 0).val % 128 - 64 < 64 ∧ 64 ≤ (j 1).val % 128 ∧ (j 1).val % 128 - 64 < 64) := by omega
      refine (dif_pos hc).trans ((?_ : _ = _).trans (if_pos h1).symm)
      refine (at4_of (arr m c).qk _ _ _ _).trans ?_
      dsimp only
      rw [Nat.add_comm]
    · have hc : ¬((j 0).val / 128 < 64 ∧ (j 1).val / 128 < 16 ∧ (j 0).val % 128 - 64 < 64 ∧ 64 ≤ (j 1).val % 128 ∧ (j 1).val % 128 - 64 < 64) := by omega
      exact (dif_neg hc).trans (word_zero.trans (if_neg h1).symm)

theorem decays_at (j : S64x8x8x128.Idx) : (V m c main_v11 : S64x8x8x128.Idx → EReal) j
    = if (j 2).val < 4 then at2 (arr m c).g (2 * (j 0).val + (j 2).val % 2) (2 * (j 1).val + (j 2).val / 2) else 0 := by
  unfold V
  after_reads_at
  by_cases h0 : (j 2).val < 4
  · refine (dif_pos h0).trans ((?_ : _ = _).trans (if_pos h0).symm)
    refine (at2_of (arr m c).g _ _).trans ?_
    dsimp only
    rw [Nat.mul_comm (j 0).val 2, Nat.mul_comm (j 1).val 2]
  · exact (dif_neg h0).trans (word_zero.trans (if_neg h0).symm)

theorem vnew_at (j : S8192x2048.Idx) : (V m c main_v19 : S8192x2048.Idx → EReal) j
    = at2 (arr m c).u (j 0).val (j 1).val
      - ∑ x : Fin 128, at4 (arr m c).s ((j 0).val / 64) ((j 1).val / 128) x.val ((j 1).val % 128)
          * at2 (arr m c).w (j 0).val (128 * ((j 1).val / 128) + x.val) := by
  unfold V
  after_reads_at
  refine congr (congrArg HSub.hSub ?_) (Finset.sum_congr rfl fun x _ => congr (congrArg HMul.hMul ?_) ?_)
  · refine (at2_of (arr m c).u _ _).trans ?_
    dsimp only
    congr 1 <;> omega
  · exact at4_of (arr m c).s _ _ _ _
  · refine (at2_of (arr m c).w _ _).trans ?_
    dsimp only
    congr 1 <;> omega

end Cert.Proof.Host

end
-- ==== Proof.Block.lean ====
/-
  One point's block of two chunks against the recurrence: where the blocks are rows of the arguments, what the point computes is
  the two chunks' step.
-/
module

public import proofs.«01_k».proof.Proof.Spec

@[expose] public section

set_option maxRecDepth 16384

noncomputable section

open Idealize.ShloMosaic Idealize.ShloMosaic.TcCoe Cert.KernelIdeal Cert.Proof.Tile
open scoped BigOperators

namespace Cert.Proof

/-- The blocks of chunks `2 b` and `2 b + 1`. -/
structure IsBlk (X : Blk) (A : Arr) (b : ℕ) : Prop where
  d : ∀ i, X.d i = at2 A.d (128 * b + (i 0).val) (i 1).val
  q : ∀ i, X.q i = at2 A.q (128 * b + (i 0).val) (i 1).val
  k : ∀ i, X.k i = at2 A.k (128 * b + (i 0).val) (i 1).val
  w : ∀ i, X.w i = at2 A.w (128 * b + (i 0).val) (i 1).val
  p : ∀ i, X.p i = if (i 0).val < 64 then
      (if (i 1).val % 128 < 64 then at4 A.qk (2 * b) ((i 1).val / 128) (i 0).val ((i 1).val % 128) else 0)
    else (if 64 ≤ (i 1).val % 128 then at4 A.qk (2 * b + 1) ((i 1).val / 128) ((i 0).val - 64) ((i 1).val % 128 - 64) else 0)
  v : ∀ i, X.v i = at2 A.u (128 * b + (i 0).val) (i 1).val
    - ∑ x : Fin 128, at4 A.s (2 * b + (i 0).val / 64) ((i 1).val / 128) x.val ((i 1).val % 128)
        * at2 A.w (128 * b + (i 0).val) (128 * ((i 1).val / 128) + x.val)
  s : ∀ i, X.s i = at4 A.s (2 * b + (i 1).val / 128) (i 0).val ((i 1).val % 128) (i 2).val
  g : ∀ i, X.g i = if (i 2).val < 4 then at2 A.g (2 * b + (i 2).val % 2) (2 * (i 1).val + (i 2).val / 2) else 0

/-- A block of rows read at two coordinates. -/
theorem row_at {x : S128x2048.Idx → EReal} {y : S8192x2048.Idx → EReal} {b : ℕ}
    (e : ∀ i, x i = at2 y (128 * b + (i 0).val) (i 1).val) {r l : ℕ} (hr : r < 128) (hl : l < 2048) :
    at2 x r l = at2 y (128 * b + r) l := by
  rw [at2_eq x hr hl, e]
  rfl

/-- Its first 64 rows at a head are the head of the even chunk, -/
theorem half_even {x : S128x2048.Idx → EReal} {y : S8192x2048.Idx → EReal} {b h : ℕ} (hh : h < 16)
    (e : ∀ i, x i = at2 y (128 * b + (i 0).val) (i 1).val) : half x 0 (128 * h) = hd y (2 * b) h := by
  funext j
  have j0 : (j 0).val < 64 := (j 0).isLt
  have j1 : (j 1).val < 128 := (j 1).isLt
  unfold half hd
  rw [row_at e (by omega) (by omega)]
  congr 1; omega

/-- its last 64 the odd chunk's. -/
theorem half_odd {x : S128x2048.Idx → EReal} {y : S8192x2048.Idx → EReal} {b h : ℕ} (hh : h < 16)
    (e : ∀ i, x i = at2 y (128 * b + (i 0).val) (i 1).val) : half x 64 (128 * h) = hd y (2 * b + 1) h := by
  funext j
  have j0 : (j 0).val < 64 := (j 0).isLt
  have j1 : (j 1).val < 128 := (j 1).isLt
  unfold half hd
  rw [row_at e (by omega) (by omega)]
  congr 1; omega

/-- A sum over 128 rows is the sums over its halves. -/
theorem sum_halves (f : ℕ → EReal) : ∑ c : Fin 128, f c.val = ∑ c : Fin 64, f c.val + ∑ c : Fin 64, f (64 + c.val) :=
  Fin.sum_univ_add (a := 64) (b := 64) fun c => f c.val

namespace IsBlk
variable {X : Blk} {A : Arr} {b : ℕ} (H : IsBlk X A b) {h : ℕ} (hh : h < 16)
include H hh

theorem p_at {r i : ℕ} (hr : r < 128) (hi : i < 128) : at2 X.p r (128 * h + i)
    = if r < 64 then (if i < 64 then at4 A.qk (2 * b) h r i else 0)
      else (if 64 ≤ i then at4 A.qk (2 * b + 1) h (r - 64) (i - 64) else 0) := by
  have e1 : (128 * h + i) % 128 = i := by omega
  have e2 : (128 * h + i) / 128 = h := by omega
  have e := H.p (ix2 ⟨r, hr⟩ ⟨128 * h + i, by omega⟩)
  rw [at2_eq X.p hr (by omega), e]
  show (if r < 64 then (if (128 * h + i) % 128 < 64 then at4 A.qk (2 * b) ((128 * h + i) / 128) r ((128 * h + i) % 128) else 0)
    else (if 64 ≤ (128 * h + i) % 128 then at4 A.qk (2 * b + 1) ((128 * h + i) / 128) (r - 64) ((128 * h + i) % 128 - 64) else 0)) = _
  rw [e1, e2]

theorem pdo_at {i e : ℕ} (hi : i < 128) (he : e < 128) : at2 (X.pdo h) i e
    = if i < 64 then ∑ r : Fin 64, at4 A.qk (2 * b) h r.val i * at2 A.d (64 * (2 * b) + r.val) (128 * h + e)
      else ∑ r : Fin 64, at4 A.qk (2 * b + 1) h r.val (i - 64) * at2 A.d (64 * (2 * b + 1) + r.val) (128 * h + e) := by
  rw [at2_eq _ hi he]
  show (∑ c : Fin 128, at2 X.p c.val (128 * h + i) * at2 X.d c.val (128 * h + e)) = _
  rw [sum_halves fun c => at2 X.p c (128 * h + i) * at2 X.d c (128 * h + e)]
  have lo : ∀ c : Fin 64, at2 X.p c.val (128 * h + i) * at2 X.d c.val (128 * h + e)
      = (if i < 64 then at4 A.qk (2 * b) h c.val i else 0) * at2 A.d (64 * (2 * b) + c.val) (128 * h + e) := fun c => by
    rw [H.p_at hh (by omega) hi, row_at H.d (by omega) (by omega), if_pos c.isLt]
    congr 2; omega
  have hi' : ∀ c : Fin 64, at2 X.p (64 + c.val) (128 * h + i) * at2 X.d (64 + c.val) (128 * h + e)
      = (if 64 ≤ i then at4 A.qk (2 * b + 1) h c.val (i - 64) else 0) * at2 A.d (64 * (2 * b + 1) + c.val) (128 * h + e) := fun c => by
    rw [H.p_at hh (by omega) hi, row_at H.d (by omega) (by omega), if_neg (by omega), Nat.add_sub_cancel_left]
    congr 2; omega
  simp only [lo, hi']
  by_cases hlt : i < 64
  · simp [hlt, Nat.not_le.mpr hlt]
  · simp [hlt, Nat.le_of_not_lt hlt]

theorem pdo_even : cut (X.pdo h) 0 = A.qkd (2 * b) h := by
  funext j
  have j0 : (j 0).val < 64 := (j 0).isLt
  have j1 : (j 1).val < 128 := (j 1).isLt
  unfold cut
  rw [Nat.zero_add, H.pdo_at hh (by omega) j1, if_pos j0]
  rfl

theorem pdo_odd : cut (X.pdo h) 64 = A.qkd (2 * b + 1) h := by
  funext j
  have j0 : (j 0).val < 64 := (j 0).isLt
  have j1 : (j 1).val < 128 := (j 1).isLt
  unfold cut
  rw [H.pdo_at hh (by omega) j1, if_neg (by omega), Nat.add_sub_cancel_left]
  rfl

theorem g_at {r : ℕ} (hr : r < 2) : lanes X.g (h / 2) (2 * (h % 2) + r) = fun _ => at2 A.g (2 * b + r) h := by
  funext j
  have j1 : (j 1).val < 128 := (j 1).isLt
  unfold lanes
  rw [at4_eq X.g (by omega) (by omega) (by omega) j1, H.g]
  show (if 2 * (h % 2) + r < 4 then at2 A.g (2 * b + (2 * (h % 2) + r) % 2) (2 * (h / 2) + (2 * (h % 2) + r) / 2) else 0) = _
  rw [if_pos (by omega)]
  congr 1 <;> omega

theorem v_at {r l : ℕ} (hr : r < 128) (hl : l < 128) : at2 X.v r (128 * h + l)
    = at2 A.u (128 * b + r) (128 * h + l)
      - ∑ x : Fin 128, at4 A.s (2 * b + r / 64) h x.val l * at2 A.w (128 * b + r) (128 * h + x.val) := by
  have e1 : (128 * h + l) % 128 = l := by omega
  have e2 : (128 * h + l) / 128 = h := by omega
  rw [at2_eq X.v hr (by omega), H.v]
  show at2 A.u (128 * b + r) (128 * h + l) - ∑ x : Fin 128, at4 A.s (2 * b + r / 64) ((128 * h + l) / 128) x.val ((128 * h + l) % 128)
    * at2 A.w (128 * b + r) (128 * ((128 * h + l) / 128) + x.val) = _
  rw [e1, e2]

theorem v_even : half X.v 0 (128 * h) = A.vn (2 * b) h := by
  funext j
  have j0 : (j 0).val < 64 := (j 0).isLt
  have j1 : (j 1).val < 128 := (j 1).isLt
  unfold half Arr.vn
  rw [H.v_at hh (by omega) j1, show 2 * b + (0 + (j 0).val) / 64 = 2 * b by omega,
    show 128 * b + (0 + (j 0).val) = 64 * (2 * b) + (j 0).val by omega]

theorem v_odd : half X.v 64 (128 * h) = A.vn (2 * b + 1) h := by
  funext j
  have j0 : (j 0).val < 64 := (j 0).isLt
  have j1 : (j 1).val < 128 := (j 1).isLt
  unfold half Arr.vn
  rw [H.v_at hh (by omega) j1, show 2 * b + (64 + (j 0).val) / 64 = 2 * b + 1 by omega,
    show 128 * b + (64 + (j 0).val) = 64 * (2 * b + 1) + (j 0).val by omega]

theorem s_at {r : ℕ} (hr : r < 2) : sv X.s h (128 * r) = A.st (2 * b + r) h := by
  funext j
  have j0 : (j 0).val < 128 := (j 0).isLt
  have j1 : (j 1).val < 128 := (j 1).isLt
  unfold sv Arr.st
  rw [at3_eq X.s hh (by omega) j1, H.s]
  show at4 A.s (2 * b + (128 * r + (j 0).val) / 128) h ((128 * r + (j 0).val) % 128) (j 1).val = _
  rw [show (128 * r + (j 0).val) / 128 = r by omega, show (128 * r + (j 0).val) % 128 = (j 0).val by omega]

theorem dvB_eq : X.dvB h = A.dv (2 * b + 1) h (sq X.z h) := by
  unfold Blk.dvB Arr.dv
  rw [H.pdo_odd hh, half_odd hh H.k]

theorem ds1_eq : X.ds1 h = A.nx (2 * b + 1) h (sq X.z h) := by
  unfold Blk.ds1 Arr.nx
  rw [H.dvB_eq hh, half_odd hh H.q, half_odd hh H.d, half_odd hh H.w, H.g_at hh (by omega)]

theorem dvA_eq : X.dvA h = A.dv (2 * b) h (X.ds1 h) := by
  unfold Blk.dvA Arr.dv
  rw [H.pdo_even hh, half_even hh H.k]

theorem ds0_eq : X.ds0 h = A.nx (2 * b) h (X.ds1 h) := by
  unfold Blk.ds0 Arr.nx
  rw [H.dvA_eq hh, half_even hh H.q, half_even hh H.d, half_even hh H.w]
  have e := H.g_at hh (r := 0) (by omega)
  rw [Nat.add_zero, Nat.add_zero] at e
  rw [e]

theorem dkA_eq : X.dkA h = A.dk (2 * b) h (X.ds1 h) := by
  unfold Blk.dkA Arr.dk
  rw [H.v_even hh]

theorem dkB_eq : X.dkB h = A.dk (2 * b + 1) h (sq X.z h) := by
  unfold Blk.dkB Arr.dk
  rw [H.v_odd hh]

theorem dgA_eq : X.dgA h = A.dg (2 * b) h (X.ds1 h) := by
  unfold Blk.dgA Arr.dg
  have e := H.s_at hh (r := 0) (by omega)
  rw [Nat.mul_zero, Nat.add_zero] at e
  rw [e]

theorem dgB_eq : X.dgB h = A.dg (2 * b + 1) h (sq X.z h) := by
  unfold Blk.dgB Arr.dg
  have e := H.s_at hh (r := 1) (by omega)
  rw [Nat.mul_one] at e
  rw [e]

end IsBlk

end Cert.Proof

end
-- ==== Proof.Body.lean ====
/-
  What one point of the kernel computes, in each of its two cases: every output and the carried state gradient as a function of
  the point's blocks (`Tile.Blk`).
-/
module

public import proofs.«01_k».proof.Proof.Tiles
public import Idealize.ShloMosaic.Lib.Pipeline.ValueKit

@[expose] public section

set_option maxRecDepth 16384

noncomputable section

open Idealize.ShloMosaic Idealize.ShloMosaic.TcCoe Cert.KernelIdeal Cert.KernelIdeal.Gen Cert.Proof.Tile

namespace Cert.Proof.Body

set_option maxHeartbeats 4000000 in
theorem out0_B_8_eq (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S16x256x128 .f32) (harg7 : arg7.IsWhole) (arg8 : Memref sig .tc .vmem S1x8x8x128 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S1x8x8x128 .f32) (harg11 : arg11.IsWhole) (arg12 : Memref sig .tc .vmem S16x128x128 .f32) (harg12 : arg12.IsWhole)
    (hc0 : ¬cond0_0 i) (x0 : Vec Ideal S128x2048 .f32) (x1 : Vec Ideal S128x2048 .f32) (x2 : Vec Ideal S128x2048 .f32) (x3 : Vec Ideal S128x2048 .f32) (x4 : Vec Ideal S128x2048 .f32) (x5 : Vec Ideal S128x2048 .f32) (x6 : Vec Ideal S16x256x128 .f32) (x7 : Vec Ideal S1x8x8x128 .f32) (xs0 : Vec Ideal S16x128x128 .f32) :
    out0_B_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 = rows2 (⟨x0, x1, x2, x3, x4, x5, x6, x7, xs0⟩ : Blk).dvA (⟨x0, x1, x2, x3, x4, x5, x6, x7, xs0⟩ : Blk).dvB := by
  funext y
  unfold out0_B_8
  rw [View.read_writes_junk_apply_eq_canon]
  refine View.canon_apply_of_pieces (Val := Elt Ideal) (e := .f32) (rows2 (⟨x0, x1, x2, x3, x4, x5, x6, x7, xs0⟩ : Blk).dvA (⟨x0, x1, x2, x3, x4, x5, x6, x7, xs0⟩ : Blk).dvB) _ ?_ y (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 y)
  frame_open
  simp only [List.forall_mem_cons, View.readAt_eq_ld, Memref.IsWhole.read_unread]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dvA (⟨x0, x1, x2, x3, x4, x5, x6, x7, xs0⟩ : Blk).dvB 1920 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dvA (⟨x0, x1, x2, x3, x4, x5, x6, x7, xs0⟩ : Blk).dvB 1920 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dvA (⟨x0, x1, x2, x3, x4, x5, x6, x7, xs0⟩ : Blk).dvB 1792 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dvA (⟨x0, x1, x2, x3, x4, x5, x6, x7, xs0⟩ : Blk).dvB 1792 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dvA (⟨x0, x1, x2, x3, x4, x5, x6, x7, xs0⟩ : Blk).dvB 1664 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dvA (⟨x0, x1, x2, x3, x4, x5, x6, x7, xs0⟩ : Blk).dvB 1664 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dvA (⟨x0, x1, x2, x3, x4, x5, x6, x7, xs0⟩ : Blk).dvB 1536 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dvA (⟨x0, x1, x2, x3, x4, x5, x6, x7, xs0⟩ : Blk).dvB 1536 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dvA (⟨x0, x1, x2, x3, x4, x5, x6, x7, xs0⟩ : Blk).dvB 1408 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dvA (⟨x0, x1, x2, x3, x4, x5, x6, x7, xs0⟩ : Blk).dvB 1408 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dvA (⟨x0, x1, x2, x3, x4, x5, x6, x7, xs0⟩ : Blk).dvB 1280 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dvA (⟨x0, x1, x2, x3, x4, x5, x6, x7, xs0⟩ : Blk).dvB 1280 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dvA (⟨x0, x1, x2, x3, x4, x5, x6, x7, xs0⟩ : Blk).dvB 1152 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dvA (⟨x0, x1, x2, x3, x4, x5, x6, x7, xs0⟩ : Blk).dvB 1152 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dvA (⟨x0, x1, x2, x3, x4, x5, x6, x7, xs0⟩ : Blk).dvB 1024 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dvA (⟨x0, x1, x2, x3, x4, x5, x6, x7, xs0⟩ : Blk).dvB 1024 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dvA (⟨x0, x1, x2, x3, x4, x5, x6, x7, xs0⟩ : Blk).dvB 896 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dvA (⟨x0, x1, x2, x3, x4, x5, x6, x7, xs0⟩ : Blk).dvB 896 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dvA (⟨x0, x1, x2, x3, x4, x5, x6, x7, xs0⟩ : Blk).dvB 768 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dvA (⟨x0, x1, x2, x3, x4, x5, x6, x7, xs0⟩ : Blk).dvB 768 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dvA (⟨x0, x1, x2, x3, x4, x5, x6, x7, xs0⟩ : Blk).dvB 640 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dvA (⟨x0, x1, x2, x3, x4, x5, x6, x7, xs0⟩ : Blk).dvB 640 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dvA (⟨x0, x1, x2, x3, x4, x5, x6, x7, xs0⟩ : Blk).dvB 512 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dvA (⟨x0, x1, x2, x3, x4, x5, x6, x7, xs0⟩ : Blk).dvB 512 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dvA (⟨x0, x1, x2, x3, x4, x5, x6, x7, xs0⟩ : Blk).dvB 384 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dvA (⟨x0, x1, x2, x3, x4, x5, x6, x7, xs0⟩ : Blk).dvB 384 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dvA (⟨x0, x1, x2, x3, x4, x5, x6, x7, xs0⟩ : Blk).dvB 256 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dvA (⟨x0, x1, x2, x3, x4, x5, x6, x7, xs0⟩ : Blk).dvB 256 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dvA (⟨x0, x1, x2, x3, x4, x5, x6, x7, xs0⟩ : Blk).dvB 128 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dvA (⟨x0, x1, x2, x3, x4, x5, x6, x7, xs0⟩ : Blk).dvB 128 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dvA (⟨x0, x1, x2, x3, x4, x5, x6, x7, xs0⟩ : Blk).dvB 0 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dvA (⟨x0, x1, x2, x3, x4, x5, x6, x7, xs0⟩ : Blk).dvB 0 _ rfl x).symm

set_option maxHeartbeats 4000000 in
theorem out0_B_9_eq (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S16x256x128 .f32) (harg7 : arg7.IsWhole) (arg8 : Memref sig .tc .vmem S1x8x8x128 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S1x8x8x128 .f32) (harg11 : arg11.IsWhole) (arg12 : Memref sig .tc .vmem S16x128x128 .f32) (harg12 : arg12.IsWhole)
    (hc0 : ¬cond0_0 i) (x0 : Vec Ideal S128x2048 .f32) (x1 : Vec Ideal S128x2048 .f32) (x2 : Vec Ideal S128x2048 .f32) (x3 : Vec Ideal S128x2048 .f32) (x4 : Vec Ideal S128x2048 .f32) (x5 : Vec Ideal S128x2048 .f32) (x6 : Vec Ideal S16x256x128 .f32) (x7 : Vec Ideal S1x8x8x128 .f32) (xs0 : Vec Ideal S16x128x128 .f32) :
    out0_B_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 = rows2 (⟨x0, x1, x2, x3, x4, x5, x6, x7, xs0⟩ : Blk).dkA (⟨x0, x1, x2, x3, x4, x5, x6, x7, xs0⟩ : Blk).dkB := by
  funext y
  unfold out0_B_9
  rw [View.read_writes_junk_apply_eq_canon]
  refine View.canon_apply_of_pieces (Val := Elt Ideal) (e := .f32) (rows2 (⟨x0, x1, x2, x3, x4, x5, x6, x7, xs0⟩ : Blk).dkA (⟨x0, x1, x2, x3, x4, x5, x6, x7, xs0⟩ : Blk).dkB) _ ?_ y (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 y)
  frame_open
  simp only [List.forall_mem_cons, View.readAt_eq_ld, Memref.IsWhole.read_unread]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dkA (⟨x0, x1, x2, x3, x4, x5, x6, x7, xs0⟩ : Blk).dkB 1920 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dkA (⟨x0, x1, x2, x3, x4, x5, x6, x7, xs0⟩ : Blk).dkB 1920 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dkA (⟨x0, x1, x2, x3, x4, x5, x6, x7, xs0⟩ : Blk).dkB 1792 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dkA (⟨x0, x1, x2, x3, x4, x5, x6, x7, xs0⟩ : Blk).dkB 1792 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dkA (⟨x0, x1, x2, x3, x4, x5, x6, x7, xs0⟩ : Blk).dkB 1664 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dkA (⟨x0, x1, x2, x3, x4, x5, x6, x7, xs0⟩ : Blk).dkB 1664 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dkA (⟨x0, x1, x2, x3, x4, x5, x6, x7, xs0⟩ : Blk).dkB 1536 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dkA (⟨x0, x1, x2, x3, x4, x5, x6, x7, xs0⟩ : Blk).dkB 1536 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dkA (⟨x0, x1, x2, x3, x4, x5, x6, x7, xs0⟩ : Blk).dkB 1408 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dkA (⟨x0, x1, x2, x3, x4, x5, x6, x7, xs0⟩ : Blk).dkB 1408 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dkA (⟨x0, x1, x2, x3, x4, x5, x6, x7, xs0⟩ : Blk).dkB 1280 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dkA (⟨x0, x1, x2, x3, x4, x5, x6, x7, xs0⟩ : Blk).dkB 1280 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dkA (⟨x0, x1, x2, x3, x4, x5, x6, x7, xs0⟩ : Blk).dkB 1152 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dkA (⟨x0, x1, x2, x3, x4, x5, x6, x7, xs0⟩ : Blk).dkB 1152 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dkA (⟨x0, x1, x2, x3, x4, x5, x6, x7, xs0⟩ : Blk).dkB 1024 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dkA (⟨x0, x1, x2, x3, x4, x5, x6, x7, xs0⟩ : Blk).dkB 1024 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dkA (⟨x0, x1, x2, x3, x4, x5, x6, x7, xs0⟩ : Blk).dkB 896 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dkA (⟨x0, x1, x2, x3, x4, x5, x6, x7, xs0⟩ : Blk).dkB 896 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dkA (⟨x0, x1, x2, x3, x4, x5, x6, x7, xs0⟩ : Blk).dkB 768 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dkA (⟨x0, x1, x2, x3, x4, x5, x6, x7, xs0⟩ : Blk).dkB 768 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dkA (⟨x0, x1, x2, x3, x4, x5, x6, x7, xs0⟩ : Blk).dkB 640 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dkA (⟨x0, x1, x2, x3, x4, x5, x6, x7, xs0⟩ : Blk).dkB 640 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dkA (⟨x0, x1, x2, x3, x4, x5, x6, x7, xs0⟩ : Blk).dkB 512 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dkA (⟨x0, x1, x2, x3, x4, x5, x6, x7, xs0⟩ : Blk).dkB 512 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dkA (⟨x0, x1, x2, x3, x4, x5, x6, x7, xs0⟩ : Blk).dkB 384 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dkA (⟨x0, x1, x2, x3, x4, x5, x6, x7, xs0⟩ : Blk).dkB 384 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dkA (⟨x0, x1, x2, x3, x4, x5, x6, x7, xs0⟩ : Blk).dkB 256 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dkA (⟨x0, x1, x2, x3, x4, x5, x6, x7, xs0⟩ : Blk).dkB 256 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dkA (⟨x0, x1, x2, x3, x4, x5, x6, x7, xs0⟩ : Blk).dkB 128 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dkA (⟨x0, x1, x2, x3, x4, x5, x6, x7, xs0⟩ : Blk).dkB 128 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_lo (⟨x0, x1, x2, x3, x4, x5, x6, x7, xs0⟩ : Blk).dkA (⟨x0, x1, x2, x3, x4, x5, x6, x7, xs0⟩ : Blk).dkB 0 _ rfl x).symm
  · unfold_payloads
    intro x
    simp only [tn_eq, tnW_eq, mm_eq, nt_eq, ld_half, ld_full, ld_sq, ld_sv, ld_lanes, cut_0, cut_64, add_unit, add_eq, sub_eq, mul_eq, shapeCast_self]
    exact (rows2_hi (⟨x0, x1, x2, x3, x4, x5, x6, x7, xs0⟩ : Blk).dkA (⟨x0, x1, x2, x3, x4, x5, x6, x7, xs0⟩ : Blk).dkB 0 _ rfl x).symm

set_option maxHeartbeats 4000000 in
theorem out0_B_10_eq (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S16x256x128 .f32) (harg7 : arg7.IsWhole) (arg8 : Memref sig .tc .vmem S1x8x8x128 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S1x8x8x128 .f32) (harg11 : arg11.IsWhole) (arg12 : Memref sig .tc .vmem S16x128x128 .f32) (harg12 : arg12.IsWhole)
    (hc0 : ¬cond0_0 i) (x0 : Vec Ideal S128x2048 .f32) (x1 : Vec Ideal S128x2048 .f32) (x2 : Vec Ideal S128x2048 .f32) (x3 : Vec Ideal S128x2048 .f32) (x4 : Vec Ideal S128x2048 .f32) (x5 : Vec Ideal S128x2048 .f32) (x6 : Vec Ideal S16x256x128 .f32) (x7 : Vec Ideal S1x8x8x128 .f32) (xs0 : Vec Ideal S16x128x128 .f32) :
    out0_B_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 = gam4 (⟨x0, x1, x2, x3, x4, x5, x6, x7, xs0⟩ : Blk).dgA (⟨x0, x1, x2, x3, x4, x5, x6, x7, xs0⟩ : Blk).dgB := by
  funext y
  unfold out0_B_10
  rw [View.read_writes_junk_apply_eq_canon]
  frame_open
  simp only [View.readAt_eq_ld, Memref.IsWhole.read_unread]
  unfold_payloads
  refine canon_row _ 7 3 _ _ _ y (fun x => ?_) (fun n0 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 7 3 _ (by decide) x).symm
  refine canon_row _ 7 2 _ _ _ y (fun x => ?_) (fun n1 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 7 2 _ (by decide) x).symm
  refine canon_row _ 7 1 _ _ _ y (fun x => ?_) (fun n2 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 7 1 _ (by decide) x).symm
  refine canon_row _ 7 0 _ _ _ y (fun x => ?_) (fun n3 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 7 0 _ (by decide) x).symm
  refine canon_row _ 6 3 _ _ _ y (fun x => ?_) (fun n4 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 6 3 _ (by decide) x).symm
  refine canon_row _ 6 2 _ _ _ y (fun x => ?_) (fun n5 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 6 2 _ (by decide) x).symm
  refine canon_row _ 6 1 _ _ _ y (fun x => ?_) (fun n6 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 6 1 _ (by decide) x).symm
  refine canon_row _ 6 0 _ _ _ y (fun x => ?_) (fun n7 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 6 0 _ (by decide) x).symm
  refine canon_row _ 5 3 _ _ _ y (fun x => ?_) (fun n8 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 5 3 _ (by decide) x).symm
  refine canon_row _ 5 2 _ _ _ y (fun x => ?_) (fun n9 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 5 2 _ (by decide) x).symm
  refine canon_row _ 5 1 _ _ _ y (fun x => ?_) (fun n10 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 5 1 _ (by decide) x).symm
  refine canon_row _ 5 0 _ _ _ y (fun x => ?_) (fun n11 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 5 0 _ (by decide) x).symm
  refine canon_row _ 4 3 _ _ _ y (fun x => ?_) (fun n12 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 4 3 _ (by decide) x).symm
  refine canon_row _ 4 2 _ _ _ y (fun x => ?_) (fun n13 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 4 2 _ (by decide) x).symm
  refine canon_row _ 4 1 _ _ _ y (fun x => ?_) (fun n14 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 4 1 _ (by decide) x).symm
  refine canon_row _ 4 0 _ _ _ y (fun x => ?_) (fun n15 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 4 0 _ (by decide) x).symm
  refine canon_row _ 3 3 _ _ _ y (fun x => ?_) (fun n16 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 3 3 _ (by decide) x).symm
  refine canon_row _ 3 2 _ _ _ y (fun x => ?_) (fun n17 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 3 2 _ (by decide) x).symm
  refine canon_row _ 3 1 _ _ _ y (fun x => ?_) (fun n18 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 3 1 _ (by decide) x).symm
  refine canon_row _ 3 0 _ _ _ y (fun x => ?_) (fun n19 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 3 0 _ (by decide) x).symm
  refine canon_row _ 2 3 _ _ _ y (fun x => ?_) (fun n20 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 2 3 _ (by decide) x).symm
  refine canon_row _ 2 2 _ _ _ y (fun x => ?_) (fun n21 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 2 2 _ (by decide) x).symm
  refine canon_row _ 2 1 _ _ _ y (fun x => ?_) (fun n22 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 2 1 _ (by decide) x).symm
  refine canon_row _ 2 0 _ _ _ y (fun x => ?_) (fun n23 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 2 0 _ (by decide) x).symm
  refine canon_row _ 1 3 _ _ _ y (fun x => ?_) (fun n24 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 1 3 _ (by decide) x).symm
  refine canon_row _ 1 2 _ _ _ y (fun x => ?_) (fun n25 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 1 2 _ (by decide) x).symm
  refine canon_row _ 1 1 _ _ _ y (fun x => ?_) (fun n26 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 1 1 _ (by decide) x).symm
  refine canon_row _ 1 0 _ _ _ y (fun x => ?_) (fun n27 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 1 0 _ (by decide) x).symm
  refine canon_row _ 0 3 _ _ _ y (fun x => ?_) (fun n28 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 0 3 _ (by decide) x).symm
  refine canon_row _ 0 2 _ _ _ y (fun x => ?_) (fun n29 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 0 2 _ (by decide) x).symm
  refine canon_row _ 0 1 _ _ _ y (fun x => ?_) (fun n30 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 0 1 _ (by decide) x).symm
  refine canon_row _ 0 0 _ _ _ y (fun x => ?_) (fun n31 => ?_)
  · simp only [tn_eq, tnW_eq, mm_eq, nt_eq, ld_half, ld_full, ld_sq, ld_sv, ld_lanes, cut_0, cut_64, add_unit, add_eq, sub_eq, mul_eq, shapeCast_self]
    exact (congrFun (tot_eq _ _ _ _ _ _ _ _ _ _ _) x).trans (gam4_at (⟨x0, x1, x2, x3, x4, x5, x6, x7, xs0⟩ : Blk).dgA (⟨x0, x1, x2, x3, x4, x5, x6, x7, xs0⟩ : Blk).dgB 0 0 _ (by decide) x).symm
  refine fill_gam _ _ _ y (rows_met (y 1).val (y 2).val (y 1).isLt ?_)
  intro b hb q hq
  interval_cases b <;> interval_cases q <;> assumption

set_option maxHeartbeats 4000000 in
theorem sout0_B_0_eq (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S16x256x128 .f32) (harg7 : arg7.IsWhole) (arg8 : Memref sig .tc .vmem S1x8x8x128 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S1x8x8x128 .f32) (harg11 : arg11.IsWhole) (arg12 : Memref sig .tc .vmem S16x128x128 .f32) (harg12 : arg12.IsWhole)
    (hc0 : ¬cond0_0 i) (x0 : Vec Ideal S128x2048 .f32) (x1 : Vec Ideal S128x2048 .f32) (x2 : Vec Ideal S128x2048 .f32) (x3 : Vec Ideal S128x2048 .f32) (x4 : Vec Ideal S128x2048 .f32) (x5 : Vec Ideal S128x2048 .f32) (x6 : Vec Ideal S16x256x128 .f32) (x7 : Vec Ideal S1x8x8x128 .f32) (xs0 : Vec Ideal S16x128x128 .f32) :
    sout0_B_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 = heads (⟨x0, x1, x2, x3, x4, x5, x6, x7, xs0⟩ : Blk).ds0 := by
  funext y
  unfold sout0_B_0
  rw [View.read_writes_junk_apply_eq_canon]
  refine View.canon_apply_of_pieces (Val := Elt Ideal) (e := .f32) (heads (⟨x0, x1, x2, x3, x4, x5, x6, x7, xs0⟩ : Blk).ds0) _ ?_ y (scover0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 y)
  frame_open
  simp only [List.forall_mem_cons, View.readAt_eq_ld, Memref.IsWhole.read_unread]
  refine ⟨?_, ?_, ?_, ?_, ?_, ?_, ?_, ?_, ?_, ?_, ?_, ?_, ?_, ?_, ?_, ?_, fun _ h => absurd h List.not_mem_nil⟩
  · unfold_payloads
    intro x
    simp only [tn_eq, tnW_eq, mm_eq, nt_eq, ld_half, ld_full, ld_sq, ld_sv, ld_lanes, cut_0, cut_64, add_unit, add_eq, sub_eq, mul_eq, shapeCast_self]
    exact (heads_at (⟨x0, x1, x2, x3, x4, x5, x6, x7, xs0⟩ : Blk).ds0 15 _ x).symm
  · unfold_payloads
    intro x
    simp only [tn_eq, tnW_eq, mm_eq, nt_eq, ld_half, ld_full, ld_sq, ld_sv, ld_lanes, cut_0, cut_64, add_unit, add_eq, sub_eq, mul_eq, shapeCast_self]
    exact (heads_at (⟨x0, x1, x2, x3, x4, x5, x6, x7, xs0⟩ : Blk).ds0 14 _ x).symm
  · unfold_payloads
    intro x
    simp only [tn_eq, tnW_eq, mm_eq, nt_eq, ld_half, ld_full, ld_sq, ld_sv, ld_lanes, cut_0, cut_64, add_unit, add_eq, sub_eq, mul_eq, shapeCast_self]
    exact (heads_at (⟨x0, x1, x2, x3, x4, x5, x6, x7, xs0⟩ : Blk).ds0 13 _ x).symm
  · unfold_payloads
    intro x
    simp only [tn_eq, tnW_eq, mm_eq, nt_eq, ld_half, ld_full, ld_sq, ld_sv, ld_lanes, cut_0, cut_64, add_unit, add_eq, sub_eq, mul_eq, shapeCast_self]
    exact (heads_at (⟨x0, x1, x2, x3, x4, x5, x6, x7, xs0⟩ : Blk).ds0 12 _ x).symm
  · unfold_payloads
    intro x
    simp only [tn_eq, tnW_eq, mm_eq, nt_eq, ld_half, ld_full, ld_sq, ld_sv, ld_lanes, cut_0, cut_64, add_unit, add_eq, sub_eq, mul_eq, shapeCast_self]
    exact (heads_at (⟨x0, x1, x2, x3, x4, x5, x6, x7, xs0⟩ : Blk).ds0 11 _ x).symm
  · unfold_payloads
    intro x
    simp only [tn_eq, tnW_eq, mm_eq, nt_eq, ld_half, ld_full, ld_sq, ld_sv, ld_lanes, cut_0, cut_64, add_unit, add_eq, sub_eq, mul_eq, shapeCast_self]
    exact (heads_at (⟨x0, x1, x2, x3, x4, x5, x6, x7, xs0⟩ : Blk).ds0 10 _ x).symm
  · unfold_payloads
    intro x
    simp only [tn_eq, tnW_eq, mm_eq, nt_eq, ld_half, ld_full, ld_sq, ld_sv, ld_lanes, cut_0, cut_64, add_unit, add_eq, sub_eq, mul_eq, shapeCast_self]
    exact (heads_at (⟨x0, x1, x2, x3, x4, x5, x6, x7, xs0⟩ : Blk).ds0 9 _ x).symm
  · unfold_payloads
    intro x
    simp only [tn_eq, tnW_eq, mm_eq, nt_eq, ld_half, ld_full, ld_sq, ld_sv, ld_lanes, cut_0, cut_64, add_unit, add_eq, sub_eq, mul_eq, shapeCast_self]
    exact (heads_at (⟨x0, x1, x2, x3, x4, x5, x6, x7, xs0⟩ : Blk).ds0 8 _ x).symm
  · unfold_payloads
    intro x
    simp only [tn_eq, tnW_eq, mm_eq, nt_eq, ld_half, ld_full, ld_sq, ld_sv, ld_lanes, cut_0, cut_64, add_unit, add_eq, sub_eq, mul_eq, shapeCast_self]
    exact (heads_at (⟨x0, x1, x2, x3, x4, x5, x6, x7, xs0⟩ : Blk).ds0 7 _ x).symm
  · unfold_payloads
    intro x
    simp only [tn_eq, tnW_eq, mm_eq, nt_eq, ld_half, ld_full, ld_sq, ld_sv, ld_lanes, cut_0, cut_64, add_unit, add_eq, sub_eq, mul_eq, shapeCast_self]
    exact (heads_at (⟨x0, x1, x2, x3, x4, x5, x6, x7, xs0⟩ : Blk).ds0 6 _ x).symm
  · unfold_payloads
    intro x
    simp only [tn_eq, tnW_eq, mm_eq, nt_eq, ld_half, ld_full, ld_sq, ld_sv, ld_lanes, cut_0, cut_64, add_unit, add_eq, sub_eq, mul_eq, shapeCast_self]
    exact (heads_at (⟨x0, x1, x2, x3, x4, x5, x6, x7, xs0⟩ : Blk).ds0 5 _ x).symm
  · unfold_payloads
    intro x
    simp only [tn_eq, tnW_eq, mm_eq, nt_eq, ld_half, ld_full, ld_sq, ld_sv, ld_lanes, cut_0, cut_64, add_unit, add_eq, sub_eq, mul_eq, shapeCast_self]
    exact (heads_at (⟨x0, x1, x2, x3, x4, x5, x6, x7, xs0⟩ : Blk).ds0 4 _ x).symm
  · unfold_payloads
    intro x
    simp only [tn_eq, tnW_eq, mm_eq, nt_eq, ld_half, ld_full, ld_sq, ld_sv, ld_lanes, cut_0, cut_64, add_unit, add_eq, sub_eq, mul_eq, shapeCast_self]
    exact (heads_at (⟨x0, x1, x2, x3, x4, x5, x6, x7, xs0⟩ : Blk).ds0 3 _ x).symm
  · unfold_payloads
    intro x
    simp only [tn_eq, tnW_eq, mm_eq, nt_eq, ld_half, ld_full, ld_sq, ld_sv, ld_lanes, cut_0, cut_64, add_unit, add_eq, sub_eq, mul_eq, shapeCast_self]
    exact (heads_at (⟨x0, x1, x2, x3, x4, x5, x6, x7, xs0⟩ : Blk).ds0 2 _ x).symm
  · unfold_payloads
    intro x
    simp only [tn_eq, tnW_eq, mm_eq, nt_eq, ld_half, ld_full, ld_sq, ld_sv, ld_lanes, cut_0, cut_64, add_unit, add_eq, sub_eq, mul_eq, shapeCast_self]
    exact (heads_at (⟨x0, x1, x2, x3, x4, x5, x6, x7, xs0⟩ : Blk).ds0 1 _ x).symm
  · unfold_payloads
    intro x
    simp only [tn_eq, tnW_eq, mm_eq, nt_eq, ld_half, ld_full, ld_sq, ld_sv, ld_lanes, cut_0, cut_64, add_unit, add_eq, sub_eq, mul_eq, shapeCast_self]
    exact (heads_at (⟨x0, x1, x2, x3, x4, x5, x6, x7, xs0⟩ : Blk).ds0 0 _ x).symm

set_option maxHeartbeats 4000000 in
theorem out0_A_8_eq (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S16x256x128 .f32) (harg7 : arg7.IsWhole) (arg8 : Memref sig .tc .vmem S1x8x8x128 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S1x8x8x128 .f32) (harg11 : arg11.IsWhole) (arg12 : Memref sig .tc .vmem S16x128x128 .f32) (harg12 : arg12.IsWhole)
    (hc0 : cond0_0 i) (x0 : Vec Ideal S128x2048 .f32) (x1 : Vec Ideal S128x2048 .f32) (x2 : Vec Ideal S128x2048 .f32) (x3 : Vec Ideal S128x2048 .f32) (x4 : Vec Ideal S128x2048 .f32) (x5 : Vec Ideal S128x2048 .f32) (x6 : Vec Ideal S16x256x128 .f32) (x7 : Vec Ideal S1x8x8x128 .f32) :
    out0_A_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = rows2 (⟨x0, x1, x2, x3, x4, x5, x6, x7, zero3⟩ : Blk).dvA (⟨x0, x1, x2, x3, x4, x5, x6, x7, zero3⟩ : Blk).dvB := by
  funext y
  unfold out0_A_8
  rw [View.read_writes_junk_apply_eq_canon]
  refine View.canon_apply_of_pieces (Val := Elt Ideal) (e := .f32) (rows2 (⟨x0, x1, x2, x3, x4, x5, x6, x7, zero3⟩ : Blk).dvA (⟨x0, x1, x2, x3, x4, x5, x6, x7, zero3⟩ : Blk).dvB) _ ?_ y (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 y)
  frame_open
  simp only [List.forall_mem_cons, View.readAt_eq_ld, Memref.IsWhole.read_unread]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dvA (⟨x0, x1, x2, x3, x4, x5, x6, x7, zero3⟩ : Blk).dvB 1920 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dvA (⟨x0, x1, x2, x3, x4, x5, x6, x7, zero3⟩ : Blk).dvB 1920 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dvA (⟨x0, x1, x2, x3, x4, x5, x6, x7, zero3⟩ : Blk).dvB 1792 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dvA (⟨x0, x1, x2, x3, x4, x5, x6, x7, zero3⟩ : Blk).dvB 1792 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dvA (⟨x0, x1, x2, x3, x4, x5, x6, x7, zero3⟩ : Blk).dvB 1664 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dvA (⟨x0, x1, x2, x3, x4, x5, x6, x7, zero3⟩ : Blk).dvB 1664 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dvA (⟨x0, x1, x2, x3, x4, x5, x6, x7, zero3⟩ : Blk).dvB 1536 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dvA (⟨x0, x1, x2, x3, x4, x5, x6, x7, zero3⟩ : Blk).dvB 1536 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dvA (⟨x0, x1, x2, x3, x4, x5, x6, x7, zero3⟩ : Blk).dvB 1408 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dvA (⟨x0, x1, x2, x3, x4, x5, x6, x7, zero3⟩ : Blk).dvB 1408 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dvA (⟨x0, x1, x2, x3, x4, x5, x6, x7, zero3⟩ : Blk).dvB 1280 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dvA (⟨x0, x1, x2, x3, x4, x5, x6, x7, zero3⟩ : Blk).dvB 1280 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dvA (⟨x0, x1, x2, x3, x4, x5, x6, x7, zero3⟩ : Blk).dvB 1152 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dvA (⟨x0, x1, x2, x3, x4, x5, x6, x7, zero3⟩ : Blk).dvB 1152 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dvA (⟨x0, x1, x2, x3, x4, x5, x6, x7, zero3⟩ : Blk).dvB 1024 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dvA (⟨x0, x1, x2, x3, x4, x5, x6, x7, zero3⟩ : Blk).dvB 1024 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dvA (⟨x0, x1, x2, x3, x4, x5, x6, x7, zero3⟩ : Blk).dvB 896 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dvA (⟨x0, x1, x2, x3, x4, x5, x6, x7, zero3⟩ : Blk).dvB 896 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dvA (⟨x0, x1, x2, x3, x4, x5, x6, x7, zero3⟩ : Blk).dvB 768 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dvA (⟨x0, x1, x2, x3, x4, x5, x6, x7, zero3⟩ : Blk).dvB 768 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dvA (⟨x0, x1, x2, x3, x4, x5, x6, x7, zero3⟩ : Blk).dvB 640 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dvA (⟨x0, x1, x2, x3, x4, x5, x6, x7, zero3⟩ : Blk).dvB 640 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dvA (⟨x0, x1, x2, x3, x4, x5, x6, x7, zero3⟩ : Blk).dvB 512 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dvA (⟨x0, x1, x2, x3, x4, x5, x6, x7, zero3⟩ : Blk).dvB 512 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dvA (⟨x0, x1, x2, x3, x4, x5, x6, x7, zero3⟩ : Blk).dvB 384 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dvA (⟨x0, x1, x2, x3, x4, x5, x6, x7, zero3⟩ : Blk).dvB 384 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dvA (⟨x0, x1, x2, x3, x4, x5, x6, x7, zero3⟩ : Blk).dvB 256 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dvA (⟨x0, x1, x2, x3, x4, x5, x6, x7, zero3⟩ : Blk).dvB 256 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dvA (⟨x0, x1, x2, x3, x4, x5, x6, x7, zero3⟩ : Blk).dvB 128 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dvA (⟨x0, x1, x2, x3, x4, x5, x6, x7, zero3⟩ : Blk).dvB 128 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dvA (⟨x0, x1, x2, x3, x4, x5, x6, x7, zero3⟩ : Blk).dvB 0 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dvA (⟨x0, x1, x2, x3, x4, x5, x6, x7, zero3⟩ : Blk).dvB 0 _ rfl x).symm

set_option maxHeartbeats 4000000 in
theorem out0_A_9_eq (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S16x256x128 .f32) (harg7 : arg7.IsWhole) (arg8 : Memref sig .tc .vmem S1x8x8x128 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S1x8x8x128 .f32) (harg11 : arg11.IsWhole) (arg12 : Memref sig .tc .vmem S16x128x128 .f32) (harg12 : arg12.IsWhole)
    (hc0 : cond0_0 i) (x0 : Vec Ideal S128x2048 .f32) (x1 : Vec Ideal S128x2048 .f32) (x2 : Vec Ideal S128x2048 .f32) (x3 : Vec Ideal S128x2048 .f32) (x4 : Vec Ideal S128x2048 .f32) (x5 : Vec Ideal S128x2048 .f32) (x6 : Vec Ideal S16x256x128 .f32) (x7 : Vec Ideal S1x8x8x128 .f32) :
    out0_A_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = rows2 (⟨x0, x1, x2, x3, x4, x5, x6, x7, zero3⟩ : Blk).dkA (⟨x0, x1, x2, x3, x4, x5, x6, x7, zero3⟩ : Blk).dkB := by
  funext y
  unfold out0_A_9
  rw [View.read_writes_junk_apply_eq_canon]
  refine View.canon_apply_of_pieces (Val := Elt Ideal) (e := .f32) (rows2 (⟨x0, x1, x2, x3, x4, x5, x6, x7, zero3⟩ : Blk).dkA (⟨x0, x1, x2, x3, x4, x5, x6, x7, zero3⟩ : Blk).dkB) _ ?_ y (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 y)
  frame_open
  simp only [List.forall_mem_cons, View.readAt_eq_ld, Memref.IsWhole.read_unread]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dkA (⟨x0, x1, x2, x3, x4, x5, x6, x7, zero3⟩ : Blk).dkB 1920 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dkA (⟨x0, x1, x2, x3, x4, x5, x6, x7, zero3⟩ : Blk).dkB 1920 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dkA (⟨x0, x1, x2, x3, x4, x5, x6, x7, zero3⟩ : Blk).dkB 1792 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dkA (⟨x0, x1, x2, x3, x4, x5, x6, x7, zero3⟩ : Blk).dkB 1792 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dkA (⟨x0, x1, x2, x3, x4, x5, x6, x7, zero3⟩ : Blk).dkB 1664 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dkA (⟨x0, x1, x2, x3, x4, x5, x6, x7, zero3⟩ : Blk).dkB 1664 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dkA (⟨x0, x1, x2, x3, x4, x5, x6, x7, zero3⟩ : Blk).dkB 1536 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dkA (⟨x0, x1, x2, x3, x4, x5, x6, x7, zero3⟩ : Blk).dkB 1536 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dkA (⟨x0, x1, x2, x3, x4, x5, x6, x7, zero3⟩ : Blk).dkB 1408 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dkA (⟨x0, x1, x2, x3, x4, x5, x6, x7, zero3⟩ : Blk).dkB 1408 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dkA (⟨x0, x1, x2, x3, x4, x5, x6, x7, zero3⟩ : Blk).dkB 1280 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dkA (⟨x0, x1, x2, x3, x4, x5, x6, x7, zero3⟩ : Blk).dkB 1280 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dkA (⟨x0, x1, x2, x3, x4, x5, x6, x7, zero3⟩ : Blk).dkB 1152 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dkA (⟨x0, x1, x2, x3, x4, x5, x6, x7, zero3⟩ : Blk).dkB 1152 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dkA (⟨x0, x1, x2, x3, x4, x5, x6, x7, zero3⟩ : Blk).dkB 1024 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dkA (⟨x0, x1, x2, x3, x4, x5, x6, x7, zero3⟩ : Blk).dkB 1024 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dkA (⟨x0, x1, x2, x3, x4, x5, x6, x7, zero3⟩ : Blk).dkB 896 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dkA (⟨x0, x1, x2, x3, x4, x5, x6, x7, zero3⟩ : Blk).dkB 896 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dkA (⟨x0, x1, x2, x3, x4, x5, x6, x7, zero3⟩ : Blk).dkB 768 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dkA (⟨x0, x1, x2, x3, x4, x5, x6, x7, zero3⟩ : Blk).dkB 768 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dkA (⟨x0, x1, x2, x3, x4, x5, x6, x7, zero3⟩ : Blk).dkB 640 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dkA (⟨x0, x1, x2, x3, x4, x5, x6, x7, zero3⟩ : Blk).dkB 640 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dkA (⟨x0, x1, x2, x3, x4, x5, x6, x7, zero3⟩ : Blk).dkB 512 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dkA (⟨x0, x1, x2, x3, x4, x5, x6, x7, zero3⟩ : Blk).dkB 512 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dkA (⟨x0, x1, x2, x3, x4, x5, x6, x7, zero3⟩ : Blk).dkB 384 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dkA (⟨x0, x1, x2, x3, x4, x5, x6, x7, zero3⟩ : Blk).dkB 384 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dkA (⟨x0, x1, x2, x3, x4, x5, x6, x7, zero3⟩ : Blk).dkB 256 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dkA (⟨x0, x1, x2, x3, x4, x5, x6, x7, zero3⟩ : Blk).dkB 256 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dkA (⟨x0, x1, x2, x3, x4, x5, x6, x7, zero3⟩ : Blk).dkB 128 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dkA (⟨x0, x1, x2, x3, x4, x5, x6, x7, zero3⟩ : Blk).dkB 128 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_lo (⟨x0, x1, x2, x3, x4, x5, x6, x7, zero3⟩ : Blk).dkA (⟨x0, x1, x2, x3, x4, x5, x6, x7, zero3⟩ : Blk).dkB 0 _ rfl x).symm
  · unfold_payloads
    intro x
    simp only [tn_eq, tnW_eq, mm_eq, nt_eq, ld_half, ld_full, ld_sq, ld_sv, ld_lanes, cut_0, cut_64, add_unit, add_eq, sub_eq, mul_eq, shapeCast_self, readCov_one, zero3_eq]
    exact (rows2_hi (⟨x0, x1, x2, x3, x4, x5, x6, x7, zero3⟩ : Blk).dkA (⟨x0, x1, x2, x3, x4, x5, x6, x7, zero3⟩ : Blk).dkB 0 _ rfl x).symm

set_option maxHeartbeats 4000000 in
theorem out0_A_10_eq (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S16x256x128 .f32) (harg7 : arg7.IsWhole) (arg8 : Memref sig .tc .vmem S1x8x8x128 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S1x8x8x128 .f32) (harg11 : arg11.IsWhole) (arg12 : Memref sig .tc .vmem S16x128x128 .f32) (harg12 : arg12.IsWhole)
    (hc0 : cond0_0 i) (x0 : Vec Ideal S128x2048 .f32) (x1 : Vec Ideal S128x2048 .f32) (x2 : Vec Ideal S128x2048 .f32) (x3 : Vec Ideal S128x2048 .f32) (x4 : Vec Ideal S128x2048 .f32) (x5 : Vec Ideal S128x2048 .f32) (x6 : Vec Ideal S16x256x128 .f32) (x7 : Vec Ideal S1x8x8x128 .f32) :
    out0_A_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = gam4 (⟨x0, x1, x2, x3, x4, x5, x6, x7, zero3⟩ : Blk).dgA (⟨x0, x1, x2, x3, x4, x5, x6, x7, zero3⟩ : Blk).dgB := by
  funext y
  unfold out0_A_10
  rw [View.read_writes_junk_apply_eq_canon]
  frame_open
  simp only [View.readAt_eq_ld, Memref.IsWhole.read_unread]
  unfold_payloads
  refine canon_row _ 7 3 _ _ _ y (fun x => ?_) (fun n0 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 7 3 _ (by decide) x).symm
  refine canon_row _ 7 2 _ _ _ y (fun x => ?_) (fun n1 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 7 2 _ (by decide) x).symm
  refine canon_row _ 7 1 _ _ _ y (fun x => ?_) (fun n2 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 7 1 _ (by decide) x).symm
  refine canon_row _ 7 0 _ _ _ y (fun x => ?_) (fun n3 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 7 0 _ (by decide) x).symm
  refine canon_row _ 6 3 _ _ _ y (fun x => ?_) (fun n4 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 6 3 _ (by decide) x).symm
  refine canon_row _ 6 2 _ _ _ y (fun x => ?_) (fun n5 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 6 2 _ (by decide) x).symm
  refine canon_row _ 6 1 _ _ _ y (fun x => ?_) (fun n6 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 6 1 _ (by decide) x).symm
  refine canon_row _ 6 0 _ _ _ y (fun x => ?_) (fun n7 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 6 0 _ (by decide) x).symm
  refine canon_row _ 5 3 _ _ _ y (fun x => ?_) (fun n8 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 5 3 _ (by decide) x).symm
  refine canon_row _ 5 2 _ _ _ y (fun x => ?_) (fun n9 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 5 2 _ (by decide) x).symm
  refine canon_row _ 5 1 _ _ _ y (fun x => ?_) (fun n10 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 5 1 _ (by decide) x).symm
  refine canon_row _ 5 0 _ _ _ y (fun x => ?_) (fun n11 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 5 0 _ (by decide) x).symm
  refine canon_row _ 4 3 _ _ _ y (fun x => ?_) (fun n12 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 4 3 _ (by decide) x).symm
  refine canon_row _ 4 2 _ _ _ y (fun x => ?_) (fun n13 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 4 2 _ (by decide) x).symm
  refine canon_row _ 4 1 _ _ _ y (fun x => ?_) (fun n14 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 4 1 _ (by decide) x).symm
  refine canon_row _ 4 0 _ _ _ y (fun x => ?_) (fun n15 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 4 0 _ (by decide) x).symm
  refine canon_row _ 3 3 _ _ _ y (fun x => ?_) (fun n16 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 3 3 _ (by decide) x).symm
  refine canon_row _ 3 2 _ _ _ y (fun x => ?_) (fun n17 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 3 2 _ (by decide) x).symm
  refine canon_row _ 3 1 _ _ _ y (fun x => ?_) (fun n18 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 3 1 _ (by decide) x).symm
  refine canon_row _ 3 0 _ _ _ y (fun x => ?_) (fun n19 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 3 0 _ (by decide) x).symm
  refine canon_row _ 2 3 _ _ _ y (fun x => ?_) (fun n20 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 2 3 _ (by decide) x).symm
  refine canon_row _ 2 2 _ _ _ y (fun x => ?_) (fun n21 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 2 2 _ (by decide) x).symm
  refine canon_row _ 2 1 _ _ _ y (fun x => ?_) (fun n22 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 2 1 _ (by decide) x).symm
  refine canon_row _ 2 0 _ _ _ y (fun x => ?_) (fun n23 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 2 0 _ (by decide) x).symm
  refine canon_row _ 1 3 _ _ _ y (fun x => ?_) (fun n24 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 1 3 _ (by decide) x).symm
  refine canon_row _ 1 2 _ _ _ y (fun x => ?_) (fun n25 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 1 2 _ (by decide) x).symm
  refine canon_row _ 1 1 _ _ _ y (fun x => ?_) (fun n26 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 1 1 _ (by decide) x).symm
  refine canon_row _ 1 0 _ _ _ y (fun x => ?_) (fun n27 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 1 0 _ (by decide) x).symm
  refine canon_row _ 0 3 _ _ _ y (fun x => ?_) (fun n28 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 0 3 _ (by decide) x).symm
  refine canon_row _ 0 2 _ _ _ y (fun x => ?_) (fun n29 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 0 2 _ (by decide) x).symm
  refine canon_row _ 0 1 _ _ _ y (fun x => ?_) (fun n30 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 0 1 _ (by decide) x).symm
  refine canon_row _ 0 0 _ _ _ y (fun x => ?_) (fun n31 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (congrFun (tot_eq _ _ _ _ _ _ _ _ _ _ _) x).trans (gam4_at (⟨x0, x1, x2, x3, x4, x5, x6, x7, zero3⟩ : Blk).dgA (⟨x0, x1, x2, x3, x4, x5, x6, x7, zero3⟩ : Blk).dgB 0 0 _ (by decide) x).symm
  refine fill_gam _ _ _ y (rows_met (y 1).val (y 2).val (y 1).isLt ?_)
  intro b hb q hq
  interval_cases b <;> interval_cases q <;> assumption

set_option maxHeartbeats 4000000 in
theorem sout0_A_0_eq (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S16x256x128 .f32) (harg7 : arg7.IsWhole) (arg8 : Memref sig .tc .vmem S1x8x8x128 .f32) (harg8 : arg8.IsWhole) (arg9 : Memref sig .tc .vmem S128x2048 .f32) (harg9 : arg9.IsWhole) (arg10 : Memref sig .tc .vmem S128x2048 .f32) (harg10 : arg10.IsWhole) (arg11 : Memref sig .tc .vmem S1x8x8x128 .f32) (harg11 : arg11.IsWhole) (arg12 : Memref sig .tc .vmem S16x128x128 .f32) (harg12 : arg12.IsWhole)
    (hc0 : cond0_0 i) (x0 : Vec Ideal S128x2048 .f32) (x1 : Vec Ideal S128x2048 .f32) (x2 : Vec Ideal S128x2048 .f32) (x3 : Vec Ideal S128x2048 .f32) (x4 : Vec Ideal S128x2048 .f32) (x5 : Vec Ideal S128x2048 .f32) (x6 : Vec Ideal S16x256x128 .f32) (x7 : Vec Ideal S1x8x8x128 .f32) :
    sout0_A_0 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = heads (⟨x0, x1, x2, x3, x4, x5, x6, x7, zero3⟩ : Blk).ds0 := by
  funext y
  unfold sout0_A_0
  rw [View.read_writes_junk_apply_eq_canon]
  frame_open
  simp only [View.readAt_eq_ld, Memref.IsWhole.read_unread]
  unfold_payloads
  refine canon_head _ 15 _ _ _ y (fun x => ?_) (fun n0 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (heads_at (⟨x0, x1, x2, x3, x4, x5, x6, x7, zero3⟩ : Blk).ds0 15 _ x).symm
  refine canon_head _ 14 _ _ _ y (fun x => ?_) (fun n1 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (heads_at (⟨x0, x1, x2, x3, x4, x5, x6, x7, zero3⟩ : Blk).ds0 14 _ x).symm
  refine canon_head _ 13 _ _ _ y (fun x => ?_) (fun n2 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (heads_at (⟨x0, x1, x2, x3, x4, x5, x6, x7, zero3⟩ : Blk).ds0 13 _ x).symm
  refine canon_head _ 12 _ _ _ y (fun x => ?_) (fun n3 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (heads_at (⟨x0, x1, x2, x3, x4, x5, x6, x7, zero3⟩ : Blk).ds0 12 _ x).symm
  refine canon_head _ 11 _ _ _ y (fun x => ?_) (fun n4 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (heads_at (⟨x0, x1, x2, x3, x4, x5, x6, x7, zero3⟩ : Blk).ds0 11 _ x).symm
  refine canon_head _ 10 _ _ _ y (fun x => ?_) (fun n5 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (heads_at (⟨x0, x1, x2, x3, x4, x5, x6, x7, zero3⟩ : Blk).ds0 10 _ x).symm
  refine canon_head _ 9 _ _ _ y (fun x => ?_) (fun n6 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (heads_at (⟨x0, x1, x2, x3, x4, x5, x6, x7, zero3⟩ : Blk).ds0 9 _ x).symm
  refine canon_head _ 8 _ _ _ y (fun x => ?_) (fun n7 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (heads_at (⟨x0, x1, x2, x3, x4, x5, x6, x7, zero3⟩ : Blk).ds0 8 _ x).symm
  refine canon_head _ 7 _ _ _ y (fun x => ?_) (fun n8 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (heads_at (⟨x0, x1, x2, x3, x4, x5, x6, x7, zero3⟩ : Blk).ds0 7 _ x).symm
  refine canon_head _ 6 _ _ _ y (fun x => ?_) (fun n9 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (heads_at (⟨x0, x1, x2, x3, x4, x5, x6, x7, zero3⟩ : Blk).ds0 6 _ x).symm
  refine canon_head _ 5 _ _ _ y (fun x => ?_) (fun n10 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (heads_at (⟨x0, x1, x2, x3, x4, x5, x6, x7, zero3⟩ : Blk).ds0 5 _ x).symm
  refine canon_head _ 4 _ _ _ y (fun x => ?_) (fun n11 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (heads_at (⟨x0, x1, x2, x3, x4, x5, x6, x7, zero3⟩ : Blk).ds0 4 _ x).symm
  refine canon_head _ 3 _ _ _ y (fun x => ?_) (fun n12 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (heads_at (⟨x0, x1, x2, x3, x4, x5, x6, x7, zero3⟩ : Blk).ds0 3 _ x).symm
  refine canon_head _ 2 _ _ _ y (fun x => ?_) (fun n13 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (heads_at (⟨x0, x1, x2, x3, x4, x5, x6, x7, zero3⟩ : Blk).ds0 2 _ x).symm
  refine canon_head _ 1 _ _ _ y (fun x => ?_) (fun n14 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (heads_at (⟨x0, x1, x2, x3, x4, x5, x6, x7, zero3⟩ : Blk).ds0 1 _ x).symm
  refine canon_head _ 0 _ _ _ y (fun x => ?_) (fun n15 => ?_)
  · simp only [tn_eq, tnW_eq, mm_eq, nt_eq, ld_half, ld_full, ld_sq, ld_sv, ld_lanes, cut_0, cut_64, add_unit, add_eq, sub_eq, mul_eq, shapeCast_self, readCov_one, zero3_eq]
    exact (heads_at (⟨x0, x1, x2, x3, x4, x5, x6, x7, zero3⟩ : Blk).ds0 0 _ x).symm
  have hy : (y 0).val < 16 := (y 0).isLt
  omega

end Cert.Proof.Body

end
-- ==== Proof.KernelValue.lean ====
/-
  The kernel's three result arrays: after `t` points the carried scratch is the state's gradient gone back through `2 t` chunks, and
  each point writes back the rows of its two chunks.
-/
module

public import proofs.«01_k».proof.Proof.Host
public import proofs.«01_k».proof.Proof.Block
public import proofs.«01_k».proof.Proof.Body
public import proofs.«01_k».proof.Proof.Gen.KernelIdeal.Value

@[expose] public section

set_option maxRecDepth 16384

noncomputable section

open Idealize.ShloMosaic Idealize.ShloMosaic.TcCoe Cert.KernelIdeal Cert.KernelIdeal.Gen Cert.Proof.Tile Cert.Proof.Host
open scoped BigOperators

namespace Cert.Proof.KernelValue

variable (m : (ℓ : Loc nD τ sig) → Buf (Elt Ideal) ℓ) (c : Dev nD)

/-- Point `t` has the blocks of rows `63 - t`. -/
theorem idx : ∀ t : Fin cfg0.N, win0_0.index t = ![63 - t.val, 0] ∧ win0_1.index t = ![63 - t.val, 0] ∧ win0_2.index t = ![63 - t.val, 0] ∧ win0_3.index t = ![63 - t.val, 0] ∧ win0_4.index t = ![63 - t.val, 0] ∧ win0_5.index t = ![63 - t.val, 0] ∧ win0_6.index t = ![0, 63 - t.val, 0] ∧ win0_7.index t = ![63 - t.val, 0, 0, 0] ∧ win0_8.index t = ![63 - t.val, 0] ∧ win0_9.index t = ![63 - t.val, 0] ∧ win0_10.index t = ![63 - t.val, 0, 0, 0] :=
  (by decide +kernel : ∀ t : Fin grid0.N, win0_0.index t = ![63 - t.val, 0] ∧ win0_1.index t = ![63 - t.val, 0] ∧ win0_2.index t = ![63 - t.val, 0] ∧ win0_3.index t = ![63 - t.val, 0] ∧ win0_4.index t = ![63 - t.val, 0] ∧ win0_5.index t = ![63 - t.val, 0] ∧ win0_6.index t = ![0, 63 - t.val, 0] ∧ win0_7.index t = ![63 - t.val, 0, 0, 0] ∧ win0_8.index t = ![63 - t.val, 0] ∧ win0_9.index t = ![63 - t.val, 0] ∧ win0_10.index t = ![63 - t.val, 0, 0, 0])

theorem pos (t : Fin cfg0.N) : t.val < 64 := lt_of_lt_of_eq t.isLt N_0

theorem read_d (t : Fin cfg0.N) (y : S128x2048.Idx) (hy : 128 * (63 - t.val) + (y 0).val < 8192) :
    (iblk m c 0 t : S128x2048.Idx → EReal) y = (V m c main_arg7 : S8192x2048.Idx → EReal) (ix2 ⟨128 * (63 - t.val) + (y 0).val, hy⟩ (y 1)) := by
  have := pos t
  blk_ext [iblk, idx t]

theorem read_q (t : Fin cfg0.N) (y : S128x2048.Idx) (hy : 128 * (63 - t.val) + (y 0).val < 8192) :
    (iblk m c 1 t : S128x2048.Idx → EReal) y = (V m c main_arg1 : S8192x2048.Idx → EReal) (ix2 ⟨128 * (63 - t.val) + (y 0).val, hy⟩ (y 1)) := by
  have := pos t
  blk_ext [iblk, idx t]

theorem read_k (t : Fin cfg0.N) (y : S128x2048.Idx) (hy : 128 * (63 - t.val) + (y 0).val < 8192) :
    (iblk m c 2 t : S128x2048.Idx → EReal) y = (V m c main_arg2 : S8192x2048.Idx → EReal) (ix2 ⟨128 * (63 - t.val) + (y 0).val, hy⟩ (y 1)) := by
  have := pos t
  blk_ext [iblk, idx t]

theorem read_p (t : Fin cfg0.N) (y : S128x2048.Idx) (hy : 128 * (63 - t.val) + (y 0).val < 8192) :
    (iblk m c 3 t : S128x2048.Idx → EReal) y = (V m c main_v6 : S8192x2048.Idx → EReal) (ix2 ⟨128 * (63 - t.val) + (y 0).val, hy⟩ (y 1)) := by
  have := pos t
  blk_ext [iblk, idx t]

theorem read_w (t : Fin cfg0.N) (y : S128x2048.Idx) (hy : 128 * (63 - t.val) + (y 0).val < 8192) :
    (iblk m c 4 t : S128x2048.Idx → EReal) y = (V m c main_arg4 : S8192x2048.Idx → EReal) (ix2 ⟨128 * (63 - t.val) + (y 0).val, hy⟩ (y 1)) := by
  have := pos t
  blk_ext [iblk, idx t]

theorem read_v (t : Fin cfg0.N) (y : S128x2048.Idx) (hy : 128 * (63 - t.val) + (y 0).val < 8192) :
    (iblk m c 5 t : S128x2048.Idx → EReal) y = (V m c main_v19 : S8192x2048.Idx → EReal) (ix2 ⟨128 * (63 - t.val) + (y 0).val, hy⟩ (y 1)) := by
  have := pos t
  blk_ext [iblk, idx t]

theorem read_s (t : Fin cfg0.N) (y : S16x256x128.Idx) (hy : 256 * (63 - t.val) + (y 1).val < 16384) :
    (iblk m c 6 t : S16x256x128.Idx → EReal) y
      = (V m c main_v18 : S16x16384x128.Idx → EReal) (ix3 (y 0) ⟨256 * (63 - t.val) + (y 1).val, hy⟩ (y 2)) := by
  have := pos t
  blk_ext [iblk, idx t]

theorem read_g (t : Fin cfg0.N) (y : S1x8x8x128.Idx) (hy : 63 - t.val < 64) :
    (iblk m c 7 t : S1x8x8x128.Idx → EReal) y
      = (V m c main_v11 : S64x8x8x128.Idx → EReal) (ix4 ⟨63 - t.val, hy⟩ (y 1) (y 2) (y 3)) := by
  have := pos t
  have : (y 0).val < 1 := (y 0).isLt
  blk_ext [iblk, idx t]

/-- The blocks point `t` reads, over the scratch the point before left. -/
def pt (t : Fin cfg0.N) (z : S16x128x128.Idx → EReal) : Blk :=
  ⟨iblk m c 0 t, iblk m c 1 t, iblk m c 2 t, iblk m c 3 t, iblk m c 4 t, iblk m c 5 t, iblk m c 6 t, iblk m c 7 t, z⟩

theorem pt_d (t : Fin cfg0.N) (i : S128x2048.Idx) :
    (iblk m c 0 t : S128x2048.Idx → EReal) i = at2 (arr m c).d (128 * (63 - t.val) + (i 0).val) (i 1).val := by
  have i0 : (i 0).val < 128 := (i 0).isLt
  have := pos t
  refine (read_d m c t i (by omega)).trans ((congrFun (V_main_arg7 m c) _).trans ?_)
  exact at2_of (arr m c).d ⟨128 * (63 - t.val) + (i 0).val, by omega⟩ (i 1)

theorem pt_q (t : Fin cfg0.N) (i : S128x2048.Idx) :
    (iblk m c 1 t : S128x2048.Idx → EReal) i = at2 (arr m c).q (128 * (63 - t.val) + (i 0).val) (i 1).val := by
  have i0 : (i 0).val < 128 := (i 0).isLt
  have := pos t
  refine (read_q m c t i (by omega)).trans ((congrFun (V_main_arg1 m c) _).trans ?_)
  exact at2_of (arr m c).q ⟨128 * (63 - t.val) + (i 0).val, by omega⟩ (i 1)

theorem pt_k (t : Fin cfg0.N) (i : S128x2048.Idx) :
    (iblk m c 2 t : S128x2048.Idx → EReal) i = at2 (arr m c).k (128 * (63 - t.val) + (i 0).val) (i 1).val := by
  have i0 : (i 0).val < 128 := (i 0).isLt
  have := pos t
  refine (read_k m c t i (by omega)).trans ((congrFun (V_main_arg2 m c) _).trans ?_)
  exact at2_of (arr m c).k ⟨128 * (63 - t.val) + (i 0).val, by omega⟩ (i 1)

theorem pt_w (t : Fin cfg0.N) (i : S128x2048.Idx) :
    (iblk m c 4 t : S128x2048.Idx → EReal) i = at2 (arr m c).w (128 * (63 - t.val) + (i 0).val) (i 1).val := by
  have i0 : (i 0).val < 128 := (i 0).isLt
  have := pos t
  refine (read_w m c t i (by omega)).trans ((congrFun (V_main_arg4 m c) _).trans ?_)
  exact at2_of (arr m c).w ⟨128 * (63 - t.val) + (i 0).val, by omega⟩ (i 1)

theorem pt_p (t : Fin cfg0.N) (i : S128x2048.Idx) : (iblk m c 3 t : S128x2048.Idx → EReal) i = if (i 0).val < 64 then
      (if (i 1).val % 128 < 64 then at4 (arr m c).qk (2 * (63 - t.val)) ((i 1).val / 128) (i 0).val ((i 1).val % 128) else 0)
    else (if 64 ≤ (i 1).val % 128 then
      at4 (arr m c).qk (2 * (63 - t.val) + 1) ((i 1).val / 128) ((i 0).val - 64) ((i 1).val % 128 - 64) else 0) := by
  have i0 : (i 0).val < 128 := (i 0).isLt
  have := pos t
  have e1 : (128 * (63 - t.val) + (i 0).val) % 128 = (i 0).val := by omega
  have e2 : (128 * (63 - t.val) + (i 0).val) / 128 = 63 - t.val := by omega
  have e := (read_p m c t i (by omega)).trans (scores_at m c _)
  generalize hj : (ix2 ⟨128 * (63 - t.val) + (i 0).val, _⟩ (i 1) : S8192x2048.Idx) = j at e
  have h0 : (j 0).val = 128 * (63 - t.val) + (i 0).val := by subst hj; rfl
  have h1 : (j 1).val = (i 1).val := by subst hj; rfl
  simp only [h0, h1, e1, e2] at e
  exact e

theorem pt_v (t : Fin cfg0.N) (i : S128x2048.Idx) : (iblk m c 5 t : S128x2048.Idx → EReal) i
    = at2 (arr m c).u (128 * (63 - t.val) + (i 0).val) (i 1).val
      - ∑ x : Fin 128, at4 (arr m c).s (2 * (63 - t.val) + (i 0).val / 64) ((i 1).val / 128) x.val ((i 1).val % 128)
        * at2 (arr m c).w (128 * (63 - t.val) + (i 0).val) (128 * ((i 1).val / 128) + x.val) := by
  have i0 : (i 0).val < 128 := (i 0).isLt
  have := pos t
  have e1 : (128 * (63 - t.val) + (i 0).val) / 64 = 2 * (63 - t.val) + (i 0).val / 64 := by omega
  have e := (read_v m c t i (by omega)).trans (vnew_at m c _)
  generalize hj : (ix2 ⟨128 * (63 - t.val) + (i 0).val, _⟩ (i 1) : S8192x2048.Idx) = j at e
  have h0 : (j 0).val = 128 * (63 - t.val) + (i 0).val := by subst hj; rfl
  have h1 : (j 1).val = (i 1).val := by subst hj; rfl
  simp only [h0, h1, e1] at e
  exact e

theorem pt_s (t : Fin cfg0.N) (i : S16x256x128.Idx) : (iblk m c 6 t : S16x256x128.Idx → EReal) i
    = at4 (arr m c).s (2 * (63 - t.val) + (i 1).val / 128) (i 0).val ((i 1).val % 128) (i 2).val := by
  have i1 : (i 1).val < 256 := (i 1).isLt
  have := pos t
  have e1 : (256 * (63 - t.val) + (i 1).val) / 128 = 2 * (63 - t.val) + (i 1).val / 128 := by omega
  have e2 : (256 * (63 - t.val) + (i 1).val) % 128 = (i 1).val % 128 := by omega
  have e := (read_s m c t i (by omega)).trans (states_at m c _)
  generalize hj : (ix3 (i 0) ⟨256 * (63 - t.val) + (i 1).val, _⟩ (i 2) : S16x16384x128.Idx) = j at e
  have h0 : (j 0).val = (i 0).val := by subst hj; rfl
  have h1 : (j 1).val = 256 * (63 - t.val) + (i 1).val := by subst hj; rfl
  have h2 : (j 2).val = (i 2).val := by subst hj; rfl
  simp only [h0, h1, h2, e1, e2] at e
  exact e

theorem pt_g (t : Fin cfg0.N) (i : S1x8x8x128.Idx) : (iblk m c 7 t : S1x8x8x128.Idx → EReal) i
    = if (i 2).val < 4 then at2 (arr m c).g (2 * (63 - t.val) + (i 2).val % 2) (2 * (i 1).val + (i 2).val / 2) else 0 := by
  have := pos t
  exact (read_g m c t i (by omega)).trans (decays_at m c _)

/-- They are the blocks of chunks `2 (63 - t)` and `2 (63 - t) + 1`. -/
theorem isBlk (t : Fin cfg0.N) (z : S16x128x128.Idx → EReal) : IsBlk (pt m c t z) (arr m c) (63 - t.val) :=
  ⟨pt_d m c t, pt_q m c t, pt_k m c t, pt_w m c t, pt_p m c t, pt_v m c t, pt_s m c t, pt_g m c t⟩

/-- Head `h < 16` of the heads of a family is the family's `h`. -/
theorem sq_heads (f : ℕ → S128x128.Idx → EReal) {h : ℕ} (hh : h < 16) : Tile.sq (heads f) h = f h := by
  funext j
  unfold Tile.sq
  exact (at3_eq (heads f) hh (j 0).isLt (j 1).isLt).trans (congrArg (f h) (eq_ix2 j).symm)

theorem heads_congr {f f' : ℕ → S128x128.Idx → EReal} (e : ∀ h, h < 16 → f h = f' h) : heads f = heads f' := by
  funext y
  unfold heads
  rw [e _ (y 0).isLt]

/-- The zeros the first point fills the scratch with. -/
theorem zero_heads : zero3 = heads ((arr m c).St 0) := rfl

/-- One point's step. -/
theorem step_eq (t : Fin cfg0.N) : heads (pt m c t (heads ((arr m c).St (2 * t.val)))).ds0 = heads ((arr m c).St (2 * (t.val + 1))) := by
  have ht := pos t
  refine heads_congr fun h hh => ?_
  have H := isBlk m c t (heads ((arr m c).St (2 * t.val)))
  rw [H.ds0_eq hh, H.ds1_eq hh]
  have e : (arr m c).St (2 * (t.val + 1)) h
      = (arr m c).nx (127 - (2 * t.val + 1)) h ((arr m c).nx (127 - 2 * t.val) h ((arr m c).St (2 * t.val) h)) := rfl
  rw [e, show 127 - (2 * t.val + 1) = 2 * (63 - t.val) by omega, show 127 - 2 * t.val = 2 * (63 - t.val) + 1 by omega]
  exact congrArg (fun x => (arr m c).nx _ h ((arr m c).nx _ h x)) (sq_heads _ hh)

/-- What a point leaves: its two chunks' rows and the state's gradient gone back through them. -/
theorem outs (n : ℕ) : ∀ hn : n < cfg0.N, outsAt0 m c n hn =
    (rows2 (pt m c ⟨n, hn⟩ (heads ((arr m c).St (2 * n)))).dvA (pt m c ⟨n, hn⟩ (heads ((arr m c).St (2 * n)))).dvB,
      rows2 (pt m c ⟨n, hn⟩ (heads ((arr m c).St (2 * n)))).dkA (pt m c ⟨n, hn⟩ (heads ((arr m c).St (2 * n)))).dkB,
      gam4 (pt m c ⟨n, hn⟩ (heads ((arr m c).St (2 * n)))).dgA (pt m c ⟨n, hn⟩ (heads ((arr m c).St (2 * n)))).dgB,
      heads ((arr m c).St (2 * (n + 1)))) := by
  induction n with
  | zero =>
    intro hn
    rw [outsAt0_A m c ⟨0, hn⟩ (Nat.zero_mod _), Body.out0_A_8_eq, Body.out0_A_9_eq, Body.out0_A_10_eq, Body.sout0_A_0_eq, zero_heads m c]
    exact congrArg (fun x => (_, _, _, x)) (step_eq m c ⟨0, hn⟩)
  | succ n ih =>
    intro hn
    have hN : n + 1 < 64 := lt_of_lt_of_eq hn N_0
    have h0 : ¬ (n + 1) % 64 = 0 := by omega
    have e := ih (Nat.lt_of_succ_lt hn)
    rw [outsAt0_B m c ⟨n + 1, hn⟩ h0, Body.out0_B_8_eq, Body.out0_B_9_eq, Body.out0_B_10_eq, Body.sout0_B_0_eq]
    have e' : (outsAt0 m c ((⟨n + 1, hn⟩ : Fin cfg0.N).val - 1) (Nat.lt_of_le_of_lt (Nat.sub_le _ _) hn)).2.2.2 = heads ((arr m c).St (2 * (n + 1))) :=
      congrArg (fun x => x.2.2.2) e
    rw [e']
    exact congrArg (fun x => (_, _, _, x)) (step_eq m c ⟨n + 1, hn⟩)

/-- The gradient after the odd chunk of point `t` … -/
theorem St_odd (t : Fin cfg0.N) {h : ℕ} (hh : h < 16) : (pt m c t (heads ((arr m c).St (2 * t.val)))).ds1 h
    = (arr m c).St (127 - 2 * (63 - t.val)) h := by
  have ht := pos t
  rw [(isBlk m c t _).ds1_eq hh, show 127 - 2 * (63 - t.val) = 2 * t.val + 1 by omega]
  show _ = (arr m c).nx (127 - 2 * t.val) h _
  rw [show 127 - 2 * t.val = 2 * (63 - t.val) + 1 by omega]
  exact congrArg (fun x => (arr m c).nx _ h x) (sq_heads _ hh)

/-- … and what the point found. -/
theorem St_even (t : Fin cfg0.N) {h : ℕ} (hh : h < 16) : Tile.sq (pt m c t (heads ((arr m c).St (2 * t.val)))).z h
    = (arr m c).St (127 - (2 * (63 - t.val) + 1)) h := by
  have ht := pos t
  rw [show 127 - (2 * (63 - t.val) + 1) = 2 * t.val by omega]
  exact sq_heads _ hh

/-- Rows of two chunks, read in the array. -/
theorem rows_at (t : Fin cfg0.N) (f : ℕ → ℕ → (S128x128.Idx → EReal) → S64x128.Idx → EReal) (A B : ℕ → S64x128.Idx → EReal)
    (hA : ∀ h, h < 16 → A h = f (2 * (63 - t.val)) h ((arr m c).St (127 - 2 * (63 - t.val)) h))
    (hB : ∀ h, h < 16 → B h = f (2 * (63 - t.val) + 1) h ((arr m c).St (127 - (2 * (63 - t.val) + 1)) h)) (y : S128x2048.Idx) :
    rows2 A B y = at2 (f ((128 * (63 - t.val) + (y 0).val) / 64) ((y 1).val / 128)
      ((arr m c).St (127 - (128 * (63 - t.val) + (y 0).val) / 64) ((y 1).val / 128)))
        ((128 * (63 - t.val) + (y 0).val) % 64) ((y 1).val % 128) := by
  have y0 : (y 0).val < 128 := (y 0).isLt
  have y1 : (y 1).val < 2048 := (y 1).isLt
  unfold rows2
  by_cases h : (y 0).val < 64
  · rw [if_pos h, hA _ (by omega), show (128 * (63 - t.val) + (y 0).val) / 64 = 2 * (63 - t.val) by omega,
      show (128 * (63 - t.val) + (y 0).val) % 64 = (y 0).val by omega]
  · rw [if_neg h, hB _ (by omega), show (128 * (63 - t.val) + (y 0).val) / 64 = 2 * (63 - t.val) + 1 by omega,
      show (128 * (63 - t.val) + (y 0).val) % 64 = (y 0).val - 64 by omega]

theorem emb8 (t : Fin cfg0.N) (y : S128x2048.Idx) (hy : 128 * (63 - t.val) + (y 0).val < 8192) :
    (win0_8.blk t).view.emb y = (ix2 ⟨128 * (63 - t.val) + (y 0).val, hy⟩ (y 1) : S8192x2048.Idx) := by
  have := pos t
  blk_ext [idx t]

theorem emb9 (t : Fin cfg0.N) (y : S128x2048.Idx) (hy : 128 * (63 - t.val) + (y 0).val < 8192) :
    (win0_9.blk t).view.emb y = (ix2 ⟨128 * (63 - t.val) + (y 0).val, hy⟩ (y 1) : S8192x2048.Idx) := by
  have := pos t
  blk_ext [idx t]

theorem emb10 (t : Fin cfg0.N) (y : S1x8x8x128.Idx) (hy : 63 - t.val < 64) :
    (win0_10.blk t).view.emb y = (ix4 ⟨63 - t.val, hy⟩ (y 1) (y 2) (y 3) : S64x8x8x128.Idx) := by
  have := pos t
  have : (y 0).val < 1 := (y 0).isLt
  blk_ext [idx t]

/-- The values' gradient, -/
theorem final8 : (dats m 0 c).arrAt 8 cfg0.N = (arr m c).du := by
  refine (dats m 0 c).arrAt_eq_of_covers 8 _ (by decide +kernel) fun t hf y => ?_
  have ht := pos t
  have y0 : (y 0).val < 128 := (y 0).isLt
  blk_simp
  rw [after0_8, outs]
  refine (rows_at m c t (arr m c).dv _ _ (fun h hh => ?_) (fun h hh => ?_) y).trans
    (congrArg (arr m c).du (emb8 t y (by omega))).symm
  · rw [(isBlk m c t _).dvA_eq hh, St_odd m c t hh]
  · rw [(isBlk m c t _).dvB_eq hh, St_even m c t hh]

/-- the keys' gradient -/
theorem final9 : (dats m 0 c).arrAt 9 cfg0.N = (arr m c).dkk := by
  refine (dats m 0 c).arrAt_eq_of_covers 9 _ (by decide +kernel) fun t hf y => ?_
  have ht := pos t
  have y0 : (y 0).val < 128 := (y 0).isLt
  blk_simp
  rw [after0_9, outs]
  refine (rows_at m c t (arr m c).dk _ _ (fun h hh => ?_) (fun h hh => ?_) y).trans
    (congrArg (arr m c).dkk (emb9 t y (by omega))).symm
  · rw [(isBlk m c t _).dkA_eq hh, St_odd m c t hh]
  · rw [(isBlk m c t _).dkB_eq hh, St_even m c t hh]

/-- and the decays' gradient. -/
theorem final10 : (dats m 0 c).arrAt 10 cfg0.N = (arr m c).dgg := by
  refine (dats m 0 c).arrAt_eq_of_covers 10 _ (by decide +kernel) fun t hf y => ?_
  have ht := pos t
  have y1 : (y 1).val < 8 := (y 1).isLt
  blk_simp
  rw [after0_10, outs]
  refine Eq.trans ?_ (congrArg (arr m c).dgg (emb10 t y (by omega))).symm
  show (if (y 2).val < 4 then (if (y 2).val % 2 = 0 then _ else _) else (0 : EReal)) = if (y 2).val < 4 then
    (arr m c).dg (2 * (63 - t.val) + (y 2).val % 2) (2 * (y 1).val + (y 2).val / 2)
      ((arr m c).St (127 - (2 * (63 - t.val) + (y 2).val % 2)) (2 * (y 1).val + (y 2).val / 2)) else 0
  refine ite_congr rfl (fun h4 => ?_) fun _ => rfl
  have hh : 2 * (y 1).val + (y 2).val / 2 < 16 := by omega
  rcases Nat.mod_two_eq_zero_or_one (y 2).val with h | h
  · rw [if_pos h, h, Nat.add_zero]
    refine ((isBlk m c t _).dgA_eq hh).trans ?_
    rw [St_odd m c t hh]
  · rw [if_neg (by omega), h]
    refine ((isBlk m c t _).dgB_eq hh).trans ?_
    rw [St_even m c t hh]

/-- So a run of the kernel leaves these three, and its arguments as they were. -/
theorem run (ρ) : θ_run defs (onTc (τ := τ) (main (F := Ideal))) ⟨m, fun _ => 0, ρ⟩ fun r => ∀ c : Dev nD,
      r.2.mem ((c : Thread nD τ).loc main_v20_0) = (arr m c).du
      ∧ r.2.mem ((c : Thread nD τ).loc main_v20_1) = (arr m c).dkk
      ∧ r.2.mem ((c : Thread nD τ).loc main_v20_2) = (arr m c).dgg
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c), (h c).2.2.1.trans (final10 m c),
    (h c).2.2.2⟩) (Cert.KernelIdeal.Value.run_blocks m ρ)

end Cert.Proof.KernelValue

end
-- ==== Proof.Real.lean ====
/-
  Finite values: sums, products and differences of them are finite, so the recurrence keeps finite arguments finite, and over finite
  values a sum of negations is the negation of the sum.
-/
module

public import proofs.«01_k».proof.Proof.Spec

@[expose] public section

noncomputable section

open Idealize.ShloMosaic Idealize.ShloMosaic.TcCoe Cert.KernelIdeal Cert.Proof.Tile
open scoped BigOperators

namespace Cert.Proof

/-- A finite value. -/
def Re (x : EReal) : Prop := ∃ r : ℝ, x = r

namespace Re

theorem zero : Re 0 := ⟨0, rfl⟩
theorem add {x y : EReal} : Re x → Re y → Re (x + y) := fun ⟨a, ha⟩ ⟨b, hb⟩ => ⟨a + b, by rw [ha, hb, EReal.coe_add]⟩
theorem sub {x y : EReal} : Re x → Re y → Re (x - y) := fun ⟨a, ha⟩ ⟨b, hb⟩ => ⟨a - b, by rw [ha, hb, EReal.coe_sub]⟩
theorem mul {x y : EReal} : Re x → Re y → Re (x * y) := fun ⟨a, ha⟩ ⟨b, hb⟩ => ⟨a * b, by rw [ha, hb, EReal.coe_mul]⟩
theorem sum {ι : Type} (t : Finset ι) {f : ι → EReal} (h : ∀ i, Re (f i)) : Re (∑ i ∈ t, f i) := by
  classical
  induction t using Finset.induction_on with
  | empty => exact zero
  | insert i t hi ih => rw [Finset.sum_insert hi]; exact (h i).add ih

/-- The negations of finite values add up to the negation of their sum. -/
theorem sum_neg {ι : Type} (t : Finset ι) {f : ι → EReal} (h : ∀ i, Re (f i)) : ∑ i ∈ t, -f i = -∑ i ∈ t, f i := by
  classical
  induction t using Finset.induction_on with
  | empty => simp
  | insert i t hi ih =>
    obtain ⟨a, ha⟩ := h i
    obtain ⟨b, hb⟩ := sum t h
    rw [Finset.sum_insert hi, Finset.sum_insert hi, ih, ha, hb, ← EReal.coe_add, ← EReal.coe_neg, ← EReal.coe_neg, ← EReal.coe_neg,
      ← EReal.coe_add, neg_add]

theorem at2 {a b : ℕ} {x : (⟨2, ![a, b]⟩ : Shape).Idx → EReal} (h : ∀ i, Re (x i)) (i j : ℕ) : Re (at2 x i j) := by
  unfold Tile.at2; split
  · exact h _
  · exact zero
theorem at4 {a b c d : ℕ} {x : (⟨4, ![a, b, c, d]⟩ : Shape).Idx → EReal} (h : ∀ i, Re (x i)) (i j k l : ℕ) : Re (at4 x i j k l) := by
  unfold Tile.at4; split
  · exact h _
  · exact zero

end Re

/-- The arguments the state's gradient is made of are finite. -/
structure Arr.Finite (A : Arr) : Prop where
  qk : ∀ i, Re (A.qk i)
  q : ∀ i, Re (A.q i)
  k : ∀ i, Re (A.k i)
  w : ∀ i, Re (A.w i)
  g : ∀ i, Re (A.g i)
  d : ∀ i, Re (A.d i)

namespace Arr.Finite
variable {A : Arr} (H : A.Finite)
include H

theorem dv {D : S128x128.Idx → EReal} (hD : ∀ i, Re (D i)) (n h : ℕ) (i) : Re (A.dv n h D i) :=
  (Re.sum _ fun _ => (Re.at4 H.qk _ _ _ _).mul (Re.at2 H.d _ _)).add (Re.sum _ fun _ => (Re.at2 H.k _ _).mul (hD _))

theorem nx {D : S128x128.Idx → EReal} (hD : ∀ i, Re (D i)) (n h : ℕ) (i) : Re (A.nx n h D i) :=
  (((Re.at2 H.g _ _).mul (hD _)).add (Re.sum _ fun _ => (Re.at2 H.q _ _).mul (Re.at2 H.d _ _))).sub
    (Re.sum _ fun _ => (Re.at2 H.w _ _).mul (H.dv hD _ _ _))

theorem St (j h : ℕ) : ∀ i, Re (A.St j h i) := by
  induction j with
  | zero => exact fun _ => Re.zero
  | succ j ih => exact fun i => H.nx ih _ _ i

end Arr.Finite

end Cert.Proof

end
-- ==== Proof.RefStep.lean ====
/-
  One trip of the reference's loop at an index: the slices of chunk `127 - j`, the products, and the three rows written.
-/
module

public import proofs.«01_k».proof.Proof.Real
public import proofs.«01_k».proof.Proof.Gen.ReferenceIdeal.Step

@[expose] public section

set_option maxRecDepth 16384

noncomputable section

open Idealize.ShloMosaic Idealize.ShloMosaic.TcCoe Cert.ReferenceIdeal Cert.ReferenceIdeal.Gen Cert.ReferenceIdeal.Step Cert.Proof.Tile
open scoped BigOperators

namespace Cert.Proof.RefStep

/-- The clamped start of trip `j`. -/
def row (j : ℕ) : ℕ :=
  (min (max (IntOp.subi (IntOp.subi 128#32 (BitVec.ofNat 32 j)) 1#32).toInt 0) ((128 - 1 : ℕ) : ℤ)).toNat

theorem row_eq : ∀ j : Fin 128, row j.val = 127 - j.val := by decide +kernel

variable (j : ℕ) (hj : j < 128) (s : State Ideal)
include hj

theorem b8_at (y : S16x64x64.Idx) : (b8 j s : S16x64x64.Idx → EReal) y = at4 s.main_v14_0 (127 - j) (y 0).val (y 1).val (y 2).val := by
  have e : row j = 127 - j := row_eq ⟨j, hj⟩
  unfold b8
  pointwise
  unfold b7 Host.dynamicSlice
  refine (congrArg s.main_v14_0 (funext fun a => Fin.ext ?_)).trans
    (at4_eq s.main_v14_0 (show 127 - j < 128 by omega) (y 0).isLt (y 1).isLt (y 2).isLt).symm
  match a with
  | ⟨0, _⟩ => exact e
  | ⟨1, _⟩ => exact Nat.zero_add _
  | ⟨2, _⟩ => exact Nat.zero_add _
  | ⟨3, _⟩ => exact Nat.zero_add _

theorem b13_at (y : S16x64x128.Idx) : (b13 j s : S16x64x128.Idx → EReal) y = at4 s.main_v14_1 (127 - j) (y 0).val (y 1).val (y 2).val := by
  have e : row j = 127 - j := row_eq ⟨j, hj⟩
  unfold b13
  pointwise
  unfold b12 Host.dynamicSlice
  refine (congrArg s.main_v14_1 (funext fun a => Fin.ext ?_)).trans
    (at4_eq s.main_v14_1 (show 127 - j < 128 by omega) (y 0).isLt (y 1).isLt (y 2).isLt).symm
  match a with
  | ⟨0, _⟩ => exact e
  | ⟨1, _⟩ => exact Nat.zero_add _
  | ⟨2, _⟩ => exact Nat.zero_add _
  | ⟨3, _⟩ => exact Nat.zero_add _

theorem b18_at (y : S16x64x128.Idx) : (b18 j s : S16x64x128.Idx → EReal) y = at4 s.main_v14_2 (127 - j) (y 0).val (y 1).val (y 2).val := by
  have e : row j = 127 - j := row_eq ⟨j, hj⟩
  unfold b18
  pointwise
  unfold b17 Host.dynamicSlice
  refine (congrArg s.main_v14_2 (funext fun a => Fin.ext ?_)).trans
    (at4_eq s.main_v14_2 (show 127 - j < 128 by omega) (y 0).isLt (y 1).isLt (y 2).isLt).symm
  match a with
  | ⟨0, _⟩ => exact e
  | ⟨1, _⟩ => exact Nat.zero_add _
  | ⟨2, _⟩ => exact Nat.zero_add _
  | ⟨3, _⟩ => exact Nat.zero_add _

theorem b23_at (y : S16x64x128.Idx) : (b23 j s : S16x64x128.Idx → EReal) y = at4 s.main_v14_3 (127 - j) (y 0).val (y 1).val (y 2).val := by
  have e : row j = 127 - j := row_eq ⟨j, hj⟩
  unfold b23
  pointwise
  unfold b22 Host.dynamicSlice
  refine (congrArg s.main_v14_3 (funext fun a => Fin.ext ?_)).trans
    (at4_eq s.main_v14_3 (show 127 - j < 128 by omega) (y 0).isLt (y 1).isLt (y 2).isLt).symm
  match a with
  | ⟨0, _⟩ => exact e
  | ⟨1, _⟩ => exact Nat.zero_add _
  | ⟨2, _⟩ => exact Nat.zero_add _
  | ⟨3, _⟩ => exact Nat.zero_add _

theorem b28_at (y : S16x64x128.Idx) : (b28 j s : S16x64x128.Idx → EReal) y = at4 s.main_v14_4 (127 - j) (y 0).val (y 1).val (y 2).val := by
  have e : row j = 127 - j := row_eq ⟨j, hj⟩
  unfold b28
  pointwise
  unfold b27 Host.dynamicSlice
  refine (congrArg s.main_v14_4 (funext fun a => Fin.ext ?_)).trans
    (at4_eq s.main_v14_4 (show 127 - j < 128 by omega) (y 0).isLt (y 1).isLt (y 2).isLt).symm
  match a with
  | ⟨0, _⟩ => exact e
  | ⟨1, _⟩ => exact Nat.zero_add _
  | ⟨2, _⟩ => exact Nat.zero_add _
  | ⟨3, _⟩ => exact Nat.zero_add _

theorem b36_at (y : S16x128x128.Idx) : (b36 j s : S16x128x128.Idx → EReal) y = at4 s.main_v14_6 (127 - j) (y 0).val (y 1).val (y 2).val := by
  have e : row j = 127 - j := row_eq ⟨j, hj⟩
  unfold b36
  pointwise
  unfold b35 Host.dynamicSlice
  refine (congrArg s.main_v14_6 (funext fun a => Fin.ext ?_)).trans
    (at4_eq s.main_v14_6 (show 127 - j < 128 by omega) (y 0).isLt (y 1).isLt (y 2).isLt).symm
  match a with
  | ⟨0, _⟩ => exact e
  | ⟨1, _⟩ => exact Nat.zero_add _
  | ⟨2, _⟩ => exact Nat.zero_add _
  | ⟨3, _⟩ => exact Nat.zero_add _

theorem b41_at (y : S16x64x128.Idx) : (b41 j s : S16x64x128.Idx → EReal) y = at4 s.main_v14_7 (127 - j) (y 0).val (y 1).val (y 2).val := by
  have e : row j = 127 - j := row_eq ⟨j, hj⟩
  unfold b41
  pointwise
  unfold b40 Host.dynamicSlice
  refine (congrArg s.main_v14_7 (funext fun a => Fin.ext ?_)).trans
    (at4_eq s.main_v14_7 (show 127 - j < 128 by omega) (y 0).isLt (y 1).isLt (y 2).isLt).symm
  match a with
  | ⟨0, _⟩ => exact e
  | ⟨1, _⟩ => exact Nat.zero_add _
  | ⟨2, _⟩ => exact Nat.zero_add _
  | ⟨3, _⟩ => exact Nat.zero_add _

theorem b31_at (y : S16.Idx) : (b31 j s : S16.Idx → EReal) y = at2 s.main_v14_5 (127 - j) (y 0).val := by
  have e : row j = 127 - j := row_eq ⟨j, hj⟩
  unfold b31
  pointwise
  unfold b30 Host.dynamicSlice
  refine (congrArg s.main_v14_5 (funext fun a => Fin.ext ?_)).trans
    (at2_eq s.main_v14_5 (show 127 - j < 128 by omega) (y 0).isLt).symm
  match a with
  | ⟨0, _⟩ => exact e
  | ⟨1, _⟩ => exact Nat.zero_add _

omit hj in
/-- The constants of the loop are the arguments, the rows of each by chunk and head. -/
structure Cst (A : Arr) : Prop where
  qk : s.main_v14_0 = A.qk
  q : ∀ n h i e, n < 128 → h < 16 → i < 64 → e < 128 → at4 s.main_v14_1 n h i e = at2 A.q (64 * n + i) (128 * h + e)
  k : ∀ n h i e, n < 128 → h < 16 → i < 64 → e < 128 → at4 s.main_v14_2 n h i e = at2 A.k (64 * n + i) (128 * h + e)
  u : ∀ n h i e, n < 128 → h < 16 → i < 64 → e < 128 → at4 s.main_v14_3 n h i e = at2 A.u (64 * n + i) (128 * h + e)
  w : ∀ n h i e, n < 128 → h < 16 → i < 64 → e < 128 → at4 s.main_v14_4 n h i e = at2 A.w (64 * n + i) (128 * h + e)
  g : s.main_v14_5 = A.g
  st : s.main_v14_6 = A.s
  d : ∀ n h i e, n < 128 → h < 16 → i < 64 → e < 128 → at4 s.main_v14_7 n h i e = at2 A.d (64 * n + i) (128 * h + e)

variable {A : Arr} (H : Cst s A) (D : ℕ → Cert.KernelIdeal.S128x128.Idx → EReal) (hD : ∀ y, s.main_v14_9 y = D (y 0).val (ix2 (y 1) (y 2)))
include H

theorem b43_at (y : S16x64x128.Idx) : (b43 j s : S16x64x128.Idx → EReal) y = A.vn (127 - j) (y 0).val (ix2 (y 1) (y 2)) := by
  have y0 : (y 0).val < 16 := (y 0).isLt
  have y1 : (y 1).val < 64 := (y 1).isLt
  have y2 : (y 2).val < 128 := (y 2).isLt
  unfold b43 b42
  pointwise
  refine congrArg₂ (· - ·) ?_ (Finset.sum_congr rfl fun x _ => ?_)
  · exact (b23_at j hj s y).trans (H.u _ _ _ _ (by omega) y0 y1 y2)
  · refine (mul_comm _ _).trans (congrArg₂ (· * ·) ?_ ?_)
    · refine (b36_at j hj s _).trans ?_
      rw [H.st]; rfl
    · exact (b28_at j hj s _).trans (H.w _ _ _ _ (by omega) y0 y1 x.isLt)

include hD

theorem b66_at (y : S16x64x128.Idx) : (b66 j s : S16x64x128.Idx → EReal) y = A.dv (127 - j) (y 0).val (D (y 0).val) (ix2 (y 1) (y 2)) := by
  have y0 : (y 0).val < 16 := (y 0).isLt
  have y1 : (y 1).val < 64 := (y 1).isLt
  have y2 : (y 2).val < 128 := (y 2).isLt
  unfold b66 b53 b52 b65 b64
  pointwise
  refine (add_comm _ _).trans (congrArg₂ (· + ·) (Finset.sum_congr rfl fun x _ => ?_) (Finset.sum_congr rfl fun x _ => ?_))
  · refine (mul_comm _ _).trans (congrArg₂ (· * ·) ?_ ?_)
    · refine (b8_at j hj s _).trans ?_
      rw [H.qk]; rfl
    · exact (b41_at j hj s _).trans (H.d _ _ _ _ (by omega) y0 x.isLt y2)
  · refine (mul_comm _ _).trans (congrArg₂ (· * ·) ?_ (hD _))
    exact (b18_at j hj s _).trans (H.k _ _ _ _ (by omega) y0 y1 x.isLt)

theorem b55_at (y : S16x64x128.Idx) : (b55 j s : S16x64x128.Idx → EReal) y = A.dk (127 - j) (y 0).val (D (y 0).val) (ix2 (y 1) (y 2)) := by
  unfold b55 b54
  pointwise
  exact Finset.sum_congr rfl fun x _ => (mul_comm _ _).trans (congrArg₂ (· * ·) (b43_at j hj s H _) (hD _))

theorem b63_at (y : S16.Idx) : (b63 j s : S16.Idx → EReal) y = A.dg (127 - j) (y 0).val (D (y 0).val) := by
  unfold b63 b61 b60 b58 b59 b62
  pointwise
  rw [Fin.sum_univ_one, Fin.sum_univ_one]
  show _ = ∑ k : Fin 128, ∑ e : Fin 128, D (y 0).val (ix2 k e) * A.st (127 - j) (y 0).val (ix2 k e)
  refine Finset.sum_congr rfl fun k _ => Finset.sum_congr rfl fun e _ => congrArg₂ (· * ·) (hD _) ?_
  refine (b36_at j hj s _).trans ?_
  rw [H.st]; rfl

theorem b73_at (hA : A.Finite) (hR : ∀ h i, Re (D h i)) (y : S16x128x128.Idx) :
    (b73 j s : S16x128x128.Idx → EReal) y = A.nx (127 - j) (y 0).val (D (y 0).val) (ix2 (y 1) (y 2)) := by
  have y0 : (y 0).val < 16 := (y 0).isLt
  have y1 : (y 1).val < 128 := (y 1).isLt
  have y2 : (y 2).val < 128 := (y 2).isLt
  unfold b73 b69 b57 b56 b47 b68 b67 b72 b71 b70
  pointwise
  refine congrArg₂ (· + ·) (congrArg₂ (· + ·) (congrArg₂ (· * ·) ?_ (hD _)) (Finset.sum_congr rfl fun x _ => ?_)) ?_
  · refine (b31_at j hj s _).trans ?_
    rw [H.g]; rfl
  · refine (mul_comm _ _).trans (congrArg₂ (· * ·) ?_ ?_)
    · exact (b13_at j hj s _).trans (H.q _ _ _ _ (by omega) y0 x.isLt y1)
    · exact (b41_at j hj s _).trans (H.d _ _ _ _ (by omega) y0 x.isLt y2)
  · refine Eq.trans (Finset.sum_congr rfl fun x _ => ?_)
      (Re.sum_neg Finset.univ fun x : Fin 64 => (Re.at2 hA.w (64 * (127 - j) + x.val) (128 * (y 0).val + (y 1).val)).mul
        (hA.dv (hR (y 0).val) (127 - j) (y 0).val (ix2 x (y 2))))
    have e1 : b66 j s (ix3 (y 0) x (y 2)) = A.dv (127 - j) (y 0).val (D (y 0).val) (ix2 x (y 2)) := b66_at j hj s H D hD _
    have e2 : b28 j s (ix3 (y 0) x (y 1)) = at2 A.w (64 * (127 - j) + x.val) (128 * (y 0).val + (y 1).val) :=
      (b28_at j hj s _).trans (H.w _ _ _ _ (by omega) y0 x.isLt y1)
    rw [e1, e2]
    exact (EReal.neg_mul _ _).trans (congrArg Neg.neg (mul_comm _ _))

end Cert.Proof.RefStep

end
-- ==== Proof.RefRun.lean ====
/-
  The reference's loop, run over one trip's definitions of Gen/ReferenceIdeal/Step.lean: the generated text of that restatement,
  with the four lemmas `step_9` … `step_12` closed by the trip's value lemma itself.
-/
module

public import proofs.«01_k».proof.Proof.Gen.ReferenceIdeal.Run
public import proofs.«01_k».proof.Proof.Gen.ReferenceIdeal.Step

@[expose] public section

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_9 : V0 (Proc.devRef .tc main_v14_9) = s.main_v14_9
  f_10 : V0 (Proc.devRef .tc main_v14_10) = s.main_v14_10
  f_11 : V0 (Proc.devRef .tc main_v14_11) = s.main_v14_11
  f_12 : V0 (Proc.devRef .tc main_v14_12) = s.main_v14_12
  f_0 : V0 (Proc.devRef .tc main_v14_0) = s.main_v14_0
  f_1 : V0 (Proc.devRef .tc main_v14_1) = s.main_v14_1
  f_2 : V0 (Proc.devRef .tc main_v14_2) = s.main_v14_2
  f_3 : V0 (Proc.devRef .tc main_v14_3) = s.main_v14_3
  f_4 : V0 (Proc.devRef .tc main_v14_4) = s.main_v14_4
  f_5 : V0 (Proc.devRef .tc main_v14_5) = s.main_v14_5
  f_6 : V0 (Proc.devRef .tc main_v14_6) = s.main_v14_6
  f_7 : V0 (Proc.devRef .tc main_v14_7) = s.main_v14_7
  n_8 : V0 (Proc.devRef .tc main_v14_8) = constantI S_ 32 (BitVec.ofNat 32 j)

variable {V0 s j}

set_option maxRecDepth 8192 in
theorem al_0 (h : Holds V0 s j) : (constantI S_ 32 128#32 : (Proc.devRef .tc main_while0b_c_16 : DevRef τ sig).ty.Contents (Elt F)) = Cert.ReferenceIdeal.Step.b0 j s := by
  unfold Cert.ReferenceIdeal.Step.b0
  rfl
set_option maxRecDepth 8192 in
theorem al_1 (h : Holds V0 s j) : (subi (constantI S_ 32 128#32) (V0 (Proc.devRef .tc main_v14_8)) : (Proc.devRef .tc main_while0b_v24 : DevRef τ sig).ty.Contents (Elt F)) = Cert.ReferenceIdeal.Step.b1 j s := by
  unfold Cert.ReferenceIdeal.Step.b1
  rw [← al_0 h, h.n_8]
  try rfl
set_option maxRecDepth 8192 in
theorem al_2 (h : Holds V0 s j) : (constantI S_ 32 1#32 : (Proc.devRef .tc main_while0b_c_17 : DevRef τ sig).ty.Contents (Elt F)) = Cert.ReferenceIdeal.Step.b2 j s := by
  unfold Cert.ReferenceIdeal.Step.b2
  rfl
set_option maxRecDepth 8192 in
theorem al_3 (h : Holds V0 s j) : (res_main_while0b_v25 V0 : (Proc.devRef .tc main_while0b_v25 : DevRef τ sig).ty.Contents (Elt F)) = Cert.ReferenceIdeal.Step.b3 j s := by
  unfold res_main_while0b_v25 Cert.ReferenceIdeal.Step.b3
  rw [← al_1 h, ← al_2 h]
  try rfl
set_option maxRecDepth 8192 in
theorem al_4 (h : Holds V0 s j) : (constantI S_ 32 0#32 : (Proc.devRef .tc main_while0b_call0_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call0_c_0 : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call0_c_1 : DevRef τ sig).ty.Contents (Elt F)) = Cert.ReferenceIdeal.Step.b6 j s := by
  unfold Cert.ReferenceIdeal.Step.b6
  rfl
set_option maxRecDepth 8192 in
theorem al_7 (h : Holds V0 s j) : (Host.dynamicSlice S1x16x64x64 (V0 (Proc.devRef .tc main_v14_0)) (fun k => (((![res_main_while0b_v25 V0, constantI S_ 32 0#32, constantI S_ 32 0#32, constantI S_ 32 0#32] : Fin 4 → (⟨S_, .i32⟩ : BufTy).Contents (Elt F))) k (Shape.Idx.first h_S_)).toInt) sliceFits_S128x16x64x64_S1x16x64x64 : (Proc.devRef .tc main_while0b_call0_v0 : DevRef τ sig).ty.Contents (Elt F)) = Cert.ReferenceIdeal.Step.b7 j s := by
  unfold Cert.ReferenceIdeal.Step.b7
  rw [← al_3 h, ← al_4 h, ← al_5 h, ← al_6 h, h.f_0]
  try rfl
set_option maxRecDepth 8192 in
theorem al_8 (h : Holds V0 s j) : (res_main_while0b_v26 V0 : (Proc.devRef .tc main_while0b_v26 : DevRef τ sig).ty.Contents (Elt F)) = Cert.ReferenceIdeal.Step.b8 j s := by
  unfold res_main_while0b_v26 Cert.ReferenceIdeal.Step.b8
  rw [← al_7 h]
  try rfl
set_option maxRecDepth 8192 in
theorem al_9 (h : Holds V0 s j) : (constantI S_ 32 0#32 : (Proc.devRef .tc main_while0b_call1_c : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call1_c_0 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call1_c_1 : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S1x16x64x128 (V0 (Proc.devRef .tc main_v14_1)) (fun k => (((![res_main_while0b_v25 V0, constantI S_ 32 0#32, constantI S_ 32 0#32, constantI S_ 32 0#32] : Fin 4 → (⟨S_, .i32⟩ : BufTy).Contents (Elt F))) k (Shape.Idx.first h_S_)).toInt) sliceFits_S128x16x64x128_S1x16x64x128 : (Proc.devRef .tc main_while0b_call1_v0 : DevRef τ sig).ty.Contents (Elt F)) = Cert.ReferenceIdeal.Step.b12 j s := by
  unfold Cert.ReferenceIdeal.Step.b12
  rw [← al_3 h, ← al_9 h, ← al_10 h, ← al_11 h, h.f_1]
  try rfl
set_option maxRecDepth 8192 in
theorem al_13 (h : Holds V0 s j) : (res_main_while0b_v27 V0 : (Proc.devRef .tc main_while0b_v27 : DevRef τ sig).ty.Contents (Elt F)) = Cert.ReferenceIdeal.Step.b13 j s := by
  unfold res_main_while0b_v27 Cert.ReferenceIdeal.Step.b13
  rw [← al_12 h]
  try rfl
set_option maxRecDepth 8192 in
theorem al_14 (h : Holds V0 s j) : (constantI S_ 32 0#32 : (Proc.devRef .tc main_while0b_call2_c : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call2_c_0 : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call2_c_1 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x16x64x128 (V0 (Proc.devRef .tc main_v14_2)) (fun k => (((![res_main_while0b_v25 V0, constantI S_ 32 0#32, constantI S_ 32 0#32, constantI S_ 32 0#32] : Fin 4 → (⟨S_, .i32⟩ : BufTy).Contents (Elt F))) k (Shape.Idx.first h_S_)).toInt) sliceFits_S128x16x64x128_S1x16x64x128 : (Proc.devRef .tc main_while0b_call2_v0 : DevRef τ sig).ty.Contents (Elt F)) = Cert.ReferenceIdeal.Step.b17 j s := by
  unfold Cert.ReferenceIdeal.Step.b17
  rw [← al_3 h, ← al_14 h, ← al_15 h, ← al_16 h, h.f_2]
  try rfl
set_option maxRecDepth 8192 in
theorem al_18 (h : Holds V0 s j) : (res_main_while0b_v28 V0 : (Proc.devRef .tc main_while0b_v28 : DevRef τ sig).ty.Contents (Elt F)) = Cert.ReferenceIdeal.Step.b18 j s := by
  unfold res_main_while0b_v28 Cert.ReferenceIdeal.Step.b18
  rw [← al_17 h]
  try rfl
set_option maxRecDepth 8192 in
theorem al_19 (h : Holds V0 s j) : (constantI S_ 32 0#32 : (Proc.devRef .tc main_while0b_call3_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call3_c_0 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call3_c_1 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x16x64x128 (V0 (Proc.devRef .tc main_v14_3)) (fun k => (((![res_main_while0b_v25 V0, constantI S_ 32 0#32, constantI S_ 32 0#32, constantI S_ 32 0#32] : Fin 4 → (⟨S_, .i32⟩ : BufTy).Contents (Elt F))) k (Shape.Idx.first h_S_)).toInt) sliceFits_S128x16x64x128_S1x16x64x128 : (Proc.devRef .tc main_while0b_call3_v0 : DevRef τ sig).ty.Contents (Elt F)) = Cert.ReferenceIdeal.Step.b22 j s := by
  unfold Cert.ReferenceIdeal.Step.b22
  rw [← al_3 h, ← al_19 h, ← al_20 h, ← al_21 h, h.f_3]
  try rfl
set_option maxRecDepth 8192 in
theorem al_23 (h : Holds V0 s j) : (shapeCast S16x64x128 (Host.dynamicSlice S1x16x64x128 (V0 (Proc.devRef .tc main_v14_3)) (fun k => (((![res_main_while0b_v25 V0, constantI S_ 32 0#32, constantI S_ 32 0#32, constantI S_ 32 0#32] : Fin 4 → (⟨S_, .i32⟩ : BufTy).Contents (Elt F))) k (Shape.Idx.first h_S_)).toInt) sliceFits_S128x16x64x128_S1x16x64x128) shapeCasts_S1x16x64x128_S16x64x128 : (Proc.devRef .tc main_while0b_v29 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constantI S_ 32 0#32 : (Proc.devRef .tc main_while0b_call4_c : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call4_c_0 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call4_c_1 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x16x64x128 (V0 (Proc.devRef .tc main_v14_4)) (fun k => (((![res_main_while0b_v25 V0, constantI S_ 32 0#32, constantI S_ 32 0#32, constantI S_ 32 0#32] : Fin 4 → (⟨S_, .i32⟩ : BufTy).Contents (Elt F))) k (Shape.Idx.first h_S_)).toInt) sliceFits_S128x16x64x128_S1x16x64x128 : (Proc.devRef .tc main_while0b_call4_v0 : DevRef τ sig).ty.Contents (Elt F)) = Cert.ReferenceIdeal.Step.b27 j s := by
  unfold Cert.ReferenceIdeal.Step.b27
  rw [← al_3 h, ← al_24 h, ← al_25 h, ← al_26 h, h.f_4]
  try rfl
set_option maxRecDepth 8192 in
theorem al_28 (h : Holds V0 s j) : (res_main_while0b_v30 V0 : (Proc.devRef .tc main_while0b_v30 : DevRef τ sig).ty.Contents (Elt F)) = Cert.ReferenceIdeal.Step.b28 j s := by
  unfold res_main_while0b_v30 Cert.ReferenceIdeal.Step.b28
  rw [← al_27 h]
  try rfl
set_option maxRecDepth 8192 in
theorem al_29 (h : Holds V0 s j) : (constantI S_ 32 0#32 : (Proc.devRef .tc main_while0b_call5_c : DevRef τ sig).ty.Contents (Elt F)) = Cert.ReferenceIdeal.Step.b29 j s := by
  unfold Cert.ReferenceIdeal.Step.b29
  rfl
set_option maxRecDepth 8192 in
theorem al_30 (h : Holds V0 s j) : (Host.dynamicSlice S1x16 (V0 (Proc.devRef .tc main_v14_5)) (fun k => (((![res_main_while0b_v25 V0, constantI S_ 32 0#32] : Fin 2 → (⟨S_, .i32⟩ : BufTy).Contents (Elt F))) k (Shape.Idx.first h_S_)).toInt) sliceFits_S128x16_S1x16 : (Proc.devRef .tc main_while0b_call5_v0 : DevRef τ sig).ty.Contents (Elt F)) = Cert.ReferenceIdeal.Step.b30 j s := by
  unfold Cert.ReferenceIdeal.Step.b30
  rw [← al_3 h, ← al_29 h, h.f_5]
  try rfl
set_option maxRecDepth 8192 in
theorem al_31 (h : Holds V0 s j) : (shapeCast S16 (Host.dynamicSlice S1x16 (V0 (Proc.devRef .tc main_v14_5)) (fun k => (((![res_main_while0b_v25 V0, constantI S_ 32 0#32] : Fin 2 → (⟨S_, .i32⟩ : BufTy).Contents (Elt F))) k (Shape.Idx.first h_S_)).toInt) sliceFits_S128x16_S1x16) shapeCasts_S1x16_S16 : (Proc.devRef .tc main_while0b_v31 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (constantI S_ 32 0#32 : (Proc.devRef .tc main_while0b_call6_c : DevRef τ sig).ty.Contents (Elt F)) = Cert.ReferenceIdeal.Step.b32 j s := by
  unfold Cert.ReferenceIdeal.Step.b32
  rfl
set_option maxRecDepth 8192 in
theorem al_33 (h : Holds V0 s j) : (constantI S_ 32 0#32 : (Proc.devRef .tc main_while0b_call6_c_0 : DevRef τ sig).ty.Contents (Elt F)) = Cert.ReferenceIdeal.Step.b33 j s := by
  unfold Cert.ReferenceIdeal.Step.b33
  rfl
set_option maxRecDepth 8192 in
theorem al_34 (h : Holds V0 s j) : (constantI S_ 32 0#32 : (Proc.devRef .tc main_while0b_call6_c_1 : DevRef τ sig).ty.Contents (Elt F)) = Cert.ReferenceIdeal.Step.b34 j s := by
  unfold Cert.ReferenceIdeal.Step.b34
  rfl
set_option maxRecDepth 8192 in
theorem al_35 (h : Holds V0 s j) : (Host.dynamicSlice S1x16x128x128 (V0 (Proc.devRef .tc main_v14_6)) (fun k => (((![res_main_while0b_v25 V0, constantI S_ 32 0#32, constantI S_ 32 0#32, constantI S_ 32 0#32] : Fin 4 → (⟨S_, .i32⟩ : BufTy).Contents (Elt F))) k (Shape.Idx.first h_S_)).toInt) sliceFits_S128x16x128x128_S1x16x128x128 : (Proc.devRef .tc main_while0b_call6_v0 : DevRef τ sig).ty.Contents (Elt F)) = Cert.ReferenceIdeal.Step.b35 j s := by
  unfold Cert.ReferenceIdeal.Step.b35
  rw [← al_3 h, ← al_32 h, ← al_33 h, ← al_34 h, h.f_6]
  try rfl
set_option maxRecDepth 8192 in
theorem al_36 (h : Holds V0 s j) : (res_main_while0b_v32 V0 : (Proc.devRef .tc main_while0b_v32 : DevRef τ sig).ty.Contents (Elt F)) = Cert.ReferenceIdeal.Step.b36 j s := by
  unfold res_main_while0b_v32 Cert.ReferenceIdeal.Step.b36
  rw [← al_35 h]
  try rfl
set_option maxRecDepth 8192 in
theorem al_37 (h : Holds V0 s j) : (constantI S_ 32 0#32 : (Proc.devRef .tc main_while0b_call7_c : DevRef τ sig).ty.Contents (Elt F)) = Cert.ReferenceIdeal.Step.b37 j s := by
  unfold Cert.ReferenceIdeal.Step.b37
  rfl
set_option maxRecDepth 8192 in
theorem al_38 (h : Holds V0 s j) : (constantI S_ 32 0#32 : (Proc.devRef .tc main_while0b_call7_c_0 : DevRef τ sig).ty.Contents (Elt F)) = Cert.ReferenceIdeal.Step.b38 j s := by
  unfold Cert.ReferenceIdeal.Step.b38
  rfl
set_option maxRecDepth 8192 in
theorem al_39 (h : Holds V0 s j) : (constantI S_ 32 0#32 : (Proc.devRef .tc main_while0b_call7_c_1 : DevRef τ sig).ty.Contents (Elt F)) = Cert.ReferenceIdeal.Step.b39 j s := by
  unfold Cert.ReferenceIdeal.Step.b39
  rfl
set_option maxRecDepth 8192 in
theorem al_40 (h : Holds V0 s j) : (Host.dynamicSlice S1x16x64x128 (V0 (Proc.devRef .tc main_v14_7)) (fun k => (((![res_main_while0b_v25 V0, constantI S_ 32 0#32, constantI S_ 32 0#32, constantI S_ 32 0#32] : Fin 4 → (⟨S_, .i32⟩ : BufTy).Contents (Elt F))) k (Shape.Idx.first h_S_)).toInt) sliceFits_S128x16x64x128_S1x16x64x128 : (Proc.devRef .tc main_while0b_call7_v0 : DevRef τ sig).ty.Contents (Elt F)) = Cert.ReferenceIdeal.Step.b40 j s := by
  unfold Cert.ReferenceIdeal.Step.b40
  rw [← al_3 h, ← al_37 h, ← al_38 h, ← al_39 h, h.f_7]
  try rfl
set_option maxRecDepth 8192 in
theorem al_41 (h : Holds V0 s j) : (res_main_while0b_v33 V0 : (Proc.devRef .tc main_while0b_v33 : DevRef τ sig).ty.Contents (Elt F)) = Cert.ReferenceIdeal.Step.b41 j s := by
  unfold res_main_while0b_v33 Cert.ReferenceIdeal.Step.b41
  rw [← al_40 h]
  try rfl
set_option maxRecDepth 8192 in
theorem al_42 (h : Holds V0 s j) : (Host.dotGeneral dot_S16x64x128_S16x128x128_S16x64x128_2_1_1_2_0_0 none (res_main_while0b_v30 V0) (res_main_while0b_v32 V0) : (Proc.devRef .tc main_while0b_v34 : DevRef τ sig).ty.Contents (Elt F)) = Cert.ReferenceIdeal.Step.b42 j s := by
  unfold Cert.ReferenceIdeal.Step.b42
  rw [← al_28 h, ← al_36 h]
  try rfl
set_option maxRecDepth 8192 in
theorem al_43 (h : Holds V0 s j) : (res_main_while0b_v35 V0 : (Proc.devRef .tc main_while0b_v35 : DevRef τ sig).ty.Contents (Elt F)) = Cert.ReferenceIdeal.Step.b43 j s := by
  unfold res_main_while0b_v35 Cert.ReferenceIdeal.Step.b43
  rw [← al_23 h, ← al_42 h]
  try rfl
set_option maxRecDepth 8192 in
theorem al_44 (h : Holds V0 s j) : (Host.dotGeneral dot_S16x64x128_S16x128x128_S16x64x128_2_1_1_2_0_0 none (res_main_while0b_v27 V0) (res_main_while0b_v32 V0) : (Proc.devRef .tc main_while0b_v36 : DevRef τ sig).ty.Contents (Elt F)) = Cert.ReferenceIdeal.Step.b44 j s := by
  unfold Cert.ReferenceIdeal.Step.b44
  rw [← al_13 h, ← al_36 h]
  try rfl
set_option maxRecDepth 8192 in
theorem al_45 (h : Holds V0 s j) : (Host.dotGeneral dot_S16x64x64_S16x64x128_S16x64x128_2_1_1_2_0_0 none (res_main_while0b_v26 V0) (res_main_while0b_v35 V0) : (Proc.devRef .tc main_while0b_v37 : DevRef τ sig).ty.Contents (Elt F)) = Cert.ReferenceIdeal.Step.b45 j s := by
  unfold Cert.ReferenceIdeal.Step.b45
  rw [← al_8 h, ← al_43 h]
  try rfl
set_option maxRecDepth 8192 in
theorem al_46 (h : Holds V0 s j) : (addf (Host.dotGeneral dot_S16x64x128_S16x128x128_S16x64x128_2_1_1_2_0_0 none (res_main_while0b_v27 V0) (res_main_while0b_v32 V0)) (Host.dotGeneral dot_S16x64x64_S16x64x128_S16x64x128_2_1_1_2_0_0 none (res_main_while0b_v26 V0) (res_main_while0b_v35 V0)) : (Proc.devRef .tc main_while0b_v38 : DevRef τ sig).ty.Contents (Elt F)) = Cert.ReferenceIdeal.Step.b46 j s := by
  unfold Cert.ReferenceIdeal.Step.b46
  rw [← al_44 h, ← al_45 h]
  try rfl
set_option maxRecDepth 8192 in
theorem al_47 (h : Holds V0 s j) : (res_main_while0b_v39 V0 : (Proc.devRef .tc main_while0b_v39 : DevRef τ sig).ty.Contents (Elt F)) = Cert.ReferenceIdeal.Step.b47 j s := by
  unfold res_main_while0b_v39 Cert.ReferenceIdeal.Step.b47
  rw [← al_31 h]
  try rfl
set_option maxRecDepth 8192 in
theorem al_48 (h : Holds V0 s j) : (broadcastInDim S16x128x128 ![0, 1, 2] bcast_S16x1x1_S16x128x128_0_1_2 (res_main_while0b_v39 V0) : (Proc.devRef .tc main_while0b_v40 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (mulf (broadcastInDim S16x128x128 ![0, 1, 2] bcast_S16x1x1_S16x128x128_0_1_2 (res_main_while0b_v39 V0)) (res_main_while0b_v32 V0) : (Proc.devRef .tc main_while0b_v41 : DevRef τ sig).ty.Contents (Elt F)) = Cert.ReferenceIdeal.Step.b49 j s := by
  unfold Cert.ReferenceIdeal.Step.b49
  rw [← al_48 h, ← al_36 h]
  try rfl
set_option maxRecDepth 8192 in
theorem al_50 (h : Holds V0 s j) : (Host.dotGeneral dot_S16x64x128_S16x64x128_S16x128x128_1_1_2_2_0_0 none (res_main_while0b_v28 V0) (res_main_while0b_v35 V0) : (Proc.devRef .tc main_while0b_v42 : DevRef τ sig).ty.Contents (Elt F)) = Cert.ReferenceIdeal.Step.b50 j s := by
  unfold Cert.ReferenceIdeal.Step.b50
  rw [← al_18 h, ← al_43 h]
  try rfl
set_option maxRecDepth 8192 in
theorem al_51 (h : Holds V0 s j) : (addf (mulf (broadcastInDim S16x128x128 ![0, 1, 2] bcast_S16x1x1_S16x128x128_0_1_2 (res_main_while0b_v39 V0)) (res_main_while0b_v32 V0)) (Host.dotGeneral dot_S16x64x128_S16x64x128_S16x128x128_1_1_2_2_0_0 none (res_main_while0b_v28 V0) (res_main_while0b_v35 V0)) : (Proc.devRef .tc main_while0b_v43 : DevRef τ sig).ty.Contents (Elt F)) = Cert.ReferenceIdeal.Step.b51 j s := by
  unfold Cert.ReferenceIdeal.Step.b51
  rw [← al_49 h, ← al_50 h]
  try rfl
set_option maxRecDepth 8192 in
theorem al_52 (h : Holds V0 s j) : (Host.dotGeneral dot_S16x128x128_S16x64x128_S16x128x64_1_2_2_1_0_0 none (V0 (Proc.devRef .tc main_v14_9)) (res_main_while0b_v28 V0) : (Proc.devRef .tc main_while0b_v44 : DevRef τ sig).ty.Contents (Elt F)) = Cert.ReferenceIdeal.Step.b52 j s := by
  unfold Cert.ReferenceIdeal.Step.b52
  rw [← al_18 h, h.f_9]
  try rfl
set_option maxRecDepth 8192 in
theorem al_53 (h : Holds V0 s j) : (transpose S16x64x128 [0, 2, 1] (Host.dotGeneral dot_S16x128x128_S16x64x128_S16x128x64_1_2_2_1_0_0 none (V0 (Proc.devRef .tc main_v14_9)) (res_main_while0b_v28 V0)) transposes_S16x128x64_S16x64x128_0_2_1 : (Proc.devRef .tc main_while0b_v45 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (Host.dotGeneral dot_S16x128x128_S16x64x128_S16x128x64_2_2_1_1_0_0 none (V0 (Proc.devRef .tc main_v14_9)) (res_main_while0b_v35 V0) : (Proc.devRef .tc main_while0b_v46 : DevRef τ sig).ty.Contents (Elt F)) = Cert.ReferenceIdeal.Step.b54 j s := by
  unfold Cert.ReferenceIdeal.Step.b54
  rw [← al_43 h, h.f_9]
  try rfl
set_option maxRecDepth 8192 in
theorem al_55 (h : Holds V0 s j) : (transpose S16x64x128 [0, 2, 1] (Host.dotGeneral dot_S16x128x128_S16x64x128_S16x128x64_2_2_1_1_0_0 none (V0 (Proc.devRef .tc main_v14_9)) (res_main_while0b_v35 V0)) transposes_S16x128x64_S16x64x128_0_2_1 : (Proc.devRef .tc main_while0b_v47 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (broadcastInDim S16x128x128 ![0, 1, 2] bcast_S16x1x1_S16x128x128_0_1_2 (res_main_while0b_v39 V0) : (Proc.devRef .tc main_while0b_v48 : DevRef τ sig).ty.Contents (Elt F)) = Cert.ReferenceIdeal.Step.b56 j s := by
  unfold Cert.ReferenceIdeal.Step.b56
  rw [← al_47 h]
  try rfl
set_option maxRecDepth 8192 in
theorem al_57 (h : Holds V0 s j) : (mulf (broadcastInDim S16x128x128 ![0, 1, 2] bcast_S16x1x1_S16x128x128_0_1_2 (res_main_while0b_v39 V0)) (V0 (Proc.devRef .tc main_v14_9)) : (Proc.devRef .tc main_while0b_v49 : DevRef τ sig).ty.Contents (Elt F)) = Cert.ReferenceIdeal.Step.b57 j s := by
  unfold Cert.ReferenceIdeal.Step.b57
  rw [← al_56 h, h.f_9]
  try rfl
set_option maxRecDepth 8192 in
theorem al_58 (h : Holds V0 s j) : (mulf (V0 (Proc.devRef .tc main_v14_9)) (res_main_while0b_v32 V0) : (Proc.devRef .tc main_while0b_v50 : DevRef τ sig).ty.Contents (Elt F)) = Cert.ReferenceIdeal.Step.b58 j s := by
  unfold Cert.ReferenceIdeal.Step.b58
  rw [← al_36 h, h.f_9]
  try rfl
set_option maxRecDepth 8192 in
theorem al_59 (h : Holds V0 s j) : (constant S_ .f32 0x00000000#32 : (Proc.devRef .tc main_while0b_cst_18 : DevRef τ sig).ty.Contents (Elt F)) = Cert.ReferenceIdeal.Step.b59 j s := by
  unfold Cert.ReferenceIdeal.Step.b59
  rfl
set_option maxRecDepth 8192 in
theorem al_60 (h : Holds V0 s j) : (Host.reduceAdd (mulf (V0 (Proc.devRef .tc main_v14_9)) (res_main_while0b_v32 V0)) (constant S_ .f32 0x00000000#32) reducesTo_S16x128x128_S16_d1_2 h_S_ : (Proc.devRef .tc main_while0b_v51 : DevRef τ sig).ty.Contents (Elt F)) = Cert.ReferenceIdeal.Step.b60 j s := by
  unfold Cert.ReferenceIdeal.Step.b60
  rw [← al_58 h, ← al_59 h]
  try rfl
set_option maxRecDepth 8192 in
theorem al_61 (h : Holds V0 s j) : (shapeCast S16x1x1 (Host.reduceAdd (mulf (V0 (Proc.devRef .tc main_v14_9)) (res_main_while0b_v32 V0)) (constant S_ .f32 0x00000000#32) reducesTo_S16x128x128_S16_d1_2 h_S_) shapeCasts_S16_S16x1x1 : (Proc.devRef .tc main_while0b_v52 : DevRef τ sig).ty.Contents (Elt F)) = Cert.ReferenceIdeal.Step.b61 j s := by
  unfold Cert.ReferenceIdeal.Step.b61
  rw [← al_60 h]
  try rfl
set_option maxRecDepth 8192 in
theorem al_62 (h : Holds V0 s j) : (constant S_ .f32 0x00000000#32 : (Proc.devRef .tc main_while0b_cst_19 : DevRef τ sig).ty.Contents (Elt F)) = Cert.ReferenceIdeal.Step.b62 j s := by
  unfold Cert.ReferenceIdeal.Step.b62
  rfl
set_option maxRecDepth 8192 in
theorem al_63 (h : Holds V0 s j) : (Host.reduceAdd (shapeCast S16x1x1 (Host.reduceAdd (mulf (V0 (Proc.devRef .tc main_v14_9)) (res_main_while0b_v32 V0)) (constant S_ .f32 0x00000000#32) reducesTo_S16x128x128_S16_d1_2 h_S_) shapeCasts_S16_S16x1x1) (constant S_ .f32 0x00000000#32) reducesTo_S16x1x1_S16_d1_2 h_S_ : (Proc.devRef .tc main_while0b_v53 : DevRef τ sig).ty.Contents (Elt F)) = Cert.ReferenceIdeal.Step.b63 j s := by
  unfold Cert.ReferenceIdeal.Step.b63
  rw [← al_61 h, ← al_62 h]
  try rfl
set_option maxRecDepth 8192 in
theorem al_64 (h : Holds V0 s j) : (Host.dotGeneral dot_S16x64x128_S16x64x64_S16x128x64_1_1_2_2_0_0 none (res_main_while0b_v33 V0) (res_main_while0b_v26 V0) : (Proc.devRef .tc main_while0b_v54 : DevRef τ sig).ty.Contents (Elt F)) = Cert.ReferenceIdeal.Step.b64 j s := by
  unfold Cert.ReferenceIdeal.Step.b64
  rw [← al_41 h, ← al_8 h]
  try rfl
set_option maxRecDepth 8192 in
theorem al_65 (h : Holds V0 s j) : (transpose S16x64x128 [0, 2, 1] (Host.dotGeneral dot_S16x64x128_S16x64x64_S16x128x64_1_1_2_2_0_0 none (res_main_while0b_v33 V0) (res_main_while0b_v26 V0)) transposes_S16x128x64_S16x64x128_0_2_1 : (Proc.devRef .tc main_while0b_v55 : DevRef τ sig).ty.Contents (Elt F)) = Cert.ReferenceIdeal.Step.b65 j s := by
  unfold Cert.ReferenceIdeal.Step.b65
  rw [← al_64 h]
  try rfl
set_option maxRecDepth 8192 in
theorem al_66 (h : Holds V0 s j) : (res_main_while0b_v56 V0 : (Proc.devRef .tc main_while0b_v56 : DevRef τ sig).ty.Contents (Elt F)) = Cert.ReferenceIdeal.Step.b66 j s := by
  unfold res_main_while0b_v56 Cert.ReferenceIdeal.Step.b66
  rw [← al_53 h, ← al_65 h]
  try rfl
set_option maxRecDepth 8192 in
theorem al_67 (h : Holds V0 s j) : (Host.dotGeneral dot_S16x64x128_S16x64x128_S16x128x128_1_1_2_2_0_0 none (res_main_while0b_v33 V0) (res_main_while0b_v27 V0) : (Proc.devRef .tc main_while0b_v57 : DevRef τ sig).ty.Contents (Elt F)) = Cert.ReferenceIdeal.Step.b67 j s := by
  unfold Cert.ReferenceIdeal.Step.b67
  rw [← al_41 h, ← al_13 h]
  try rfl
set_option maxRecDepth 8192 in
theorem al_68 (h : Holds V0 s j) : (transpose S16x128x128 [0, 2, 1] (Host.dotGeneral dot_S16x64x128_S16x64x128_S16x128x128_1_1_2_2_0_0 none (res_main_while0b_v33 V0) (res_main_while0b_v27 V0)) transposes_S16x128x128_S16x128x128_0_2_1 : (Proc.devRef .tc main_while0b_v58 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (addf (mulf (broadcastInDim S16x128x128 ![0, 1, 2] bcast_S16x1x1_S16x128x128_0_1_2 (res_main_while0b_v39 V0)) (V0 (Proc.devRef .tc main_v14_9))) (transpose S16x128x128 [0, 2, 1] (Host.dotGeneral dot_S16x64x128_S16x64x128_S16x128x128_1_1_2_2_0_0 none (res_main_while0b_v33 V0) (res_main_while0b_v27 V0)) transposes_S16x128x128_S16x128x128_0_2_1) : (Proc.devRef .tc main_while0b_v59 : DevRef τ sig).ty.Contents (Elt F)) = Cert.ReferenceIdeal.Step.b69 j s := by
  unfold Cert.ReferenceIdeal.Step.b69
  rw [← al_57 h, ← al_68 h]
  try rfl
set_option maxRecDepth 8192 in
theorem al_70 (h : Holds V0 s j) : (Host.negf (res_main_while0b_v56 V0) : (Proc.devRef .tc main_while0b_v60 : DevRef τ sig).ty.Contents (Elt F)) = Cert.ReferenceIdeal.Step.b70 j s := by
  unfold Cert.ReferenceIdeal.Step.b70
  rw [← al_66 h]
  try rfl
set_option maxRecDepth 8192 in
theorem al_71 (h : Holds V0 s j) : (Host.dotGeneral dot_S16x64x128_S16x64x128_S16x128x128_1_1_2_2_0_0 none (Host.negf (res_main_while0b_v56 V0)) (res_main_while0b_v30 V0) : (Proc.devRef .tc main_while0b_v61 : DevRef τ sig).ty.Contents (Elt F)) = Cert.ReferenceIdeal.Step.b71 j s := by
  unfold Cert.ReferenceIdeal.Step.b71
  rw [← al_70 h, ← al_28 h]
  try rfl
set_option maxRecDepth 8192 in
theorem al_72 (h : Holds V0 s j) : (transpose S16x128x128 [0, 2, 1] (Host.dotGeneral dot_S16x64x128_S16x64x128_S16x128x128_1_1_2_2_0_0 none (Host.negf (res_main_while0b_v56 V0)) (res_main_while0b_v30 V0)) transposes_S16x128x128_S16x128x128_0_2_1 : (Proc.devRef .tc main_while0b_v62 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (addf (addf (mulf (broadcastInDim S16x128x128 ![0, 1, 2] bcast_S16x1x1_S16x128x128_0_1_2 (res_main_while0b_v39 V0)) (V0 (Proc.devRef .tc main_v14_9))) (transpose S16x128x128 [0, 2, 1] (Host.dotGeneral dot_S16x64x128_S16x64x128_S16x128x128_1_1_2_2_0_0 none (res_main_while0b_v33 V0) (res_main_while0b_v27 V0)) transposes_S16x128x128_S16x128x128_0_2_1)) (transpose S16x128x128 [0, 2, 1] (Host.dotGeneral dot_S16x64x128_S16x64x128_S16x128x128_1_1_2_2_0_0 none (Host.negf (res_main_while0b_v56 V0)) (res_main_while0b_v30 V0)) transposes_S16x128x128_S16x128x128_0_2_1) : (Proc.devRef .tc main_while0b_v63 : DevRef τ sig).ty.Contents (Elt F)) = Cert.ReferenceIdeal.Step.b73 j s := by
  unfold Cert.ReferenceIdeal.Step.b73
  rw [← al_69 h, ← al_72 h]
  try rfl
set_option maxRecDepth 8192 in
theorem al_74 (h : Holds V0 s j) : (broadcastInDim S1x16x64x128 ![1, 2, 3] bcast_S16x64x128_S1x16x64x128_1_2_3 (res_main_while0b_v56 V0) : (Proc.devRef .tc main_while0b_call8_v0 : DevRef τ sig).ty.Contents (Elt F)) = Cert.ReferenceIdeal.Step.b74 j s := by
  unfold Cert.ReferenceIdeal.Step.b74
  rw [← al_66 h]
  try rfl
set_option maxRecDepth 8192 in
theorem al_75 (h : Holds V0 s j) : (constantI S_ 32 0#32 : (Proc.devRef .tc main_while0b_call8_c : DevRef τ sig).ty.Contents (Elt F)) = Cert.ReferenceIdeal.Step.b75 j s := by
  unfold Cert.ReferenceIdeal.Step.b75
  rfl
set_option maxRecDepth 8192 in
theorem al_76 (h : Holds V0 s j) : (constantI S_ 32 0#32 : (Proc.devRef .tc main_while0b_call8_c_0 : DevRef τ sig).ty.Contents (Elt F)) = Cert.ReferenceIdeal.Step.b76 j s := by
  unfold Cert.ReferenceIdeal.Step.b76
  rfl
set_option maxRecDepth 8192 in
theorem al_77 (h : Holds V0 s j) : (constantI S_ 32 0#32 : (Proc.devRef .tc main_while0b_call8_c_1 : DevRef τ sig).ty.Contents (Elt F)) = Cert.ReferenceIdeal.Step.b77 j s := by
  unfold Cert.ReferenceIdeal.Step.b77
  rfl
set_option maxRecDepth 8192 in
theorem al_78 (h : Holds V0 s j) : (Host.dynamicUpdateSlice (V0 (Proc.devRef .tc main_v14_10)) (broadcastInDim S1x16x64x128 ![1, 2, 3] bcast_S16x64x128_S1x16x64x128_1_2_3 (res_main_while0b_v56 V0)) (fun k => (((![res_main_while0b_v25 V0, constantI S_ 32 0#32, constantI S_ 32 0#32, constantI S_ 32 0#32] : Fin 4 → (⟨S_, .i32⟩ : BufTy).Contents (Elt F))) k (Shape.Idx.first h_S_)).toInt) updateFits_S128x16x64x128_S1x16x64x128 : (Proc.devRef .tc main_while0b_v64 : DevRef τ sig).ty.Contents (Elt F)) = Cert.ReferenceIdeal.Step.b78 j s := by
  unfold Cert.ReferenceIdeal.Step.b78
  rw [← al_74 h, ← al_3 h, ← al_75 h, ← al_76 h, ← al_77 h, h.f_10]
  try rfl
set_option maxRecDepth 8192 in
theorem al_79 (h : Holds V0 s j) : (broadcastInDim S1x16x64x128 ![1, 2, 3] bcast_S16x64x128_S1x16x64x128_1_2_3 (transpose S16x64x128 [0, 2, 1] (Host.dotGeneral dot_S16x128x128_S16x64x128_S16x128x64_2_2_1_1_0_0 none (V0 (Proc.devRef .tc main_v14_9)) (res_main_while0b_v35 V0)) transposes_S16x128x64_S16x64x128_0_2_1) : (Proc.devRef .tc main_while0b_call9_v0 : DevRef τ sig).ty.Contents (Elt F)) = Cert.ReferenceIdeal.Step.b79 j s := by
  unfold Cert.ReferenceIdeal.Step.b79
  rw [← al_55 h]
  try rfl
set_option maxRecDepth 8192 in
theorem al_80 (h : Holds V0 s j) : (constantI S_ 32 0#32 : (Proc.devRef .tc main_while0b_call9_c : DevRef τ sig).ty.Contents (Elt F)) = Cert.ReferenceIdeal.Step.b80 j s := by
  unfold Cert.ReferenceIdeal.Step.b80
  rfl
set_option maxRecDepth 8192 in
theorem al_81 (h : Holds V0 s j) : (constantI S_ 32 0#32 : (Proc.devRef .tc main_while0b_call9_c_0 : DevRef τ sig).ty.Contents (Elt F)) = Cert.ReferenceIdeal.Step.b81 j s := by
  unfold Cert.ReferenceIdeal.Step.b81
  rfl
set_option maxRecDepth 8192 in
theorem al_82 (h : Holds V0 s j) : (constantI S_ 32 0#32 : (Proc.devRef .tc main_while0b_call9_c_1 : DevRef τ sig).ty.Contents (Elt F)) = Cert.ReferenceIdeal.Step.b82 j s := by
  unfold Cert.ReferenceIdeal.Step.b82
  rfl
set_option maxRecDepth 8192 in
theorem al_83 (h : Holds V0 s j) : (Host.dynamicUpdateSlice (V0 (Proc.devRef .tc main_v14_11)) (broadcastInDim S1x16x64x128 ![1, 2, 3] bcast_S16x64x128_S1x16x64x128_1_2_3 (transpose S16x64x128 [0, 2, 1] (Host.dotGeneral dot_S16x128x128_S16x64x128_S16x128x64_2_2_1_1_0_0 none (V0 (Proc.devRef .tc main_v14_9)) (res_main_while0b_v35 V0)) transposes_S16x128x64_S16x64x128_0_2_1)) (fun k => (((![res_main_while0b_v25 V0, constantI S_ 32 0#32, constantI S_ 32 0#32, constantI S_ 32 0#32] : Fin 4 → (⟨S_, .i32⟩ : BufTy).Contents (Elt F))) k (Shape.Idx.first h_S_)).toInt) updateFits_S128x16x64x128_S1x16x64x128 : (Proc.devRef .tc main_while0b_v65 : DevRef τ sig).ty.Contents (Elt F)) = Cert.ReferenceIdeal.Step.b83 j s := by
  unfold Cert.ReferenceIdeal.Step.b83
  rw [← al_79 h, ← al_3 h, ← al_80 h, ← al_81 h, ← al_82 h, h.f_11]
  try rfl
set_option maxRecDepth 8192 in
theorem al_84 (h : Holds V0 s j) : (broadcastInDim S1x16 ![1] bcast_S16_S1x16_1 (Host.reduceAdd (shapeCast S16x1x1 (Host.reduceAdd (mulf (V0 (Proc.devRef .tc main_v14_9)) (res_main_while0b_v32 V0)) (constant S_ .f32 0x00000000#32) reducesTo_S16x128x128_S16_d1_2 h_S_) shapeCasts_S16_S16x1x1) (constant S_ .f32 0x00000000#32) reducesTo_S16x1x1_S16_d1_2 h_S_) : (Proc.devRef .tc main_while0b_call10_v0 : DevRef τ sig).ty.Contents (Elt F)) = Cert.ReferenceIdeal.Step.b84 j s := by
  unfold Cert.ReferenceIdeal.Step.b84
  rw [← al_63 h]
  try rfl
set_option maxRecDepth 8192 in
theorem al_85 (h : Holds V0 s j) : (constantI S_ 32 0#32 : (Proc.devRef .tc main_while0b_call10_c : DevRef τ sig).ty.Contents (Elt F)) = Cert.ReferenceIdeal.Step.b85 j s := by
  unfold Cert.ReferenceIdeal.Step.b85
  rfl
set_option maxRecDepth 8192 in
theorem al_86 (h : Holds V0 s j) : (Host.dynamicUpdateSlice (V0 (Proc.devRef .tc main_v14_12)) (broadcastInDim S1x16 ![1] bcast_S16_S1x16_1 (Host.reduceAdd (shapeCast S16x1x1 (Host.reduceAdd (mulf (V0 (Proc.devRef .tc main_v14_9)) (res_main_while0b_v32 V0)) (constant S_ .f32 0x00000000#32) reducesTo_S16x128x128_S16_d1_2 h_S_) shapeCasts_S16_S16x1x1) (constant S_ .f32 0x00000000#32) reducesTo_S16x1x1_S16_d1_2 h_S_)) (fun k => (((![res_main_while0b_v25 V0, constantI S_ 32 0#32] : Fin 2 → (⟨S_, .i32⟩ : BufTy).Contents (Elt F))) k (Shape.Idx.first h_S_)).toInt) updateFits_S128x16_S1x16 : (Proc.devRef .tc main_while0b_v66 : DevRef τ sig).ty.Contents (Elt F)) = Cert.ReferenceIdeal.Step.b86 j s := by
  unfold Cert.ReferenceIdeal.Step.b86
  rw [← al_84 h, ← al_3 h, ← al_85 h, h.f_12]
  try rfl

/-! One trip's step of the carried values is `step`, field by field; a counter steps to the next number. -/

theorem step_9 (h : Holds V0 s j) : step_main_v14_9 V0 = (step j s).main_v14_9 := by
  unfold step_main_v14_9 Cert.ReferenceIdeal.Step.step
  show id (addf (addf (mulf (broadcastInDim S16x128x128 ![0, 1, 2] bcast_S16x1x1_S16x128x128_0_1_2 (res_main_while0b_v39 V0)) (V0 (Proc.devRef .tc main_v14_9))) (transpose S16x128x128 [0, 2, 1] (Host.dotGeneral dot_S16x64x128_S16x64x128_S16x128x128_1_1_2_2_0_0 none (res_main_while0b_v33 V0) (res_main_while0b_v27 V0)) transposes_S16x128x128_S16x128x128_0_2_1)) (transpose S16x128x128 [0, 2, 1] (Host.dotGeneral dot_S16x64x128_S16x64x128_S16x128x128_1_1_2_2_0_0 none (Host.negf (res_main_while0b_v56 V0)) (res_main_while0b_v30 V0)) transposes_S16x128x128_S16x128x128_0_2_1)) = _
  exact al_73 h
theorem step_10 (h : Holds V0 s j) : step_main_v14_10 V0 = (step j s).main_v14_10 := by
  unfold step_main_v14_10 Cert.ReferenceIdeal.Step.step
  show id (Host.dynamicUpdateSlice (V0 (Proc.devRef .tc main_v14_10)) (broadcastInDim S1x16x64x128 ![1, 2, 3] bcast_S16x64x128_S1x16x64x128_1_2_3 (res_main_while0b_v56 V0)) (fun k => (((![res_main_while0b_v25 V0, constantI S_ 32 0#32, constantI S_ 32 0#32, constantI S_ 32 0#32] : Fin 4 → (⟨S_, .i32⟩ : BufTy).Contents (Elt F))) k (Shape.Idx.first h_S_)).toInt) updateFits_S128x16x64x128_S1x16x64x128) = _
  exact al_78 h
theorem step_11 (h : Holds V0 s j) : step_main_v14_11 V0 = (step j s).main_v14_11 := by
  unfold step_main_v14_11 Cert.ReferenceIdeal.Step.step
  show id (Host.dynamicUpdateSlice (V0 (Proc.devRef .tc main_v14_11)) (broadcastInDim S1x16x64x128 ![1, 2, 3] bcast_S16x64x128_S1x16x64x128_1_2_3 (transpose S16x64x128 [0, 2, 1] (Host.dotGeneral dot_S16x128x128_S16x64x128_S16x128x64_2_2_1_1_0_0 none (V0 (Proc.devRef .tc main_v14_9)) (res_main_while0b_v35 V0)) transposes_S16x128x64_S16x64x128_0_2_1)) (fun k => (((![res_main_while0b_v25 V0, constantI S_ 32 0#32, constantI S_ 32 0#32, constantI S_ 32 0#32] : Fin 4 → (⟨S_, .i32⟩ : BufTy).Contents (Elt F))) k (Shape.Idx.first h_S_)).toInt) updateFits_S128x16x64x128_S1x16x64x128) = _
  exact al_83 h
theorem step_12 (h : Holds V0 s j) : step_main_v14_12 V0 = (step j s).main_v14_12 := by
  unfold step_main_v14_12 Cert.ReferenceIdeal.Step.step
  show id (Host.dynamicUpdateSlice (V0 (Proc.devRef .tc main_v14_12)) (broadcastInDim S1x16 ![1] bcast_S16_S1x16_1 (Host.reduceAdd (shapeCast S16x1x1 (Host.reduceAdd (mulf (V0 (Proc.devRef .tc main_v14_9)) (res_main_while0b_v32 V0)) (constant S_ .f32 0x00000000#32) reducesTo_S16x128x128_S16_d1_2 h_S_) shapeCasts_S16_S16x1x1) (constant S_ .f32 0x00000000#32) reducesTo_S16x1x1_S16_d1_2 h_S_)) (fun k => (((![res_main_while0b_v25 V0, constantI S_ 32 0#32] : Fin 2 → (⟨S_, .i32⟩ : BufTy).Contents (Elt F))) k (Shape.Idx.first h_S_)).toInt) updateFits_S128x16_S1x16) = _
  exact al_86 h
theorem step_8 (h : Holds V0 s j) : step_main_v14_8 V0 = constantI S_ 32 (BitVec.ofNat 32 (j + 1)) := by
  unfold step_main_v14_8
  rw [h.n_8]
  funext i
  show BitVec.ofNat 32 j + 1#32 = BitVec.ofNat 32 (j + 1)
  simp only [BitVec.ofNat_add]

set_option maxRecDepth 8192 in
theorem out_main_v21_holds (h : Holds V0 s j) : out_main_v21 V0 = Cert.ReferenceIdeal.Step.R_main_v21 s := by
  unfold out_main_v21 Cert.ReferenceIdeal.Step.R_main_v21
  rw [h.f_10]
  try rfl

set_option maxRecDepth 8192 in
theorem out_main_v23_holds (h : Holds V0 s j) : out_main_v23 V0 = Cert.ReferenceIdeal.Step.R_main_v23 s := by
  unfold out_main_v23 Cert.ReferenceIdeal.Step.R_main_v23
  rw [h.f_11]
  try rfl

set_option maxRecDepth 8192 in
theorem out_main_v19_holds (h : Holds V0 s j) : out_main_v19 V0 = Cert.ReferenceIdeal.Step.R_main_v19 s := by
  unfold out_main_v19 Cert.ReferenceIdeal.Step.R_main_v19
  rw [h.f_12]
  try rfl

/-- One trip keeps the valuation holding: `step` of the state, the same set-up values, the next number. -/
theorem holds_step (h : Holds V0 s j) : Holds (STEP V0) (step j s) (j + 1) where
  f_9 := (STEP_main_v14_9 V0).trans (step_9 h)
  f_10 := (STEP_main_v14_10 V0).trans (step_10 h)
  f_11 := (STEP_main_v14_11 V0).trans (step_11 h)
  f_12 := (STEP_main_v14_12 V0).trans (step_12 h)
  n_8 := (STEP_main_v14_8 V0).trans (step_8 h)
  f_0 := (STEP_main_v14_0 V0).trans h.f_0
  f_1 := (STEP_main_v14_1 V0).trans h.f_1
  f_2 := (STEP_main_v14_2 V0).trans h.f_2
  f_3 := (STEP_main_v14_3 V0).trans h.f_3
  f_4 := (STEP_main_v14_4 V0).trans h.f_4
  f_5 := (STEP_main_v14_5 V0).trans h.f_5
  f_6 := (STEP_main_v14_6 V0).trans h.f_6
  f_7 := (STEP_main_v14_7 V0).trans h.f_7

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg5)) (m ((c.tc : Thread nD τ).loc main_arg6)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v21) = Cert.ReferenceIdeal.Step.R_main_v21 (it c 128)
      ∧ r.2.mem ((c.tc : Thread nD τ).loc main_v23) = Cert.ReferenceIdeal.Step.R_main_v23 (it c 128)
      ∧ r.2.mem ((c.tc : Thread nD τ).loc main_v19) = Cert.ReferenceIdeal.Step.R_main_v19 (it c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 128
    ⟨(h c).1.trans (out_main_v21_holds hk), (h c).2.1.trans (out_main_v23_holds hk), (h c).2.2.1.trans (out_main_v19_holds hk), (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2⟩) (Value.run m ρ)

end Cert.Proof.RefRun

end
-- ==== Proof.RefValue.lean ====
/-
  The reference's loop after `n` trips, and its three results.
-/
module

public import proofs.«01_k».proof.Proof.RefStep
public import proofs.«01_k».proof.Proof.RefRun
public import proofs.«01_k».proof.Proof.Host

@[expose] public section

set_option maxRecDepth 16384

noncomputable section

open Idealize.ShloMosaic Idealize.ShloMosaic.TcCoe Cert.ReferenceIdeal Cert.ReferenceIdeal.Gen Cert.ReferenceIdeal.Step Cert.Proof.Tile
open scoped BigOperators

namespace Cert.Proof.RefValue

/-! The rows a trip writes. -/

section write
variable (j : ℕ) (hj : j < 128) (s : State Ideal)
include hj

theorem b78_at (y : S128x16x64x128.Idx) : (b78 j s : S128x16x64x128.Idx → EReal) y
    = if (y 0).val = 127 - j then b66 j s (ix3 (y 1) (y 2) (y 3)) else s.main_v14_10 y := by
  have e : (min (max (BitVec.toInt (b3 j s (Shape.Idx.first h_S_))) 0) ((127 : ℕ) : ℤ)).toNat = 127 - j := RefStep.row_eq ⟨j, hj⟩
  unfold b78 b74 Host.dynamicUpdateSlice
  pointwise
  by_cases h : (y 0).val = 127 - j
  · refine (dif_pos ⟨⟨e.le.trans h.ge, lt_of_le_of_lt (h.le.trans e.ge) (Nat.lt_succ_self _)⟩, Nat.zero_le _, Nat.zero_le _, Nat.zero_le _⟩).trans
      ((congrArg (b66 j s) (funext fun a => Fin.ext ?_)).trans (if_pos h).symm)
    match a with
    | ⟨0, _⟩ => exact Nat.sub_zero _
    | ⟨1, _⟩ => exact Nat.sub_zero _
    | ⟨2, _⟩ => exact Nat.sub_zero _
  · refine (dif_neg fun hc => h ?_).trans (if_neg h).symm
    exact le_antisymm ((Nat.le_of_lt_succ hc.1.2).trans e.le) (e.ge.trans hc.1.1)

theorem b83_at (y : S128x16x64x128.Idx) : (b83 j s : S128x16x64x128.Idx → EReal) y
    = if (y 0).val = 127 - j then b55 j s (ix3 (y 1) (y 2) (y 3)) else s.main_v14_11 y := by
  have e : (min (max (BitVec.toInt (b3 j s (Shape.Idx.first h_S_))) 0) ((127 : ℕ) : ℤ)).toNat = 127 - j := RefStep.row_eq ⟨j, hj⟩
  unfold b83 b79 Host.dynamicUpdateSlice
  pointwise
  by_cases h : (y 0).val = 127 - j
  · refine (dif_pos ⟨⟨e.le.trans h.ge, lt_of_le_of_lt (h.le.trans e.ge) (Nat.lt_succ_self _)⟩, Nat.zero_le _, Nat.zero_le _, Nat.zero_le _⟩).trans
      ((congrArg (b55 j s) (funext fun a => Fin.ext ?_)).trans (if_pos h).symm)
    match a with
    | ⟨0, _⟩ => exact Nat.sub_zero _
    | ⟨1, _⟩ => exact Nat.sub_zero _
    | ⟨2, _⟩ => exact Nat.sub_zero _
  · refine (dif_neg fun hc => h ?_).trans (if_neg h).symm
    exact le_antisymm ((Nat.le_of_lt_succ hc.1.2).trans e.le) (e.ge.trans hc.1.1)

theorem b86_at (y : S128x16.Idx) : (b86 j s : S128x16.Idx → EReal) y
    = if (y 0).val = 127 - j then b63 j s (ix1 (y 1)) else s.main_v14_12 y := by
  have e : (min (max (BitVec.toInt (b3 j s (Shape.Idx.first h_S_))) 0) ((127 : ℕ) : ℤ)).toNat = 127 - j := RefStep.row_eq ⟨j, hj⟩
  unfold b86 b84 Host.dynamicUpdateSlice
  pointwise
  by_cases h : (y 0).val = 127 - j
  · refine (dif_pos ⟨⟨e.le.trans h.ge, lt_of_le_of_lt (h.le.trans e.ge) (Nat.lt_succ_self _)⟩, Nat.zero_le _⟩).trans
      ((congrArg (b63 j s) (funext fun a => Fin.ext ?_)).trans (if_pos h).symm)
    match a with
    | ⟨0, _⟩ => exact Nat.sub_zero _
  · refine (dif_neg fun hc => h ?_).trans (if_neg h).symm
    exact le_antisymm ((Nat.le_of_lt_succ hc.1.2).trans e.le) (e.ge.trans hc.1.1)

end write

/-- The state after `n` trips. -/
def iter (i : State Ideal) : ℕ → State Ideal
  | 0 => i
  | n + 1 => step n (iter i n)

/-- What it holds: the state's gradient gone back through `n` chunks, and the last `n` chunks' rows written. -/
structure After (A : Arr) (n : ℕ) (s : State Ideal) : Prop where
  cst : RefStep.Cst s A
  ds : ∀ y, s.main_v14_9 y = A.St n (y 0).val (ix2 (y 1) (y 2))
  du : ∀ y : S128x16x64x128.Idx, 128 ≤ (y 0).val + n →
    s.main_v14_10 y = A.dv (y 0).val (y 1).val (A.St (127 - (y 0).val) (y 1).val) (ix2 (y 2) (y 3))
  dk : ∀ y : S128x16x64x128.Idx, 128 ≤ (y 0).val + n →
    s.main_v14_11 y = A.dk (y 0).val (y 1).val (A.St (127 - (y 0).val) (y 1).val) (ix2 (y 2) (y 3))
  dg : ∀ y : S128x16.Idx, 128 ≤ (y 0).val + n →
    s.main_v14_12 y = A.dg (y 0).val (y 1).val (A.St (127 - (y 0).val) (y 1).val)

theorem after_step {A : Arr} (hA : A.Finite) {n : ℕ} (hn : n < 128) {s : State Ideal} (H : After A n s) : After A (n + 1) (step n s) where
  cst := ⟨H.cst.qk, H.cst.q, H.cst.k, H.cst.u, H.cst.w, H.cst.g, H.cst.st, H.cst.d⟩
  ds y := by
    rw [step_main_v14_9]
    exact RefStep.b73_at n hn s H.cst (A.St n) H.ds hA (fun h i => hA.St n h i) y
  du y hy := by
    rw [step_main_v14_10]
    refine (b78_at n hn s y).trans ?_
    by_cases h : (y 0).val = 127 - n
    · rw [if_pos h, h, show 127 - (127 - n) = n by omega]
      exact RefStep.b66_at n hn s H.cst (A.St n) H.ds _
    · rw [if_neg h]
      exact H.du y (by omega)
  dk y hy := by
    rw [step_main_v14_11]
    refine (b83_at n hn s y).trans ?_
    by_cases h : (y 0).val = 127 - n
    · rw [if_pos h, h, show 127 - (127 - n) = n by omega]
      exact RefStep.b55_at n hn s H.cst (A.St n) H.ds _
    · rw [if_neg h]
      exact H.dk y (by omega)
  dg y hy := by
    rw [step_main_v14_12]
    refine (b86_at n hn s y).trans ?_
    by_cases h : (y 0).val = 127 - n
    · rw [if_pos h, h, show 127 - (127 - n) = n by omega]
      exact RefStep.b63_at n hn s H.cst (A.St n) H.ds _
    · rw [if_neg h]
      exact H.dg y (by omega)

theorem after_iter {A : Arr} (hA : A.Finite) {i : State Ideal} (H : After A 0 i) : ∀ n, n ≤ 128 → After A n (iter i n)
  | 0, _ => H
  | n + 1, hn => after_step hA hn (after_iter hA H n (Nat.le_of_succ_le hn))

/-! The results of the last state. -/

section results
variable {A : Arr} {s : State Ideal} (H : After A 128 s)
include H

theorem du_eq : (R_main_v21 s : S8192x2048.Idx → EReal) = A.du := by
  funext y
  unfold R_main_v21
  pointwise
  refine (H.du _ (Nat.le_add_left _ _)).trans ?_
  unfold Arr.du
  exact (at2_eq _ (Nat.mod_lt _ (by decide)) (Nat.mod_lt _ (by decide))).symm

theorem dk_eq : (R_main_v23 s : S8192x2048.Idx → EReal) = A.dkk := by
  funext y
  unfold R_main_v23
  pointwise
  refine (H.dk _ (Nat.le_add_left _ _)).trans ?_
  unfold Arr.dkk
  exact (at2_eq _ (Nat.mod_lt _ (by decide)) (Nat.mod_lt _ (by decide))).symm

theorem dg_eq : (R_main_v19 s : S64x8x8x128.Idx → EReal) = A.dgg := by
  funext y
  unfold R_main_v19
  pointwise
  unfold Arr.dgg
  by_cases h : (y 2).val < 4
  · refine (dif_pos h).trans ((H.dg _ (Nat.le_add_left _ _)).trans (Eq.trans ?_ (if_pos h).symm))
    show A.dg ((y 0).val * 2 + (y 2).val % 2) ((y 1).val * 2 + (y 2).val / 2)
      (A.St (127 - ((y 0).val * 2 + (y 2).val % 2)) ((y 1).val * 2 + (y 2).val / 2)) = _
    rw [Nat.mul_comm (y 0).val 2, Nat.mul_comm (y 1).val 2]
  · exact (dif_neg h).trans (Host.word_zero.trans (if_neg h).symm)

end results

/-! The run. -/

variable (m : (ℓ : Loc nD τ sig) → Buf (Elt Ideal) ℓ) (c : Dev nD)

/-- The reference's arguments. -/
def arr : Arr where
  qk := m (c.tc.loc main_arg0)
  q := m (c.tc.loc main_arg1)
  k := m (c.tc.loc main_arg2)
  u := m (c.tc.loc main_arg3)
  w := m (c.tc.loc main_arg4)
  g := m (c.tc.loc main_arg5)
  s := m (c.tc.loc main_arg6)
  d := m (c.tc.loc main_arg7)

theorem rows_at (x : S8192x2048.Idx → EReal) (h1 h2) (n h i e : ℕ) (hn : n < 128) (hh : h < 16) (hi : i < 64) (he : e < 128) :
    at4 (transpose (α := Ideal .f32) S128x16x64x128 [0, 2, 1, 3] (shapeCast S128x64x16x128 (s := S8192x2048) x h1) h2 : S128x16x64x128.Idx → EReal) n h i e
      = at2 x (64 * n + i) (128 * h + e) := by
  rw [at4_eq _ hn hh hi he]
  pointwise
  refine Eq.trans ?_ (at2_eq x (show 64 * n + i < 8192 by omega) (show 128 * h + e < 2048 by omega)).symm
  refine congrArg x (funext fun a => Fin.ext ?_)
  match a with
  | ⟨0, _⟩ => exact congrArg (· + i) (Nat.mul_comm n 64)
  | ⟨1, _⟩ => exact congrArg (· + e) (Nat.mul_comm h 128)

theorem after_init : After (arr m c) 0 (RefRun.initState m c) where
  cst := ⟨rfl, fun n h i e => rows_at _ _ _ n h i e, fun n h i e => rows_at _ _ _ n h i e, fun n h i e => rows_at _ _ _ n h i e,
    fun n h i e => rows_at _ _ _ n h i e, rfl, rfl, fun n h i e => rows_at _ _ _ n h i e⟩
  ds y := by
    show (K_main_v0 (F := Ideal) : S16x128x128.Idx → EReal) y = 0
    unfold K_main_v0 K_main_cst
    pointwise
  du y hy := absurd hy (by have : (y 0).val < 128 := (y 0).isLt; omega)
  dk y hy := absurd hy (by have : (y 0).val < 128 := (y 0).isLt; omega)
  dg y hy := absurd hy (by have : (y 0).val < 128 := (y 0).isLt; omega)

/-- Over finite arguments a run of the reference leaves the recurrence's three arrays, and its arguments as they were. -/
theorem run (ρ) (hA : ∀ c, (arr m c).Finite) :
    θ_run (defs (F := Ideal)) (onTc (τ := τ) (main (F := Ideal))) ⟨m, fun _ => 0, ρ⟩ fun r => ∀ c : Dev nD,
      r.2.mem ((c.tc : Thread nD τ).loc main_v21) = (arr m c).du
      ∧ r.2.mem ((c.tc : Thread nD τ).loc main_v23) = (arr m c).dkk
      ∧ r.2.mem ((c.tc : Thread nD τ).loc main_v19) = (arr m c).dgg
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    have H := after_iter (hA c) (after_init m c) 128 le_rfl
    ⟨(h c).1.trans (du_eq H), (h c).2.1.trans (dk_eq H), (h c).2.2.1.trans (dg_eq H), (h c).2.2.2⟩)
    (RefRun.run_iter m ρ (fun c => iter (RefRun.initState m c)) (fun _ => rfl) fun _ _ => rfl)

end Cert.Proof.RefValue

end
-- ==== Proof.Pre.lean ====
/-
  The precondition, read at the real instance: an argument whose absolute value stays at or below the largest finite f32 value at every
  index holds real numbers.
-/
module

public import proofs.«01_k».proof.Defs
public import proofs.«01_k».proof.Proof.Gen.Pre_finite
public import proofs.«01_k».proof.Proof.Gen.KernelIdeal
public import proofs.«01_k».proof.Proof.Host
public import proofs.«01_k».proof.Proof.Real
public import Idealize.ShloMosaic.Lib.ReduceAll
public import Idealize.ShloMosaic.Lib.StableHlo.Predicate

@[expose] public section

set_option maxRecDepth 16384

noncomputable section

open Idealize.ShloMosaic Idealize.ShloMosaic.TcCoe Cert.Pre_finite Cert.Pre_finite.Gen

namespace Cert.Proof.Pre

/-- The largest finite f32 value, as an extended real. -/
theorem top_finite : Re (Ideal.ofBits .f32 0x7F7FFFFF#32) := by
  simp [Ideal.ofBits, Ideal.ieee]
  exact ⟨_, rfl⟩

/-- A value whose absolute value is at most a real number is a real number. -/
theorem re_of_abs {x b : EReal} (hb : Re b) (h : max x (-x) ≤ b) : Re x := by
  obtain ⟨r, rfl⟩ := hb
  induction x with
  | bot => exact absurd (le_trans (le_max_right _ _) h) (by simp)
  | coe y => exact ⟨y, rfl⟩
  | top => exact absurd (le_trans (le_max_left _ _) h) (by simp)

/-- One argument's test, passed, says its values are real. -/
theorem re_of_test {s : Shape} (x : FVec Ideal s .f32) (hb : S_.BroadcastsInDim s (![] : Fin 0 → Fin s.rank)) (axes : List (Fin s.rank))
    (hr : s.ReducesTo axes S_) (j : S_.Idx)
    (e : Host.reduce IntOp.andi (cmpf .ole (Host.absf x) (broadcastInDim s ![] hb (constant (F := Ideal) S_ .f32 0x7F7FFFFF#32)))
      (constantI S_ 1 1#1) hr h_S_ j = 1#1) (i : s.Idx) : Re (x i) := by
  have h := Host.reduce_andi_all _ _ _ _ j e i
  have h' : BitVec.ofBool (decide (max (x i) (-(x i)) ≤ Ideal.ofBits .f32 0x7F7FFFFF#32)) = 1#1 := h
  refine re_of_abs top_finite ?_
  by_contra hc
  rw [decide_eq_false hc] at h'
  exact absurd h' (by decide)

/-- The precondition says the arguments the recurrence multiplies are real. -/
theorem finite (m : (ℓ : Loc Cert.KernelIdeal.nD Cert.KernelIdeal.τ Cert.KernelIdeal.sig) → Buf (Elt Ideal) ℓ)
    (h : Cert.Pre_KernelIdeal_finite m) (c : Dev Cert.KernelIdeal.nD) : (Host.arr m c).Finite := by
  have e := congrFun (h c) ix0
  unfold Cert.Pre_finite.fn Cert.Pre_finite.fn_part1 Cert.Pre_finite.fn_part2 at e
  dsimp only at e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨re_of_test _ _ _ _ _ h0, re_of_test _ _ _ _ _ h1, re_of_test _ _ _ _ _ h2, re_of_test _ _ _ _ _ h4,
    re_of_test _ _ _ _ _ h5, re_of_test _ _ _ _ _ h7⟩

end Cert.Proof.Pre

end
-- ==== Proof.Product.lean ====
/-
  The product of two matrices at `Ideal`, as a function of the index, and the facts of it that the tiled calls share: what a tile
  of it is, the sum over the inner index taken in two halves, and the reads of a whole block.
-/
module

public import Idealize.ShloMosaic.Lib.Pointwise
public import Idealize.ShloMosaic.Lib.Tactic
public import Idealize.ShloMosaic.Lib.Pipeline.ReadBack
public import Idealize.ShloMosaic.Lib.Pipeline.ValueKit

@[expose] public section

set_option maxRecDepth 16384

noncomputable section

open Idealize.ShloMosaic Idealize.ShloMosaic.TcCoe

namespace Cert.Proof.Product

/-- The matrix shape. -/
abbrev Mat (a b : ℕ) : Shape := ⟨2, ![a, b]⟩

/-- The product. -/
def prod {p k n : ℕ} (a : (Mat p k).Idx → EReal) (b : (Mat k n).Idx → EReal) : (Mat p n).Idx → EReal :=
  fun i => ∑ x : Fin k, a (ix2 (i 0) x) * b (ix2 x (i 1))

/-- The product of `a` with `b`'s transpose. -/
def prodT {p k n : ℕ} (a : (Mat p k).Idx → EReal) (b : (Mat n k).Idx → EReal) : (Mat p n).Idx → EReal :=
  fun i => ∑ x : Fin k, a (ix2 (i 0) x) * b (ix2 (i 1) x)

/-- Two entries are equal when the row and the column they are made of are. -/
theorem prod_congr {p k n p' n' : ℕ} {a : (Mat p k).Idx → EReal} {b : (Mat k n).Idx → EReal} {a' : (Mat p' k).Idx → EReal}
    {b' : (Mat k n').Idx → EReal} {y : (Mat p n).Idx} {i : (Mat p' n').Idx} (ha : ∀ x, a (ix2 (y 0) x) = a' (ix2 (i 0) x))
    (hb : ∀ x, b (ix2 x (y 1)) = b' (ix2 x (i 1))) : prod a b y = prod a' b' i :=
  Finset.sum_congr rfl fun x _ => by rw [ha, hb]

/-- The product of `a`'s transpose with `b`. -/
def prodL {p k n : ℕ} (a : (Mat k p).Idx → EReal) (b : (Mat k n).Idx → EReal) : (Mat p n).Idx → EReal :=
  fun i => ∑ x : Fin k, a (ix2 x (i 0)) * b (ix2 x (i 1))

/-- The `n` columns of `x` from column `o`. -/
def cols {a b : ℕ} (o n : ℕ) (h : o + n ≤ b) (x : (Mat a b).Idx → EReal) : (Mat a n).Idx → EReal :=
  fun i => x (ix2 (i 0) ⟨o + (i 1).val, lt_of_lt_of_le (Nat.add_lt_add_left (i 1).isLt o) h⟩)

/-- `x` and `y` side by side. -/
def beside {a b b' n : ℕ} (h : n = b + b') (x : (Mat a b).Idx → EReal) (y : (Mat a b').Idx → EReal) : (Mat a n).Idx → EReal :=
  fun i => if hi : (i 1).val < b then x (ix2 (i 0) ⟨(i 1).val, hi⟩)
    else y (ix2 (i 0) ⟨(i 1).val - b, Nat.sub_lt_left_of_lt_add (Nat.le_of_not_lt hi) (h ▸ (i 1).isLt)⟩)

/-- With the inner index taken in `S` stretches of `h`, the products of the stretches add up to the product. -/
theorem prod_steps {p k n p' n' S h : ℕ} (e : k = S * h) {a : Fin S → (Mat p h).Idx → EReal} {b : Fin S → (Mat h n).Idx → EReal}
    {a' : (Mat p' k).Idx → EReal} {b' : (Mat k n').Idx → EReal} {y : (Mat p n).Idx} {i : (Mat p' n').Idx}
    (ha : ∀ s x, a s (ix2 (y 0) x) = a' (ix2 (i 0) ⟨s.val * h + x.val, Fin.mul_add_lt_of_eq_mul e s x⟩))
    (hb : ∀ s x, b s (ix2 x (y 1)) = b' (ix2 ⟨s.val * h + x.val, Fin.mul_add_lt_of_eq_mul e s x⟩ (i 1))) :
    ∑ s, prod (a s) (b s) y = prod a' b' i := by
  refine (Finset.sum_congr rfl fun s _ => Finset.sum_congr rfl fun x _ => ?_).trans
    (Fin.sum_mul_add_fin S h (fun x => a' (ix2 (i 0) x) * b' (ix2 x (i 1))) e)
  rw [ha, hb]

/-- An accumulator that a run's first stretch sets to its product and each later one adds its product to: at the run's last
    stretch it holds the tile of the whole product, if stretch `t` reads the blocks at row `R (t / J)`, at column `C (t / J)`
    and at inner index `h * (t % J)`. -/
theorem sum_of_stretches {N J p h n k p' n' : ℕ} [NeZero J] (e : k = J * h) (f : (t : ℕ) → t < N → (Mat p n).Idx → EReal)
    (a : Fin N → (Mat p h).Idx → EReal) (b : Fin N → (Mat h n).Idx → EReal) (a' : (Mat p' k).Idx → EReal)
    (b' : (Mat k n').Idx → EReal) (R C : ℕ → ℕ)
    (h0 : ∀ t : Fin N, t.val % J = 0 → ∀ i, f t.val t.isLt i = 0 + prod (a t) (b t) i)
    (hs : ∀ t : Fin N, ¬t.val % J = 0 → ∀ i,
      f t.val t.isLt i = f (t.val - 1) (Nat.lt_of_le_of_lt (Nat.sub_le _ _) t.isLt) i + prod (a t) (b t) i)
    (ha : ∀ (t : Fin N) (u : Fin p) (x : Fin h) (r : Fin p') (l : Fin k), r.val = R (t.val / J) + u.val →
      l.val = h * (t.val % J) + x.val → a t (ix2 u x) = a' (ix2 r l))
    (hb : ∀ (t : Fin N) (x : Fin h) (u : Fin n) (l : Fin k) (r : Fin n'), l.val = h * (t.val % J) + x.val →
      r.val = C (t.val / J) + u.val → b t (ix2 x u) = b' (ix2 l r))
    (t : Fin N) (ht : t.val % J = J - 1) (y : (Mat p n).Idx) (i : (Mat p' n').Idx) (hr : (i 0).val = R (t.val / J) + (y 0).val)
    (hc : (i 1).val = C (t.val / J) + (y 1).val) : f t.val t.isLt y = prod a' b' i := by
  have q : ∀ s : Fin J, (J * (t.val / J) + s.val) / J = t.val / J := fun s => by
    rw [Nat.mul_add_div (NeZero.pos J), Nat.div_eq_of_lt s.isLt, Nat.add_zero]
  have w : ∀ s : Fin J, (J * (t.val / J) + s.val) % J = s.val := fun s => by
    rw [Nat.mul_add_mod, Nat.mod_eq_of_lt s.isLt]
  rw [Pipeline.eq_sum_fin_of_reset_step_apply_of_flush f J (fun _ => 0) (fun t => prod (a t) (b t)) h0 hs t ht y, zero_add]
  refine prod_steps e (fun s x => ha _ _ _ _ _ ?_ ?_) fun s x => hb _ _ _ _ _ ?_ ?_ <;> dsimp only <;> simp only [q, w]
  · exact hr
  · rw [mul_comm]
  · rw [mul_comm]
  · exact hc

end Cert.Proof.Product

end
-- ==== Proof.DRec.lean ====
/-
  The gradient of a projection's input, `d = dy · wᵀ`: the kernel's tiles, each the product of a stretch of rows with a stretch of
  `w`'s rows, and the reference's product.
-/
module

public import proofs.«01_k».proof.Defs
public import proofs.«01_k».proof.Proof.Product
public import proofs.«01_k».proof.Proof.Gen.DRecIdeal.Value
public import proofs.«01_k».proof.Proof.Gen.DRecRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Product
open scoped BigOperators

namespace Cert.Proof.DRec

open Cert.DRecIdeal Cert.DRecIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem tile (a : S512x1024.Idx → EReal) (b : S1024x1280.Idx → EReal) : out0_2 (F := Ideal) a b = prod a b := by
  frame_out
  funext j
  unfold k0_pay1 prod
  pointwise

theorem final : (dats m 0 c).arrAt 2 cfg0.N = prod (V m c main_arg0) (V m c main_v1) := by
  refine (dats m 0 c).arrAt_eq_of_covers 2 _ (by decide +kernel) fun t hf y => ?_
  have ht : t.val < 16 := lt_of_lt_of_eq t.isLt N_0
  have y0 : (y 0).val < 512 := (y 0).isLt
  blk_simp
  rw [after0_2, tile]
  refine (prod_congr (i := ix2 ⟨512 * t.val + (y 0).val, by omega⟩ (y 1)) (fun x => ?_)
    fun x => ?_).trans (congrArg (prod (V m c main_arg0) (V m c main_v1)) (by blk_ext [idx t])).symm
  · blk_ext [iblk, idx t]
  · blk_ext [iblk, idx t]

theorem weight (j) : (V m c main_v1 : S1024x1280.Idx → EReal) j = (m ((c : Thread nD τ).loc main_arg1) : S1280x1024.Idx → EReal) (ix2 (j 1) (j 0)) := by
  unfold V; after_reads_at

theorem value : (dats m 0 c).arrAt 2 cfg0.N = prodT (m ((c : Thread nD τ).loc main_arg0)) (m ((c : Thread nD τ).loc main_arg1)) :=
  (final m c).trans (funext fun i => Finset.sum_congr rfl fun x _ =>
    congr (congrArg HMul.hMul (congrFun (V_main_arg0 m c) _)) (weight m c _))

theorem frame_reference : Cert.quiescent_DRecRefIdeal := fun m ρ _ =>
  (θ_run _ _ _).mono (fun r h => ⟨fun c => (h c).2, sem_eq_zero_of_no_sems (by decide) r.2⟩) (Cert.DRecRefIdeal.Value.run (F := Ideal) m ρ)

theorem algebraic : Cert.algebraic_DRecIdeal_DRecRefIdeal := by
  intro m ρ m' ρ' _ hag
  refine ⟨fun c => prodT (m ((c.tc : Thread _ _).loc main_arg0)) (m ((c.tc : Thread _ _).loc main_arg1)),
    (θ_run _ _ _).mono (fun r h c => ⟨(h c).1.trans (value m c), (h c).2⟩) (Value.run_blocks m ρ),
    (θ_run _ _ _).mono (fun r h c => ⟨(h c).1.trans ?_, (h c).2⟩) (Cert.DRecRefIdeal.Value.run (F := Ideal) m' ρ')⟩
  refine Eq.trans ?_ (congr (congrArg prodT (hag c).1) (hag c).2)
  funext i
  unfold prodT
  pointwise

end Cert.Proof.DRec

end
-- ==== Proof.DAct.lean ====
/-
  The gradient of a projection's input, `d = dy · wᵀ`: the kernel's tiles, each the product of a stretch of rows with a stretch of
  `w`'s rows, and the reference's product.
-/
module

public import proofs.«01_k».proof.Defs
public import proofs.«01_k».proof.Proof.Product
public import proofs.«01_k».proof.Proof.Gen.DActIdeal.Value
public import proofs.«01_k».proof.Proof.Gen.DActRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Product
open scoped BigOperators

namespace Cert.Proof.DAct

open Cert.DActIdeal Cert.DActIdeal.Gen

variable (m : (ℓ : Loc nD τ sig) → Buf (Elt Ideal) ℓ) (c : Dev nD)

theorem idx : ∀ t : Fin cfg0.N, win0_0.index t = ![t.val / 2, 0] ∧ win0_1.index t = ![0, t.val % 2] ∧ win0_2.index t = ![t.val / 2, t.val % 2] :=
  (by decide +kernel : ∀ t : Fin grid0.N, win0_0.index t = ![t.val / 2, 0] ∧ win0_1.index t = ![0, t.val % 2] ∧ win0_2.index t = ![t.val / 2, t.val % 2])

theorem tile (a : S512x1024.Idx → EReal) (b : S1024x1408.Idx → EReal) : out0_2 (F := Ideal) a b = prod a b := by
  frame_out
  funext j
  unfold k0_pay1 prod
  pointwise

theorem final : (dats m 0 c).arrAt 2 cfg0.N = prod (V m c main_arg0) (V m c main_v1) := by
  refine (dats m 0 c).arrAt_eq_of_covers 2 _ (by decide +kernel) fun t hf y => ?_
  have ht : t.val < 32 := lt_of_lt_of_eq t.isLt N_0
  have y0 : (y 0).val < 512 := (y 0).isLt
  have y1 : (y 1).val < 1408 := (y 1).isLt
  blk_simp
  rw [after0_2, tile]
  refine (prod_congr (i := ix2 ⟨512 * (t.val / 2) + (y 0).val, by omega⟩ ⟨1408 * (t.val % 2) + (y 1).val, by omega⟩) (fun x => ?_)
    fun x => ?_).trans (congrArg (prod (V m c main_arg0) (V m c main_v1)) (by blk_ext [idx t])).symm
  · blk_ext [iblk, idx t]
  · blk_ext [iblk, idx t]

theorem weight (j) : (V m c main_v1 : S1024x2816.Idx → EReal) j = (m ((c : Thread nD τ).loc main_arg1) : S2816x1024.Idx → EReal) (ix2 (j 1) (j 0)) := by
  unfold V; after_reads_at

theorem value : (dats m 0 c).arrAt 2 cfg0.N = prodT (m ((c : Thread nD τ).loc main_arg0)) (m ((c : Thread nD τ).loc main_arg1)) :=
  (final m c).trans (funext fun i => Finset.sum_congr rfl fun x _ =>
    congr (congrArg HMul.hMul (congrFun (V_main_arg0 m c) _)) (weight m c _))

theorem frame_reference : Cert.quiescent_DActRefIdeal := fun m ρ _ =>
  (θ_run _ _ _).mono (fun r h => ⟨fun c => (h c).2, sem_eq_zero_of_no_sems (by decide) r.2⟩) (Cert.DActRefIdeal.Value.run (F := Ideal) m ρ)

theorem algebraic : Cert.algebraic_DActIdeal_DActRefIdeal := by
  intro m ρ m' ρ' _ hag
  refine ⟨fun c => prodT (m ((c.tc : Thread _ _).loc main_arg0)) (m ((c.tc : Thread _ _).loc main_arg1)),
    (θ_run _ _ _).mono (fun r h c => ⟨(h c).1.trans (value m c), (h c).2⟩) (Value.run_blocks m ρ),
    (θ_run _ _ _).mono (fun r h c => ⟨(h c).1.trans ?_, (h c).2⟩) (Cert.DActRefIdeal.Value.run (F := Ideal) m' ρ')⟩
  refine Eq.trans ?_ (congr (congrArg prodT (hag c).1) (hag c).2)
  funext i
  unfold prodT
  pointwise

end Cert.Proof.DAct

end
-- ==== Proof.GPa.lean ====
/-
  The gradient of a projection's weight, `aᵀ · d`: the kernel's tiles, each the sum over 2 stretches of rows that an accumulator
  holds, and the reference's product.
-/
module

public import proofs.«01_k».proof.Defs
public import proofs.«01_k».proof.Proof.Product
public import proofs.«01_k».proof.Proof.Gen.GPaIdeal.Value
public import proofs.«01_k».proof.Proof.Gen.GPaRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Product
open scoped BigOperators

namespace Cert.Proof.GPa

open Cert.GPaIdeal Cert.GPaIdeal.Gen

variable (m : (ℓ : Loc nD τ sig) → Buf (Elt Ideal) ℓ) (c : Dev nD)

theorem idx : ∀ t : Fin cfg0.N, win0_0.index t = ![t.val / 2, t.val % 2] ∧ win0_1.index t = ![t.val % 2, 0] ∧ win0_2.index t = ![t.val / 2, 0] :=
  (by decide +kernel : ∀ t : Fin grid0.N, win0_0.index t = ![t.val / 2, t.val % 2] ∧ win0_1.index t = ![t.val % 2, 0] ∧ win0_2.index t = ![t.val / 2, 0])

theorem read_a (t : Fin cfg0.N) (u : Fin 256) (x : Fin 4096) (r : Fin 1280) (l : Fin 8192) (hr : r.val = 256 * (t.val / 2) + u.val)
    (hl : l.val = 4096 * (t.val % 2) + x.val) : (iblk m c 0 t : S256x4096.Idx → EReal) (ix2 u x) = (V m c main_v0 : S1280x8192.Idx → EReal) (ix2 r l) := by
  blk_ext [iblk, idx t]

theorem read_b (t : Fin cfg0.N) (x : Fin 4096) (u : Fin 1024) (l : Fin 8192) (r : Fin 1024) (hl : l.val = 4096 * (t.val % 2) + x.val)
    (hr : r.val = 0 + u.val) : (iblk m c 1 t : S4096x1024.Idx → EReal) (ix2 x u) = (V m c main_arg1 : S8192x1024.Idx → EReal) (ix2 l r) := by
  blk_ext [iblk, idx t]

theorem pay1 (j) : (k0_pay1 (F := Ideal) : S256x1024.Idx → EReal) j = 0 := by
  unfold k0_pay1; pointwise

theorem pay2 (z : S256x1024.Idx → EReal) (a : S256x4096.Idx → EReal) (b : S4096x1024.Idx → EReal) (j) :
    (k0_pay2 (F := Ideal) z a b : S256x1024.Idx → EReal) j = z j + prod a b j := by
  unfold k0_pay2 prod; pointwise

theorem final : (dats m 0 c).arrAt 2 cfg0.N = prod (V m c main_v0) (V m c main_arg1) := by
  refine (dats m 0 c).arrAt_eq_of_covers 2 _ (by decide +kernel) fun t hf y => ?_
  have ht : t.val < 10 := lt_of_lt_of_eq t.isLt N_0
  have y0 : (y 0).val < 256 := (y 0).isLt
  have h1 := (flush0_2 t).mp hf
  have h : (outsAt0 m c t.val t.isLt).1 = (outsAt0 m c t.val t.isLt).2 := by
    rw [outsAt0_B m c t (by omega) h1]; frame_out
  blk_simp
  rw [after0_2, h, sum_of_stretches rfl (fun n h => ((outsAt0 m c n h).2 : S256x1024.Idx → EReal)) _ _ _ _ (256 * ·) (fun _ => 0)
    (fun t h j => by rw [outsAt0_A m c t h (by omega)]; frame_out; rw [pay2, pay1])
    (fun t h j => by
      rw [outsAt0_B m c t h (by omega)]; frame_out; rw [pay2]
      exact congrArg (· + _) (congrFun (Memref.IsWhole.read_unread _ _) j))
    (read_a m c) (read_b m c) t h1 y (ix2 ⟨256 * (t.val / 2) + (y 0).val, by omega⟩ (y 1)) rfl (zero_add _).symm]
  exact (congrArg (prod (V m c main_v0) (V m c main_arg1)) (by blk_ext [idx t])).symm

theorem input (j) : (V m c main_v0 : S1280x8192.Idx → EReal) j = (m ((c : Thread nD τ).loc main_arg0) : S8192x1280.Idx → EReal) (ix2 (j 1) (j 0)) := by
  unfold V; after_reads_at

theorem value : (dats m 0 c).arrAt 2 cfg0.N = prodL (m ((c : Thread nD τ).loc main_arg0)) (m ((c : Thread nD τ).loc main_arg1)) :=
  (final m c).trans (funext fun i => Finset.sum_congr rfl fun x _ =>
    congr (congrArg HMul.hMul (input m c _)) (congrFun (V_main_arg1 m c) _))

theorem frame_reference : Cert.quiescent_GPaRefIdeal := fun m ρ _ =>
  (θ_run _ _ _).mono (fun r h => ⟨fun c => (h c).2, sem_eq_zero_of_no_sems (by decide) r.2⟩) (Cert.GPaRefIdeal.Value.run (F := Ideal) m ρ)

theorem algebraic : Cert.algebraic_GPaIdeal_GPaRefIdeal := by
  intro m ρ m' ρ' _ hag
  refine ⟨fun c => prodL (m ((c.tc : Thread _ _).loc main_arg0)) (m ((c.tc : Thread _ _).loc main_arg1)),
    (θ_run _ _ _).mono (fun r h c => ⟨(h c).1.trans (value m c), (h c).2⟩) (Value.run_blocks m ρ),
    (θ_run _ _ _).mono (fun r h c => ⟨(h c).1.trans ?_, (h c).2⟩) (Cert.GPaRefIdeal.Value.run (F := Ideal) m' ρ')⟩
  refine Eq.trans ?_ (congr (congrArg prodL (hag c).1) (hag c).2)
  funext i
  unfold prodL
  pointwise
  exact Finset.sum_congr rfl fun x _ => mul_comm _ _

end Cert.Proof.GPa

end
-- ==== Proof.GPb.lean ====
/-
  The gradient of a projection's weight, `aᵀ · d`: the kernel's tiles, each the sum over 2 stretches of rows that an accumulator
  holds, and the reference's product.
-/
module

public import proofs.«01_k».proof.Defs
public import proofs.«01_k».proof.Proof.Product
public import proofs.«01_k».proof.Proof.Gen.GPbIdeal.Value
public import proofs.«01_k».proof.Proof.Gen.GPbRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Product
open scoped BigOperators

namespace Cert.Proof.GPb

open Cert.GPbIdeal Cert.GPbIdeal.Gen

variable (m : (ℓ : Loc nD τ sig) → Buf (Elt Ideal) ℓ) (c : Dev nD)

theorem idx : ∀ t : Fin cfg0.N, win0_0.index t = ![t.val / 2, t.val % 2] ∧ win0_1.index t = ![t.val % 2, 0] ∧ win0_2.index t = ![t.val / 2, 0] :=
  (by decide +kernel : ∀ t : Fin grid0.N, win0_0.index t = ![t.val / 2, t.val % 2] ∧ win0_1.index t = ![t.val % 2, 0] ∧ win0_2.index t = ![t.val / 2, 0])

theorem read_a (t : Fin cfg0.N) (u : Fin 512) (x : Fin 4096) (r : Fin 2048) (l : Fin 8192) (hr : r.val = 512 * (t.val / 2) + u.val)
    (hl : l.val = 4096 * (t.val % 2) + x.val) : (iblk m c 0 t : S512x4096.Idx → EReal) (ix2 u x) = (V m c main_v0 : S2048x8192.Idx → EReal) (ix2 r l) := by
  blk_ext [iblk, idx t]

theorem read_b (t : Fin cfg0.N) (x : Fin 4096) (u : Fin 1024) (l : Fin 8192) (r : Fin 1024) (hl : l.val = 4096 * (t.val % 2) + x.val)
    (hr : r.val = 0 + u.val) : (iblk m c 1 t : S4096x1024.Idx → EReal) (ix2 x u) = (V m c main_arg1 : S8192x1024.Idx → EReal) (ix2 l r) := by
  blk_ext [iblk, idx t]

theorem pay1 (j) : (k0_pay1 (F := Ideal) : S512x1024.Idx → EReal) j = 0 := by
  unfold k0_pay1; pointwise

theorem pay2 (z : S512x1024.Idx → EReal) (a : S512x4096.Idx → EReal) (b : S4096x1024.Idx → EReal) (j) :
    (k0_pay2 (F := Ideal) z a b : S512x1024.Idx → EReal) j = z j + prod a b j := by
  unfold k0_pay2 prod; pointwise

theorem final : (dats m 0 c).arrAt 2 cfg0.N = prod (V m c main_v0) (V m c main_arg1) := by
  refine (dats m 0 c).arrAt_eq_of_covers 2 _ (by decide +kernel) fun t hf y => ?_
  have ht : t.val < 8 := lt_of_lt_of_eq t.isLt N_0
  have y0 : (y 0).val < 512 := (y 0).isLt
  have h1 := (flush0_2 t).mp hf
  have h : (outsAt0 m c t.val t.isLt).1 = (outsAt0 m c t.val t.isLt).2 := by
    rw [outsAt0_B m c t (by omega) h1]; frame_out
  blk_simp
  rw [after0_2, h, sum_of_stretches rfl (fun n h => ((outsAt0 m c n h).2 : S512x1024.Idx → EReal)) _ _ _ _ (512 * ·) (fun _ => 0)
    (fun t h j => by rw [outsAt0_A m c t h (by omega)]; frame_out; rw [pay2, pay1])
    (fun t h j => by
      rw [outsAt0_B m c t h (by omega)]; frame_out; rw [pay2]
      exact congrArg (· + _) (congrFun (Memref.IsWhole.read_unread _ _) j))
    (read_a m c) (read_b m c) t h1 y (ix2 ⟨512 * (t.val / 2) + (y 0).val, by omega⟩ (y 1)) rfl (zero_add _).symm]
  exact (congrArg (prod (V m c main_v0) (V m c main_arg1)) (by blk_ext [idx t])).symm

theorem input (j) : (V m c main_v0 : S2048x8192.Idx → EReal) j = (m ((c : Thread nD τ).loc main_arg0) : S8192x2048.Idx → EReal) (ix2 (j 1) (j 0)) := by
  unfold V; after_reads_at

theorem value : (dats m 0 c).arrAt 2 cfg0.N = prodL (m ((c : Thread nD τ).loc main_arg0)) (m ((c : Thread nD τ).loc main_arg1)) :=
  (final m c).trans (funext fun i => Finset.sum_congr rfl fun x _ =>
    congr (congrArg HMul.hMul (input m c _)) (congrFun (V_main_arg1 m c) _))

theorem frame_reference : Cert.quiescent_GPbRefIdeal := fun m ρ _ =>
  (θ_run _ _ _).mono (fun r h => ⟨fun c => (h c).2, sem_eq_zero_of_no_sems (by decide) r.2⟩) (Cert.GPbRefIdeal.Value.run (F := Ideal) m ρ)

theorem algebraic : Cert.algebraic_GPbIdeal_GPbRefIdeal := by
  intro m ρ m' ρ' _ hag
  refine ⟨fun c => prodL (m ((c.tc : Thread _ _).loc main_arg0)) (m ((c.tc : Thread _ _).loc main_arg1)),
    (θ_run _ _ _).mono (fun r h c => ⟨(h c).1.trans (value m c), (h c).2⟩) (Value.run_blocks m ρ),
    (θ_run _ _ _).mono (fun r h c => ⟨(h c).1.trans ?_, (h c).2⟩) (Cert.GPbRefIdeal.Value.run (F := Ideal) m' ρ')⟩
  refine Eq.trans ?_ (congr (congrArg prodL (hag c).1) (hag c).2)
  funext i
  unfold prodL
  pointwise
  exact Finset.sum_congr rfl fun x _ => mul_comm _ _

end Cert.Proof.GPb

end
-- ==== Proof.GOut.lean ====
/-
  The gradient of a projection's weight, `aᵀ · d`: the kernel's tiles, each the sum over 2 stretches of rows that an accumulator
  holds, and the reference's product.
-/
module

public import proofs.«01_k».proof.Defs
public import proofs.«01_k».proof.Proof.Product
public import proofs.«01_k».proof.Proof.Gen.GOutIdeal.Value
public import proofs.«01_k».proof.Proof.Gen.GOutRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Product
open scoped BigOperators

namespace Cert.Proof.GOut

open Cert.GOutIdeal Cert.GOutIdeal.Gen

variable (m : (ℓ : Loc nD τ sig) → Buf (Elt Ideal) ℓ) (c : Dev nD)

theorem idx : ∀ t : Fin cfg0.N, win0_0.index t = ![t.val / 2, t.val % 2] ∧ win0_1.index t = ![t.val % 2, 0] ∧ win0_2.index t = ![t.val / 2, 0] :=
  (by decide +kernel : ∀ t : Fin grid0.N, win0_0.index t = ![t.val / 2, t.val % 2] ∧ win0_1.index t = ![t.val % 2, 0] ∧ win0_2.index t = ![t.val / 2, 0])

theorem read_a (t : Fin cfg0.N) (u : Fin 512) (x : Fin 4096) (r : Fin 1024) (l : Fin 8192) (hr : r.val = 512 * (t.val / 2) + u.val)
    (hl : l.val = 4096 * (t.val % 2) + x.val) : (iblk m c 0 t : S512x4096.Idx → EReal) (ix2 u x) = (V m c main_v0 : S1024x8192.Idx → EReal) (ix2 r l) := by
  blk_ext [iblk, idx t]

theorem read_b (t : Fin cfg0.N) (x : Fin 4096) (u : Fin 1024) (l : Fin 8192) (r : Fin 1024) (hl : l.val = 4096 * (t.val % 2) + x.val)
    (hr : r.val = 0 + u.val) : (iblk m c 1 t : S4096x1024.Idx → EReal) (ix2 x u) = (V m c main_arg1 : S8192x1024.Idx → EReal) (ix2 l r) := by
  blk_ext [iblk, idx t]

theorem pay1 (j) : (k0_pay1 (F := Ideal) : S512x1024.Idx → EReal) j = 0 := by
  unfold k0_pay1; pointwise

theorem pay2 (z : S512x1024.Idx → EReal) (a : S512x4096.Idx → EReal) (b : S4096x1024.Idx → EReal) (j) :
    (k0_pay2 (F := Ideal) z a b : S512x1024.Idx → EReal) j = z j + prod a b j := by
  unfold k0_pay2 prod; pointwise

theorem final : (dats m 0 c).arrAt 2 cfg0.N = prod (V m c main_v0) (V m c main_arg1) := by
  refine (dats m 0 c).arrAt_eq_of_covers 2 _ (by decide +kernel) fun t hf y => ?_
  have ht : t.val < 4 := lt_of_lt_of_eq t.isLt N_0
  have y0 : (y 0).val < 512 := (y 0).isLt
  have h1 := (flush0_2 t).mp hf
  have h : (outsAt0 m c t.val t.isLt).1 = (outsAt0 m c t.val t.isLt).2 := by
    rw [outsAt0_B m c t (by omega) h1]; frame_out
  blk_simp
  rw [after0_2, h, sum_of_stretches rfl (fun n h => ((outsAt0 m c n h).2 : S512x1024.Idx → EReal)) _ _ _ _ (512 * ·) (fun _ => 0)
    (fun t h j => by rw [outsAt0_A m c t h (by omega)]; frame_out; rw [pay2, pay1])
    (fun t h j => by
      rw [outsAt0_B m c t h (by omega)]; frame_out; rw [pay2]
      exact congrArg (· + _) (congrFun (Memref.IsWhole.read_unread _ _) j))
    (read_a m c) (read_b m c) t h1 y (ix2 ⟨512 * (t.val / 2) + (y 0).val, by omega⟩ (y 1)) rfl (zero_add _).symm]
  exact (congrArg (prod (V m c main_v0) (V m c main_arg1)) (by blk_ext [idx t])).symm

theorem input (j) : (V m c main_v0 : S1024x8192.Idx → EReal) j = (m ((c : Thread nD τ).loc main_arg0) : S8192x1024.Idx → EReal) (ix2 (j 1) (j 0)) := by
  unfold V; after_reads_at

theorem value : (dats m 0 c).arrAt 2 cfg0.N = prodL (m ((c : Thread nD τ).loc main_arg0)) (m ((c : Thread nD τ).loc main_arg1)) :=
  (final m c).trans (funext fun i => Finset.sum_congr rfl fun x _ =>
    congr (congrArg HMul.hMul (input m c _)) (congrFun (V_main_arg1 m c) _))

theorem frame_reference : Cert.quiescent_GOutRefIdeal := fun m ρ _ =>
  (θ_run _ _ _).mono (fun r h => ⟨fun c => (h c).2, sem_eq_zero_of_no_sems (by decide) r.2⟩) (Cert.GOutRefIdeal.Value.run (F := Ideal) m ρ)

theorem algebraic : Cert.algebraic_GOutIdeal_GOutRefIdeal := by
  intro m ρ m' ρ' _ hag
  refine ⟨fun c => prodL (m ((c.tc : Thread _ _).loc main_arg0)) (m ((c.tc : Thread _ _).loc main_arg1)),
    (θ_run _ _ _).mono (fun r h c => ⟨(h c).1.trans (value m c), (h c).2⟩) (Value.run_blocks m ρ),
    (θ_run _ _ _).mono (fun r h c => ⟨(h c).1.trans ?_, (h c).2⟩) (Cert.GOutRefIdeal.Value.run (F := Ideal) m' ρ')⟩
  refine Eq.trans ?_ (congr (congrArg prodL (hag c).1) (hag c).2)
  funext i
  unfold prodL
  pointwise
  exact Finset.sum_congr rfl fun x _ => mul_comm _ _

end Cert.Proof.GOut

end
-- ==== Proof.GDown.lean ====
/-
  The gradient of a projection's weight, `aᵀ · d`: the kernel's tiles, each the sum over 2 stretches of rows that an accumulator
  holds, and the reference's product.
-/
module

public import proofs.«01_k».proof.Defs
public import proofs.«01_k».proof.Proof.Product
public import proofs.«01_k».proof.Proof.Gen.GDownIdeal.Value
public import proofs.«01_k».proof.Proof.Gen.GDownRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Product
open scoped BigOperators

namespace Cert.Proof.GDown

open Cert.GDownIdeal Cert.GDownIdeal.Gen

variable (m : (ℓ : Loc nD τ sig) → Buf (Elt Ideal) ℓ) (c : Dev nD)

theorem idx : ∀ t : Fin cfg0.N, win0_0.index t = ![t.val / 2, t.val % 2] ∧ win0_1.index t = ![t.val % 2, 0] ∧ win0_2.index t = ![t.val / 2, 0] :=
  (by decide +kernel : ∀ t : Fin grid0.N, win0_0.index t = ![t.val / 2, t.val % 2] ∧ win0_1.index t = ![t.val % 2, 0] ∧ win0_2.index t = ![t.val / 2, 0])

theorem read_a (t : Fin cfg0.N) (u : Fin 256) (x : Fin 4096) (r : Fin 2816) (l : Fin 8192) (hr : r.val = 256 * (t.val / 2) + u.val)
    (hl : l.val = 4096 * (t.val % 2) + x.val) : (iblk m c 0 t : S256x4096.Idx → EReal) (ix2 u x) = (V m c main_v0 : S2816x8192.Idx → EReal) (ix2 r l) := by
  blk_ext [iblk, idx t]

theorem read_b (t : Fin cfg0.N) (x : Fin 4096) (u : Fin 1024) (l : Fin 8192) (r : Fin 1024) (hl : l.val = 4096 * (t.val % 2) + x.val)
    (hr : r.val = 0 + u.val) : (iblk m c 1 t : S4096x1024.Idx → EReal) (ix2 x u) = (V m c main_arg1 : S8192x1024.Idx → EReal) (ix2 l r) := by
  blk_ext [iblk, idx t]

theorem pay1 (j) : (k0_pay1 (F := Ideal) : S256x1024.Idx → EReal) j = 0 := by
  unfold k0_pay1; pointwise

theorem pay2 (z : S256x1024.Idx → EReal) (a : S256x4096.Idx → EReal) (b : S4096x1024.Idx → EReal) (j) :
    (k0_pay2 (F := Ideal) z a b : S256x1024.Idx → EReal) j = z j + prod a b j := by
  unfold k0_pay2 prod; pointwise

theorem final : (dats m 0 c).arrAt 2 cfg0.N = prod (V m c main_v0) (V m c main_arg1) := by
  refine (dats m 0 c).arrAt_eq_of_covers 2 _ (by decide +kernel) fun t hf y => ?_
  have ht : t.val < 22 := lt_of_lt_of_eq t.isLt N_0
  have y0 : (y 0).val < 256 := (y 0).isLt
  have h1 := (flush0_2 t).mp hf
  have h : (outsAt0 m c t.val t.isLt).1 = (outsAt0 m c t.val t.isLt).2 := by
    rw [outsAt0_B m c t (by omega) h1]; frame_out
  blk_simp
  rw [after0_2, h, sum_of_stretches rfl (fun n h => ((outsAt0 m c n h).2 : S256x1024.Idx → EReal)) _ _ _ _ (256 * ·) (fun _ => 0)
    (fun t h j => by rw [outsAt0_A m c t h (by omega)]; frame_out; rw [pay2, pay1])
    (fun t h j => by
      rw [outsAt0_B m c t h (by omega)]; frame_out; rw [pay2]
      exact congrArg (· + _) (congrFun (Memref.IsWhole.read_unread _ _) j))
    (read_a m c) (read_b m c) t h1 y (ix2 ⟨256 * (t.val / 2) + (y 0).val, by omega⟩ (y 1)) rfl (zero_add _).symm]
  exact (congrArg (prod (V m c main_v0) (V m c main_arg1)) (by blk_ext [idx t])).symm

theorem input (j) : (V m c main_v0 : S2816x8192.Idx → EReal) j = (m ((c : Thread nD τ).loc main_arg0) : S8192x2816.Idx → EReal) (ix2 (j 1) (j 0)) := by
  unfold V; after_reads_at

theorem value : (dats m 0 c).arrAt 2 cfg0.N = prodL (m ((c : Thread nD τ).loc main_arg0)) (m ((c : Thread nD τ).loc main_arg1)) :=
  (final m c).trans (funext fun i => Finset.sum_congr rfl fun x _ =>
    congr (congrArg HMul.hMul (input m c _)) (congrFun (V_main_arg1 m c) _))

theorem frame_reference : Cert.quiescent_GDownRefIdeal := fun m ρ _ =>
  (θ_run _ _ _).mono (fun r h => ⟨fun c => (h c).2, sem_eq_zero_of_no_sems (by decide) r.2⟩) (Cert.GDownRefIdeal.Value.run (F := Ideal) m ρ)

theorem algebraic : Cert.algebraic_GDownIdeal_GDownRefIdeal := by
  intro m ρ m' ρ' _ hag
  refine ⟨fun c => prodL (m ((c.tc : Thread _ _).loc main_arg0)) (m ((c.tc : Thread _ _).loc main_arg1)),
    (θ_run _ _ _).mono (fun r h c => ⟨(h c).1.trans (value m c), (h c).2⟩) (Value.run_blocks m ρ),
    (θ_run _ _ _).mono (fun r h c => ⟨(h c).1.trans ?_, (h c).2⟩) (Cert.GDownRefIdeal.Value.run (F := Ideal) m' ρ')⟩
  refine Eq.trans ?_ (congr (congrArg prodL (hag c).1) (hag c).2)
  funext i
  unfold prodL
  pointwise
  exact Finset.sum_congr rfl fun x _ => mul_comm _ _

end Cert.Proof.GDown

end
-- ==== Proof.GGu.lean ====
/-
  The gradient of a projection's weight, `aᵀ · d`: the kernel's tiles, each the sum over 4 stretches of rows that an accumulator
  holds, and the reference's product.
-/
module

public import proofs.«01_k».proof.Defs
public import proofs.«01_k».proof.Proof.Product
public import proofs.«01_k».proof.Proof.Gen.GGuIdeal.Value
public import proofs.«01_k».proof.Proof.Gen.GGuRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Product
open scoped BigOperators

namespace Cert.Proof.GGu

open Cert.GGuIdeal Cert.GGuIdeal.Gen

variable (m : (ℓ : Loc nD τ sig) → Buf (Elt Ideal) ℓ) (c : Dev nD)

theorem idx : ∀ t : Fin cfg0.N, win0_0.index t = ![t.val / 16, t.val % 4] ∧ win0_1.index t = ![t.val % 4, t.val / 4 % 4] ∧ win0_2.index t = ![t.val / 16, t.val / 4 % 4] :=
  (by decide +kernel : ∀ t : Fin grid0.N, win0_0.index t = ![t.val / 16, t.val % 4] ∧ win0_1.index t = ![t.val % 4, t.val / 4 % 4] ∧ win0_2.index t = ![t.val / 16, t.val / 4 % 4])

theorem read_a (t : Fin cfg0.N) (u : Fin 512) (x : Fin 2048) (r : Fin 1024) (l : Fin 8192) (hr : r.val = 512 * (t.val / 4 / 4) + u.val)
    (hl : l.val = 2048 * (t.val % 4) + x.val) : (iblk m c 0 t : S512x2048.Idx → EReal) (ix2 u x) = (V m c main_v0 : S1024x8192.Idx → EReal) (ix2 r l) := by
  blk_ext [iblk, idx t]

theorem read_b (t : Fin cfg0.N) (x : Fin 2048) (u : Fin 1408) (l : Fin 8192) (r : Fin 5632) (hl : l.val = 2048 * (t.val % 4) + x.val)
    (hr : r.val = 1408 * (t.val / 4 % 4) + u.val) : (iblk m c 1 t : S2048x1408.Idx → EReal) (ix2 x u) = (V m c main_arg1 : S8192x5632.Idx → EReal) (ix2 l r) := by
  blk_ext [iblk, idx t]

theorem pay1 (j) : (k0_pay1 (F := Ideal) : S512x1408.Idx → EReal) j = 0 := by
  unfold k0_pay1; pointwise

theorem pay2 (z : S512x1408.Idx → EReal) (a : S512x2048.Idx → EReal) (b : S2048x1408.Idx → EReal) (j) :
    (k0_pay2 (F := Ideal) z a b : S512x1408.Idx → EReal) j = z j + prod a b j := by
  unfold k0_pay2 prod; pointwise

theorem final : (dats m 0 c).arrAt 2 cfg0.N = prod (V m c main_v0) (V m c main_arg1) := by
  refine (dats m 0 c).arrAt_eq_of_covers 2 _ (by decide +kernel) fun t hf y => ?_
  have ht : t.val < 32 := lt_of_lt_of_eq t.isLt N_0
  have y0 : (y 0).val < 512 := (y 0).isLt
  have y1 : (y 1).val < 1408 := (y 1).isLt
  have h1 := (flush0_2 t).mp hf
  have h : (outsAt0 m c t.val t.isLt).1 = (outsAt0 m c t.val t.isLt).2 := by
    rw [outsAt0_C m c t (by omega) h1]; frame_out
  blk_simp
  rw [after0_2, h, sum_of_stretches rfl (fun n h => ((outsAt0 m c n h).2 : S512x1408.Idx → EReal)) _ _ _ _ (fun q => 512 * (q / 4)) (fun q => 1408 * (q % 4))
    (fun t h j => by rw [outsAt0_A m c t h (by omega)]; frame_out; rw [pay2, pay1])
    (fun t h j => by
      by_cases h3 : t.val % 4 = 3
      · rw [outsAt0_C m c t h h3]; frame_out; rw [pay2]
        exact congrArg (· + _) (congrFun (Memref.IsWhole.read_unread _ _) j)
      · rw [outsAt0_B m c t h h3]; frame_out; rw [pay2]
        exact congrArg (· + _) (congrFun (Memref.IsWhole.read_unread _ _) j))
    (read_a m c) (read_b m c) t h1 y (ix2 ⟨512 * (t.val / 4 / 4) + (y 0).val, by omega⟩ ⟨1408 * (t.val / 4 % 4) + (y 1).val, by omega⟩) rfl rfl]
  exact (congrArg (prod (V m c main_v0) (V m c main_arg1)) (by blk_ext [idx t])).symm

theorem input (j) : (V m c main_v0 : S1024x8192.Idx → EReal) j = (m ((c : Thread nD τ).loc main_arg0) : S8192x1024.Idx → EReal) (ix2 (j 1) (j 0)) := by
  unfold V; after_reads_at

theorem value : (dats m 0 c).arrAt 2 cfg0.N = prodL (m ((c : Thread nD τ).loc main_arg0)) (m ((c : Thread nD τ).loc main_arg1)) :=
  (final m c).trans (funext fun i => Finset.sum_congr rfl fun x _ =>
    congr (congrArg HMul.hMul (input m c _)) (congrFun (V_main_arg1 m c) _))

theorem frame_reference : Cert.quiescent_GGuRefIdeal := fun m ρ _ =>
  (θ_run _ _ _).mono (fun r h => ⟨fun c => (h c).2, sem_eq_zero_of_no_sems (by decide) r.2⟩) (Cert.GGuRefIdeal.Value.run (F := Ideal) m ρ)

theorem algebraic : Cert.algebraic_GGuIdeal_GGuRefIdeal := by
  intro m ρ m' ρ' _ hag
  refine ⟨fun c => prodL (m ((c.tc : Thread _ _).loc main_arg0)) (m ((c.tc : Thread _ _).loc main_arg1)),
    (θ_run _ _ _).mono (fun r h c => ⟨(h c).1.trans (value m c), (h c).2⟩) (Value.run_blocks m ρ),
    (θ_run _ _ _).mono (fun r h c => ⟨(h c).1.trans ?_, (h c).2⟩) (Cert.GGuRefIdeal.Value.run (F := Ideal) m' ρ')⟩
  refine Eq.trans ?_ (congr (congrArg prodL (hag c).1) (hag c).2)
  funext i
  unfold prodL
  pointwise
  exact Finset.sum_congr rfl fun x _ => mul_comm _ _

end Cert.Proof.GGu

end
-- ==== Proof.GInTop.lean ====
/-
  The upper half of the rows of the input projections' weight gradient, `aᵀ · d`: the kernel's tiles, each the sum over 2 stretches of rows that an accumulator
  holds, and the reference's product.
-/
module

public import proofs.«01_k».proof.Defs
public import proofs.«01_k».proof.Proof.Product
public import proofs.«01_k».proof.Proof.Gen.GInTopIdeal.Value
public import proofs.«01_k».proof.Proof.Gen.GInTopRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Product
open scoped BigOperators

namespace Cert.Proof.GInTop

open Cert.GInTopIdeal Cert.GInTopIdeal.Gen

variable (m : (ℓ : Loc nD τ sig) → Buf (Elt Ideal) ℓ) (c : Dev nD)

theorem idx : ∀ t : Fin cfg0.N, win0_0.index t = ![0, t.val % 2] ∧ win0_1.index t = ![t.val % 2, t.val / 2] ∧ win0_2.index t = ![0, t.val / 2] :=
  (by decide +kernel : ∀ t : Fin grid0.N, win0_0.index t = ![0, t.val % 2] ∧ win0_1.index t = ![t.val % 2, t.val / 2] ∧ win0_2.index t = ![0, t.val / 2])

theorem read_a (t : Fin cfg0.N) (u : Fin 512) (x : Fin 4096) (r : Fin 512) (l : Fin 8192) (hr : r.val = 0 + u.val)
    (hl : l.val = 4096 * (t.val % 2) + x.val) : (iblk m c 0 t : S512x4096.Idx → EReal) (ix2 u x) = (V m c main_v1 : S512x8192.Idx → EReal) (ix2 r l) := by
  blk_ext [iblk, idx t]

theorem read_b (t : Fin cfg0.N) (x : Fin 4096) (u : Fin 640) (l : Fin 8192) (r : Fin 10880) (hl : l.val = 4096 * (t.val % 2) + x.val)
    (hr : r.val = 640 * (t.val / 2) + u.val) : (iblk m c 1 t : S4096x640.Idx → EReal) (ix2 x u) = (V m c main_arg1 : S8192x10880.Idx → EReal) (ix2 l r) := by
  blk_ext [iblk, idx t]

theorem pay1 (j) : (k0_pay1 (F := Ideal) : S512x640.Idx → EReal) j = 0 := by
  unfold k0_pay1; pointwise

theorem pay2 (z : S512x640.Idx → EReal) (a : S512x4096.Idx → EReal) (b : S4096x640.Idx → EReal) (j) :
    (k0_pay2 (F := Ideal) z a b : S512x640.Idx → EReal) j = z j + prod a b j := by
  unfold k0_pay2 prod; pointwise

theorem final : (dats m 0 c).arrAt 2 cfg0.N = prod (V m c main_v1) (V m c main_arg1) := by
  refine (dats m 0 c).arrAt_eq_of_covers 2 _ (by decide +kernel) fun t hf y => ?_
  have ht : t.val < 34 := lt_of_lt_of_eq t.isLt N_0
  have y1 : (y 1).val < 640 := (y 1).isLt
  have h1 := (flush0_2 t).mp hf
  have h : (outsAt0 m c t.val t.isLt).1 = (outsAt0 m c t.val t.isLt).2 := by
    rw [outsAt0_B m c t (by omega) h1]; frame_out
  blk_simp
  rw [after0_2, h, sum_of_stretches rfl (fun n h => ((outsAt0 m c n h).2 : S512x640.Idx → EReal)) _ _ _ _ (fun _ => 0) (640 * ·)
    (fun t h j => by rw [outsAt0_A m c t h (by omega)]; frame_out; rw [pay2, pay1])
    (fun t h j => by
      rw [outsAt0_B m c t h (by omega)]; frame_out; rw [pay2]
      exact congrArg (· + _) (congrFun (Memref.IsWhole.read_unread _ _) j))
    (read_a m c) (read_b m c) t h1 y (ix2 (y 0) ⟨640 * (t.val / 2) + (y 1).val, by omega⟩) (zero_add _).symm rfl]
  exact (congrArg (prod (V m c main_v1) (V m c main_arg1)) (by blk_ext [idx t])).symm

theorem input (j) : (V m c main_v1 : S512x8192.Idx → EReal) j
    = cols (a := 8192) (b := 1024) 0 512 (by decide) (m ((c : Thread nD τ).loc main_arg0)) (ix2 (j 1) (j 0)) := by
  unfold V cols; after_reads_at

theorem value : (dats m 0 c).arrAt 2 cfg0.N
    = prodL (cols (a := 8192) (b := 1024) 0 512 (by decide) (m ((c : Thread nD τ).loc main_arg0))) (m ((c : Thread nD τ).loc main_arg1)) :=
  (final m c).trans (funext fun i => Finset.sum_congr rfl fun x _ =>
    congr (congrArg HMul.hMul (input m c _)) (congrFun (V_main_arg1 m c) _))

theorem frame_reference : Cert.quiescent_GInTopRefIdeal := fun m ρ _ =>
  (θ_run _ _ _).mono (fun r h => ⟨fun c => (h c).2, sem_eq_zero_of_no_sems (by decide) r.2⟩) (Cert.GInTopRefIdeal.Value.run (F := Ideal) m ρ)

theorem algebraic : Cert.algebraic_GInTopIdeal_GInTopRefIdeal := by
  intro m ρ m' ρ' _ hag
  refine ⟨fun c => prodL (cols (a := 8192) (b := 1024) 0 512 (by decide) (m ((c.tc : Thread _ _).loc main_arg0))) (m ((c.tc : Thread _ _).loc main_arg1)),
    (θ_run _ _ _).mono (fun r h c => ⟨(h c).1.trans (value m c), (h c).2⟩) (Value.run_blocks m ρ),
    (θ_run _ _ _).mono (fun r h c => ⟨(h c).1.trans ?_, (h c).2⟩) (Cert.GInTopRefIdeal.Value.run (F := Ideal) m' ρ')⟩
  refine Eq.trans ?_ (congr (congrArg (prodL ∘ cols (a := 8192) (b := 1024) 0 512 (by decide)) (hag c).1) (hag c).2)
  funext i
  unfold Function.comp prodL cols
  pointwise
  exact Finset.sum_congr rfl fun x _ => mul_comm _ _

end Cert.Proof.GInTop

end
-- ==== Proof.GInBot.lean ====
/-
  The lower half of the rows of the input projections' weight gradient, `aᵀ · d`: the kernel's tiles, each the sum over 2 stretches of rows that an accumulator
  holds, and the reference's product.
-/
module

public import proofs.«01_k».proof.Defs
public import proofs.«01_k».proof.Proof.Product
public import proofs.«01_k».proof.Proof.Gen.GInBotIdeal.Value
public import proofs.«01_k».proof.Proof.Gen.GInBotRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Product
open scoped BigOperators

namespace Cert.Proof.GInBot

open Cert.GInBotIdeal Cert.GInBotIdeal.Gen

variable (m : (ℓ : Loc nD τ sig) → Buf (Elt Ideal) ℓ) (c : Dev nD)

theorem idx : ∀ t : Fin cfg0.N, win0_0.index t = ![0, t.val % 2] ∧ win0_1.index t = ![t.val % 2, t.val / 2] ∧ win0_2.index t = ![0, t.val / 2] :=
  (by decide +kernel : ∀ t : Fin grid0.N, win0_0.index t = ![0, t.val % 2] ∧ win0_1.index t = ![t.val % 2, t.val / 2] ∧ win0_2.index t = ![0, t.val / 2])

theorem read_a (t : Fin cfg0.N) (u : Fin 512) (x : Fin 4096) (r : Fin 512) (l : Fin 8192) (hr : r.val = 0 + u.val)
    (hl : l.val = 4096 * (t.val % 2) + x.val) : (iblk m c 0 t : S512x4096.Idx → EReal) (ix2 u x) = (V m c main_v1 : S512x8192.Idx → EReal) (ix2 r l) := by
  blk_ext [iblk, idx t]

theorem read_b (t : Fin cfg0.N) (x : Fin 4096) (u : Fin 640) (l : Fin 8192) (r : Fin 10880) (hl : l.val = 4096 * (t.val % 2) + x.val)
    (hr : r.val = 640 * (t.val / 2) + u.val) : (iblk m c 1 t : S4096x640.Idx → EReal) (ix2 x u) = (V m c main_arg1 : S8192x10880.Idx → EReal) (ix2 l r) := by
  blk_ext [iblk, idx t]

theorem pay1 (j) : (k0_pay1 (F := Ideal) : S512x640.Idx → EReal) j = 0 := by
  unfold k0_pay1; pointwise

theorem pay2 (z : S512x640.Idx → EReal) (a : S512x4096.Idx → EReal) (b : S4096x640.Idx → EReal) (j) :
    (k0_pay2 (F := Ideal) z a b : S512x640.Idx → EReal) j = z j + prod a b j := by
  unfold k0_pay2 prod; pointwise

theorem final : (dats m 0 c).arrAt 2 cfg0.N = prod (V m c main_v1) (V m c main_arg1) := by
  refine (dats m 0 c).arrAt_eq_of_covers 2 _ (by decide +kernel) fun t hf y => ?_
  have ht : t.val < 34 := lt_of_lt_of_eq t.isLt N_0
  have y1 : (y 1).val < 640 := (y 1).isLt
  have h1 := (flush0_2 t).mp hf
  have h : (outsAt0 m c t.val t.isLt).1 = (outsAt0 m c t.val t.isLt).2 := by
    rw [outsAt0_B m c t (by omega) h1]; frame_out
  blk_simp
  rw [after0_2, h, sum_of_stretches rfl (fun n h => ((outsAt0 m c n h).2 : S512x640.Idx → EReal)) _ _ _ _ (fun _ => 0) (640 * ·)
    (fun t h j => by rw [outsAt0_A m c t h (by omega)]; frame_out; rw [pay2, pay1])
    (fun t h j => by
      rw [outsAt0_B m c t h (by omega)]; frame_out; rw [pay2]
      exact congrArg (· + _) (congrFun (Memref.IsWhole.read_unread _ _) j))
    (read_a m c) (read_b m c) t h1 y (ix2 (y 0) ⟨640 * (t.val / 2) + (y 1).val, by omega⟩) (zero_add _).symm rfl]
  exact (congrArg (prod (V m c main_v1) (V m c main_arg1)) (by blk_ext [idx t])).symm

theorem input (j) : (V m c main_v1 : S512x8192.Idx → EReal) j
    = cols (a := 8192) (b := 1024) 512 512 (by decide) (m ((c : Thread nD τ).loc main_arg0)) (ix2 (j 1) (j 0)) := by
  unfold V cols; after_reads_at

theorem value : (dats m 0 c).arrAt 2 cfg0.N
    = prodL (cols (a := 8192) (b := 1024) 512 512 (by decide) (m ((c : Thread nD τ).loc main_arg0))) (m ((c : Thread nD τ).loc main_arg1)) :=
  (final m c).trans (funext fun i => Finset.sum_congr rfl fun x _ =>
    congr (congrArg HMul.hMul (input m c _)) (congrFun (V_main_arg1 m c) _))

theorem frame_reference : Cert.quiescent_GInBotRefIdeal := fun m ρ _ =>
  (θ_run _ _ _).mono (fun r h => ⟨fun c => (h c).2, sem_eq_zero_of_no_sems (by decide) r.2⟩) (Cert.GInBotRefIdeal.Value.run (F := Ideal) m ρ)

theorem algebraic : Cert.algebraic_GInBotIdeal_GInBotRefIdeal := by
  intro m ρ m' ρ' _ hag
  refine ⟨fun c => prodL (cols (a := 8192) (b := 1024) 512 512 (by decide) (m ((c.tc : Thread _ _).loc main_arg0))) (m ((c.tc : Thread _ _).loc main_arg1)),
    (θ_run _ _ _).mono (fun r h c => ⟨(h c).1.trans (value m c), (h c).2⟩) (Value.run_blocks m ρ),
    (θ_run _ _ _).mono (fun r h c => ⟨(h c).1.trans ?_, (h c).2⟩) (Cert.GInBotRefIdeal.Value.run (F := Ideal) m' ρ')⟩
  refine Eq.trans ?_ (congr (congrArg (prodL ∘ cols (a := 8192) (b := 1024) 512 512 (by decide)) (hag c).1) (hag c).2)
  funext i
  unfold Function.comp prodL cols
  pointwise
  exact Finset.sum_congr rfl fun x _ => mul_comm _ _

end Cert.Proof.GInBot

end
-- ==== Proof.ProjA.lean ====
/-
  A projection, `y = x · w`: the kernel's tiles, each the product of a stretch of rows with a stretch of columns, and the
  reference's product.
-/
module

public import proofs.«01_k».proof.Defs
public import proofs.«01_k».proof.Proof.Product
public import proofs.«01_k».proof.Proof.Gen.ProjAIdeal.Value
public import proofs.«01_k».proof.Proof.Gen.ProjARefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Product
open scoped BigOperators

namespace Cert.Proof.ProjA

open Cert.ProjAIdeal Cert.ProjAIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem tile (a : S512x1280.Idx → EReal) (b : S1280x1024.Idx → EReal) : out0_2 (F := Ideal) a b = prod a b := by
  frame_out
  funext j
  unfold k0_pay1 prod
  pointwise

theorem final : (dats m 0 c).arrAt 2 cfg0.N = prod (V m c main_arg0) (V m c main_v0) := by
  refine (dats m 0 c).arrAt_eq_of_covers 2 _ (by decide +kernel) fun t hf y => ?_
  have ht : t.val < 16 := lt_of_lt_of_eq t.isLt N_0
  have y0 : (y 0).val < 512 := (y 0).isLt
  blk_simp
  rw [after0_2, tile]
  refine (prod_congr (i := ix2 ⟨512 * t.val + (y 0).val, by omega⟩ (y 1)) (fun x => ?_)
    fun x => ?_).trans (congrArg (prod (V m c main_arg0) (V m c main_v0)) (by blk_ext [idx t])).symm
  · blk_ext [iblk, idx t]
  · blk_ext [iblk, idx t]

theorem weight (j) : (V m c main_v0 : S1280x1024.Idx → EReal) j = (m ((c : Thread nD τ).loc main_arg1) : S1280x1024.Idx → EReal) j := by
  unfold V; after_reads_at

theorem value : (dats m 0 c).arrAt 2 cfg0.N = prod (m ((c : Thread nD τ).loc main_arg0)) (m ((c : Thread nD τ).loc main_arg1)) :=
  (final m c).trans (funext fun i => Finset.sum_congr rfl fun x _ =>
    congr (congrArg HMul.hMul (congrFun (V_main_arg0 m c) _)) (weight m c _))

theorem frame_reference : Cert.quiescent_ProjARefIdeal := fun m ρ _ =>
  (θ_run _ _ _).mono (fun r h => ⟨fun c => (h c).2, sem_eq_zero_of_no_sems (by decide) r.2⟩) (Cert.ProjARefIdeal.Value.run (F := Ideal) m ρ)

theorem algebraic : Cert.algebraic_ProjAIdeal_ProjARefIdeal := by
  intro m ρ m' ρ' _ hag
  refine ⟨fun c => prod (m ((c.tc : Thread _ _).loc main_arg0)) (m ((c.tc : Thread _ _).loc main_arg1)),
    (θ_run _ _ _).mono (fun r h c => ⟨(h c).1.trans (value m c), (h c).2⟩) (Value.run_blocks m ρ),
    (θ_run _ _ _).mono (fun r h c => ⟨(h c).1.trans ?_, (h c).2⟩) (Cert.ProjARefIdeal.Value.run (F := Ideal) m' ρ')⟩
  refine Eq.trans ?_ (congr (congrArg prod (hag c).1) (hag c).2)
  funext i
  unfold prod
  pointwise

end Cert.Proof.ProjA

end
-- ==== Proof.ProjB.lean ====
/-
  A projection, `y = x · w`: the kernel's tiles, each the product of a stretch of rows with a stretch of columns, and the
  reference's product.
-/
module

public import proofs.«01_k».proof.Defs
public import proofs.«01_k».proof.Proof.Product
public import proofs.«01_k».proof.Proof.Gen.ProjBIdeal.Value
public import proofs.«01_k».proof.Proof.Gen.ProjBRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Product
open scoped BigOperators

namespace Cert.Proof.ProjB

open Cert.ProjBIdeal Cert.ProjBIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem tile (a : S512x2048.Idx → EReal) (b : S2048x1024.Idx → EReal) : out0_2 (F := Ideal) a b = prod a b := by
  frame_out
  funext j
  unfold k0_pay1 prod
  pointwise

theorem final : (dats m 0 c).arrAt 2 cfg0.N = prod (V m c main_arg0) (V m c main_v0) := by
  refine (dats m 0 c).arrAt_eq_of_covers 2 _ (by decide +kernel) fun t hf y => ?_
  have ht : t.val < 16 := lt_of_lt_of_eq t.isLt N_0
  have y0 : (y 0).val < 512 := (y 0).isLt
  blk_simp
  rw [after0_2, tile]
  refine (prod_congr (i := ix2 ⟨512 * t.val + (y 0).val, by omega⟩ (y 1)) (fun x => ?_)
    fun x => ?_).trans (congrArg (prod (V m c main_arg0) (V m c main_v0)) (by blk_ext [idx t])).symm
  · blk_ext [iblk, idx t]
  · blk_ext [iblk, idx t]

theorem weight (j) : (V m c main_v0 : S2048x1024.Idx → EReal) j = (m ((c : Thread nD τ).loc main_arg1) : S2048x1024.Idx → EReal) j := by
  unfold V; after_reads_at

theorem value : (dats m 0 c).arrAt 2 cfg0.N = prod (m ((c : Thread nD τ).loc main_arg0)) (m ((c : Thread nD τ).loc main_arg1)) :=
  (final m c).trans (funext fun i => Finset.sum_congr rfl fun x _ =>
    congr (congrArg HMul.hMul (congrFun (V_main_arg0 m c) _)) (weight m c _))

theorem frame_reference : Cert.quiescent_ProjBRefIdeal := fun m ρ _ =>
  (θ_run _ _ _).mono (fun r h => ⟨fun c => (h c).2, sem_eq_zero_of_no_sems (by decide) r.2⟩) (Cert.ProjBRefIdeal.Value.run (F := Ideal) m ρ)

theorem algebraic : Cert.algebraic_ProjBIdeal_ProjBRefIdeal := by
  intro m ρ m' ρ' _ hag
  refine ⟨fun c => prod (m ((c.tc : Thread _ _).loc main_arg0)) (m ((c.tc : Thread _ _).loc main_arg1)),
    (θ_run _ _ _).mono (fun r h c => ⟨(h c).1.trans (value m c), (h c).2⟩) (Value.run_blocks m ρ),
    (θ_run _ _ _).mono (fun r h c => ⟨(h c).1.trans ?_, (h c).2⟩) (Cert.ProjBRefIdeal.Value.run (F := Ideal) m' ρ')⟩
  refine Eq.trans ?_ (congr (congrArg prod (hag c).1) (hag c).2)
  funext i
  unfold prod
  pointwise

end Cert.Proof.ProjB

end
-- ==== Proof.FfnGu.lean ====
/-
  The gated network's two first projections in one product, `x · [w₁ w₂]`: the kernel's tiles, each the product of a stretch of rows with a stretch of columns, and the
  reference's product.
-/
module

public import proofs.«01_k».proof.Defs
public import proofs.«01_k».proof.Proof.Product
public import proofs.«01_k».proof.Proof.Gen.FfnGuIdeal.Value
public import proofs.«01_k».proof.Proof.Gen.FfnGuRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Product
open scoped BigOperators

namespace Cert.Proof.FfnGu

open Cert.FfnGuIdeal Cert.FfnGuIdeal.Gen

variable (m : (ℓ : Loc nD τ sig) → Buf (Elt Ideal) ℓ) (c : Dev nD)

theorem idx : ∀ t : Fin cfg0.N, win0_0.index t = ![t.val / 4, 0] ∧ win0_1.index t = ![0, t.val % 4] ∧ win0_2.index t = ![t.val / 4, t.val % 4] :=
  (by decide +kernel : ∀ t : Fin grid0.N, win0_0.index t = ![t.val / 4, 0] ∧ win0_1.index t = ![0, t.val % 4] ∧ win0_2.index t = ![t.val / 4, t.val % 4])

theorem tile (a : S512x1024.Idx → EReal) (b : S1024x1408.Idx → EReal) : out0_2 (F := Ideal) a b = prod a b := by
  frame_out
  funext j
  unfold k0_pay1 prod
  pointwise

theorem final : (dats m 0 c).arrAt 2 cfg0.N = prod (V m c main_arg0) (V m c main_v1) := by
  refine (dats m 0 c).arrAt_eq_of_covers 2 _ (by decide +kernel) fun t hf y => ?_
  have ht : t.val < 64 := lt_of_lt_of_eq t.isLt N_0
  have y0 : (y 0).val < 512 := (y 0).isLt
  have y1 : (y 1).val < 1408 := (y 1).isLt
  blk_simp
  rw [after0_2, tile]
  refine (prod_congr (i := ix2 ⟨512 * (t.val / 4) + (y 0).val, by omega⟩ ⟨1408 * (t.val % 4) + (y 1).val, by omega⟩) (fun x => ?_)
    fun x => ?_).trans (congrArg (prod (V m c main_arg0) (V m c main_v1)) (by blk_ext [idx t])).symm
  · blk_ext [iblk, idx t]
  · blk_ext [iblk, idx t]

theorem weight (j) : (V m c main_v1 : S1024x5632.Idx → EReal) j = beside (a := 1024) (b := 2816) (b' := 2816) rfl
    (m ((c : Thread nD τ).loc main_arg1)) (m ((c : Thread nD τ).loc main_arg2)) j := by
  unfold V beside
  after_reads_at
  rfl

theorem value : (dats m 0 c).arrAt 2 cfg0.N = prod (m ((c : Thread nD τ).loc main_arg0)) (beside (a := 1024) (b := 2816) (b' := 2816) rfl
    (m ((c : Thread nD τ).loc main_arg1)) (m ((c : Thread nD τ).loc main_arg2))) :=
  (final m c).trans (funext fun i => Finset.sum_congr rfl fun x _ =>
    congr (congrArg HMul.hMul (congrFun (V_main_arg0 m c) _)) (weight m c _))

theorem frame_reference : Cert.quiescent_FfnGuRefIdeal := fun m ρ _ =>
  (θ_run _ _ _).mono (fun r h => ⟨fun c => (h c).2, sem_eq_zero_of_no_sems (by decide) r.2⟩) (Cert.FfnGuRefIdeal.Value.run (F := Ideal) m ρ)

theorem algebraic : Cert.algebraic_FfnGuIdeal_FfnGuRefIdeal := by
  intro m ρ m' ρ' _ hag
  refine ⟨fun c => prod (m ((c.tc : Thread _ _).loc main_arg0)) (beside (a := 1024) (b := 2816) (b' := 2816) rfl
      (m ((c.tc : Thread _ _).loc main_arg1)) (m ((c.tc : Thread _ _).loc main_arg2))),
    (θ_run _ _ _).mono (fun r h c => ⟨(h c).1.trans (value m c), (h c).2⟩) (Value.run_blocks m ρ),
    (θ_run _ _ _).mono (fun r h c => ⟨(h c).1.trans ?_, (h c).2⟩) (Cert.FfnGuRefIdeal.Value.run (F := Ideal) m' ρ')⟩
  refine Eq.trans ?_ (congr (congrArg prod (hag c).1) (congr (congrArg (beside (a := 1024) rfl) (hag c).2.1) (hag c).2.2))
  funext i
  unfold prod beside
  pointwise
  split_ifs <;> rfl

end Cert.Proof.FfnGu

end
-- ==== Proof.ProjQkv.lean ====
/-
  A projection by a stretch of the columns of `w`, `y = x · w`: the kernel's tiles, each the product of a stretch of rows with a stretch of columns, and the
  reference's product.
-/
module

public import proofs.«01_k».proof.Defs
public import proofs.«01_k».proof.Proof.Product
public import proofs.«01_k».proof.Proof.Gen.ProjQkvIdeal.Value
public import proofs.«01_k».proof.Proof.Gen.ProjQkvRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Product
open scoped BigOperators

namespace Cert.Proof.ProjQkv

open Cert.ProjQkvIdeal Cert.ProjQkvIdeal.Gen

variable (m : (ℓ : Loc nD τ sig) → Buf (Elt Ideal) ℓ) (c : Dev nD)

theorem idx : ∀ t : Fin cfg0.N, win0_0.index t = ![t.val / 4, 0] ∧ win0_1.index t = ![0, t.val % 4] ∧ win0_2.index t = ![t.val / 4, t.val % 4] :=
  (by decide +kernel : ∀ t : Fin grid0.N, win0_0.index t = ![t.val / 4, 0] ∧ win0_1.index t = ![0, t.val % 4] ∧ win0_2.index t = ![t.val / 4, t.val % 4])

theorem tile (a : S512x1024.Idx → EReal) (b : S1024x1024.Idx → EReal) : out0_2 (F := Ideal) a b = prod a b := by
  frame_out
  funext j
  unfold k0_pay1 prod
  pointwise

theorem final : (dats m 0 c).arrAt 2 cfg0.N = prod (V m c main_arg0) (V m c main_v8) := by
  refine (dats m 0 c).arrAt_eq_of_covers 2 _ (by decide +kernel) fun t hf y => ?_
  have ht : t.val < 64 := lt_of_lt_of_eq t.isLt N_0
  have y0 : (y 0).val < 512 := (y 0).isLt
  have y1 : (y 1).val < 1024 := (y 1).isLt
  blk_simp
  rw [after0_2, tile]
  refine (prod_congr (i := ix2 ⟨512 * (t.val / 4) + (y 0).val, by omega⟩ ⟨1024 * (t.val % 4) + (y 1).val, by omega⟩) (fun x => ?_)
    fun x => ?_).trans (congrArg (prod (V m c main_arg0) (V m c main_v8)) (by blk_ext [idx t])).symm
  · blk_ext [iblk, idx t]
  · blk_ext [iblk, idx t]

theorem weight (j) : (V m c main_v8 : S1024x4096.Idx → EReal) j = cols (a := 1024) (b := 10784) 2560 4096 (by decide) (m ((c : Thread nD τ).loc main_arg1)) j := by
  unfold V cols
  after_reads_at
  after_reads_at

theorem value : (dats m 0 c).arrAt 2 cfg0.N = prod (m ((c : Thread nD τ).loc main_arg0))
    (cols (a := 1024) (b := 10784) 2560 4096 (by decide) (m ((c : Thread nD τ).loc main_arg1))) :=
  (final m c).trans (funext fun i => Finset.sum_congr rfl fun x _ =>
    congr (congrArg HMul.hMul (congrFun (V_main_arg0 m c) _)) (weight m c _))

theorem frame_reference : Cert.quiescent_ProjQkvRefIdeal := fun m ρ _ =>
  (θ_run _ _ _).mono (fun r h => ⟨fun c => (h c).2, sem_eq_zero_of_no_sems (by decide) r.2⟩) (Cert.ProjQkvRefIdeal.Value.run (F := Ideal) m ρ)

theorem algebraic : Cert.algebraic_ProjQkvIdeal_ProjQkvRefIdeal := by
  intro m ρ m' ρ' _ hag
  refine ⟨fun c => prod (m ((c.tc : Thread _ _).loc main_arg0))
      (cols (a := 1024) (b := 10784) 2560 4096 (by decide) (m ((c.tc : Thread _ _).loc main_arg1))),
    (θ_run _ _ _).mono (fun r h c => ⟨(h c).1.trans (value m c), (h c).2⟩) (Value.run_blocks m ρ),
    (θ_run _ _ _).mono (fun r h c => ⟨(h c).1.trans ?_, (h c).2⟩) (Cert.ProjQkvRefIdeal.Value.run (F := Ideal) m' ρ')⟩
  refine Eq.trans ?_ (congr (congrArg prod (hag c).1) (congrArg (cols (a := 1024) (b := 10784) 2560 4096 (by decide)) (hag c).2))
  funext i
  unfold prod cols
  pointwise

end Cert.Proof.ProjQkv

end
-- ==== Proof.ProjX.lean ====
/-
  A projection by a stretch of the columns of `w`, `y = x · w`: the kernel's tiles, each the product of a stretch of rows with a stretch of columns, and the
  reference's product.
-/
module

public import proofs.«01_k».proof.Defs
public import proofs.«01_k».proof.Proof.Product
public import proofs.«01_k».proof.Proof.Gen.ProjXIdeal.Value
public import proofs.«01_k».proof.Proof.Gen.ProjXRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Product
open scoped BigOperators

namespace Cert.Proof.ProjX

open Cert.ProjXIdeal Cert.ProjXIdeal.Gen

variable (m : (ℓ : Loc nD τ sig) → Buf (Elt Ideal) ℓ) (c : Dev nD)

theorem idx : ∀ t : Fin cfg0.N, win0_0.index t = ![t.val / 2, 0] ∧ win0_1.index t = ![0, t.val % 2] ∧ win0_2.index t = ![t.val / 2, t.val % 2] :=
  (by decide +kernel : ∀ t : Fin grid0.N, win0_0.index t = ![t.val / 2, 0] ∧ win0_1.index t = ![0, t.val % 2] ∧ win0_2.index t = ![t.val / 2, t.val % 2])

theorem tile (a : S512x1024.Idx → EReal) (b : S1024x1280.Idx → EReal) : out0_2 (F := Ideal) a b = prod a b := by
  frame_out
  funext j
  unfold k0_pay1 prod
  pointwise

theorem final : (dats m 0 c).arrAt 2 cfg0.N = prod (V m c main_arg0) (V m c main_v8) := by
  refine (dats m 0 c).arrAt_eq_of_covers 2 _ (by decide +kernel) fun t hf y => ?_
  have ht : t.val < 32 := lt_of_lt_of_eq t.isLt N_0
  have y0 : (y 0).val < 512 := (y 0).isLt
  have y1 : (y 1).val < 1280 := (y 1).isLt
  blk_simp
  rw [after0_2, tile]
  refine (prod_congr (i := ix2 ⟨512 * (t.val / 2) + (y 0).val, by omega⟩ ⟨1280 * (t.val % 2) + (y 1).val, by omega⟩) (fun x => ?_)
    fun x => ?_).trans (congrArg (prod (V m c main_arg0) (V m c main_v8)) (by blk_ext [idx t])).symm
  · blk_ext [iblk, idx t]
  · blk_ext [iblk, idx t]

theorem weight (j) : (V m c main_v8 : S1024x2560.Idx → EReal) j = cols (a := 1024) (b := 10784) 0 2560 (by decide) (m ((c : Thread nD τ).loc main_arg1)) j := by
  unfold V cols
  after_reads_at
  after_reads_at
  have hj : (j 1).val < 2560 := (j 1).isLt
  rw [dif_neg (by omega), dif_neg (by omega), dif_neg (by omega), dif_pos (by omega)]
  exact congrArg (m ((c : Thread nD τ).loc main_arg1)) (congrArg₂ ix2 rfl (Fin.ext (by dsimp only; omega)))

theorem value : (dats m 0 c).arrAt 2 cfg0.N = prod (m ((c : Thread nD τ).loc main_arg0))
    (cols (a := 1024) (b := 10784) 0 2560 (by decide) (m ((c : Thread nD τ).loc main_arg1))) :=
  (final m c).trans (funext fun i => Finset.sum_congr rfl fun x _ =>
    congr (congrArg HMul.hMul (congrFun (V_main_arg0 m c) _)) (weight m c _))

theorem frame_reference : Cert.quiescent_ProjXRefIdeal := fun m ρ _ =>
  (θ_run _ _ _).mono (fun r h => ⟨fun c => (h c).2, sem_eq_zero_of_no_sems (by decide) r.2⟩) (Cert.ProjXRefIdeal.Value.run (F := Ideal) m ρ)

theorem algebraic : Cert.algebraic_ProjXIdeal_ProjXRefIdeal := by
  intro m ρ m' ρ' _ hag
  refine ⟨fun c => prod (m ((c.tc : Thread _ _).loc main_arg0))
      (cols (a := 1024) (b := 10784) 0 2560 (by decide) (m ((c.tc : Thread _ _).loc main_arg1))),
    (θ_run _ _ _).mono (fun r h c => ⟨(h c).1.trans (value m c), (h c).2⟩) (Value.run_blocks m ρ),
    (θ_run _ _ _).mono (fun r h c => ⟨(h c).1.trans ?_, (h c).2⟩) (Cert.ProjXRefIdeal.Value.run (F := Ideal) m' ρ')⟩
  refine Eq.trans ?_ (congr (congrArg prod (hag c).1) (congrArg (cols (a := 1024) (b := 10784) 0 2560 (by decide)) (hag c).2))
  funext i
  unfold prod cols
  pointwise

end Cert.Proof.ProjX

end
-- ==== Proof.ProjZ.lean ====
/-
  A projection by a stretch of the columns of `w`, `y = x · w`: the kernel's tiles, each the product of a stretch of rows with a stretch of columns, and the
  reference's product.
-/
module

public import proofs.«01_k».proof.Defs
public import proofs.«01_k».proof.Proof.Product
public import proofs.«01_k».proof.Proof.Gen.ProjZIdeal.Value
public import proofs.«01_k».proof.Proof.Gen.ProjZRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Product
open scoped BigOperators

namespace Cert.Proof.ProjZ

open Cert.ProjZIdeal Cert.ProjZIdeal.Gen

variable (m : (ℓ : Loc nD τ sig) → Buf (Elt Ideal) ℓ) (c : Dev nD)

theorem idx : ∀ t : Fin cfg0.N, win0_0.index t = ![t.val / 2, 0] ∧ win0_1.index t = ![0, t.val % 2] ∧ win0_2.index t = ![t.val / 2, t.val % 2] :=
  (by decide +kernel : ∀ t : Fin grid0.N, win0_0.index t = ![t.val / 2, 0] ∧ win0_1.index t = ![0, t.val % 2] ∧ win0_2.index t = ![t.val / 2, t.val % 2])

theorem tile (a : S512x1024.Idx → EReal) (b : S1024x1024.Idx → EReal) : out0_2 (F := Ideal) a b = prod a b := by
  frame_out
  funext j
  unfold k0_pay1 prod
  pointwise

theorem final : (dats m 0 c).arrAt 2 cfg0.N = prod (V m c main_arg0) (V m c main_v8) := by
  refine (dats m 0 c).arrAt_eq_of_covers 2 _ (by decide +kernel) fun t hf y => ?_
  have ht : t.val < 32 := lt_of_lt_of_eq t.isLt N_0
  have y0 : (y 0).val < 512 := (y 0).isLt
  have y1 : (y 1).val < 1024 := (y 1).isLt
  blk_simp
  rw [after0_2, tile]
  refine (prod_congr (i := ix2 ⟨512 * (t.val / 2) + (y 0).val, by omega⟩ ⟨1024 * (t.val % 2) + (y 1).val, by omega⟩) (fun x => ?_)
    fun x => ?_).trans (congrArg (prod (V m c main_arg0) (V m c main_v8)) (by blk_ext [idx t])).symm
  · blk_ext [iblk, idx t]
  · blk_ext [iblk, idx t]

theorem weight (j) : (V m c main_v8 : S1024x2048.Idx → EReal) j = cols (a := 1024) (b := 10784) 6656 2048 (by decide) (m ((c : Thread nD τ).loc main_arg1)) j := by
  unfold V cols
  after_reads_at
  after_reads_at

theorem value : (dats m 0 c).arrAt 2 cfg0.N = prod (m ((c : Thread nD τ).loc main_arg0))
    (cols (a := 1024) (b := 10784) 6656 2048 (by decide) (m ((c : Thread nD τ).loc main_arg1))) :=
  (final m c).trans (funext fun i => Finset.sum_congr rfl fun x _ =>
    congr (congrArg HMul.hMul (congrFun (V_main_arg0 m c) _)) (weight m c _))

theorem frame_reference : Cert.quiescent_ProjZRefIdeal := fun m ρ _ =>
  (θ_run _ _ _).mono (fun r h => ⟨fun c => (h c).2, sem_eq_zero_of_no_sems (by decide) r.2⟩) (Cert.ProjZRefIdeal.Value.run (F := Ideal) m ρ)

theorem algebraic : Cert.algebraic_ProjZIdeal_ProjZRefIdeal := by
  intro m ρ m' ρ' _ hag
  refine ⟨fun c => prod (m ((c.tc : Thread _ _).loc main_arg0))
      (cols (a := 1024) (b := 10784) 6656 2048 (by decide) (m ((c.tc : Thread _ _).loc main_arg1))),
    (θ_run _ _ _).mono (fun r h c => ⟨(h c).1.trans (value m c), (h c).2⟩) (Value.run_blocks m ρ),
    (θ_run _ _ _).mono (fun r h c => ⟨(h c).1.trans ?_, (h c).2⟩) (Cert.ProjZRefIdeal.Value.run (F := Ideal) m' ρ')⟩
  refine Eq.trans ?_ (congr (congrArg prod (hag c).1) (congrArg (cols (a := 1024) (b := 10784) 6656 2048 (by decide)) (hag c).2))
  funext i
  unfold prod cols
  pointwise

end Cert.Proof.ProjZ

end
-- ==== Proof.ProjG.lean ====
/-
  A projection by a stretch of the columns of `w`, `y = x · w`: the kernel's tiles, each the product of a stretch of rows with a stretch of columns, and the
  reference's product.
-/
module

public import proofs.«01_k».proof.Defs
public import proofs.«01_k».proof.Proof.Product
public import proofs.«01_k».proof.Proof.Gen.ProjGIdeal.Value
public import proofs.«01_k».proof.Proof.Gen.ProjGRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Product
open scoped BigOperators

namespace Cert.Proof.ProjG

open Cert.ProjGIdeal Cert.ProjGIdeal.Gen

variable (m : (ℓ : Loc nD τ sig) → Buf (Elt Ideal) ℓ) (c : Dev nD)

theorem idx : ∀ t : Fin cfg0.N, win0_0.index t = ![t.val / 2, 0] ∧ win0_1.index t = ![0, t.val % 2] ∧ win0_2.index t = ![t.val / 2, t.val % 2] :=
  (by decide +kernel : ∀ t : Fin grid0.N, win0_0.index t = ![t.val / 2, 0] ∧ win0_1.index t = ![0, t.val % 2] ∧ win0_2.index t = ![t.val / 2, t.val % 2])

theorem tile (a : S512x1024.Idx → EReal) (b : S1024x1024.Idx → EReal) : out0_2 (F := Ideal) a b = prod a b := by
  frame_out
  funext j
  unfold k0_pay1 prod
  pointwise

theorem final : (dats m 0 c).arrAt 2 cfg0.N = prod (V m c main_arg0) (V m c main_v8) := by
  refine (dats m 0 c).arrAt_eq_of_covers 2 _ (by decide +kernel) fun t hf y => ?_
  have ht : t.val < 32 := lt_of_lt_of_eq t.isLt N_0
  have y0 : (y 0).val < 512 := (y 0).isLt
  have y1 : (y 1).val < 1024 := (y 1).isLt
  blk_simp
  rw [after0_2, tile]
  refine (prod_congr (i := ix2 ⟨512 * (t.val / 2) + (y 0).val, by omega⟩ ⟨1024 * (t.val % 2) + (y 1).val, by omega⟩) (fun x => ?_)
    fun x => ?_).trans (congrArg (prod (V m c main_arg0) (V m c main_v8)) (by blk_ext [idx t])).symm
  · blk_ext [iblk, idx t]
  · blk_ext [iblk, idx t]

theorem weight (j) : (V m c main_v8 : S1024x2048.Idx → EReal) j = cols (a := 1024) (b := 10784) 8736 2048 (by decide) (m ((c : Thread nD τ).loc main_arg1)) j := by
  unfold V cols
  after_reads_at
  after_reads_at
  have hj : (j 1).val < 2048 := (j 1).isLt
  rw [dif_neg (by omega), dif_neg (by omega), dif_pos (by omega)]
  exact congrArg (m ((c : Thread nD τ).loc main_arg1)) (congrArg₂ ix2 rfl (Fin.ext (by dsimp only; omega)))

theorem value : (dats m 0 c).arrAt 2 cfg0.N = prod (m ((c : Thread nD τ).loc main_arg0))
    (cols (a := 1024) (b := 10784) 8736 2048 (by decide) (m ((c : Thread nD τ).loc main_arg1))) :=
  (final m c).trans (funext fun i => Finset.sum_congr rfl fun x _ =>
    congr (congrArg HMul.hMul (congrFun (V_main_arg0 m c) _)) (weight m c _))

theorem frame_reference : Cert.quiescent_ProjGRefIdeal := fun m ρ _ =>
  (θ_run _ _ _).mono (fun r h => ⟨fun c => (h c).2, sem_eq_zero_of_no_sems (by decide) r.2⟩) (Cert.ProjGRefIdeal.Value.run (F := Ideal) m ρ)

theorem algebraic : Cert.algebraic_ProjGIdeal_ProjGRefIdeal := by
  intro m ρ m' ρ' _ hag
  refine ⟨fun c => prod (m ((c.tc : Thread _ _).loc main_arg0))
      (cols (a := 1024) (b := 10784) 8736 2048 (by decide) (m ((c.tc : Thread _ _).loc main_arg1))),
    (θ_run _ _ _).mono (fun r h c => ⟨(h c).1.trans (value m c), (h c).2⟩) (Value.run_blocks m ρ),
    (θ_run _ _ _).mono (fun r h c => ⟨(h c).1.trans ?_, (h c).2⟩) (Cert.ProjGRefIdeal.Value.run (F := Ideal) m' ρ')⟩
  refine Eq.trans ?_ (congr (congrArg prod (hag c).1) (congrArg (cols (a := 1024) (b := 10784) 8736 2048 (by decide)) (hag c).2))
  funext i
  unfold prod cols
  pointwise

end Cert.Proof.ProjG

end
-- ==== Proof.DH1.lean ====
/-
  The gradient of the modulation before the input projection. The kernel lays the projections' gradient and the weight out in its own
  order of columns, with 96 columns of zeros, sums their product over stretches of the columns in a scratch, and at the last stretch of
  each 512 rows scales it, adds the residual's gradient and adds the sums over the rows to a block that stays. The sums over the two
  orders of the columns are one sum (`sum_same`).
-/
module

public import proofs.«01_k».proof.Defs
public import proofs.«01_k».proof.Proof.Product
public import proofs.«01_k».proof.Proof.Gen.DH1Ideal.Value
public import proofs.«01_k».proof.Proof.Gen.DH1RefIdeal.Run
public import Idealize.ShloMosaic.Lib.Quiescent
public import Idealize.ShloMosaic.Lib.StableHlo.ReadAt
public import Idealize.ShloMosaic.Lib.Claim
public import Idealize.ShloMosaic.Lib.WritesUnit

@[expose] public section

set_option maxRecDepth 16384

noncomputable section

open Idealize.ShloMosaic Idealize.ShloMosaic.TcCoe Idealize.SL.Sem Cert.Proof.Product
open scoped BigOperators

namespace Cert.Proof.DH1

open Cert.DH1Ideal Cert.DH1Ideal.Gen

variable (m : (ℓ : Loc nD τ sig) → Buf (Elt Ideal) ℓ) (c : Dev nD)

/-- What goes back through the modulation: `D` times `1 + scale`, added to what the residual branch brings. -/
def through {p n q : ℕ} (hq : 1 < q) (D r : (Mat p n).Idx → EReal) (ada : (Mat q n).Idx → EReal) : (Mat p n).Idx → EReal :=
  fun i => r i + D i * (1 + ada (ix2 ⟨1, hq⟩ (i 1)))

/-- The gradients of scale and shift, in rows 0 and 1. -/
def sums {p n : ℕ} (D x : (Mat p n).Idx → EReal) : (Mat 8 n).Idx → EReal :=
  fun i => if (i 0).val = 0 then ∑ r : Fin p, D (ix2 r (i 1)) * x (ix2 r (i 1))
    else if (i 0).val = 1 then ∑ r : Fin p, D (ix2 r (i 1)) else 0

theorem idx : ∀ t : Fin cfg0.N, win0_0.index t = ![t.val / 5, t.val % 5] ∧ win0_1.index t = ![t.val % 5, 0] ∧ win0_2.index t = ![t.val / 5, 0]
    ∧ win0_3.index t = ![t.val / 5, 0] ∧ win0_4.index t = ![0, 0] ∧ win0_5.index t = ![t.val / 5, 0] ∧ win0_6.index t = ![0, 0] :=
  (by decide +kernel : ∀ t : Fin grid0.N, win0_0.index t = ![t.val / 5, t.val % 5] ∧ win0_1.index t = ![t.val % 5, 0] ∧ win0_2.index t = ![t.val / 5, 0]
    ∧ win0_3.index t = ![t.val / 5, 0] ∧ win0_4.index t = ![0, 0] ∧ win0_5.index t = ![t.val / 5, 0] ∧ win0_6.index t = ![0, 0])

theorem read_a (t : Fin cfg0.N) (u : Fin 512) (x : Fin 2176) (r : Fin 8192) (l : Fin 10880) (hr : r.val = 512 * (t.val / 5) + u.val)
    (hl : l.val = 2176 * (t.val % 5) + x.val) : (iblk m c 0 t : S512x2176.Idx → EReal) (ix2 u x) = (V m c main_v6 : S8192x10880.Idx → EReal) (ix2 r l) := by
  blk_ext [iblk, idx t]

theorem read_b (t : Fin cfg0.N) (x : Fin 2176) (u : Fin 1024) (l : Fin 10880) (r : Fin 1024) (hl : l.val = 2176 * (t.val % 5) + x.val)
    (hr : r.val = 0 + u.val) : (iblk m c 1 t : S2176x1024.Idx → EReal) (ix2 x u) = (V m c main_v15 : S10880x1024.Idx → EReal) (ix2 l r) := by
  blk_ext [iblk, idx t]

theorem read_c (t : Fin cfg0.N) (u : Fin 512) (j : Fin 1024) (r : Fin 8192) (hr : r.val = 512 * (t.val / 5) + u.val) :
    (iblk m c 2 t : S512x1024.Idx → EReal) (ix2 u j) = (V m c main_arg2 : S8192x1024.Idx → EReal) (ix2 r j) := by
  blk_ext [iblk, idx t]

theorem read_x (t : Fin cfg0.N) (u : Fin 512) (j : Fin 1024) (r : Fin 8192) (hr : r.val = 512 * (t.val / 5) + u.val) :
    (iblk m c 3 t : S512x1024.Idx → EReal) (ix2 u j) = (V m c main_arg3 : S8192x1024.Idx → EReal) (ix2 r j) := by
  blk_ext [iblk, idx t]

theorem read_ada (t : Fin cfg0.N) (u : Fin 8) (j : Fin 1024) :
    (iblk m c 4 t : S8x1024.Idx → EReal) (ix2 u j) = (V m c main_v16 : S8x1024.Idx → EReal) (ix2 u j) := by
  blk_ext [iblk, idx t]

theorem pay1 (j) : (k0_pay1 (F := Ideal) : S8x1024.Idx → EReal) j = 0 := by
  unfold k0_pay1; pointwise

theorem pay2 (j) : (k0_pay2 (F := Ideal) : S512x1024.Idx → EReal) j = 0 := by
  unfold k0_pay2; pointwise

theorem pay3 (z : S512x1024.Idx → EReal) (a : S512x2176.Idx → EReal) (b : S2176x1024.Idx → EReal) (j) :
    (k0_pay3 (F := Ideal) z a b : S512x1024.Idx → EReal) j = z j + prod a b j := by
  unfold k0_pay3 prod; pointwise

theorem pay4 (z r : S512x1024.Idx → EReal) (s : S1x1024.Idx → EReal) (j) :
    (k0_pay4 (F := Ideal) z r s : S512x1024.Idx → EReal) j = r j + z j * (1 + s (ix2 0 (j 1))) := by
  unfold k0_pay4; pointwise

theorem pay5 (z x : S512x1024.Idx → EReal) (s : S1x1024.Idx → EReal) (j) :
    (k0_pay5 (F := Ideal) z s x : S1x1024.Idx → EReal) j = s j + ∑ u : Fin 512, z (ix2 u (j 1)) * x (ix2 u (j 1)) := by
  unfold k0_pay5; pointwise

theorem pay6 (z : S512x1024.Idx → EReal) (s : S1x1024.Idx → EReal) (j) :
    (k0_pay6 (F := Ideal) z s : S1x1024.Idx → EReal) j = s j + ∑ u : Fin 512, z (ix2 u (j 1)) := by
  unfold k0_pay6; pointwise
theorem two_rows {sp} (v : View sig .tc sp S8x1024 .f32) (f) (w0 w1 : S1x1024.Idx → EReal) (i0 i1) (y : S8x1024.Idx) :
    v.read (Elt Ideal) (v.writes (Elt Ideal) f [⟨Rect.unit ![1, 0] ![1, 1024] i1, w1⟩, ⟨Rect.unit ![0, 0] ![1, 1024] i0, w0⟩]) y
      = if (y 0).val = 0 then w0 (ix2 0 (y 1)) else if (y 0).val = 1 then w1 (ix2 0 (y 1)) else v.read (Elt Ideal) f y := by
  split_ifs with h0 h1
  · exact (View.read_writes_cons_unit_of_not_mem v f i1 w1 _ y rfl 0 (.inl (by rw [h0]; decide))).trans
      (View.read_writes_cons_unit_of_mem v f i0 w0 [] y (ix2 0 (y 1)) rfl (Fin.forall_fin_two.mpr ⟨h0, (Nat.zero_add _).symm⟩))
  · exact View.read_writes_cons_unit_of_mem v f i1 w1 _ y (ix2 0 (y 1)) rfl (Fin.forall_fin_two.mpr ⟨h1, (Nat.zero_add _).symm⟩)
  · exact (View.read_writes_cons_unit_of_not_mem v f i1 w1 _ y rfl 0 (.inr (show 1 + 1 ≤ (y 0).val by omega))).trans
      (View.read_writes_cons_unit_of_not_mem v f i0 w0 [] y rfl 0 (.inr (show 0 + 1 ≤ (y 0).val by omega)))

theorem ld_row0 (X : S8x1024.Idx → EReal) (inb) (j : Fin 1024) :
    (View.ld (Val := Elt Ideal) (e' := .f32) X (Rect.unit (s := S8x1024) ![0, 0] ![1, 1024] inb) : S1x1024.Idx → EReal) (ix2 0 j) = X (ix2 0 j) :=
  congrArg X (funext (Fin.forall_fin_two.mpr ⟨Fin.ext rfl, Fin.ext (by show 0 + 1 * j.val = j.val; omega)⟩))

theorem ld_row1 (X : S8x1024.Idx → EReal) (inb) (j : Fin 1024) :
    (View.ld (Val := Elt Ideal) (e' := .f32) X (Rect.unit (s := S8x1024) ![1, 0] ![1, 1024] inb) : S1x1024.Idx → EReal) (ix2 0 j) = X (ix2 1 j) :=
  congrArg X (funext (Fin.forall_fin_two.mpr ⟨Fin.ext rfl, Fin.ext (by show 0 + 1 * j.val = j.val; omega)⟩))

/-- The block of the residual branch's gradient at point `t`. -/
def res (t : Fin cfg0.N) : S512x1024.Idx → EReal := iblk m c 2 t
/-- The block of the layer's input at point `t`. -/
def inp (t : Fin cfg0.N) : S512x1024.Idx → EReal := iblk m c 3 t
/-- The modulation's parameters. -/
def par (t : Fin cfg0.N) : S8x1024.Idx → EReal := iblk m c 4 t
/-- The accumulator after point `t`. -/
def scr (t : Fin cfg0.N) : S512x1024.Idx → EReal := (outsAt0 m c t.val t.isLt).2.2
/-- The gradients of scale and shift after point `t`. -/
def red (n : ℕ) (h : n < cfg0.N) : S8x1024.Idx → EReal := (outsAt0 m c n h).2.1

theorem acc (t : Fin cfg0.N) (ht : t.val % 5 = 4) (y : S512x1024.Idx) (i : S8192x1024.Idx) (h0 : (i 0).val = 512 * (t.val / 5) + (y 0).val)
    (h1 : (i 1).val = 0 + (y 1).val) : scr m c t y = prod (V m c main_v6) (V m c main_v15) i := by
  unfold scr
  rw [sum_of_stretches rfl (fun n h => ((outsAt0 m c n h).2.2 : S512x1024.Idx → EReal)) _ _ _ _ (512 * ·) (fun _ => 0)
    (fun t h j => by
      by_cases h8 : t.val % 80 = 0
      · rw [outsAt0_A m c t h8 h (by omega)]; frame_out; rw [pay3, pay2]
      · rw [outsAt0_D m c t h8 h (by omega)]; frame_out; rw [pay3, pay2])
    (fun t h j => by
      by_cases h4 : t.val % 5 = 4
      · rw [outsAt0_C m c t (by omega) h h4]; frame_out; rw [pay3]
        exact congrArg (· + _) (congrFun (Memref.IsWhole.read_unread _ _) j)
      · rw [outsAt0_B m c t (by omega) h h4]; frame_out; rw [pay3]
        exact congrArg (· + _) (congrFun (Memref.IsWhole.read_unread _ _) j))
    (read_a m c) (read_b m c) t ht y i h0 h1]

theorem row (t : Fin cfg0.N) (ht : t.val % 5 = 4) (y : S512x1024.Idx) :
    ((outsAt0 m c t.val t.isLt).1 : S512x1024.Idx → EReal) y = res m c t y + scr m c t y * (1 + par m c t (ix2 1 (y 1))) := by
  unfold scr
  rw [outsAt0_C m c t (by omega) (by omega) ht]
  frame_out
  rw [pay4]
  refine congrArg (fun z : EReal => (res m c t y : EReal) + _ * (1 + z)) ?_
  exact ld_row1 (par m c t) _ (y 1)

theorem red_C (t : Fin cfg0.N) (ht : t.val % 5 = 4) (y : S8x1024.Idx) : red m c t.val t.isLt y
    = red m c (t.val - 1) (Nat.lt_of_le_of_lt (Nat.sub_le _ _) t.isLt) y
      + (if (y 0).val = 0 then ∑ u : Fin 512, scr m c t (ix2 u (y 1)) * inp m c t (ix2 u (y 1))
          else if (y 0).val = 1 then ∑ u : Fin 512, scr m c t (ix2 u (y 1)) else 0) := by
  unfold red scr
  rw [outsAt0_C m c t (by omega) (by omega) ht]
  frame_out
  rw [two_rows, Memref.IsWhole.read_unread]
  split_ifs with h0 h1
  · rw [pay5]
    exact congrArg (fun z : EReal => z + _) ((ld_row0 (red m c (t.val - 1) (Nat.lt_of_le_of_lt (Nat.sub_le _ _) t.isLt)) _ (y 1)).trans
      (congrArg (red m c (t.val - 1) (Nat.lt_of_le_of_lt (Nat.sub_le _ _) t.isLt)) (funext (Fin.forall_fin_two.mpr ⟨Fin.ext h0.symm, rfl⟩))))
  · rw [pay6]
    exact congrArg (fun z : EReal => z + _) ((ld_row1 (red m c (t.val - 1) (Nat.lt_of_le_of_lt (Nat.sub_le _ _) t.isLt)) _ (y 1)).trans
      (congrArg (red m c (t.val - 1) (Nat.lt_of_le_of_lt (Nat.sub_le _ _) t.isLt)) (funext (Fin.forall_fin_two.mpr ⟨Fin.ext h1.symm, rfl⟩))))
  · exact (add_zero _).symm

theorem red_A (t : Fin cfg0.N) (ht : t.val % 80 = 0) (y : S8x1024.Idx) : red m c t.val t.isLt y = 0 := by
  unfold red
  rw [outsAt0_A m c t ht (by omega) (by omega)]
  frame_out
  rw [pay1]

theorem red_BD (t : Fin cfg0.N) (h0 : ¬t.val % 80 = 0) (h4 : ¬t.val % 5 = 4) (y : S8x1024.Idx) : red m c t.val t.isLt y
    = red m c (t.val - 1) (Nat.lt_of_le_of_lt (Nat.sub_le _ _) t.isLt) y := by
  unfold red
  by_cases h1 : t.val % 5 = 0
  · rw [outsAt0_D m c t h0 h1 h4]; rfl
  · rw [outsAt0_B m c t h0 h1 h4]; rfl
/-- What point `t` adds to the gradients of scale and shift: at a run's last stretch, the sums over its 512 rows. -/
def term (t : Fin cfg0.N) (y : S8x1024.Idx) : EReal :=
  if t.val % 5 = 4 then (if (y 0).val = 0 then ∑ u : Fin 512, scr m c t (ix2 u (y 1)) * inp m c t (ix2 u (y 1))
    else if (y 0).val = 1 then ∑ u : Fin 512, scr m c t (ix2 u (y 1)) else 0) else 0

theorem red_eq (t : Fin cfg0.N) (ht : t.val % 80 = 79) (y : S8x1024.Idx) :
    red m c t.val t.isLt y = ∑ s : Fin 80, term m c ⟨80 * (t.val / 80) + s.val, Pipeline.run_point_lt_of_flush t ht s⟩ y := by
  rw [Pipeline.eq_sum_fin_of_reset_step_apply_of_flush (red m c) 80 (fun _ => 0) (term m c)
    (fun t h y => by rw [red_A m c t h, term, if_neg (by omega), zero_add])
    (fun t h y => by
      by_cases h4 : t.val % 5 = 4
      · rw [red_C m c t h4, term, if_pos h4]
      · rw [red_BD m c t h h4, term, if_neg h4, add_zero]) t ht y, zero_add]

/-- A sum over 80 points of which only each fifth adds, with each of those a sum over 512 rows. -/
theorem sum_rows (f : Fin 80 → EReal) (g : Fin 16 → Fin 512 → EReal) (G : Fin 8192 → EReal) (h0 : ∀ s : Fin 80, ¬s.val % 5 = 4 → f s = 0)
    (h1 : ∀ (s : Fin 80) (i : Fin 16), s.val = i.val * 5 + 4 → f s = ∑ u, g i u)
    (h2 : ∀ (i : Fin 16) (u : Fin 512) (r : Fin 8192), r.val = i.val * 512 + u.val → g i u = G r) : ∑ s, f s = ∑ r, G r := by
  rw [← Fin.sum_mul_add_fin 16 5 f rfl, ← Fin.sum_mul_add_fin 16 512 G rfl]
  refine Finset.sum_congr rfl fun i _ => ?_
  rw [Fin.sum_univ_five, h0 _ (by dsimp only; omega), h0 _ (by dsimp only; omega), h0 _ (by dsimp only; omega), h0 _ (by dsimp only; omega), h1 _ i rfl]
  simp only [zero_add]
  exact Finset.sum_congr rfl fun u _ => h2 i u _ rfl

/-- The gradient of the layer's input, as the accumulator holds it. -/
def dh : (Mat 8192 1024).Idx → EReal := prod (V m c main_v6) (V m c main_v15)

theorem final_row : (dats m 0 c).arrAt 5 cfg0.N = through (by decide) (dh m c) (V m c main_arg2) (V m c main_v16 : S8x1024.Idx → EReal) := by
  refine (dats m 0 c).arrAt_eq_of_covers 5 _ (by decide +kernel) fun t hf y => ?_
  have ht : t.val < 80 := lt_of_lt_of_eq t.isLt N_0
  have y0 : (y 0).val < 512 := (y 0).isLt
  have h1 := (flush0_5 t).mp hf
  have e : res m c t y = (V m c main_arg2 : S8192x1024.Idx → EReal) (ix2 ⟨512 * (t.val / 5) + (y 0).val, by omega⟩ (y 1)) := by
    unfold res; blk_ext [iblk, idx t]
  have e' : par m c t (ix2 1 (y 1)) = (V m c main_v16 : S8x1024.Idx → EReal) (ix2 1 (y 1)) := by
    unfold par; blk_ext [iblk, idx t]
  blk_simp
  rw [after0_5, row m c t h1, acc m c t h1 y (ix2 ⟨512 * (t.val / 5) + (y 0).val, by omega⟩ (y 1)) rfl (zero_add _).symm, e, e']
  exact (congrArg (through (by decide) (dh m c) (V m c main_arg2) (V m c main_v16 : S8x1024.Idx → EReal)) (by blk_ext [idx t])).symm

theorem final_red : (dats m 0 c).arrAt 6 cfg0.N = sums (dh m c) (V m c main_arg3) := by
  refine (dats m 0 c).arrAt_eq_of_covers 6 _ (by decide +kernel) fun t hf y => ?_
  have ht : t.val < 80 := lt_of_lt_of_eq t.isLt N_0
  have h1 := (flush0_6 t).mp hf
  blk_simp
  rw [after0_6]
  refine (red_eq m c t h1 y).trans (Eq.trans ?_ (congrArg (sums (dh m c) (V m c main_arg3)) (show y = _ by blk_ext [idx t])))
  have q : ∀ s : Fin 80, 80 * (t.val / 80) + s.val = s.val := fun s => by omega
  have hs : ∀ (s : Fin 80) (i : Fin 16) (u : Fin 512) (j : Fin 1024) (h), s.val = i.val * 5 + 4 →
      scr m c ⟨80 * (t.val / 80) + s.val, h⟩ (ix2 u j) = dh m c (ix2 ⟨i.val * 512 + u.val, by omega⟩ j) := fun s i u j h e =>
    acc m c _ (by dsimp only; omega) _ _ (by dsimp only [ix2]; simp; omega) (zero_add _).symm
  have hx : ∀ (s : Fin 80) (i : Fin 16) (u : Fin 512) (j : Fin 1024) (h), s.val = i.val * 5 + 4 →
      inp m c ⟨80 * (t.val / 80) + s.val, h⟩ (ix2 u j) = (V m c main_arg3 : S8192x1024.Idx → EReal) (ix2 ⟨i.val * 512 + u.val, by omega⟩ j) :=
    fun s i u j h e => read_x m c _ _ _ _ (by dsimp only; omega)
  unfold sums
  split_ifs with h0 h2
  · refine sum_rows _ (fun i u => dh m c (ix2 ⟨i.val * 512 + u.val, by omega⟩ (y 1)) * (V m c main_arg3 : S8192x1024.Idx → EReal) (ix2 ⟨i.val * 512 + u.val, by omega⟩ (y 1))) _
      (fun s h => if_neg (by dsimp only; omega)) (fun s i e => ?_) (fun i u r e => by rw [show r = ⟨i.val * 512 + u.val, by omega⟩ from Fin.ext e])
    rw [term, if_pos (by dsimp only; omega), if_pos h0]
    exact Finset.sum_congr rfl fun u _ => congr (congrArg HMul.hMul (hs s i u (y 1) _ e)) (hx s i u (y 1) _ e)
  · refine sum_rows _ (fun i u => dh m c (ix2 ⟨i.val * 512 + u.val, by omega⟩ (y 1))) _
      (fun s h => if_neg (by dsimp only; omega)) (fun s i e => ?_) (fun i u r e => by rw [show r = ⟨i.val * 512 + u.val, by omega⟩ from Fin.ext e])
    rw [term, if_pos (by dsimp only; omega), if_neg h0, if_pos h2]
    exact Finset.sum_congr rfl fun u _ => hs s i u (y 1) _ e
  · refine Finset.sum_eq_zero fun s _ => ?_
    rw [term, if_neg h0, if_neg h2, ite_self]
/-- Column `l` of the version's order is column `l'` of reference.py's. -/
def Same (l l' : ℕ) : Prop :=
  l < 4096 ∧ l' = 2560 + l ∨ 4096 ≤ l ∧ l < 6144 ∧ l' = 6656 + (l - 4096) ∨ 6144 ≤ l ∧ l < 8192 ∧ l' = 8736 + (l - 6144)
    ∨ 8192 ≤ l ∧ l < 10752 ∧ l' = l - 8192 ∨ 10752 ≤ l ∧ l < 10784 ∧ l' = 8704 + (l - 10752)

/-- A product in the version's order of columns, with its padding zero, sums up to the one in reference.py's order. -/
theorem sum_same (f : Fin 10880 → EReal) (g : Fin 10784 → EReal) (h : ∀ l l', Same l.val l'.val → f l = g l') (h0 : ∀ l, 10784 ≤ l.val → f l = 0) :
    ∑ l, f l = ∑ l, g l := by
  set F : ℕ → EReal := fun n => if hn : n < 10880 then f ⟨n, hn⟩ else 0 with hF
  set G : ℕ → EReal := fun n => if hn : n < 10784 then g ⟨n, hn⟩ else 0 with hG
  have p : ∀ (o o' n : ℕ) (hn : o' + n ≤ 10784) (ho : o + n ≤ 10880), (∀ x < n, Same (o + x) (o' + x)) →
      ∑ x ∈ Finset.range n, F (o + x) = ∑ x ∈ Finset.range n, G (o' + x) := fun o o' n hn ho hs =>
    Finset.sum_congr rfl fun x hx => by
      have hx := Finset.mem_range.mp hx
      rw [hF, hG]
      dsimp only
      rw [dif_pos (by omega), dif_pos (by omega)]
      exact h _ _ (hs x hx)
  have z : ∑ x ∈ Finset.range 96, F (10784 + x) = 0 := Finset.sum_eq_zero fun x hx => by
    have hx := Finset.mem_range.mp hx
    rw [hF]
    dsimp only
    rw [dif_pos (by omega)]
    exact h0 _ (by dsimp only; omega)
  have e : ∑ l, f l = ∑ x ∈ Finset.range (4096 + 2048 + 2048 + 2560 + 32 + 96), F x := by
    rw [Finset.sum_range]; exact Finset.sum_congr rfl fun l _ => by rw [hF]; dsimp only; rw [dif_pos l.isLt]
  have e' : ∑ l, g l = ∑ x ∈ Finset.range (2560 + 4096 + 2048 + 32 + 2048), G x := by
    rw [Finset.sum_range]; exact Finset.sum_congr rfl fun l _ => by rw [hG]; dsimp only; rw [dif_pos l.isLt]
  rw [e, e']
  simp only [Finset.sum_range_add]
  have p1 := p 0 2560 4096 (by decide) (by decide) fun x hx => by unfold Same; omega
  have p2 := p 4096 6656 2048 (by decide) (by decide) fun x hx => by unfold Same; omega
  have p3 := p 6144 8736 2048 (by decide) (by decide) fun x hx => by unfold Same; omega
  have p4 := p 8192 0 2560 (by decide) (by decide) fun x hx => by unfold Same; omega
  have p5 := p 10752 8704 32 (by decide) (by decide) fun x hx => by unfold Same; omega
  simp only [Nat.zero_add] at p1 p4
  rw [p1, p2, p3, p4, p5, z]
  abel

theorem laid_d (r : Fin 8192) (l : Fin 10880) (l' : Fin 10784) (h : Same l.val l'.val) :
    (V m c main_v6 : S8192x10880.Idx → EReal) (ix2 r l) = (m ((c : Thread nD τ).loc main_arg0) : S8192x10784.Idx → EReal) (ix2 r l') := by
  unfold V
  after_reads_at
  after_reads_at
  unfold Same at h
  split_ifs <;> first
    | exact congrArg (m ((c : Thread nD τ).loc main_arg0)) (congrArg₂ ix2 rfl (Fin.ext (by dsimp only; omega)))
    | (exfalso; omega)

theorem laid_d0 (r : Fin 8192) (l : Fin 10880) (h : 10784 ≤ l.val) : (V m c main_v6 : S8192x10880.Idx → EReal) (ix2 r l) = (0 : EReal) := by
  unfold V
  after_reads_at
  after_reads_at
  rw [dif_neg (by omega), dif_neg (by omega), dif_neg (by omega), dif_neg (by omega), dif_neg (by omega)]

theorem laid_w (j : Fin 1024) (l : Fin 10880) (l' : Fin 10784) (h : Same l.val l'.val) :
    (V m c main_v15 : S10880x1024.Idx → EReal) (ix2 l j) = (m ((c : Thread nD τ).loc main_arg1) : S1024x10784.Idx → EReal) (ix2 j l') := by
  unfold V
  after_reads_at
  after_reads_at
  unfold Same at h
  split_ifs <;> first
    | exact congrArg (m ((c : Thread nD τ).loc main_arg1)) (congrArg₂ ix2 rfl (Fin.ext (by dsimp only; omega)))
    | (exfalso; omega)

theorem params (j : Fin 1024) :
    (V m c main_v16 : S8x1024.Idx → EReal) (ix2 1 j) = (m ((c : Thread nD τ).loc main_arg4) : S6x1024.Idx → EReal) (ix2 1 j) := by
  unfold V
  after_reads_at

theorem dh_eq : dh m c = prodT (m ((c : Thread nD τ).loc main_arg0)) (m ((c : Thread nD τ).loc main_arg1) : S1024x10784.Idx → EReal) := by
  funext i
  unfold dh prod prodT
  refine sum_same _ _ (fun l l' h => ?_) fun l h => ?_
  · rw [laid_d m c (i 0) l l' h, laid_w m c (i 1) l l' h]
  · rw [laid_d0 m c (i 0) l h, zero_mul]

theorem value_row : (dats m 0 c).arrAt 5 cfg0.N = through (by decide) (prodT (m ((c : Thread nD τ).loc main_arg0)) (m ((c : Thread nD τ).loc main_arg1)))
    (m ((c : Thread nD τ).loc main_arg2)) (m ((c : Thread nD τ).loc main_arg4) : S6x1024.Idx → EReal) := by
  rw [final_row, dh_eq, V_main_arg2]
  exact funext fun i => congrArg (fun z : EReal => _ + _ * (1 + z)) (params m c (i 1))

theorem value_red : (dats m 0 c).arrAt 6 cfg0.N = sums (prodT (m ((c : Thread nD τ).loc main_arg0)) (m ((c : Thread nD τ).loc main_arg1)))
    (m ((c : Thread nD τ).loc main_arg3)) := by
  rw [final_red, dh_eq, V_main_arg3]

theorem frame_reference : Cert.quiescent_DH1RefIdeal := fun m ρ _ =>
  (θ_run _ _ _).mono (fun r h => ⟨fun c => (h c).2.2, sem_eq_zero_of_no_sems (by decide) r.2⟩) (Cert.DH1RefIdeal.Value.run (F := Ideal) m ρ)

theorem algebraic : Cert.algebraic_DH1Ideal_DH1RefIdeal := by
  intro m ρ m' ρ' _ hag
  refine ⟨fun c => through (by decide) (prodT (m ((c.tc : Thread _ _).loc main_arg0)) (m ((c.tc : Thread _ _).loc main_arg1)))
      (m ((c.tc : Thread _ _).loc main_arg2)) (m ((c.tc : Thread _ _).loc main_arg4) : S6x1024.Idx → EReal),
    fun c => sums (prodT (m ((c.tc : Thread _ _).loc main_arg0)) (m ((c.tc : Thread _ _).loc main_arg1))) (m ((c.tc : Thread _ _).loc main_arg3)),
    (θ_run _ _ _).mono (fun r h c => ⟨(h c).1.trans (value_row m c), (h c).2.1.trans (value_red m c), (h c).2.2⟩) (Value.run_blocks m ρ),
    (θ_run _ _ _).mono (fun r h c => ⟨(h c).1.trans ?_, (h c).2.1.trans ?_, (h c).2.2⟩) (Cert.DH1RefIdeal.Value.run (F := Ideal) m' ρ')⟩
  · obtain ⟨h0, h1, h2, _, h4⟩ := hag c
    refine Eq.trans ?_ (congr (congr (congrArg (through (by decide)) (congr (congrArg prodT h0) h1)) h2) h4)
    funext i
    unfold through prodT
    pointwise
  · obtain ⟨h0, h1, _, h3, _⟩ := hag c
    refine Eq.trans ?_ (congr (congrArg sums (congr (congrArg prodT h0) h1)) h3)
    funext i
    unfold sums prodT
    pointwise
    have hz : (FloatOps.sitofp FTy.f32 (0#32) : Ideal .f32) = (0 : EReal) := by simp [FloatOps.sitofp]
    split_ifs <;> first
      | exact Finset.sum_congr rfl fun x _ => mul_comm _ _
      | rfl
      | exact hz
      | (exfalso; omega)

end Cert.Proof.DH1

end
-- ==== Proof.Adam.lean ====
/-
  The optimiser's step at `Ideal`, element by element: the gradient as the sum of its two parts, the two new moments, and the
  change of the weight. Every constant is the real number its word stands for.
-/
module

public import Idealize.ShloMosaic.Lib.Pointwise
public import Idealize.ShloMosaic.Lib.Tactic
public import Idealize.ShloMosaic.Lib.Pipeline.ReadBack
public import Idealize.ShloMosaic.Lib.Pipeline.ValueKit

@[expose] public section

noncomputable section

open Idealize.ShloMosaic

namespace Cert.Proof.Adam

/-- A single-precision word's value. -/
def word (b : BitVec 32) : EReal := (Scalar.ofBits .f32 b : Ideal .f32)

/-- The quotient. -/
def over (x y : EReal) : EReal := (FloatOps.divf (F := Ideal) (φ := .f32) x y : Ideal .f32)

/-- The square root. -/
def root (x : EReal) : EReal := (FloatOps.sqrt (F := Ideal) (φ := .f32) x : Ideal .f32)

/-- The first moment, of the gradient and the old moment. -/
def first (g m : EReal) : EReal := word 0x3F666666#32 * m + word 0x3DCCCCCD#32 * g

/-- The second moment. -/
def second (g v : EReal) : EReal := word 0x3F7FBE77#32 * v + word 0x3A83126F#32 * (g * g)

/-- The change of the weight `w`. -/
def change (g w m v : EReal) : EReal :=
  word 0xBA83126F#32 * (over (over (first g m) (word 0x3F26BD02#32))
    (root (over (second g v) (word 0x3C231ACC#32)) + word 0x322BCC77#32) + word 0x3C23D70A#32 * w)

variable {s : Shape}

/-- The sum of two parts. -/
def total (p q : s.Idx → EReal) : s.Idx → EReal := fun i => p i + q i

/-- The first moments. -/
def firsts (g m : s.Idx → EReal) : s.Idx → EReal := fun i => first (g i) (m i)

/-- The second moments. -/
def seconds (g v : s.Idx → EReal) : s.Idx → EReal := fun i => second (g i) (v i)

/-- The changes of the weights. -/
def changes (g w m v : s.Idx → EReal) : s.Idx → EReal := fun i => change (g i) (w i) (m i) (v i)

theorem changes_congr {g g' w w' m m' v v' : s.Idx → EReal} (hg : g = g') (hw : w = w') (hm : m = m') (hv : v = v') :
    changes g w m v = changes g' w' m' v' := by rw [hg, hw, hm, hv]

theorem first_zero : first 0 0 = 0 := by unfold first; rw [mul_zero, mul_zero, add_zero]

theorem second_zero : second 0 0 = 0 := by unfold second; rw [mul_zero, mul_zero, mul_zero, add_zero]

theorem over_zero {y : EReal} (h : y ≠ 0) : over 0 y = 0 := by
  change Ideal.div 0 y = 0
  rw [Ideal.div, if_neg h, zero_mul]

/-- With everything zero, nothing changes: the divisors are not zero. -/
theorem change_zero : change 0 0 0 0 = 0 := by
  have h1 : word 0x3F26BD02#32 ≠ 0 := by simp [word, Ideal.ofBits, Ideal.ieee]
  have h2 : word 0x3C231ACC#32 ≠ 0 := by simp [word, Ideal.ofBits, Ideal.ieee]
  have h3 : root 0 + word 0x322BCC77#32 ≠ 0 := by
    have h0 : root 0 = 0 := by
      change (if (0 : ℝ) < 0 then (⊥ : EReal) else ((Real.sqrt 0 : ℝ) : EReal)) = 0
      simp
    rw [h0, zero_add]
    simp [word, Ideal.ofBits, Ideal.ieee]
  unfold change
  rw [first_zero, second_zero, over_zero h1, over_zero h2, over_zero h3, mul_zero, add_zero, mul_zero]

end Cert.Proof.Adam

end
-- ==== Proof.AdamIn.lean ====
/-
  The optimiser's step of one device's shard of the input projection's weight. Each tile of a result is the
  step (`Adam`) of the same tile of the arguments.
-/
module

public import proofs.«01_k».proof.Defs
public import proofs.«01_k».proof.Proof.Adam
public import proofs.«01_k».proof.Proof.Gen.AdamInIdeal.Value
public import proofs.«01_k».proof.Proof.Gen.AdamInRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Adam

namespace Cert.Proof.AdamIn

open Cert.AdamInIdeal Cert.AdamInIdeal.Gen

variable (m : (ℓ : Loc nD τ sig) → Buf (Elt Ideal) ℓ) (c : Dev nD)

/-- The gradient. -/
abbrev grad : S1024x2696.Idx → EReal := total (m ((c.tc : Thread _ _).loc main_arg0)) (m ((c.tc : Thread _ _).loc main_arg1))

theorem final_total : (dats m 0 c).arrAt 5 cfg0.N = grad m c :=
  (dats m 0 c).arrAt_eq_of_covers 5 _ (by decide +kernel) fun t _ y => by blk_simp; rw [after0_5]; frame_out; rfl

theorem final_changes : (dats m 0 c).arrAt 6 cfg0.N =
    changes (grad m c) (m ((c.tc : Thread _ _).loc main_arg2)) (m ((c.tc : Thread _ _).loc main_arg3)) (m ((c.tc : Thread _ _).loc main_arg4)) :=
  (dats m 0 c).arrAt_eq_of_covers 6 _ (by decide +kernel) fun t _ y => by blk_simp; rw [after0_6]; frame_out; rfl

theorem final_firsts : (dats m 0 c).arrAt 7 cfg0.N = firsts (grad m c) (m ((c.tc : Thread _ _).loc main_arg3)) :=
  (dats m 0 c).arrAt_eq_of_covers 7 _ (by decide +kernel) fun t _ y => by blk_simp; rw [after0_7]; frame_out; rfl

theorem final_seconds : (dats m 0 c).arrAt 8 cfg0.N = seconds (grad m c) (m ((c.tc : Thread _ _).loc main_arg4)) :=
  (dats m 0 c).arrAt_eq_of_covers 8 _ (by decide +kernel) fun t _ y => by blk_simp; rw [after0_8]; frame_out; rfl

theorem frame_reference : Cert.quiescent_AdamInRefIdeal := fun m ρ _ =>
  (θ_run _ _ _).mono (fun r h => ⟨fun c => (h c).2.2.2.2, sem_eq_zero_of_no_sems (by decide) r.2⟩) (Cert.AdamInRefIdeal.Value.run (F := Ideal) m ρ)

theorem algebraic : Cert.algebraic_AdamInIdeal_AdamInRefIdeal := by
  intro m ρ m' ρ' _ hag
  refine ⟨_, _, _, _,
    (θ_run _ _ _).mono (fun r h c => ⟨(h c).1.trans (final_total m c), (h c).2.1.trans (final_changes m c), (h c).2.2.1.trans (final_firsts m c),
      (h c).2.2.2.1.trans (final_seconds m c), (h c).2.2.2.2⟩) (Value.run_blocks m ρ),
    (θ_run _ _ _).mono (fun r h c => ?_) (Cert.AdamInRefIdeal.Value.run (F := Ideal) m' ρ')⟩
  obtain ⟨h0, h1, h2, h3, h4⟩ := hag c
  have hg : total (s := S1024x2696) _ _ = grad m c := congrArg₂ total h0 h1
  exact ⟨(h c).1.trans hg, (h c).2.1.trans (changes_congr hg h2 h3 h4), (h c).2.2.1.trans (congrArg₂ firsts hg h3),
    (h c).2.2.2.1.trans (congrArg₂ seconds hg h4), (h c).2.2.2.2⟩

end Cert.Proof.AdamIn

end
-- ==== Proof.AdamPa.lean ====
/-
  The optimiser's step of one device's shard of the first mixer's projection weight. Each tile of a result is the
  step (`Adam`) of the same tile of the arguments.
-/
module

public import proofs.«01_k».proof.Defs
public import proofs.«01_k».proof.Proof.Adam
public import proofs.«01_k».proof.Proof.Gen.AdamPaIdeal.Value
public import proofs.«01_k».proof.Proof.Gen.AdamPaRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Adam

namespace Cert.Proof.AdamPa

open Cert.AdamPaIdeal Cert.AdamPaIdeal.Gen

variable (m : (ℓ : Loc nD τ sig) → Buf (Elt Ideal) ℓ) (c : Dev nD)

/-- The gradient. -/
abbrev grad : S320x1024.Idx → EReal := total (m ((c.tc : Thread _ _).loc main_arg0)) (m ((c.tc : Thread _ _).loc main_arg1))

theorem final_total : (dats m 0 c).arrAt 5 cfg0.N = grad m c :=
  (dats m 0 c).arrAt_eq_of_covers 5 _ (by decide +kernel) fun t _ y => by blk_simp; rw [after0_5]; frame_out; rfl

theorem final_changes : (dats m 0 c).arrAt 6 cfg0.N =
    changes (grad m c) (m ((c.tc : Thread _ _).loc main_arg2)) (m ((c.tc : Thread _ _).loc main_arg3)) (m ((c.tc : Thread _ _).loc main_arg4)) :=
  (dats m 0 c).arrAt_eq_of_covers 6 _ (by decide +kernel) fun t _ y => by blk_simp; rw [after0_6]; frame_out; rfl

theorem final_firsts : (dats m 0 c).arrAt 7 cfg0.N = firsts (grad m c) (m ((c.tc : Thread _ _).loc main_arg3)) :=
  (dats m 0 c).arrAt_eq_of_covers 7 _ (by decide +kernel) fun t _ y => by blk_simp; rw [after0_7]; frame_out; rfl

theorem final_seconds : (dats m 0 c).arrAt 8 cfg0.N = seconds (grad m c) (m ((c.tc : Thread _ _).loc main_arg4)) :=
  (dats m 0 c).arrAt_eq_of_covers 8 _ (by decide +kernel) fun t _ y => by blk_simp; rw [after0_8]; frame_out; rfl

theorem frame_reference : Cert.quiescent_AdamPaRefIdeal := fun m ρ _ =>
  (θ_run _ _ _).mono (fun r h => ⟨fun c => (h c).2.2.2.2, sem_eq_zero_of_no_sems (by decide) r.2⟩) (Cert.AdamPaRefIdeal.Value.run (F := Ideal) m ρ)

theorem algebraic : Cert.algebraic_AdamPaIdeal_AdamPaRefIdeal := by
  intro m ρ m' ρ' _ hag
  refine ⟨_, _, _, _,
    (θ_run _ _ _).mono (fun r h c => ⟨(h c).1.trans (final_total m c), (h c).2.1.trans (final_changes m c), (h c).2.2.1.trans (final_firsts m c),
      (h c).2.2.2.1.trans (final_seconds m c), (h c).2.2.2.2⟩) (Value.run_blocks m ρ),
    (θ_run _ _ _).mono (fun r h c => ?_) (Cert.AdamPaRefIdeal.Value.run (F := Ideal) m' ρ')⟩
  obtain ⟨h0, h1, h2, h3, h4⟩ := hag c
  have hg : total (s := S320x1024) _ _ = grad m c := congrArg₂ total h0 h1
  exact ⟨(h c).1.trans hg, (h c).2.1.trans (changes_congr hg h2 h3 h4), (h c).2.2.1.trans (congrArg₂ firsts hg h3),
    (h c).2.2.2.1.trans (congrArg₂ seconds hg h4), (h c).2.2.2.2⟩

end Cert.Proof.AdamPa

end
-- ==== Proof.AdamPb.lean ====
/-
  The optimiser's step of one device's shard of the second mixer's projection weight. Each tile of a result is the
  step (`Adam`) of the same tile of the arguments.
-/
module

public import proofs.«01_k».proof.Defs
public import proofs.«01_k».proof.Proof.Adam
public import proofs.«01_k».proof.Proof.Gen.AdamPbIdeal.Value
public import proofs.«01_k».proof.Proof.Gen.AdamPbRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Adam

namespace Cert.Proof.AdamPb

open Cert.AdamPbIdeal Cert.AdamPbIdeal.Gen

variable (m : (ℓ : Loc nD τ sig) → Buf (Elt Ideal) ℓ) (c : Dev nD)

/-- The gradient. -/
abbrev grad : S512x1024.Idx → EReal := total (m ((c.tc : Thread _ _).loc main_arg0)) (m ((c.tc : Thread _ _).loc main_arg1))

theorem final_total : (dats m 0 c).arrAt 5 cfg0.N = grad m c :=
  (dats m 0 c).arrAt_eq_of_covers 5 _ (by decide +kernel) fun t _ y => by blk_simp; rw [after0_5]; frame_out; rfl

theorem final_changes : (dats m 0 c).arrAt 6 cfg0.N =
    changes (grad m c) (m ((c.tc : Thread _ _).loc main_arg2)) (m ((c.tc : Thread _ _).loc main_arg3)) (m ((c.tc : Thread _ _).loc main_arg4)) :=
  (dats m 0 c).arrAt_eq_of_covers 6 _ (by decide +kernel) fun t _ y => by blk_simp; rw [after0_6]; frame_out; rfl

theorem final_firsts : (dats m 0 c).arrAt 7 cfg0.N = firsts (grad m c) (m ((c.tc : Thread _ _).loc main_arg3)) :=
  (dats m 0 c).arrAt_eq_of_covers 7 _ (by decide +kernel) fun t _ y => by blk_simp; rw [after0_7]; frame_out; rfl

theorem final_seconds : (dats m 0 c).arrAt 8 cfg0.N = seconds (grad m c) (m ((c.tc : Thread _ _).loc main_arg4)) :=
  (dats m 0 c).arrAt_eq_of_covers 8 _ (by decide +kernel) fun t _ y => by blk_simp; rw [after0_8]; frame_out; rfl

theorem frame_reference : Cert.quiescent_AdamPbRefIdeal := fun m ρ _ =>
  (θ_run _ _ _).mono (fun r h => ⟨fun c => (h c).2.2.2.2, sem_eq_zero_of_no_sems (by decide) r.2⟩) (Cert.AdamPbRefIdeal.Value.run (F := Ideal) m ρ)

theorem algebraic : Cert.algebraic_AdamPbIdeal_AdamPbRefIdeal := by
  intro m ρ m' ρ' _ hag
  refine ⟨_, _, _, _,
    (θ_run _ _ _).mono (fun r h c => ⟨(h c).1.trans (final_total m c), (h c).2.1.trans (final_changes m c), (h c).2.2.1.trans (final_firsts m c),
      (h c).2.2.2.1.trans (final_seconds m c), (h c).2.2.2.2⟩) (Value.run_blocks m ρ),
    (θ_run _ _ _).mono (fun r h c => ?_) (Cert.AdamPbRefIdeal.Value.run (F := Ideal) m' ρ')⟩
  obtain ⟨h0, h1, h2, h3, h4⟩ := hag c
  have hg : total (s := S512x1024) _ _ = grad m c := congrArg₂ total h0 h1
  exact ⟨(h c).1.trans hg, (h c).2.1.trans (changes_congr hg h2 h3 h4), (h c).2.2.1.trans (congrArg₂ firsts hg h3),
    (h c).2.2.2.1.trans (congrArg₂ seconds hg h4), (h c).2.2.2.2⟩

end Cert.Proof.AdamPb

end
-- ==== Proof.AdamOut.lean ====
/-
  The optimiser's step of one device's shard of the output projection's weight. Each tile of a result is the
  step (`Adam`) of the same tile of the arguments.
-/
module

public import proofs.«01_k».proof.Defs
public import proofs.«01_k».proof.Proof.Adam
public import proofs.«01_k».proof.Proof.Gen.AdamOutIdeal.Value
public import proofs.«01_k».proof.Proof.Gen.AdamOutRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Adam

namespace Cert.Proof.AdamOut

open Cert.AdamOutIdeal Cert.AdamOutIdeal.Gen

variable (m : (ℓ : Loc nD τ sig) → Buf (Elt Ideal) ℓ) (c : Dev nD)

/-- The gradient. -/
abbrev grad : S256x1024.Idx → EReal := total (m ((c.tc : Thread _ _).loc main_arg0)) (m ((c.tc : Thread _ _).loc main_arg1))

theorem final_total : (dats m 0 c).arrAt 5 cfg0.N = grad m c :=
  (dats m 0 c).arrAt_eq_of_covers 5 _ (by decide +kernel) fun t _ y => by blk_simp; rw [after0_5]; frame_out; rfl

theorem final_changes : (dats m 0 c).arrAt 6 cfg0.N =
    changes (grad m c) (m ((c.tc : Thread _ _).loc main_arg2)) (m ((c.tc : Thread _ _).loc main_arg3)) (m ((c.tc : Thread _ _).loc main_arg4)) :=
  (dats m 0 c).arrAt_eq_of_covers 6 _ (by decide +kernel) fun t _ y => by blk_simp; rw [after0_6]; frame_out; rfl

theorem final_firsts : (dats m 0 c).arrAt 7 cfg0.N = firsts (grad m c) (m ((c.tc : Thread _ _).loc main_arg3)) :=
  (dats m 0 c).arrAt_eq_of_covers 7 _ (by decide +kernel) fun t _ y => by blk_simp; rw [after0_7]; frame_out; rfl

theorem final_seconds : (dats m 0 c).arrAt 8 cfg0.N = seconds (grad m c) (m ((c.tc : Thread _ _).loc main_arg4)) :=
  (dats m 0 c).arrAt_eq_of_covers 8 _ (by decide +kernel) fun t _ y => by blk_simp; rw [after0_8]; frame_out; rfl

theorem frame_reference : Cert.quiescent_AdamOutRefIdeal := fun m ρ _ =>
  (θ_run _ _ _).mono (fun r h => ⟨fun c => (h c).2.2.2.2, sem_eq_zero_of_no_sems (by decide) r.2⟩) (Cert.AdamOutRefIdeal.Value.run (F := Ideal) m ρ)

theorem algebraic : Cert.algebraic_AdamOutIdeal_AdamOutRefIdeal := by
  intro m ρ m' ρ' _ hag
  refine ⟨_, _, _, _,
    (θ_run _ _ _).mono (fun r h c => ⟨(h c).1.trans (final_total m c), (h c).2.1.trans (final_changes m c), (h c).2.2.1.trans (final_firsts m c),
      (h c).2.2.2.1.trans (final_seconds m c), (h c).2.2.2.2⟩) (Value.run_blocks m ρ),
    (θ_run _ _ _).mono (fun r h c => ?_) (Cert.AdamOutRefIdeal.Value.run (F := Ideal) m' ρ')⟩
  obtain ⟨h0, h1, h2, h3, h4⟩ := hag c
  have hg : total (s := S256x1024) _ _ = grad m c := congrArg₂ total h0 h1
  exact ⟨(h c).1.trans hg, (h c).2.1.trans (changes_congr hg h2 h3 h4), (h c).2.2.1.trans (congrArg₂ firsts hg h3),
    (h c).2.2.2.1.trans (congrArg₂ seconds hg h4), (h c).2.2.2.2⟩

end Cert.Proof.AdamOut

end
-- ==== Proof.AdamGu.lean ====
/-
  The optimiser's step of one device's shard of a weight of the gated network (the gate's and the other have one shape). Each tile of a result is the
  step (`Adam`) of the same tile of the arguments.
-/
module

public import proofs.«01_k».proof.Defs
public import proofs.«01_k».proof.Proof.Adam
public import proofs.«01_k».proof.Proof.Gen.AdamGuIdeal.Value
public import proofs.«01_k».proof.Proof.Gen.AdamGuRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Adam

namespace Cert.Proof.AdamGu

open Cert.AdamGuIdeal Cert.AdamGuIdeal.Gen

variable (m : (ℓ : Loc nD τ sig) → Buf (Elt Ideal) ℓ) (c : Dev nD)

/-- The gradient. -/
abbrev grad : S1024x704.Idx → EReal := total (m ((c.tc : Thread _ _).loc main_arg0)) (m ((c.tc : Thread _ _).loc main_arg1))

theorem final_total : (dats m 0 c).arrAt 5 cfg0.N = grad m c :=
  (dats m 0 c).arrAt_eq_of_covers 5 _ (by decide +kernel) fun t _ y => by blk_simp; rw [after0_5]; frame_out; rfl

theorem final_changes : (dats m 0 c).arrAt 6 cfg0.N =
    changes (grad m c) (m ((c.tc : Thread _ _).loc main_arg2)) (m ((c.tc : Thread _ _).loc main_arg3)) (m ((c.tc : Thread _ _).loc main_arg4)) :=
  (dats m 0 c).arrAt_eq_of_covers 6 _ (by decide +kernel) fun t _ y => by blk_simp; rw [after0_6]; frame_out; rfl

theorem final_firsts : (dats m 0 c).arrAt 7 cfg0.N = firsts (grad m c) (m ((c.tc : Thread _ _).loc main_arg3)) :=
  (dats m 0 c).arrAt_eq_of_covers 7 _ (by decide +kernel) fun t _ y => by blk_simp; rw [after0_7]; frame_out; rfl

theorem final_seconds : (dats m 0 c).arrAt 8 cfg0.N = seconds (grad m c) (m ((c.tc : Thread _ _).loc main_arg4)) :=
  (dats m 0 c).arrAt_eq_of_covers 8 _ (by decide +kernel) fun t _ y => by blk_simp; rw [after0_8]; frame_out; rfl

theorem frame_reference : Cert.quiescent_AdamGuRefIdeal := fun m ρ _ =>
  (θ_run _ _ _).mono (fun r h => ⟨fun c => (h c).2.2.2.2, sem_eq_zero_of_no_sems (by decide) r.2⟩) (Cert.AdamGuRefIdeal.Value.run (F := Ideal) m ρ)

theorem algebraic : Cert.algebraic_AdamGuIdeal_AdamGuRefIdeal := by
  intro m ρ m' ρ' _ hag
  refine ⟨_, _, _, _,
    (θ_run _ _ _).mono (fun r h c => ⟨(h c).1.trans (final_total m c), (h c).2.1.trans (final_changes m c), (h c).2.2.1.trans (final_firsts m c),
      (h c).2.2.2.1.trans (final_seconds m c), (h c).2.2.2.2⟩) (Value.run_blocks m ρ),
    (θ_run _ _ _).mono (fun r h c => ?_) (Cert.AdamGuRefIdeal.Value.run (F := Ideal) m' ρ')⟩
  obtain ⟨h0, h1, h2, h3, h4⟩ := hag c
  have hg : total (s := S1024x704) _ _ = grad m c := congrArg₂ total h0 h1
  exact ⟨(h c).1.trans hg, (h c).2.1.trans (changes_congr hg h2 h3 h4), (h c).2.2.1.trans (congrArg₂ firsts hg h3),
    (h c).2.2.2.1.trans (congrArg₂ seconds hg h4), (h c).2.2.2.2⟩

end Cert.Proof.AdamGu

end
-- ==== Proof.AdamDown.lean ====
/-
  The optimiser's step of one device's shard of the gated network's last weight. Each tile of a result is the
  step (`Adam`) of the same tile of the arguments.
-/
module

public import proofs.«01_k».proof.Defs
public import proofs.«01_k».proof.Proof.Adam
public import proofs.«01_k».proof.Proof.Gen.AdamDownIdeal.Value
public import proofs.«01_k».proof.Proof.Gen.AdamDownRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Adam

namespace Cert.Proof.AdamDown

open Cert.AdamDownIdeal Cert.AdamDownIdeal.Gen

variable (m : (ℓ : Loc nD τ sig) → Buf (Elt Ideal) ℓ) (c : Dev nD)

/-- The gradient. -/
abbrev grad : S704x1024.Idx → EReal := total (m ((c.tc : Thread _ _).loc main_arg0)) (m ((c.tc : Thread _ _).loc main_arg1))

theorem final_total : (dats m 0 c).arrAt 5 cfg0.N = grad m c :=
  (dats m 0 c).arrAt_eq_of_covers 5 _ (by decide +kernel) fun t _ y => by blk_simp; rw [after0_5]; frame_out; rfl

theorem final_changes : (dats m 0 c).arrAt 6 cfg0.N =
    changes (grad m c) (m ((c.tc : Thread _ _).loc main_arg2)) (m ((c.tc : Thread _ _).loc main_arg3)) (m ((c.tc : Thread _ _).loc main_arg4)) :=
  (dats m 0 c).arrAt_eq_of_covers 6 _ (by decide +kernel) fun t _ y => by blk_simp; rw [after0_6]; frame_out; rfl

theorem final_firsts : (dats m 0 c).arrAt 7 cfg0.N = firsts (grad m c) (m ((c.tc : Thread _ _).loc main_arg3)) :=
  (dats m 0 c).arrAt_eq_of_covers 7 _ (by decide +kernel) fun t _ y => by blk_simp; rw [after0_7]; frame_out; rfl

theorem final_seconds : (dats m 0 c).arrAt 8 cfg0.N = seconds (grad m c) (m ((c.tc : Thread _ _).loc main_arg4)) :=
  (dats m 0 c).arrAt_eq_of_covers 8 _ (by decide +kernel) fun t _ y => by blk_simp; rw [after0_8]; frame_out; rfl

theorem frame_reference : Cert.quiescent_AdamDownRefIdeal := fun m ρ _ =>
  (θ_run _ _ _).mono (fun r h => ⟨fun c => (h c).2.2.2.2, sem_eq_zero_of_no_sems (by decide) r.2⟩) (Cert.AdamDownRefIdeal.Value.run (F := Ideal) m ρ)

theorem algebraic : Cert.algebraic_AdamDownIdeal_AdamDownRefIdeal := by
  intro m ρ m' ρ' _ hag
  refine ⟨_, _, _, _,
    (θ_run _ _ _).mono (fun r h c => ⟨(h c).1.trans (final_total m c), (h c).2.1.trans (final_changes m c), (h c).2.2.1.trans (final_firsts m c),
      (h c).2.2.2.1.trans (final_seconds m c), (h c).2.2.2.2⟩) (Value.run_blocks m ρ),
    (θ_run _ _ _).mono (fun r h c => ?_) (Cert.AdamDownRefIdeal.Value.run (F := Ideal) m' ρ')⟩
  obtain ⟨h0, h1, h2, h3, h4⟩ := hag c
  have hg : total (s := S704x1024) _ _ = grad m c := congrArg₂ total h0 h1
  exact ⟨(h c).1.trans hg, (h c).2.1.trans (changes_congr hg h2 h3 h4), (h c).2.2.1.trans (congrArg₂ firsts hg h3),
    (h c).2.2.2.1.trans (congrArg₂ seconds hg h4), (h c).2.2.2.2⟩

end Cert.Proof.AdamDown

end
-- ==== Proof.AdamAda.lean ====
/-
  The optimiser's step of one device's shard of the weight of the modulation's parameters, whose gradient has one part. Each tile of a result is the
  step (`Adam`) of the same tile of the arguments.
-/
module

public import proofs.«01_k».proof.Defs
public import proofs.«01_k».proof.Proof.Adam
public import proofs.«01_k».proof.Proof.Gen.AdamAdaIdeal.Value
public import proofs.«01_k».proof.Proof.Gen.AdamAdaRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Adam

namespace Cert.Proof.AdamAda

open Cert.AdamAdaIdeal Cert.AdamAdaIdeal.Gen

variable (m : (ℓ : Loc nD τ sig) → Buf (Elt Ideal) ℓ) (c : Dev nD)

/-- The gradient. -/
abbrev grad : S1024x1536.Idx → EReal := m ((c.tc : Thread _ _).loc main_arg0)

theorem final_total : (dats m 0 c).arrAt 4 cfg0.N = grad m c :=
  (dats m 0 c).arrAt_eq_of_covers 4 _ (by decide +kernel) fun t _ y => by blk_simp; rw [after0_4]; frame_out; rfl

theorem final_changes : (dats m 0 c).arrAt 5 cfg0.N =
    changes (grad m c) (m ((c.tc : Thread _ _).loc main_arg1)) (m ((c.tc : Thread _ _).loc main_arg2)) (m ((c.tc : Thread _ _).loc main_arg3)) :=
  (dats m 0 c).arrAt_eq_of_covers 5 _ (by decide +kernel) fun t _ y => by blk_simp; rw [after0_5]; frame_out; rfl

theorem final_firsts : (dats m 0 c).arrAt 6 cfg0.N = firsts (grad m c) (m ((c.tc : Thread _ _).loc main_arg2)) :=
  (dats m 0 c).arrAt_eq_of_covers 6 _ (by decide +kernel) fun t _ y => by blk_simp; rw [after0_6]; frame_out; rfl

theorem final_seconds : (dats m 0 c).arrAt 7 cfg0.N = seconds (grad m c) (m ((c.tc : Thread _ _).loc main_arg3)) :=
  (dats m 0 c).arrAt_eq_of_covers 7 _ (by decide +kernel) fun t _ y => by blk_simp; rw [after0_7]; frame_out; rfl

theorem frame_reference : Cert.quiescent_AdamAdaRefIdeal := fun m ρ _ =>
  (θ_run _ _ _).mono (fun r h => ⟨fun c => (h c).2.2.2.2, sem_eq_zero_of_no_sems (by decide) r.2⟩) (Cert.AdamAdaRefIdeal.Value.run (F := Ideal) m ρ)

theorem algebraic : Cert.algebraic_AdamAdaIdeal_AdamAdaRefIdeal := by
  intro m ρ m' ρ' _ hag
  refine ⟨_, _, _, _,
    (θ_run _ _ _).mono (fun r h c => ⟨(h c).1.trans (final_total m c), (h c).2.1.trans (final_changes m c), (h c).2.2.1.trans (final_firsts m c),
      (h c).2.2.2.1.trans (final_seconds m c), (h c).2.2.2.2⟩) (Value.run_blocks m ρ),
    (θ_run _ _ _).mono (fun r h c => ?_) (Cert.AdamAdaRefIdeal.Value.run (F := Ideal) m' ρ')⟩
  obtain ⟨hg, h2, h3, h4⟩ := hag c
  exact ⟨(h c).1.trans hg, (h c).2.1.trans (changes_congr hg h2 h3 h4), (h c).2.2.1.trans (congrArg₂ firsts hg h3),
    (h c).2.2.2.1.trans (congrArg₂ seconds hg h4), (h c).2.2.2.2⟩

end Cert.Proof.AdamAda

end
-- ==== Proof.Pack.lean ====
/-
  The layout of the eighteen small parameters in one array of 1920 rows of 128: each flat, filled up to whole groups of 8 rows, one
  after the other, and 56 rows at the end. It is the same layout at every type of element, and a function of the elements goes
  through it (`packed_map`); so a step of packed arrays, element by element, is the packed step (`packed_map₂` and its like).
-/
module

public import Idealize.ShloMosaic.Lib.Pointwise
public import Idealize.ShloMosaic.Lib.Tactic
public import Idealize.ShloMosaic.Lib.Pipeline.ReadBack
public import Idealize.ShloMosaic.Lib.Pipeline.ValueKit

@[expose] public section

set_option maxRecDepth 16384

noncomputable section

open Idealize.ShloMosaic Idealize.ShloMosaic.StableHlo

namespace Cert.Proof.Pack

/-- A function of the elements goes through a concatenation. -/
theorem concatenate_map {α β : Type} (f : α → β) (t : Shape) (a : Fin t.rank) (j : t.Idx) (xs : List ((s : Shape) × (s.Idx → α)))
    (h : Shape.Concatenates (xs.map (·.1)) t a)
    (h' : Shape.Concatenates ((xs.map fun p => (⟨p.1, fun i => f (p.2 i)⟩ : (s : Shape) × (s.Idx → β))).map (·.1)) t a) :
    f (concatenate t a xs h j) = concatenate t a (xs.map fun p => ⟨p.1, fun i => f (p.2 i)⟩) h' j := by
  rw [concatenate_apply, concatenate_apply]
  generalize_proofs p1 p2 p3 p4
  clear h h'
  revert p1 p2 p3 p4
  generalize (j a).val = c
  induction xs generalizing c with
  | nil => intro _ hc; exact absurd hc (Nat.not_lt_zero _)
  | cons p xs ih =>
    obtain ⟨s, x⟩ := p
    intro p1 p2 p3 p4
    cases xs with
    | nil => simp only [List.map, concatenateAt_singleton]
    | cons q xs =>
      simp only [List.map, concatenateAt_cons]
      split_ifs
      · rfl
      · exact ih _ _ _ _ _

/-- A function of the elements goes through a padding. -/
theorem pad_map {α β : Type} (f : α → β) {s : Shape} (t : Shape) (lo hi interior : Fin s.rank → Nat) (x : s.Idx → α) {u : Shape} (v : u.Idx → α)
    (h : s.Pads lo hi interior t) (hu : 0 < u.numel) (j : t.Idx) :
    f (pad t lo hi interior x v h hu j) = pad t lo hi interior (fun i => f (x i)) (fun i => f (v i)) h hu j := by
  unfold pad
  split_ifs <;> rfl

/-- The parameters' shapes. -/
abbrev sh : Fin 18 → Shape := ![⟨2, ![4, 320]⟩, ⟨2, ![4, 1024]⟩, ⟨2, ![3, 704]⟩, ⟨1, ![6144]⟩, ⟨1, ![1280]⟩, ⟨3, ![16, 80, 80]⟩, ⟨1, ![1280]⟩, ⟨3, ![16, 80, 80]⟩, ⟨1, ![1280]⟩,
  ⟨1, ![1280]⟩, ⟨1, ![16]⟩, ⟨1, ![16]⟩, ⟨1, ![128]⟩, ⟨1, ![1024]⟩, ⟨1, ![1024]⟩, ⟨1, ![2816]⟩, ⟨1, ![1024]⟩, ⟨1, ![1024]⟩]

/-- An array's elements in one row. -/
def flat {α : Type} {s : Shape} (n : ℕ) (x : s.Idx → α) (h : s.ShapeCasts ⟨1, ![n]⟩ := by decide) : (⟨1, ![n]⟩ : Shape).Idx → α := shapeCast _ x h

theorem flat_map {α β : Type} {s : Shape} (f : α → β) (n : ℕ) (x : s.Idx → α) (h) :
    (fun i => f (flat n x h i)) = flat n (fun i => f (x i)) h := rfl

/-- The array itself, where it is one row already. -/
def line {α : Type} {s : Shape} (n : ℕ) (x : s.Idx → α) (h : s = ⟨1, ![n]⟩ := by rfl) : (⟨1, ![n]⟩ : Shape).Idx → α := h ▸ x

theorem line_map {α β : Type} {s : Shape} (f : α → β) (n : ℕ) (x : s.Idx → α) (h) :
    (fun i => f (line n x h i)) = line n (fun i => f (x i)) h := by subst h; rfl

/-- `n` elements with `k` elements `z` after them, as `r` rows of 128. -/
def rows {α : Type} (n k w r : ℕ) (z : α) (x : (⟨1, ![n]⟩ : Shape).Idx → α)
    (h2 : (⟨1, ![n]⟩ : Shape).Pads ![0] ![k] ![0] ⟨1, ![w]⟩ := by decide)
    (h3 : (⟨1, ![w]⟩ : Shape).ShapeCasts ⟨2, ![r, 128]⟩ := by decide) : (⟨2, ![r, 128]⟩ : Shape).Idx → α :=
  shapeCast _ (pad ⟨1, ![w]⟩ ![0] ![k] ![0] x (fun _ : (⟨0, ![]⟩ : Shape).Idx => z) h2) h3

theorem rows_map {α β : Type} (f : α → β) (n k w r : ℕ) (z : α) (x : (⟨1, ![n]⟩ : Shape).Idx → α) (h2) (h3) :
    (fun i => f (rows n k w r z x h2 h3 i)) = rows n k w r (f z) (fun i => f (x i)) h2 h3 := by
  unfold rows shapeCast
  exact funext fun i => pad_map f _ _ _ _ _ _ _ _ _

theorem fits_front : Shape.Concatenates [⟨2, ![16, 128]⟩, ⟨2, ![32, 128]⟩, ⟨2, ![24, 128]⟩, ⟨2, ![48, 128]⟩, ⟨2, ![16, 128]⟩, ⟨2, ![800, 128]⟩, ⟨2, ![16, 128]⟩, ⟨2, ![800, 128]⟩,
    ⟨2, ![16, 128]⟩, ⟨2, ![16, 128]⟩, ⟨2, ![8, 128]⟩, ⟨2, ![8, 128]⟩, ⟨2, ![8, 128]⟩, ⟨2, ![8, 128]⟩, ⟨2, ![8, 128]⟩, ⟨2, ![24, 128]⟩] ⟨2, ![1848, 128]⟩ 0 := by
  decide

theorem fits_back : Shape.Concatenates [⟨2, ![8, 128]⟩, ⟨2, ![8, 128]⟩, ⟨2, ![56, 128]⟩] ⟨2, ![72, 128]⟩ 0 := by decide

theorem fits : Shape.Concatenates [⟨2, ![1848, 128]⟩, ⟨2, ![72, 128]⟩] ⟨2, ![1920, 128]⟩ 0 := by decide

variable {α β : Type}

/-- The first sixteen parameters' rows. -/
def front (z : α) (x : (n : Fin 18) → (sh n).Idx → α) : (⟨2, ![1848, 128]⟩ : Shape).Idx → α :=
  concatenate ⟨2, ![1848, 128]⟩ 0 [
    ⟨⟨2, ![16, 128]⟩, rows 1280 768 2048 16 z (flat 1280 (x 0))⟩, ⟨⟨2, ![32, 128]⟩, rows 4096 0 4096 32 z (flat 4096 (x 1))⟩, ⟨⟨2, ![24, 128]⟩, rows 2112 960 3072 24 z (flat 2112 (x 2))⟩,
    ⟨⟨2, ![48, 128]⟩, rows 6144 0 6144 48 z (line 6144 (x 3))⟩, ⟨⟨2, ![16, 128]⟩, rows 1280 768 2048 16 z (line 1280 (x 4))⟩, ⟨⟨2, ![800, 128]⟩, rows 102400 0 102400 800 z (flat 102400 (x 5))⟩,
    ⟨⟨2, ![16, 128]⟩, rows 1280 768 2048 16 z (line 1280 (x 6))⟩, ⟨⟨2, ![800, 128]⟩, rows 102400 0 102400 800 z (flat 102400 (x 7))⟩, ⟨⟨2, ![16, 128]⟩, rows 1280 768 2048 16 z (line 1280 (x 8))⟩,
    ⟨⟨2, ![16, 128]⟩, rows 1280 768 2048 16 z (line 1280 (x 9))⟩, ⟨⟨2, ![8, 128]⟩, rows 16 1008 1024 8 z (line 16 (x 10))⟩, ⟨⟨2, ![8, 128]⟩, rows 16 1008 1024 8 z (line 16 (x 11))⟩,
    ⟨⟨2, ![8, 128]⟩, rows 128 896 1024 8 z (line 128 (x 12))⟩, ⟨⟨2, ![8, 128]⟩, rows 1024 0 1024 8 z (line 1024 (x 13))⟩, ⟨⟨2, ![8, 128]⟩, rows 1024 0 1024 8 z (line 1024 (x 14))⟩,
    ⟨⟨2, ![24, 128]⟩, rows 2816 256 3072 24 z (line 2816 (x 15))⟩] fits_front

/-- The rows after them. -/
def back (z e : α) (x : (n : Fin 18) → (sh n).Idx → α) : (⟨2, ![72, 128]⟩ : Shape).Idx → α :=
  concatenate ⟨2, ![72, 128]⟩ 0 [
    ⟨⟨2, ![8, 128]⟩, rows 1024 0 1024 8 z (line 1024 (x 16))⟩, ⟨⟨2, ![8, 128]⟩, rows 1024 0 1024 8 z (line 1024 (x 17))⟩, ⟨⟨2, ![56, 128]⟩, fun _ => e⟩] fits_back

/-- The packed array, each parameter filled up with `z`, and `e` at the end. -/
def laid (z e : α) (x : (n : Fin 18) → (sh n).Idx → α) : (⟨2, ![1920, 128]⟩ : Shape).Idx → α :=
  concatenate ⟨2, ![1920, 128]⟩ 0 [⟨⟨2, ![1848, 128]⟩, front z x⟩, ⟨⟨2, ![72, 128]⟩, back z e x⟩] fits

/-- The packed array, filled up with `z` throughout. -/
def packed (z : α) (x : (n : Fin 18) → (sh n).Idx → α) : (⟨2, ![1920, 128]⟩ : Shape).Idx → α := laid z z x

/-- The layout, part by part. -/
theorem front_of {z : α} {x : (n : Fin 18) → (sh n).Idx → α}
    {y0 : (⟨2, ![16, 128]⟩ : Shape).Idx → α} {y1 : (⟨2, ![32, 128]⟩ : Shape).Idx → α} {y2 : (⟨2, ![24, 128]⟩ : Shape).Idx → α}
    {y3 : (⟨2, ![48, 128]⟩ : Shape).Idx → α} {y4 : (⟨2, ![16, 128]⟩ : Shape).Idx → α} {y5 : (⟨2, ![800, 128]⟩ : Shape).Idx → α}
    {y6 : (⟨2, ![16, 128]⟩ : Shape).Idx → α} {y7 : (⟨2, ![800, 128]⟩ : Shape).Idx → α} {y8 : (⟨2, ![16, 128]⟩ : Shape).Idx → α}
    {y9 : (⟨2, ![16, 128]⟩ : Shape).Idx → α} {y10 : (⟨2, ![8, 128]⟩ : Shape).Idx → α} {y11 : (⟨2, ![8, 128]⟩ : Shape).Idx → α}
    {y12 : (⟨2, ![8, 128]⟩ : Shape).Idx → α} {y13 : (⟨2, ![8, 128]⟩ : Shape).Idx → α} {y14 : (⟨2, ![8, 128]⟩ : Shape).Idx → α}
    {y15 : (⟨2, ![24, 128]⟩ : Shape).Idx → α}
    (h0 : y0 = rows 1280 768 2048 16 z (flat 1280 (x 0))) (h1 : y1 = rows 4096 0 4096 32 z (flat 4096 (x 1)))
    (h2 : y2 = rows 2112 960 3072 24 z (flat 2112 (x 2))) (h3 : y3 = rows 6144 0 6144 48 z (line 6144 (x 3)))
    (h4 : y4 = rows 1280 768 2048 16 z (line 1280 (x 4))) (h5 : y5 = rows 102400 0 102400 800 z (flat 102400 (x 5)))
    (h6 : y6 = rows 1280 768 2048 16 z (line 1280 (x 6))) (h7 : y7 = rows 102400 0 102400 800 z (flat 102400 (x 7)))
    (h8 : y8 = rows 1280 768 2048 16 z (line 1280 (x 8))) (h9 : y9 = rows 1280 768 2048 16 z (line 1280 (x 9)))
    (h10 : y10 = rows 16 1008 1024 8 z (line 16 (x 10))) (h11 : y11 = rows 16 1008 1024 8 z (line 16 (x 11)))
    (h12 : y12 = rows 128 896 1024 8 z (line 128 (x 12))) (h13 : y13 = rows 1024 0 1024 8 z (line 1024 (x 13)))
    (h14 : y14 = rows 1024 0 1024 8 z (line 1024 (x 14))) (h15 : y15 = rows 2816 256 3072 24 z (line 2816 (x 15))) :
    concatenate ⟨2, ![1848, 128]⟩ 0 [⟨⟨2, ![16, 128]⟩, y0⟩, ⟨⟨2, ![32, 128]⟩, y1⟩, ⟨⟨2, ![24, 128]⟩, y2⟩, ⟨⟨2, ![48, 128]⟩, y3⟩, ⟨⟨2, ![16, 128]⟩, y4⟩, ⟨⟨2, ![800, 128]⟩, y5⟩,
      ⟨⟨2, ![16, 128]⟩, y6⟩, ⟨⟨2, ![800, 128]⟩, y7⟩, ⟨⟨2, ![16, 128]⟩, y8⟩, ⟨⟨2, ![16, 128]⟩, y9⟩, ⟨⟨2, ![8, 128]⟩, y10⟩, ⟨⟨2, ![8, 128]⟩, y11⟩,
      ⟨⟨2, ![8, 128]⟩, y12⟩, ⟨⟨2, ![8, 128]⟩, y13⟩, ⟨⟨2, ![8, 128]⟩, y14⟩, ⟨⟨2, ![24, 128]⟩, y15⟩] fits_front = front z x := by
  subst h0 h1 h2 h3 h4 h5 h6 h7 h8 h9 h10 h11 h12 h13 h14 h15; rfl

theorem back_of {z e : α} {x : (n : Fin 18) → (sh n).Idx → α}
    {y0 : (⟨2, ![8, 128]⟩ : Shape).Idx → α} {y1 : (⟨2, ![8, 128]⟩ : Shape).Idx → α} {y2 : (⟨2, ![56, 128]⟩ : Shape).Idx → α}
    (h0 : y0 = rows 1024 0 1024 8 z (line 1024 (x 16))) (h1 : y1 = rows 1024 0 1024 8 z (line 1024 (x 17))) (h2 : y2 = fun _ => e) :
    concatenate ⟨2, ![72, 128]⟩ 0 [⟨⟨2, ![8, 128]⟩, y0⟩, ⟨⟨2, ![8, 128]⟩, y1⟩, ⟨⟨2, ![56, 128]⟩, y2⟩] fits_back = back z e x := by
  subst h0 h1 h2; rfl

theorem laid_of {z e : α} {x : (n : Fin 18) → (sh n).Idx → α} {y : (⟨2, ![1848, 128]⟩ : Shape).Idx → α} {y' : (⟨2, ![72, 128]⟩ : Shape).Idx → α}
    (h : y = front z x) (h' : y' = back z e x) :
    concatenate ⟨2, ![1920, 128]⟩ 0 [⟨⟨2, ![1848, 128]⟩, y⟩, ⟨⟨2, ![72, 128]⟩, y'⟩] fits = laid z e x := by
  subst h h'; rfl

/-- Eighteen arrays, one for each parameter. -/
def family (x0 : (sh 0).Idx → α) (x1 : (sh 1).Idx → α) (x2 : (sh 2).Idx → α) (x3 : (sh 3).Idx → α) (x4 : (sh 4).Idx → α) (x5 : (sh 5).Idx → α)
    (x6 : (sh 6).Idx → α) (x7 : (sh 7).Idx → α) (x8 : (sh 8).Idx → α) (x9 : (sh 9).Idx → α) (x10 : (sh 10).Idx → α) (x11 : (sh 11).Idx → α)
    (x12 : (sh 12).Idx → α) (x13 : (sh 13).Idx → α) (x14 : (sh 14).Idx → α) (x15 : (sh 15).Idx → α) (x16 : (sh 16).Idx → α) (x17 : (sh 17).Idx → α) :
    (n : Fin 18) → (sh n).Idx → α
  | ⟨0, _⟩ => x0 | ⟨1, _⟩ => x1 | ⟨2, _⟩ => x2 | ⟨3, _⟩ => x3 | ⟨4, _⟩ => x4 | ⟨5, _⟩ => x5 | ⟨6, _⟩ => x6 | ⟨7, _⟩ => x7
  | ⟨8, _⟩ => x8 | ⟨9, _⟩ => x9 | ⟨10, _⟩ => x10 | ⟨11, _⟩ => x11 | ⟨12, _⟩ => x12 | ⟨13, _⟩ => x13 | ⟨14, _⟩ => x14
  | ⟨15, _⟩ => x15 | ⟨16, _⟩ => x16 | ⟨17, _⟩ => x17 | ⟨k + 18, h⟩ => absurd h (by omega)

theorem front_map (f : α → β) (z : α) (x : (n : Fin 18) → (sh n).Idx → α) : (fun i => f (front z x i)) = front (f z) fun n i => f (x n i) :=
  (funext fun i => concatenate_map f _ _ i _ (by exact fits_front) (by exact fits_front)).trans
    (concatenate_congr _ _ (by simp only [List.map, rows_map, flat_map, line_map]) (by exact fits_front) (by exact fits_front))

theorem back_map (f : α → β) (z : α) (x : (n : Fin 18) → (sh n).Idx → α) : (fun i => f (back z z x i)) = back (f z) (f z) fun n i => f (x n i) :=
  (funext fun i => concatenate_map f _ _ i _ (by exact fits_back) (by exact fits_back)).trans
    (concatenate_congr _ _ (by simp only [List.map, rows_map, flat_map, line_map]) (by exact fits_back) (by exact fits_back))

/-- A function of the elements goes through the layout. -/
theorem packed_map (f : α → β) (z : α) (x : (n : Fin 18) → (sh n).Idx → α) :
    (fun i => f (packed z x i)) = packed (f z) fun n i => f (x n i) :=
  (funext fun i => concatenate_map f _ _ i _ (by exact fits) (by exact fits)).trans
    (concatenate_congr _ _ (by simp only [List.map, front_map, back_map]) (by exact fits) (by exact fits))

/-- So does a function of the elements of two arrays. -/
theorem packed_map₂ {γ : Type} (f : α → β → γ) (z : α) (z' : β) (x : (n : Fin 18) → (sh n).Idx → α) (y : (n : Fin 18) → (sh n).Idx → β) :
    (fun i => f (packed z x i) (packed z' y i)) = packed (f z z') fun n i => f (x n i) (y n i) :=
  let w : (n : Fin 18) → (sh n).Idx → α × β := fun n i => (x n i, y n i)
  funext fun i => (congrArg₂ f (congrFun (packed_map Prod.fst (z, z') w) i).symm (congrFun (packed_map Prod.snd (z, z') w) i).symm).trans
    (congrFun (packed_map (fun p : α × β => f p.1 p.2) (z, z') w) i)

/-- So does a function of the elements of four. -/
theorem packed_map₄ {γ δ ε : Type} (f : α → β → γ → δ → ε) (z : α) (z' : β) (z'' : γ) (z''' : δ) (x : (n : Fin 18) → (sh n).Idx → α)
    (y : (n : Fin 18) → (sh n).Idx → β) (u : (n : Fin 18) → (sh n).Idx → γ) (v : (n : Fin 18) → (sh n).Idx → δ) :
    (fun i => f (packed z x i) (packed z' y i) (packed z'' u i) (packed z''' v i)) =
      packed (f z z' z'' z''') fun n i => f (x n i) (y n i) (u n i) (v n i) := by
  have h2 := congrFun (packed_map₂ (fun a b => (a, b)) z z' x y)
  have h3 := congrFun (packed_map₂ (fun a b => (a, b)) z'' z''' u v)
  have h := packed_map₂ (fun (p : α × β) (q : γ × δ) => f p.1 p.2 q.1 q.2) (z, z') (z'', z''') (fun n i => (x n i, y n i)) (fun n i => (u n i, v n i))
  rw [← h]
  funext i
  rw [← h2 i, ← h3 i]

theorem family_congr
    {x0 y0 : (sh 0).Idx → α} {x1 y1 : (sh 1).Idx → α} {x2 y2 : (sh 2).Idx → α} {x3 y3 : (sh 3).Idx → α} {x4 y4 : (sh 4).Idx → α}
    {x5 y5 : (sh 5).Idx → α} {x6 y6 : (sh 6).Idx → α} {x7 y7 : (sh 7).Idx → α} {x8 y8 : (sh 8).Idx → α} {x9 y9 : (sh 9).Idx → α}
    {x10 y10 : (sh 10).Idx → α} {x11 y11 : (sh 11).Idx → α} {x12 y12 : (sh 12).Idx → α} {x13 y13 : (sh 13).Idx → α} {x14 y14 : (sh 14).Idx → α}
    {x15 y15 : (sh 15).Idx → α} {x16 y16 : (sh 16).Idx → α} {x17 y17 : (sh 17).Idx → α}
    (h0 : x0 = y0) (h1 : x1 = y1) (h2 : x2 = y2) (h3 : x3 = y3) (h4 : x4 = y4) (h5 : x5 = y5) (h6 : x6 = y6) (h7 : x7 = y7) (h8 : x8 = y8)
    (h9 : x9 = y9) (h10 : x10 = y10) (h11 : x11 = y11) (h12 : x12 = y12) (h13 : x13 = y13) (h14 : x14 = y14) (h15 : x15 = y15) (h16 : x16 = y16)
    (h17 : x17 = y17) :
    family x0 x1 x2 x3 x4 x5 x6 x7 x8 x9 x10 x11 x12 x13 x14 x15 x16 x17 = family y0 y1 y2 y3 y4 y5 y6 y7 y8 y9 y10 y11 y12 y13 y14 y15 y16 y17 := by
  subst h0 h1 h2 h3 h4 h5 h6 h7 h8 h9 h10 h11 h12 h13 h14 h15 h16 h17; rfl

end Cert.Proof.Pack

end
-- ==== Proof.AdamSmall.lean ====
/-
  The optimiser's step of the eighteen small parameters, packed in one array (`Pack`). Each tile of a result is the step (`Adam`) of
  the same tile of the packed arguments; the step goes through the layout, since it takes zeros to zero.
-/
module

public import proofs.«01_k».proof.Defs
public import proofs.«01_k».proof.Proof.Adam
public import proofs.«01_k».proof.Proof.Pack
public import proofs.«01_k».proof.Proof.Gen.AdamSmallIdeal.Value
public import proofs.«01_k».proof.Proof.Gen.AdamSmallRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Adam Cert.Proof.Pack

namespace Cert.Proof.AdamSmall

/-- The number the parameters are filled up with. -/
theorem fill_zero : (FloatOps.sitofp (F := Ideal) .f32 (0#32 : BitVec 32) : EReal) = 0 := by simp [FloatOps.sitofp]

theorem laid_zero (x : (n : Fin 18) → (sh n).Idx → EReal) :
    laid (FloatOps.sitofp (F := Ideal) .f32 (0#32 : BitVec 32)) (Ideal.ofBits .f32 0x00000000#32) x = packed 0 x := by
  rw [fill_zero, Ideal.ofBits_zero_f32]; rfl

/-- The steps of packed arrays are the packed steps. -/
theorem packed_firsts (g u : (n : Fin 18) → (sh n).Idx → EReal) : firsts (packed 0 g) (packed 0 u) = packed 0 fun n => firsts (g n) (u n) := by
  have h := packed_map₂ Adam.first 0 0 g u
  rw [first_zero] at h
  exact h

theorem packed_seconds (g v : (n : Fin 18) → (sh n).Idx → EReal) : seconds (packed 0 g) (packed 0 v) = packed 0 fun n => seconds (g n) (v n) := by
  have h := packed_map₂ Adam.second 0 0 g v
  rw [second_zero] at h
  exact h

theorem packed_changes (g w u v : (n : Fin 18) → (sh n).Idx → EReal) :
    changes (packed 0 g) (packed 0 w) (packed 0 u) (packed 0 v) = packed 0 fun n => changes (g n) (w n) (u n) (v n) := by
  have h := packed_map₄ Adam.change 0 0 0 0 g w u v
  rw [change_zero] at h
  exact h

section

open Cert.AdamSmallIdeal Cert.AdamSmallIdeal.Gen

variable (m : (ℓ : Loc nD τ sig) → Buf (Elt Ideal) ℓ) (c : Dev nD)

/-- The gradients. -/
abbrev grads : (n : Fin 18) → (sh n).Idx → EReal :=
  family (m ((c.tc : Thread _ _).loc main_arg0)) (m ((c.tc : Thread _ _).loc main_arg1)) (m ((c.tc : Thread _ _).loc main_arg2))
  (m ((c.tc : Thread _ _).loc main_arg3)) (m ((c.tc : Thread _ _).loc main_arg4)) (m ((c.tc : Thread _ _).loc main_arg5))
  (m ((c.tc : Thread _ _).loc main_arg6)) (m ((c.tc : Thread _ _).loc main_arg7)) (m ((c.tc : Thread _ _).loc main_arg8))
  (m ((c.tc : Thread _ _).loc main_arg9)) (m ((c.tc : Thread _ _).loc main_arg10)) (m ((c.tc : Thread _ _).loc main_arg11))
  (m ((c.tc : Thread _ _).loc main_arg12)) (m ((c.tc : Thread _ _).loc main_arg13)) (m ((c.tc : Thread _ _).loc main_arg14))
  (m ((c.tc : Thread _ _).loc main_arg15)) (m ((c.tc : Thread _ _).loc main_arg16)) (m ((c.tc : Thread _ _).loc main_arg17))

/-- The parameters. -/
abbrev params : (n : Fin 18) → (sh n).Idx → EReal :=
  family (m ((c.tc : Thread _ _).loc main_arg18)) (m ((c.tc : Thread _ _).loc main_arg19)) (m ((c.tc : Thread _ _).loc main_arg20))
  (m ((c.tc : Thread _ _).loc main_arg21)) (m ((c.tc : Thread _ _).loc main_arg22)) (m ((c.tc : Thread _ _).loc main_arg23))
  (m ((c.tc : Thread _ _).loc main_arg24)) (m ((c.tc : Thread _ _).loc main_arg25)) (m ((c.tc : Thread _ _).loc main_arg26))
  (m ((c.tc : Thread _ _).loc main_arg27)) (m ((c.tc : Thread _ _).loc main_arg28)) (m ((c.tc : Thread _ _).loc main_arg29))
  (m ((c.tc : Thread _ _).loc main_arg30)) (m ((c.tc : Thread _ _).loc main_arg31)) (m ((c.tc : Thread _ _).loc main_arg32))
  (m ((c.tc : Thread _ _).loc main_arg33)) (m ((c.tc : Thread _ _).loc main_arg34)) (m ((c.tc : Thread _ _).loc main_arg35))

/-- The first moments. -/
abbrev means : (n : Fin 18) → (sh n).Idx → EReal :=
  family (m ((c.tc : Thread _ _).loc main_arg36)) (m ((c.tc : Thread _ _).loc main_arg37)) (m ((c.tc : Thread _ _).loc main_arg38))
  (m ((c.tc : Thread _ _).loc main_arg39)) (m ((c.tc : Thread _ _).loc main_arg40)) (m ((c.tc : Thread _ _).loc main_arg41))
  (m ((c.tc : Thread _ _).loc main_arg42)) (m ((c.tc : Thread _ _).loc main_arg43)) (m ((c.tc : Thread _ _).loc main_arg44))
  (m ((c.tc : Thread _ _).loc main_arg45)) (m ((c.tc : Thread _ _).loc main_arg46)) (m ((c.tc : Thread _ _).loc main_arg47))
  (m ((c.tc : Thread _ _).loc main_arg48)) (m ((c.tc : Thread _ _).loc main_arg49)) (m ((c.tc : Thread _ _).loc main_arg50))
  (m ((c.tc : Thread _ _).loc main_arg51)) (m ((c.tc : Thread _ _).loc main_arg52)) (m ((c.tc : Thread _ _).loc main_arg53))

/-- The second moments. -/
abbrev squares : (n : Fin 18) → (sh n).Idx → EReal :=
  family (m ((c.tc : Thread _ _).loc main_arg54)) (m ((c.tc : Thread _ _).loc main_arg55)) (m ((c.tc : Thread _ _).loc main_arg56))
  (m ((c.tc : Thread _ _).loc main_arg57)) (m ((c.tc : Thread _ _).loc main_arg58)) (m ((c.tc : Thread _ _).loc main_arg59))
  (m ((c.tc : Thread _ _).loc main_arg60)) (m ((c.tc : Thread _ _).loc main_arg61)) (m ((c.tc : Thread _ _).loc main_arg62))
  (m ((c.tc : Thread _ _).loc main_arg63)) (m ((c.tc : Thread _ _).loc main_arg64)) (m ((c.tc : Thread _ _).loc main_arg65))
  (m ((c.tc : Thread _ _).loc main_arg66)) (m ((c.tc : Thread _ _).loc main_arg67)) (m ((c.tc : Thread _ _).loc main_arg68))
  (m ((c.tc : Thread _ _).loc main_arg69)) (m ((c.tc : Thread _ _).loc main_arg70)) (m ((c.tc : Thread _ _).loc main_arg71))

theorem final_total : (dats m 0 c).arrAt 4 cfg0.N = V m c main_v44 := by
  generalize hA : V m c main_v44 = A
  refine (dats m 0 c).arrAt_eq_of_covers 4 _ (by decide +kernel) fun t _ y => ?_
  blk_simp; rw [after0_4]; frame_out
  unfold k0_pay2 iblk
  rw [show V m c (Pipeline.arrRef spec0 0) = A from hA]
  simp only [shapeCast_self]
  rfl

theorem final_changes : (dats m 0 c).arrAt 5 cfg0.N = changes (V m c main_v44) (V m c main_v89) (V m c main_v134) (V m c main_v179) := by
  generalize hA : V m c main_v44 = A
  generalize hB : V m c main_v89 = B
  generalize hC : V m c main_v134 = C
  generalize hD : V m c main_v179 = D
  refine (dats m 0 c).arrAt_eq_of_covers 5 _ (by decide +kernel) fun t _ y => ?_
  blk_simp; rw [after0_5]; frame_out
  unfold k0_pay1 k0_pay5 k0_pay3 k0_pay4 k0_pay2 iblk
  rw [show V m c (Pipeline.arrRef spec0 0) = A from hA, show V m c (Pipeline.arrRef spec0 1) = B from hB,
    show V m c (Pipeline.arrRef spec0 2) = C from hC, show V m c (Pipeline.arrRef spec0 3) = D from hD]
  simp only [shapeCast_self]
  rfl

theorem final_firsts : (dats m 0 c).arrAt 6 cfg0.N = firsts (V m c main_v44) (V m c main_v134) := by
  generalize hA : V m c main_v44 = A
  generalize hC : V m c main_v134 = C
  refine (dats m 0 c).arrAt_eq_of_covers 6 _ (by decide +kernel) fun t _ y => ?_
  blk_simp; rw [after0_6]; frame_out
  unfold k0_pay3 k0_pay2 iblk
  rw [show V m c (Pipeline.arrRef spec0 0) = A from hA, show V m c (Pipeline.arrRef spec0 2) = C from hC]
  simp only [shapeCast_self]
  rfl

theorem final_seconds : (dats m 0 c).arrAt 7 cfg0.N = seconds (V m c main_v44) (V m c main_v179) := by
  generalize hA : V m c main_v44 = A
  generalize hB : V m c main_v179 = B
  refine (dats m 0 c).arrAt_eq_of_covers 7 _ (by decide +kernel) fun t _ y => ?_
  blk_simp; rw [after0_7]; frame_out
  unfold k0_pay4 k0_pay2 iblk
  rw [show V m c (Pipeline.arrRef spec0 0) = A from hA, show V m c (Pipeline.arrRef spec0 3) = B from hB]
  simp only [shapeCast_self]
  rfl

theorem packed_grads : (V m c main_v44 : S1920x128.Idx → EReal) = packed 0 (grads m c) := by
  rw [← laid_zero]
  unfold V
  after_reads_simp
  refine laid_of ?_ ?_ <;> after_reads_simp
  · refine front_of ?_ ?_ ?_ ?_ ?_ ?_ ?_ ?_ ?_ ?_ ?_ ?_ ?_ ?_ ?_ ?_ <;> dsimp only [Matrix.cons_val] <;> after_reads_simp <;>
      simp -implicitDefEqProofs only [StableHlo.TRef.toBuf, StableHlo.TRef.ofBuf, cast_cast, cast_eq] <;> rfl
  · refine back_of ?_ ?_ ?_ <;> dsimp only [Matrix.cons_val] <;> after_reads_simp <;>
      (try simp -implicitDefEqProofs only [StableHlo.TRef.toBuf, StableHlo.TRef.ofBuf, cast_cast, cast_eq]) <;> rfl

theorem packed_params : (V m c main_v89 : S1920x128.Idx → EReal) = packed 0 (params m c) := by
  rw [← laid_zero]
  unfold V
  after_reads_simp
  refine laid_of ?_ ?_ <;> after_reads_simp
  · refine front_of ?_ ?_ ?_ ?_ ?_ ?_ ?_ ?_ ?_ ?_ ?_ ?_ ?_ ?_ ?_ ?_ <;> dsimp only [Matrix.cons_val] <;> after_reads_simp <;>
      simp -implicitDefEqProofs only [StableHlo.TRef.toBuf, StableHlo.TRef.ofBuf, cast_cast, cast_eq] <;> rfl
  · refine back_of ?_ ?_ ?_ <;> dsimp only [Matrix.cons_val] <;> after_reads_simp <;>
      (try simp -implicitDefEqProofs only [StableHlo.TRef.toBuf, StableHlo.TRef.ofBuf, cast_cast, cast_eq]) <;> rfl

theorem packed_means : (V m c main_v134 : S1920x128.Idx → EReal) = packed 0 (means m c) := by
  rw [← laid_zero]
  unfold V
  after_reads_simp
  refine laid_of ?_ ?_ <;> after_reads_simp
  · refine front_of ?_ ?_ ?_ ?_ ?_ ?_ ?_ ?_ ?_ ?_ ?_ ?_ ?_ ?_ ?_ ?_ <;> dsimp only [Matrix.cons_val] <;> after_reads_simp <;>
      simp -implicitDefEqProofs only [StableHlo.TRef.toBuf, StableHlo.TRef.ofBuf, cast_cast, cast_eq] <;> rfl
  · refine back_of ?_ ?_ ?_ <;> dsimp only [Matrix.cons_val] <;> after_reads_simp <;>
      (try simp -implicitDefEqProofs only [StableHlo.TRef.toBuf, StableHlo.TRef.ofBuf, cast_cast, cast_eq]) <;> rfl

theorem packed_squares : (V m c main_v179 : S1920x128.Idx → EReal) = packed 0 (squares m c) := by
  rw [← laid_zero]
  unfold V
  after_reads_simp
  refine laid_of ?_ ?_ <;> after_reads_simp
  · refine front_of ?_ ?_ ?_ ?_ ?_ ?_ ?_ ?_ ?_ ?_ ?_ ?_ ?_ ?_ ?_ ?_ <;> dsimp only [Matrix.cons_val] <;> after_reads_simp <;>
      simp -implicitDefEqProofs only [StableHlo.TRef.toBuf, StableHlo.TRef.ofBuf, cast_cast, cast_eq] <;> rfl
  · refine back_of ?_ ?_ ?_ <;> dsimp only [Matrix.cons_val] <;> after_reads_simp <;>
      (try simp -implicitDefEqProofs only [StableHlo.TRef.toBuf, StableHlo.TRef.ofBuf, cast_cast, cast_eq]) <;> rfl

theorem value_total : (dats m 0 c).arrAt 4 cfg0.N = packed 0 (grads m c) := (final_total m c).trans (packed_grads m c)

theorem value_changes : (dats m 0 c).arrAt 5 cfg0.N =
    packed 0 fun n => changes (grads m c n) (params m c n) (means m c n) (squares m c n) :=
  (final_changes m c).trans ((changes_congr (packed_grads m c) (packed_params m c) (packed_means m c) (packed_squares m c)).trans
    (packed_changes _ _ _ _))

theorem value_firsts : (dats m 0 c).arrAt 6 cfg0.N = packed 0 fun n => firsts (grads m c n) (means m c n) :=
  (final_firsts m c).trans ((congrArg₂ firsts (packed_grads m c) (packed_means m c)).trans (packed_firsts _ _))

theorem value_seconds : (dats m 0 c).arrAt 7 cfg0.N = packed 0 fun n => seconds (grads m c n) (squares m c n) :=
  (final_seconds m c).trans ((congrArg₂ seconds (packed_grads m c) (packed_squares m c)).trans (packed_seconds _ _))

end

section

open Cert.AdamSmallRefIdeal

variable (m : (ℓ : Loc nD τ sig) → Buf (Elt Ideal) ℓ) (c : Dev nD)

/-- The reference's gradients, parameters and moments. -/
abbrev grads' : (n : Fin 18) → (sh n).Idx → EReal :=
  family (m ((c.tc : Thread _ _).loc main_arg0)) (m ((c.tc : Thread _ _).loc main_arg1)) (m ((c.tc : Thread _ _).loc main_arg2))
  (m ((c.tc : Thread _ _).loc main_arg3)) (m ((c.tc : Thread _ _).loc main_arg4)) (m ((c.tc : Thread _ _).loc main_arg5))
  (m ((c.tc : Thread _ _).loc main_arg6)) (m ((c.tc : Thread _ _).loc main_arg7)) (m ((c.tc : Thread _ _).loc main_arg8))
  (m ((c.tc : Thread _ _).loc main_arg9)) (m ((c.tc : Thread _ _).loc main_arg10)) (m ((c.tc : Thread _ _).loc main_arg11))
  (m ((c.tc : Thread _ _).loc main_arg12)) (m ((c.tc : Thread _ _).loc main_arg13)) (m ((c.tc : Thread _ _).loc main_arg14))
  (m ((c.tc : Thread _ _).loc main_arg15)) (m ((c.tc : Thread _ _).loc main_arg16)) (m ((c.tc : Thread _ _).loc main_arg17))

abbrev params' : (n : Fin 18) → (sh n).Idx → EReal :=
  family (m ((c.tc : Thread _ _).loc main_arg18)) (m ((c.tc : Thread _ _).loc main_arg19)) (m ((c.tc : Thread _ _).loc main_arg20))
  (m ((c.tc : Thread _ _).loc main_arg21)) (m ((c.tc : Thread _ _).loc main_arg22)) (m ((c.tc : Thread _ _).loc main_arg23))
  (m ((c.tc : Thread _ _).loc main_arg24)) (m ((c.tc : Thread _ _).loc main_arg25)) (m ((c.tc : Thread _ _).loc main_arg26))
  (m ((c.tc : Thread _ _).loc main_arg27)) (m ((c.tc : Thread _ _).loc main_arg28)) (m ((c.tc : Thread _ _).loc main_arg29))
  (m ((c.tc : Thread _ _).loc main_arg30)) (m ((c.tc : Thread _ _).loc main_arg31)) (m ((c.tc : Thread _ _).loc main_arg32))
  (m ((c.tc : Thread _ _).loc main_arg33)) (m ((c.tc : Thread _ _).loc main_arg34)) (m ((c.tc : Thread _ _).loc main_arg35))

abbrev means' : (n : Fin 18) → (sh n).Idx → EReal :=
  family (m ((c.tc : Thread _ _).loc main_arg36)) (m ((c.tc : Thread _ _).loc main_arg37)) (m ((c.tc : Thread _ _).loc main_arg38))
  (m ((c.tc : Thread _ _).loc main_arg39)) (m ((c.tc : Thread _ _).loc main_arg40)) (m ((c.tc : Thread _ _).loc main_arg41))
  (m ((c.tc : Thread _ _).loc main_arg42)) (m ((c.tc : Thread _ _).loc main_arg43)) (m ((c.tc : Thread _ _).loc main_arg44))
  (m ((c.tc : Thread _ _).loc main_arg45)) (m ((c.tc : Thread _ _).loc main_arg46)) (m ((c.tc : Thread _ _).loc main_arg47))
  (m ((c.tc : Thread _ _).loc main_arg48)) (m ((c.tc : Thread _ _).loc main_arg49)) (m ((c.tc : Thread _ _).loc main_arg50))
  (m ((c.tc : Thread _ _).loc main_arg51)) (m ((c.tc : Thread _ _).loc main_arg52)) (m ((c.tc : Thread _ _).loc main_arg53))

abbrev squares' : (n : Fin 18) → (sh n).Idx → EReal :=
  family (m ((c.tc : Thread _ _).loc main_arg54)) (m ((c.tc : Thread _ _).loc main_arg55)) (m ((c.tc : Thread _ _).loc main_arg56))
  (m ((c.tc : Thread _ _).loc main_arg57)) (m ((c.tc : Thread _ _).loc main_arg58)) (m ((c.tc : Thread _ _).loc main_arg59))
  (m ((c.tc : Thread _ _).loc main_arg60)) (m ((c.tc : Thread _ _).loc main_arg61)) (m ((c.tc : Thread _ _).loc main_arg62))
  (m ((c.tc : Thread _ _).loc main_arg63)) (m ((c.tc : Thread _ _).loc main_arg64)) (m ((c.tc : Thread _ _).loc main_arg65))
  (m ((c.tc : Thread _ _).loc main_arg66)) (m ((c.tc : Thread _ _).loc main_arg67)) (m ((c.tc : Thread _ _).loc main_arg68))
  (m ((c.tc : Thread _ _).loc main_arg69)) (m ((c.tc : Thread _ _).loc main_arg70)) (m ((c.tc : Thread _ _).loc main_arg71))

end

theorem frame_reference : Cert.quiescent_AdamSmallRefIdeal := fun m ρ _ =>
  (θ_run _ _ _).mono (fun r h => ⟨fun c => (h c).2.2.2.2, sem_eq_zero_of_no_sems (by decide) r.2⟩) (Cert.AdamSmallRefIdeal.Value.run (F := Ideal) m ρ)

theorem algebraic : Cert.algebraic_AdamSmallIdeal_AdamSmallRefIdeal := by
  intro m ρ m' ρ' _ hag
  refine ⟨fun c => packed (0 : EReal) (grads m c), fun c => packed (0 : EReal) fun n => changes (grads m c n) (params m c n) (means m c n) (squares m c n),
    fun c => packed (0 : EReal) fun n => firsts (grads m c n) (means m c n), fun c => packed (0 : EReal) fun n => seconds (grads m c n) (squares m c n),
    (θ_run _ _ _).mono (fun r h c => ⟨(h c).1.trans (value_total m c), (h c).2.1.trans (value_changes m c), (h c).2.2.1.trans (value_firsts m c),
      (h c).2.2.2.1.trans (value_seconds m c), (h c).2.2.2.2⟩) (Cert.AdamSmallIdeal.Value.run_blocks m ρ),
    (θ_run _ _ _).mono (fun r h c => ?_) (Cert.AdamSmallRefIdeal.Value.run (F := Ideal) m' ρ')⟩
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60, e61, e62, e63, e64, e65, e66, e67, e68, e69, e70, e71⟩ := hag c
  have hg : grads' m' c = grads m c := family_congr e0 e1 e2 e3 e4 e5 e6 e7 e8 e9 e10 e11 e12 e13 e14 e15 e16 e17
  have hw : params' m' c = params m c := family_congr e18 e19 e20 e21 e22 e23 e24 e25 e26 e27 e28 e29 e30 e31 e32 e33 e34 e35
  have hm : means' m' c = means m c := family_congr e36 e37 e38 e39 e40 e41 e42 e43 e44 e45 e46 e47 e48 e49 e50 e51 e52 e53
  have hv : squares' m' c = squares m c := family_congr e54 e55 e56 e57 e58 e59 e60 e61 e62 e63 e64 e65 e66 e67 e68 e69 e70 e71
  refine ⟨(h c).1.trans (Eq.trans ?_ ((laid_zero (grads' m' c)).trans (congrArg (packed 0) hg))),
    (h c).2.1.trans (Eq.trans ?_ ((laid_zero fun n => changes (grads' m' c n) (params' m' c n) (means' m' c n) (squares' m' c n)).trans
      (congrArg (packed 0) (funext fun n => changes_congr (congrFun hg n) (congrFun hw n) (congrFun hm n) (congrFun hv n))))),
    (h c).2.2.1.trans (Eq.trans ?_ ((laid_zero fun n => firsts (grads' m' c n) (means' m' c n)).trans
      (congrArg (packed 0) (funext fun n => congrArg₂ firsts (congrFun hg n) (congrFun hm n))))),
    (h c).2.2.2.1.trans (Eq.trans ?_ ((laid_zero fun n => seconds (grads' m' c n) (squares' m' c n)).trans
      (congrArg (packed 0) (funext fun n => congrArg₂ seconds (congrFun hg n) (congrFun hv n))))), (h c).2.2.2.2⟩ <;>
    exact laid_of (front_of rfl rfl rfl rfl rfl rfl rfl rfl rfl rfl rfl rfl rfl rfl rfl rfl) (back_of rfl rfl rfl)

end Cert.Proof.AdamSmall

end
-- ==== Proof.Sum.lean ====
/-
  Sums over devices: an array added to three others, which are given as the leading rows of one array, and the sum of eight arrays
  given so. `three` and `eight` add in the order of the kernels; the lemmas say that they are the sums over the leading axis.
-/
module

public import proofs.«01_k».proof.Proof.Product
public import Idealize.ShloMosaic.Lib.StableHlo.ReadAt

@[expose] public section

noncomputable section

open Idealize.ShloMosaic
open scoped BigOperators

namespace Cert.Proof.Sum

variable {r n : ℕ}

/-- The array at a place along the leading axis. -/
abbrev layer {k : ℕ} (p : (⟨3, ![k, r, n]⟩ : Shape).Idx → EReal) (a : Fin k) (i : (⟨2, ![r, n]⟩ : Shape).Idx) : EReal := p (ix3 a (i 0) (i 1))

/-- `x` and the three arrays of `p`, added in order. -/
def three (x : (⟨2, ![r, n]⟩ : Shape).Idx → EReal) (p : (⟨3, ![3, r, n]⟩ : Shape).Idx → EReal) : (⟨2, ![r, n]⟩ : Shape).Idx → EReal :=
  fun i => x i + layer p 0 i + layer p 1 i + layer p 2 i

/-- The eight arrays of `p`, added in order. -/
def eight (p : (⟨3, ![8, r, n]⟩ : Shape).Idx → EReal) : (⟨2, ![r, n]⟩ : Shape).Idx → EReal :=
  fun i => layer p 0 i + layer p 1 i + layer p 2 i + layer p 3 i + layer p 4 i + layer p 5 i + layer p 6 i + layer p 7 i

theorem three_eq (x : (⟨2, ![r, n]⟩ : Shape).Idx → EReal) (p : (⟨3, ![3, r, n]⟩ : Shape).Idx → EReal) (i : (⟨2, ![r, n]⟩ : Shape).Idx) :
    x i + ∑ a : Fin 3, layer p a i = three x p i := by
  rw [Fin.sum_univ_three, ← add_assoc, ← add_assoc]; rfl

theorem eight_eq (p : (⟨3, ![8, r, n]⟩ : Shape).Idx → EReal) (i : (⟨2, ![r, n]⟩ : Shape).Idx) :
    ∑ a : Fin 8, layer p a i = eight p i := by
  rw [Fin.sum_univ_eight]; rfl

/-- The sum along the leading axis, as the reference takes it, added to an array. -/
theorem add_reduce (x : (⟨2, ![r, n]⟩ : Shape).Idx → EReal) (p : (⟨3, ![3, r, n]⟩ : Shape).Idx → EReal) (hb : FTy.bits .bf16 < FTy.bits .f32)
    (hr : (⟨3, ![3, r, n]⟩ : Shape).ReducesTo [0] ⟨2, ![r, n]⟩) (hs : 0 < (⟨0, ![]⟩ : Shape).numel) :
    addf (F := Ideal) (φ := .f32) x
      (Host.reduceAdd (F := Ideal) (φ := .f32) (extf (F := Ideal) (φ := .bf16) .f32 p hb) (constant (⟨0, ![]⟩ : Shape) .f32 0x00000000#32) hr hs) = three x p := by
  funext i
  pointwise
  exact three_eq x p i

/-- The sum along the leading axis, as the reference takes it. -/
theorem reduce (p : (⟨3, ![8, r, n]⟩ : Shape).Idx → EReal)
    (hr : (⟨3, ![8, r, n]⟩ : Shape).ReducesTo [0] ⟨2, ![r, n]⟩) (hs : 0 < (⟨0, ![]⟩ : Shape).numel) :
    Host.reduceAdd (F := Ideal) (φ := .f32) p (constant (⟨0, ![]⟩ : Shape) .f32 0x00000000#32) hr hs = eight p := by
  funext i
  pointwise
  exact eight_eq p i

variable {r' n' : ℕ}

/-- Equal arrays have equal sums, also where the one array is a part of the other. -/
theorem eight_congr {p : (⟨3, ![8, r, n]⟩ : Shape).Idx → EReal} {q : (⟨3, ![8, r', n']⟩ : Shape).Idx → EReal} {i j}
    (h : ∀ a, layer p a i = layer q a j) : eight p i = eight q j := by
  unfold eight; simp only [h]

theorem three_congr {x : (⟨2, ![r, n]⟩ : Shape).Idx → EReal} {z : (⟨2, ![r', n']⟩ : Shape).Idx → EReal}
    {p : (⟨3, ![3, r, n]⟩ : Shape).Idx → EReal} {q : (⟨3, ![3, r', n']⟩ : Shape).Idx → EReal} {i j} (e : x i = z j)
    (h : ∀ a, layer p a i = layer q a j) : three x p i = three z q j := by
  unfold three; simp only [e, h]

end Cert.Proof.Sum

end
-- ==== Proof.SumSmall.lean ====
/-
  The sum over the eight devices of the packed array of the loss and the small gradients. Each tile of the result is the sum
  (`eight`) of the eight tiles under it.
-/
module

public import proofs.«01_k».proof.Defs
public import proofs.«01_k».proof.Proof.Sum
public import proofs.«01_k».proof.Proof.Gen.SumSmallIdeal.Value
public import proofs.«01_k».proof.Proof.Gen.SumSmallRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Sum

namespace Cert.Proof.SumSmall

open Cert.SumSmallIdeal Cert.SumSmallIdeal.Gen

variable (m : (ℓ : Loc nD τ sig) → Buf (Elt Ideal) ℓ) (c : Dev nD)

theorem idx : ∀ t : Fin cfg0.N, win0_0.index t = ![0, t.val, 0] ∧ win0_1.index t = ![t.val, 0] :=
  (by decide +kernel : ∀ t : Fin grid0.N, win0_0.index t = ![0, t.val, 0] ∧ win0_1.index t = ![t.val, 0])

theorem tile (p : S8x256x128.Idx → EReal) : out0_1 (F := Ideal) p = eight p := by
  frame_out
  funext j
  unfold k0_pay1 eight
  pointwise

theorem final : (dats m 0 c).arrAt 1 cfg0.N = eight (V m c main_arg0) := by
  refine (dats m 0 c).arrAt_eq_of_covers 1 _ (by decide +kernel) fun t _ y => ?_
  have ht : t.val < 8 := lt_of_lt_of_eq t.isLt N_0
  have y0 : (y 0).val < 256 := (y 0).isLt
  have y1 : (y 1).val < 128 := (y 1).isLt
  blk_simp
  rw [after0_1, tile]
  refine (eight_congr (j := ix2 ⟨256 * t.val + (y 0).val, by omega⟩ ⟨(y 1).val, by omega⟩) fun a => ?_).trans
    (congrArg (eight (V m c main_arg0)) (by blk_ext [idx t])).symm
  show (iblk m c 0 t : S8x256x128.Idx → EReal) _ = (V m c main_arg0 : S8x2048x128.Idx → EReal) _
  blk_ext [iblk, idx t]

/-- The eight devices' arrays, added. -/
theorem value : (dats m 0 c).arrAt 1 cfg0.N = eight (m ((c.tc : Thread _ _).loc main_arg0)) :=
  (final m c).trans (congrArg eight (V_main_arg0 m c))

theorem frame_reference : Cert.quiescent_SumSmallRefIdeal := fun m ρ _ =>
  (θ_run _ _ _).mono (fun r h => ⟨fun c => (h c).2, sem_eq_zero_of_no_sems (by decide) r.2⟩) (Cert.SumSmallRefIdeal.Value.run (F := Ideal) m ρ)

theorem algebraic : Cert.algebraic_SumSmallIdeal_SumSmallRefIdeal := by
  intro m ρ m' ρ' _ hag
  refine ⟨_,
    (θ_run _ _ _).mono (fun r h c => ⟨(h c).1.trans (value m c), (h c).2⟩) (Value.run_blocks m ρ),
    (θ_run _ _ _).mono (fun r h c => ⟨(h c).1.trans ((reduce _ _ _).trans (congrArg eight (hag c))), (h c).2⟩) (Cert.SumSmallRefIdeal.Value.run (F := Ideal) m' ρ')⟩

end Cert.Proof.SumSmall

end
-- ==== Proof.SumAda.lean ====
/-
  The sum over the eight devices of the gradient of `b_ada`, as rows of 128. Each tile of the result is the sum
  (`eight`) of the eight tiles under it.
-/
module

public import proofs.«01_k».proof.Defs
public import proofs.«01_k».proof.Proof.Sum
public import proofs.«01_k».proof.Proof.Gen.SumAdaIdeal.Value
public import proofs.«01_k».proof.Proof.Gen.SumAdaRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Sum

namespace Cert.Proof.SumAda

open Cert.SumAdaIdeal Cert.SumAdaIdeal.Gen

variable (m : (ℓ : Loc nD τ sig) → Buf (Elt Ideal) ℓ) (c : Dev nD)

theorem idx : ∀ t : Fin cfg0.N, win0_0.index t = ![0, t.val, 0] ∧ win0_1.index t = ![t.val, 0] :=
  (by decide +kernel : ∀ t : Fin grid0.N, win0_0.index t = ![0, t.val, 0] ∧ win0_1.index t = ![t.val, 0])

theorem tile (p : S8x16x128.Idx → EReal) : out0_1 (F := Ideal) p = eight p := by
  frame_out
  funext j
  unfold k0_pay1 eight
  pointwise

theorem final : (dats m 0 c).arrAt 1 cfg0.N = eight (V m c main_arg0) := by
  refine (dats m 0 c).arrAt_eq_of_covers 1 _ (by decide +kernel) fun t _ y => ?_
  have ht : t.val < 3 := lt_of_lt_of_eq t.isLt N_0
  have y0 : (y 0).val < 16 := (y 0).isLt
  have y1 : (y 1).val < 128 := (y 1).isLt
  blk_simp
  rw [after0_1, tile]
  refine (eight_congr (j := ix2 ⟨16 * t.val + (y 0).val, by omega⟩ ⟨(y 1).val, by omega⟩) fun a => ?_).trans
    (congrArg (eight (V m c main_arg0)) (by blk_ext [idx t])).symm
  show (iblk m c 0 t : S8x16x128.Idx → EReal) _ = (V m c main_arg0 : S8x48x128.Idx → EReal) _
  blk_ext [iblk, idx t]

/-- The eight devices' arrays, added. -/
theorem value : (dats m 0 c).arrAt 1 cfg0.N = eight (m ((c.tc : Thread _ _).loc main_arg0)) :=
  (final m c).trans (congrArg eight (V_main_arg0 m c))

theorem frame_reference : Cert.quiescent_SumAdaRefIdeal := fun m ρ _ =>
  (θ_run _ _ _).mono (fun r h => ⟨fun c => (h c).2, sem_eq_zero_of_no_sems (by decide) r.2⟩) (Cert.SumAdaRefIdeal.Value.run (F := Ideal) m ρ)

theorem algebraic : Cert.algebraic_SumAdaIdeal_SumAdaRefIdeal := by
  intro m ρ m' ρ' _ hag
  refine ⟨_,
    (θ_run _ _ _).mono (fun r h c => ⟨(h c).1.trans (value m c), (h c).2⟩) (Value.run_blocks m ρ),
    (θ_run _ _ _).mono (fun r h c => ⟨(h c).1.trans ((reduce _ _ _).trans (congrArg eight (hag c))), (h c).2⟩) (Cert.SumAdaRefIdeal.Value.run (F := Ideal) m' ρ')⟩

end Cert.Proof.SumAda

end
-- ==== Proof.SumIn.lean ====
/-
  The gradient of the weight of the input projection: the device's own part with the parts of the three other devices that it received. Each tile of the
  result is the sum (`three`) of the tiles of the arguments.
-/
module

public import proofs.«01_k».proof.Defs
public import proofs.«01_k».proof.Proof.Sum
public import proofs.«01_k».proof.Proof.Gen.SumInIdeal.Value
public import proofs.«01_k».proof.Proof.Gen.SumInRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Sum

namespace Cert.Proof.SumIn

open Cert.SumInIdeal Cert.SumInIdeal.Gen

variable (m : (ℓ : Loc nD τ sig) → Buf (Elt Ideal) ℓ) (c : Dev nD)

theorem idx : ∀ t : Fin cfg0.N, win0_0.index t = ![t.val, 0] ∧ win0_1.index t = ![0, t.val, 0] ∧ win0_2.index t = ![t.val, 0] :=
  (by decide +kernel : ∀ t : Fin grid0.N, win0_0.index t = ![t.val, 0] ∧ win0_1.index t = ![0, t.val, 0] ∧ win0_2.index t = ![t.val, 0])

theorem tile (x : S256x2696.Idx → EReal) (p : S3x256x2696.Idx → EReal) : out0_2 (F := Ideal) x p = three x p := by
  frame_out
  funext j
  unfold k0_pay1 three
  pointwise

theorem final : (dats m 0 c).arrAt 2 cfg0.N = three (V m c main_arg0) (V m c main_arg1) := by
  refine (dats m 0 c).arrAt_eq_of_covers 2 _ (by decide +kernel) fun t _ y => ?_
  have ht : t.val < 4 := lt_of_lt_of_eq t.isLt N_0
  have y0 : (y 0).val < 256 := (y 0).isLt
  have y1 : (y 1).val < 2696 := (y 1).isLt
  blk_simp
  rw [after0_2, tile]
  refine (three_congr (j := ix2 ⟨256 * t.val + (y 0).val, by omega⟩ ⟨(y 1).val, by omega⟩) ?_ fun a => ?_).trans
    (congrArg (three (V m c main_arg0) (V m c main_arg1)) (by blk_ext [idx t])).symm
  · blk_ext [iblk, idx t]
  · show (iblk m c 1 t : S3x256x2696.Idx → EReal) _ = (V m c main_arg1 : S3x1024x2696.Idx → EReal) _
    blk_ext [iblk, idx t]

/-- The three arrays received, added to the own one. -/
theorem value : (dats m 0 c).arrAt 2 cfg0.N = three (m ((c.tc : Thread _ _).loc main_arg0)) (m ((c.tc : Thread _ _).loc main_arg1)) :=
  (final m c).trans (congrArg₂ three (V_main_arg0 m c) (V_main_arg1 m c))

theorem frame_reference : Cert.quiescent_SumInRefIdeal := fun m ρ _ =>
  (θ_run _ _ _).mono (fun r h => ⟨fun c => (h c).2, sem_eq_zero_of_no_sems (by decide) r.2⟩) (Cert.SumInRefIdeal.Value.run (F := Ideal) m ρ)

theorem algebraic : Cert.algebraic_SumInIdeal_SumInRefIdeal := by
  intro m ρ m' ρ' _ hag
  refine ⟨_,
    (θ_run _ _ _).mono (fun r h c => ⟨(h c).1.trans (value m c), (h c).2⟩) (Value.run_blocks m ρ),
    (θ_run _ _ _).mono (fun r h c => ⟨(h c).1.trans ((add_reduce _ _ _ _ _).trans (congrArg₂ three (hag c).1 (hag c).2)), (h c).2⟩) (Cert.SumInRefIdeal.Value.run (F := Ideal) m' ρ')⟩

end Cert.Proof.SumIn

end
-- ==== Proof.SumPa.lean ====
/-
  The gradient of the weight `w_pa`: the device's own part with the parts of the three other devices that it received. Each tile of the
  result is the sum (`three`) of the tiles of the arguments.
-/
module

public import proofs.«01_k».proof.Defs
public import proofs.«01_k».proof.Proof.Sum
public import proofs.«01_k».proof.Proof.Gen.SumPaIdeal.Value
public import proofs.«01_k».proof.Proof.Gen.SumPaRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Sum

namespace Cert.Proof.SumPa

open Cert.SumPaIdeal Cert.SumPaIdeal.Gen

variable (m : (ℓ : Loc nD τ sig) → Buf (Elt Ideal) ℓ) (c : Dev nD)

theorem idx : ∀ t : Fin cfg0.N, win0_0.index t = ![t.val, 0] ∧ win0_1.index t = ![0, t.val, 0] ∧ win0_2.index t = ![t.val, 0] :=
  (by decide +kernel : ∀ t : Fin grid0.N, win0_0.index t = ![t.val, 0] ∧ win0_1.index t = ![0, t.val, 0] ∧ win0_2.index t = ![t.val, 0])

theorem tile (x : S64x1024.Idx → EReal) (p : S3x64x1024.Idx → EReal) : out0_2 (F := Ideal) x p = three x p := by
  frame_out
  funext j
  unfold k0_pay1 three
  pointwise

theorem final : (dats m 0 c).arrAt 2 cfg0.N = three (V m c main_arg0) (V m c main_arg1) := by
  refine (dats m 0 c).arrAt_eq_of_covers 2 _ (by decide +kernel) fun t _ y => ?_
  have ht : t.val < 5 := lt_of_lt_of_eq t.isLt N_0
  have y0 : (y 0).val < 64 := (y 0).isLt
  have y1 : (y 1).val < 1024 := (y 1).isLt
  blk_simp
  rw [after0_2, tile]
  refine (three_congr (j := ix2 ⟨64 * t.val + (y 0).val, by omega⟩ ⟨(y 1).val, by omega⟩) ?_ fun a => ?_).trans
    (congrArg (three (V m c main_arg0) (V m c main_arg1)) (by blk_ext [idx t])).symm
  · blk_ext [iblk, idx t]
  · show (iblk m c 1 t : S3x64x1024.Idx → EReal) _ = (V m c main_arg1 : S3x320x1024.Idx → EReal) _
    blk_ext [iblk, idx t]

/-- The three arrays received, added to the own one. -/
theorem value : (dats m 0 c).arrAt 2 cfg0.N = three (m ((c.tc : Thread _ _).loc main_arg0)) (m ((c.tc : Thread _ _).loc main_arg1)) :=
  (final m c).trans (congrArg₂ three (V_main_arg0 m c) (V_main_arg1 m c))

theorem frame_reference : Cert.quiescent_SumPaRefIdeal := fun m ρ _ =>
  (θ_run _ _ _).mono (fun r h => ⟨fun c => (h c).2, sem_eq_zero_of_no_sems (by decide) r.2⟩) (Cert.SumPaRefIdeal.Value.run (F := Ideal) m ρ)

theorem algebraic : Cert.algebraic_SumPaIdeal_SumPaRefIdeal := by
  intro m ρ m' ρ' _ hag
  refine ⟨_,
    (θ_run _ _ _).mono (fun r h c => ⟨(h c).1.trans (value m c), (h c).2⟩) (Value.run_blocks m ρ),
    (θ_run _ _ _).mono (fun r h c => ⟨(h c).1.trans ((add_reduce _ _ _ _ _).trans (congrArg₂ three (hag c).1 (hag c).2)), (h c).2⟩) (Cert.SumPaRefIdeal.Value.run (F := Ideal) m' ρ')⟩

end Cert.Proof.SumPa

end
-- ==== Proof.SumPb.lean ====
/-
  The gradient of the weight `w_pb`: the device's own part with the parts of the three other devices that it received. Each tile of the
  result is the sum (`three`) of the tiles of the arguments.
-/
module

public import proofs.«01_k».proof.Defs
public import proofs.«01_k».proof.Proof.Sum
public import proofs.«01_k».proof.Proof.Gen.SumPbIdeal.Value
public import proofs.«01_k».proof.Proof.Gen.SumPbRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Sum

namespace Cert.Proof.SumPb

open Cert.SumPbIdeal Cert.SumPbIdeal.Gen

variable (m : (ℓ : Loc nD τ sig) → Buf (Elt Ideal) ℓ) (c : Dev nD)

theorem idx : ∀ t : Fin cfg0.N, win0_0.index t = ![t.val, 0] ∧ win0_1.index t = ![0, t.val, 0] ∧ win0_2.index t = ![t.val, 0] :=
  (by decide +kernel : ∀ t : Fin grid0.N, win0_0.index t = ![t.val, 0] ∧ win0_1.index t = ![0, t.val, 0] ∧ win0_2.index t = ![t.val, 0])

theorem tile (x : S512x1024.Idx → EReal) (p : S3x512x1024.Idx → EReal) : out0_2 (F := Ideal) x p = three x p := by
  frame_out
  funext j
  unfold k0_pay1 three
  pointwise

theorem final : (dats m 0 c).arrAt 2 cfg0.N = three (V m c main_arg0) (V m c main_arg1) := by
  refine (dats m 0 c).arrAt_eq_of_covers 2 _ (by decide +kernel) fun t _ y => ?_
  have ht : t.val < 1 := lt_of_lt_of_eq t.isLt N_0
  have y0 : (y 0).val < 512 := (y 0).isLt
  have y1 : (y 1).val < 1024 := (y 1).isLt
  blk_simp
  rw [after0_2, tile]
  refine (three_congr (j := ix2 ⟨512 * t.val + (y 0).val, by omega⟩ ⟨(y 1).val, by omega⟩) ?_ fun a => ?_).trans
    (congrArg (three (V m c main_arg0) (V m c main_arg1)) (by blk_ext [idx t])).symm
  · blk_ext [iblk, idx t]
  · show (iblk m c 1 t : S3x512x1024.Idx → EReal) _ = (V m c main_arg1 : S3x512x1024.Idx → EReal) _
    blk_ext [iblk, idx t]

/-- The three arrays received, added to the own one. -/
theorem value : (dats m 0 c).arrAt 2 cfg0.N = three (m ((c.tc : Thread _ _).loc main_arg0)) (m ((c.tc : Thread _ _).loc main_arg1)) :=
  (final m c).trans (congrArg₂ three (V_main_arg0 m c) (V_main_arg1 m c))

theorem frame_reference : Cert.quiescent_SumPbRefIdeal := fun m ρ _ =>
  (θ_run _ _ _).mono (fun r h => ⟨fun c => (h c).2, sem_eq_zero_of_no_sems (by decide) r.2⟩) (Cert.SumPbRefIdeal.Value.run (F := Ideal) m ρ)

theorem algebraic : Cert.algebraic_SumPbIdeal_SumPbRefIdeal := by
  intro m ρ m' ρ' _ hag
  refine ⟨_,
    (θ_run _ _ _).mono (fun r h c => ⟨(h c).1.trans (value m c), (h c).2⟩) (Value.run_blocks m ρ),
    (θ_run _ _ _).mono (fun r h c => ⟨(h c).1.trans ((add_reduce _ _ _ _ _).trans (congrArg₂ three (hag c).1 (hag c).2)), (h c).2⟩) (Cert.SumPbRefIdeal.Value.run (F := Ideal) m' ρ')⟩

end Cert.Proof.SumPb

end
-- ==== Proof.SumOut.lean ====
/-
  The gradient of the weight `w_out`: the device's own part with the parts of the three other devices that it received. Each tile of the
  result is the sum (`three`) of the tiles of the arguments.
-/
module

public import proofs.«01_k».proof.Defs
public import proofs.«01_k».proof.Proof.Sum
public import proofs.«01_k».proof.Proof.Gen.SumOutIdeal.Value
public import proofs.«01_k».proof.Proof.Gen.SumOutRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Sum

namespace Cert.Proof.SumOut

open Cert.SumOutIdeal Cert.SumOutIdeal.Gen

variable (m : (ℓ : Loc nD τ sig) → Buf (Elt Ideal) ℓ) (c : Dev nD)

theorem idx : ∀ t : Fin cfg0.N, win0_0.index t = ![t.val, 0] ∧ win0_1.index t = ![0, t.val, 0] ∧ win0_2.index t = ![t.val, 0] :=
  (by decide +kernel : ∀ t : Fin grid0.N, win0_0.index t = ![t.val, 0] ∧ win0_1.index t = ![0, t.val, 0] ∧ win0_2.index t = ![t.val, 0])

theorem tile (x : S256x1024.Idx → EReal) (p : S3x256x1024.Idx → EReal) : out0_2 (F := Ideal) x p = three x p := by
  frame_out
  funext j
  unfold k0_pay1 three
  pointwise

theorem final : (dats m 0 c).arrAt 2 cfg0.N = three (V m c main_arg0) (V m c main_arg1) := by
  refine (dats m 0 c).arrAt_eq_of_covers 2 _ (by decide +kernel) fun t _ y => ?_
  have ht : t.val < 1 := lt_of_lt_of_eq t.isLt N_0
  have y0 : (y 0).val < 256 := (y 0).isLt
  have y1 : (y 1).val < 1024 := (y 1).isLt
  blk_simp
  rw [after0_2, tile]
  refine (three_congr (j := ix2 ⟨256 * t.val + (y 0).val, by omega⟩ ⟨(y 1).val, by omega⟩) ?_ fun a => ?_).trans
    (congrArg (three (V m c main_arg0) (V m c main_arg1)) (by blk_ext [idx t])).symm
  · blk_ext [iblk, idx t]
  · show (iblk m c 1 t : S3x256x1024.Idx → EReal) _ = (V m c main_arg1 : S3x256x1024.Idx → EReal) _
    blk_ext [iblk, idx t]

/-- The three arrays received, added to the own one. -/
theorem value : (dats m 0 c).arrAt 2 cfg0.N = three (m ((c.tc : Thread _ _).loc main_arg0)) (m ((c.tc : Thread _ _).loc main_arg1)) :=
  (final m c).trans (congrArg₂ three (V_main_arg0 m c) (V_main_arg1 m c))

theorem frame_reference : Cert.quiescent_SumOutRefIdeal := fun m ρ _ =>
  (θ_run _ _ _).mono (fun r h => ⟨fun c => (h c).2, sem_eq_zero_of_no_sems (by decide) r.2⟩) (Cert.SumOutRefIdeal.Value.run (F := Ideal) m ρ)

theorem algebraic : Cert.algebraic_SumOutIdeal_SumOutRefIdeal := by
  intro m ρ m' ρ' _ hag
  refine ⟨_,
    (θ_run _ _ _).mono (fun r h c => ⟨(h c).1.trans (value m c), (h c).2⟩) (Value.run_blocks m ρ),
    (θ_run _ _ _).mono (fun r h c => ⟨(h c).1.trans ((add_reduce _ _ _ _ _).trans (congrArg₂ three (hag c).1 (hag c).2)), (h c).2⟩) (Cert.SumOutRefIdeal.Value.run (F := Ideal) m' ρ')⟩

end Cert.Proof.SumOut

end
-- ==== Proof.SumGu.lean ====
/-
  The gradient of the weights of the gate and the up projection: the device's own part with the parts of the three other devices that it received. Each tile of the
  result is the sum (`three`) of the tiles of the arguments.
-/
module

public import proofs.«01_k».proof.Defs
public import proofs.«01_k».proof.Proof.Sum
public import proofs.«01_k».proof.Proof.Gen.SumGuIdeal.Value
public import proofs.«01_k».proof.Proof.Gen.SumGuRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Sum

namespace Cert.Proof.SumGu

open Cert.SumGuIdeal Cert.SumGuIdeal.Gen

variable (m : (ℓ : Loc nD τ sig) → Buf (Elt Ideal) ℓ) (c : Dev nD)

theorem idx : ∀ t : Fin cfg0.N, win0_0.index t = ![t.val, 0] ∧ win0_1.index t = ![0, t.val, 0] ∧ win0_2.index t = ![t.val, 0] :=
  (by decide +kernel : ∀ t : Fin grid0.N, win0_0.index t = ![t.val, 0] ∧ win0_1.index t = ![0, t.val, 0] ∧ win0_2.index t = ![t.val, 0])

theorem tile (x : S512x704.Idx → EReal) (p : S3x512x704.Idx → EReal) : out0_2 (F := Ideal) x p = three x p := by
  frame_out
  funext j
  unfold k0_pay1 three
  pointwise

theorem final : (dats m 0 c).arrAt 2 cfg0.N = three (V m c main_arg0) (V m c main_arg1) := by
  refine (dats m 0 c).arrAt_eq_of_covers 2 _ (by decide +kernel) fun t _ y => ?_
  have ht : t.val < 2 := lt_of_lt_of_eq t.isLt N_0
  have y0 : (y 0).val < 512 := (y 0).isLt
  have y1 : (y 1).val < 704 := (y 1).isLt
  blk_simp
  rw [after0_2, tile]
  refine (three_congr (j := ix2 ⟨512 * t.val + (y 0).val, by omega⟩ ⟨(y 1).val, by omega⟩) ?_ fun a => ?_).trans
    (congrArg (three (V m c main_arg0) (V m c main_arg1)) (by blk_ext [idx t])).symm
  · blk_ext [iblk, idx t]
  · show (iblk m c 1 t : S3x512x704.Idx → EReal) _ = (V m c main_arg1 : S3x1024x704.Idx → EReal) _
    blk_ext [iblk, idx t]

/-- The three arrays received, added to the own one. -/
theorem value : (dats m 0 c).arrAt 2 cfg0.N = three (m ((c.tc : Thread _ _).loc main_arg0)) (m ((c.tc : Thread _ _).loc main_arg1)) :=
  (final m c).trans (congrArg₂ three (V_main_arg0 m c) (V_main_arg1 m c))

theorem frame_reference : Cert.quiescent_SumGuRefIdeal := fun m ρ _ =>
  (θ_run _ _ _).mono (fun r h => ⟨fun c => (h c).2, sem_eq_zero_of_no_sems (by decide) r.2⟩) (Cert.SumGuRefIdeal.Value.run (F := Ideal) m ρ)

theorem algebraic : Cert.algebraic_SumGuIdeal_SumGuRefIdeal := by
  intro m ρ m' ρ' _ hag
  refine ⟨_,
    (θ_run _ _ _).mono (fun r h c => ⟨(h c).1.trans (value m c), (h c).2⟩) (Value.run_blocks m ρ),
    (θ_run _ _ _).mono (fun r h c => ⟨(h c).1.trans ((add_reduce _ _ _ _ _).trans (congrArg₂ three (hag c).1 (hag c).2)), (h c).2⟩) (Cert.SumGuRefIdeal.Value.run (F := Ideal) m' ρ')⟩

end Cert.Proof.SumGu

end
-- ==== Proof.SumDown.lean ====
/-
  The gradient of the weight of the down projection: the device's own part with the parts of the three other devices that it received. Each tile of the
  result is the sum (`three`) of the tiles of the arguments.
-/
module

public import proofs.«01_k».proof.Defs
public import proofs.«01_k».proof.Proof.Sum
public import proofs.«01_k».proof.Proof.Gen.SumDownIdeal.Value
public import proofs.«01_k».proof.Proof.Gen.SumDownRefIdeal.Run
public import Idealize.ShloMosaic.Lib.Quiescent
public import Idealize.ShloMosaic.Lib.StableHlo.ReadAt
public import Idealize.ShloMosaic.Lib.Claim

@[expose] public section

set_option maxRecDepth 16384

noncomputable section

open Idealize.ShloMosaic Idealize.ShloMosaic.TcCoe Idealize.SL.Sem Cert.Proof.Sum

namespace Cert.Proof.SumDown

open Cert.SumDownIdeal Cert.SumDownIdeal.Gen

variable (m : (ℓ : Loc nD τ sig) → Buf (Elt Ideal) ℓ) (c : Dev nD)

theorem idx : ∀ t : Fin cfg0.N, win0_0.index t = ![t.val, 0] ∧ win0_1.index t = ![0, t.val, 0] ∧ win0_2.index t = ![t.val, 0] :=
  (by decide +kernel : ∀ t : Fin grid0.N, win0_0.index t = ![t.val, 0] ∧ win0_1.index t = ![0, t.val, 0] ∧ win0_2.index t = ![t.val, 0])

theorem tile (x : S64x1024.Idx → EReal) (p : S3x64x1024.Idx → EReal) : out0_2 (F := Ideal) x p = three x p := by
  frame_out
  funext j
  unfold k0_pay1 three
  pointwise

theorem final : (dats m 0 c).arrAt 2 cfg0.N = three (V m c main_arg0) (V m c main_arg1) := by
  refine (dats m 0 c).arrAt_eq_of_covers 2 _ (by decide +kernel) fun t _ y => ?_
  have ht : t.val < 11 := lt_of_lt_of_eq t.isLt N_0
  have y0 : (y 0).val < 64 := (y 0).isLt
  have y1 : (y 1).val < 1024 := (y 1).isLt
  blk_simp
  rw [after0_2, tile]
  refine (three_congr (j := ix2 ⟨64 * t.val + (y 0).val, by omega⟩ ⟨(y 1).val, by omega⟩) ?_ fun a => ?_).trans
    (congrArg (three (V m c main_arg0) (V m c main_arg1)) (by blk_ext [idx t])).symm
  · blk_ext [iblk, idx t]
  · show (iblk m c 1 t : S3x64x1024.Idx → EReal) _ = (V m c main_arg1 : S3x704x1024.Idx → EReal) _
    blk_ext [iblk, idx t]

/-- The three arrays received, added to the own one. -/
theorem value : (dats m 0 c).arrAt 2 cfg0.N = three (m ((c.tc : Thread _ _).loc main_arg0)) (m ((c.tc : Thread _ _).loc main_arg1)) :=
  (final m c).trans (congrArg₂ three (V_main_arg0 m c) (V_main_arg1 m c))

theorem frame_reference : Cert.quiescent_SumDownRefIdeal := fun m ρ _ =>
  (θ_run _ _ _).mono (fun r h => ⟨fun c => (h c).2, sem_eq_zero_of_no_sems (by decide) r.2⟩) (Cert.SumDownRefIdeal.Value.run (F := Ideal) m ρ)

theorem algebraic : Cert.algebraic_SumDownIdeal_SumDownRefIdeal := by
  intro m ρ m' ρ' _ hag
  refine ⟨_,
    (θ_run _ _ _).mono (fun r h c => ⟨(h c).1.trans (value m c), (h c).2⟩) (Value.run_blocks m ρ),
    (θ_run _ _ _).mono (fun r h c => ⟨(h c).1.trans ((add_reduce _ _ _ _ _).trans (congrArg₂ three (hag c).1 (hag c).2)), (h c).2⟩) (Cert.SumDownRefIdeal.Value.run (F := Ideal) m' ρ')⟩

end Cert.Proof.SumDown

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Step
public import proofs.«01_k».proof.Proof.KernelValue
public import proofs.«01_k».proof.Proof.RefValue
public import proofs.«01_k».proof.Proof.Pre
public import Idealize.ShloMosaic.Lib.Quiescent
public import proofs.«01_k».proof.Proof.Gen.DRec
public import proofs.«01_k».proof.Proof.Gen.DRec.Skeleton
public import proofs.«01_k».proof.Proof.Gen.DRec.Launch
public import proofs.«01_k».proof.Proof.Gen.DRec.Points
public import proofs.«01_k».proof.Proof.Gen.DRec.Frame
public import proofs.«01_k».proof.Proof.Gen.DRecIdeal
public import proofs.«01_k».proof.Proof.Gen.DRecIdeal.Skeleton
public import proofs.«01_k».proof.Proof.Gen.DRecIdeal.Launch
public import proofs.«01_k».proof.Proof.Gen.DRecIdeal.Points
public import proofs.«01_k».proof.Proof.Gen.DRecIdeal.Frame
public import proofs.«01_k».proof.Proof.Gen.DRecIdeal.Value
public import proofs.«01_k».proof.Proof.Gen.DRecRefIdeal
public import proofs.«01_k».proof.Proof.Gen.DRecRefIdeal.Run
public import proofs.«01_k».proof.Proof.Gen.DAct
public import proofs.«01_k».proof.Proof.Gen.DAct.Skeleton
public import proofs.«01_k».proof.Proof.Gen.DAct.Launch
public import proofs.«01_k».proof.Proof.Gen.DAct.Points
public import proofs.«01_k».proof.Proof.Gen.DAct.Frame
public import proofs.«01_k».proof.Proof.Gen.DActIdeal
public import proofs.«01_k».proof.Proof.Gen.DActIdeal.Skeleton
public import proofs.«01_k».proof.Proof.Gen.DActIdeal.Launch
public import proofs.«01_k».proof.Proof.Gen.DActIdeal.Points
public import proofs.«01_k».proof.Proof.Gen.DActIdeal.Frame
public import proofs.«01_k».proof.Proof.Gen.DActIdeal.Value
public import proofs.«01_k».proof.Proof.Gen.DActRefIdeal
public import proofs.«01_k».proof.Proof.Gen.DActRefIdeal.Run
public import proofs.«01_k».proof.Proof.Gen.GPa
public import proofs.«01_k».proof.Proof.Gen.GPa.Skeleton
public import proofs.«01_k».proof.Proof.Gen.GPa.Launch
public import proofs.«01_k».proof.Proof.Gen.GPa.Points
public import proofs.«01_k».proof.Proof.Gen.GPa.Frame
public import proofs.«01_k».proof.Proof.Gen.GPaIdeal
public import proofs.«01_k».proof.Proof.Gen.GPaIdeal.Skeleton
public import proofs.«01_k».proof.Proof.Gen.GPaIdeal.Launch
public import proofs.«01_k».proof.Proof.Gen.GPaIdeal.Points
public import proofs.«01_k».proof.Proof.Gen.GPaIdeal.Frame
public import proofs.«01_k».proof.Proof.Gen.GPaIdeal.Value
public import proofs.«01_k».proof.Proof.Gen.GPaRefIdeal
public import proofs.«01_k».proof.Proof.Gen.GPaRefIdeal.Run
public import proofs.«01_k».proof.Proof.Gen.GPb
public import proofs.«01_k».proof.Proof.Gen.GPb.Skeleton
public import proofs.«01_k».proof.Proof.Gen.GPb.Launch
public import proofs.«01_k».proof.Proof.Gen.GPb.Points
public import proofs.«01_k».proof.Proof.Gen.GPb.Frame
public import proofs.«01_k».proof.Proof.Gen.GPbIdeal
public import proofs.«01_k».proof.Proof.Gen.GPbIdeal.Skeleton
public import proofs.«01_k».proof.Proof.Gen.GPbIdeal.Launch
public import proofs.«01_k».proof.Proof.Gen.GPbIdeal.Points
public import proofs.«01_k».proof.Proof.Gen.GPbIdeal.Frame
public import proofs.«01_k».proof.Proof.Gen.GPbIdeal.Value
public import proofs.«01_k».proof.Proof.Gen.GPbRefIdeal
public import proofs.«01_k».proof.Proof.Gen.GPbRefIdeal.Run
public import proofs.«01_k».proof.Proof.Gen.GOut
public import proofs.«01_k».proof.Proof.Gen.GOut.Skeleton
public import proofs.«01_k».proof.Proof.Gen.GOut.Launch
public import proofs.«01_k».proof.Proof.Gen.GOut.Points
public import proofs.«01_k».proof.Proof.Gen.GOut.Frame
public import proofs.«01_k».proof.Proof.Gen.GOutIdeal
public import proofs.«01_k».proof.Proof.Gen.GOutIdeal.Skeleton
public import proofs.«01_k».proof.Proof.Gen.GOutIdeal.Launch
public import proofs.«01_k».proof.Proof.Gen.GOutIdeal.Points
public import proofs.«01_k».proof.Proof.Gen.GOutIdeal.Frame
public import proofs.«01_k».proof.Proof.Gen.GOutIdeal.Value
public import proofs.«01_k».proof.Proof.Gen.GOutRefIdeal
public import proofs.«01_k».proof.Proof.Gen.GOutRefIdeal.Run
public import proofs.«01_k».proof.Proof.Gen.GDown
public import proofs.«01_k».proof.Proof.Gen.GDown.Skeleton
public import proofs.«01_k».proof.Proof.Gen.GDown.Launch
public import proofs.«01_k».proof.Proof.Gen.GDown.Points
public import proofs.«01_k».proof.Proof.Gen.GDown.Frame
public import proofs.«01_k».proof.Proof.Gen.GDownIdeal
public import proofs.«01_k».proof.Proof.Gen.GDownIdeal.Skeleton
public import proofs.«01_k».proof.Proof.Gen.GDownIdeal.Launch
public import proofs.«01_k».proof.Proof.Gen.GDownIdeal.Points
public import proofs.«01_k».proof.Proof.Gen.GDownIdeal.Frame
public import proofs.«01_k».proof.Proof.Gen.GDownIdeal.Value
public import proofs.«01_k».proof.Proof.Gen.GDownRefIdeal
public import proofs.«01_k».proof.Proof.Gen.GDownRefIdeal.Run
public import proofs.«01_k».proof.Proof.Gen.GGu
public import proofs.«01_k».proof.Proof.Gen.GGu.Skeleton
public import proofs.«01_k».proof.Proof.Gen.GGu.Launch
public import proofs.«01_k».proof.Proof.Gen.GGu.Points
public import proofs.«01_k».proof.Proof.Gen.GGu.Frame
public import proofs.«01_k».proof.Proof.Gen.GGuIdeal
public import proofs.«01_k».proof.Proof.Gen.GGuIdeal.Skeleton
public import proofs.«01_k».proof.Proof.Gen.GGuIdeal.Launch
public import proofs.«01_k».proof.Proof.Gen.GGuIdeal.Points
public import proofs.«01_k».proof.Proof.Gen.GGuIdeal.Frame
public import proofs.«01_k».proof.Proof.Gen.GGuIdeal.Value
public import proofs.«01_k».proof.Proof.Gen.GGuRefIdeal
public import proofs.«01_k».proof.Proof.Gen.GGuRefIdeal.Run
public import proofs.«01_k».proof.Proof.Gen.GInTop
public import proofs.«01_k».proof.Proof.Gen.GInTop.Skeleton
public import proofs.«01_k».proof.Proof.Gen.GInTop.Launch
public import proofs.«01_k».proof.Proof.Gen.GInTop.Points
public import proofs.«01_k».proof.Proof.Gen.GInTop.Frame
public import proofs.«01_k».proof.Proof.Gen.GInTopIdeal
public import proofs.«01_k».proof.Proof.Gen.GInTopIdeal.Skeleton
public import proofs.«01_k».proof.Proof.Gen.GInTopIdeal.Launch
public import proofs.«01_k».proof.Proof.Gen.GInTopIdeal.Points
public import proofs.«01_k».proof.Proof.Gen.GInTopIdeal.Frame
public import proofs.«01_k».proof.Proof.Gen.GInTopIdeal.Value
public import proofs.«01_k».proof.Proof.Gen.GInTopRefIdeal
public import proofs.«01_k».proof.Proof.Gen.GInTopRefIdeal.Run
public import proofs.«01_k».proof.Proof.Gen.GInBot
public import proofs.«01_k».proof.Proof.Gen.GInBot.Skeleton
public import proofs.«01_k».proof.Proof.Gen.GInBot.Launch
public import proofs.«01_k».proof.Proof.Gen.GInBot.Points
public import proofs.«01_k».proof.Proof.Gen.GInBot.Frame
public import proofs.«01_k».proof.Proof.Gen.GInBotIdeal
public import proofs.«01_k».proof.Proof.Gen.GInBotIdeal.Skeleton
public import proofs.«01_k».proof.Proof.Gen.GInBotIdeal.Launch
public import proofs.«01_k».proof.Proof.Gen.GInBotIdeal.Points
public import proofs.«01_k».proof.Proof.Gen.GInBotIdeal.Frame
public import proofs.«01_k».proof.Proof.Gen.GInBotIdeal.Value
public import proofs.«01_k».proof.Proof.Gen.GInBotRefIdeal
public import proofs.«01_k».proof.Proof.Gen.GInBotRefIdeal.Run
public import proofs.«01_k».proof.Proof.Gen.ProjA
public import proofs.«01_k».proof.Proof.Gen.ProjA.Skeleton
public import proofs.«01_k».proof.Proof.Gen.ProjA.Launch
public import proofs.«01_k».proof.Proof.Gen.ProjA.Points
public import proofs.«01_k».proof.Proof.Gen.ProjA.Frame
public import proofs.«01_k».proof.Proof.Gen.ProjAIdeal
public import proofs.«01_k».proof.Proof.Gen.ProjAIdeal.Skeleton
public import proofs.«01_k».proof.Proof.Gen.ProjAIdeal.Launch
public import proofs.«01_k».proof.Proof.Gen.ProjAIdeal.Points
public import proofs.«01_k».proof.Proof.Gen.ProjAIdeal.Frame
public import proofs.«01_k».proof.Proof.Gen.ProjAIdeal.Value
public import proofs.«01_k».proof.Proof.Gen.ProjARefIdeal
public import proofs.«01_k».proof.Proof.Gen.ProjARefIdeal.Run
public import proofs.«01_k».proof.Proof.Gen.ProjB
public import proofs.«01_k».proof.Proof.Gen.ProjB.Skeleton
public import proofs.«01_k».proof.Proof.Gen.ProjB.Launch
public import proofs.«01_k».proof.Proof.Gen.ProjB.Points
public import proofs.«01_k».proof.Proof.Gen.ProjB.Frame
public import proofs.«01_k».proof.Proof.Gen.ProjBIdeal
public import proofs.«01_k».proof.Proof.Gen.ProjBIdeal.Skeleton
public import proofs.«01_k».proof.Proof.Gen.ProjBIdeal.Launch
public import proofs.«01_k».proof.Proof.Gen.ProjBIdeal.Points
public import proofs.«01_k».proof.Proof.Gen.ProjBIdeal.Frame
public import proofs.«01_k».proof.Proof.Gen.ProjBIdeal.Value
public import proofs.«01_k».proof.Proof.Gen.ProjBRefIdeal
public import proofs.«01_k».proof.Proof.Gen.ProjBRefIdeal.Run
public import proofs.«01_k».proof.Proof.Gen.FfnGu
public import proofs.«01_k».proof.Proof.Gen.FfnGu.Skeleton
public import proofs.«01_k».proof.Proof.Gen.FfnGu.Launch
public import proofs.«01_k».proof.Proof.Gen.FfnGu.Points
public import proofs.«01_k».proof.Proof.Gen.FfnGu.Frame
public import proofs.«01_k».proof.Proof.Gen.FfnGuIdeal
public import proofs.«01_k».proof.Proof.Gen.FfnGuIdeal.Skeleton
public import proofs.«01_k».proof.Proof.Gen.FfnGuIdeal.Launch
public import proofs.«01_k».proof.Proof.Gen.FfnGuIdeal.Points
public import proofs.«01_k».proof.Proof.Gen.FfnGuIdeal.Frame
public import proofs.«01_k».proof.Proof.Gen.FfnGuIdeal.Value
public import proofs.«01_k».proof.Proof.Gen.FfnGuRefIdeal
public import proofs.«01_k».proof.Proof.Gen.FfnGuRefIdeal.Run
public import proofs.«01_k».proof.Proof.Gen.ProjQkv
public import proofs.«01_k».proof.Proof.Gen.ProjQkv.Skeleton
public import proofs.«01_k».proof.Proof.Gen.ProjQkv.Launch
public import proofs.«01_k».proof.Proof.Gen.ProjQkv.Points
public import proofs.«01_k».proof.Proof.Gen.ProjQkv.Frame
public import proofs.«01_k».proof.Proof.Gen.ProjQkvIdeal
public import proofs.«01_k».proof.Proof.Gen.ProjQkvIdeal.Skeleton
public import proofs.«01_k».proof.Proof.Gen.ProjQkvIdeal.Launch
public import proofs.«01_k».proof.Proof.Gen.ProjQkvIdeal.Points
public import proofs.«01_k».proof.Proof.Gen.ProjQkvIdeal.Frame
public import proofs.«01_k».proof.Proof.Gen.ProjQkvIdeal.Value
public import proofs.«01_k».proof.Proof.Gen.ProjQkvRefIdeal
public import proofs.«01_k».proof.Proof.Gen.ProjQkvRefIdeal.Run
public import proofs.«01_k».proof.Proof.Gen.ProjX
public import proofs.«01_k».proof.Proof.Gen.ProjX.Skeleton
public import proofs.«01_k».proof.Proof.Gen.ProjX.Launch
public import proofs.«01_k».proof.Proof.Gen.ProjX.Points
public import proofs.«01_k».proof.Proof.Gen.ProjX.Frame
public import proofs.«01_k».proof.Proof.Gen.ProjXIdeal
public import proofs.«01_k».proof.Proof.Gen.ProjXIdeal.Skeleton
public import proofs.«01_k».proof.Proof.Gen.ProjXIdeal.Launch
public import proofs.«01_k».proof.Proof.Gen.ProjXIdeal.Points
public import proofs.«01_k».proof.Proof.Gen.ProjXIdeal.Frame
public import proofs.«01_k».proof.Proof.Gen.ProjXIdeal.Value
public import proofs.«01_k».proof.Proof.Gen.ProjXRefIdeal
public import proofs.«01_k».proof.Proof.Gen.ProjXRefIdeal.Run
public import proofs.«01_k».proof.Proof.Gen.ProjZ
public import proofs.«01_k».proof.Proof.Gen.ProjZ.Skeleton
public import proofs.«01_k».proof.Proof.Gen.ProjZ.Launch
public import proofs.«01_k».proof.Proof.Gen.ProjZ.Points
public import proofs.«01_k».proof.Proof.Gen.ProjZ.Frame
public import proofs.«01_k».proof.Proof.Gen.ProjZIdeal
public import proofs.«01_k».proof.Proof.Gen.ProjZIdeal.Skeleton
public import proofs.«01_k».proof.Proof.Gen.ProjZIdeal.Launch
public import proofs.«01_k».proof.Proof.Gen.ProjZIdeal.Points
public import proofs.«01_k».proof.Proof.Gen.ProjZIdeal.Frame
public import proofs.«01_k».proof.Proof.Gen.ProjZIdeal.Value
public import proofs.«01_k».proof.Proof.Gen.ProjZRefIdeal
public import proofs.«01_k».proof.Proof.Gen.ProjZRefIdeal.Run
public import proofs.«01_k».proof.Proof.Gen.ProjG
public import proofs.«01_k».proof.Proof.Gen.ProjG.Skeleton
public import proofs.«01_k».proof.Proof.Gen.ProjG.Launch
public import proofs.«01_k».proof.Proof.Gen.ProjG.Points
public import proofs.«01_k».proof.Proof.Gen.ProjG.Frame
public import proofs.«01_k».proof.Proof.Gen.ProjGIdeal
public import proofs.«01_k».proof.Proof.Gen.ProjGIdeal.Skeleton
public import proofs.«01_k».proof.Proof.Gen.ProjGIdeal.Launch
public import proofs.«01_k».proof.Proof.Gen.ProjGIdeal.Points
public import proofs.«01_k».proof.Proof.Gen.ProjGIdeal.Frame
public import proofs.«01_k».proof.Proof.Gen.ProjGIdeal.Value
public import proofs.«01_k».proof.Proof.Gen.ProjGRefIdeal
public import proofs.«01_k».proof.Proof.Gen.ProjGRefIdeal.Run
public import proofs.«01_k».proof.Proof.Gen.DH1
public import proofs.«01_k».proof.Proof.Gen.DH1.Skeleton
public import proofs.«01_k».proof.Proof.Gen.DH1.Launch
public import proofs.«01_k».proof.Proof.Gen.DH1.Points
public import proofs.«01_k».proof.Proof.Gen.DH1.Frame
public import proofs.«01_k».proof.Proof.Gen.DH1Ideal
public import proofs.«01_k».proof.Proof.Gen.DH1Ideal.Skeleton
public import proofs.«01_k».proof.Proof.Gen.DH1Ideal.Launch
public import proofs.«01_k».proof.Proof.Gen.DH1Ideal.Points
public import proofs.«01_k».proof.Proof.Gen.DH1Ideal.Frame
public import proofs.«01_k».proof.Proof.Gen.DH1Ideal.Value
public import proofs.«01_k».proof.Proof.Gen.DH1RefIdeal
public import proofs.«01_k».proof.Proof.Gen.DH1RefIdeal.Run
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamPa
public import proofs.«01_k».proof.Proof.Gen.AdamPa.Skeleton
public import proofs.«01_k».proof.Proof.Gen.AdamPa.Launch
public import proofs.«01_k».proof.Proof.Gen.AdamPa.Points
public import proofs.«01_k».proof.Proof.Gen.AdamPa.Frame
public import proofs.«01_k».proof.Proof.Gen.AdamPaIdeal
public import proofs.«01_k».proof.Proof.Gen.AdamPaIdeal.Skeleton
public import proofs.«01_k».proof.Proof.Gen.AdamPaIdeal.Launch
public import proofs.«01_k».proof.Proof.Gen.AdamPaIdeal.Points
public import proofs.«01_k».proof.Proof.Gen.AdamPaIdeal.Frame
public import proofs.«01_k».proof.Proof.Gen.AdamPaIdeal.Value
public import proofs.«01_k».proof.Proof.Gen.AdamPaRefIdeal
public import proofs.«01_k».proof.Proof.Gen.AdamPaRefIdeal.Run
public import proofs.«01_k».proof.Proof.Gen.AdamPb
public import proofs.«01_k».proof.Proof.Gen.AdamPb.Skeleton
public import proofs.«01_k».proof.Proof.Gen.AdamPb.Launch
public import proofs.«01_k».proof.Proof.Gen.AdamPb.Points
public import proofs.«01_k».proof.Proof.Gen.AdamPb.Frame
public import proofs.«01_k».proof.Proof.Gen.AdamPbIdeal
public import proofs.«01_k».proof.Proof.Gen.AdamPbIdeal.Skeleton
public import proofs.«01_k».proof.Proof.Gen.AdamPbIdeal.Launch
public import proofs.«01_k».proof.Proof.Gen.AdamPbIdeal.Points
public import proofs.«01_k».proof.Proof.Gen.AdamPbIdeal.Frame
public import proofs.«01_k».proof.Proof.Gen.AdamPbIdeal.Value
public import proofs.«01_k».proof.Proof.Gen.AdamPbRefIdeal
public import proofs.«01_k».proof.Proof.Gen.AdamPbRefIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamGu
public import proofs.«01_k».proof.Proof.Gen.AdamGu.Skeleton
public import proofs.«01_k».proof.Proof.Gen.AdamGu.Launch
public import proofs.«01_k».proof.Proof.Gen.AdamGu.Points
public import proofs.«01_k».proof.Proof.Gen.AdamGu.Frame
public import proofs.«01_k».proof.Proof.Gen.AdamGuIdeal
public import proofs.«01_k».proof.Proof.Gen.AdamGuIdeal.Skeleton
public import proofs.«01_k».proof.Proof.Gen.AdamGuIdeal.Launch
public import proofs.«01_k».proof.Proof.Gen.AdamGuIdeal.Points
public import proofs.«01_k».proof.Proof.Gen.AdamGuIdeal.Frame
public import proofs.«01_k».proof.Proof.Gen.AdamGuIdeal.Value
public import proofs.«01_k».proof.Proof.Gen.AdamGuRefIdeal
public import proofs.«01_k».proof.Proof.Gen.AdamGuRefIdeal.Run
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamAda
public import proofs.«01_k».proof.Proof.Gen.AdamAda.Skeleton
public import proofs.«01_k».proof.Proof.Gen.AdamAda.Launch
public import proofs.«01_k».proof.Proof.Gen.AdamAda.Points
public import proofs.«01_k».proof.Proof.Gen.AdamAda.Frame
public import proofs.«01_k».proof.Proof.Gen.AdamAdaIdeal
public import proofs.«01_k».proof.Proof.Gen.AdamAdaIdeal.Skeleton
public import proofs.«01_k».proof.Proof.Gen.AdamAdaIdeal.Launch
public import proofs.«01_k».proof.Proof.Gen.AdamAdaIdeal.Points
public import proofs.«01_k».proof.Proof.Gen.AdamAdaIdeal.Frame
public import proofs.«01_k».proof.Proof.Gen.AdamAdaIdeal.Value
public import proofs.«01_k».proof.Proof.Gen.AdamAdaRefIdeal
public import proofs.«01_k».proof.Proof.Gen.AdamAdaRefIdeal.Run
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallIdeal.Value
public import proofs.«01_k».proof.Proof.Gen.SumSmallRefIdeal
public import proofs.«01_k».proof.Proof.Gen.SumSmallRefIdeal.Run
public import proofs.«01_k».proof.Proof.Gen.SumAda
public import proofs.«01_k».proof.Proof.Gen.SumAda.Skeleton
public import proofs.«01_k».proof.Proof.Gen.SumAda.Launch
public import proofs.«01_k».proof.Proof.Gen.SumAda.Points
public import proofs.«01_k».proof.Proof.Gen.SumAda.Frame
public import proofs.«01_k».proof.Proof.Gen.SumAdaIdeal
public import proofs.«01_k».proof.Proof.Gen.SumAdaIdeal.Skeleton
public import proofs.«01_k».proof.Proof.Gen.SumAdaIdeal.Launch
public import proofs.«01_k».proof.Proof.Gen.SumAdaIdeal.Points
public import proofs.«01_k».proof.Proof.Gen.SumAdaIdeal.Frame
public import proofs.«01_k».proof.Proof.Gen.SumAdaIdeal.Value
public import proofs.«01_k».proof.Proof.Gen.SumAdaRefIdeal
public import proofs.«01_k».proof.Proof.Gen.SumAdaRefIdeal.Run
public import proofs.«01_k».proof.Proof.Gen.SumIn
public import proofs.«01_k».proof.Proof.Gen.SumIn.Skeleton
public import proofs.«01_k».proof.Proof.Gen.SumIn.Launch
public import proofs.«01_k».proof.Proof.Gen.SumIn.Points
public import proofs.«01_k».proof.Proof.Gen.SumIn.Frame
public import proofs.«01_k».proof.Proof.Gen.SumInIdeal
public import proofs.«01_k».proof.Proof.Gen.SumInIdeal.Skeleton
public import proofs.«01_k».proof.Proof.Gen.SumInIdeal.Launch
public import proofs.«01_k».proof.Proof.Gen.SumInIdeal.Points
public import proofs.«01_k».proof.Proof.Gen.SumInIdeal.Frame
public import proofs.«01_k».proof.Proof.Gen.SumInIdeal.Value
public import proofs.«01_k».proof.Proof.Gen.SumInRefIdeal
public import proofs.«01_k».proof.Proof.Gen.SumInRefIdeal.Run
public import proofs.«01_k».proof.Proof.Gen.SumPa
public import proofs.«01_k».proof.Proof.Gen.SumPa.Skeleton
public import proofs.«01_k».proof.Proof.Gen.SumPa.Launch
public import proofs.«01_k».proof.Proof.Gen.SumPa.Points
public import proofs.«01_k».proof.Proof.Gen.SumPa.Frame
public import proofs.«01_k».proof.Proof.Gen.SumPaIdeal
public import proofs.«01_k».proof.Proof.Gen.SumPaIdeal.Skeleton
public import proofs.«01_k».proof.Proof.Gen.SumPaIdeal.Launch
public import proofs.«01_k».proof.Proof.Gen.SumPaIdeal.Points
public import proofs.«01_k».proof.Proof.Gen.SumPaIdeal.Frame
public import proofs.«01_k».proof.Proof.Gen.SumPaIdeal.Value
public import proofs.«01_k».proof.Proof.Gen.SumPaRefIdeal
public import proofs.«01_k».proof.Proof.Gen.SumPaRefIdeal.Run
public import proofs.«01_k».proof.Proof.Gen.SumPb
public import proofs.«01_k».proof.Proof.Gen.SumPb.Skeleton
public import proofs.«01_k».proof.Proof.Gen.SumPb.Launch
public import proofs.«01_k».proof.Proof.Gen.SumPb.Points
public import proofs.«01_k».proof.Proof.Gen.SumPb.Frame
public import proofs.«01_k».proof.Proof.Gen.SumPbIdeal
public import proofs.«01_k».proof.Proof.Gen.SumPbIdeal.Skeleton
public import proofs.«01_k».proof.Proof.Gen.SumPbIdeal.Launch
public import proofs.«01_k».proof.Proof.Gen.SumPbIdeal.Points
public import proofs.«01_k».proof.Proof.Gen.SumPbIdeal.Frame
public import proofs.«01_k».proof.Proof.Gen.SumPbIdeal.Value
public import proofs.«01_k».proof.Proof.Gen.SumPbRefIdeal
public import proofs.«01_k».proof.Proof.Gen.SumPbRefIdeal.Run
public import proofs.«01_k».proof.Proof.Gen.SumOut
public import proofs.«01_k».proof.Proof.Gen.SumOut.Skeleton
public import proofs.«01_k».proof.Proof.Gen.SumOut.Launch
public import proofs.«01_k».proof.Proof.Gen.SumOut.Points
public import proofs.«01_k».proof.Proof.Gen.SumOut.Frame
public import proofs.«01_k».proof.Proof.Gen.SumOutIdeal
public import proofs.«01_k».proof.Proof.Gen.SumOutIdeal.Skeleton
public import proofs.«01_k».proof.Proof.Gen.SumOutIdeal.Launch
public import proofs.«01_k».proof.Proof.Gen.SumOutIdeal.Points
public import proofs.«01_k».proof.Proof.Gen.SumOutIdeal.Frame
public import proofs.«01_k».proof.Proof.Gen.SumOutIdeal.Value
public import proofs.«01_k».proof.Proof.Gen.SumOutRefIdeal
public import proofs.«01_k».proof.Proof.Gen.SumOutRefIdeal.Run
public import proofs.«01_k».proof.Proof.Gen.SumGu
public import proofs.«01_k».proof.Proof.Gen.SumGu.Skeleton
public import proofs.«01_k».proof.Proof.Gen.SumGu.Launch
public import proofs.«01_k».proof.Proof.Gen.SumGu.Points
public import proofs.«01_k».proof.Proof.Gen.SumGu.Frame
public import proofs.«01_k».proof.Proof.Gen.SumGuIdeal
public import proofs.«01_k».proof.Proof.Gen.SumGuIdeal.Skeleton
public import proofs.«01_k».proof.Proof.Gen.SumGuIdeal.Launch
public import proofs.«01_k».proof.Proof.Gen.SumGuIdeal.Points
public import proofs.«01_k».proof.Proof.Gen.SumGuIdeal.Frame
public import proofs.«01_k».proof.Proof.Gen.SumGuIdeal.Value
public import proofs.«01_k».proof.Proof.Gen.SumGuRefIdeal
public import proofs.«01_k».proof.Proof.Gen.SumGuRefIdeal.Run
public import proofs.«01_k».proof.Proof.Gen.SumDown
public import proofs.«01_k».proof.Proof.Gen.SumDown.Skeleton
public import proofs.«01_k».proof.Proof.Gen.SumDown.Launch
public import proofs.«01_k».proof.Proof.Gen.SumDown.Points
public import proofs.«01_k».proof.Proof.Gen.SumDown.Frame
public import proofs.«01_k».proof.Proof.Gen.SumDownIdeal
public import proofs.«01_k».proof.Proof.Gen.SumDownIdeal.Skeleton
public import proofs.«01_k».proof.Proof.Gen.SumDownIdeal.Launch
public import proofs.«01_k».proof.Proof.Gen.SumDownIdeal.Points
public import proofs.«01_k».proof.Proof.Gen.SumDownIdeal.Frame
public import proofs.«01_k».proof.Proof.Gen.SumDownIdeal.Value
public import proofs.«01_k».proof.Proof.Gen.SumDownRefIdeal
public import proofs.«01_k».proof.Proof.Gen.SumDownRefIdeal.Run
public import proofs.«01_k».proof.Proof.DRec
public import proofs.«01_k».proof.Proof.DAct
public import proofs.«01_k».proof.Proof.GPa
public import proofs.«01_k».proof.Proof.GPb
public import proofs.«01_k».proof.Proof.GOut
public import proofs.«01_k».proof.Proof.GDown
public import proofs.«01_k».proof.Proof.GGu
public import proofs.«01_k».proof.Proof.GInTop
public import proofs.«01_k».proof.Proof.GInBot
public import proofs.«01_k».proof.Proof.ProjA
public import proofs.«01_k».proof.Proof.ProjB
public import proofs.«01_k».proof.Proof.FfnGu
public import proofs.«01_k».proof.Proof.ProjQkv
public import proofs.«01_k».proof.Proof.ProjX
public import proofs.«01_k».proof.Proof.ProjZ
public import proofs.«01_k».proof.Proof.ProjG
public import proofs.«01_k».proof.Proof.DH1
public import proofs.«01_k».proof.Proof.AdamIn
public import proofs.«01_k».proof.Proof.AdamPa
public import proofs.«01_k».proof.Proof.AdamPb
public import proofs.«01_k».proof.Proof.AdamOut
public import proofs.«01_k».proof.Proof.AdamGu
public import proofs.«01_k».proof.Proof.AdamDown
public import proofs.«01_k».proof.Proof.AdamAda
public import proofs.«01_k».proof.Proof.AdamSmall
public import proofs.«01_k».proof.Proof.SumSmall
public import proofs.«01_k».proof.Proof.SumAda
public import proofs.«01_k».proof.Proof.SumIn
public import proofs.«01_k».proof.Proof.SumPa
public import proofs.«01_k».proof.Proof.SumPb
public import proofs.«01_k».proof.Proof.SumOut
public import proofs.«01_k».proof.Proof.SumGu
public import proofs.«01_k».proof.Proof.SumDown
public import Idealize.ShloMosaic.Adequacy
public import Idealize.ShloMosaic.Init

@[expose] public section

noncomputable section

namespace Cert.Proof

open Idealize.ShloMosaic Idealize.SL.Sem

/-- The reference leaves its arguments and, declaring no semaphore, every counter at zero. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- Memories that agree on the arguments give the two programs one set of arguments. -/
theorem arr_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : (RefValue.arr m' c).qk = (Host.arr m c).qk) (h1 : (RefValue.arr m' c).q = (Host.arr m c).q)
    (h2 : (RefValue.arr m' c).k = (Host.arr m c).k) (h3 : (RefValue.arr m' c).u = (Host.arr m c).u)
    (h4 : (RefValue.arr m' c).w = (Host.arr m c).w) (h5 : (RefValue.arr m' c).g = (Host.arr m c).g)
    (h6 : (RefValue.arr m' c).s = (Host.arr m c).s) (h7 : (RefValue.arr m' c).d = (Host.arr m c).d) :
    RefValue.arr m' c = Host.arr m c := by
  generalize RefValue.arr m' c = A at *
  generalize Host.arr m c = B at *
  cases A; cases B
  simp only at h0 h1 h2 h3 h4 h5 h6 h7
  subst h0 h1 h2 h3 h4 h5 h6 h7
  rfl

/-- Over finite arguments the kernel and the reference leave the same three arrays: the recurrence's. -/
theorem algebraic : Cert.algebraic_KernelIdeal_ReferenceIdeal_pre_finite := by
  intro m ρ m' ρ' hpre hag
  have hA : ∀ c, RefValue.arr m' c = Host.arr m c := fun c =>
    have h := hag c
    arr_eq m m' c h.1 h.2.1 h.2.2.1 h.2.2.2.1 h.2.2.2.2.1 h.2.2.2.2.2.1 h.2.2.2.2.2.2.1 h.2.2.2.2.2.2.2
  refine ⟨fun c => (Host.arr m c).du, fun c => (Host.arr m c).dkk, fun c => (Host.arr m c).dgg, KernelValue.run m ρ, ?_⟩
  refine (θ_run Cert.ReferenceIdeal.defs _ _).mono (fun r h c => ?_)
    (RefValue.run m' ρ' fun c => (hA c).symm ▸ Pre.finite m hpre c)
  have e := hA c
  exact ⟨(h c).1.trans (congrArg Arr.du e), (h c).2.1.trans (congrArg Arr.dkk e), (h c).2.2.1.trans (congrArg Arr.dgg e), (h c).2.2.2⟩

theorem claim : Cert.Claim := ⟨
  Cert.Kernel.Gen.facts, Cert.KernelIdeal.Gen.facts, Cert.ReferenceIdeal.Gen.facts, Cert.DRec.Gen.facts, Cert.DRecIdeal.Gen.facts,
  Cert.DRecRefIdeal.Gen.facts, Cert.DAct.Gen.facts, Cert.DActIdeal.Gen.facts, Cert.DActRefIdeal.Gen.facts, Cert.GPa.Gen.facts,
  Cert.GPaIdeal.Gen.facts, Cert.GPaRefIdeal.Gen.facts, Cert.GPb.Gen.facts, Cert.GPbIdeal.Gen.facts, Cert.GPbRefIdeal.Gen.facts, Cert.GOut.Gen.facts,
  Cert.GOutIdeal.Gen.facts, Cert.GOutRefIdeal.Gen.facts, Cert.GDown.Gen.facts, Cert.GDownIdeal.Gen.facts, Cert.GDownRefIdeal.Gen.facts,
  Cert.GGu.Gen.facts, Cert.GGuIdeal.Gen.facts, Cert.GGuRefIdeal.Gen.facts, Cert.GInTop.Gen.facts, Cert.GInTopIdeal.Gen.facts,
  Cert.GInTopRefIdeal.Gen.facts, Cert.GInBot.Gen.facts, Cert.GInBotIdeal.Gen.facts, Cert.GInBotRefIdeal.Gen.facts, Cert.ProjA.Gen.facts,
  Cert.ProjAIdeal.Gen.facts, Cert.ProjARefIdeal.Gen.facts, Cert.ProjB.Gen.facts, Cert.ProjBIdeal.Gen.facts, Cert.ProjBRefIdeal.Gen.facts,
  Cert.FfnGu.Gen.facts, Cert.FfnGuIdeal.Gen.facts, Cert.FfnGuRefIdeal.Gen.facts, Cert.ProjQkv.Gen.facts, Cert.ProjQkvIdeal.Gen.facts,
  Cert.ProjQkvRefIdeal.Gen.facts, Cert.ProjX.Gen.facts, Cert.ProjXIdeal.Gen.facts, Cert.ProjXRefIdeal.Gen.facts, Cert.ProjZ.Gen.facts,
  Cert.ProjZIdeal.Gen.facts, Cert.ProjZRefIdeal.Gen.facts, Cert.ProjG.Gen.facts, Cert.ProjGIdeal.Gen.facts, Cert.ProjGRefIdeal.Gen.facts,
  Cert.DH1.Gen.facts, Cert.DH1Ideal.Gen.facts, Cert.DH1RefIdeal.Gen.facts, Cert.AdamIn.Gen.facts, Cert.AdamInIdeal.Gen.facts,
  Cert.AdamInRefIdeal.Gen.facts, Cert.AdamPa.Gen.facts, Cert.AdamPaIdeal.Gen.facts, Cert.AdamPaRefIdeal.Gen.facts, Cert.AdamPb.Gen.facts,
  Cert.AdamPbIdeal.Gen.facts, Cert.AdamPbRefIdeal.Gen.facts, Cert.AdamOut.Gen.facts, Cert.AdamOutIdeal.Gen.facts, Cert.AdamOutRefIdeal.Gen.facts,
  Cert.AdamGu.Gen.facts, Cert.AdamGuIdeal.Gen.facts, Cert.AdamGuRefIdeal.Gen.facts, Cert.AdamDown.Gen.facts, Cert.AdamDownIdeal.Gen.facts,
  Cert.AdamDownRefIdeal.Gen.facts, Cert.AdamAda.Gen.facts, Cert.AdamAdaIdeal.Gen.facts, Cert.AdamAdaRefIdeal.Gen.facts, Cert.AdamSmall.Gen.facts,
  Cert.AdamSmallIdeal.Gen.facts, Cert.AdamSmallRefIdeal.Gen.facts, Cert.SumSmall.Gen.facts, Cert.SumSmallIdeal.Gen.facts,
  Cert.SumSmallRefIdeal.Gen.facts, Cert.SumAda.Gen.facts, Cert.SumAdaIdeal.Gen.facts, Cert.SumAdaRefIdeal.Gen.facts, Cert.SumIn.Gen.facts,
  Cert.SumInIdeal.Gen.facts, Cert.SumInRefIdeal.Gen.facts, Cert.SumPa.Gen.facts, Cert.SumPaIdeal.Gen.facts, Cert.SumPaRefIdeal.Gen.facts,
  Cert.SumPb.Gen.facts, Cert.SumPbIdeal.Gen.facts, Cert.SumPbRefIdeal.Gen.facts, Cert.SumOut.Gen.facts, Cert.SumOutIdeal.Gen.facts,
  Cert.SumOutRefIdeal.Gen.facts, Cert.SumGu.Gen.facts, Cert.SumGuIdeal.Gen.facts, Cert.SumGuRefIdeal.Gen.facts, Cert.SumDown.Gen.facts,
  Cert.SumDownIdeal.Gen.facts, Cert.SumDownRefIdeal.Gen.facts, Cert.Pre_finite.Gen.facts,
  fun m ρ _ => Cert.Kernel.Gen.frame m ρ, fun m ρ _ => Cert.KernelIdeal.Gen.frame m ρ, fun m ρ _ => Cert.KernelIdeal.Gen.frame m ρ, frame_reference,
  fun m ρ _ => frame_reference m ρ trivial, fun m ρ _ => Cert.DRec.Gen.frame m ρ, fun m ρ _ => Cert.DRecIdeal.Gen.frame m ρ, DRec.frame_reference,
  fun m ρ _ => Cert.DAct.Gen.frame m ρ, fun m ρ _ => Cert.DActIdeal.Gen.frame m ρ, DAct.frame_reference, fun m ρ _ => Cert.GPa.Gen.frame m ρ,
  fun m ρ _ => Cert.GPaIdeal.Gen.frame m ρ, GPa.frame_reference, fun m ρ _ => Cert.GPb.Gen.frame m ρ, fun m ρ _ => Cert.GPbIdeal.Gen.frame m ρ,
  GPb.frame_reference, fun m ρ _ => Cert.GOut.Gen.frame m ρ, fun m ρ _ => Cert.GOutIdeal.Gen.frame m ρ, GOut.frame_reference,
  fun m ρ _ => Cert.GDown.Gen.frame m ρ, fun m ρ _ => Cert.GDownIdeal.Gen.frame m ρ, GDown.frame_reference, fun m ρ _ => Cert.GGu.Gen.frame m ρ,
  fun m ρ _ => Cert.GGuIdeal.Gen.frame m ρ, GGu.frame_reference, fun m ρ _ => Cert.GInTop.Gen.frame m ρ, fun m ρ _ => Cert.GInTopIdeal.Gen.frame m ρ,
  GInTop.frame_reference, fun m ρ _ => Cert.GInBot.Gen.frame m ρ, fun m ρ _ => Cert.GInBotIdeal.Gen.frame m ρ, GInBot.frame_reference,
  fun m ρ _ => Cert.ProjA.Gen.frame m ρ, fun m ρ _ => Cert.ProjAIdeal.Gen.frame m ρ, ProjA.frame_reference, fun m ρ _ => Cert.ProjB.Gen.frame m ρ,
  fun m ρ _ => Cert.ProjBIdeal.Gen.frame m ρ, ProjB.frame_reference, fun m ρ _ => Cert.FfnGu.Gen.frame m ρ,
  fun m ρ _ => Cert.FfnGuIdeal.Gen.frame m ρ, FfnGu.frame_reference, fun m ρ _ => Cert.ProjQkv.Gen.frame m ρ,
  fun m ρ _ => Cert.ProjQkvIdeal.Gen.frame m ρ, ProjQkv.frame_reference, fun m ρ _ => Cert.ProjX.Gen.frame m ρ,
  fun m ρ _ => Cert.ProjXIdeal.Gen.frame m ρ, ProjX.frame_reference, fun m ρ _ => Cert.ProjZ.Gen.frame m ρ,
  fun m ρ _ => Cert.ProjZIdeal.Gen.frame m ρ, ProjZ.frame_reference, fun m ρ _ => Cert.ProjG.Gen.frame m ρ,
  fun m ρ _ => Cert.ProjGIdeal.Gen.frame m ρ, ProjG.frame_reference, fun m ρ _ => Cert.DH1.Gen.frame m ρ, fun m ρ _ => Cert.DH1Ideal.Gen.frame m ρ,
  DH1.frame_reference, fun m ρ _ => Cert.AdamIn.Gen.frame m ρ, fun m ρ _ => Cert.AdamInIdeal.Gen.frame m ρ, AdamIn.frame_reference,
  fun m ρ _ => Cert.AdamPa.Gen.frame m ρ, fun m ρ _ => Cert.AdamPaIdeal.Gen.frame m ρ, AdamPa.frame_reference, fun m ρ _ => Cert.AdamPb.Gen.frame m ρ,
  fun m ρ _ => Cert.AdamPbIdeal.Gen.frame m ρ, AdamPb.frame_reference, fun m ρ _ => Cert.AdamOut.Gen.frame m ρ,
  fun m ρ _ => Cert.AdamOutIdeal.Gen.frame m ρ, AdamOut.frame_reference, fun m ρ _ => Cert.AdamGu.Gen.frame m ρ,
  fun m ρ _ => Cert.AdamGuIdeal.Gen.frame m ρ, AdamGu.frame_reference, fun m ρ _ => Cert.AdamDown.Gen.frame m ρ,
  fun m ρ _ => Cert.AdamDownIdeal.Gen.frame m ρ, AdamDown.frame_reference, fun m ρ _ => Cert.AdamAda.Gen.frame m ρ,
  fun m ρ _ => Cert.AdamAdaIdeal.Gen.frame m ρ, AdamAda.frame_reference, fun m ρ _ => Cert.AdamSmall.Gen.frame m ρ,
  fun m ρ _ => Cert.AdamSmallIdeal.Gen.frame m ρ, AdamSmall.frame_reference, fun m ρ _ => Cert.SumSmall.Gen.frame m ρ,
  fun m ρ _ => Cert.SumSmallIdeal.Gen.frame m ρ, SumSmall.frame_reference, fun m ρ _ => Cert.SumAda.Gen.frame m ρ,
  fun m ρ _ => Cert.SumAdaIdeal.Gen.frame m ρ, SumAda.frame_reference, fun m ρ _ => Cert.SumIn.Gen.frame m ρ,
  fun m ρ _ => Cert.SumInIdeal.Gen.frame m ρ, SumIn.frame_reference, fun m ρ _ => Cert.SumPa.Gen.frame m ρ,
  fun m ρ _ => Cert.SumPaIdeal.Gen.frame m ρ, SumPa.frame_reference, fun m ρ _ => Cert.SumPb.Gen.frame m ρ,
  fun m ρ _ => Cert.SumPbIdeal.Gen.frame m ρ, SumPb.frame_reference, fun m ρ _ => Cert.SumOut.Gen.frame m ρ,
  fun m ρ _ => Cert.SumOutIdeal.Gen.frame m ρ, SumOut.frame_reference, fun m ρ _ => Cert.SumGu.Gen.frame m ρ,
  fun m ρ _ => Cert.SumGuIdeal.Gen.frame m ρ, SumGu.frame_reference, fun m ρ _ => Cert.SumDown.Gen.frame m ρ,
  fun m ρ _ => Cert.SumDownIdeal.Gen.frame m ρ, SumDown.frame_reference,
  trivial, algebraic, trivial, DRec.algebraic, trivial, DAct.algebraic, trivial, GPa.algebraic, trivial, GPb.algebraic, trivial, GOut.algebraic,
  trivial, GDown.algebraic, trivial, GGu.algebraic, trivial, GInTop.algebraic, trivial, GInBot.algebraic, trivial, ProjA.algebraic, trivial,
  ProjB.algebraic, trivial, FfnGu.algebraic, trivial, ProjQkv.algebraic, trivial, ProjX.algebraic, trivial, ProjZ.algebraic, trivial, ProjG.algebraic,
  trivial, DH1.algebraic, trivial, AdamIn.algebraic, trivial, AdamPa.algebraic, trivial, AdamPb.algebraic, trivial, AdamOut.algebraic, trivial,
  AdamGu.algebraic, trivial, AdamDown.algebraic, trivial, AdamAda.algebraic, trivial, AdamSmall.algebraic, trivial, SumSmall.algebraic, trivial,
  SumAda.algebraic, trivial, SumIn.algebraic, trivial, SumPa.algebraic, trivial, SumPb.algebraic, trivial, SumOut.algebraic, trivial, SumGu.algebraic,
  trivial, SumDown.algebraic⟩

end Cert.Proof

end
